-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_args [hPre_finite_args : Cert.Pre_finite_args.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.1 = (fun _ => 1#1)
    ∧ (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.1 = (fun _ => 1#1)
    ∧ (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.1 = (fun _ => 1#1)
    ∧ (Cert.Pre_finite_args.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_args [hPre_finite_args : Cert.Pre_finite_args.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.1 = (fun _ => 1#1)
    ∧ (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.1 = (fun _ => 1#1)
    ∧ (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.1 = (fun _ => 1#1)
    ∧ (Cert.Pre_finite_args.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_heads [hPre_finite_heads : Cert.Pre_finite_heads.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_heads.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).1 = (fun _ => 1#1)
    ∧ (Cert.Pre_finite_heads.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.1 = (fun _ => 1#1)
    ∧ (Cert.Pre_finite_heads.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.1 = (fun _ => 1#1)
    ∧ (Cert.Pre_finite_heads.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.1 = (fun _ => 1#1)
    ∧ (Cert.Pre_finite_heads.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_heads [hPre_finite_heads : Cert.Pre_finite_heads.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_heads.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).1 = (fun _ => 1#1)
    ∧ (Cert.Pre_finite_heads.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.1 = (fun _ => 1#1)
    ∧ (Cert.Pre_finite_heads.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.1 = (fun _ => 1#1)
    ∧ (Cert.Pre_finite_heads.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.1 = (fun _ => 1#1)
    ∧ (Cert.Pre_finite_heads.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.2 = (fun _ => 1#1)

def Pre_Kernel10Ideal (m : (ℓ : Loc Cert.Kernel10Ideal.nD Cert.Kernel10Ideal.τ Cert.Kernel10Ideal.sig) → Buf (Elt Ideal) ℓ) : Prop :=
  True

def Pre_Kernel10Ideal_finite_keys [hPre_finite_keys : Cert.Pre_finite_keys.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_keys.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg15))).1 = (fun _ => 1#1)
    ∧ (Cert.Pre_finite_keys.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg15))).2.1 = (fun _ => 1#1)
    ∧ (Cert.Pre_finite_keys.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg15))).2.2.1 = (fun _ => 1#1)
    ∧ (Cert.Pre_finite_keys.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg15))).2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_keys [hPre_finite_keys : Cert.Pre_finite_keys.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_keys.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13)) (m ((c.tc : Thread Cert.Reference10Ideal.nD Cert.Reference10Ideal.τ).loc Cert.Reference10Ideal.main_arg14)) (m ((c.tc : Thread Cert.Reference10Ideal.nD Cert.Reference10Ideal.τ).loc Cert.Reference10Ideal.main_arg15))).1 = (fun _ => 1#1)
    ∧ (Cert.Pre_finite_keys.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13)) (m ((c.tc : Thread Cert.Reference10Ideal.nD Cert.Reference10Ideal.τ).loc Cert.Reference10Ideal.main_arg14)) (m ((c.tc : Thread Cert.Reference10Ideal.nD Cert.Reference10Ideal.τ).loc Cert.Reference10Ideal.main_arg15))).2.1 = (fun _ => 1#1)
    ∧ (Cert.Pre_finite_keys.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13)) (m ((c.tc : Thread Cert.Reference10Ideal.nD Cert.Reference10Ideal.τ).loc Cert.Reference10Ideal.main_arg14)) (m ((c.tc : Thread Cert.Reference10Ideal.nD Cert.Reference10Ideal.τ).loc Cert.Reference10Ideal.main_arg15))).2.2.1 = (fun _ => 1#1)
    ∧ (Cert.Pre_finite_keys.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11)) (m ((c.tc : Thread Cert.Reference10Ideal.nD Cert.Reference10Ideal.τ).loc Cert.Reference10Ideal.main_arg12)) (m ((c.tc : Thread Cert.Reference10Ideal.nD Cert.Reference10Ideal.τ).loc Cert.Reference10Ideal.main_arg13)) (m ((c.tc : Thread Cert.Reference10Ideal.nD Cert.Reference10Ideal.τ).loc Cert.Reference10Ideal.main_arg14)) (m ((c.tc : Thread Cert.Reference10Ideal.nD Cert.Reference10Ideal.τ).loc Cert.Reference10Ideal.main_arg15))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_args [hKernel6Ideal : Cert.Kernel6Ideal.Facts] [hPre_finite_args : Cert.Pre_finite_args.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_args m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_args [hReference6Ideal : Cert.Reference6Ideal.Facts] [hPre_finite_args : Cert.Pre_finite_args.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_args m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel9Ideal_pre_finite_heads [hKernel9Ideal : Cert.Kernel9Ideal.Facts] [hPre_finite_heads : Cert.Pre_finite_heads.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_heads m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Reference9Ideal_pre_finite_heads [hReference9Ideal : Cert.Reference9Ideal.Facts] [hPre_finite_heads : Cert.Pre_finite_heads.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_heads m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15))
      ∧ r.2.sem = fun _ => 0)

def quiescent_Kernel10Ideal_pre_finite_keys [hKernel10Ideal : Cert.Kernel10Ideal.Facts] [hPre_finite_keys : Cert.Pre_finite_keys.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_keys m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15))
      ∧ r.2.sem = fun _ => 0)

def quiescent_Reference10Ideal_pre_finite_keys [hReference10Ideal : Cert.Reference10Ideal.Facts] [hPre_finite_keys : Cert.Pre_finite_keys.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_keys m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "qscale" .f32 0x3E38AA3B#32 (((1 / 8) * (Real.log 2)⁻¹ : ℝ) : EReal)

def algebraic_Kernel6Ideal_Reference6Ideal_pre_finite_args [hKernel6Ideal : Cert.Kernel6Ideal.Facts] [hReference6Ideal : Cert.Reference6Ideal.Facts] [hPre_finite_args : Cert.Pre_finite_args.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_args m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v37)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v37) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v106) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v65)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v65) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v180) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_heads [hKernel9Ideal : Cert.Kernel9Ideal.Facts] [hReference9Ideal : Cert.Reference9Ideal.Facts] [hPre_finite_heads : Cert.Pre_finite_heads.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_heads m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def algebraic_Kernel10Ideal_Reference10Ideal_pre_finite_keys [hKernel10Ideal : Cert.Kernel10Ideal.Facts] [hReference10Ideal : Cert.Reference10Ideal.Facts] [hPre_finite_keys : Cert.Pre_finite_keys.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_keys m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)) →
    ∃ (v0 : (c : Dev Cert.Kernel10Ideal.nD) → Buf (Elt Ideal) ((c.tc : Thread Cert.Kernel10Ideal.nD Cert.Kernel10Ideal.τ).loc Cert.Kernel10Ideal.main_v25_0)) (v1 : (c : Dev Cert.Kernel10Ideal.nD) → Buf (Elt Ideal) ((c.tc : Thread Cert.Kernel10Ideal.nD Cert.Kernel10Ideal.τ).loc Cert.Kernel10Ideal.main_v25_1)) (v2 : (c : Dev Cert.Kernel10Ideal.nD) → Buf (Elt Ideal) ((c.tc : Thread Cert.Kernel10Ideal.nD Cert.Kernel10Ideal.τ).loc Cert.Kernel10Ideal.main_v25_2)) (v3 : (c : Dev Cert.Kernel10Ideal.nD) → Buf (Elt Ideal) ((c.tc : Thread Cert.Kernel10Ideal.nD Cert.Kernel10Ideal.τ).loc Cert.Kernel10Ideal.main_v25_3)) (v4 : (c : Dev Cert.Kernel10Ideal.nD) → Buf (Elt Ideal) ((c.tc : Thread Cert.Kernel10Ideal.nD Cert.Kernel10Ideal.τ).loc Cert.Kernel10Ideal.main_v25_4)) (v5 : (c : Dev Cert.Kernel10Ideal.nD) → Buf (Elt Ideal) ((c.tc : Thread Cert.Kernel10Ideal.nD Cert.Kernel10Ideal.τ).loc Cert.Kernel10Ideal.main_v25_5)) (v6 : (c : Dev Cert.Kernel10Ideal.nD) → Buf (Elt Ideal) ((c.tc : Thread Cert.Kernel10Ideal.nD Cert.Kernel10Ideal.τ).loc Cert.Kernel10Ideal.main_v25_6)) (v7 : (c : Dev Cert.Kernel10Ideal.nD) → Buf (Elt Ideal) ((c.tc : Thread Cert.Kernel10Ideal.nD Cert.Kernel10Ideal.τ).loc Cert.Kernel10Ideal.main_v25_7)) (v8 : (c : Dev Cert.Kernel10Ideal.nD) → Buf (Elt Ideal) ((c.tc : Thread Cert.Kernel10Ideal.nD Cert.Kernel10Ideal.τ).loc Cert.Kernel10Ideal.main_v25_8)) (v9 : (c : Dev Cert.Kernel10Ideal.nD) → Buf (Elt Ideal) ((c.tc : Thread Cert.Kernel10Ideal.nD Cert.Kernel10Ideal.τ).loc Cert.Kernel10Ideal.main_v25_9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v25_0) = v0 c
          ∧ r.2.mem ((c.tc : Thread Cert.Kernel10Ideal.nD Cert.Kernel10Ideal.τ).loc Cert.Kernel10Ideal.main_v25_1) = v1 c
          ∧ r.2.mem ((c.tc : Thread Cert.Kernel10Ideal.nD Cert.Kernel10Ideal.τ).loc Cert.Kernel10Ideal.main_v25_2) = v2 c
          ∧ r.2.mem ((c.tc : Thread Cert.Kernel10Ideal.nD Cert.Kernel10Ideal.τ).loc Cert.Kernel10Ideal.main_v25_3) = v3 c
          ∧ r.2.mem ((c.tc : Thread Cert.Kernel10Ideal.nD Cert.Kernel10Ideal.τ).loc Cert.Kernel10Ideal.main_v25_4) = v4 c
          ∧ r.2.mem ((c.tc : Thread Cert.Kernel10Ideal.nD Cert.Kernel10Ideal.τ).loc Cert.Kernel10Ideal.main_v25_5) = v5 c
          ∧ r.2.mem ((c.tc : Thread Cert.Kernel10Ideal.nD Cert.Kernel10Ideal.τ).loc Cert.Kernel10Ideal.main_v25_6) = v6 c
          ∧ r.2.mem ((c.tc : Thread Cert.Kernel10Ideal.nD Cert.Kernel10Ideal.τ).loc Cert.Kernel10Ideal.main_v25_7) = v7 c
          ∧ r.2.mem ((c.tc : Thread Cert.Kernel10Ideal.nD Cert.Kernel10Ideal.τ).loc Cert.Kernel10Ideal.main_v25_8) = v8 c
          ∧ r.2.mem ((c.tc : Thread Cert.Kernel10Ideal.nD Cert.Kernel10Ideal.τ).loc Cert.Kernel10Ideal.main_v25_9) = v9 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v168) = v0 c
          ∧ r.2.mem ((c.tc : Thread Cert.Reference10Ideal.nD Cert.Reference10Ideal.τ).loc Cert.Reference10Ideal.main_v170) = v1 c
          ∧ r.2.mem ((c.tc : Thread Cert.Reference10Ideal.nD Cert.Reference10Ideal.τ).loc Cert.Reference10Ideal.main_v172) = v2 c
          ∧ r.2.mem ((c.tc : Thread Cert.Reference10Ideal.nD Cert.Reference10Ideal.τ).loc Cert.Reference10Ideal.main_v174) = v3 c
          ∧ r.2.mem ((c.tc : Thread Cert.Reference10Ideal.nD Cert.Reference10Ideal.τ).loc Cert.Reference10Ideal.main_v176) = v4 c
          ∧ r.2.mem ((c.tc : Thread Cert.Reference10Ideal.nD Cert.Reference10Ideal.τ).loc Cert.Reference10Ideal.main_v178) = v5 c
          ∧ r.2.mem ((c.tc : Thread Cert.Reference10Ideal.nD Cert.Reference10Ideal.τ).loc Cert.Reference10Ideal.main_v180) = v6 c
          ∧ r.2.mem ((c.tc : Thread Cert.Reference10Ideal.nD Cert.Reference10Ideal.τ).loc Cert.Reference10Ideal.main_v182) = v7 c
          ∧ r.2.mem ((c.tc : Thread Cert.Reference10Ideal.nD Cert.Reference10Ideal.τ).loc Cert.Reference10Ideal.main_v183) = v8 c
          ∧ r.2.mem ((c.tc : Thread Cert.Reference10Ideal.nD Cert.Reference10Ideal.τ).loc Cert.Reference10Ideal.main_v184) = v9 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10Ideal : Cert.Kernel10Ideal.Facts) (hReference10Ideal : Cert.Reference10Ideal.Facts) (hPre_finite_qk : Cert.Pre_finite_qk.Facts) (hPre_finite_args : Cert.Pre_finite_args.Facts) (hPre_finite_heads : Cert.Pre_finite_heads.Facts) (hPre_finite_keys : Cert.Pre_finite_keys.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_args (hKernel6Ideal := hKernel6Ideal) (hPre_finite_args := hPre_finite_args)
    ∧ quiescent_Reference6Ideal (hReference6Ideal := hReference6Ideal)
    ∧ quiescent_Reference6Ideal_pre_finite_args (hReference6Ideal := hReference6Ideal) (hPre_finite_args := hPre_finite_args)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_heads (hKernel9Ideal := hKernel9Ideal) (hPre_finite_heads := hPre_finite_heads)
    ∧ quiescent_Reference9Ideal (hReference9Ideal := hReference9Ideal)
    ∧ quiescent_Reference9Ideal_pre_finite_heads (hReference9Ideal := hReference9Ideal) (hPre_finite_heads := hPre_finite_heads)
    ∧ quiescent_Kernel10Ideal (hKernel10Ideal := hKernel10Ideal)
    ∧ quiescent_Kernel10Ideal_pre_finite_keys (hKernel10Ideal := hKernel10Ideal) (hPre_finite_keys := hPre_finite_keys)
    ∧ quiescent_Reference10Ideal (hReference10Ideal := hReference10Ideal)
    ∧ quiescent_Reference10Ideal_pre_finite_keys (hReference10Ideal := hReference10Ideal) (hPre_finite_keys := hPre_finite_keys)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_args (hKernel6Ideal := hKernel6Ideal) (hReference6Ideal := hReference6Ideal) (hPre_finite_args := hPre_finite_args)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_heads (hKernel9Ideal := hKernel9Ideal) (hReference9Ideal := hReference9Ideal) (hPre_finite_heads := hPre_finite_heads)
    ∧ algebraic_Kernel10Ideal_Reference10Ideal_pre_finite_keys (hKernel10Ideal := hKernel10Ideal) (hReference10Ideal := hReference10Ideal) (hPre_finite_keys := hPre_finite_keys)
-- ==== Pre_finite_args.lean ====
abbrev S32x2048x16x64 : Shape := ⟨4, ![32, 2048, 16, 64]⟩
abbrev S32x2048x8x128 : Shape := ⟨4, ![32, 2048, 8, 128]⟩
abbrev S64 : Shape := ⟨1, ![64]⟩
abbrev S128 : Shape := ⟨1, ![128]⟩
abbrev S_ : Shape := ⟨0, ![]⟩

class Facts : Prop where
  bcast_S_S32x2048x16x64 : S_.BroadcastsInDim S32x2048x16x64 (![] : Fin 0 → Fin S32x2048x16x64.rank)
  bcast_S_S32x2048x8x128 : S_.BroadcastsInDim S32x2048x8x128 (![] : Fin 0 → Fin S32x2048x8x128.rank)
  bcast_S_S64 : S_.BroadcastsInDim S64 (![] : Fin 0 → Fin S64.rank)

variable [Facts]

def fn_part1 {F : FTy → Type} [FloatOps F] (main_arg6 : FVec F S64 .f32) (main_v2 : IVec S32x2048x16x64 1) (main_v5 : IVec S32x2048x16x64 1) (main_v8 : IVec S32x2048x8x128 1) (main_v11 : IVec S64 1) (main_v14 : IVec S64 1) (main_v17 : IVec S64 1) : IVec S32x2048x16x64 1 × IVec S32x2048x16x64 1 × IVec S32x2048x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S32x2048x16x64 .f32) (main_arg1 : FVec F S32x2048x16x64 .f32) (main_arg2 : FVec F S32x2048x8x128 .f32) (main_arg3 : FVec F S64 .f32) (main_arg4 : FVec F S64 .f32) (main_arg5 : FVec F S64 .f32) (main_arg6 : FVec F S64 .f32) (main_arg7 : FVec F S128 .f32) : IVec S32x2048x16x64 1 × IVec S32x2048x16x64 1 × IVec S32x2048x8x128 1 × IVec S64 1 × IVec S64 1 × IVec S64 1 × IVec S64 1 :=
  let main_v0 : FVec F S32x2048x16x64 .f32 := Host.absf main_arg0
  let main_cst : FVec F S_ .f32 := constant S_ .f32 0x7F800000#32
  let main_v1 : FVec F S32x2048x16x64 .f32 := broadcastInDim S32x2048x16x64 ![] bcast_S_S32x2048x16x64 main_cst
  let main_v2 : IVec S32x2048x16x64 1 := cmpf .olt main_v0 main_v1
  let main_v3 : FVec F S32x2048x16x64 .f32 := Host.absf main_arg1
  let main_cst_0 : FVec F S_ .f32 := constant S_ .f32 0x7F800000#32
  let main_v4 : FVec F S32x2048x16x64 .f32 := broadcastInDim S32x2048x16x64 ![] bcast_S_S32x2048x16x64 main_cst_0
  let main_v5 : IVec S32x2048x16x64 1 := cmpf .olt main_v3 main_v4
  let main_v6 : FVec F S32x2048x8x128 .f32 := Host.absf main_arg2
  let main_cst_1 : FVec F S_ .f32 := constant S_ .f32 0x7F800000#32
  let main_v7 : FVec F S32x2048x8x128 .f32 := broadcastInDim S32x2048x8x128 ![] bcast_S_S32x2048x8x128 main_cst_1
  let main_v8 : IVec S32x2048x8x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_finite_heads.lean ====
abbrev S32x2048x16x64 : Shape := ⟨4, ![32, 2048, 16, 64]⟩
abbrev S32x2048x1024 : Shape := ⟨3, ![32, 2048, 1024]⟩
abbrev S1024 : Shape := ⟨1, ![1024]⟩
abbrev S16x64 : Shape := ⟨2, ![16, 64]⟩
abbrev S1024x1024 : Shape := ⟨2, ![1024, 1024]⟩
abbrev S_ : Shape := ⟨0, ![]⟩

class Facts : Prop where
  bcast_S_S32x2048x16x64 : S_.BroadcastsInDim S32x2048x16x64 (![] : Fin 0 → Fin S32x2048x16x64.rank)
  bcast_S_S16x64 : S_.BroadcastsInDim S16x64 (![] : Fin 0 → Fin S16x64.rank)

variable [Facts]

def fn {F : FTy → Type} [FloatOps F] (main_arg0 : FVec F S32x2048x16x64 .f32) (main_arg1 : FVec F S32x2048x16x64 .f32) (main_arg2 : FVec F S32x2048x16x64 .f32) (main_arg3 : FVec F S32x2048x16x64 .f32) (main_arg4 : FVec F S32x2048x16x64 .f32) (main_arg5 : FVec F S32x2048x1024 .f32) (main_arg6 : FVec F S32x2048x1024 .f32) (main_arg7 : FVec F S1024 .f32) (main_arg8 : FVec F S1024 .f32) (main_arg9 : FVec F S16x64 .f32) (main_arg10 : FVec F S1024x1024 .f32) : IVec S32x2048x16x64 1 × IVec S32x2048x16x64 1 × IVec S32x2048x16x64 1 × IVec S32x2048x16x64 1 × IVec S16x64 1 :=
  let main_v0 : FVec F S32x2048x16x64 .f32 := Host.absf main_arg0
  let main_cst : FVec F S_ .f32 := constant S_ .f32 0x7F800000#32
  let main_v1 : FVec F S32x2048x16x64 .f32 := broadcastInDim S32x2048x16x64 ![] bcast_S_S32x2048x16x64 main_cst
  let main_v2 : IVec S32x2048x16x64 1 := cmpf .olt main_v0 main_v1
  let main_v3 : FVec F S32x2048x16x64 .f32 := Host.absf main_arg1
  let main_cst_0 : FVec F S_ .f32 := constant S_ .f32 0x7F800000#32
  let main_v4 : FVec F S32x2048x16x64 .f32 := broadcastInDim S32x2048x16x64 ![] bcast_S_S32x2048x16x64 main_cst_0
  let main_v5 : IVec S32x2048x16x64 1 := cmpf .olt main_v3 main_v4
  let main_v6 : FVec F S32x2048x16x64 .f32 := Host.absf main_arg2
  let main_cst_1 : FVec F S_ .f32 := constant S_ .f32 0x7F800000#32
  let main_v7 : FVec F S32x2048x16x64 .f32 := broadcastInDim S32x2048x16x64 ![] bcast_S_S32x2048x16x64 main_cst_1
  let main_v8 : IVec S32x2048x16x64 1 := cmpf .olt main_v6 main_v7
  let main_v9 : FVec F S32x2048x16x64 .f32 := Host.absf main_arg3
  let main_cst_2 : FVec F S_ .f32 := constant S_ .f32 0x7F800000#32
  let main_v10 : FVec F S32x2048x16x64 .f32 := broadcastInDim S32x2048x16x64 ![] bcast_S_S32x2048x16x64 main_cst_2
  let main_v11 : IVec S32x2048x16x64 1 := cmpf .olt main_v9 main_v10
  let main_v12 : FVec F S16x64 .f32 := Host.absf main_arg9
  let main_cst_3 : FVec F S_ .f32 := constant S_ .f32 0x7F800000#32
  let main_v13 : FVec F S16x64 .f32 := broadcastInDim S16x64 ![] bcast_S_S16x64 main_cst_3
  let main_v14 : IVec S16x64 1 := cmpf .olt main_v12 main_v13
  (main_v2, main_v5, main_v8, main_v11, main_v14)
-- ==== Pre_finite_keys.lean ====
abbrev S32x2048x1024 : Shape := ⟨3, ![32, 2048, 1024]⟩
abbrev S1024 : Shape := ⟨1, ![1024]⟩
abbrev S6x1024 : Shape := ⟨2, ![6, 1024]⟩
abbrev S1024x1024 : Shape := ⟨2, ![1024, 1024]⟩
abbrev S1024x128 : Shape := ⟨2, ![1024, 128]⟩
abbrev S128x1024 : Shape := ⟨2, ![128, 1024]⟩
abbrev S2x1024 : Shape := ⟨2, ![2, 1024]⟩
abbrev S2x1024x64 : Shape := ⟨3, ![2, 1024, 64]⟩
abbrev S2x64x1024 : Shape := ⟨3, ![2, 64, 1024]⟩
abbrev S_ : Shape := ⟨0, ![]⟩

class Facts : Prop where
  bcast_S_S1024 : S_.BroadcastsInDim S1024 (![] : Fin 0 → Fin S1024.rank)
  bcast_S_S6x1024 : S_.BroadcastsInDim S6x1024 (![] : Fin 0 → Fin S6x1024.rank)
  bcast_S_S1024x1024 : S_.BroadcastsInDim S1024x1024 (![] : Fin 0 → Fin S1024x1024.rank)

variable [Facts]

def fn {F : FTy → Type} [FloatOps F] (main_arg0 : FVec F S32x2048x1024 .f32) (main_arg1 : FVec F S1024 .f32) (main_arg2 : FVec F S6x1024 .f32) (main_arg3 : FVec F S1024x1024 .f32) (main_arg4 : FVec F S1024x1024 .f32) (main_arg5 : FVec F S1024x1024 .f32) (main_arg6 : FVec F S1024x128 .f32) (main_arg7 : FVec F S128x1024 .f32) (main_arg8 : FVec F S1024 .f32) (main_arg9 : FVec F S1024 .f32) (main_arg10 : FVec F S2x1024 .f32) (main_arg11 : FVec F S2x1024x64 .f32) (main_arg12 : FVec F S2x64x1024 .f32) (main_arg13 : FVec F S2x1024 .f32) (main_arg14 : FVec F S2x1024x64 .f32) (main_arg15 : FVec F S2x64x1024 .f32) : IVec S1024 1 × IVec S6x1024 1 × IVec S1024x1024 1 × IVec S1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S6x1024 .f32 := Host.absf main_arg2
  let main_cst_0 : FVec F S_ .f32 := constant S_ .f32 0x7F800000#32
  let main_v4 : FVec F S6x1024 .f32 := broadcastInDim S6x1024 ![] bcast_S_S6x1024 main_cst_0
  let main_v5 : IVec S6x1024 1 := cmpf .olt main_v3 main_v4
  let main_v6 : FVec F S1024x1024 .f32 := Host.absf main_arg4
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg8
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_qk.lean ====
abbrev S32x2048x16x64 : Shape := ⟨4, ![32, 2048, 16, 64]⟩
abbrev S32x2048x4x64 : Shape := ⟨4, ![32, 2048, 4, 64]⟩
abbrev S_ : Shape := ⟨0, ![]⟩

class Facts : Prop where
  bcast_S_S32x2048x16x64 : S_.BroadcastsInDim S32x2048x16x64 (![] : Fin 0 → Fin S32x2048x16x64.rank)
  bcast_S_S32x2048x4x64 : S_.BroadcastsInDim S32x2048x4x64 (![] : Fin 0 → Fin S32x2048x4x64.rank)

variable [Facts]

def fn {F : FTy → Type} [FloatOps F] (main_arg0 : FVec F S32x2048x16x64 .f32) (main_arg1 : FVec F S32x2048x4x64 .f32) (main_arg2 : FVec F S32x2048x4x64 .f32) : IVec S32x2048x16x64 1 × IVec S32x2048x4x64 1 :=
  let main_v0 : FVec F S32x2048x16x64 .f32 := Host.absf main_arg0
  let main_cst : FVec F S_ .f32 := constant S_ .f32 0x7F800000#32
  let main_v1 : FVec F S32x2048x16x64 .f32 := broadcastInDim S32x2048x16x64 ![] bcast_S_S32x2048x16x64 main_cst
  let main_v2 : IVec S32x2048x16x64 1 := cmpf .olt main_v0 main_v1
  let main_v3 : FVec F S32x2048x4x64 .f32 := Host.absf main_arg1
  let main_cst_0 : FVec F S_ .f32 := constant S_ .f32 0x7F800000#32
  let main_v4 : FVec F S32x2048x4x64 .f32 := broadcastInDim S32x2048x4x64 ![] bcast_S_S32x2048x4x64 main_cst_0
  let main_v5 : IVec S32x2048x4x64 1 := cmpf .olt main_v3 main_v4
  (main_v2, main_v5)
-- ==== Kernel.lean ====
abbrev S32x2048x16x64 : Shape := ⟨4, ![32, 2048, 16, 64]⟩
abbrev S32x2048x4x64 : Shape := ⟨4, ![32, 2048, 4, 64]⟩
abbrev S32x2048x1024 : Shape := ⟨3, ![32, 2048, 1024]⟩
abbrev S32x2048x4x1x64 : Shape := ⟨5, ![32, 2048, 4, 1, 64]⟩
abbrev S32x2048x4x2x64 : Shape := ⟨5, ![32, 2048, 4, 2, 64]⟩
abbrev S32x2048x512 : Shape := ⟨3, ![32, 2048, 512]⟩
abbrev S32x2048x2048 : Shape := ⟨3, ![32, 2048, 2048]⟩
abbrev S1x1024x256 : Shape := ⟨3, ![1, 1024, 256]⟩
abbrev S1x2048x128 : Shape := ⟨3, ![1, 2048, 128]⟩
abbrev S2048x128 : Shape := ⟨2, ![2048, 128]⟩
abbrev S128x128 : Shape := ⟨2, ![128, 128]⟩
abbrev S1x128x128 : Shape := ⟨3, ![1, 128, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 8
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x4x64, .f32⟩
  | .hbm, ⟨2, _⟩ => ⟨S32x2048x4x64, .f32⟩
  | .hbm, ⟨3, _⟩ => ⟨S32x2048x1024, .f32⟩
  | .hbm, ⟨4, _⟩ => ⟨S32x2048x4x1x64, .f32⟩
  | .hbm, ⟨5, _⟩ => ⟨S32x2048x4x2x64, .f32⟩
  | .hbm, ⟨6, _⟩ => ⟨S32x2048x512, .f32⟩
  | .hbm, ⟨7, _⟩ => ⟨S32x2048x4x1x64, .f32⟩
  | .hbm, ⟨8, _⟩ => ⟨S32x2048x4x2x64, .f32⟩
  | .hbm, ⟨9, _⟩ => ⟨S32x2048x512, .f32⟩
  | .hbm, ⟨10, _⟩ => ⟨S32x2048x2048, .f32⟩
  | .hbm, ⟨11, _⟩ => ⟨S32x2048x2048, .bf16⟩
  | .hbm, ⟨12, _⟩ => ⟨S32x2048x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x256, .bf16⟩
  | .local _ .vmem, ⟨7, _⟩ => ⟨S1x1024x256, .bf16⟩
  | _, _ => ⟨S32x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S32x2048x16x64 : Shape := ⟨4, ![32, 2048, 16, 64]⟩
abbrev S32x2048x4x64 : Shape := ⟨4, ![32, 2048, 4, 64]⟩
abbrev S32x2048x4x4x64 : Shape := ⟨5, ![32, 2048, 4, 4, 64]⟩
abbrev S32x4x2048x2048x4 : Shape := ⟨5, ![32, 4, 2048, 2048, 4]⟩
abbrev S32x4x4x2048x2048 : Shape := ⟨5, ![32, 4, 4, 2048, 2048]⟩
abbrev S_ : Shape := ⟨0, ![]⟩
abbrev S32x4x4x2048 : Shape := ⟨4, ![32, 4, 4, 2048]⟩
abbrev S32x4x4x2048x1 : Shape := ⟨5, ![32, 4, 4, 2048, 1]⟩
abbrev S32x4x64x4x2048 : Shape := ⟨5, ![32, 4, 64, 4, 2048]⟩
abbrev S32x2048x1024 : Shape := ⟨3, ![32, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x4x64, .f32⟩
  | .hbm, ⟨2, _⟩ => ⟨S32x2048x4x64, .f32⟩
  | .hbm, ⟨3, _⟩ => ⟨S32x2048x4x4x64, .f32⟩
  | .hbm, ⟨4, _⟩ => ⟨S32x4x2048x2048x4, .f32⟩
  | .hbm, ⟨5, _⟩ => ⟨S32x4x4x2048x2048, .f32⟩
  | .hbm, ⟨6, _⟩ => ⟨S_, .f32⟩
  | .hbm, ⟨7, _⟩ => ⟨S32x4x4x2048x2048, .f32⟩
  | .hbm, ⟨8, _⟩ => ⟨S32x4x4x2048x2048, .f32⟩
  | .hbm, ⟨9, _⟩ => ⟨S_, .f32⟩
  | .hbm, ⟨10, _⟩ => ⟨S32x4x4x2048, .f32⟩
  | .hbm, ⟨11, _⟩ => ⟨S_, .f32⟩
  | .hbm, ⟨12, _⟩ => ⟨S32x4x4x2048, .f32⟩
  | .hbm, ⟨13, _⟩ => ⟨S32x4x4x2048, .f32⟩
  | .hbm, ⟨14, _⟩ => ⟨S32x4x4x2048x1, .f32⟩
  | .hbm, ⟨15, _⟩ => ⟨S32x4x4x2048x2048, .f32⟩
  | .hbm, ⟨16, _⟩ => ⟨S32x4x4x2048x2048, .f32⟩
  | .hbm, ⟨17, _⟩ => ⟨S32x4x4x2048x2048, .f32⟩
  | .hbm, ⟨18, _⟩ => ⟨S_, .f32⟩
  | .hbm, ⟨19, _⟩ => ⟨S32x4x4x2048, .f32⟩
  | .hbm, ⟨20, _⟩ => ⟨S32x4x4x2048x1, .f32⟩
  | .hbm, ⟨21, _⟩ => ⟨S32x4x4x2048x2048, .f32⟩
  | .hbm, ⟨22, _⟩ => ⟨S32x4x4x2048x2048, .f32⟩
  | .hbm, ⟨23, _⟩ => ⟨S32x4x64x4x2048, .f32⟩
  | .hbm, ⟨24, _⟩ => ⟨S32x2048x4x4x64, .f32⟩
  | .hbm, ⟨25, _⟩ => ⟨S32x2048x1024, .f32⟩
  | .hbm, ⟨26, _⟩ => ⟨S32x2048x1024, .bf16⟩
  | _, _ => ⟨S32x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S65536x1024 : Shape := ⟨2, ![65536, 1024]⟩
abbrev S1x1024 : Shape := ⟨2, ![1, 1024]⟩
abbrev S1x5632 : Shape := ⟨2, ![1, 5632]⟩
abbrev S512x1024 : Shape := ⟨2, ![512, 1024]⟩
abbrev S8x1024 : Shape := ⟨2, ![8, 1024]⟩
abbrev S512x2816 : Shape := ⟨2, ![512, 2816]⟩
abbrev S16x1024 : Shape := ⟨2, ![16, 1024]⟩
abbrev S528x1024 : Shape := ⟨2, ![528, 1024]⟩
abbrev S528 : Shape := ⟨1, ![528]⟩
abbrev S528x1 : Shape := ⟨2, ![528, 1]⟩
abbrev S1024x256 : Shape := ⟨2, ![1024, 256]⟩
abbrev S528x256 : Shape := ⟨2, ![528, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩
abbrev S3x256 : Shape := ⟨2, ![3, 256]⟩

abbrev nBuf : Space → Nat
  | .hbm => 12
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S65536x1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
abbrev S32x2048x1024 : Shape := ⟨3, ![32, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S65536x1024 : Shape := ⟨2, ![65536, 1024]⟩
abbrev S1x1024 : Shape := ⟨2, ![1, 1024]⟩
abbrev S1x5632 : Shape := ⟨2, ![1, 5632]⟩
abbrev S512x1024 : Shape := ⟨2, ![512, 1024]⟩
abbrev S8x1024 : Shape := ⟨2, ![8, 1024]⟩
abbrev S512x2816 : Shape := ⟨2, ![512, 2816]⟩
abbrev S16x1024 : Shape := ⟨2, ![16, 1024]⟩
abbrev S528x1024 : Shape := ⟨2, ![528, 1024]⟩
abbrev S528 : Shape := ⟨1, ![528]⟩
abbrev S528x1 : Shape := ⟨2, ![528, 1]⟩
abbrev S1024x256 : Shape := ⟨2, ![1024, 256]⟩
abbrev S528x256 : Shape := ⟨2, ![528, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩
abbrev S3x256 : Shape := ⟨2, ![3, 256]⟩

abbrev nBuf : Space → Nat
  | .hbm => 12
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S65536x1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32x2048x1024 : Shape := ⟨3, ![32, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2050x5632 : Shape := ⟨3, ![32, 2050, 5632]⟩
abbrev S1x5632 : Shape := ⟨2, ![1, 5632]⟩
abbrev S1x1x5632 : Shape := ⟨3, ![1, 1, 5632]⟩
abbrev S32x2048x2816 : Shape := ⟨3, ![32, 2048, 2816]⟩
abbrev S65536x1024 : Shape := ⟨2, ![65536, 1024]⟩

abbrev nBuf : Space → Nat
  | .hbm => 64
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x2048x5632, .f32⟩
  | .hbm, ⟨23, _⟩ => ⟨S_, .i32⟩
  | .hbm, ⟨24, _⟩ => ⟨S_, .f32⟩
  | .hbm, ⟨25, _⟩ => ⟨S32x2050x5632, .f32⟩
  | .hbm, ⟨26, _⟩ => ⟨S32x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S32x2048x5632, .f32⟩
  | .hbm, ⟨31, _⟩ => ⟨S32x2048x5632, .f32⟩
  | .hbm, ⟨32, _⟩ => ⟨S32x2048x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S32x2048x5632, .f32⟩
  | .hbm, ⟨37, _⟩ => ⟨S32x2048x5632, .f32⟩
  | .hbm, ⟨38, _⟩ => ⟨S32x2048x5632, .f32⟩
  | .hbm, ⟨39, _⟩ => ⟨S32x2048x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S32x2048x5632, .f32⟩
  | .hbm, ⟨44, _⟩ => ⟨S32x2048x5632, .f32⟩
  | .hbm, ⟨45, _⟩ => ⟨S32x2048x5632, .f32⟩
  | .hbm, ⟨46, _⟩ => ⟨S1x1x5632, .f32⟩
  | .hbm, ⟨47, _⟩ => ⟨S32x2048x5632, .f32⟩
  | .hbm, ⟨48, _⟩ => ⟨S32x2048x5632, .f32⟩
  | .hbm, ⟨49, _⟩ => ⟨S32x2048x2816, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S_, .f32⟩
  | .hbm, ⟨54, _⟩ => ⟨S32x2048x2816, .f32⟩
  | .hbm, ⟨55, _⟩ => ⟨S32x2048x2816, .f32⟩
  | .hbm, ⟨56, _⟩ => ⟨S_, .f32⟩
  | .hbm, ⟨57, _⟩ => ⟨S32x2048x2816, .f32⟩
  | .hbm, ⟨58, _⟩ => ⟨S32x2048x2816, .f32⟩
  | .hbm, ⟨59, _⟩ => ⟨S32x2048x2816, .f32⟩
  | .hbm, ⟨60, _⟩ => ⟨S32x2048x2816, .f32⟩
  | .hbm, ⟨61, _⟩ => ⟨S32x2048x1024, .f32⟩
  | .hbm, ⟨62, _⟩ => ⟨S32x2048x1024, .f32⟩
  | .hbm, ⟨63, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S1x1024 : Shape := ⟨2, ![1, 1024]⟩
abbrev S1x5632 : Shape := ⟨2, ![1, 5632]⟩
abbrev S512x1024 : Shape := ⟨2, ![512, 1024]⟩
abbrev S8x1024 : Shape := ⟨2, ![8, 1024]⟩
abbrev S512x2816 : Shape := ⟨2, ![512, 2816]⟩
abbrev S16x1024 : Shape := ⟨2, ![16, 1024]⟩
abbrev S528x1024 : Shape := ⟨2, ![528, 1024]⟩
abbrev S528 : Shape := ⟨1, ![528]⟩
abbrev S528x1 : Shape := ⟨2, ![528, 1]⟩
abbrev S1024x256 : Shape := ⟨2, ![1024, 256]⟩
abbrev S528x256 : Shape := ⟨2, ![528, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩
abbrev S3x256 : Shape := ⟨2, ![3, 256]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x5632, .f32⟩
  | .hbm, ⟨23, _⟩ => ⟨S_, .i32⟩
  | .hbm, ⟨24, _⟩ => ⟨S_, .f32⟩
  | .hbm, ⟨25, _⟩ => ⟨S8x2050x5632, .f32⟩
  | .hbm, ⟨26, _⟩ => ⟨S8x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S8x2048x5632, .f32⟩
  | .hbm, ⟨31, _⟩ => ⟨S8x2048x5632, .f32⟩
  | .hbm, ⟨32, _⟩ => ⟨S8x2048x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S8x2048x5632, .f32⟩
  | .hbm, ⟨37, _⟩ => ⟨S8x2048x5632, .f32⟩
  | .hbm, ⟨38, _⟩ => ⟨S8x2048x5632, .f32⟩
  | .hbm, ⟨39, _⟩ => ⟨S8x2048x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S1x1x5632, .f32⟩
  | .hbm, ⟨47, _⟩ => ⟨S8x2048x5632, .f32⟩
  | .hbm, ⟨48, _⟩ => ⟨S8x2048x5632, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x1024, .f32⟩
  | .hbm, ⟨62, _⟩ => ⟨S8x2048x1024, .f32⟩
  | .hbm, ⟨63, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel4.lean ====
abbrev S32x2048x1024 : Shape := ⟨3, ![32, 2048, 1024]⟩
abbrev S1024x1024 : Shape := ⟨2, ![1024, 1024]⟩
abbrev S65536x1024 : Shape := ⟨2, ![65536, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S32x2048x1024, .f32⟩
  | .hbm, ⟨3, _⟩ => ⟨S65536x1024, .f32⟩
  | .hbm, ⟨4, _⟩ => ⟨S65536x1024, .bf16⟩
  | .hbm, ⟨5, _⟩ => ⟨S1024x1024, .bf16⟩
  | .hbm, ⟨6, _⟩ => ⟨S65536x1024, .f32⟩
  | .hbm, ⟨7, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32x2048x1024 : Shape := ⟨3, ![32, 2048, 1024]⟩
abbrev S1024x1024 : Shape := ⟨2, ![1024, 1024]⟩
abbrev S65536x1024 : Shape := ⟨2, ![65536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x1024, .f32⟩
  | .hbm, ⟨2, _⟩ => ⟨S32x2048x1024, .f32⟩
  | .hbm, ⟨3, _⟩ => ⟨S32x2048x1024, .f32⟩
  | .hbm, ⟨4, _⟩ => ⟨S32x2048x1024, .f32⟩
  | .hbm, ⟨5, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S32x2048x1024 : Shape := ⟨3, ![32, 2048, 1024]⟩
abbrev S1024 : Shape := ⟨1, ![1024]⟩
abbrev S1024x3072 : Shape := ⟨2, ![1024, 3072]⟩
abbrev S64 : Shape := ⟨1, ![64]⟩
abbrev S1x64 : Shape := ⟨2, ![1, 64]⟩
abbrev S16x64 : Shape := ⟨2, ![16, 64]⟩
abbrev S_ : Shape := ⟨0, ![]⟩
abbrev S3072 : Shape := ⟨1, ![3072]⟩
abbrev S65536x1024 : Shape := ⟨2, ![65536, 1024]⟩
abbrev S1x1024 : Shape := ⟨2, ![1, 1024]⟩
abbrev S1x3072 : Shape := ⟨2, ![1, 3072]⟩
abbrev S65536x3072 : Shape := ⟨2, ![65536, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S256x256 : Shape := ⟨2, ![256, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 19
  | .vmem => 7
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S16x64, .f32⟩
  | .hbm, ⟨7, _⟩ => ⟨S1024, .f32⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S3072, .f32⟩
  | .hbm, ⟨14, _⟩ => ⟨S65536x1024, .f32⟩
  | .hbm, ⟨15, _⟩ => ⟨S1024x3072, .bf16⟩
  | .hbm, ⟨16, _⟩ => ⟨S1x1024, .f32⟩
  | .hbm, ⟨17, _⟩ => ⟨S1x3072, .f32⟩
  | .hbm, ⟨18, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32x2048x1024 : Shape := ⟨3, ![32, 2048, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3072 : Shape := ⟨3, ![32, 2048, 3072]⟩
abbrev S32x2048x16x64 : Shape := ⟨4, ![32, 2048, 16, 64]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S65536x3072 : Shape := ⟨2, ![65536, 3072]⟩

abbrev nBuf : Space → Nat
  | .hbm => 64
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x3072, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x16x64, .f32⟩
  | .hbm, ⟨26, _⟩ => ⟨S32x2048x16x64, .f32⟩
  | .hbm, ⟨27, _⟩ => ⟨S_, .f32⟩
  | .hbm, ⟨28, _⟩ => ⟨S32x2048x16, .f32⟩
  | .hbm, ⟨29, _⟩ => ⟨S32x2048x16x1, .f32⟩
  | .hbm, ⟨30, _⟩ => ⟨S_, .f32⟩
  | .hbm, ⟨31, _⟩ => ⟨S32x2048x16x1, .f32⟩
  | .hbm, ⟨32, _⟩ => ⟨S32x2048x16x1, .f32⟩
  | .hbm, ⟨33, _⟩ => ⟨S_, .f32⟩
  | .hbm, ⟨34, _⟩ => ⟨S32x2048x16x1, .f32⟩
  | .hbm, ⟨35, _⟩ => ⟨S32x2048x16x1, .f32⟩
  | .hbm, ⟨36, _⟩ => ⟨S32x2048x16x1, .f32⟩
  | .hbm, ⟨37, _⟩ => ⟨S32x2048x16x64, .f32⟩
  | .hbm, ⟨38, _⟩ => ⟨S32x2048x16x64, .f32⟩
  | .hbm, ⟨39, _⟩ => ⟨S1x1x1x64, .f32⟩
  | .hbm, ⟨40, _⟩ => ⟨S32x2048x16x64, .f32⟩
  | .hbm, ⟨41, _⟩ => ⟨S32x2048x16x64, .f32⟩
  | .hbm, ⟨42, _⟩ => ⟨S32x2048x1024, .f32⟩
  | .hbm, ⟨43, _⟩ => ⟨S32x2048x16x64, .f32⟩
  | .hbm, ⟨44, _⟩ => ⟨S32x2048x16x64, .f32⟩
  | .hbm, ⟨45, _⟩ => ⟨S_, .f32⟩
  | .hbm, ⟨46, _⟩ => ⟨S32x2048x16, .f32⟩
  | .hbm, ⟨47, _⟩ => ⟨S32x2048x16x1, .f32⟩
  | .hbm, ⟨48, _⟩ => ⟨S_, .f32⟩
  | .hbm, ⟨49, _⟩ => ⟨S32x2048x16x1, .f32⟩
  | .hbm, ⟨50, _⟩ => ⟨S32x2048x16x1, .f32⟩
  | .hbm, ⟨51, _⟩ => ⟨S_, .f32⟩
  | .hbm, ⟨52, _⟩ => ⟨S32x2048x16x1, .f32⟩
  | .hbm, ⟨53, _⟩ => ⟨S32x2048x16x1, .f32⟩
  | .hbm, ⟨54, _⟩ => ⟨S32x2048x16x1, .f32⟩
  | .hbm, ⟨55, _⟩ => ⟨S32x2048x16x64, .f32⟩
  | .hbm, ⟨56, _⟩ => ⟨S32x2048x16x64, .f32⟩
  | .hbm, ⟨57, _⟩ => ⟨S1x1x1x64, .f32⟩
  | .hbm, ⟨58, _⟩ => ⟨S32x2048x16x64, .f32⟩
  | .hbm, ⟨59, _⟩ => ⟨S32x2048x16x64, .f32⟩
  | .hbm, ⟨60, _⟩ => ⟨S32x2048x1024, .f32⟩
  | .hbm, ⟨61, _⟩ => ⟨S32x2048x3072, .f32⟩
  | .hbm, ⟨62, _⟩ => ⟨S65536x3072, .f32⟩
  | .hbm, ⟨63, _⟩ => ⟨S65536x3072, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel6.lean ====
abbrev S32x2048x16x64 : Shape := ⟨4, ![32, 2048, 16, 64]⟩
abbrev S32x2048x8x128 : Shape := ⟨4, ![32, 2048, 8, 128]⟩
abbrev S64 : Shape := ⟨1, ![64]⟩
abbrev S128 : Shape := ⟨1, ![128]⟩
abbrev S32x2048x1024 : Shape := ⟨3, ![32, 2048, 1024]⟩
abbrev S32x2048x3072 : Shape := ⟨3, ![32, 2048, 3072]⟩
abbrev S_ : Shape := ⟨0, ![]⟩
abbrev S1 : Shape := ⟨1, ![1]⟩
abbrev S1x128 : Shape := ⟨2, ![1, 128]⟩
abbrev S1x2048x128 : Shape := ⟨3, ![1, 2048, 128]⟩
abbrev S2048x128 : Shape := ⟨2, ![2048, 128]⟩
abbrev S1x128x128 : Shape := ⟨3, ![1, 128, 128]⟩
abbrev S128x128 : Shape := ⟨2, ![128, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S128x1 : Shape := ⟨2, ![128, 1]⟩

abbrev nBuf : Space → Nat
  | .hbm => 30
  | .vmem => 9
  | .smem => 1
  | _ => 0

abbrev bufTy : (tb : Table) → Fin (tcTables nBuf tb) → BufTy
  | .hbm, ⟨0, _⟩ => ⟨S32x2048x16x64, .f32⟩
  | .hbm, ⟨1, _⟩ => ⟨S32x2048x16x64, .f32⟩
  | .hbm, ⟨2, _⟩ => ⟨S32x2048x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x3072, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S32x2048x3072, .bf16⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S32x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128, .f32⟩
  | .local _ .vmem, ⟨7, _⟩ => ⟨S1x2048x128, .bf16⟩
  | .local _ .vmem, ⟨8, _⟩ => ⟨S1x2048x128, .bf16⟩
  | .local _ .smem, ⟨0, _⟩ => ⟨S1, .f32⟩
  | _, _ => ⟨S32x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel6Ideal.lean ====
variable {F : FTy → Type} [FloatOps F] [Named F]
def κ : String → Option EReal := fun
  | "qscale" => some (((1 / 8) * (Real.log 2)⁻¹ : ℝ) : EReal)
  | _ => none
-- ==== Reference6Ideal.lean ====
abbrev S32x2048x16x64 : Shape := ⟨4, ![32, 2048, 16, 64]⟩
abbrev S32x2048x8x128 : Shape := ⟨4, ![32, 2048, 8, 128]⟩
abbrev S64 : Shape := ⟨1, ![64]⟩
abbrev S128 : Shape := ⟨1, ![128]⟩
abbrev S32x2048x8x2x64 : Shape := ⟨5, ![32, 2048, 8, 2, 64]⟩
abbrev S32x8x2x2048x2048 : Shape := ⟨5, ![32, 8, 2, 2048, 2048]⟩
abbrev S_ : Shape := ⟨0, ![]⟩
abbrev S32x8x2x2048 : Shape := ⟨4, ![32, 8, 2, 2048]⟩
abbrev S32x8x2x2048x1 : Shape := ⟨5, ![32, 8, 2, 2048, 1]⟩
abbrev S32x8x1x2048x2048 : Shape := ⟨5, ![32, 8, 1, 2048, 2048]⟩
abbrev S32x8x2048x2048 : Shape := ⟨4, ![32, 8, 2048, 2048]⟩
abbrev S32x8x128x2048 : Shape := ⟨4, ![32, 8, 128, 2048]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩
abbrev S32x2048x1024 : Shape := ⟨3, ![32, 2048, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x16x64, .f32⟩
  | .hbm, ⟨2, _⟩ => ⟨S32x2048x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S32x2048x8x2x64, .f32⟩
  | .hbm, ⟨9, _⟩ => ⟨S32x2048x8x2x64, .f32⟩
  | .hbm, ⟨10, _⟩ => ⟨S32x8x2x2048x2048, .f32⟩
  | .hbm, ⟨11, _⟩ => ⟨S_, .f32⟩
  | .hbm, ⟨12, _⟩ => ⟨S32x8x2x2048x2048, .f32⟩
  | .hbm, ⟨13, _⟩ => ⟨S32x8x2x2048x2048, .f32⟩
  | .hbm, ⟨14, _⟩ => ⟨S_, .f32⟩
  | .hbm, ⟨15, _⟩ => ⟨S32x8x2x2048, .f32⟩
  | .hbm, ⟨16, _⟩ => ⟨S_, .f32⟩
  | .hbm, ⟨17, _⟩ => ⟨S32x8x2x2048, .f32⟩
  | .hbm, ⟨18, _⟩ => ⟨S32x8x2x2048, .f32⟩
  | .hbm, ⟨19, _⟩ => ⟨S32x8x2x2048x1, .f32⟩
  | .hbm, ⟨20, _⟩ => ⟨S32x8x2x2048x2048, .f32⟩
  | .hbm, ⟨21, _⟩ => ⟨S32x8x2x2048x2048, .f32⟩
  | .hbm, ⟨22, _⟩ => ⟨S32x8x2x2048x2048, .f32⟩
  | .hbm, ⟨23, _⟩ => ⟨S_, .f32⟩
  | .hbm, ⟨24, _⟩ => ⟨S32x8x2x2048, .f32⟩
  | .hbm, ⟨25, _⟩ => ⟨S32x8x2x2048x1, .f32⟩
  | .hbm, ⟨26, _⟩ => ⟨S32x8x2x2048x2048, .f32⟩
  | .hbm, ⟨27, _⟩ => ⟨S32x8x2x2048x2048, .f32⟩
  | .hbm, ⟨28, _⟩ => ⟨S32x8x1x2048x2048, .f32⟩
  | .hbm, ⟨29, _⟩ => ⟨S32x8x2048x2048, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32x8x1x2048x2048, .f32⟩
  | .hbm, ⟨42, _⟩ => ⟨S32x8x2048x2048, .f32⟩
  | .hbm, ⟨43, _⟩ => ⟨S32x8x2048x2048, .f32⟩
  | .hbm, ⟨44, _⟩ => ⟨S32x8x2048x2048, .f32⟩
  | .hbm, ⟨45, _⟩ => ⟨S32x8x2048x2048, .f32⟩
  | .hbm, ⟨46, _⟩ => ⟨S32x8x128x2048, .f32⟩
  | .hbm, ⟨47, _⟩ => ⟨S32x2048x8x128, .f32⟩
  | .hbm, ⟨48, _⟩ => ⟨S32x2048x8x128, .f32⟩
  | .hbm, ⟨49, _⟩ => ⟨S_, .f32⟩
  | .hbm, ⟨50, _⟩ => ⟨S32x2048x8, .f32⟩
  | .hbm, ⟨51, _⟩ => ⟨S32x2048x8x1, .f32⟩
  | .hbm, ⟨52, _⟩ => ⟨S_, .f32⟩
  | .hbm, ⟨53, _⟩ => ⟨S32x2048x8x1, .f32⟩
  | .hbm, ⟨54, _⟩ => ⟨S32x2048x8x1, .f32⟩
  | .hbm, ⟨55, _⟩ => ⟨S_, .f32⟩
  | .hbm, ⟨56, _⟩ => ⟨S32x2048x8x1, .f32⟩
  | .hbm, ⟨57, _⟩ => ⟨S32x2048x8x1, .f32⟩
  | .hbm, ⟨58, _⟩ => ⟨S32x2048x8x1, .f32⟩
  | .hbm, ⟨59, _⟩ => ⟨S32x2048x8x128, .f32⟩
  | .hbm, ⟨60, _⟩ => ⟨S32x2048x8x128, .f32⟩
  | .hbm, ⟨61, _⟩ => ⟨S1x1x1x128, .f32⟩
  | .hbm, ⟨62, _⟩ => ⟨S32x2048x8x128, .f32⟩
  | .hbm, ⟨63, _⟩ => ⟨S32x2048x8x128, .f32⟩
  | .hbm, ⟨64, _⟩ => ⟨S_, .f32⟩
  | .hbm, ⟨65, _⟩ => ⟨S32x2048x8x128, .f32⟩
  | .hbm, ⟨66, _⟩ => ⟨S32x2048x8x128, .f32⟩
  | .hbm, ⟨67, _⟩ => ⟨S32x2048x1024, .f32⟩
  | .hbm, ⟨68, _⟩ => ⟨S32x2048x1024, .bf16⟩
  | _, _ => ⟨S32x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel7.lean ====
abbrev S32x2048x1024 : Shape := ⟨3, ![32, 2048, 1024]⟩
abbrev S1024 : Shape := ⟨1, ![1024]⟩
abbrev S1024x3072 : Shape := ⟨2, ![1024, 3072]⟩
abbrev S64 : Shape := ⟨1, ![64]⟩
abbrev S2048 : Shape := ⟨1, ![2048]⟩
abbrev S1x64 : Shape := ⟨2, ![1, 64]⟩
abbrev S16x64 : Shape := ⟨2, ![16, 64]⟩
abbrev S_ : Shape := ⟨0, ![]⟩
abbrev S3072 : Shape := ⟨1, ![3072]⟩
abbrev S65536x1024 : Shape := ⟨2, ![65536, 1024]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S1x1024 : Shape := ⟨2, ![1, 1024]⟩
abbrev S1x3072 : Shape := ⟨2, ![1, 3072]⟩
abbrev S65536x3072 : Shape := ⟨2, ![65536, 3072]⟩
abbrev S512x1024 : Shape := ⟨2, ![512, 1024]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩
abbrev S256x256 : Shape := ⟨2, ![256, 256]⟩
abbrev S1x256 : Shape := ⟨2, ![1, 256]⟩
abbrev S1024x256 : Shape := ⟨2, ![1024, 256]⟩

abbrev nBuf : Space → Nat
  | .hbm => 46
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S2048, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S3072, .f32⟩
  | .hbm, ⟨15, _⟩ => ⟨S65536x1024, .f32⟩
  | .hbm, ⟨16, _⟩ => ⟨S1024x3072, .bf16⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x64, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x64, .f32⟩
  | .hbm, ⟨37, _⟩ => ⟨S1x2048x1x64, .f32⟩
  | .hbm, ⟨38, _⟩ => ⟨S1x2048x4x64, .f32⟩
  | .hbm, ⟨39, _⟩ => ⟨S2048x256, .f32⟩
  | .hbm, ⟨40, _⟩ => ⟨S1x2048x1x64, .f32⟩
  | .hbm, ⟨41, _⟩ => ⟨S1x2048x4x64, .f32⟩
  | .hbm, ⟨42, _⟩ => ⟨S2048x256, .f32⟩
  | .hbm, ⟨43, _⟩ => ⟨S1x1024, .f32⟩
  | .hbm, ⟨44, _⟩ => ⟨S1x3072, .f32⟩
  | .hbm, ⟨45, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x3072, .bf16⟩
  | .local _ .vmem, ⟨10, _⟩ => ⟨S512x3072, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S32x2048x1024 : Shape := ⟨3, ![32, 2048, 1024]⟩
abbrev S1024 : Shape := ⟨1, ![1024]⟩
abbrev S1024x3072 : Shape := ⟨2, ![1024, 3072]⟩
abbrev S64 : Shape := ⟨1, ![64]⟩
abbrev S2048 : Shape := ⟨1, ![2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3072 : Shape := ⟨3, ![32, 2048, 3072]⟩
abbrev S32x2048x16x64 : Shape := ⟨4, ![32, 2048, 16, 64]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S32x2048x16x32 : Shape := ⟨4, ![32, 2048, 16, 32]⟩
abbrev S65536x3072 : Shape := ⟨2, ![65536, 3072]⟩

abbrev nBuf : Space → Nat
  | .hbm => 125
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S2048, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x2048x3072, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x16x64, .f32⟩
  | .hbm, ⟨27, _⟩ => ⟨S32x2048x16x64, .f32⟩
  | .hbm, ⟨28, _⟩ => ⟨S_, .f32⟩
  | .hbm, ⟨29, _⟩ => ⟨S32x2048x16, .f32⟩
  | .hbm, ⟨30, _⟩ => ⟨S32x2048x16x1, .f32⟩
  | .hbm, ⟨31, _⟩ => ⟨S_, .f32⟩
  | .hbm, ⟨32, _⟩ => ⟨S32x2048x16x1, .f32⟩
  | .hbm, ⟨33, _⟩ => ⟨S32x2048x16x1, .f32⟩
  | .hbm, ⟨34, _⟩ => ⟨S_, .f32⟩
  | .hbm, ⟨35, _⟩ => ⟨S32x2048x16x1, .f32⟩
  | .hbm, ⟨36, _⟩ => ⟨S32x2048x16x1, .f32⟩
  | .hbm, ⟨37, _⟩ => ⟨S32x2048x16x1, .f32⟩
  | .hbm, ⟨38, _⟩ => ⟨S32x2048x16x64, .f32⟩
  | .hbm, ⟨39, _⟩ => ⟨S32x2048x16x64, .f32⟩
  | .hbm, ⟨40, _⟩ => ⟨S1x1x1x64, .f32⟩
  | .hbm, ⟨41, _⟩ => ⟨S32x2048x16x64, .f32⟩
  | .hbm, ⟨42, _⟩ => ⟨S32x2048x16x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S2048x1, .f32⟩
  | .hbm, ⟨52, _⟩ => ⟨S1x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S1x2048x1x32, .f32⟩
  | .hbm, ⟨58, _⟩ => ⟨S2048x32, .f32⟩
  | .hbm, ⟨59, _⟩ => ⟨S1x2048x1x32, .f32⟩
  | .hbm, ⟨60, _⟩ => ⟨S32x2048x16x32, .f32⟩
  | .hbm, ⟨61, _⟩ => ⟨S32x2048x16x32, .f32⟩
  | .hbm, ⟨62, _⟩ => ⟨S32x2048x16x32, .f32⟩
  | .hbm, ⟨63, _⟩ => ⟨S32x2048x16x32, .f32⟩
  | .hbm, ⟨64, _⟩ => ⟨S32x2048x16x32, .f32⟩
  | .hbm, ⟨65, _⟩ => ⟨S32x2048x16x32, .f32⟩
  | .hbm, ⟨66, _⟩ => ⟨S32x2048x16x32, .f32⟩
  | .hbm, ⟨67, _⟩ => ⟨S32x2048x16x32, .f32⟩
  | .hbm, ⟨68, _⟩ => ⟨S32x2048x16x32, .f32⟩
  | .hbm, ⟨69, _⟩ => ⟨S32x2048x16x32, .f32⟩
  | .hbm, ⟨70, _⟩ => ⟨S32x2048x16x32, .f32⟩
  | .hbm, ⟨71, _⟩ => ⟨S32x2048x16x32, .f32⟩
  | .hbm, ⟨72, _⟩ => ⟨S32x2048x16x64, .f32⟩
  | .hbm, ⟨73, _⟩ => ⟨S32x2048x1024, .f32⟩
  | .hbm, ⟨74, _⟩ => ⟨S32x2048x16x64, .f32⟩
  | .hbm, ⟨75, _⟩ => ⟨S32x2048x16x64, .f32⟩
  | .hbm, ⟨76, _⟩ => ⟨S_, .f32⟩
  | .hbm, ⟨77, _⟩ => ⟨S32x2048x16, .f32⟩
  | .hbm, ⟨78, _⟩ => ⟨S32x2048x16x1, .f32⟩
  | .hbm, ⟨79, _⟩ => ⟨S_, .f32⟩
  | .hbm, ⟨80, _⟩ => ⟨S32x2048x16x1, .f32⟩
  | .hbm, ⟨81, _⟩ => ⟨S32x2048x16x1, .f32⟩
  | .hbm, ⟨82, _⟩ => ⟨S_, .f32⟩
  | .hbm, ⟨83, _⟩ => ⟨S32x2048x16x1, .f32⟩
  | .hbm, ⟨84, _⟩ => ⟨S32x2048x16x1, .f32⟩
  | .hbm, ⟨85, _⟩ => ⟨S32x2048x16x1, .f32⟩
  | .hbm, ⟨86, _⟩ => ⟨S32x2048x16x64, .f32⟩
  | .hbm, ⟨87, _⟩ => ⟨S32x2048x16x64, .f32⟩
  | .hbm, ⟨88, _⟩ => ⟨S1x1x1x64, .f32⟩
  | .hbm, ⟨89, _⟩ => ⟨S32x2048x16x64, .f32⟩
  | .hbm, ⟨90, _⟩ => ⟨S32x2048x16x64, .f32⟩
  | .hbm, ⟨91, _⟩ => ⟨S32, .f32⟩
  | .hbm, ⟨92, _⟩ => ⟨S32, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S_, .f32⟩
  | .hbm, ⟨97, _⟩ => ⟨S32, .f32⟩
  | .hbm, ⟨98, _⟩ => ⟨S32, .f32⟩
  | .hbm, ⟨99, _⟩ => ⟨S2048x1, .f32⟩
  | .hbm, ⟨100, _⟩ => ⟨S1x32, .f32⟩
  | .hbm, ⟨101, _⟩ => ⟨S2048x32, .f32⟩
  | .hbm, ⟨102, _⟩ => ⟨S2048x32, .f32⟩
  | .hbm, ⟨103, _⟩ => ⟨S2048x32, .f32⟩
  | .hbm, ⟨104, _⟩ => ⟨S2048x32, .f32⟩
  | .hbm, ⟨105, _⟩ => ⟨S1x2048x1x32, .f32⟩
  | .hbm, ⟨106, _⟩ => ⟨S2048x32, .f32⟩
  | .hbm, ⟨107, _⟩ => ⟨S1x2048x1x32, .f32⟩
  | .hbm, ⟨108, _⟩ => ⟨S32x2048x16x32, .f32⟩
  | .hbm, ⟨109, _⟩ => ⟨S32x2048x16x32, .f32⟩
  | .hbm, ⟨110, _⟩ => ⟨S32x2048x16x32, .f32⟩
  | .hbm, ⟨111, _⟩ => ⟨S32x2048x16x32, .f32⟩
  | .hbm, ⟨112, _⟩ => ⟨S32x2048x16x32, .f32⟩
  | .hbm, ⟨113, _⟩ => ⟨S32x2048x16x32, .f32⟩
  | .hbm, ⟨114, _⟩ => ⟨S32x2048x16x32, .f32⟩
  | .hbm, ⟨115, _⟩ => ⟨S32x2048x16x32, .f32⟩
  | .hbm, ⟨116, _⟩ => ⟨S32x2048x16x32, .f32⟩
  | .hbm, ⟨117, _⟩ => ⟨S32x2048x16x32, .f32⟩
  | .hbm, ⟨118, _⟩ => ⟨S32x2048x16x32, .f32⟩
  | .hbm, ⟨119, _⟩ => ⟨S32x2048x16x32, .f32⟩
  | .hbm, ⟨120, _⟩ => ⟨S32x2048x16x64, .f32⟩
  | .hbm, ⟨121, _⟩ => ⟨S32x2048x1024, .f32⟩
  | .hbm, ⟨122, _⟩ => ⟨S32x2048x3072, .f32⟩
  | .hbm, ⟨123, _⟩ => ⟨S65536x3072, .f32⟩
  | .hbm, ⟨124, _⟩ => ⟨S65536x3072, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩

abbrev nD : Nat := 1
abbrev τ : Topo := Topo.v7x

variable {F : FTy → Type} [FloatOps F]
-- ==== Kernel8.lean ====
abbrev S32x2048x1024 : Shape := ⟨3, ![32, 2048, 1024]⟩
abbrev S1024 : Shape := ⟨1, ![1024]⟩
abbrev S1024x1536 : Shape := ⟨2, ![1024, 1536]⟩
abbrev S64 : Shape := ⟨1, ![64]⟩
abbrev S1024x1024 : Shape := ⟨2, ![1024, 1024]⟩
abbrev S1024x256 : Shape := ⟨2, ![1024, 256]⟩
abbrev S1024x4x1x64 : Shape := ⟨4, ![1024, 4, 1, 64]⟩
abbrev S1024x4x2x64 : Shape := ⟨4, ![1024, 4, 2, 64]⟩
abbrev S1024x512 : Shape := ⟨2, ![1024, 512]⟩
abbrev S1024x2048 : Shape := ⟨2, ![1024, 2048]⟩
abbrev S1x64 : Shape := ⟨2, ![1, 64]⟩
abbrev S16x64 : Shape := ⟨2, ![16, 64]⟩
abbrev S8x64 : Shape := ⟨2, ![8, 64]⟩
abbrev S512 : Shape := ⟨1, ![512]⟩
abbrev S_ : Shape := ⟨0, ![]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S65536x1024 : Shape := ⟨2, ![65536, 1024]⟩
abbrev S1x1024 : Shape := ⟨2, ![1, 1024]⟩
abbrev S1x2048 : Shape := ⟨2, ![1, 2048]⟩
abbrev S65536x2048 : Shape := ⟨2, ![65536, 2048]⟩
abbrev S512x1024 : Shape := ⟨2, ![512, 1024]⟩
abbrev S512x256 : Shape := ⟨2, ![512, 256]⟩
abbrev S512x2048 : Shape := ⟨2, ![512, 2048]⟩
abbrev S512x1 : Shape := ⟨2, ![512, 1]⟩
abbrev S256x256 : Shape := ⟨2, ![256, 256]⟩
abbrev S1x256 : Shape := ⟨2, ![1, 256]⟩

abbrev nBuf : Space → Nat
  | .hbm => 112
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S1024x1024, .f32⟩
  | .hbm, ⟨6, _⟩ => ⟨S1024x256, .f32⟩
  | .hbm, ⟨7, _⟩ => ⟨S1024x4x1x64, .f32⟩
  | .hbm, ⟨8, _⟩ => ⟨S1024x4x2x64, .f32⟩
  | .hbm, ⟨9, _⟩ => ⟨S1024x512, .f32⟩
  | .hbm, ⟨10, _⟩ => ⟨S1024x256, .f32⟩
  | .hbm, ⟨11, _⟩ => ⟨S1024x4x1x64, .f32⟩
  | .hbm, ⟨12, _⟩ => ⟨S1024x4x2x64, .f32⟩
  | .hbm, ⟨13, _⟩ => ⟨S1024x512, .f32⟩
  | .hbm, ⟨14, _⟩ => ⟨S1024x2048, .f32⟩
  | .hbm, ⟨15, _⟩ => ⟨S1x64, .f32⟩
  | .hbm, ⟨16, _⟩ => ⟨S16x64, .f32⟩
  | .hbm, ⟨17, _⟩ => ⟨S1024, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S2048, .f32⟩
  | .hbm, ⟨24, _⟩ => ⟨S2048, .i32⟩
  | .hbm, ⟨25, _⟩ => ⟨S_, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S_, .i1⟩
  | .hbm, ⟨60, _⟩ => ⟨S2048, .i1⟩
  | .hbm, ⟨61, _⟩ => ⟨S2048, .i1⟩
  | .hbm, ⟨62, _⟩ => ⟨S2048, .i1⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S2048x1, .f32⟩
  | .hbm, ⟨76, _⟩ => ⟨S1x16, .f32⟩
  | .hbm, ⟨77, _⟩ => ⟨S2048x16, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S2048x16, .f32⟩
  | .hbm, ⟨82, _⟩ => ⟨S2048x32, .f32⟩
  | .hbm, ⟨83, _⟩ => ⟨S2048x16, .f32⟩
  | .hbm, ⟨84, _⟩ => ⟨S2048x16, .f32⟩
  | .hbm, ⟨85, _⟩ => ⟨S2048x16, .f32⟩
  | .hbm, ⟨86, _⟩ => ⟨S2048x32, .f32⟩
  | .hbm, ⟨87, _⟩ => ⟨S2048x1, .f32⟩
  | .hbm, ⟨88, _⟩ => ⟨S1x16, .f32⟩
  | .hbm, ⟨89, _⟩ => ⟨S2048x16, .f32⟩
  | .hbm, ⟨90, _⟩ => ⟨S2048x16, .f32⟩
  | .hbm, ⟨91, _⟩ => ⟨S2048x16, .f32⟩
  | .hbm, ⟨92, _⟩ => ⟨S2048x16, .f32⟩
  | .hbm, ⟨93, _⟩ => ⟨S2048x16, .f32⟩
  | .hbm, ⟨94, _⟩ => ⟨S2048x32, .f32⟩
  | .hbm, ⟨95, _⟩ => ⟨S2048x16, .f32⟩
  | .hbm, ⟨96, _⟩ => ⟨S2048x16, .f32⟩
  | .hbm, ⟨97, _⟩ => ⟨S2048x16, .f32⟩
  | .hbm, ⟨98, _⟩ => ⟨S2048x32, .f32⟩
  | .hbm, ⟨99, _⟩ => ⟨S2048x64, .f32⟩
  | .hbm, ⟨100, _⟩ => ⟨S2048x64, .f32⟩
  | .hbm, ⟨101, _⟩ => ⟨S1x2048x1x64, .f32⟩
  | .hbm, ⟨102, _⟩ => ⟨S1x2048x4x64, .f32⟩
  | .hbm, ⟨103, _⟩ => ⟨S2048x256, .f32⟩
  | .hbm, ⟨104, _⟩ => ⟨S1x2048x1x64, .f32⟩
  | .hbm, ⟨105, _⟩ => ⟨S1x2048x4x64, .f32⟩
  | .hbm, ⟨106, _⟩ => ⟨S2048x256, .f32⟩
  | .hbm, ⟨107, _⟩ => ⟨S65536x1024, .f32⟩
  | .hbm, ⟨108, _⟩ => ⟨S1024x2048, .bf16⟩
  | .hbm, ⟨109, _⟩ => ⟨S1x1024, .f32⟩
  | .hbm, ⟨110, _⟩ => ⟨S1x2048, .f32⟩
  | .hbm, ⟨111, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x2048, .bf16⟩
  | .local _ .vmem, ⟨10, _⟩ => ⟨S512x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v19 : Ref sig .tc := ⟨.hbm, 42, rfl⟩
abbrev main_v20 : Ref sig .tc := ⟨.hbm, 43, rfl⟩
abbrev main_c_0 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_1 : Ref sig .tc := ⟨.hbm, 69, rfl⟩
abbrev main_v25 : Ref sig .tc := ⟨.hbm, 70, rfl⟩
abbrev main_v26 : Ref sig .tc := ⟨.hbm, 71, rfl⟩
abbrev main_cst_2 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S32x2048x1024 : Shape := ⟨3, ![32, 2048, 1024]⟩
abbrev S1024 : Shape := ⟨1, ![1024]⟩
abbrev S1024x1536 : Shape := ⟨2, ![1024, 1536]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1536 : Shape := ⟨3, ![32, 2048, 1536]⟩
abbrev S32x2048x16x64 : Shape := ⟨4, ![32, 2048, 16, 64]⟩
abbrev S32x2048x256 : Shape := ⟨3, ![32, 2048, 256]⟩
abbrev S32x2048x4x64 : Shape := ⟨4, ![32, 2048, 4, 64]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S2048 : Shape := ⟨1, ![2048]⟩
abbrev S32x2048x16x32 : Shape := ⟨4, ![32, 2048, 16, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S32x2048x16x16 : Shape := ⟨4, ![32, 2048, 16, 16]⟩
abbrev S32x2048x4 : Shape := ⟨3, ![32, 2048, 4]⟩
abbrev S32x2048x4x1 : Shape := ⟨4, ![32, 2048, 4, 1]⟩
abbrev S32x2048x4x32 : Shape := ⟨4, ![32, 2048, 4, 32]⟩
abbrev S32x2048x4x16 : Shape := ⟨4, ![32, 2048, 4, 16]⟩
abbrev S32x2048x4x2x64 : Shape := ⟨5, ![32, 2048, 4, 2, 64]⟩
abbrev S32x2048x8x64 : Shape := ⟨4, ![32, 2048, 8, 64]⟩
abbrev S32x2048x32x64 : Shape := ⟨4, ![32, 2048, 32, 64]⟩
abbrev S65536x2048 : Shape := ⟨2, ![65536, 2048]⟩

abbrev nBuf : Space → Nat
  | .hbm => 279
  | .vmem => 0
  | .smem => 0
  | _ => 0

abbrev hbmTy0_0 (i : Nat) : BufTy := match i % 128 with
  | 0 => ⟨S32x2048x1024, .f32⟩
  | 1 => ⟨S1024, .f32⟩
  | 2 => ⟨S1024x1536, .f32⟩
  | 3 => ⟨S64, .f32⟩
  | 4 => ⟨S64, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S_, .f32⟩
  | 13 => ⟨S32x2048x1, .f32⟩
  | 14 => ⟨S32x2048x1, .f32⟩
  | 15 => ⟨S32x2048x1, .f32⟩
  | 16 => ⟨S32x2048x1024, .f32⟩
  | 17 => ⟨S32x2048x1024, .f32⟩
  | 18 => ⟨S1x1x1024, .f32⟩
  | 19 => ⟨S32x2048x1024, .f32⟩
  | 20 => ⟨S32x2048x1024, .f32⟩
  | 21 => ⟨S32x2048x1536, .f32⟩
  | 22 => ⟨S32x2048x1024, .f32⟩
  | 23 => ⟨S32x2048x16x64, .f32⟩
  | 24 => ⟨S32x2048x256, .f32⟩
  | 25 => ⟨S32x2048x4x64, .f32⟩
  | 26 => ⟨S32x2048x256, .f32⟩
  | 27 => ⟨S32x2048x4x64, .f32⟩
  | 28 => ⟨S32x2048x16x64, .f32⟩
  | 29 => ⟨S_, .f32⟩
  | 30 => ⟨S32x2048x16, .f32⟩
  | 31 => ⟨S32x2048x16x1, .f32⟩
  | 32 => ⟨S_, .f32⟩
  | 33 => ⟨S32x2048x16x1, .f32⟩
  | 34 => ⟨S32x2048x16x1, .f32⟩
  | 35 => ⟨S_, .f32⟩
  | 36 => ⟨S32x2048x16x1, .f32⟩
  | 37 => ⟨S32x2048x16x1, .f32⟩
  | 38 => ⟨S32x2048x16x1, .f32⟩
  | 39 => ⟨S32x2048x16x64, .f32⟩
  | 40 => ⟨S32x2048x16x64, .f32⟩
  | 41 => ⟨S1x1x1x64, .f32⟩
  | 42 => ⟨S32x2048x16x64, .f32⟩
  | 43 => ⟨S32x2048x16x64, .f32⟩
  | 44 => ⟨S2048, .i32⟩
  | 45 => ⟨S_, .i32⟩
  | 46 => ⟨S_, .i32⟩
  | 47 => ⟨S2048, .i32⟩
  | 48 => ⟨S2048, .i32⟩
  | 49 => ⟨S2048, .i32⟩
  | 50 => ⟨S_, .i32⟩
  | 51 => ⟨S2048, .i32⟩
  | 52 => ⟨S2048, .i1⟩
  | 53 => ⟨S2048, .i32⟩
  | 54 => ⟨S2048, .i32⟩
  | 55 => ⟨S_, .i32⟩
  | 56 => ⟨S2048, .i32⟩
  | 57 => ⟨S2048, .i1⟩
  | 58 => ⟨S2048, .i1⟩
  | 59 => ⟨S_, .i32⟩
  | 60 => ⟨S2048, .i32⟩
  | 61 => ⟨S2048, .i32⟩
  | 62 => ⟨S2048, .i32⟩
  | 63 => ⟨S2048, .f32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S2048, .i32⟩
  | 71 => ⟨S2048, .i32⟩
  | 72 => ⟨S_, .i32⟩
  | 73 => ⟨S2048, .i32⟩
  | 74 => ⟨S2048, .i1⟩
  | 75 => ⟨S_, .i32⟩
  | 76 => ⟨S2048, .i32⟩
  | 77 => ⟨S2048, .i1⟩
  | 78 => ⟨S_, .i32⟩
  | 79 => ⟨S_, .i1⟩
  | 80 => ⟨S2048, .i1⟩
  | 81 => ⟨S2048, .i1⟩
  | 82 => ⟨S2048, .i1⟩
  | 83 => ⟨S2048, .i32⟩
  | 84 => ⟨S2048, .i32⟩
  | 85 => ⟨S2048, .i32⟩
  | 86 => ⟨S2048, .f32⟩
  | 87 => ⟨S32x2048x16x32, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S2048x1, .f32⟩
  | 97 => ⟨S1x16, .f32⟩
  | 98 => ⟨S2048x16, .f32⟩
  | 99 => ⟨S2048x16, .f32⟩
  | 100 => ⟨S2048x16, .f32⟩
  | 101 => ⟨S2048x16, .f32⟩
  | 102 => ⟨S1x2048x1x16, .f32⟩
  | 103 => ⟨S2048x16, .f32⟩
  | 104 => ⟨S1x2048x1x16, .f32⟩
  | 105 => ⟨S32x2048x16x16, .f32⟩
  | 106 => ⟨S32x2048x16x16, .f32⟩
  | 107 => ⟨S32x2048x16x16, .f32⟩
  | 108 => ⟨S32x2048x16x16, .f32⟩
  | 109 => ⟨S32x2048x16x16, .f32⟩
  | 110 => ⟨S32x2048x16x16, .f32⟩
  | 111 => ⟨S32x2048x16x16, .f32⟩
  | 112 => ⟨S32x2048x16x16, .f32⟩
  | 113 => ⟨S32x2048x16x16, .f32⟩
  | 114 => ⟨S32x2048x16x16, .f32⟩
  | 115 => ⟨S32x2048x16x16, .f32⟩
  | 116 => ⟨S32x2048x16x16, .f32⟩
  | 117 => ⟨S32x2048x16x32, .f32⟩
  | 118 => ⟨S32x2048x16x32, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S2048x1, .f32⟩
  | _ => ⟨S32x2048x1024, .f32⟩

abbrev hbmTy0_1 (i : Nat) : BufTy := match i % 128 with
  | 0 => ⟨S1x16, .f32⟩
  | 1 => ⟨S2048x16, .f32⟩
  | 2 => ⟨S2048x16, .f32⟩
  | 3 => ⟨S2048x16, .f32⟩
  | 4 => ⟨S2048x16, .f32⟩
  | 5 => ⟨S1x2048x1x16, .f32⟩
  | 6 => ⟨S2048x16, .f32⟩
  | 7 => ⟨S1x2048x1x16, .f32⟩
  | 8 => ⟨S32x2048x16x16, .f32⟩
  | 9 => ⟨S32x2048x16x16, .f32⟩
  | 10 => ⟨S32x2048x16x16, .f32⟩
  | 11 => ⟨S32x2048x16x16, .f32⟩
  | 12 => ⟨S32x2048x16x16, .f32⟩
  | 13 => ⟨S32x2048x16x16, .f32⟩
  | 14 => ⟨S32x2048x16x16, .f32⟩
  | 15 => ⟨S32x2048x16x16, .f32⟩
  | 16 => ⟨S32x2048x16x16, .f32⟩
  | 17 => ⟨S32x2048x16x16, .f32⟩
  | 18 => ⟨S32x2048x16x16, .f32⟩
  | 19 => ⟨S32x2048x16x16, .f32⟩
  | 20 => ⟨S32x2048x16x32, .f32⟩
  | 21 => ⟨S32x2048x16x64, .f32⟩
  | 22 => ⟨S32x2048x4x64, .f32⟩
  | 23 => ⟨S_, .f32⟩
  | 24 => ⟨S32x2048x4, .f32⟩
  | 25 => ⟨S32x2048x4x1, .f32⟩
  | 26 => ⟨S_, .f32⟩
  | 27 => ⟨S32x2048x4x1, .f32⟩
  | 28 => ⟨S32x2048x4x1, .f32⟩
  | 29 => ⟨S_, .f32⟩
  | 30 => ⟨S32x2048x4x1, .f32⟩
  | 31 => ⟨S32x2048x4x1, .f32⟩
  | 32 => ⟨S32x2048x4x1, .f32⟩
  | 33 => ⟨S32x2048x4x64, .f32⟩
  | 34 => ⟨S32x2048x4x64, .f32⟩
  | 35 => ⟨S1x1x1x64, .f32⟩
  | 36 => ⟨S32x2048x4x64, .f32⟩
  | 37 => ⟨S32x2048x4x64, .f32⟩
  | 38 => ⟨S2048, .i32⟩
  | 39 => ⟨S_, .i32⟩
  | 40 => ⟨S_, .i32⟩
  | 41 => ⟨S2048, .i32⟩
  | 42 => ⟨S2048, .i32⟩
  | 43 => ⟨S2048, .i32⟩
  | 44 => ⟨S_, .i32⟩
  | 45 => ⟨S2048, .i32⟩
  | 46 => ⟨S2048, .i1⟩
  | 47 => ⟨S2048, .i32⟩
  | 48 => ⟨S2048, .i32⟩
  | 49 => ⟨S_, .i32⟩
  | 50 => ⟨S2048, .i32⟩
  | 51 => ⟨S2048, .i1⟩
  | 52 => ⟨S2048, .i1⟩
  | 53 => ⟨S_, .i32⟩
  | 54 => ⟨S2048, .i32⟩
  | 55 => ⟨S2048, .i32⟩
  | 56 => ⟨S2048, .i32⟩
  | 57 => ⟨S2048, .f32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2048, .i32⟩
  | 65 => ⟨S2048, .i32⟩
  | 66 => ⟨S_, .i32⟩
  | 67 => ⟨S2048, .i32⟩
  | 68 => ⟨S2048, .i1⟩
  | 69 => ⟨S_, .i32⟩
  | 70 => ⟨S2048, .i32⟩
  | 71 => ⟨S2048, .i1⟩
  | 72 => ⟨S_, .i32⟩
  | 73 => ⟨S_, .i1⟩
  | 74 => ⟨S2048, .i1⟩
  | 75 => ⟨S2048, .i1⟩
  | 76 => ⟨S2048, .i1⟩
  | 77 => ⟨S2048, .i32⟩
  | 78 => ⟨S2048, .i32⟩
  | 79 => ⟨S2048, .i32⟩
  | 80 => ⟨S2048, .f32⟩
  | 81 => ⟨S32x2048x4x32, .f32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S2048x1, .f32⟩
  | 91 => ⟨S1x16, .f32⟩
  | 92 => ⟨S2048x16, .f32⟩
  | 93 => ⟨S2048x16, .f32⟩
  | 94 => ⟨S2048x16, .f32⟩
  | 95 => ⟨S2048x16, .f32⟩
  | 96 => ⟨S1x2048x1x16, .f32⟩
  | 97 => ⟨S2048x16, .f32⟩
  | 98 => ⟨S1x2048x1x16, .f32⟩
  | 99 => ⟨S32x2048x4x16, .f32⟩
  | 100 => ⟨S32x2048x4x16, .f32⟩
  | 101 => ⟨S32x2048x4x16, .f32⟩
  | 102 => ⟨S32x2048x4x16, .f32⟩
  | 103 => ⟨S32x2048x4x16, .f32⟩
  | 104 => ⟨S32x2048x4x16, .f32⟩
  | 105 => ⟨S32x2048x4x16, .f32⟩
  | 106 => ⟨S32x2048x4x16, .f32⟩
  | 107 => ⟨S32x2048x4x16, .f32⟩
  | 108 => ⟨S32x2048x4x16, .f32⟩
  | 109 => ⟨S32x2048x4x16, .f32⟩
  | 110 => ⟨S32x2048x4x16, .f32⟩
  | 111 => ⟨S32x2048x4x32, .f32⟩
  | 112 => ⟨S32x2048x4x32, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S2048x1, .f32⟩
  | 122 => ⟨S1x16, .f32⟩
  | 123 => ⟨S2048x16, .f32⟩
  | 124 => ⟨S2048x16, .f32⟩
  | 125 => ⟨S2048x16, .f32⟩
  | 126 => ⟨S2048x16, .f32⟩
  | 127 => ⟨S1x2048x1x16, .f32⟩
  | _ => ⟨S32x2048x1024, .f32⟩

abbrev hbmTy0_2 (i : Nat) : BufTy := match i % 128 with
  | 0 => ⟨S2048x16, .f32⟩
  | 1 => ⟨S1x2048x1x16, .f32⟩
  | 2 => ⟨S32x2048x4x16, .f32⟩
  | 3 => ⟨S32x2048x4x16, .f32⟩
  | 4 => ⟨S32x2048x4x16, .f32⟩
  | 5 => ⟨S32x2048x4x16, .f32⟩
  | 6 => ⟨S32x2048x4x16, .f32⟩
  | 7 => ⟨S32x2048x4x16, .f32⟩
  | 8 => ⟨S32x2048x4x16, .f32⟩
  | 9 => ⟨S32x2048x4x16, .f32⟩
  | 10 => ⟨S32x2048x4x16, .f32⟩
  | 11 => ⟨S32x2048x4x16, .f32⟩
  | 12 => ⟨S32x2048x4x16, .f32⟩
  | 13 => ⟨S32x2048x4x16, .f32⟩
  | 14 => ⟨S32x2048x4x32, .f32⟩
  | 15 => ⟨S32x2048x4x64, .f32⟩
  | 16 => ⟨S32x2048x4x2x64, .f32⟩
  | 17 => ⟨S32x2048x8x64, .f32⟩
  | 18 => ⟨S32x2048x4x2x64, .f32⟩
  | 19 => ⟨S32x2048x8x64, .f32⟩
  | 20 => ⟨S32x2048x32x64, .f32⟩
  | 21 => ⟨S65536x2048, .f32⟩
  | 22 => ⟨S65536x2048, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_1 : Ref sig .tc := ⟨.hbm, 72, rfl⟩
abbrev main_call1_v5 : Ref sig .tc := ⟨.hbm, 73, rfl⟩
abbrev main_call1_v6 : Ref sig .tc := ⟨.hbm, 74, rfl⟩
abbrev main_call1_c_2 : Ref sig .tc := ⟨.hbm, 75, rfl⟩
abbrev main_call1_v7 : Ref sig .tc := ⟨.hbm, 76, rfl⟩
abbrev main_call1_v8 : Ref sig .tc := ⟨.hbm, 77, rfl⟩
abbrev main_call1_c_3 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_6 : Ref sig .tc := ⟨.hbm, 90, rfl⟩
abbrev main_v41 : Ref sig .tc := ⟨.hbm, 91, rfl⟩
abbrev main_v42 : Ref sig .tc := ⟨.hbm, 92, rfl⟩
abbrev main_cst_7 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_8 : Ref sig .tc := ⟨.hbm, 121, rfl⟩
abbrev main_v70 : Ref sig .tc := ⟨.hbm, 122, rfl⟩
abbrev main_v71 : Ref sig .tc := ⟨.hbm, 123, rfl⟩
abbrev main_cst_9 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_10 : Ref sig .tc := ⟨.hbm, 151, rfl⟩
abbrev main_v98 : Ref sig .tc := ⟨.hbm, 152, rfl⟩
abbrev main_v99 : Ref sig .tc := ⟨.hbm, 153, rfl⟩
abbrev main_cst_11 : Ref sig .tc := ⟨.hbm, 154, rfl⟩
abbrev main_v100 : Ref sig .tc := ⟨.hbm, 155, rfl⟩
abbrev main_v101 : Ref sig .tc := ⟨.hbm, 156, rfl⟩
abbrev main_cst_12 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_c_13 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_v6 : Ref sig .tc := ⟨.hbm, 174, rfl⟩
abbrev main_call2_v7 : Ref sig .tc := ⟨.hbm, 175, rfl⟩
abbrev main_call2_v8 : Ref sig .tc := ⟨.hbm, 176, rfl⟩
abbrev main_call2_c : Ref sig .tc := ⟨.hbm, 177, rfl⟩
abbrev main_call2_v9 : Ref sig .tc := ⟨.hbm, 178, rfl⟩
abbrev main_call2_v10 : Ref sig .tc := ⟨.hbm, 179, rfl⟩
abbrev main_call2_v11 : Ref sig .tc := ⟨.hbm, 180, rfl⟩
abbrev main_call2_c_0 : Ref sig .tc := ⟨.hbm, 181, rfl⟩
abbrev main_call2_v12 : Ref sig .tc := ⟨.hbm, 182, rfl⟩
abbrev main_call2_v13 : Ref sig .tc := ⟨.hbm, 183, rfl⟩
abbrev main_v111 : Ref sig .tc := ⟨.hbm, 184, rfl⟩
abbrev main_v112 : Ref sig .tc := ⟨.hbm, 185, rfl⟩
abbrev main_c_14 : Ref sig .tc := ⟨.hbm, 186, rfl⟩
abbrev main_call3_v0 : Ref sig .tc := ⟨.hbm, 187, rfl⟩
abbrev main_call3_c : Ref sig .tc := ⟨.hbm, 188, rfl⟩
abbrev main_call3_v1 : Ref sig .tc := ⟨.hbm, 189, rfl⟩
abbrev main_call3_c_0 : Ref sig .tc := ⟨.hbm, 190, rfl⟩
abbrev main_call3_v2 : Ref sig .tc := ⟨.hbm, 191, rfl⟩
abbrev main_call3_v3 : Ref sig .tc := ⟨.hbm, 192, rfl⟩
abbrev main_call3_v4 : Ref sig .tc := ⟨.hbm, 193, rfl⟩
abbrev main_call3_c_1 : Ref sig .tc := ⟨.hbm, 194, rfl⟩
abbrev main_call3_v5 : Ref sig .tc := ⟨.hbm, 195, rfl⟩
abbrev main_call3_v6 : Ref sig .tc := ⟨.hbm, 196, rfl⟩
abbrev main_call3_c_2 : Ref sig .tc := ⟨.hbm, 197, rfl⟩
abbrev main_call3_v7 : Ref sig .tc := ⟨.hbm, 198, rfl⟩
abbrev main_call3_v8 : Ref sig .tc := ⟨.hbm, 199, rfl⟩
abbrev main_call3_c_3 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_v12 : Ref sig .tc := ⟨.hbm, 204, rfl⟩
abbrev main_call3_v13 : Ref sig .tc := ⟨.hbm, 205, rfl⟩
abbrev main_call3_v14 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_cst_15 : Ref sig .tc := ⟨.hbm, 212, rfl⟩
abbrev main_v118 : Ref sig .tc := ⟨.hbm, 213, rfl⟩
abbrev main_v119 : Ref sig .tc := ⟨.hbm, 214, rfl⟩
abbrev main_cst_16 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_cst_17 : Ref sig .tc := ⟨.hbm, 243, rfl⟩
abbrev main_v147 : Ref sig .tc := ⟨.hbm, 244, rfl⟩
abbrev main_v148 : Ref sig .tc := ⟨.hbm, 245, rfl⟩
abbrev main_cst_18 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩

abbrev nD : Nat := 1
abbrev τ : Topo := Topo.v7x

variable {F : FTy → Type} [FloatOps F]
-- ==== Kernel9.lean ====
abbrev S32x2048x16x64 : Shape := ⟨4, ![32, 2048, 16, 64]⟩
abbrev S32x2048x1024 : Shape := ⟨3, ![32, 2048, 1024]⟩
abbrev S1024 : Shape := ⟨1, ![1024]⟩
abbrev S16x64 : Shape := ⟨2, ![16, 64]⟩
abbrev S1024x1024 : Shape := ⟨2, ![1024, 1024]⟩
abbrev S65536x1024 : Shape := ⟨2, ![65536, 1024]⟩
abbrev S1x1024 : Shape := ⟨2, ![1, 1024]⟩
abbrev S512x1024 : Shape := ⟨2, ![512, 1024]⟩
abbrev S256x256 : Shape := ⟨2, ![256, 256]⟩
abbrev S512x256 : Shape := ⟨2, ![512, 256]⟩

abbrev nBuf : Space → Nat
  | .hbm => 28
  | .vmem => 20
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x16x64, .f32⟩
  | .hbm, ⟨2, _⟩ => ⟨S32x2048x16x64, .f32⟩
  | .hbm, ⟨3, _⟩ => ⟨S32x2048x16x64, .f32⟩
  | .hbm, ⟨4, _⟩ => ⟨S32x2048x16x64, .f32⟩
  | .hbm, ⟨5, _⟩ => ⟨S32x2048x1024, .f32⟩
  | .hbm, ⟨6, _⟩ => ⟨S32x2048x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S1024x1024, .f32⟩
  | .hbm, ⟨11, _⟩ => ⟨S65536x1024, .f32⟩
  | .hbm, ⟨12, _⟩ => ⟨S65536x1024, .f32⟩
  | .hbm, ⟨13, _⟩ => ⟨S65536x1024, .bf16⟩
  | .hbm, ⟨14, _⟩ => ⟨S65536x1024, .f32⟩
  | .hbm, ⟨15, _⟩ => ⟨S65536x1024, .bf16⟩
  | .hbm, ⟨16, _⟩ => ⟨S65536x1024, .f32⟩
  | .hbm, ⟨17, _⟩ => ⟨S65536x1024, .bf16⟩
  | .hbm, ⟨18, _⟩ => ⟨S65536x1024, .f32⟩
  | .hbm, ⟨19, _⟩ => ⟨S65536x1024, .bf16⟩
  | .hbm, ⟨20, _⟩ => ⟨S65536x1024, .f32⟩
  | .hbm, ⟨21, _⟩ => ⟨S65536x1024, .bf16⟩
  | .hbm, ⟨22, _⟩ => ⟨S65536x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1024x1024, .bf16⟩
  | .hbm, ⟨27, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S32x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S32x2048x16x64 : Shape := ⟨4, ![32, 2048, 16, 64]⟩
abbrev S32x2048x1024 : Shape := ⟨3, ![32, 2048, 1024]⟩
abbrev S1024 : Shape := ⟨1, ![1024]⟩
abbrev S16x64 : Shape := ⟨2, ![16, 64]⟩
abbrev S1024x1024 : Shape := ⟨2, ![1024, 1024]⟩
abbrev S_ : Shape := ⟨0, ![]⟩
abbrev S32x2048x16 : Shape := ⟨3, ![32, 2048, 16]⟩
abbrev S32x2048x16x1 : Shape := ⟨4, ![32, 2048, 16, 1]⟩
abbrev S1x1x1024 : Shape := ⟨3, ![1, 1, 1024]⟩
abbrev S1x1x16x64 : Shape := ⟨4, ![1, 1, 16, 64]⟩
abbrev S65536x1024 : Shape := ⟨2, ![65536, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x16x64, .f32⟩
  | .hbm, ⟨2, _⟩ => ⟨S32x2048x16x64, .f32⟩
  | .hbm, ⟨3, _⟩ => ⟨S32x2048x16x64, .f32⟩
  | .hbm, ⟨4, _⟩ => ⟨S32x2048x16x64, .f32⟩
  | .hbm, ⟨5, _⟩ => ⟨S32x2048x1024, .f32⟩
  | .hbm, ⟨6, _⟩ => ⟨S32x2048x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S1024x1024, .f32⟩
  | .hbm, ⟨11, _⟩ => ⟨S_, .f32⟩
  | .hbm, ⟨12, _⟩ => ⟨S32x2048x16, .f32⟩
  | .hbm, ⟨13, _⟩ => ⟨S32x2048x16x1, .f32⟩
  | .hbm, ⟨14, _⟩ => ⟨S_, .f32⟩
  | .hbm, ⟨15, _⟩ => ⟨S32x2048x16x1, .f32⟩
  | .hbm, ⟨16, _⟩ => ⟨S32x2048x16x1, .f32⟩
  | .hbm, ⟨17, _⟩ => ⟨S32x2048x16x64, .f32⟩
  | .hbm, ⟨18, _⟩ => ⟨S32x2048x16x64, .f32⟩
  | .hbm, ⟨19, _⟩ => ⟨S32x2048x16x64, .f32⟩
  | .hbm, ⟨20, _⟩ => ⟨S_, .f32⟩
  | .hbm, ⟨21, _⟩ => ⟨S32x2048x16, .f32⟩
  | .hbm, ⟨22, _⟩ => ⟨S32x2048x16x1, .f32⟩
  | .hbm, ⟨23, _⟩ => ⟨S_, .f32⟩
  | .hbm, ⟨24, _⟩ => ⟨S32x2048x16x1, .f32⟩
  | .hbm, ⟨25, _⟩ => ⟨S32x2048x16x1, .f32⟩
  | .hbm, ⟨26, _⟩ => ⟨S32x2048x16x64, .f32⟩
  | .hbm, ⟨27, _⟩ => ⟨S32x2048x16x64, .f32⟩
  | .hbm, ⟨28, _⟩ => ⟨S_, .f32⟩
  | .hbm, ⟨29, _⟩ => ⟨S32x2048x16x1, .f32⟩
  | .hbm, ⟨30, _⟩ => ⟨S32x2048x16x1, .f32⟩
  | .hbm, ⟨31, _⟩ => ⟨S32x2048x16x1, .f32⟩
  | .hbm, ⟨32, _⟩ => ⟨S32x2048x16x64, .f32⟩
  | .hbm, ⟨33, _⟩ => ⟨S32x2048x16x64, .f32⟩
  | .hbm, ⟨34, _⟩ => ⟨S32x2048x1024, .f32⟩
  | .hbm, ⟨35, _⟩ => ⟨S1x1x1024, .f32⟩
  | .hbm, ⟨36, _⟩ => ⟨S32x2048x1024, .f32⟩
  | .hbm, ⟨37, _⟩ => ⟨S32x2048x1024, .f32⟩
  | .hbm, ⟨38, _⟩ => ⟨S1x1x1024, .f32⟩
  | .hbm, ⟨39, _⟩ => ⟨S32x2048x1024, .f32⟩
  | .hbm, ⟨40, _⟩ => ⟨S32x2048x1024, .f32⟩
  | .hbm, ⟨41, _⟩ => ⟨S32x2048x16x64, .f32⟩
  | .hbm, ⟨42, _⟩ => ⟨S_, .f32⟩
  | .hbm, ⟨43, _⟩ => ⟨S32x2048x16x64, .f32⟩
  | .hbm, ⟨44, _⟩ => ⟨S32x2048x16x64, .f32⟩
  | .hbm, ⟨45, _⟩ => ⟨S32x2048x16x64, .f32⟩
  | .hbm, ⟨46, _⟩ => ⟨S1x1x16x64, .f32⟩
  | .hbm, ⟨47, _⟩ => ⟨S32x2048x16x64, .f32⟩
  | .hbm, ⟨48, _⟩ => ⟨S32x2048x16x64, .f32⟩
  | .hbm, ⟨49, _⟩ => ⟨S_, .f32⟩
  | .hbm, ⟨50, _⟩ => ⟨S32x2048x16, .f32⟩
  | .hbm, ⟨51, _⟩ => ⟨S32x2048x16x1, .f32⟩
  | .hbm, ⟨52, _⟩ => ⟨S32x2048x16x64, .f32⟩
  | .hbm, ⟨53, _⟩ => ⟨S32x2048x16x64, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S65536x1024, .f32⟩
  | _, _ => ⟨S32x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel10Ideal.lean ====
abbrev S32x2048x1024 : Shape := ⟨3, ![32, 2048, 1024]⟩
abbrev S1024 : Shape := ⟨1, ![1024]⟩
abbrev S6x1024 : Shape := ⟨2, ![6, 1024]⟩
abbrev S1024x1024 : Shape := ⟨2, ![1024, 1024]⟩
abbrev S1024x128 : Shape := ⟨2, ![1024, 128]⟩
abbrev S128x1024 : Shape := ⟨2, ![128, 1024]⟩
abbrev S2x1024 : Shape := ⟨2, ![2, 1024]⟩
abbrev S2x1024x64 : Shape := ⟨3, ![2, 1024, 64]⟩
abbrev S2x64x1024 : Shape := ⟨3, ![2, 64, 1024]⟩
abbrev S65536x1024 : Shape := ⟨2, ![65536, 1024]⟩
abbrev S1x1024x64 : Shape := ⟨3, ![1, 1024, 64]⟩
abbrev S1024x64 : Shape := ⟨2, ![1024, 64]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S504x1024 : Shape := ⟨2, ![504, 1024]⟩
abbrev S512x128 : Shape := ⟨2, ![512, 128]⟩
abbrev S256x256 : Shape := ⟨2, ![256, 256]⟩
abbrev S512x256 : Shape := ⟨2, ![512, 256]⟩

abbrev nBuf : Space → Nat
  | .hbm => 51
  | .vmem => 41
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S6x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x128, .f32⟩
  | .hbm, ⟨7, _⟩ => ⟨S128x1024, .f32⟩
  | .hbm, ⟨8, _⟩ => ⟨S1024, .f32⟩
  | .hbm, ⟨9, _⟩ => ⟨S1024, .f32⟩
  | .hbm, ⟨10, _⟩ => ⟨S2x1024, .f32⟩
  | .hbm, ⟨11, _⟩ => ⟨S2x1024x64, .f32⟩
  | .hbm, ⟨12, _⟩ => ⟨S2x64x1024, .f32⟩
  | .hbm, ⟨13, _⟩ => ⟨S2x1024, .f32⟩
  | .hbm, ⟨14, _⟩ => ⟨S2x1024x64, .f32⟩
  | .hbm, ⟨15, _⟩ => ⟨S2x64x1024, .f32⟩
  | .hbm, ⟨16, _⟩ => ⟨S65536x1024, .f32⟩
  | .hbm, ⟨17, _⟩ => ⟨S1x1024x64, .f32⟩
  | .hbm, ⟨18, _⟩ => ⟨S1024x64, .f32⟩
  | .hbm, ⟨19, _⟩ => ⟨S1x1024x64, .f32⟩
  | .hbm, ⟨20, _⟩ => ⟨S1024x64, .f32⟩
  | .hbm, ⟨21, _⟩ => ⟨S1024x128, .f32⟩
  | .hbm, ⟨22, _⟩ => ⟨S1024x128, .bf16⟩
  | .hbm, ⟨23, _⟩ => ⟨S1x1024x64, .f32⟩
  | .hbm, ⟨24, _⟩ => ⟨S1024x64, .f32⟩
  | .hbm, ⟨25, _⟩ => ⟨S1x1024x64, .f32⟩
  | .hbm, ⟨26, _⟩ => ⟨S1024x64, .f32⟩
  | .hbm, ⟨27, _⟩ => ⟨S1024x128, .f32⟩
  | .hbm, ⟨28, _⟩ => ⟨S1024x128, .bf16⟩
  | .hbm, ⟨29, _⟩ => ⟨S128x1024, .f32⟩
  | .hbm, ⟨30, _⟩ => ⟨S128x1024, .bf16⟩
  | .hbm, ⟨31, _⟩ => ⟨S128x1024, .f32⟩
  | .hbm, ⟨32, _⟩ => ⟨S128x1024, .bf16⟩
  | .hbm, ⟨33, _⟩ => ⟨S1x1024, .f32⟩
  | .hbm, ⟨34, _⟩ => ⟨S1024x1024, .bf16⟩
  | .hbm, ⟨35, _⟩ => ⟨S1024x1024, .bf16⟩
  | .hbm, ⟨36, _⟩ => ⟨S1024x1024, .bf16⟩
  | .hbm, ⟨37, _⟩ => ⟨S1024x128, .bf16⟩
  | .hbm, ⟨38, _⟩ => ⟨S128x1024, .bf16⟩
  | .hbm, ⟨39, _⟩ => ⟨S1x1024, .f32⟩
  | .hbm, ⟨40, _⟩ => ⟨S1x1024, .f32⟩
  | .hbm, ⟨41, _⟩ => ⟨S65536x1024, .bf16⟩
  | .hbm, ⟨42, _⟩ => ⟨S65536x1024, .bf16⟩
  | .hbm, ⟨43, _⟩ => ⟨S65536x1024, .bf16⟩
  | .hbm, ⟨44, _⟩ => ⟨S65536x1024, .bf16⟩
  | .hbm, ⟨45, _⟩ => ⟨S65536x1024, .bf16⟩
  | .hbm, ⟨46, _⟩ => ⟨S65536x1024, .bf16⟩
  | .hbm, ⟨47, _⟩ => ⟨S65536x1024, .bf16⟩
  | .hbm, ⟨48, _⟩ => ⟨S65536x1024, .bf16⟩
  | .hbm, ⟨49, _⟩ => ⟨S65536x1024, .f32⟩
  | .hbm, ⟨50, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S6x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x128, .bf16⟩
  | .local _ .vmem, ⟨12, _⟩ => ⟨S128x1024, .bf16⟩
  | .local _ .vmem, ⟨13, _⟩ => ⟨S1024x128, .bf16⟩
  | .local _ .vmem, ⟨14, _⟩ => ⟨S128x1024, .bf16⟩
  | .local _ .vmem, ⟨15, _⟩ => ⟨S1024x128, .bf16⟩
  | .local _ .vmem, ⟨16, _⟩ => ⟨S128x1024, .bf16⟩
  | .local _ .vmem, ⟨17, _⟩ => ⟨S2x1024, .f32⟩
  | .local _ .vmem, ⟨18, _⟩ => ⟨S2x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev main_v25_4 : Ref sig .tc := ⟨.hbm, 45, rfl⟩
abbrev main_v25_5 : Ref sig .tc := ⟨.hbm, 46, rfl⟩
abbrev main_v25_6 : Ref sig .tc := ⟨.hbm, 47, rfl⟩
abbrev main_v25_7 : Ref sig .tc := ⟨.hbm, 48, rfl⟩
abbrev main_v25_8 : Ref sig .tc := ⟨.hbm, 49, rfl⟩
abbrev main_v25_9 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40

abbrev nD : Nat := 1
abbrev τ : Topo := Topo.v7x

variable {F : FTy → Type} [FloatOps F] [Named F]

def κ : String → Option EReal := fun
  | "tiny" => some ((5316911940649 / 5316911983139663491615228241121378304 : ℝ) : EReal)
  | _ => none

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Reference10Ideal.lean ====
abbrev S32x2048x1024 : Shape := ⟨3, ![32, 2048, 1024]⟩
abbrev S1024 : Shape := ⟨1, ![1024]⟩
abbrev S6x1024 : Shape := ⟨2, ![6, 1024]⟩
abbrev S1024x1024 : Shape := ⟨2, ![1024, 1024]⟩
abbrev S1024x128 : Shape := ⟨2, ![1024, 128]⟩
abbrev S128x1024 : Shape := ⟨2, ![128, 1024]⟩
abbrev S2x1024 : Shape := ⟨2, ![2, 1024]⟩
abbrev S2x1024x64 : Shape := ⟨3, ![2, 1024, 64]⟩
abbrev S2x64x1024 : Shape := ⟨3, ![2, 64, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2050x1024 : Shape := ⟨3, ![32, 2050, 1024]⟩
abbrev S1x1024 : Shape := ⟨2, ![1, 1024]⟩
abbrev S32x2048x128 : Shape := ⟨3, ![32, 2048, 128]⟩
abbrev S32x2048x16x64 : Shape := ⟨4, ![32, 2048, 16, 64]⟩
abbrev S32x2048x16 : Shape := ⟨3, ![32, 2048, 16]⟩
abbrev S32x2048x16x1 : Shape := ⟨4, ![32, 2048, 16, 1]⟩
abbrev S1x1024x64 : Shape := ⟨3, ![1, 1024, 64]⟩
abbrev S1024x64 : Shape := ⟨2, ![1024, 64]⟩
abbrev S32x2048x64 : Shape := ⟨3, ![32, 2048, 64]⟩
abbrev S1x64x1024 : Shape := ⟨3, ![1, 64, 1024]⟩
abbrev S64x1024 : Shape := ⟨2, ![64, 1024]⟩
abbrev S65536x1024 : Shape := ⟨2, ![65536, 1024]⟩

abbrev nBuf : Space → Nat
  | .hbm => 247
  | .vmem => 0
  | .smem => 0
  | _ => 0

abbrev hbmTy0_0 (i : Nat) : BufTy := match i % 128 with
  | 0 => ⟨S32x2048x1024, .f32⟩
  | 1 => ⟨S1024, .f32⟩
  | 2 => ⟨S6x1024, .f32⟩
  | 3 => ⟨S1024x1024, .f32⟩
  | 4 => ⟨S1024x1024, .f32⟩
  | 5 => ⟨S1024x1024, .f32⟩
  | 6 => ⟨S1024x128, .f32⟩
  | 7 => ⟨S128x1024, .f32⟩
  | 8 => ⟨S1024, .f32⟩
  | 9 => ⟨S1024, .f32⟩
  | 10 => ⟨S2x1024, .f32⟩
  | 11 => ⟨S2x1024x64, .f32⟩
  | 12 => ⟨S2x64x1024, .f32⟩
  | 13 => ⟨S2x1024, .f32⟩
  | 14 => ⟨S2x1024x64, .f32⟩
  | 15 => ⟨S2x64x1024, .f32⟩
  | 16 => ⟨S32x2048x1024, .f32⟩
  | 17 => ⟨S_, .f32⟩
  | 18 => ⟨S32x2048, .f32⟩
  | 19 => ⟨S32x2048x1, .f32⟩
  | 20 => ⟨S_, .f32⟩
  | 21 => ⟨S32x2048x1, .f32⟩
  | 22 => ⟨S32x2048x1, .f32⟩
  | 23 => ⟨S_, .f32⟩
  | 24 => ⟨S32x2048x1, .f32⟩
  | 25 => ⟨S32x2048x1, .f32⟩
  | 26 => ⟨S32x2048x1, .f32⟩
  | 27 => ⟨S32x2048x1024, .f32⟩
  | 28 => ⟨S32x2048x1024, .f32⟩
  | 29 => ⟨S1x1x1024, .f32⟩
  | 30 => ⟨S32x2048x1024, .f32⟩
  | 31 => ⟨S32x2048x1024, .f32⟩
  | 32 => ⟨S_, .i32⟩
  | 33 => ⟨S_, .f32⟩
  | 34 => ⟨S32x2050x1024, .f32⟩
  | 35 => ⟨S32x2048x1024, .f32⟩
  | 36 => ⟨S32x2048x1024, .f32⟩
  | 37 => ⟨S32x2048x1024, .f32⟩
  | 38 => ⟨S_, .f32⟩
  | 39 => ⟨S32x2048x1024, .f32⟩
  | 40 => ⟨S32x2048x1024, .f32⟩
  | 41 => ⟨S32x2048x1024, .f32⟩
  | 42 => ⟨S1x1024, .f32⟩
  | 43 => ⟨S1024, .f32⟩
  | 44 => ⟨S1x1x1024, .f32⟩
  | 45 => ⟨S32x2048x1024, .f32⟩
  | 46 => ⟨S32x2048x1024, .f32⟩
  | 47 => ⟨S32x2048x1024, .f32⟩
  | 48 => ⟨S1x1024, .f32⟩
  | 49 => ⟨S1024, .f32⟩
  | 50 => ⟨S1x1x1024, .f32⟩
  | 51 => ⟨S32x2048x1024, .f32⟩
  | 52 => ⟨S32x2048x1024, .f32⟩
  | 53 => ⟨S32x2048x1024, .f32⟩
  | 54 => ⟨S1x1024, .f32⟩
  | 55 => ⟨S1024, .f32⟩
  | 56 => ⟨S1x1x1024, .f32⟩
  | 57 => ⟨S32x2048x1024, .f32⟩
  | 58 => ⟨S32x2048x1024, .f32⟩
  | 59 => ⟨S32x2048x1024, .f32⟩
  | 60 => ⟨S1x1024, .f32⟩
  | 61 => ⟨S1024, .f32⟩
  | 62 => ⟨S1x1x1024, .f32⟩
  | 63 => ⟨S32x2048x1024, .f32⟩
  | 64 => ⟨S32x2048x1024, .f32⟩
  | 65 => ⟨S32x2048x1024, .f32⟩
  | 66 => ⟨S1x1024, .f32⟩
  | 67 => ⟨S1024, .f32⟩
  | 68 => ⟨S1x1x1024, .f32⟩
  | 69 => ⟨S32x2048x1024, .f32⟩
  | 70 => ⟨S32x2048x1024, .f32⟩
  | 71 => ⟨S32x2048x1024, .f32⟩
  | 72 => ⟨S1x1024, .f32⟩
  | 73 => ⟨S1024, .f32⟩
  | 74 => ⟨S1x1x1024, .f32⟩
  | 75 => ⟨S32x2048x1024, .f32⟩
  | 76 => ⟨S32x2048x1024, .f32⟩
  | 77 => ⟨S32x2048x1024, .f32⟩
  | 78 => ⟨S32x2048x1024, .f32⟩
  | 79 => ⟨S32x2048x1024, .f32⟩
  | 80 => ⟨S32x2048x1024, .f32⟩
  | 81 => ⟨S32x2048x128, .f32⟩
  | 82 => ⟨S32x2048x128, .f32⟩
  | 83 => ⟨S32x2048x128, .f32⟩
  | 84 => ⟨S_, .f32⟩
  | 85 => ⟨S32x2048x128, .f32⟩
  | 86 => ⟨S32x2048x128, .f32⟩
  | 87 => ⟨S_, .f32⟩
  | 88 => ⟨S32x2048x128, .f32⟩
  | 89 => ⟨S32x2048x128, .f32⟩
  | 90 => ⟨S32x2048x1024, .f32⟩
  | 91 => ⟨S1x1x1024, .f32⟩
  | 92 => ⟨S32x2048x1024, .f32⟩
  | 93 => ⟨S32x2048x1024, .f32⟩
  | 94 => ⟨S32x2048x16x64, .f32⟩
  | 95 => ⟨S32x2048x16x64, .f32⟩
  | 96 => ⟨S_, .f32⟩
  | 97 => ⟨S32x2048x16, .f32⟩
  | 98 => ⟨S32x2048x16x1, .f32⟩
  | 99 => ⟨S32x2048x16x1, .f32⟩
  | 100 => ⟨S_, .f32⟩
  | 101 => ⟨S32x2048x16x1, .f32⟩
  | 102 => ⟨S32x2048x16x1, .f32⟩
  | 103 => ⟨S32x2048x16x64, .f32⟩
  | 104 => ⟨S32x2048x16x64, .f32⟩
  | 105 => ⟨S1x1024, .f32⟩
  | 106 => ⟨S1024, .f32⟩
  | 107 => ⟨S1x1024x64, .f32⟩
  | 108 => ⟨S1024x64, .f32⟩
  | 109 => ⟨S32x2048x64, .f32⟩
  | 110 => ⟨S32x2048x64, .f32⟩
  | 111 => ⟨S1x64x1024, .f32⟩
  | 112 => ⟨S64x1024, .f32⟩
  | 113 => ⟨S32x2048x1024, .f32⟩
  | 114 => ⟨S1x1x1024, .f32⟩
  | 115 => ⟨S32x2048x1024, .f32⟩
  | 116 => ⟨S32x2048x1024, .f32⟩
  | 117 => ⟨S32x2048x1024, .f32⟩
  | 118 => ⟨S_, .f32⟩
  | 119 => ⟨S32x2048x1024, .f32⟩
  | 120 => ⟨S32x2048x1024, .f32⟩
  | 121 => ⟨S32x2048x1024, .f32⟩
  | 122 => ⟨S32x2048x1024, .f32⟩
  | 123 => ⟨S32x2048x1024, .i1⟩
  | 124 => ⟨S32x2048x1024, .f32⟩
  | 125 => ⟨S32x2048x1024, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S32x2048x1024, .f32⟩
  | 1 => ⟨S32x2048x1024, .f32⟩
  | 2 => ⟨S32x2048x1024, .f32⟩
  | 3 => ⟨S32x2048x1024, .f32⟩
  | 4 => ⟨S32x2048x1024, .f32⟩
  | 5 => ⟨S_, .f32⟩
  | 6 => ⟨S32x2048x1024, .f32⟩
  | 7 => ⟨S32x2048x1024, .f32⟩
  | 8 => ⟨S1x1024, .f32⟩
  | 9 => ⟨S1024, .f32⟩
  | 10 => ⟨S1x1024x64, .f32⟩
  | 11 => ⟨S1024x64, .f32⟩
  | 12 => ⟨S32x2048x64, .f32⟩
  | 13 => ⟨S1x64x1024, .f32⟩
  | 14 => ⟨S64x1024, .f32⟩
  | 15 => ⟨S32x2048x1024, .f32⟩
  | 16 => ⟨S1x1x1024, .f32⟩
  | 17 => ⟨S32x2048x1024, .f32⟩
  | 18 => ⟨S32x2048x1024, .f32⟩
  | 19 => ⟨S32x2048x1024, .f32⟩
  | 20 => ⟨S32x2048x1024, .f32⟩
  | 21 => ⟨S_, .f32⟩
  | 22 => ⟨S32x2048x1024, .f32⟩
  | 23 => ⟨S32x2048x1024, .f32⟩
  | 24 => ⟨S_, .f32⟩
  | 25 => ⟨S32x2048x1024, .f32⟩
  | 26 => ⟨S32x2048x1024, .f32⟩
  | 27 => ⟨S_, .f32⟩
  | 28 => ⟨S32x2048x1024, .f32⟩
  | 29 => ⟨S32x2048x1024, .f32⟩
  | 30 => ⟨S1x1x1024, .f32⟩
  | 31 => ⟨S32x2048x1024, .f32⟩
  | 32 => ⟨S32x2048x1024, .f32⟩
  | 33 => ⟨S_, .f32⟩
  | 34 => ⟨S32x2048x1024, .f32⟩
  | 35 => ⟨S32x2048x1024, .f32⟩
  | 36 => ⟨S32x2048x1024, .f32⟩
  | 37 => ⟨S32x2048x1024, .f32⟩
  | 38 => ⟨S32x2048x1024, .f32⟩
  | 39 => ⟨S1x1024, .f32⟩
  | 40 => ⟨S1024, .f32⟩
  | 41 => ⟨S1x1024x64, .f32⟩
  | 42 => ⟨S1024x64, .f32⟩
  | 43 => ⟨S32x2048x64, .f32⟩
  | 44 => ⟨S32x2048x64, .f32⟩
  | 45 => ⟨S1x64x1024, .f32⟩
  | 46 => ⟨S64x1024, .f32⟩
  | 47 => ⟨S32x2048x1024, .f32⟩
  | 48 => ⟨S1x1x1024, .f32⟩
  | 49 => ⟨S32x2048x1024, .f32⟩
  | 50 => ⟨S32x2048x1024, .f32⟩
  | 51 => ⟨S32x2048x1024, .f32⟩
  | 52 => ⟨S_, .f32⟩
  | 53 => ⟨S32x2048x1024, .f32⟩
  | 54 => ⟨S32x2048x1024, .f32⟩
  | 55 => ⟨S32x2048x1024, .f32⟩
  | 56 => ⟨S32x2048x1024, .f32⟩
  | 57 => ⟨S32x2048x1024, .i1⟩
  | 58 => ⟨S32x2048x1024, .f32⟩
  | 59 => ⟨S32x2048x1024, .f32⟩
  | 60 => ⟨S32x2048x1024, .f32⟩
  | 61 => ⟨S32x2048x1024, .f32⟩
  | 62 => ⟨S32x2048x1024, .f32⟩
  | 63 => ⟨S32x2048x1024, .f32⟩
  | 64 => ⟨S32x2048x1024, .f32⟩
  | 65 => ⟨S32x2048x1024, .f32⟩
  | 66 => ⟨S32x2048x1024, .f32⟩
  | 67 => ⟨S_, .f32⟩
  | 68 => ⟨S32x2048x1024, .f32⟩
  | 69 => ⟨S32x2048x1024, .f32⟩
  | 70 => ⟨S1x1024, .f32⟩
  | 71 => ⟨S1024, .f32⟩
  | 72 => ⟨S1x1024x64, .f32⟩
  | 73 => ⟨S1024x64, .f32⟩
  | 74 => ⟨S32x2048x64, .f32⟩
  | 75 => ⟨S1x64x1024, .f32⟩
  | 76 => ⟨S64x1024, .f32⟩
  | 77 => ⟨S32x2048x1024, .f32⟩
  | 78 => ⟨S1x1x1024, .f32⟩
  | 79 => ⟨S32x2048x1024, .f32⟩
  | 80 => ⟨S32x2048x1024, .f32⟩
  | 81 => ⟨S32x2048x1024, .f32⟩
  | 82 => ⟨S32x2048x1024, .f32⟩
  | 83 => ⟨S_, .f32⟩
  | 84 => ⟨S32x2048x1024, .f32⟩
  | 85 => ⟨S32x2048x1024, .f32⟩
  | 86 => ⟨S_, .f32⟩
  | 87 => ⟨S32x2048x1024, .f32⟩
  | 88 => ⟨S32x2048x1024, .f32⟩
  | 89 => ⟨S_, .f32⟩
  | 90 => ⟨S32x2048x1024, .f32⟩
  | 91 => ⟨S32x2048x1024, .f32⟩
  | 92 => ⟨S1x1x1024, .f32⟩
  | 93 => ⟨S32x2048x1024, .f32⟩
  | 94 => ⟨S32x2048x1024, .f32⟩
  | 95 => ⟨S_, .f32⟩
  | 96 => ⟨S32x2048x1024, .f32⟩
  | 97 => ⟨S32x2048x1024, .f32⟩
  | 98 => ⟨S32x2048x1024, .f32⟩
  | 99 => ⟨S32x2048x1024, .f32⟩
  | 100 => ⟨S32x2048x1024, .f32⟩
  | 101 => ⟨S65536x1024, .f32⟩
  | 102 => ⟨S65536x1024, .bf16⟩
  | 103 => ⟨S65536x1024, .f32⟩
  | 104 => ⟨S65536x1024, .bf16⟩
  | 105 => ⟨S65536x1024, .f32⟩
  | 106 => ⟨S65536x1024, .bf16⟩
  | 107 => ⟨S65536x1024, .f32⟩
  | 108 => ⟨S65536x1024, .bf16⟩
  | 109 => ⟨S65536x1024, .f32⟩
  | 110 => ⟨S65536x1024, .bf16⟩
  | 111 => ⟨S65536x1024, .f32⟩
  | 112 => ⟨S65536x1024, .bf16⟩
  | 113 => ⟨S65536x1024, .f32⟩
  | 114 => ⟨S65536x1024, .bf16⟩
  | 115 => ⟨S65536x1024, .f32⟩
  | 116 => ⟨S65536x1024, .bf16⟩
  | 117 => ⟨S65536x1024, .f32⟩
  | 118 => ⟨S65536x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_call0_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_3 : Ref sig .tc := ⟨.hbm, 84, rfl⟩
abbrev main_v62 : Ref sig .tc := ⟨.hbm, 85, rfl⟩
abbrev main_v63 : Ref sig .tc := ⟨.hbm, 86, rfl⟩
abbrev main_cst_4 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_5 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_6 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call1_cst : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_v7 : Ref sig .tc := ⟨.hbm, 126, rfl⟩
abbrev main_call1_v8 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_v92 : Ref sig .tc := ⟨.hbm, 131, rfl⟩
abbrev main_v93 : Ref sig .tc := ⟨.hbm, 132, rfl⟩
abbrev main_cst_7 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_8 : Ref sig .tc := ⟨.hbm, 149, rfl⟩
abbrev main_v109 : Ref sig .tc := ⟨.hbm, 150, rfl⟩
abbrev main_v110 : Ref sig .tc := ⟨.hbm, 151, rfl⟩
abbrev main_cst_9 : Ref sig .tc := ⟨.hbm, 152, rfl⟩
abbrev main_v111 : Ref sig .tc := ⟨.hbm, 153, rfl⟩
abbrev main_v112 : Ref sig .tc := ⟨.hbm, 154, rfl⟩
abbrev main_cst_10 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_11 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_call2_cst : Ref sig .tc := ⟨.hbm, 180, rfl⟩
abbrev main_call2_v0 : Ref sig .tc := ⟨.hbm, 181, rfl⟩
abbrev main_call2_v1 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_call2_v5 : Ref sig .tc := ⟨.hbm, 186, rfl⟩
abbrev main_call2_v6 : Ref sig .tc := ⟨.hbm, 187, rfl⟩
abbrev main_call2_v7 : Ref sig .tc := ⟨.hbm, 188, rfl⟩
abbrev main_call2_v8 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_v136 : Ref sig .tc := ⟨.hbm, 193, rfl⟩
abbrev main_v137 : Ref sig .tc := ⟨.hbm, 194, rfl⟩
abbrev main_cst_12 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_cst_13 : Ref sig .tc := ⟨.hbm, 211, rfl⟩
abbrev main_v153 : Ref sig .tc := ⟨.hbm, 212, rfl⟩
abbrev main_v154 : Ref sig .tc := ⟨.hbm, 213, rfl⟩
abbrev main_cst_14 : Ref sig .tc := ⟨.hbm, 214, rfl⟩
abbrev main_v155 : Ref sig .tc := ⟨.hbm, 215, rfl⟩
abbrev main_v156 : Ref sig .tc := ⟨.hbm, 216, rfl⟩
abbrev main_cst_15 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_16 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩

abbrev nD : Nat := 1
abbrev τ : Topo := Topo.v7x

variable {F : FTy → Type} [FloatOps F]
-- ==== Proof.Softmax.lean ====
/- Softmax over the extended reals, as the attention kernel and as its reference write it. -/
module

public import Idealize.ShloMosaic.PureOps
public import Idealize.ShloMosaic.PureOps.Ideal
public import Idealize.ShloMosaic.PureOps.Ideal.Laws

@[expose] public section

noncomputable section

namespace Cert.Softmax

open Idealize.ShloMosaic

/-- A finite sum of reals, taken among the extended reals, is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor moves into a finite sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The largest of finitely many reals, folded from minus infinity, is a real that none of them exceeds. -/
theorem exists_fold_max {ι : Type} [Fintype ι] [Nonempty ι] (f : ι → ℝ) :
    ∃ M : ℝ, (Finset.univ : Finset ι).fold max (⊥ : EReal) (fun i => ((f i : ℝ) : EReal)) = (M : EReal) := by
  obtain ⟨i, -, hi⟩ := Finset.exists_max_image Finset.univ f Finset.univ_nonempty
  refine ⟨f i, le_antisymm ?_ ?_⟩
  · exact Finset.fold_max_le _ |>.mpr ⟨bot_le, fun j hj => EReal.coe_le_coe_iff.mpr (hi j hj)⟩
  · exact Finset.le_fold_max _ |>.mpr (Or.inr ⟨i, Finset.mem_univ i, le_rfl⟩)

/-- Scaling by a positive real commutes with the largest of finitely many extended reals. -/
theorem fold_max_mul {ι : Type} (s : Finset ι) (f : ι → EReal) (c : ℝ) (hc : 0 < c) :
    s.fold max (⊥ : EReal) (fun i => f i * (c : EReal)) = s.fold max (⊥ : EReal) f * (c : EReal) := by
  classical
  have hm : Monotone fun x : EReal => x * (c : EReal) := fun x y h =>
    mul_le_mul_of_nonneg_right h (EReal.coe_nonneg.mpr hc.le)
  induction s using Finset.induction_on with
  | empty => rw [Finset.fold_empty, Finset.fold_empty, EReal.bot_mul_coe_of_pos hc]
  | insert a s ha ih => rw [Finset.fold_insert ha, Finset.fold_insert ha, ih]; exact (hm.map_max).symm

/-- The factor the kernel scales its queries by: an eighth, over the logarithm of two. -/
def scale : ℝ := 1 / 8 * (Real.log 2)⁻¹

theorem scale_pos : 0 < scale := mul_pos (by norm_num) (inv_pos.mpr (Real.log_pos (by norm_num)))

/-- Two to a power scaled by `scale` is the exponential of an eighth of it. -/
theorem exp2_scale (x y : ℝ) :
    Ideal.exp2 ((x : EReal) * (scale : EReal) - (y : EReal) * (scale : EReal)) = Ideal.exp ((x : EReal) * ((1 / 8 : ℝ) : EReal) - (y : EReal) * ((1 / 8 : ℝ) : EReal)) := by
  rw [← EReal.coe_mul, ← EReal.coe_mul, ← EReal.coe_mul, ← EReal.coe_mul, ← EReal.coe_sub, ← EReal.coe_sub, Ideal.exp2_coe, Ideal.exp_coe]
  congr 1
  have h2 : Real.log 2 ≠ 0 := (Real.log_pos (by norm_num)).ne'
  show (2 : ℝ) ^ (x * scale - y * scale) = _
  rw [Real.rpow_def_of_pos (by norm_num)]
  congr 1
  unfold scale
  field_simp

/-- One row of attention at one output column, as the kernel computes it from scores `t` before scaling and values `v`:
    powers of two of the scaled scores less their largest, the values summed with these, times the reciprocal of their sum. -/
def kernelRow {ι : Type} [Fintype ι] (t v : ι → EReal) : EReal :=
  let m := (Finset.univ : Finset ι).fold max (⊥ : EReal) (fun i => t i * (scale : EReal))
  (∑ i, Ideal.exp2 (t i * (scale : EReal) - m) * v i) * Ideal.div 1 (∑ i, Ideal.exp2 (t i * (scale : EReal) - m))

/-- The same row as the reference computes it: the softmax of an eighth of the scores, then the values summed with it. -/
def referenceRow {ι : Type} [Fintype ι] (t v : ι → EReal) : EReal :=
  let m := (Finset.univ : Finset ι).fold max (⊥ : EReal) (fun i => t i * ((1 / 8 : ℝ) : EReal))
  ∑ i, v i * Ideal.div (Ideal.exp (t i * ((1 / 8 : ℝ) : EReal) - m)) (∑ j, Ideal.exp (t j * ((1 / 8 : ℝ) : EReal) - m))

/-- For scores that are real numbers the two agree, whatever the values. -/
theorem kernelRow_eq {ι : Type} [Fintype ι] [Nonempty ι] (t : ι → ℝ) (v : ι → EReal) :
    kernelRow (fun i => (t i : EReal)) v = referenceRow (fun i => (t i : EReal)) v := by
  obtain ⟨M, hM⟩ := exists_fold_max t
  unfold kernelRow referenceRow
  simp only [fold_max_mul _ _ _ scale_pos, fold_max_mul _ _ _ (show (0 : ℝ) < 1 / 8 by norm_num), hM, exp2_scale]
  have he : ∀ i, Ideal.exp ((t i : EReal) * ((1 / 8 : ℝ) : EReal) - (M : EReal) * ((1 / 8 : ℝ) : EReal))
      = ((Real.exp (t i * (1 / 8) - M * (1 / 8)) : ℝ) : EReal) := fun i => by
    rw [← EReal.coe_mul, ← EReal.coe_mul, ← EReal.coe_sub, Ideal.exp_coe]
  simp only [he, sum_coe]
  generalize hL : (∑ i, Real.exp (t i * (1 / 8) - M * (1 / 8))) = L
  have hLpos : 0 < L := hL ▸ Finset.sum_pos (fun i _ => Real.exp_pos _) Finset.univ_nonempty
  have hL0 : ((L : ℝ) : EReal) ≠ 0 := EReal.coe_ne_zero.mpr hLpos.ne'
  simp only [Ideal.div, if_neg hL0, one_mul]
  rw [← EReal.coe_inv, sum_mul_coe _ _ _ (inv_nonneg.mpr hLpos.le)]
  refine Finset.sum_congr rfl fun i _ => ?_
  rw [mul_comm _ (v i), mul_assoc]

end Cert.Softmax

end
-- ==== Proof.GqaTile.lean ====
/- One tile of the grouped-query attention kernel read at an index. -/
module

public import proofs.«01_k».proof.Proof.Softmax
public import proofs.«01_k».proof.Proof.Gen.KernelIdeal.Skeleton
public import Idealize.ShloMosaic.Lib.Pipeline.Value
public import Idealize.ShloMosaic.Lib.ValueIdx
public import Idealize.ShloMosaic.Lib.IdealHost
public import Idealize.ShloMosaic.PureOps.IdealRules

@[expose] public section

noncomputable section

namespace Cert.GqaTile

open Cert.KernelIdeal Cert.KernelIdeal.Gen Cert.Softmax Idealize.ShloMosaic Idealize.ShloMosaic.ValueIdx

/-- Rows of 128 numbers against rows of 128 numbers: the products of the two rows, summed. -/
theorem qk_apply (l : FVec Ideal S256x128 .bf16) (r : FVec Ideal S2048x128 .bf16) (a : Fin 256) (s : Fin 2048) :
    matmul dot_S256x128_S2048x128_S256x2048_1_1_0_0_n_n none l r (constant S256x2048 .f32 0x00000000#32) (ix2 a s)
      = ∑ d : Fin 128, l (ix2 a d) * r (ix2 s d) := by
  simp only [matmul]
  rw [Ideal.matmul_constant_zero_apply, ← Equiv.sum_comp (contrEquiv1 dot_S256x128_S2048x128_S256x2048_1_1_0_0_n_n 128 rfl rfl).symm]
  refine Finset.sum_congr rfl fun d _ => ?_
  have hd := contrEquiv1_symm_val dot_S256x128_S2048x128_S256x2048_1_1_0_0_n_n 128 rfl rfl d
  congr 1 <;> refine congrArg _ (funext fun x => Fin.ext ?_)
  · match x with
    | ⟨0, _⟩ => rfl
    | ⟨1, _⟩ => exact hd
  · match x with
    | ⟨0, _⟩ => rfl
    | ⟨1, _⟩ => exact hd

/-- Rows of 2048 numbers against columns of 2048 numbers. -/
theorem pv_apply (l : FVec Ideal S256x2048 .bf16) (r : FVec Ideal S2048x128 .bf16) (a : Fin 256) (c : Fin 128) :
    matmul dot_S256x2048_S2048x128_S256x128_1_0_0_1_n_n none l r (constant S256x128 .f32 0x00000000#32) (ix2 a c)
      = ∑ s : Fin 2048, l (ix2 a s) * r (ix2 s c) := by
  simp only [matmul]
  rw [Ideal.matmul_constant_zero_apply, ← Equiv.sum_comp (contrEquiv1 dot_S256x2048_S2048x128_S256x128_1_0_0_1_n_n 2048 rfl rfl).symm]
  refine Finset.sum_congr rfl fun d _ => ?_
  have hd := contrEquiv1_symm_val dot_S256x2048_S2048x128_S256x128_1_0_0_1_n_n 2048 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- A block of 2048 rows without its leading unit axis. -/
theorem kv_apply (k : Vec Ideal S1x2048x128 .bf16) (h : S1x2048x128.ShapeCasts S2048x128) (s : Fin 2048) (d : Fin 128) :
    shapeCast S2048x128 k h (ix2 s d) = k (ix3 0 s d) :=
  shapeCast_apply k h _ _ (by rw [Shape.rowMajor_val_three, Shape.rowMajor_val_two]; show (0 * 2048 + s.val) * 128 + d.val = s.val * 128 + d.val; omega)

/-- A tile of 128 query rows without its leading unit axis. -/
theorem q_apply (q : Vec Ideal S1x128x128 .bf16) (h : S1x128x128.ShapeCasts S128x128) (r : Fin 128) (d : Fin 128) :
    shapeCast S128x128 q h (ix2 r d) = q (ix3 0 r d) :=
  shapeCast_apply q h _ _ (by rw [Shape.rowMajor_val_three, Shape.rowMajor_val_two]; show (0 * 128 + r.val) * 128 + d.val = r.val * 128 + d.val; omega)

/-- A tile of 128 result rows with a leading unit axis. -/
theorem o_apply (x : FVec Ideal S128x128 .bf16) (h : S128x128.ShapeCasts S1x128x128) (r : Fin 128) (d : Fin 128) :
    shapeCast S1x128x128 x h (ix3 0 r d) = x (ix2 r d) :=
  shapeCast_apply x h _ _ (by rw [Shape.rowMajor_val_three, Shape.rowMajor_val_two]; show r.val * 128 + d.val = (0 * 128 + r.val) * 128 + d.val; omega)

/-- The mask of the lower 64 lanes. -/
theorem mask_apply (r d : Fin 128) : k0_pay4 (ix2 r d) = if d.val < 64 then 1#1 else 0#1 := by
  show BitVec.ofBool ((iota .tc S128x128 32 [1] iota_S128x128_d1_w32 (ix2 r d)).slt 64#32) = _
  rw [iota_single_apply]
  show BitVec.ofBool ((BitVec.ofNat 32 d.val).slt 64#32) = _
  have hd := d.isLt
  have h1 : (BitVec.ofNat 32 d.val).toInt = (d.val : Int) := by
    rw [BitVec.toInt_eq_toNat_of_lt] <;> simp <;> omega
  have h2 : ((BitVec.ofNat 32 d.val).slt 64#32) = decide (d.val < 64) := by
    rw [BitVec.slt_eq_decide, h1]; simp
  rw [h2]
  by_cases h : d.val < 64 <;> simp [h]

/-- The constant the queries are scaled by, at the ideal values. -/
theorem scale_named : (Named.named κ "qscale" 0x3E38AA3B#32 : Ideal .f32) = ((scale : ℝ) : EReal) :=
  IdealRules.named_const.ideal_named_scalar _ _ _ _ rfl

/-- The 256 stacked rows of one tile's scaled queries: the first 128 hold the lower 64 lanes, the others the upper 64. -/
def stacked (q : Vec Ideal S1x128x128 .bf16) : FVec Ideal S256x128 .bf16 :=
  have x : FVec Ideal S128x128 .bf16 := truncf .bf16 (mulf (extf .f32 (shapeCast S128x128 q shapeCasts_S1x128x128_S128x128) bitsLt_bf16_f32) (broadcast S128x128 (Named.named κ "qscale" 0x3E38AA3B#32))) bitsLt_bf16_f32
  have z : FVec Ideal S128x128 .bf16 := broadcast S128x128 (Scalar.ofBits .bf16 0x0000#16)
  concatenate S256x128 0 [⟨S128x128, select k0_pay4 x z⟩, ⟨S128x128, select k0_pay4 z x⟩] concatenates_S128x128_S128x128_S256x128_d0

theorem stacked_lo (q : Vec Ideal S1x128x128 .bf16) (r d : Fin 128) :
    stacked q (ix2 ⟨r.val, by omega⟩ d) = if d.val < 64 then q (ix3 0 r d) * (scale : EReal) else 0 := by
  unfold stacked
  refine (concatenate_pair_apply_left (t := S256x128) (s₁ := S128x128) (s₂ := S128x128) 0 _ _ _ _ rfl (ix2 r d) (fun | ⟨0, _⟩ => rfl | ⟨1, _⟩ => rfl)).trans ?_
  rw [select_apply, mask_apply]
  by_cases h : d.val < 64
  · rw [if_pos h, if_pos h, select_one, truncf_apply, mulf_apply, extf_apply, q_apply, broadcast_apply, scale_named]
  · rw [if_neg h, if_neg h, select_zero, broadcast_apply]
    show Ideal.ofBits .bf16 0x0000#16 = 0
    simp [Ideal.ofBits, Ideal.ieee]

theorem stacked_hi (q : Vec Ideal S1x128x128 .bf16) (r d : Fin 128) :
    stacked q (ix2 ⟨r.val + 128, by omega⟩ d) = if d.val < 64 then 0 else q (ix3 0 r d) * (scale : EReal) := by
  unfold stacked
  refine (concatenate_pair_apply_right (t := S256x128) (s₁ := S128x128) (s₂ := S128x128) 0 _ _ _ _ rfl rfl (ix2 r d) (fun b hb => match b with | ⟨0, _⟩ => absurd rfl hb | ⟨1, _⟩ => rfl) rfl).trans ?_
  rw [select_apply, mask_apply]
  by_cases h : d.val < 64
  · rw [if_pos h, if_pos h, select_one, broadcast_apply]
    show Ideal.ofBits .bf16 0x0000#16 = 0
    simp [Ideal.ofBits, Ideal.ieee]
  · rw [if_neg h, if_neg h, select_zero, truncf_apply, mulf_apply, extf_apply, q_apply, broadcast_apply, scale_named]

theorem pay5_eq (k : Vec Ideal S1x2048x128 .bf16) (q : Vec Ideal S1x128x128 .bf16) :
    k0_pay5 k q = matmul dot_S256x128_S2048x128_S256x2048_1_1_0_0_n_n none (stacked q) (k0_pay2 k) (constant S256x2048 .f32 0x00000000#32) := rfl

/-- A sum over 128 lanes is the sum over the lower 64 and that over the upper 64. -/
theorem sum_lanes (f : Fin 128 → EReal) :
    ∑ d, f d = (∑ d : Fin 64, f ⟨d.val, by omega⟩) + ∑ d : Fin 64, f ⟨64 + d.val, by omega⟩ :=
  Fin.sum_univ_add (a := 64) (b := 64) f

/-- The lane of dimension `d` of the head that lane `l` belongs to. -/
def lane (l : Fin 128) (d : Fin 64) : Fin 128 := ⟨64 * (l.val / 64) + d.val, by omega⟩

/-- The row of the stacked tile that serves row `r` in lane `l`. -/
def row (r l : Fin 128) : Fin 256 := if l.val < 64 then ⟨r.val, by omega⟩ else ⟨r.val + 128, by omega⟩

/-- The score of a query row against key row `s`, for the head that lane `l` belongs to: scaled. -/
theorem score_apply (k : Vec Ideal S1x2048x128 .bf16) (q : Vec Ideal S1x128x128 .bf16) (r l : Fin 128) (s : Fin 2048) :
    k0_pay5 k q (ix2 (row r l) s) = (∑ d : Fin 64, q (ix3 0 r (lane l d)) * k (ix3 0 s (lane l d))) * (scale : EReal) := by
  rw [pay5_eq, qk_apply, sum_lanes, sum_mul_coe _ _ _ scale_pos.le]
  have hk : ∀ d, k0_pay2 k (ix2 s d) = k (ix3 0 s d) := fun d => kv_apply k _ s d
  simp only [hk]
  unfold row
  by_cases h : l.val < 64
  · simp only [if_pos h, stacked_lo]
    rw [add_comm, Finset.sum_eq_zero fun (d : Fin 64) _ => by rw [if_neg (by show ¬(64 + d.val < 64); omega), zero_mul], zero_add]
    refine Finset.sum_congr rfl fun d _ => ?_
    rw [if_pos d.isLt]
    have e : lane l d = ⟨d.val, by omega⟩ := Fin.ext (by show 64 * (l.val / 64) + d.val = d.val; omega)
    rw [e, mul_right_comm]
  · simp only [if_neg h, stacked_hi]
    rw [Finset.sum_eq_zero fun (d : Fin 64) _ => by rw [if_pos d.isLt, zero_mul], zero_add]
    refine Finset.sum_congr rfl fun d _ => ?_
    rw [if_neg (by show ¬(64 + d.val < 64); omega)]
    have e : lane l d = ⟨64 + d.val, by omega⟩ := Fin.ext (by show 64 * (l.val / 64) + d.val = 64 + d.val; have := l.isLt; omega)
    rw [e, mul_right_comm]

/-- The maximum of each of 256 rows of scores. -/
theorem max_apply (s : FVec Ideal S256x2048 .f32) (h : S256x2048.Reduces [1] S256) (hφ : FKind.Formats .f32)
    (hacc : (0xFF800000#32 : BitVec 32) = FKind.maximumf.neutral .f32 hφ) (a : Fin 256) :
    multiReduction .maximumf [1] S256 s 0xFF800000#32 h hφ hacc (ix1 a)
      = (Finset.univ : Finset (Fin 2048)).fold max (⊥ : EReal) (fun i => s (ix2 a i)) := by
  refine (Ideal.multiReduction_maximumf_single s _ h hφ hacc (ix1 a)).trans ?_
  have hb : (FloatOps.ofBits (F := Ideal) .f32 0xFF800000#32 : EReal) = ⊥ := by
    show Ideal.ofBits .f32 0xFF800000#32 = ⊥
    simp [Ideal.ofBits, Ideal.ieee]
  rw [hb]
  refine congrArg (fun f => (Finset.univ : Finset (Fin 2048)).fold max (⊥ : EReal) f) (funext fun i => congrArg s ?_)
  funext x
  match x with
  | ⟨0, _⟩ => rfl
  | ⟨1, _⟩ => rfl

/-- The sum of each of 256 rows. -/
theorem add_apply (s : FVec Ideal S256x2048 .f32) (h : S256x2048.Reduces [1] S256) (hφ : FKind.Formats .f32)
    (hacc : (0x00000000#32 : BitVec 32) = FKind.add.neutral .f32 hφ) (a : Fin 256) :
    multiReduction .add [1] S256 s 0x00000000#32 h hφ hacc (ix1 a) = ∑ i : Fin 2048, s (ix2 a i) := by
  refine (Ideal.multiReduction_add_single s _ h hφ hacc (ix1 a)).trans ?_
  refine Finset.sum_congr rfl fun i _ => congrArg s ?_
  funext x
  match x with
  | ⟨0, _⟩ => rfl
  | ⟨1, _⟩ => rfl

/-- A column of 256 numbers as a matrix of one column. -/
theorem col_apply (x : FVec Ideal S256 .f32) (h : S256.ShapeCasts S256x1) (a : Fin 256) :
    shapeCast S256x1 x h (ix2 a 0) = x (ix1 a) :=
  shapeCast_apply x h _ _ (by rw [Shape.rowMajor_val_two, Shape.rowMajor_val_one]; show a.val = a.val * 1 + 0; omega)

/-- One column repeated over the 2048 keys. -/
theorem bcast_keys (x : FVec Ideal S256x1 .f32) (h : S256x1.Broadcasts S256x2048) (a : Fin 256) (s : Fin 2048) :
    broadcastTo S256x2048 x h (ix2 a s) = x (ix2 a 0) :=
  broadcastTo_apply x h _ _ (fun | ⟨0, _⟩ => rfl | ⟨1, _⟩ => rfl)

/-- One column repeated over the 128 lanes. -/
theorem bcast_lanes (x : FVec Ideal S256x1 .f32) (h : S256x1.Broadcasts S256x128) (a : Fin 256) (s : Fin 128) :
    broadcastTo S256x128 x h (ix2 a s) = x (ix2 a 0) :=
  broadcastTo_apply x h _ _ (fun | ⟨0, _⟩ => rfl | ⟨1, _⟩ => rfl)

/-- The weights of a row before they are normalised. -/
def weights (s : FVec Ideal S256x2048 .f32) : FVec Ideal S256x2048 .f32 :=
  exp2 (subf s (broadcastTo S256x2048 (shapeCast S256x1 (multiReduction .maximumf [1] S256 s 0xFF800000#32 reduces_S256x2048_S256 (.inl rfl) rfl) shapeCasts_S256_S256x1) broadcasts_S256x1_S256x2048))

theorem weights_apply (s : FVec Ideal S256x2048 .f32) (a : Fin 256) (i : Fin 2048) :
    weights s (ix2 a i) = Ideal.exp2 (s (ix2 a i) - (Finset.univ : Finset (Fin 2048)).fold max (⊥ : EReal) (fun i => s (ix2 a i))) := by
  show Ideal.exp2 (s (ix2 a i) - _) = _
  rw [bcast_keys, col_apply]
  exact congrArg (fun x => Ideal.exp2 (s (ix2 a i) - x)) (max_apply s _ _ _ a)

/-- The 256 stacked rows of the result, both heads of a row at every lane. -/
def normed (s : FVec Ideal S256x2048 .f32) (v : FVec Ideal S2048x128 .bf16) : FVec Ideal S256x128 .f32 :=
  mulf (matmul dot_S256x2048_S2048x128_S256x128_1_0_0_1_n_n none (truncf .bf16 (weights s) bitsLt_bf16_f32) v (constant S256x128 .f32 0x00000000#32))
    (broadcastTo S256x128 (divf (broadcast S256x1 (Scalar.ofBits .f32 0x3F800000#32)) (shapeCast S256x1 (multiReduction .add [1] S256 (weights s) 0x00000000#32 reduces_S256x2048_S256 (.inl rfl) rfl) shapeCasts_S256_S256x1)) broadcasts_S256x1_S256x128)

theorem normed_apply (s : FVec Ideal S256x2048 .f32) (v : FVec Ideal S2048x128 .bf16) (a : Fin 256) (c : Fin 128) :
    normed s v (ix2 a c) = (∑ i, weights s (ix2 a i) * v (ix2 i c)) * Ideal.div 1 (∑ i, weights s (ix2 a i)) := by
  unfold normed
  rw [mulf_apply, pv_apply, bcast_lanes]
  have h1 : (Scalar.ofBits (F := Ideal) .f32 0x3F800000#32 : EReal) = 1 := by
    show Ideal.ofBits .f32 0x3F800000#32 = 1
    exact Ideal.ofBits_one_f32
  congr 1
  show Ideal.div (Scalar.ofBits (F := Ideal) .f32 0x3F800000#32 : EReal) _ = _
  rw [h1, col_apply]
  exact congrArg (Ideal.div 1) (add_apply (weights s) _ _ _ a)

theorem pay7_eq (s : FVec Ideal S256x2048 .f32) (v : FVec Ideal S2048x128 .bf16) (b : IVec S128x128 1) :
    k0_pay7 v b s = shapeCast S1x128x128 (truncf .bf16 (select b (extractStridedSlice S128x128 ![0, 0] (normed s v) slices_S256x128_o0_0_S128x128) (extractStridedSlice S128x128 ![128, 0] (normed s v) slices_S256x128_o128_0_S128x128)) bitsLt_bf16_f32) shapeCasts_S128x128_S1x128x128 := rfl

/-- One tile of the kernel: 128 query rows against the keys and the values of the block. -/
def tile (q : Vec Ideal S1x128x128 .bf16) (k v : Vec Ideal S1x2048x128 .bf16) : FVec Ideal S1x128x128 .bf16 :=
  k0_pay7 (k0_pay3 v) k0_pay4 (k0_pay5 k q)

/-- Lane `l` of row `r` of a tile is a row of attention: the scores are those of the head the lane belongs to. -/
theorem tile_apply (q : Vec Ideal S1x128x128 .bf16) (k v : Vec Ideal S1x2048x128 .bf16) (r l : Fin 128) :
    tile q k v (ix3 0 r l)
      = kernelRow (fun s : Fin 2048 => ∑ d : Fin 64, q (ix3 0 r (lane l d)) * k (ix3 0 s (lane l d))) (fun s => v (ix3 0 s l)) := by
  unfold tile
  rw [pay7_eq, o_apply, truncf_apply, select_apply, mask_apply,
    extractStridedSlice_apply (s := S256x128) (t := S128x128) ![0, 0] _ _ (ix2 r l) (ix2 ⟨r.val, by omega⟩ l) (fun | ⟨0, _⟩ => (Nat.zero_add _).symm | ⟨1, _⟩ => (Nat.zero_add _).symm),
    extractStridedSlice_apply (s := S256x128) (t := S128x128) ![128, 0] _ _ (ix2 r l) (ix2 ⟨r.val + 128, by omega⟩ l) (fun | ⟨0, _⟩ => Nat.add_comm _ _ | ⟨1, _⟩ => (Nat.zero_add _).symm)]
  have hrow : (Scalar.select (if l.val < 64 then 1#1 else 0#1 : BitVec 1) (normed (k0_pay5 k q) (k0_pay3 v) (ix2 ⟨r.val, by omega⟩ l)) (normed (k0_pay5 k q) (k0_pay3 v) (ix2 ⟨r.val + 128, by omega⟩ l)))
      = normed (k0_pay5 k q) (k0_pay3 v) (ix2 (row r l) l) := by
    unfold row
    by_cases h : l.val < 64
    · rw [if_pos h, if_pos h, select_one]
    · rw [if_neg h, if_neg h, select_zero]
  rw [hrow, normed_apply]
  have hv : ∀ s, k0_pay3 v (ix2 s l) = v (ix3 0 s l) := fun s => kv_apply v _ s l
  simp only [weights_apply, score_apply, hv]
  rfl

end Cert.GqaTile

end
-- ==== Proof.GqaBlock.lean ====
/- One block of the grouped-query attention kernel: its sixteen tiles read as one function of the block's index. -/
module

public import proofs.«01_k».proof.Proof.GqaTile
public import proofs.«01_k».proof.Proof.Gen.KernelIdeal.Frame
public import Idealize.ShloMosaic.Lib.Pipeline.ValueKit.Tiles

@[expose] public section

noncomputable section

namespace Cert.GqaBlock

open Cert.KernelIdeal Cert.KernelIdeal.Gen Cert.Softmax Cert.GqaTile Idealize.ShloMosaic Idealize.ShloMosaic.ValueIdx

/-- The 64 lanes of the head that lane `c` of 256 belongs to. -/
def head (c : Fin 256) (d : Fin 64) : Fin 256 := ⟨64 * (c.val / 64) + d.val, by omega⟩

/-- Lane `c` of 256 within its half. -/
def half (c : Fin 256) : Fin 128 := ⟨c.val % 128, by omega⟩

/-- What the block's result holds: at row `r` and lane `c` a row of attention. -/
def blockVal (q : Vec Ideal S1x1024x256 .bf16) (k v : Vec Ideal S1x2048x128 .bf16) : Vec Ideal S1x1024x256 .bf16 := fun y =>
  kernelRow (fun s : Fin 2048 => ∑ d : Fin 64, q (ix3 0 (y 1) (head (y 2) d)) * k (ix3 0 s (lane (half (y 2)) d))) (fun s => v (ix3 0 s (half (y 2))))

/-- A tile computed from its rows of the queries is the block's function on the rectangle it is stored at. -/
theorem piece (q : Vec Ideal S1x1024x256 .bf16) (k v : Vec Ideal S1x2048x128 .bf16) (o1 o2 : Nat)
    (inb : ∀ a, (![0, o1, o2] : Fin 3 → Nat) a + S1x128x128.size a ≤ S1x1024x256.size a) (ho : o2 = 0 ∨ o2 = 128) (x : S1x128x128.Idx) :
    tile (View.ld q (Rect.unit (s := S1x1024x256) ![0, o1, o2] S1x128x128.size inb)) (View.ld k r0_0) (View.ld v r0_0) x
      = blockVal q k v ((Rect.unit (s := S1x1024x256) ![0, o1, o2] S1x128x128.size inb).emb x) := by
  have hk : ∀ z : Vec Ideal S1x2048x128 .bf16, View.ld z r0_0 = z := fun z =>
    View.ld_unit_zero (funext fun | ⟨0, _⟩ => rfl | ⟨1, _⟩ => rfl | ⟨2, _⟩ => rfl) _ z
  rw [hk, hk]
  obtain ⟨r, l, rfl⟩ : ∃ r l : Fin 128, x = ix3 0 r l := ⟨x 1, x 2, funext fun
    | ⟨0, _⟩ => Subsingleton.elim (α := Fin 1) _ _ | ⟨1, _⟩ => rfl | ⟨2, _⟩ => rfl⟩
  have e1 : ((Rect.unit (s := S1x1024x256) ![0, o1, o2] S1x128x128.size inb).emb (ix3 0 r l) 1).val = o1 + r.val :=
    congrArg (o1 + ·) (Nat.one_mul _)
  have e2 : ((Rect.unit (s := S1x1024x256) ![0, o1, o2] S1x128x128.size inb).emb (ix3 0 r l) 2).val = o2 + l.val :=
    congrArg (o2 + ·) (Nat.one_mul _)
  rw [tile_apply]
  unfold blockVal
  generalize hy : (Rect.unit (s := S1x1024x256) ![0, o1, o2] S1x128x128.size inb).emb (ix3 0 r l) = y at e1 e2 ⊢
  have hl : half (y 2) = l := Fin.ext (by show (y 2).val % 128 = l.val; rcases ho with h | h <;> omega)
  rw [hl]
  refine congrArg (fun f => kernelRow f _) (funext fun s => Finset.sum_congr rfl fun d _ => congrArg (· * _) ?_)
  refine View.ld_unit_apply_of q _ _ _ _ _ fun a => ?_
  match a with
  | ⟨0, _⟩ => rfl
  | ⟨1, _⟩ => exact e1
  | ⟨2, _⟩ =>
    show 64 * ((y 2).val / 64) + d.val = o2 + (64 * (l.val / 64) + d.val)
    rcases ho with h | h <;> omega

/-- The sixteen tiles stored together are the block's function. -/
theorem out_eq (q : Vec Ideal S1x1024x256 .bf16) (k v : Vec Ideal S1x2048x128 .bf16) : out0_3 (F := Ideal) q k v = blockVal q k v := by
  funext y
  refine View.canon_apply_of_pieces (blockVal q k v) _ ?_ y (cover0_3 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact piece q k v 896 128 _ (.inr rfl) x
  · exact piece q k v 896 0 _ (.inl rfl) x
  · exact piece q k v 768 128 _ (.inr rfl) x
  · exact piece q k v 768 0 _ (.inl rfl) x
  · exact piece q k v 640 128 _ (.inr rfl) x
  · exact piece q k v 640 0 _ (.inl rfl) x
  · exact piece q k v 512 128 _ (.inr rfl) x
  · exact piece q k v 512 0 _ (.inl rfl) x
  · exact piece q k v 384 128 _ (.inr rfl) x
  · exact piece q k v 384 0 _ (.inl rfl) x
  · exact piece q k v 256 128 _ (.inr rfl) x
  · exact piece q k v 256 0 _ (.inl rfl) x
  · exact piece q k v 128 128 _ (.inr rfl) x
  · exact piece q k v 128 0 _ (.inl rfl) x
  · exact piece q k v 0 128 _ (.inr rfl) x
  · exact piece q k v 0 0 _ (.inl rfl) x

end Cert.GqaBlock

end
-- ==== Proof.GqaRef.lean ====
/- The reference of the grouped-query attention read at an index. -/
module

public import proofs.«01_k».proof.Proof.Softmax
public import proofs.«01_k».proof.Proof.Gen.ReferenceIdeal.Read
public import Idealize.ShloMosaic.Lib.ValueIdx
public import Idealize.ShloMosaic.Lib.IdealHost

@[expose] public section

noncomputable section

namespace Cert.GqaRef

open Cert.ReferenceIdeal Cert.ReferenceIdeal.Gen Cert.ReferenceIdeal.Read Cert.Softmax Idealize.ShloMosaic Idealize.ShloMosaic.ValueIdx

/-- An eighth, as the reference's constant denotes it. -/
theorem eighth : Ideal.ofBits .f32 0x3E000000#32 = ((1 / 8 : ℝ) : EReal) := by
  simp [Ideal.ofBits, Ideal.ieee]
  rw [← EReal.coe_mul]
  norm_num

variable (q : Vec Ideal S32x2048x16x64 .f32) (k v : Vec Ideal S32x2048x4x64 .f32)

/-- The score of query row `r` of head `4·j + g` against key row `s`. -/
def score (b : Fin 32) (j g : Fin 4) (r s : Fin 2048) : EReal :=
  ∑ d : Fin 64, k (ix4 b s j d) * q (ix4 b r ⟨4 * j.val + g.val, by omega⟩ d)

theorem v2_apply (b : Fin 32) (j g : Fin 4) (r s : Fin 2048) :
    val_main_v2 (F := Ideal) q k (ix5 b j g r s) = score q k b j g r s := by
  rw [val_main_v2_apply, val_main_v1_apply]
  refine Finset.sum_congr rfl fun d _ => ?_
  rw [val_main_v0_apply]
  refine congrArg₂ (fun x y => k x * q y) (funext fun a => ?_) (funext fun a => Fin.ext ?_)
  · match a with
    | ⟨0, _⟩ => rfl
    | ⟨1, _⟩ => rfl
    | ⟨2, _⟩ => rfl
    | ⟨3, _⟩ => rfl
  · have := b.isLt; have := j.isLt; have := g.isLt; have := r.isLt; have := d.isLt
    match a with
    | ⟨0, _⟩ => show ((((b.val * 2048 + r.val) * 4 + j.val) * 4 + g.val) * 64 + d.val) / 2097152 = b.val; omega
    | ⟨1, _⟩ => show ((((b.val * 2048 + r.val) * 4 + j.val) * 4 + g.val) * 64 + d.val) / 1024 % 2048 = r.val; omega
    | ⟨2, _⟩ => show ((((b.val * 2048 + r.val) * 4 + j.val) * 4 + g.val) * 64 + d.val) / 64 % 16 = 4 * j.val + g.val; omega
    | ⟨3, _⟩ => show ((((b.val * 2048 + r.val) * 4 + j.val) * 4 + g.val) * 64 + d.val) % 64 = d.val; omega

theorem v4_apply (b : Fin 32) (j g : Fin 4) (r s : Fin 2048) :
    val_main_v4 (F := Ideal) q k (ix5 b j g r s) = score q k b j g r s * ((1 / 8 : ℝ) : EReal) := by
  rw [val_main_v4_apply, v2_apply, val_main_v3_apply]
  exact congrArg (score q k b j g r s * ·) eighth

/-- The maximum of a row of scores. -/
theorem v5_apply (b : Fin 32) (j g : Fin 4) (r : Fin 2048) :
    val_main_v5 (F := Ideal) q k (ix4 b j g r)
      = (Finset.univ : Finset (Fin 2048)).fold max (⊥ : EReal) (fun s => score q k b j g r s * ((1 / 8 : ℝ) : EReal)) := by
  unfold val_main_v5
  have h : S32x4x4x2048x2048.Reduces [4] S32x4x4x2048 := by decide
  refine (Host.reduce_eq_fold_single (max : EReal → EReal → EReal) (val_main_v4 (F := Ideal) q k) (val_main_cst_0 (F := Ideal)) reducesTo_S32x4x4x2048x2048_S32x4x4x2048_d4 h _ (ix4 b j g r)).trans ?_
  have hb : val_main_cst_0 (F := Ideal) (Shape.Idx.first h_S_) = (⊥ : EReal) := by
    show Ideal.ofBits .f32 0xFF800000#32 = ⊥
    simp [Ideal.ofBits, Ideal.ieee]
  rw [hb]
  refine congrArg (fun f => (Finset.univ : Finset (Fin 2048)).fold max (⊥ : EReal) f) (funext fun s => ?_)
  refine (congrArg (val_main_v4 (F := Ideal) q k) (funext fun a => Fin.ext ?_)).trans (v4_apply q k b j g r s)
  match a with
  | ⟨0, _⟩ => rfl
  | ⟨1, _⟩ => rfl
  | ⟨2, _⟩ => rfl
  | ⟨3, _⟩ => rfl
  | ⟨4, _⟩ => rfl

/-- The exponential of a score less its row's maximum. -/
theorem v11_apply (b : Fin 32) (j g : Fin 4) (r s : Fin 2048) :
    val_main_v11 (F := Ideal) q k (ix5 b j g r s)
      = Ideal.exp (score q k b j g r s * ((1 / 8 : ℝ) : EReal) - (Finset.univ : Finset (Fin 2048)).fold max (⊥ : EReal) (fun s => score q k b j g r s * ((1 / 8 : ℝ) : EReal))) := by
  rw [val_main_v11_apply, val_main_v10_apply, v4_apply, val_main_v9_apply, val_main_v8_apply, val_main_v7_apply, val_main_v6_apply]
  have e : idx_main_v8 (idx_main_v9 (ix5 b j g r s)) = ix4 b j g r := funext fun
    | ⟨0, _⟩ => rfl | ⟨1, _⟩ => rfl | ⟨2, _⟩ => rfl | ⟨3, _⟩ => rfl
  rw [e, v5_apply]
  have hb : Ideal.ofBits .f32 0xFF800000#32 = (⊥ : EReal) := by simp [Ideal.ofBits, Ideal.ieee]
  show Ideal.exp (_ - max (Ideal.ofBits .f32 0xFF800000#32) _) = _
  rw [hb, max_eq_right bot_le]

theorem v15_apply (b : Fin 32) (j g : Fin 4) (r s : Fin 2048) :
    val_main_v15 (F := Ideal) q k (ix5 b j g r s)
      = Ideal.div (val_main_v11 (F := Ideal) q k (ix5 b j g r s)) (∑ i, val_main_v11 (F := Ideal) q k (ix5 b j g r i)) := by
  rw [val_main_v15_apply, val_main_v14_apply, val_main_v13_apply, val_main_v12_apply]
  have e : ∀ i, idx_main_v12 (idx_main_v13 (idx_main_v14 (ix5 b j g r s))) i = ix5 b j g r i := fun i => funext fun
    | ⟨0, _⟩ => rfl | ⟨1, _⟩ => rfl | ⟨2, _⟩ => rfl | ⟨3, _⟩ => rfl | ⟨4, _⟩ => rfl
  have h0 : val_main_cst_2 (F := Ideal) (Shape.Idx.first h_S_) = (0 : EReal) := Ideal.ofBits_zero_f32
  simp only [e, h0, zero_add]
  rfl

/-- The reference's result at an index: a row of attention. -/
theorem apply (b : Fin 32) (r : Fin 2048) (e : Fin 1024) :
    val_main_v19 (F := Ideal) q k v (ix3 b r e)
      = referenceRow (fun s => score q k b ⟨e.val / 256, by omega⟩ ⟨e.val / 64 % 4, by omega⟩ r s)
          (fun s => v (ix4 b s ⟨e.val / 256, by omega⟩ ⟨e.val % 64, by omega⟩)) := by
  rw [val_main_v19_apply]
  show val_main_v18 (F := Ideal) q k v (ix3 b r e) = _
  rw [val_main_v18_apply, val_main_v17_apply, val_main_v16_apply]
  unfold referenceRow
  simp only [← v11_apply]
  refine Finset.sum_congr rfl fun s _ => ?_
  rw [← v15_apply]
  have := b.isLt; have := r.isLt; have := e.isLt
  refine congrArg₂ (fun x y => v x * val_main_v15 (F := Ideal) q k y) (funext fun a => Fin.ext ?_) (funext fun a => Fin.ext ?_)
  · match a with
    | ⟨0, _⟩ => show ((b.val * 2048 + r.val) * 1024 + e.val) / 2097152 = b.val; omega
    | ⟨1, _⟩ => rfl
    | ⟨2, _⟩ => show ((b.val * 2048 + r.val) * 1024 + e.val) / 256 % 4 = e.val / 256; omega
    | ⟨3, _⟩ => show ((b.val * 2048 + r.val) * 1024 + e.val) % 64 = e.val % 64; omega
  · match a with
    | ⟨0, _⟩ => show ((b.val * 2048 + r.val) * 1024 + e.val) / 2097152 = b.val; omega
    | ⟨1, _⟩ => show ((b.val * 2048 + r.val) * 1024 + e.val) / 256 % 4 = e.val / 256; omega
    | ⟨2, _⟩ => show ((b.val * 2048 + r.val) * 1024 + e.val) / 64 % 4 = e.val / 64 % 4; omega
    | ⟨3, _⟩ => show ((b.val * 2048 + r.val) * 1024 + e.val) / 1024 % 2048 = r.val; omega
    | ⟨4, _⟩ => rfl

end Cert.GqaRef

end
-- ==== Proof.GqaArray.lean ====
/- The grouped-query attention kernel's result array, block by block, as the reference computes it. -/
module

public import proofs.«01_k».proof.Proof.GqaBlock
public import proofs.«01_k».proof.Proof.GqaRef
public import proofs.«01_k».proof.Proof.Gen.KernelIdeal.Value
public import Idealize.ShloMosaic.Lib.Pipeline.ValueKit

@[expose] public section

noncomputable section

namespace Cert.GqaArray

open Cert.KernelIdeal Cert.KernelIdeal.Gen Cert.Softmax Cert.GqaTile Cert.GqaBlock
open Idealize.ShloMosaic hiding ix3 ix4 ix5 truncf_apply
open Idealize.ShloMosaic.TcCoe Idealize.ShloMosaic.ValueIdx

variable (q : Vec Ideal S32x2048x16x64 .f32) (k v : Vec Ideal S32x2048x4x64 .f32)

/-- Each of four heads written twice side by side. -/
def dup (k : Vec Ideal S32x2048x4x64 .f32) : Vec Ideal S32x2048x512 .f32 :=
  shapeCast S32x2048x512 (broadcastInDim S32x2048x4x2x64 ![0, 1, 2, 3, 4] bcast_S32x2048x4x1x64_S32x2048x4x2x64_0_1_2_3_4 (shapeCast S32x2048x4x1x64 k shapeCasts_S32x2048x4x64_S32x2048x4x1x64)) shapeCasts_S32x2048x4x2x64_S32x2048x512

theorem dup_apply (b : Fin 32) (s : Fin 2048) (e : Fin 512) :
    dup k (ix3 b s e) = k (ix4 b s ⟨e.val / 128, by omega⟩ ⟨e.val % 64, by omega⟩) := by
  unfold dup
  rw [shapeCast_apply _ shapeCasts_S32x2048x4x2x64_S32x2048x512 (ix3 b s e) (ix5 b s ⟨e.val / 128, by omega⟩ ⟨e.val / 64 % 2, by omega⟩ ⟨e.val % 64, by omega⟩)
      (by rw [Shape.rowMajor_val_five, Shape.rowMajor_val_three]; show (((b.val * 2048 + s.val) * 4 + e.val / 128) * 2 + e.val / 64 % 2) * 64 + e.val % 64 = (b.val * 2048 + s.val) * 512 + e.val; omega),
    broadcastInDim_apply _ _ _ _ (ix5 b s ⟨e.val / 128, by omega⟩ 0 ⟨e.val % 64, by omega⟩) (fun
      | ⟨0, _⟩ => rfl | ⟨1, _⟩ => rfl | ⟨2, _⟩ => rfl | ⟨3, _⟩ => rfl | ⟨4, _⟩ => rfl)]
  exact shapeCast_apply k _ _ _ (by rw [Shape.rowMajor_val_four, Shape.rowMajor_val_five]; show ((b.val * 2048 + s.val) * 4 + e.val / 128) * 64 + e.val % 64 = (((b.val * 2048 + s.val) * 4 + e.val / 128) * 1 + 0) * 64 + e.val % 64; omega)

/-- The array the kernel reads: queries, keys and values side by side. -/
def packed : Vec Ideal S32x2048x2048 .bf16 :=
  truncf .bf16 (concatenate S32x2048x2048 2 [⟨S32x2048x1024, shapeCast S32x2048x1024 q shapeCasts_S32x2048x16x64_S32x2048x1024⟩, ⟨S32x2048x512, dup k⟩, ⟨S32x2048x512, dup v⟩] concatenates_S32x2048x1024_S32x2048x512_S32x2048x512_S32x2048x2048_d2 : FVec Ideal S32x2048x2048 .f32) bitsLt_bf16_f32

theorem packed_q (b : Fin 32) (s : Fin 2048) (e : Fin 2048) (h : e.val < 1024) :
    packed q k v (ix3 b s e) = q (ix4 b s ⟨e.val / 64, by omega⟩ ⟨e.val % 64, by omega⟩) := by
  unfold packed
  rw [truncf_apply]
  refine (concatenate_apply_piece (t := S32x2048x2048) 2 _ _ _ 0 (by simp) S32x2048x1024 _ rfl rfl 0 rfl (ix3 b s ⟨e.val, h⟩) (fun x hx => match x with | ⟨0, _⟩ => rfl | ⟨1, _⟩ => rfl | ⟨2, _⟩ => absurd rfl hx) (Nat.zero_add _)).trans ?_
  exact shapeCast_apply q _ _ _ (by rw [Shape.rowMajor_val_four, Shape.rowMajor_val_three]; show ((b.val * 2048 + s.val) * 16 + e.val / 64) * 64 + e.val % 64 = (b.val * 2048 + s.val) * 1024 + e.val; omega)

theorem packed_k (b : Fin 32) (s : Fin 2048) (e : Fin 512) :
    packed q k v (ix3 b s ⟨1024 + e.val, by omega⟩) = k (ix4 b s ⟨e.val / 128, by omega⟩ ⟨e.val % 64, by omega⟩) := by
  unfold packed
  rw [truncf_apply]
  refine (concatenate_apply_piece (t := S32x2048x2048) 2 _ _ _ 1 (by simp) S32x2048x512 _ rfl rfl 1024 rfl (ix3 b s e) (fun x hx => match x with | ⟨0, _⟩ => rfl | ⟨1, _⟩ => rfl | ⟨2, _⟩ => absurd rfl hx) rfl).trans ?_
  exact dup_apply k b s e

theorem packed_v (b : Fin 32) (s : Fin 2048) (e : Fin 512) :
    packed q k v (ix3 b s ⟨1536 + e.val, by omega⟩) = v (ix4 b s ⟨e.val / 128, by omega⟩ ⟨e.val % 64, by omega⟩) := by
  unfold packed
  rw [truncf_apply]
  refine (concatenate_apply_piece (t := S32x2048x2048) 2 _ _ _ 2 (by simp) S32x2048x512 _ rfl rfl 1536 rfl (ix3 b s e) (fun x hx => match x with | ⟨0, _⟩ => rfl | ⟨1, _⟩ => rfl | ⟨2, _⟩ => absurd rfl hx) rfl).trans ?_
  exact dup_apply v b s e

variable (m : (ℓ : Loc nD τ sig) → Buf (Elt Ideal) ℓ)

/-- The host prepares that array from the arguments. -/
theorem V_packed (c : Dev nD) :
    V m c main_v8 = packed (m (c.tc.loc main_arg0)) (m (c.tc.loc main_arg1)) (m (c.tc.loc main_arg2)) := by
  show StableHlo.after hostOps0 _ (Proc.devRef .tc main_v8) = _
  after_results
  rfl

theorem index0 : ∀ t : Fin cfg0.N, win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val])
theorem index1 : ∀ t : Fin cfg0.N, win0_1.index t = ![(grid0.coords t 0).val, 0, 8 + (grid0.coords t 1).val] :=
  (by decide +kernel : ∀ t : Fin grid0.N, win0_1.index t = ![(grid0.coords t 0).val, 0, 8 + (grid0.coords t 1).val])
theorem index2 : ∀ t : Fin cfg0.N, win0_2.index t = ![(grid0.coords t 0).val, 0, 12 + (grid0.coords t 1).val] :=
  (by decide +kernel : ∀ t : Fin grid0.N, win0_2.index t = ![(grid0.coords t 0).val, 0, 12 + (grid0.coords t 1).val])
theorem index3 : ∀ t : Fin cfg0.N, win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val])

/-- The sequence a point works on, its block of heads and its half of the rows. -/
def seqOf (t : Fin cfg0.N) : Fin 32 := grid0.coords t 0
def blockOf (t : Fin cfg0.N) : Fin 4 := grid0.coords t 1
def halfOf (t : Fin cfg0.N) : Fin 2 := grid0.coords t 2

theorem q_block (c : Dev nD) (t : Fin cfg0.N) (r : Fin 1024) (e : Fin 256) :
    iblk m c 0 t (ix3 0 r e) = V m c main_v8 (ix3 (seqOf t) ⟨(halfOf t).val * 1024 + r.val, by omega⟩ ⟨(blockOf t).val * 256 + e.val, by omega⟩) := by
  blk_simp [iblk]
  refine congrArg (V m c main_v8) (funext fun a => Fin.ext ?_)
  match a with
  | ⟨0, _⟩ => blk_simp [index0]; rfl
  | ⟨1, _⟩ => blk_simp [index0]; rfl
  | ⟨2, _⟩ => blk_simp [index0]; rfl

theorem k_block (c : Dev nD) (t : Fin cfg0.N) (s : Fin 2048) (e : Fin 128) :
    iblk m c 1 t (ix3 0 s e) = V m c main_v8 (ix3 (seqOf t) s ⟨1024 + ((blockOf t).val * 128 + e.val), by omega⟩) := by
  blk_simp [iblk]
  refine congrArg (V m c main_v8) (funext fun a => Fin.ext ?_)
  match a with
  | ⟨0, _⟩ => blk_simp [index1]; rfl
  | ⟨1, _⟩ => blk_simp [index1]
  | ⟨2, _⟩ => blk_simp [index1]; show (8 + (blockOf t).val) * 128 + e.val = 1024 + ((blockOf t).val * 128 + e.val); omega

theorem v_block (c : Dev nD) (t : Fin cfg0.N) (s : Fin 2048) (e : Fin 128) :
    iblk m c 2 t (ix3 0 s e) = V m c main_v8 (ix3 (seqOf t) s ⟨1536 + ((blockOf t).val * 128 + e.val), by omega⟩) := by
  blk_simp [iblk]
  refine congrArg (V m c main_v8) (funext fun a => Fin.ext ?_)
  match a with
  | ⟨0, _⟩ => blk_simp [index2]; rfl
  | ⟨1, _⟩ => blk_simp [index2]
  | ⟨2, _⟩ => blk_simp [index2]; show (12 + (blockOf t).val) * 128 + e.val = 1536 + ((blockOf t).val * 128 + e.val); omega

/-- Every query and every key a real number: the scores are real numbers. -/
theorem score_real (hq : ∀ i, ∃ x : ℝ, q i = (x : EReal)) (hk : ∀ i, ∃ x : ℝ, k i = (x : EReal)) (b : Fin 32) (j g : Fin 4) (r s : Fin 2048) :
    ∃ x : ℝ, GqaRef.score q k b j g r s = (x : EReal) := by
  choose q' hq' using hq
  choose k' hk' using hk
  refine ⟨∑ d : Fin 64, k' (ix4 b s j d) * q' (ix4 b r ⟨4 * j.val + g.val, by omega⟩ d), ?_⟩
  unfold GqaRef.score
  simp only [hq', hk', ← EReal.coe_mul, sum_coe]

/-- A block's function of its blocks of the packed array is the reference's result there, where the queries and the keys are real numbers. -/
theorem block_value (A0 : Vec Ideal S32x2048x16x64 .f32) (A1 A2 : Vec Ideal S32x2048x4x64 .f32)
    (hq : ∀ i, ∃ x : ℝ, A0 i = (x : EReal)) (hk : ∀ i, ∃ x : ℝ, A1 i = (x : EReal))
    (Q : Vec Ideal S1x1024x256 .bf16) (K W : Vec Ideal S1x2048x128 .bf16) (b : Fin 32) (j : Fin 4) (h : Fin 2)
    (hQ : ∀ (r : Fin 1024) (e : Fin 256), Q (ix3 0 r e) = packed A0 A1 A2 (ix3 b ⟨h.val * 1024 + r.val, by omega⟩ ⟨j.val * 256 + e.val, by omega⟩))
    (hK : ∀ (s : Fin 2048) (e : Fin 128), K (ix3 0 s e) = packed A0 A1 A2 (ix3 b s ⟨1024 + (j.val * 128 + e.val), by omega⟩))
    (hW : ∀ (s : Fin 2048) (e : Fin 128), W (ix3 0 s e) = packed A0 A1 A2 (ix3 b s ⟨1536 + (j.val * 128 + e.val), by omega⟩))
    (r : Fin 1024) (l : Fin 256) :
    blockVal Q K W (ix3 0 r l)
      = ReferenceIdeal.Read.val_main_v19 (F := Ideal) A0 A1 A2 (ix3 b ⟨h.val * 1024 + r.val, by omega⟩ ⟨j.val * 256 + l.val, by omega⟩) := by
  rw [GqaRef.apply]
  show kernelRow (fun s : Fin 2048 => ∑ d : Fin 64, Q (ix3 0 r (head l d)) * K (ix3 0 s (lane (half l) d))) (fun s => W (ix3 0 s (half l))) = _
  have hj := j.isLt
  have hl := l.isLt
  have hs : ∀ s : Fin 2048, (∑ d : Fin 64, Q (ix3 0 r (head l d)) * K (ix3 0 s (lane (half l) d)))
      = GqaRef.score A0 A1 b ⟨(j.val * 256 + l.val) / 256, by omega⟩ ⟨(j.val * 256 + l.val) / 64 % 4, by omega⟩ ⟨h.val * 1024 + r.val, by omega⟩ s := fun s => by
    unfold GqaRef.score
    refine Finset.sum_congr rfl fun d _ => ?_
    have hd := d.isLt
    rw [hQ, hK, packed_k A0 A1 A2 b s ⟨j.val * 128 + (lane (half l) d).val, by have := (lane (half l) d).isLt; omega⟩,
      packed_q _ _ _ _ _ _ (by show j.val * 256 + (64 * (l.val / 64) + d.val) < 1024; omega), mul_comm]
    refine congrArg₂ (fun x y => A1 x * A0 y) (funext fun a => Fin.ext ?_) (funext fun a => Fin.ext ?_)
    · match a with
      | ⟨0, _⟩ => rfl
      | ⟨1, _⟩ => rfl
      | ⟨2, _⟩ => show (j.val * 128 + (64 * (l.val % 128 / 64) + d.val)) / 128 = (j.val * 256 + l.val) / 256; omega
      | ⟨3, _⟩ => show (j.val * 128 + (64 * (l.val % 128 / 64) + d.val)) % 64 = d.val; omega
    · match a with
      | ⟨0, _⟩ => rfl
      | ⟨1, _⟩ => rfl
      | ⟨2, _⟩ => show (j.val * 256 + (64 * (l.val / 64) + d.val)) / 64 = 4 * ((j.val * 256 + l.val) / 256) + (j.val * 256 + l.val) / 64 % 4; omega
      | ⟨3, _⟩ => show (j.val * 256 + (64 * (l.val / 64) + d.val)) % 64 = d.val; omega
  simp only [hs]
  choose x hx using fun s => score_real A0 A1 hq hk b ⟨(j.val * 256 + l.val) / 256, by omega⟩ ⟨(j.val * 256 + l.val) / 64 % 4, by omega⟩ ⟨h.val * 1024 + r.val, by omega⟩ s
  simp only [hx]
  rw [kernelRow_eq]
  refine congrArg (referenceRow _) (funext fun s => ?_)
  rw [hW, packed_v A0 A1 A2 b s ⟨j.val * 128 + (half l).val, by have := (half l).isLt; omega⟩]
  refine congrArg A2 (funext fun a => Fin.ext ?_)
  match a with
  | ⟨0, _⟩ => rfl
  | ⟨1, _⟩ => rfl
  | ⟨2, _⟩ => show (j.val * 128 + l.val % 128) / 128 = (j.val * 256 + l.val) / 256; omega
  | ⟨3, _⟩ => show (j.val * 128 + l.val % 128) % 64 = (j.val * 256 + l.val) % 64; omega

/-- What the kernel leaves is the reference's result, where the queries and the keys are real numbers. -/
theorem final (c : Dev nD)
    (hq : ∀ i, ∃ x : ℝ, m (c.tc.loc main_arg0) i = (x : EReal)) (hk : ∀ i, ∃ x : ℝ, m (c.tc.loc main_arg1) i = (x : EReal)) :
    (dats m 0 c).arrAt 3 cfg0.N
      = ReferenceIdeal.Read.val_main_v19 (F := Ideal) (m (c.tc.loc main_arg0)) (m (c.tc.loc main_arg1)) (m (c.tc.loc main_arg2)) := by
  refine (dats m 0 c).arrAt_eq_of_covers 3 _ (by decide +kernel) fun t hf y => ?_
  blk_simp
  rw [after0_3, out_eq]
  obtain ⟨r, l, rfl⟩ : ∃ (r : Fin 1024) (l : Fin 256), y = ix3 0 r l := ⟨y 1, y 2, funext fun
    | ⟨0, _⟩ => Subsingleton.elim (α := Fin 1) _ _ | ⟨1, _⟩ => rfl | ⟨2, _⟩ => rfl⟩
  have e : (win0_3.blk t).view.emb (ix3 0 r l)
      = ix3 (seqOf t) ⟨(halfOf t).val * 1024 + r.val, by omega⟩ ⟨(blockOf t).val * 256 + l.val, by omega⟩ := funext fun a => Fin.ext (by
    match a with
    | ⟨0, _⟩ => blk_simp [index3]; rfl
    | ⟨1, _⟩ => blk_simp [index3]; rfl
    | ⟨2, _⟩ => blk_simp [index3]; rfl)
  rw [e]
  exact block_value _ _ _ hq hk _ _ _ (seqOf t) (blockOf t) (halfOf t)
    (fun r e => (q_block m c t r e).trans (congrFun (V_packed m c) _)) (fun s e => (k_block m c t s e).trans (congrFun (V_packed m c) _))
    (fun s e => (v_block m c t s e).trans (congrFun (V_packed m c) _)) r l

end Cert.GqaArray

end
-- ==== Proof.Gqa.lean ====
/- The claims of the grouped-query attention call, from its blocks' values. -/
module

public import proofs.«01_k».proof.Defs
public import proofs.«01_k».proof.Proof.GqaArray
public import proofs.«01_k».proof.Proof.Gen.ReferenceIdeal.Run
public import Idealize.ShloMosaic.Lib.StableHlo.RunHlo

@[expose] public section

noncomputable section

namespace Cert.Gqa

open Idealize.ShloMosaic Idealize.SL.Sem

/-- The side conditions of the precondition's broadcasts. -/
theorem finite_facts : Cert.Pre_finite_qk.Facts := ⟨by decide, by decide⟩

/-- An extended real whose absolute value is less than infinity is a real number. -/
theorem real_of_abs_lt (x : EReal) (h : max x (-x) < ⊤) : ∃ r : ℝ, x = (r : EReal) := by
  induction x with
  | bot => simp at h
  | coe r => exact ⟨r, rfl⟩
  | top => simp at h

/-- One entry of the precondition: where the comparison of the absolute value with infinity is one, the entry is a
    real number. -/
theorem real_of_cmp (x : EReal)
    (h : FloatOps.cmpf (F := Ideal) (φ := .f32) .olt (FloatOps.absf (F := Ideal) (φ := .f32) x) (FloatOps.ofBits .f32 0x7F800000#32) = 1#1) :
    ∃ r : ℝ, x = (r : EReal) := by
  have hi : Ideal.ofBits .f32 0x7F800000#32 = ⊤ := by simp [Ideal.ofBits, Ideal.ieee]
  by_contra hne
  have hn : ¬ max x (-x) < ⊤ := fun hlt => hne (real_of_abs_lt x hlt)
  change BitVec.ofBool (decide (max x (-x) < Ideal.ofBits .f32 0x7F800000#32)) = 1#1 at h
  rw [hi, decide_eq_false hn] at h
  exact absurd h (by decide)

/-- The reference's run leaves its arguments as they were and every counter at zero. -/
theorem frame_reference : Cert.quiescent_ReferenceIdeal := by
  intro m g _
  exact (θ_run _ _ _).mono (fun r h => ⟨fun c => (h c).2, sem_eq_zero_of_no_sems (by decide) r.2⟩)
    (Cert.ReferenceIdeal.Value.run (F := Ideal) m g)

/-- The same under the precondition. -/
theorem frame_reference_finite [Cert.Pre_finite_qk.Facts] : Cert.quiescent_ReferenceIdeal_pre_finite_qk :=
  fun m g _ => frame_reference m g trivial

/-- The kernel's result is the reference's, where the queries and keys are finite. -/
theorem algebraic [Cert.Pre_finite_qk.Facts] : Cert.algebraic_KernelIdeal_ReferenceIdeal_pre_finite_qk := by
  intro m ρ m' ρ' hpre hag
  refine ⟨fun c => Cert.ReferenceIdeal.Read.val_main_v19 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run _ _ _).mono (fun _ h c => ⟨(h c).1.trans (GqaArray.final m c
        (fun i => real_of_cmp _ (congrFun (hpre c).1 i)) (fun i => real_of_cmp _ (congrFun (hpre c).2 i))), (h c).2⟩)
      (Cert.KernelIdeal.Value.run_blocks m ρ),
    (θ_run _ _ _).mono (fun _ h c => ⟨(h c).1.trans (by
        rw [(hag c).1, (hag c).2.1, (hag c).2.2, Cert.ReferenceIdeal.Read.val_main_v19_eq]), (h c).2⟩)
      (Cert.ReferenceIdeal.Value.run m' ρ')⟩

end Cert.Gqa

end
-- ==== Proof.FfnMath.lean ====
/- The convolution-gated MLP on rows of extended reals: what one row of the result is, of the row and its two neighbours. -/
module

public import Idealize.ShloMosaic.Lib.ValueIdx
public import Idealize.ShloMosaic.Lib.IdealHost
public import Idealize.ShloMosaic.PureOps.IdealRules

@[expose] public section

noncomputable section

namespace Cert.Ffn

open Idealize.ShloMosaic

/-- A row divided by its root mean square, times the gain. -/
def row (g x : Fin 1024 → EReal) (k : Fin 1024) : EReal :=
  x k * Ideal.rsqrt (Ideal.div (∑ i, x i * x i) (Ideal.ofBits .f32 0x44800000#32) + Ideal.ofBits .f32 0x358637BD#32) * g k

/-- The first product: the normed row against a column of the weights. -/
def lin (g : Fin 1024 → EReal) (w : Fin 1024 → Fin 5632 → EReal) (x : Fin 1024 → EReal) (f : Fin 5632) : EReal :=
  ∑ k, row g x k * w k f

/-- The three-tap convolution of a row with its two neighbours, channel by channel, with the bias. -/
def tap (cw : Fin 3 → Fin 5632 → EReal) (cb : Fin 5632 → EReal) (p c n : Fin 5632 → EReal) (f : Fin 5632) : EReal :=
  p f * cw 0 f + c f * cw 1 f + n f * cw 2 f + cb f

/-- The gated product of the two halves of the channels. -/
def hid (a : Fin 5632 → EReal) (j : Fin 2816) : EReal :=
  a ⟨j.val, by omega⟩ * Ideal.logistic (a ⟨j.val, by omega⟩) * a ⟨2816 + j.val, by omega⟩

/-- A row of the result, of the convolved channels: the row itself plus the second product. -/
def out (wo : Fin 2816 → Fin 1024 → EReal) (a : Fin 5632 → EReal) (x : Fin 1024 → EReal) (e : Fin 1024) : EReal :=
  x e + ∑ j, hid a j * wo j e

/-- The first product of a row of zeros is zero. -/
theorem lin_zero (g : Fin 1024 → EReal) (w : Fin 1024 → Fin 5632 → EReal) : lin g w (fun _ => 0) = fun _ => 0 :=
  funext fun f => Finset.sum_eq_zero fun k _ => by simp [row]

end Cert.Ffn

end
-- ==== Proof.ProjMath.lean ====
/- The projections with their norms, as real functions of a token's row. -/
module

public import proofs.«01_k».proof.Proof.FfnMath
public import Mathlib.Logic.Equiv.Fin.Basic
public import Mathlib.Algebra.BigOperators.Fin

@[expose] public section

noncomputable section

namespace Cert.Proj

open Cert.Ffn Idealize.ShloMosaic

/-- The normed row of a token against a column of the weights. -/
def col (g x : Fin 1024 → EReal) (w : Fin 1024 → Fin 3072 → EReal) (f : Fin 3072) : EReal := ∑ k, row g x k * w k f

/-- The reciprocal root mean square of the 64 numbers of a head. -/
def inv (y : Fin 64 → EReal) : EReal :=
  Ideal.rsqrt (Ideal.div (∑ d, y d * y d) (Ideal.ofBits .f32 0x42800000#32) + Ideal.ofBits .f32 0x358637BD#32)

/-- Column `d` of the head that column `f` belongs to. -/
def headCol (f : Fin 3072) (d : Fin 64) : Fin 3072 := ⟨64 * (f.val / 64) + d.val, by omega⟩

/-- A query's or a key's number: the column over its head's root mean square, times the gain. -/
def normed (g x : Fin 1024 → EReal) (w : Fin 1024 → Fin 3072 → EReal) (f : Fin 3072) (a : EReal) : EReal :=
  col g x w f * inv (fun d => col g x w (headCol f d)) * a

/-- A 64th, as the kernel's constant denotes it. -/
theorem sixtyfourth : Ideal.ofBits .f32 0x3C800000#32 = ((1 / 64 : ℝ) : EReal) := by
  simp [Ideal.ofBits, Ideal.ieee]
  rw [← EReal.coe_mul]
  norm_num

theorem sixtyfour : Ideal.ofBits .f32 0x42800000#32 = ((64 : ℝ) : EReal) := by
  simp [Ideal.ofBits, Ideal.ieee]
  rw [← EReal.coe_mul]
  norm_num

/-- Multiplying by a 64th is dividing by 64. -/
theorem mul_sixtyfourth (s : EReal) : s * Ideal.ofBits .f32 0x3C800000#32 = Ideal.div s (Ideal.ofBits .f32 0x42800000#32) := by
  rw [sixtyfourth, sixtyfour]
  have h : ((64 : ℝ) : EReal) ≠ 0 := EReal.coe_ne_zero.mpr (by norm_num)
  simp only [Ideal.div, if_neg h]
  rw [← EReal.coe_inv]
  norm_num

/-- Of 256 numbers the sum of those in the group of 64 that `l` belongs to. -/
theorem sum_group (f : Fin 256 → EReal) (l : Fin 256) :
    (∑ i : Fin 256, f i * if i.val / 64 = l.val / 64 then 1 else 0) = ∑ d : Fin 64, f ⟨64 * (l.val / 64) + d.val, by omega⟩ := by
  rw [← Equiv.sum_comp (finProdFinEquiv (m := 4) (n := 64)), Fintype.sum_prod_type,
    Finset.sum_eq_single (⟨l.val / 64, by omega⟩ : Fin 4)]
  · refine Finset.sum_congr rfl fun d _ => ?_
    have hv : (finProdFinEquiv ((⟨l.val / 64, by omega⟩ : Fin 4), d)).val = 64 * (l.val / 64) + d.val := by
      show d.val + 64 * (l.val / 64) = _; omega
    rw [if_pos (by rw [hv]; omega), mul_one]
    exact congrArg f (Fin.ext hv)
  · intro a _ ha
    refine Finset.sum_eq_zero fun d _ => ?_
    have hv : (finProdFinEquiv ((a : Fin 4), d)).val = 64 * a.val + d.val := by
      show d.val + 64 * a.val = _; omega
    rw [if_neg (by rw [hv]; intro h; exact ha (Fin.ext (by show a.val = l.val / 64; omega))), mul_zero]
  · intro h
    exact absurd (Finset.mem_univ _) h

end Cert.Proj

end
-- ==== Proof.PostMath.lean ====
/- The end of the mixer as real functions of a token: its heads' norms, the bonus, the gate. -/
module

public import proofs.«01_k».proof.Proof.ProjMath

@[expose] public section

noncomputable section

namespace Cert.Post

open Idealize.ShloMosaic

/-- The channel of number `d` of head `h`. -/
def chan (h : Fin 16) (d : Fin 64) : Fin 1024 := ⟨64 * h.val + d.val, by omega⟩

/-- The head of a channel. -/
def headOf (f : Fin 1024) : Fin 16 := ⟨f.val / 64, by omega⟩

/-- The place of a channel in its head. -/
def placeOf (f : Fin 1024) : Fin 64 := ⟨f.val % 64, by omega⟩

theorem chan_of (f : Fin 1024) : chan (headOf f) (placeOf f) = f := Fin.ext (by
  show 64 * (f.val / 64) + f.val % 64 = f.val
  omega)

/-- The numbers of a head less their mean. -/
def dev (y : Fin 16 → Fin 64 → EReal) (h : Fin 16) (d : Fin 64) : EReal :=
  y h d - Ideal.div (∑ d, y h d) (Ideal.ofBits .f32 0x42800000#32)

/-- The numbers of a head less their mean, over their deviation. -/
def unit (y : Fin 16 → Fin 64 → EReal) (h : Fin 16) (d : Fin 64) : EReal :=
  dev y h d * Ideal.rsqrt (Ideal.div (∑ d, dev y h d * dev y h d) (Ideal.ofBits .f32 0x42800000#32) + Ideal.ofBits .f32 0x3A27C5AC#32)

/-- A term of a head's bonus. -/
def term (r a b w : Fin 16 → Fin 64 → EReal) (h : Fin 16) (d : Fin 64) : EReal :=
  r h d * (Ideal.ofBits .f32 0x3F000000#32 * (a h d + b h d)) * w h d

/-- A channel before the output projection: the normed number with gain and offset, the bonus, the gate. -/
def gated (y r a b v w : Fin 16 → Fin 64 → EReal) (g lg lb : Fin 1024 → EReal) (f : Fin 1024) : EReal :=
  (unit y (headOf f) (placeOf f) * lg f + lb f + (∑ d, term r a b w (headOf f) d) * v (headOf f) (placeOf f)) * g f

/-- A finite number. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.sub {x y : EReal} (hx : Real' x) (hy : Real' y) : Real' (x - y) := by
  obtain ⟨a, rfl⟩ := hx
  obtain ⟨b, rfl⟩ := hy
  exact ⟨a - b, (EReal.coe_sub a b).symm⟩

theorem Real'.sum {ι : Type} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

/-- A finite number less itself is zero. -/
theorem Real'.sub_self {x : EReal} (hx : Real' x) : x - x = 0 := by
  obtain ⟨a, rfl⟩ := hx
  rw [← EReal.coe_sub, _root_.sub_self, EReal.coe_zero]

theorem half_real : Real' (Ideal.ofBits .f32 0x3F000000#32) := ⟨1 / 2, by
  simp [Ideal.ofBits, Ideal.ieee]
  rw [← EReal.coe_mul]
  norm_num⟩

theorem sixtyfourth_real : Real' (Ideal.ofBits .f32 0x3C800000#32) := ⟨_, Proj.sixtyfourth⟩

/-- Of finite numbers the deviations are finite. -/
theorem dev_real (y : Fin 16 → Fin 64 → EReal) (hy : ∀ h d, Real' (y h d)) (h : Fin 16) (d : Fin 64) : Real' (dev y h d) := by
  unfold dev
  rw [← Proj.mul_sixtyfourth]
  exact (hy h d).sub ((Real'.sum _ _ fun d => hy h d).mul sixtyfourth_real)

theorem term_real (r a b w : Fin 16 → Fin 64 → EReal) (hr : ∀ h d, Real' (r h d)) (ha : ∀ h d, Real' (a h d)) (hb : ∀ h d, Real' (b h d))
    (hw : ∀ h d, Real' (w h d)) (h : Fin 16) (d : Fin 64) : Real' (term r a b w h d) :=
  ((hr h d).mul (half_real.mul ((ha h d).add (hb h d)))).mul (hw h d)

end Cert.Post

end
-- ==== Proof.PreMath.lean ====
/- The start of the RWKV-7 mixer on rows of extended reals: the token shift, the projections, the rates, the log decays and
   the normed keys, and why the kernel's forms of the last two are the reference's. -/
module

public import proofs.«01_k».proof.Proof.PostMath
public import proofs.«01_k».proof.Proof.FfnMath

@[expose] public section

noncomputable section

namespace Cert.Pre

open Idealize.ShloMosaic Idealize.ShloMosaic.ValueIdx Cert.Post

/-- Half the sum of the rows before and after, less the row itself. -/
def shift (p c n : Fin 1024 → EReal) (k : Fin 1024) : EReal := Ideal.ofBits .f32 0x3F000000#32 * (p k + n k) - c k

/-- The row moved by a share of the shift. -/
def mix (m p c n : Fin 1024 → EReal) (k : Fin 1024) : EReal := c k + shift p c n k * m k

/-- A row against a column. -/
def prod {n m : Nat} (a : Fin n → EReal) (w : Fin n → Fin m → EReal) (f : Fin m) : EReal := ∑ k, a k * w k f

/-- The sum of the squares of the head that a channel belongs to. -/
def energy (u : Fin 1024 → EReal) (f : Fin 1024) : EReal := ∑ d, u (chan (headOf f) d) * u (chan (headOf f) d)

/-- A channel over the length of its head, as the reference writes it. -/
def unitKey (u : Fin 1024 → EReal) (f : Fin 1024) : EReal :=
  Ideal.div (u f) (max (Ideal.sqrt (energy u f)) (Ideal.ofBits .f32 0x2B8CBCCC#32))

/-- The softplus of a number, as the reference's function computes it. -/
def softplus (x : EReal) : EReal :=
  Scalar.select (Ideal.cmp .une (x - Ideal.ofBits .f32 0x00000000#32) (x - Ideal.ofBits .f32 0x00000000#32)) (x + Ideal.ofBits .f32 0x00000000#32)
    (max x (Ideal.ofBits .f32 0x00000000#32)
      + Ideal.log1p (Ideal.exp (-(max (x - Ideal.ofBits .f32 0x00000000#32) (-(x - Ideal.ofBits .f32 0x00000000#32))))))

/-- The log decay, as the reference writes it. -/
def decay (z : EReal) : EReal := -(Ideal.exp (-(softplus (-z)) - Ideal.ofBits .f32 0x3F000000#32))

/-- The key moved towards its rate. -/
def rated (one k a ka : EReal) : EReal := k * (one + (a - one) * ka)

theorem half_eq : Ideal.ofBits .f32 0x3F000000#32 = ((1 / 2 : ℝ) : EReal) := by
  simp [Ideal.ofBits, Ideal.ieee]
  rw [← EReal.coe_mul]
  norm_num

theorem neg_half_eq : Ideal.ofBits .f32 0xBF000000#32 = ((-(1 / 2) : ℝ) : EReal) := by
  simp [Ideal.ofBits, Ideal.ieee]
  rw [← EReal.coe_mul]
  norm_num

theorem least_eq : Ideal.ofBits .f32 0x2B8CBCCC#32 = ((2305843 / 2305843009213693952 : ℝ) : EReal) := by
  simp [Ideal.ofBits, Ideal.ieee]
  rw [← EReal.coe_mul]
  norm_num

/-- The larger of two finite numbers. -/
theorem coe_max' (a b : ℝ) : ((max a b : ℝ) : EReal) = max (a : EReal) (b : EReal) := EReal.coe_strictMono.monotone.map_max

theorem softplus_of (x : EReal) : softplus x = max x 0 + Ideal.log1p (Ideal.exp (-(max x (-x)))) := by
  unfold softplus
  rw [Ideal.ofBits_zero_f32, sub_zero]
  have h : Ideal.cmp .une x x = 0#1 := by simp [Ideal.cmp]
  rw [h]
  rfl

/-- The kernel's log decay is the reference's. -/
theorem decay_eq (z : EReal) :
    (Ideal.ofBits .f32 0x00000000#32 - Ideal.exp (Ideal.ofBits .f32 0xBF000000#32)) * Ideal.logistic z = decay z := by
  have e1 : Ideal.exp ((-(1 / 2) : ℝ) : EReal) = ((Real.exp (-(1 / 2)) : ℝ) : EReal) := rfl
  have l1 : Ideal.log1p 0 = 0 := by
    show Ideal.log (1 + 0) = 0
    rw [add_zero, ← EReal.coe_one]
    show (if (1 : ℝ) ≤ 0 then (⊥ : EReal) else ((Real.log 1 : ℝ) : EReal)) = 0
    rw [if_neg (by norm_num), Real.log_one, EReal.coe_zero]
  unfold decay
  rw [softplus_of, Ideal.ofBits_zero_f32, zero_sub, half_eq, neg_half_eq, e1]
  induction z using EReal.rec with
  | bot =>
    have h0 : Ideal.logistic ⊥ = 0 := by
      show Ideal.div 1 (1 + Ideal.exp (-⊥)) = 0
      rw [EReal.neg_bot]
      show Ideal.div 1 (1 + ⊤) = 0
      have h1 : (1 : EReal) + ⊤ = ⊤ := rfl
      rw [h1]
      simp [Ideal.div]
    rw [h0, mul_zero, EReal.neg_bot, EReal.neg_top, max_eq_left (bot_le : (⊥ : EReal) ≤ ⊤), EReal.neg_top, max_eq_left (le_top : (0 : EReal) ≤ ⊤)]
    show 0 = -(Ideal.exp (-(⊤ + Ideal.log1p 0) - _))
    rw [l1, add_zero, EReal.neg_top, EReal.bot_sub]
    show 0 = -(0 : EReal)
    rw [neg_zero]
  | top =>
    have h0 : Ideal.logistic ⊤ = 1 := by
      show Ideal.div 1 (1 + Ideal.exp (-⊤)) = 1
      rw [EReal.neg_top]
      show Ideal.div 1 (1 + 0) = 1
      simp [Ideal.div]
    rw [h0, mul_one, EReal.neg_top, EReal.neg_bot, max_eq_right (bot_le : (⊥ : EReal) ≤ ⊤), EReal.neg_top, max_eq_right (bot_le : (⊥ : EReal) ≤ 0)]
    show _ = -(Ideal.exp (-(0 + Ideal.log1p 0) - _))
    rw [l1, add_zero, neg_zero, zero_sub, ← EReal.coe_neg]
    rfl
  | coe r =>
    have hE : (0 : ℝ) < 1 + Real.exp (-r) := by positivity
    have h0 : Ideal.logistic (r : EReal) = (((1 + Real.exp (-r))⁻¹ : ℝ) : EReal) := by
      show Ideal.div 1 (1 + Ideal.exp (-(r : EReal))) = _
      rw [← EReal.coe_neg]
      show Ideal.div 1 (1 + ((Real.exp (-r) : ℝ) : EReal)) = _
      rw [← EReal.coe_one, ← EReal.coe_add]
      unfold Ideal.div
      rw [if_neg (by rw [← EReal.coe_zero]; exact fun h => hE.ne' (EReal.coe_injective h)), EReal.coe_one, one_mul, EReal.coe_inv]
    have hm : max (-(r : EReal)) (-(-(r : EReal))) = ((|r| : ℝ) : EReal) := by
      rw [← EReal.coe_neg, ← EReal.coe_neg, ← coe_max', neg_neg, max_comm]
      rfl
    have hp : max (-(r : EReal)) 0 = ((max (-r) 0 : ℝ) : EReal) := by
      rw [← EReal.coe_neg, ← EReal.coe_zero, ← coe_max']
    have hl : Ideal.log1p (Ideal.exp (-((|r| : ℝ) : EReal))) = ((Real.log (1 + Real.exp (-|r|)) : ℝ) : EReal) := by
      rw [← EReal.coe_neg]
      show Ideal.log (1 + ((Real.exp (-|r|) : ℝ) : EReal)) = _
      rw [← EReal.coe_one, ← EReal.coe_add]
      show (if 1 + Real.exp (-|r|) ≤ 0 then (⊥ : EReal) else _) = _
      rw [if_neg (by have := Real.exp_pos (-|r|); linarith)]
    have hs : max (-r) 0 + Real.log (1 + Real.exp (-|r|)) = Real.log (1 + Real.exp (-r)) := by
      rcases le_total 0 r with h | h
      · rw [max_eq_right (by linarith), abs_of_nonneg h, zero_add]
      · rw [max_eq_left (by linarith), abs_of_nonpos h, neg_neg]
        have : 1 + Real.exp (-r) = Real.exp (-r) * (1 + Real.exp r) := by
          rw [mul_add, mul_one, ← Real.exp_add, neg_add_cancel, Real.exp_zero, add_comm]
        rw [this, Real.log_mul (Real.exp_pos _).ne' (by positivity), Real.log_exp]
    rw [h0, hm, hp, hl, ← EReal.coe_add, hs, ← EReal.coe_neg, ← EReal.coe_neg, ← EReal.coe_sub, ← EReal.coe_mul]
    show _ = -(((Real.exp (-Real.log (1 + Real.exp (-r)) - 1 / 2) : ℝ)) : EReal)
    rw [← EReal.coe_neg]
    congr 1
    rw [sub_eq_add_neg, Real.exp_add, Real.exp_neg (Real.log _), Real.exp_log hE]
    ring

/-- The key over its head's length, as the kernel writes it, is the reference's, for finite keys. -/
theorem unitKey_eq (u : Fin 1024 → EReal) (hu : ∀ f, Real' (u f)) (f : Fin 1024) :
    u f * Ideal.rsqrt (max (energy u f) ((5316911940649 / 5316911983139663491615228241121378304 : ℝ) : EReal)) = unitKey u f := by
  obtain ⟨x, hx⟩ := hu f
  have hs : ∃ s : ℝ, 0 ≤ s ∧ energy u f = (s : EReal) := by
    choose v hv using hu
    refine ⟨∑ d, v (chan (headOf f) d) * v (chan (headOf f) d), Finset.sum_nonneg fun d _ => mul_self_nonneg _, ?_⟩
    unfold energy
    have : ∀ s : Finset (Fin 64), (∑ d ∈ s, u (chan (headOf f) d) * u (chan (headOf f) d)) = ((∑ d ∈ s, v (chan (headOf f) d) * v (chan (headOf f) d) : ℝ) : EReal) := by
      intro s
      induction s using Finset.induction_on with
      | empty => simp
      | insert a s ha ih => rw [Finset.sum_insert ha, Finset.sum_insert ha, ih, EReal.coe_add, EReal.coe_mul, ← hv]
    exact this _
  obtain ⟨s, hs0, hs⟩ := hs
  unfold unitKey
  rw [least_eq, hs, hx]
  have hq : Ideal.sqrt (s : EReal) = ((Real.sqrt s : ℝ) : EReal) := by
    show (if s < 0 then (⊥ : EReal) else _) = _
    rw [if_neg (not_lt.mpr hs0)]
  rw [hq, ← coe_max', ← coe_max']
  set c : ℝ := 2305843 / 2305843009213693952 with hc
  have hc0 : 0 < c := by rw [hc]; norm_num
  have hcc : (5316911940649 / 5316911983139663491615228241121378304 : ℝ) = c * c := by rw [hc]; norm_num
  rw [hcc]
  have hm : Real.sqrt (max s (c * c)) = max (Real.sqrt s) c := by
    have h2 : Real.sqrt (c * c) = c := Real.sqrt_mul_self hc0.le
    rcases le_total s (c * c) with h | h
    · rw [max_eq_right h, h2, max_eq_right]
      rw [← h2]
      exact Real.sqrt_le_sqrt h
    · rw [max_eq_left h, max_eq_left]
      rw [← h2]
      exact Real.sqrt_le_sqrt h
  have hp : 0 < max s (c * c) := lt_of_lt_of_le (mul_pos hc0 hc0) (le_max_right _ _)
  have hp' : 0 < max (Real.sqrt s) c := lt_of_lt_of_le hc0 (le_max_right _ _)
  have hr : Ideal.rsqrt ((max s (c * c) : ℝ) : EReal) = (((max (Real.sqrt s) c)⁻¹ : ℝ) : EReal) := by
    show (if max s (c * c) < 0 then (⊥ : EReal) else if max s (c * c) = 0 then ⊤ else _) = _
    rw [if_neg (not_lt.mpr hp.le), if_neg hp.ne', hm]
  rw [hr]
  unfold Ideal.div
  rw [if_neg (by rw [← EReal.coe_zero]; exact fun h => hp'.ne' (EReal.coe_injective h)), EReal.coe_inv]

theorem eps_eq : ∃ e : ℝ, 0 < e ∧ Ideal.ofBits .f32 0x358637BD#32 = (e : EReal) := by
  refine ⟨8796093 * (2 ^ 43 : ℝ)⁻¹, by positivity, ?_⟩
  simp [Ideal.ofBits, Ideal.ieee]

theorem thousand_eq : Ideal.ofBits .f32 0x44800000#32 = ((1024 : ℝ) : EReal) := by
  simp [Ideal.ofBits, Ideal.ieee]
  rw [← EReal.coe_mul]
  norm_num

/-- The square of an extended real is not negative. -/
theorem sq_nonneg' (x : EReal) : 0 ≤ x * x := by
  induction x using EReal.rec with
  | bot => simp
  | top => simp
  | coe r => rw [← EReal.coe_mul, ← EReal.coe_zero]; exact EReal.coe_le_coe_iff.mpr (mul_self_nonneg r)

/-- A normed row is finite, whatever the row, if the gain is. -/
theorem row_real (g x : Fin 1024 → EReal) (hg : ∀ k, Real' (g k)) (k : Fin 1024) : Real' (Ffn.row g x k) := by
  unfold Ffn.row
  by_cases hx : ∀ i, Real' (x i)
  · obtain ⟨s, hs⟩ := Real'.sum Finset.univ (fun i => x i * x i) fun i => (hx i).mul (hx i)
    have hs0 : 0 ≤ s := by
      have h : (0 : EReal) ≤ ∑ i, x i * x i := Finset.sum_nonneg fun i _ => sq_nonneg' _
      rw [hs, ← EReal.coe_zero] at h
      exact EReal.coe_le_coe_iff.mp h
    obtain ⟨e, he, hee⟩ := eps_eq
    have hd : Ideal.div (s : EReal) ((1024 : ℝ) : EReal) = ((s * (1024 : ℝ)⁻¹ : ℝ) : EReal) := by
      unfold Ideal.div
      rw [if_neg (by rw [← EReal.coe_zero]; exact fun h => by have := EReal.coe_injective h; norm_num at this), EReal.coe_mul, EReal.coe_inv]
    rw [hs, hee, thousand_eq, hd, ← EReal.coe_add]
    have hp : 0 < s * (1024 : ℝ)⁻¹ + e := by positivity
    refine ((hx k).mul ⟨(Real.sqrt (s * (1024 : ℝ)⁻¹ + e))⁻¹, ?_⟩).mul (hg k)
    show (if s * (1024 : ℝ)⁻¹ + e < 0 then (⊥ : EReal) else if s * (1024 : ℝ)⁻¹ + e = 0 then ⊤ else _) = _
    rw [if_neg (not_lt.mpr hp.le), if_neg hp.ne']
  · obtain ⟨i, hi⟩ := not_forall.mp hx
    have ht : x i * x i = ⊤ := by
      revert hi
      induction x i using EReal.rec with
      | bot => intro _; simp
      | top => intro _; simp
      | coe r => intro h; exact absurd ⟨r, rfl⟩ h
    have hs : (∑ i, x i * x i) = ⊤ := top_le_iff.mp (ht ▸ Finset.single_le_sum (f := fun i => x i * x i) (fun i _ => sq_nonneg' _) (Finset.mem_univ i))
    obtain ⟨e, he, hee⟩ := eps_eq
    have hd : Ideal.div ⊤ ((1024 : ℝ) : EReal) = ⊤ := by
      unfold Ideal.div
      rw [if_neg (by rw [← EReal.coe_zero]; exact fun h => by have := EReal.coe_injective h; norm_num at this), ← EReal.coe_inv]
      exact EReal.top_mul_coe_of_pos (by norm_num)
    rw [hs, hee, thousand_eq, hd, EReal.top_add_coe]
    show Real' (x k * 0 * g k)
    rw [mul_zero, zero_mul]
    exact ⟨0, rfl⟩

/-- The shifted and mixed row is finite with its three rows. -/
theorem mix_real (m p c n : Fin 1024 → EReal) (hm : ∀ k, Real' (m k)) (hp : ∀ k, Real' (p k)) (hc : ∀ k, Real' (c k)) (hn : ∀ k, Real' (n k))
    (k : Fin 1024) : Real' (mix m p c n k) :=
  (hc k).add (((half_real.mul ((hp k).add (hn k))).sub (hc k)).mul (hm k))

/-- The normed row of zeros is zero. -/
theorem row_zero (g : Fin 1024 → EReal) : Ffn.row g (fun _ => 0) = fun _ => 0 := funext fun k => by simp [Ffn.row]

/-- Of 128 channels masked to the first 64, only those count. -/
theorem sum_first (T : Fin 128 → EReal) (W : Fin 128 → EReal) :
    (∑ l : Fin 128, (if l.val < 64 then T l else 0) * W l) = ∑ l : Fin 64, T ⟨l.val, by omega⟩ * W ⟨l.val, by omega⟩ := by
  refine (Fin.sum_univ_add (a := 64) (b := 64) fun l : Fin 128 => (if l.val < 64 then T l else 0) * W l).trans ?_
  refine (congrArg₂ (· + ·) (Finset.sum_congr rfl fun l _ => ?_) (Finset.sum_eq_zero fun l _ => ?_)).trans (add_zero _)
  · rw [if_pos (show (Fin.castAdd 64 l).val < 64 from l.isLt)]
    rfl
  · rw [if_neg (show ¬ (Fin.natAdd 64 l).val < 64 by show ¬ 64 + l.val < 64; omega), zero_mul]

/-- Of 128 channels masked to the last 64, only those count. -/
theorem sum_last (T : Fin 128 → EReal) (W : Fin 128 → EReal) :
    (∑ l : Fin 128, (if l.val < 64 then 0 else T l) * W l) = ∑ l : Fin 64, T ⟨64 + l.val, by omega⟩ * W ⟨64 + l.val, by omega⟩ := by
  refine (Fin.sum_univ_add (a := 64) (b := 64) fun l : Fin 128 => (if l.val < 64 then 0 else T l) * W l).trans ?_
  refine (congrArg₂ (· + ·) (Finset.sum_eq_zero fun l _ => ?_) (Finset.sum_congr rfl fun l _ => ?_)).trans (zero_add _)
  · rw [if_pos (show (Fin.castAdd 64 l).val < 64 from l.isLt), zero_mul]
  · rw [if_neg (show ¬ (Fin.natAdd 64 l).val < 64 by show ¬ 64 + l.val < 64; omega)]
    rfl

end Cert.Pre

end
-- ==== Proof.FfnTile.lean ====
/- One block of the convolution-gated MLP kernel read at an index: the normed rows, the first product, the convolution
   along the rows, the gated product. -/
module

public import proofs.«01_k».proof.Proof.FfnMath
public import proofs.«01_k».proof.Proof.Gen.Kernel2Ideal.Skeleton
public import Idealize.ShloMosaic.Lib.Pipeline.Value
public import Idealize.ShloMosaic.Lib.KernelVsHost

@[expose] public section

noncomputable section

namespace Cert.FfnTile

open Cert.Kernel2Ideal Cert.Kernel2Ideal.Gen Cert.Ffn Idealize.ShloMosaic Idealize.ShloMosaic.ValueIdx

/-- The first product of the 528 rows with 256 columns of the weights. -/
theorem proj_apply (x : FVec Ideal S528x1024 .bf16) (w : Vec Ideal S1024x256 .bf16) (r : Fin 528) (l : Fin 256) :
    k0_pay19 x w (ix2 r l) = ∑ k : Fin 1024, x (ix2 r k) * w (ix2 k l) := by
  show matmul dot_S528x1024_S1024x256_S528x256_1_0_0_1_n_n none x (shapeCast S1024x256 w shapeCasts_S1024x256_S1024x256) (constant S528x256 .f32 0x00000000#32) (ix2 r l) = _
  rw [shapeCast_self]
  simp only [matmul]
  rw [Ideal.matmul_constant_zero_apply, ← Equiv.sum_comp (contrEquiv1 dot_S528x1024_S1024x256_S528x256_1_0_0_1_n_n 1024 rfl rfl).symm]
  refine Finset.sum_congr rfl fun d _ => ?_
  have hd := contrEquiv1_symm_val dot_S528x1024_S1024x256_S528x256_1_0_0_1_n_n 1024 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- The second product. -/
theorem down_apply (h : Vec Ideal S512x2816 .bf16) (w : Vec Ideal S2816x1024 .bf16) (x : FVec Ideal S512x1024 .f32) (r : Fin 512) (e : Fin 1024) :
    k0_pay2 x h w (ix2 r e) = x (ix2 r e) + ∑ j : Fin 2816, h (ix2 r j) * w (ix2 j e) := by
  show x (ix2 r e) + matmul dot_S512x2816_S2816x1024_S512x1024_1_0_0_1_n_n none h (shapeCast S2816x1024 w shapeCasts_S2816x1024_S2816x1024) (constant S512x1024 .f32 0x00000000#32) (ix2 r e) = _
  rw [shapeCast_self]
  refine congrArg (x (ix2 r e) + ·) ?_
  simp only [matmul]
  rw [Ideal.matmul_constant_zero_apply, ← Equiv.sum_comp (contrEquiv1 dot_S512x2816_S2816x1024_S512x1024_1_0_0_1_n_n 2816 rfl rfl).symm]
  refine Finset.sum_congr rfl fun d _ => ?_
  have hd := contrEquiv1_symm_val dot_S512x2816_S2816x1024_S512x1024_1_0_0_1_n_n 2816 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- Where the row before row `r` of the block stands among the 528 rows: the one before row 0 is the last of the eight
    rows taken from the block before. -/
def before (r : Fin 512) : Fin 528 := if r.val = 0 then ⟨519, by omega⟩ else ⟨r.val - 1, by omega⟩

/-- Where the row after row `r` stands: the one after row 511 is the first of the eight rows taken from the block after. -/
def after (r : Fin 512) : Fin 528 := if r.val = 511 then ⟨520, by omega⟩ else ⟨r.val + 1, by omega⟩

/-- Row `r` of the block among the 528 rows. -/
def self (r : Fin 512) : Fin 528 := ⟨r.val, by omega⟩

/-- Whether an eighth row is row `n` of the eight. -/
theorem eighth (b : BitVec 32) (n : Fin 8) (hb : b = BitVec.ofNat 32 n.val) (r : Fin 8) (l : Fin 256) :
    cmpi .eq (iota .tc S8x256 32 [0] iota_S8x256_d0_w32) (broadcast S8x256 b) (ix2 r l) = if r = n then 1#1 else 0#1 := by
  show IntOp.cmpi .eq (iota .tc S8x256 32 [0] iota_S8x256_d0_w32 (ix2 r l)) b = _
  rw [iota_single_apply]
  show IntOp.cmpi .eq (BitVec.ofNat 32 r.val) b = _
  subst hb
  revert n r; decide

variable (u : FVec Ideal S528x256 .f32)

/-- The block's rows moved down by one, the first from the rows before it. -/
def down : FVec Ideal S512x256 .f32 :=
  have v186 : FVec Ideal S512x256 .f32 := extractStridedSlice S512x256 ![0, 0] u slices_S528x256_o0_0_S512x256
  have v189 : FVec Ideal S512x256 .f32 := dynamicRotate 0 1#32 none v186 rotates_S512x256_d0
  concatenate S512x256 0 [⟨S8x256, select (cmpi .eq (iota .tc S8x256 32 [0] iota_S8x256_d0_w32) (broadcast S8x256 0#32))
      (broadcastTo S8x256 (shapeCast S1x256 (extractStridedSlice S1x256 ![519, 0] u slices_S528x256_o519_0_S1x256) shapeCasts_S1x256_S1x256) broadcasts_S1x256_S8x256)
      (extractStridedSlice S8x256 ![0, 0] v189 slices_S512x256_o0_0_S8x256)⟩,
    ⟨S504x256, extractStridedSlice S504x256 ![8, 0] v189 slices_S512x256_o8_0_S504x256⟩] concatenates_S8x256_S504x256_S512x256_d0

/-- The block's rows moved up by one, the last from the rows after it. -/
def up : FVec Ideal S512x256 .f32 :=
  have v186 : FVec Ideal S512x256 .f32 := extractStridedSlice S512x256 ![0, 0] u slices_S528x256_o0_0_S512x256
  have v190 : FVec Ideal S512x256 .f32 := dynamicRotate 0 511#32 none v186 rotates_S512x256_d0
  concatenate S512x256 0 [⟨S504x256, extractStridedSlice S504x256 ![0, 0] v190 slices_S512x256_o0_0_S504x256⟩,
    ⟨S8x256, select (cmpi .eq (iota .tc S8x256 32 [0] iota_S8x256_d0_w32) (broadcast S8x256 7#32))
      (broadcastTo S8x256 (shapeCast S1x256 (extractStridedSlice S1x256 ![520, 0] u slices_S528x256_o520_0_S1x256) shapeCasts_S1x256_S1x256) broadcasts_S1x256_S8x256)
      (extractStridedSlice S8x256 ![504, 0] v190 slices_S512x256_o504_0_S8x256)⟩] concatenates_S504x256_S8x256_S512x256_d0

/-- The block's own rows. -/
theorem self_apply (r : Fin 512) (l : Fin 256) :
    extractStridedSlice S512x256 ![0, 0] u slices_S528x256_o0_0_S512x256 (ix2 r l) = u (ix2 (self r) l) :=
  extractStridedSlice_apply (s := S528x256) (t := S512x256) ![0, 0] _ _ _ (ix2 (self r) l) (fun
    | ⟨0, _⟩ => (Nat.zero_add _).symm | ⟨1, _⟩ => (Nat.zero_add _).symm)

/-- A rotation of the 512 rows by `n`, read at an index. -/
theorem rotate_apply (x : FVec Ideal S512x256 .f32) (n : BitVec 32) (r k : Fin 512) (l : Fin 256)
    (hk : k.val = (r.val + 512 - n.toNat % 512) % 512) :
    dynamicRotate 0 n none x rotates_S512x256_d0 (ix2 r l) = x (ix2 k l) :=
  dynamicRotate_apply (s := S512x256) 0 n x _ _ (ix2 k l) (fun
    | ⟨0, _⟩ => hk | ⟨1, _⟩ => rfl)

/-- A row repeated in eight rows. -/
theorem repeat_apply (o : Nat) (h : S528x256.Slices ![o, 0] S1x256) (ho : o < 528) (r : Fin 8) (l : Fin 256) :
    broadcastTo S8x256 (shapeCast S1x256 (extractStridedSlice S1x256 ![o, 0] u h) shapeCasts_S1x256_S1x256) broadcasts_S1x256_S8x256 (ix2 r l)
      = u (ix2 ⟨o, ho⟩ l) := by
  rw [shapeCast_self]
  refine (broadcastTo_apply (s := S1x256) (t := S8x256) _ _ (ix2 r l) (ix2 0 l) (fun | ⟨0, _⟩ => rfl | ⟨1, _⟩ => rfl)).trans ?_
  exact extractStridedSlice_apply (s := S528x256) (t := S1x256) ![o, 0] _ _ _ (ix2 ⟨o, ho⟩ l) (fun
    | ⟨0, _⟩ => rfl | ⟨1, _⟩ => (Nat.zero_add _).symm)

theorem down_rows (r : Fin 512) (l : Fin 256) : down u (ix2 r l) = u (ix2 (before r) l) := by
  unfold down
  by_cases h8 : r.val < 8
  · refine (concatenate_pair_apply_left (t := S512x256) (s₁ := S8x256) (s₂ := S504x256) 0 _ _ _ _ rfl (ix2 (⟨r.val, h8⟩ : Fin 8) l) (fun | ⟨0, _⟩ => rfl | ⟨1, _⟩ => rfl)).trans ?_
    rw [select_apply, eighth 0#32 0 rfl]
    by_cases h0 : r.val = 0
    · rw [if_pos (Fin.ext h0), select_one, repeat_apply u 519 _ (by decide)]
      unfold before
      rw [if_pos h0]
    · rw [if_neg (fun h => h0 (congrArg Fin.val h)), select_zero]
      refine (extractStridedSlice_apply (s := S512x256) (t := S8x256) ![0, 0] _ _ _ (ix2 r l) (fun
        | ⟨0, _⟩ => (Nat.zero_add _).symm | ⟨1, _⟩ => (Nat.zero_add _).symm)).trans ?_
      rw [rotate_apply _ 1#32 r ⟨r.val - 1, by omega⟩ l (by show r.val - 1 = (r.val + 512 - 1) % 512; omega), self_apply]
      unfold before self
      rw [if_neg h0]
  · refine (concatenate_pair_apply_right (t := S512x256) (s₁ := S8x256) (s₂ := S504x256) 0 _ _ _ _ rfl rfl (ix2 (⟨r.val - 8, by omega⟩ : Fin 504) l) (fun b hb => match b with | ⟨0, _⟩ => absurd rfl hb | ⟨1, _⟩ => rfl) (by show r.val - 8 + 8 = r.val; omega)).trans ?_
    refine (extractStridedSlice_apply (s := S512x256) (t := S504x256) ![8, 0] _ _ _ (ix2 r l) (fun
      | ⟨0, _⟩ => by show r.val = 8 + (r.val - 8); omega
      | ⟨1, _⟩ => (Nat.zero_add _).symm)).trans ?_
    rw [rotate_apply _ 1#32 r ⟨r.val - 1, by omega⟩ l (by show r.val - 1 = (r.val + 512 - 1) % 512; omega), self_apply]
    unfold before self
    rw [if_neg (by omega)]

theorem up_rows (r : Fin 512) (l : Fin 256) : up u (ix2 r l) = u (ix2 (after r) l) := by
  unfold up
  by_cases h8 : r.val < 504
  · refine (concatenate_pair_apply_left (t := S512x256) (s₁ := S504x256) (s₂ := S8x256) 0 _ _ _ _ rfl (ix2 (⟨r.val, h8⟩ : Fin 504) l) (fun | ⟨0, _⟩ => rfl | ⟨1, _⟩ => rfl)).trans ?_
    refine (extractStridedSlice_apply (s := S512x256) (t := S504x256) ![0, 0] _ _ _ (ix2 r l) (fun
      | ⟨0, _⟩ => (Nat.zero_add _).symm | ⟨1, _⟩ => (Nat.zero_add _).symm)).trans ?_
    rw [rotate_apply _ 511#32 r ⟨r.val + 1, by omega⟩ l (by show r.val + 1 = (r.val + 512 - 511) % 512; omega), self_apply]
    unfold after self
    rw [if_neg (by omega)]
  · refine (concatenate_pair_apply_right (t := S512x256) (s₁ := S504x256) (s₂ := S8x256) 0 _ _ _ _ rfl rfl (ix2 (⟨r.val - 504, by omega⟩ : Fin 8) l) (fun b hb => match b with | ⟨0, _⟩ => absurd rfl hb | ⟨1, _⟩ => rfl) (by show r.val - 504 + 504 = r.val; omega)).trans ?_
    rw [select_apply, eighth 7#32 7 rfl]
    by_cases h0 : r.val = 511
    · rw [if_pos (Fin.ext (by show r.val - 504 = 7; omega)), select_one, repeat_apply u 520 _ (by decide)]
      unfold after
      rw [if_pos h0]
    · rw [if_neg (fun h => h0 (by have := congrArg Fin.val h; change r.val - 504 = 7 at this; omega)), select_zero]
      refine (extractStridedSlice_apply (s := S512x256) (t := S8x256) ![504, 0] _ _ _ (ix2 r l) (fun
        | ⟨0, _⟩ => by show r.val = 504 + (r.val - 504); omega
        | ⟨1, _⟩ => (Nat.zero_add _).symm)).trans ?_
      rw [rotate_apply _ 511#32 r ⟨r.val + 1, by omega⟩ l (by show r.val + 1 = (r.val + 512 - 511) % 512; omega), self_apply]
      unfold after self
      rw [if_neg h0]

/-- A row of the taps repeated in 512 rows. -/
theorem tap_apply (cw : Vec Ideal S3x256 .f32) (o : Nat) (h : S3x256.Slices ![o, 0] S1x256) (ho : o < 3) (r : Fin 512) (l : Fin 256) :
    broadcastTo S512x256 (extractStridedSlice S1x256 ![o, 0] cw h) broadcasts_S1x256_S512x256 (ix2 r l) = cw (ix2 ⟨o, ho⟩ l) := by
  refine (broadcastTo_apply (s := S1x256) (t := S512x256) _ _ (ix2 r l) (ix2 0 l) (fun | ⟨0, _⟩ => rfl | ⟨1, _⟩ => rfl)).trans ?_
  exact extractStridedSlice_apply (s := S3x256) (t := S1x256) ![o, 0] _ _ _ (ix2 ⟨o, ho⟩ l) (fun
    | ⟨0, _⟩ => rfl | ⟨1, _⟩ => (Nat.zero_add _).symm)

/-- The convolution of 256 columns along the rows, with the bias. -/
theorem conv_apply (cw : Vec Ideal S3x256 .f32) (cb : Vec Ideal S1x256 .f32) (r : Fin 512) (l : Fin 256) :
    k0_pay25 u cw cb (ix2 r l) = u (ix2 (before r) l) * cw (ix2 0 l) + u (ix2 (self r) l) * cw (ix2 1 l) + u (ix2 (after r) l) * cw (ix2 2 l) + cb (ix2 0 l) := by
  have hb : broadcastTo S512x256 (shapeCast S1x256 cb shapeCasts_S1x256_S1x256) broadcasts_S1x256_S512x256 (ix2 r l) = cb (ix2 0 l) := by
    rw [shapeCast_self]
    exact broadcastTo_apply (s := S1x256) (t := S512x256) _ _ (ix2 r l) (ix2 0 l) (fun | ⟨0, _⟩ => rfl | ⟨1, _⟩ => rfl)
  have h0 : broadcastTo S512x256 (extractStridedSlice S1x256 ![0, 0] cw slices_S3x256_o0_0_S1x256) broadcasts_S1x256_S512x256 (ix2 r l) = cw (ix2 0 l) :=
    tap_apply cw 0 _ (by decide) r l
  have h1 : broadcastTo S512x256 (extractStridedSlice S1x256 ![1, 0] cw slices_S3x256_o1_0_S1x256) broadcasts_S1x256_S512x256 (ix2 r l) = cw (ix2 1 l) :=
    tap_apply cw 1 _ (by decide) r l
  have h2 : broadcastTo S512x256 (extractStridedSlice S1x256 ![2, 0] cw slices_S3x256_o2_0_S1x256) broadcasts_S1x256_S512x256 (ix2 r l) = cw (ix2 2 l) :=
    tap_apply cw 2 _ (by decide) r l
  rw [← down_rows u, ← up_rows u, ← self_apply u, ← hb, ← h0, ← h1, ← h2]
  rfl

/-- Which of the four blocks of its sequence block `n` is, as the kernel computes it. -/
def pos (n : Nat) : BitVec 32 :=
  let arg0 : BitVec 32 := BitVec.ofNat 32 n
  let v3 : BitVec 32 := Scalar.select (Scalar.cmpi .eq 4#32 0#32) 1#32 4#32
  let v4 : BitVec 32 := Scalar.remsi arg0 v3
  Scalar.select (Scalar.andi (Scalar.xori (Scalar.cmpi .slt v4 0#32) (Scalar.cmpi .slt v3 0#32)) (Scalar.cmpi .ne v4 0#32)) (Scalar.addi v4 v3) v4

/-- The sixteen rows next to the block, where the row `first` has `p` for its bit and the others `q`. -/
def halo (p q : BitVec 32) (y z : FVec Ideal S8x1024 .f32) : FVec Ideal S16x1024 .f32 :=
  select (cmpi .ne (select (cmpi .slt (iota .tc S16x1024 32 [0] iota_S16x1024_d0_w32) (broadcast S16x1024 8#32)) (broadcast S16x1024 p) (broadcast S16x1024 q))
      (broadcast S16x1024 0#32))
    (concatenate S16x1024 0 [⟨S8x1024, y⟩, ⟨S8x1024, z⟩] concatenates_S8x1024_S8x1024_S16x1024_d0)
    (broadcast S16x1024 (Scalar.ofBits .f32 0x00000000#32))

/-- The 528 rows of block `n`: its own 512, and the eight before and the eight after, zero where the sequence ends. -/
def ext (n : Nat) (x : FVec Ideal S512x1024 .f32) (y z : FVec Ideal S8x1024 .f32) : FVec Ideal S528x1024 .f32 :=
  concatenate S528x1024 0 [⟨S512x1024, shapeCast S512x1024 x shapeCasts_S512x1024_S512x1024⟩,
    ⟨S16x1024, halo (Scalar.extui (Scalar.cmpi .ne (pos n) 0#32)) (Scalar.extui (Scalar.cmpi .ne (pos n) 3#32))
      (shapeCast S8x1024 y shapeCasts_S8x1024_S8x1024) (shapeCast S8x1024 z shapeCasts_S8x1024_S8x1024)⟩] concatenates_S512x1024_S16x1024_S528x1024_d0

/-- Of the sixteen rows, one of the first eight. -/
theorem halo_left (p q : BitVec 32) (y z : FVec Ideal S8x1024 .f32) (r : Fin 8) (k : Fin 1024) :
    halo p q y z (ix2 (⟨r.val, by omega⟩ : Fin 16) k) = if p = 0#32 then 0 else y (ix2 r k) := by
  show Scalar.select (IntOp.cmpi .ne (Scalar.select (IntOp.cmpi .slt (iota .tc S16x1024 32 [0] iota_S16x1024_d0_w32 (ix2 (⟨r.val, by omega⟩ : Fin 16) k)) 8#32) p q) 0#32)
    (concatenate S16x1024 0 [⟨S8x1024, y⟩, ⟨S8x1024, z⟩] concatenates_S8x1024_S8x1024_S16x1024_d0 (ix2 (⟨r.val, by omega⟩ : Fin 16) k)) (Ideal.ofBits .f32 0x00000000#32) = _
  rw [iota_single_apply]
  have h : IntOp.cmpi .slt (BitVec.ofNat 32 r.val) 8#32 = 1#1 := by revert r; decide
  have h' : IntOp.cmpi .slt (BitVec.ofNat 32 ((ix2 (⟨r.val, by omega⟩ : Fin 16) k) 0).val) 8#32 = 1#1 := h
  rw [h', select_one]
  by_cases hp : p = 0#32
  · subst hp
    rw [if_pos rfl]
    show Scalar.select 0#1 _ _ = _
    rw [select_zero, Ideal.ofBits_zero_f32]
  · rw [if_neg hp]
    have hc : IntOp.cmpi .ne p 0#32 = 1#1 := by
      show BitVec.ofBool (_ != _) = _
      rw [bne_iff_ne.mpr hp]
      rfl
    rw [hc, select_one]
    exact concatenate_pair_apply_left (t := S16x1024) (s₁ := S8x1024) (s₂ := S8x1024) 0 _ _ _ _ rfl (ix2 r k) (fun | ⟨0, _⟩ => rfl | ⟨1, _⟩ => rfl)

/-- Of the sixteen rows, one of the last eight. -/
theorem halo_right (p q : BitVec 32) (y z : FVec Ideal S8x1024 .f32) (r : Fin 8) (k : Fin 1024) :
    halo p q y z (ix2 (⟨8 + r.val, by omega⟩ : Fin 16) k) = if q = 0#32 then 0 else z (ix2 r k) := by
  show Scalar.select (IntOp.cmpi .ne (Scalar.select (IntOp.cmpi .slt (iota .tc S16x1024 32 [0] iota_S16x1024_d0_w32 (ix2 (⟨8 + r.val, by omega⟩ : Fin 16) k)) 8#32) p q) 0#32)
    (concatenate S16x1024 0 [⟨S8x1024, y⟩, ⟨S8x1024, z⟩] concatenates_S8x1024_S8x1024_S16x1024_d0 (ix2 (⟨8 + r.val, by omega⟩ : Fin 16) k)) (Ideal.ofBits .f32 0x00000000#32) = _
  rw [iota_single_apply]
  have h : IntOp.cmpi .slt (BitVec.ofNat 32 (8 + r.val)) 8#32 = 0#1 := by revert r; decide
  have h' : IntOp.cmpi .slt (BitVec.ofNat 32 ((ix2 (⟨8 + r.val, by omega⟩ : Fin 16) k) 0).val) 8#32 = 0#1 := h
  rw [h', select_zero]
  by_cases hp : q = 0#32
  · subst hp
    rw [if_pos rfl]
    show Scalar.select 0#1 _ _ = _
    rw [select_zero, Ideal.ofBits_zero_f32]
  · rw [if_neg hp]
    have hc : IntOp.cmpi .ne q 0#32 = 1#1 := by
      show BitVec.ofBool (_ != _) = _
      rw [bne_iff_ne.mpr hp]
      rfl
    rw [hc, select_one]
    exact concatenate_pair_apply_right (t := S16x1024) (s₁ := S8x1024) (s₂ := S8x1024) 0 _ _ _ _ rfl rfl (ix2 r k) (fun b hb => match b with | ⟨0, _⟩ => absurd rfl hb | ⟨1, _⟩ => rfl) (by show r.val + 8 = 8 + r.val; omega)

theorem bit_first : ∀ n : Fin 128, (Scalar.extui (Scalar.cmpi .ne (pos n.val) 0#32) : BitVec 32) = if n.val % 4 = 0 then 0#32 else 1#32 := by
  decide +kernel

theorem bit_last : ∀ n : Fin 128, (Scalar.extui (Scalar.cmpi .ne (pos n.val) 3#32) : BitVec 32) = if n.val % 4 = 3 then 0#32 else 1#32 := by
  decide +kernel

variable (n : Fin 128) (x : FVec Ideal S512x1024 .f32) (y z : FVec Ideal S8x1024 .f32)

theorem ext_own (r : Fin 512) (k : Fin 1024) (q : Fin 528) (hq : q.val = r.val) : ext n.val x y z (ix2 q k) = x (ix2 r k) := by
  unfold ext
  rw [shapeCast_self]
  exact concatenate_pair_apply_left (t := S528x1024) (s₁ := S512x1024) (s₂ := S16x1024) 0 _ _ _ _ rfl (ix2 r k) (fun | ⟨0, _⟩ => hq.symm | ⟨1, _⟩ => rfl)

theorem ext_halo (r : Fin 16) (k : Fin 1024) (q : Fin 528) (hq : q.val = 512 + r.val) : ext n.val x y z (ix2 q k)
    = halo (if n.val % 4 = 0 then 0#32 else 1#32) (if n.val % 4 = 3 then 0#32 else 1#32) y z (ix2 r k) := by
  unfold ext
  rw [shapeCast_self, shapeCast_self, shapeCast_self, bit_first, bit_last]
  exact concatenate_pair_apply_right (t := S528x1024) (s₁ := S512x1024) (s₂ := S16x1024) 0 _ _ _ _ rfl rfl (ix2 r k) (fun b hb => match b with | ⟨0, _⟩ => absurd rfl hb | ⟨1, _⟩ => rfl) (by show r.val + 512 = q.val; omega)

/-- The row before row `r` of block `n`: zero where the sequence begins. -/
def prevRow (r : Fin 512) (k : Fin 1024) : EReal :=
  if r.val = 0 then (if n.val % 4 = 0 then 0 else y (ix2 7 k)) else x (ix2 ⟨r.val - 1, by omega⟩ k)

/-- The row after row `r` of block `n`: zero where the sequence ends. -/
def nextRow (r : Fin 512) (k : Fin 1024) : EReal :=
  if h : r.val = 511 then (if n.val % 4 = 3 then 0 else z (ix2 0 k)) else x (ix2 ⟨r.val + 1, by omega⟩ k)

theorem ext_self (r : Fin 512) : (fun k => ext n.val x y z (ix2 (self r) k)) = fun k => x (ix2 r k) :=
  funext fun k => ext_own n x y z r k _ rfl

theorem ext_before (r : Fin 512) : (fun k => ext n.val x y z (ix2 (before r) k)) = prevRow n x y r := by
  funext k
  unfold before prevRow
  by_cases h : r.val = 0
  · rw [if_pos h, if_pos h, ext_halo n x y z 7 k _ rfl]
    refine (halo_left _ _ y z 7 k).trans ?_
    by_cases h4 : n.val % 4 = 0
    · rw [if_pos h4, if_pos rfl, if_pos h4]
    · rw [if_neg h4, if_neg (by decide), if_neg h4]
  · rw [if_neg h, if_neg h]
    exact ext_own n x y z _ k _ rfl

theorem ext_after (r : Fin 512) : (fun k => ext n.val x y z (ix2 (after r) k)) = nextRow n x z r := by
  funext k
  unfold after nextRow
  by_cases h : r.val = 511
  · rw [if_pos h, dif_pos h, ext_halo n x y z 8 k _ rfl]
    refine (halo_right _ _ y z 0 k).trans ?_
    by_cases h4 : n.val % 4 = 3
    · rw [if_pos h4, if_pos rfl, if_pos h4]
    · rw [if_neg h4, if_neg (by decide), if_neg h4]
  · rw [if_neg h, dif_neg h]
    exact ext_own n x y z _ k _ rfl

/-- The 528 rows normed. -/
def normed (v : FVec Ideal S528x1024 .f32) (g : Vec Ideal S1x1024 .f32) : FVec Ideal S528x1024 .bf16 :=
  k0_pay8 v (k0_pay5 g) (shapeCast S528x1 (multiReduction .add [1] S528 (mulf v v) 0x00000000#32 reduces_S528x1024_S528 (.inl rfl) rfl) shapeCasts_S528_S528x1) k0_pay7

theorem normed_apply (v : FVec Ideal S528x1024 .f32) (g : Vec Ideal S1x1024 .f32) (q : Fin 528) (k : Fin 1024) :
    normed v g (ix2 q k) = row (fun k => g (ix2 0 k)) (fun k => v (ix2 q k)) k := by
  have hs : shapeCast S528x1 (multiReduction .add [1] S528 (mulf v v) 0x00000000#32 reduces_S528x1024_S528 (.inl rfl) rfl) shapeCasts_S528_S528x1 (ix2 q 0)
      = ∑ i : Fin 1024, v (ix2 q i) * v (ix2 q i) := by
    refine (shapeCast_apply (s := S528) (t := S528x1) _ _ (ix2 q 0) (ix1 q) (by rw [Shape.rowMajor_val_one, Shape.rowMajor_val_two]; show q.val = q.val * 1 + 0; omega)).trans ?_
    refine (Ideal.multiReduction_add_single (mulf v v) _ _ (.inl rfl) rfl (ix1 q)).trans ?_
    exact Finset.sum_congr rfl fun i _ => congrArg (mulf v v) (funext fun | ⟨0, _⟩ => rfl | ⟨1, _⟩ => rfl)
  have hr : ∀ w : FVec Ideal S528x1 .f32, broadcastTo S528x1024 w broadcasts_S528x1_S528x1024 (ix2 q k) = w (ix2 q 0) := fun w =>
    broadcastTo_apply (s := S528x1) (t := S528x1024) _ _ (ix2 q k) (ix2 q 0) (fun | ⟨0, _⟩ => rfl | ⟨1, _⟩ => rfl)
  have hg : broadcastTo S528x1024 (shapeCast S1x1024 g shapeCasts_S1x1024_S1x1024) broadcasts_S1x1024_S528x1024 (ix2 q k) = g (ix2 0 k) := by
    rw [shapeCast_self]
    exact broadcastTo_apply (s := S1x1024) (t := S528x1024) _ _ (ix2 q k) (ix2 0 k) (fun | ⟨0, _⟩ => rfl | ⟨1, _⟩ => rfl)
  unfold row
  rw [← hs]
  refine Eq.trans ?_ (congrArg (_ * ·) hg)
  exact congrArg (v (ix2 q k) * · * broadcastTo S528x1024 (shapeCast S1x1024 g shapeCasts_S1x1024_S1x1024) broadcasts_S1x1024_S528x1024 (ix2 q k)) (hr _)

/-- The 256 columns of the gated product that one step of the kernel stores. -/
def chunk (x : FVec Ideal S528x1024 .bf16) (wg wv : Vec Ideal S1024x256 .bf16) (cg cv : Vec Ideal S3x256 .f32) (bg bv : Vec Ideal S1x256 .f32) : FVec Ideal S512x256 .bf16 :=
  k0_pay26 (k0_pay25 (k0_pay19 x wg) cg bg) (k0_pay25 (k0_pay19 x wv) cv bv)

/-- The gated product at an index, of the two convolutions. -/
theorem gated_apply (a b : FVec Ideal S512x256 .f32) (i : S512x256.Idx) : k0_pay26 a b i = a i * Ideal.logistic (a i) * b i := by
  show shapeCast S512x256 (truncf .bf16 (mulf (mulf a (logistic a)) b) bitsLt_bf16_f32) shapeCasts_S512x256_S512x256 i = _
  rw [shapeCast_self]
  rfl

end Cert.FfnTile

end
-- ==== Proof.ProjTile.lean ====
/- One block of the projection kernel read at an index: the normed rows, a slab of 256 columns of their product with the
   weights, the root mean squares of the slab's four heads. -/
module

public import proofs.«01_k».proof.Proof.ProjMath
public import proofs.«01_k».proof.Proof.Gen.Kernel5Ideal.Skeleton
public import Idealize.ShloMosaic.Lib.Pipeline.Value
public import Idealize.ShloMosaic.Lib.KernelVsHost

@[expose] public section

noncomputable section

namespace Cert.ProjTile

open Cert.Kernel5Ideal Cert.Kernel5Ideal.Gen Cert.Ffn Cert.Proj Idealize.ShloMosaic Idealize.ShloMosaic.ValueIdx

/-- The product of the 512 rows with a slab of 256 columns of the weights. -/
theorem slab_apply (x : FVec Ideal S512x1024 .bf16) (w : Vec Ideal S1024x256 .bf16) (r : Fin 512) (l : Fin 256) :
    k0_pay7 x w (ix2 r l) = ∑ k : Fin 1024, x (ix2 r k) * w (ix2 k l) := by
  show matmul dot_S512x1024_S1024x256_S512x256_1_0_0_1_n_n none x (shapeCast S1024x256 w shapeCasts_S1024x256_S1024x256) (constant S512x256 .f32 0x00000000#32) (ix2 r l) = _
  rw [shapeCast_self]
  simp only [matmul]
  rw [Ideal.matmul_constant_zero_apply, ← Equiv.sum_comp (contrEquiv1 dot_S512x1024_S1024x256_S512x256_1_0_0_1_n_n 1024 rfl rfl).symm]
  refine Finset.sum_congr rfl fun d _ => ?_
  have hd := contrEquiv1_symm_val dot_S512x1024_S1024x256_S512x256_1_0_0_1_n_n 1024 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- The product of a slab with a square matrix. -/
theorem square_apply (x : FVec Ideal S512x256 .bf16) (w : FVec Ideal S256x256 .bf16) (r : Fin 512) (l : Fin 256) :
    matmul dot_S512x256_S256x256_S512x256_1_0_0_1_n_n none x w (constant S512x256 .f32 0x00000000#32) (ix2 r l)
      = ∑ k : Fin 256, x (ix2 r k) * w (ix2 k l) := by
  simp only [matmul]
  rw [Ideal.matmul_constant_zero_apply, ← Equiv.sum_comp (contrEquiv1 dot_S512x256_S256x256_S512x256_1_0_0_1_n_n 256 rfl rfl).symm]
  refine Finset.sum_congr rfl fun d _ => ?_
  have hd := contrEquiv1_symm_val dot_S512x256_S256x256_S512x256_1_0_0_1_n_n 256 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- The normed rows of the block. -/
theorem rows_apply (v : FVec Ideal S512x1024 .f32) (g : Vec Ideal S1x1024 .f32) (q : Fin 512) (k : Fin 1024) :
    k0_pay3 v g (ix2 q k) = row (fun k => g (ix2 0 k)) (fun k => v (ix2 q k)) k := by
  unfold k0_pay3
  dsimp only
  rw [shapeCast_self v, shapeCast_self g]
  have hs : shapeCast S512x1 (multiReduction .add [1] S512 (mulf v v) 0x00000000#32 reduces_S512x1024_S512 (.inl rfl) rfl) shapeCasts_S512_S512x1 (ix2 q 0)
      = ∑ i : Fin 1024, v (ix2 q i) * v (ix2 q i) := by
    refine (shapeCast_apply (s := S512) (t := S512x1) _ _ (ix2 q 0) (ix1 q) (by rw [Shape.rowMajor_val_one, Shape.rowMajor_val_two]; show q.val = q.val * 1 + 0; omega)).trans ?_
    refine (Ideal.multiReduction_add_single (mulf v v) _ _ (.inl rfl) rfl (ix1 q)).trans ?_
    exact Finset.sum_congr rfl fun i _ => congrArg (mulf v v) (funext fun | ⟨0, _⟩ => rfl | ⟨1, _⟩ => rfl)
  have hr : ∀ w : FVec Ideal S512x1 .f32, broadcastTo S512x1024 w broadcasts_S512x1_S512x1024 (ix2 q k) = w (ix2 q 0) := fun w =>
    broadcastTo_apply (s := S512x1) (t := S512x1024) _ _ (ix2 q k) (ix2 q 0) (fun | ⟨0, _⟩ => rfl | ⟨1, _⟩ => rfl)
  have hg : broadcastTo S512x1024 g broadcasts_S1x1024_S512x1024 (ix2 q k) = g (ix2 0 k) :=
    broadcastTo_apply (s := S1x1024) (t := S512x1024) _ _ (ix2 q k) (ix2 0 k) (fun | ⟨0, _⟩ => rfl | ⟨1, _⟩ => rfl)
  unfold row
  rw [← hs]
  refine Eq.trans ?_ (congrArg (_ * ·) hg)
  exact congrArg (v (ix2 q k) * · * broadcastTo S512x1024 g broadcasts_S1x1024_S512x1024 (ix2 q k)) (hr _)

/-- Integers divided by 64, rounded down, the way the kernel divides them. -/
def quot (v : IVec S256x256 32) : IVec S256x256 32 :=
  select
    (andi
      (cmpi .ne
        (subi (extui 32 (cmpi .sgt v (broadcast S256x256 0#32)) natLt_1_32) (extui 32 (cmpi .slt v (broadcast S256x256 0#32)) natLt_1_32))
        (broadcast S256x256 (Scalar.subi (Scalar.extui (Scalar.cmpi .sgt 64#32 0#32)) (Scalar.extui (Scalar.cmpi .slt 64#32 0#32)))))
      (cmpi .ne (remsi v (broadcast S256x256 64#32)) (broadcast S256x256 0#32)))
    (subi (divsi v (broadcast S256x256 64#32)) (broadcast S256x256 1#32)) (divsi v (broadcast S256x256 64#32))

theorem quot_const : ∀ n : Fin 256, quot (fun _ => BitVec.ofNat 32 n.val) (ix2 0 0) = BitVec.ofNat 32 (n.val / 64) := by
  decide +kernel

/-- The group of 64 that a lane's number belongs to. -/
theorem quot_apply (v : IVec S256x256 32) (i : S256x256.Idx) (n : Fin 256) (h : v i = BitVec.ofNat 32 n.val) :
    quot v i = BitVec.ofNat 32 (n.val / 64) := by
  rw [← quot_const n, ← h]
  rfl

theorem group_eq : ∀ a b : Fin 4, IntOp.cmpi .eq (BitVec.ofNat 32 a.val) (BitVec.ofNat 32 b.val) = if a.val = b.val then 1#1 else 0#1 := by
  decide +kernel

/-- The matrix that is one where two columns belong to one head, zero elsewhere. -/
theorem ones_apply (r l : Fin 256) :
    k0_pay6 (F := Ideal) (iota .tc S256x256 32 [1] iota_S256x256_d1_w32) k0_pay4 64#32 k0_pay5 (ix2 r l)
      = if r.val / 64 = l.val / 64 then 1 else 0 := by
  show (select (cmpi .eq (quot (iota .tc S256x256 32 [0] iota_S256x256_d0_w32)) (quot (iota .tc S256x256 32 [1] iota_S256x256_d1_w32)))
    (broadcast S256x256 (Ideal.ofBits .f32 0x3F800000#32)) (broadcast S256x256 (Ideal.ofBits .f32 0x00000000#32)) : FVec Ideal S256x256 .f32) (ix2 r l) = _
  rw [select_apply]
  have hc : cmpi .eq (quot (iota .tc S256x256 32 [0] iota_S256x256_d0_w32)) (quot (iota .tc S256x256 32 [1] iota_S256x256_d1_w32)) (ix2 r l)
      = if r.val / 64 = l.val / 64 then 1#1 else 0#1 := by
    show IntOp.cmpi .eq (quot _ (ix2 r l)) (quot _ (ix2 r l)) = _
    rw [quot_apply _ _ r (by rw [iota_single_apply]), quot_apply _ _ l (by rw [iota_single_apply])]
    exact group_eq ⟨r.val / 64, by omega⟩ ⟨l.val / 64, by omega⟩
  rw [hc]
  by_cases h : r.val / 64 = l.val / 64
  · rw [if_pos h, if_pos h, select_one]
    exact Ideal.ofBits_one_f32
  · rw [if_neg h, if_neg h, select_zero]
    exact Ideal.ofBits_zero_f32

/-- Lane `d` of the head that lane `l` of a slab belongs to. -/
def headLane (l : Fin 256) (d : Fin 64) : Fin 256 := ⟨64 * (l.val / 64) + d.val, by omega⟩

/-- The normed slab. -/
theorem heads_apply (E : FVec Ideal S256x256 .bf16) (hE : ∀ r l : Fin 256, E (ix2 r l) = if r.val / 64 = l.val / 64 then 1 else 0)
    (y : FVec Ideal S512x256 .f32) (a : Vec Ideal S1x256 .f32) (r : Fin 512) (l : Fin 256) :
    k0_pay10 E y a (ix2 r l) = y (ix2 r l) * inv (fun d => y (ix2 r (headLane l d))) * a (ix2 0 l) := by
  have hs : matmul dot_S512x256_S256x256_S512x256_1_0_0_1_n_n none (truncf .bf16 (mulf y y) bitsLt_bf16_f32) E (constant S512x256 .f32 0x00000000#32) (ix2 r l)
      = ∑ d : Fin 64, y (ix2 r (headLane l d)) * y (ix2 r (headLane l d)) := by
    rw [square_apply]
    refine Eq.trans (Finset.sum_congr rfl fun k _ => ?_) (sum_group (fun k => y (ix2 r k) * y (ix2 r k)) l)
    rw [hE]
    rfl
  have ha : broadcastTo S512x256 (shapeCast S1x256 a shapeCasts_S1x256_S1x256) broadcasts_S1x256_S512x256 (ix2 r l) = a (ix2 0 l) := by
    rw [shapeCast_self]
    exact broadcastTo_apply (s := S1x256) (t := S512x256) _ _ (ix2 r l) (ix2 0 l) (fun | ⟨0, _⟩ => rfl | ⟨1, _⟩ => rfl)
  show y (ix2 r l) * Ideal.rsqrt (matmul dot_S512x256_S256x256_S512x256_1_0_0_1_n_n none (truncf .bf16 (mulf y y) bitsLt_bf16_f32) E (constant S512x256 .f32 0x00000000#32) (ix2 r l) * Ideal.ofBits .f32 0x3C800000#32 + Ideal.ofBits .f32 0x358637BD#32)
    * broadcastTo S512x256 (shapeCast S1x256 a shapeCasts_S1x256_S1x256) broadcasts_S1x256_S512x256 (ix2 r l) = _
  rw [hs, ha, mul_sixtyfourth]
  rfl

end Cert.ProjTile

end
-- ==== Proof.PostTile.lean ====
/- One block of the mixer's last kernel read at an index: sums over heads by products with a matrix of ones, the norms,
   the bonus, the gate and the projection. -/
module

public import proofs.«01_k».proof.Proof.PostMath
public import proofs.«01_k».proof.Proof.ProjTile
public import proofs.«01_k».proof.Proof.Gen.Kernel9Ideal.Frame
public import Idealize.ShloMosaic.Lib.Pipeline.ValueKit
public import Idealize.ShloMosaic.Lib.KernelVsHost

@[expose] public section

noncomputable section

namespace Cert.PostTile

open Cert.Kernel9Ideal Cert.Kernel9Ideal.Gen Cert.Post
open Idealize.ShloMosaic hiding ix1 ix2 ix3 ix4 ix5 truncf_apply
open Idealize.ShloMosaic.ValueIdx

/-- Rows of 1024 numbers against columns of 1024 numbers. -/
theorem dot_apply (l : FVec Ideal S512x1024 .bf16) (r : FVec Ideal S1024x1024 .bf16) (a : Fin 512) (e : Fin 1024) :
    matmul dot_S512x1024_S1024x1024_S512x1024_1_0_0_1_n_n none l r (constant S512x1024 .f32 0x00000000#32) (ix2 a e)
      = ∑ k : Fin 1024, l (ix2 a k) * r (ix2 k e) := by
  simp only [matmul]
  rw [Ideal.matmul_constant_zero_apply, ← Equiv.sum_comp (contrEquiv1 dot_S512x1024_S1024x1024_S512x1024_1_0_0_1_n_n 1024 rfl rfl).symm]
  refine Finset.sum_congr rfl fun d _ => ?_
  have hd := contrEquiv1_symm_val dot_S512x1024_S1024x1024_S512x1024_1_0_0_1_n_n 1024 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- The sums over the heads of a slab, of its numbers and of what rounding leaves of them. -/
def slab (E : FVec Ideal S256x256 .bf16) (s : FVec Ideal S512x256 .f32) : FVec Ideal S512x256 .f32 :=
  addf (matmul dot_S512x256_S256x256_S512x256_1_0_0_1_n_n none (truncf .bf16 s bitsLt_bf16_f32) E (constant S512x256 .f32 0x00000000#32))
    (matmul dot_S512x256_S256x256_S512x256_1_0_0_1_n_n none
      (truncf .bf16 (subf s (extf .f32 (truncf .bf16 s bitsLt_bf16_f32 : FVec Ideal S512x256 .bf16) bitsLt_bf16_f32)) bitsLt_bf16_f32) E (constant S512x256 .f32 0x00000000#32))

theorem slab_apply (E : FVec Ideal S256x256 .bf16) (hE : ∀ r l : Fin 256, E (ix2 r l) = if r.val / 64 = l.val / 64 then 1 else 0)
    (s : FVec Ideal S512x256 .f32) (r : Fin 512) (hs : ∀ l : Fin 256, Real' (s (ix2 r l))) (l : Fin 256) :
    slab E s (ix2 r l) = ∑ d : Fin 64, s (ix2 r ⟨64 * (l.val / 64) + d.val, by omega⟩) := by
  unfold slab
  rw [addf_apply]
  have h1 : matmul dot_S512x256_S256x256_S512x256_1_0_0_1_n_n none (truncf .bf16 s bitsLt_bf16_f32) E (constant S512x256 .f32 0x00000000#32) (ix2 r l)
      = ∑ d : Fin 64, s (ix2 r ⟨64 * (l.val / 64) + d.val, by omega⟩) := by
    refine (ProjTile.square_apply _ E r l).trans ?_
    refine Eq.trans (Finset.sum_congr rfl fun k _ => ?_) (Proj.sum_group (fun k => s (ix2 r k)) l)
    rw [hE]
    rfl
  have h2 : matmul dot_S512x256_S256x256_S512x256_1_0_0_1_n_n none
      (truncf .bf16 (subf s (extf .f32 (truncf .bf16 s bitsLt_bf16_f32 : FVec Ideal S512x256 .bf16) bitsLt_bf16_f32)) bitsLt_bf16_f32) E (constant S512x256 .f32 0x00000000#32) (ix2 r l)
      = 0 := by
    refine (ProjTile.square_apply _ E r l).trans (Finset.sum_eq_zero fun k _ => ?_)
    show (s (ix2 r k) - s (ix2 r k)) * _ = 0
    rw [(hs k).sub_self, zero_mul]
  refine (congrArg₂ (fun a b : EReal => a + b) h1 h2).trans (add_zero _)

/-- The sums over all heads of the rows, slab by slab. -/
def heads (E : FVec Ideal S256x256 .bf16) (x : FVec Ideal S512x1024 .f32) : FVec Ideal S512x1024 .f32 :=
  concatenate S512x1024 1 [⟨S512x256, slab E (extractStridedSlice S512x256 ![0, 0] x slices_S512x1024_o0_0_S512x256)⟩,
    ⟨S512x256, slab E (extractStridedSlice S512x256 ![0, 256] x slices_S512x1024_o0_256_S512x256)⟩,
    ⟨S512x256, slab E (extractStridedSlice S512x256 ![0, 512] x slices_S512x1024_o0_512_S512x256)⟩,
    ⟨S512x256, slab E (extractStridedSlice S512x256 ![0, 768] x slices_S512x1024_o0_768_S512x256)⟩] concatenates_S512x256_S512x256_S512x256_S512x256_S512x1024_d1

/-- A slab whose columns stand at `o`. -/
theorem piece_apply (E : FVec Ideal S256x256 .bf16) (hE : ∀ r l : Fin 256, E (ix2 r l) = if r.val / 64 = l.val / 64 then 1 else 0)
    (x : FVec Ideal S512x1024 .f32) (r : Fin 512) (hx : ∀ f : Fin 1024, Real' (x (ix2 r f))) (n : Nat) (hn : n < 4) (o : Nat) (ho : o = 256 * n)
    (sl : S512x1024.Slices ![0, o] S512x256) (h : Fin 16) (d : Fin 64) (l : Fin 256) (hl : o + l.val = (chan h d).val) :
    slab E (extractStridedSlice S512x256 ![0, o] x sl) (ix2 r l) = ∑ d' : Fin 64, x (ix2 r (chan h d')) := by
  have hv : (chan h d).val = 64 * h.val + d.val := rfl
  have hsl : ∀ l : Fin 256, extractStridedSlice S512x256 ![0, o] x sl (ix2 r l) = x (ix2 r ⟨o + l.val, by omega⟩) := fun l =>
    extractStridedSlice_apply (s := S512x1024) (t := S512x256) ![0, o] x _ (ix2 r l) (ix2 r ⟨o + l.val, by omega⟩)
      (fun | ⟨0, _⟩ => (Nat.zero_add _).symm | ⟨1, _⟩ => rfl)
  rw [slab_apply E hE _ r (fun l => by rw [hsl]; exact hx _)]
  refine Finset.sum_congr rfl fun d' _ => ?_
  rw [hsl]
  refine congrArg (fun f => x (ix2 r f)) (Fin.ext ?_)
  show o + (64 * (l.val / 64) + d'.val) = 64 * h.val + d'.val
  omega

theorem heads_apply (E : FVec Ideal S256x256 .bf16) (hE : ∀ r l : Fin 256, E (ix2 r l) = if r.val / 64 = l.val / 64 then 1 else 0)
    (x : FVec Ideal S512x1024 .f32) (r : Fin 512) (hx : ∀ f : Fin 1024, Real' (x (ix2 r f))) (h : Fin 16) (d : Fin 64) :
    heads E x (ix2 r (chan h d)) = ∑ d' : Fin 64, x (ix2 r (chan h d')) := by
  have hv : (chan h d).val = 64 * h.val + d.val := rfl
  unfold heads
  by_cases h0 : h.val < 4
  · refine (concatenate_apply_piece (t := S512x1024) 1 _ _ _ 0 (by simp) S512x256 _ rfl rfl 0 rfl (ix2 r ⟨(chan h d).val, by omega⟩) (fun x hx => match x with | ⟨0, _⟩ => rfl | ⟨1, _⟩ => absurd rfl hx) (Nat.zero_add _)).trans ?_
    exact piece_apply E hE x r hx 0 (by omega) 0 rfl _ h d _ (Nat.zero_add _)
  by_cases h1 : h.val < 8
  · refine (concatenate_apply_piece (t := S512x1024) 1 _ _ _ 1 (by simp) S512x256 _ rfl rfl 256 rfl (ix2 r ⟨(chan h d).val - 256, by omega⟩) (fun x hx => match x with | ⟨0, _⟩ => rfl | ⟨1, _⟩ => absurd rfl hx) (by show 256 + ((chan h d).val - 256) = (chan h d).val; omega)).trans ?_
    exact piece_apply E hE x r hx 1 (by omega) 256 rfl _ h d _ (by show 256 + ((chan h d).val - 256) = (chan h d).val; omega)
  by_cases h2 : h.val < 12
  · refine (concatenate_apply_piece (t := S512x1024) 1 _ _ _ 2 (by simp) S512x256 _ rfl rfl 512 rfl (ix2 r ⟨(chan h d).val - 512, by omega⟩) (fun x hx => match x with | ⟨0, _⟩ => rfl | ⟨1, _⟩ => absurd rfl hx) (by show 512 + ((chan h d).val - 512) = (chan h d).val; omega)).trans ?_
    exact piece_apply E hE x r hx 2 (by omega) 512 rfl _ h d _ (by show 512 + ((chan h d).val - 512) = (chan h d).val; omega)
  · refine (concatenate_apply_piece (t := S512x1024) 1 _ _ _ 3 (by simp) S512x256 _ rfl rfl 768 rfl (ix2 r ⟨(chan h d).val - 768, by omega⟩) (fun x hx => match x with | ⟨0, _⟩ => rfl | ⟨1, _⟩ => absurd rfl hx) (by show 768 + ((chan h d).val - 768) = (chan h d).val; omega)).trans ?_
    exact piece_apply E hE x r hx 3 (by omega) 768 rfl _ h d _ (by show 768 + ((chan h d).val - 768) = (chan h d).val; omega)

/-- The matrix that is one where two columns belong to one head. -/
def ones : FVec Ideal S256x256 .bf16 := k0_pay6 (F := Ideal) k0_pay2 k0_pay3 k0_pay4 k0_pay5

theorem ones_apply (r l : Fin 256) : ones (ix2 r l) = if r.val / 64 = l.val / 64 then 1 else 0 :=
  (ProjTile.ones_apply r l : _)

/-- A row vector read at a row. -/
theorem vec_apply (g : Vec Ideal S1x1024 .f32) (q : Fin 512) (k : Fin 1024) :
    broadcastTo S512x1024 (shapeCast S1x1024 g shapeCasts_S1x1024_S1x1024) broadcasts_S1x1024_S512x1024 (ix2 q k) = g (ix2 0 k) := by
  rw [shapeCast_self]
  exact broadcastTo_apply (s := S1x1024) (t := S512x1024) _ _ (ix2 q k) (ix2 0 k) (fun | ⟨0, _⟩ => rfl | ⟨1, _⟩ => rfl)

/-- The deviations from the means of the heads. -/
def devs (y : FVec Ideal S512x1024 .f32) : FVec Ideal S512x1024 .f32 :=
  subf y (mulf (heads ones y) (broadcast S512x1024 (Scalar.ofBits .f32 0x3C800000#32)))

theorem devs_apply (y : FVec Ideal S512x1024 .f32) (r : Fin 512) (hy : ∀ f : Fin 1024, Real' (y (ix2 r f))) (h : Fin 16) (d : Fin 64) :
    devs y (ix2 r (chan h d)) = dev (fun h d => y (ix2 r (chan h d))) h d := by
  show y (ix2 r (chan h d)) - heads ones y (ix2 r (chan h d)) * Ideal.ofBits .f32 0x3C800000#32 = _
  rw [heads_apply ones ones_apply y r hy, Proj.mul_sixtyfourth]
  rfl

/-- The normed rows with gain and offset. -/
def units (y : FVec Ideal S512x1024 .f32) (lg lb : Vec Ideal S1x1024 .f32) : FVec Ideal S512x1024 .f32 :=
  k0_pay10 (k0_pay9 ones y (mulf (heads ones y) (broadcast S512x1024 (Scalar.ofBits .f32 0x3C800000#32))) lg) lb

theorem units_apply (y : FVec Ideal S512x1024 .f32) (lg lb : Vec Ideal S1x1024 .f32) (r : Fin 512) (hy : ∀ f : Fin 1024, Real' (y (ix2 r f))) (h : Fin 16) (d : Fin 64) :
    units y lg lb (ix2 r (chan h d))
      = unit (fun h d => y (ix2 r (chan h d))) h d * lg (ix2 0 (chan h d)) + lb (ix2 0 (chan h d)) := by
  show devs y (ix2 r (chan h d))
      * Ideal.rsqrt (heads ones (mulf (devs y) (devs y)) (ix2 r (chan h d)) * Ideal.ofBits .f32 0x3C800000#32 + Ideal.ofBits .f32 0x3A27C5AC#32)
      * broadcastTo S512x1024 (shapeCast S1x1024 lg shapeCasts_S1x1024_S1x1024) broadcasts_S1x1024_S512x1024 (ix2 r (chan h d))
      + broadcastTo S512x1024 (shapeCast S1x1024 lb shapeCasts_S1x1024_S1x1024) broadcasts_S1x1024_S512x1024 (ix2 r (chan h d)) = _
  have hd : ∀ f : Fin 1024, Real' (devs y (ix2 r f)) := fun f => by
    rw [← chan_of f, devs_apply y r hy]
    exact dev_real _ (fun h d => hy _) _ _
  rw [vec_apply, vec_apply, heads_apply ones ones_apply _ r (fun f => (hd f).mul (hd f)), Proj.mul_sixtyfourth, devs_apply y r hy]
  have hs : (∑ d' : Fin 64, mulf (devs y) (devs y) (ix2 r (chan h d')))
      = ∑ d' : Fin 64, dev (fun h d => y (ix2 r (chan h d))) h d' * dev (fun h d => y (ix2 r (chan h d))) h d' :=
    Finset.sum_congr rfl fun d' _ => by
      show devs y (ix2 r (chan h d')) * devs y (ix2 r (chan h d')) = _
      rw [devs_apply y r hy]
  rw [hs]
  rfl

/-- The terms of the bonus. -/
theorem term_apply (a b q : Vec Ideal S512x1024 .bf16) (w : Vec Ideal S1x1024 .f32) (r : Fin 512) (h : Fin 16) (d : Fin 64) :
    k0_pay11 (F := Ideal) a b q w (ix2 r (chan h d))
      = term (fun h d => q (ix2 r (chan h d))) (fun h d => a (ix2 r (chan h d))) (fun h d => b (ix2 r (chan h d))) (fun h d => w (ix2 0 (chan h d))) h d := by
  unfold k0_pay11
  rw [shapeCast_self a, shapeCast_self b, shapeCast_self q, mulf_apply, vec_apply]
  rfl

variable (y : Vec Ideal S512x1024 .f32) (q a b v g : Vec Ideal S512x1024 .bf16) (x : Vec Ideal S512x1024 .f32) (lg lb w : Vec Ideal S1x1024 .f32) (wo : Vec Ideal S1024x1024 .bf16)

/-- The block's rows before the output projection. -/
def before : FVec Ideal S512x1024 .f32 :=
  mulf (addf (units y lg lb) (mulf (heads ones (k0_pay11 (F := Ideal) a b q w)) (extf .f32 (v : FVec Ideal S512x1024 .bf16) bitsLt_bf16_f32))) (extf .f32 (g : FVec Ideal S512x1024 .bf16) bitsLt_bf16_f32)

theorem before_apply (r : Fin 512) (hy : ∀ f : Fin 1024, Real' (y (ix2 r f))) (hq : ∀ f : Fin 1024, Real' (q (ix2 r f)))
    (ha : ∀ f : Fin 1024, Real' (a (ix2 r f))) (hb : ∀ f : Fin 1024, Real' (b (ix2 r f))) (hw : ∀ f : Fin 1024, Real' (w (ix2 0 f))) (f : Fin 1024) :
    before y q a b v g lg lb w (ix2 r f)
      = gated (fun h d => y (ix2 r (chan h d))) (fun h d => q (ix2 r (chan h d))) (fun h d => a (ix2 r (chan h d))) (fun h d => b (ix2 r (chan h d)))
          (fun h d => v (ix2 r (chan h d))) (fun h d => w (ix2 0 (chan h d))) (fun f => g (ix2 r f)) (fun f => lg (ix2 0 f)) (fun f => lb (ix2 0 f)) f := by
  have hf := chan_of f
  show (units y lg lb (ix2 r f) + heads ones (k0_pay11 (F := Ideal) a b q w) (ix2 r f) * v (ix2 r f)) * g (ix2 r f) = _
  have ht : ∀ f : Fin 1024, Real' (k0_pay11 (F := Ideal) a b q w (ix2 r f)) := fun f => by
    rw [← chan_of f, term_apply]
    exact term_real _ _ _ _ (fun h d => hq _) (fun h d => ha _) (fun h d => hb _) (fun h d => hw _) _ _
  have e1 := units_apply y lg lb r hy (headOf f) (placeOf f)
  have e2 := heads_apply ones ones_apply (k0_pay11 (F := Ideal) a b q w) r ht (headOf f) (placeOf f)
  rw [hf] at e1 e2
  rw [e1, e2]
  unfold gated
  beta_reduce
  rw [hf, Finset.sum_congr rfl fun d _ => term_apply a b q w r (headOf f) d]

/-- What a block's result holds: the residual and the row's product. -/
theorem out_apply (r : Fin 512) (e : Fin 1024) (hy : ∀ f : Fin 1024, Real' (y (ix2 r f))) (hq : ∀ f : Fin 1024, Real' (q (ix2 r f)))
    (ha : ∀ f : Fin 1024, Real' (a (ix2 r f))) (hb : ∀ f : Fin 1024, Real' (b (ix2 r f))) (hw : ∀ f : Fin 1024, Real' (w (ix2 0 f))) :
    out0_11 (F := Ideal) y q a b v g x lg lb w wo (ix2 r e)
      = x (ix2 r e) + ∑ f : Fin 1024, gated (fun h d => y (ix2 r (chan h d))) (fun h d => q (ix2 r (chan h d))) (fun h d => a (ix2 r (chan h d))) (fun h d => b (ix2 r (chan h d)))
          (fun h d => v (ix2 r (chan h d))) (fun h d => w (ix2 0 (chan h d))) (fun f => g (ix2 r f)) (fun f => lg (ix2 0 f)) (fun f => lb (ix2 0 f)) f * wo (ix2 f e) := by
  unfold out0_11
  rw [View.canon_unit_zero (funext fun | ⟨0, _⟩ => rfl | ⟨1, _⟩ => rfl)]
  have hk : ∀ {e} (z : Vec Ideal S512x1024 e), View.ld z r0_0 = z := fun z =>
    View.ld_unit_zero (funext fun | ⟨0, _⟩ => rfl | ⟨1, _⟩ => rfl) _ z
  have hv : ∀ {e} (z : Vec Ideal S1x1024 e), View.ld z r0_1 = z := fun z =>
    View.ld_unit_zero (funext fun | ⟨0, _⟩ => rfl | ⟨1, _⟩ => rfl) _ z
  have hm : ∀ {e} (z : Vec Ideal S1024x1024 e), View.ld z r0_2 = z := fun z =>
    View.ld_unit_zero (funext fun | ⟨0, _⟩ => rfl | ⟨1, _⟩ => rfl) _ z
  simp only [hk, hv, hm]
  have h7 : k0_pay7 (F := Ideal) y = y := shapeCast_self y _
  unfold k0_pay8
  rw [h7]
  unfold k0_pay1
  rw [addf_apply, shapeCast_self x, shapeCast_self wo, shapeCast_self v, shapeCast_self g]
  refine congrArg (fun z : EReal => x (ix2 r e) + z) ((dot_apply _ wo r e).trans (Finset.sum_congr rfl fun f _ => ?_))
  refine congrArg (fun z : EReal => z * wo (ix2 f e)) ?_
  exact (show _ = before y q a b v g lg lb w (ix2 r f) from rfl).trans (before_apply y q a b v g lg lb w r hy hq ha hb hw f)

end Cert.PostTile

end
-- ==== Proof.PreRun.lean ====
/- The run of the mixer's first kernel: what a block's body leaves in each result, the arrays after the run, and that the
   argument arrays end unchanged. -/
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.PreRun

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the pipeline starts: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A statement of every argument array. -/
abbrev Every (P : Ref sig .tc → Prop) : Prop := P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 ∧ P main_arg13 ∧ P main_arg14 ∧ P main_arg15

/-- The host operations write none of the argument arrays. -/
theorem V_args (c : Dev nD) : Every fun b => V m c b = m (c.tc.loc b) := by
  refine ⟨?_, ?_, ?_, ?_, ?_, ?_, ?_, ?_, ?_, ?_, ?_, ?_, ?_, ?_, ?_, ?_⟩ <;> exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a point, of its array when the pipeline starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The argument arrays are as launched. -/
abbrev Same (r : PUnit × MemSt nD τ sig (Elt F)) (c : Dev nD) : Prop := Every fun b => r.2.mem (c.tc.loc b) = m (c.tc.loc b)

set_option maxHeartbeats 1680000 in
/-- After a run of the pipeline the argument arrays are as launched. -/
theorem same_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) : Same m r c := by
  have k (b : Ref sig .tc) (hs : b.isScoped = false) (hn : ∀ w, (spec0 w).arr.view.ref ≠ b) (e : V m c b = m (c.tc.loc b)) : r.2.mem (c.tc.loc b) = m (c.tc.loc b) :=
    ((h c).2 b (Pipeline.mem_restRefs_of b hs hn)).trans e
  exact ⟨k main_arg0 (by decide) (by decide) (V_args m c).1,
      k main_arg1 (by decide) (by decide) (V_args m c).2.1,
      ((h c).1 4).trans (((dats 0 c).arrAt_in 4 rfl _).trans ((hA c 4).trans (V_args m c).2.2.1)),
      k main_arg3 (by decide) (by decide) (V_args m c).2.2.2.1,
      k main_arg4 (by decide) (by decide) (V_args m c).2.2.2.2.1,
      k main_arg5 (by decide) (by decide) (V_args m c).2.2.2.2.2.1,
      k main_arg6 (by decide) (by decide) (V_args m c).2.2.2.2.2.2.1,
      k main_arg7 (by decide) (by decide) (V_args m c).2.2.2.2.2.2.2.1,
      k main_arg8 (by decide) (by decide) (V_args m c).2.2.2.2.2.2.2.2.1,
      k main_arg9 (by decide) (by decide) (V_args m c).2.2.2.2.2.2.2.2.2.1,
      ((h c).1 14).trans (((dats 0 c).arrAt_in 14 rfl _).trans ((hA c 14).trans (V_args m c).2.2.2.2.2.2.2.2.2.2.1)),
      k main_arg11 (by decide) (by decide) (V_args m c).2.2.2.2.2.2.2.2.2.2.2.1,
      k main_arg12 (by decide) (by decide) (V_args m c).2.2.2.2.2.2.2.2.2.2.2.2.1,
      ((h c).1 15).trans (((dats 0 c).arrAt_in 15 rfl _).trans ((hA c 15).trans (V_args m c).2.2.2.2.2.2.2.2.2.2.2.2.2.1)),
      k main_arg14 (by decide) (by decide) (V_args m c).2.2.2.2.2.2.2.2.2.2.2.2.2.2.1,
      k main_arg15 (by decide) (by decide) (V_args m c).2.2.2.2.2.2.2.2.2.2.2.2.2.2.2⟩

/-- The input blocks of a point. -/
structure Ins (F : FTy → Type) where
  x0 : Vec F S512x1024 .f32
  x1 : Vec F S8x1024 .f32
  x2 : Vec F S8x1024 .f32
  x3 : Vec F S1x1024 .f32
  x4 : Vec F S6x1024 .f32
  x5 : Vec F S1024x1024 .bf16
  x6 : Vec F S1024x1024 .bf16
  x7 : Vec F S1024x1024 .bf16
  x8 : Vec F S1024x128 .bf16
  x9 : Vec F S128x1024 .bf16
  x10 : Vec F S1024x128 .bf16
  x11 : Vec F S128x1024 .bf16
  x12 : Vec F S1024x128 .bf16
  x13 : Vec F S128x1024 .bf16
  x14 : Vec F S2x1024 .f32
  x15 : Vec F S2x1024 .f32
  x16 : Vec F S1x1024 .f32
  x17 : Vec F S1x1024 .f32

abbrev r0_0 : Rect S1x1024 := Rect.unit (s := S1x1024) ![0, 0] S1x1024.size inb_S1x1024_S1x1024_0_0
abbrev r0_1 : Rect S512x1024 := Rect.unit (s := S512x1024) ![0, 0] S512x1024.size inb_S512x1024_S512x1024_0_0
abbrev r0_2 : Rect S8x1024 := Rect.unit (s := S8x1024) ![0, 0] S8x1024.size inb_S8x1024_S8x1024_0_0
abbrev r0_3 : Rect S6x1024 := Rect.unit (s := S6x1024) ![1, 0] S1x1024.size inb_S6x1024_S1x1024_1_0
abbrev r0_4 : Rect S1024x128 := Rect.unit (s := S1024x128) ![0, 0] S1024x128.size inb_S1024x128_S1024x128_0_0
abbrev r0_5 : Rect S6x1024 := Rect.unit (s := S6x1024) ![4, 0] S1x1024.size inb_S6x1024_S1x1024_4_0
abbrev r0_6 : Rect S6x1024 := Rect.unit (s := S6x1024) ![5, 0] S1x1024.size inb_S6x1024_S1x1024_5_0
abbrev r0_7 : Rect S128x1024 := Rect.unit (s := S128x1024) ![0, 0] S128x1024.size inb_S128x1024_S128x1024_0_0
abbrev r0_8 : Rect S6x1024 := Rect.unit (s := S6x1024) ![2, 0] S1x1024.size inb_S6x1024_S1x1024_2_0
abbrev r0_9 : Rect S1024x1024 := Rect.unit (s := S1024x1024) ![0, 0] S1024x1024.size inb_S1024x1024_S1024x1024_0_0
abbrev r0_10 : Rect S6x1024 := Rect.unit (s := S6x1024) ![0, 0] S1x1024.size inb_S6x1024_S1x1024_0_0
abbrev r0_11 : Rect S6x1024 := Rect.unit (s := S6x1024) ![3, 0] S1x1024.size inb_S6x1024_S1x1024_3_0
abbrev r0_12 : Rect S2x1024 := Rect.unit (s := S2x1024) ![0, 0] S1x1024.size inb_S2x1024_S1x1024_0_0
abbrev r0_13 : Rect S2x1024 := Rect.unit (s := S2x1024) ![1, 0] S1x1024.size inb_S2x1024_S1x1024_1_0

def k0_pay41 (i : grid0.Coords) (X : Ins F) : FVec F S1x1024 .f32 := k0_pay1 (View.ld X.x3 r0_0)
def k0_pay42 (i : grid0.Coords) (X : Ins F) : FVec F S512x1024 .f32 := k0_pay2 (View.ld X.x3 r0_0) (View.ld X.x0 r0_1)
def k0_pay43 (i : grid0.Coords) (X : Ins F) : FVec F S16x1024 .f32 := k0_pay3 (View.ld X.x1 r0_2) (View.ld X.x2 r0_2)
def k0_pay44 (i : grid0.Coords) (X : Ins F) : IVec S16x1024 1 := k0_pay4
def k0_pay45 (i : grid0.Coords) (X : Ins F) : IVec S16x1024 32 := k0_pay5 i
def k0_pay46 (i : grid0.Coords) (X : Ins F) : FVec F S512x1024 .f32 := k0_pay6 (k0_pay41 i X) (k0_pay42 i X) (k0_pay43 i X) (Scalar.extui (Scalar.cmpi .ne (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 3#32)) (k0_pay44 i X) (k0_pay45 i X)
def k0_pay47 (i : grid0.Coords) (X : Ins F) : FVec F S512x1024 .bf16 := k0_pay7 (k0_pay41 i X) (k0_pay42 i X) (k0_pay43 i X) (Scalar.extui (Scalar.cmpi .ne (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 3#32)) (k0_pay44 i X) (k0_pay45 i X) (View.ld X.x4 r0_3)
def k0_pay48 (i : grid0.Coords) (X : Ins F) : FVec F S512x128 .f32 := k0_pay9 (k0_pay42 i X) (k0_pay46 i X) (View.ld X.x4 r0_5) (View.ld X.x12 r0_4)
def k0_pay49 (i : grid0.Coords) (X : Ins F) : FVec F S512x1024 .f32 := k0_pay15 (k0_pay48 i X) k0_pay11 (View.ld X.x13 r0_7)
def k0_pay50 (i : grid0.Coords) (X : Ins F) : FVec F S512x1024 .f32 := k0_pay16 (k0_pay48 i X) k0_pay12 (View.ld X.x13 r0_7)
def k0_pay51 (i : grid0.Coords) (X : Ins F) : FVec F S512x1024 .f32 := k0_pay17 (k0_pay42 i X) (k0_pay46 i X) (View.ld X.x4 r0_8) (View.ld X.x6 r0_9)
def k0_pay52 (i : grid0.Coords) (X : Ins F) : IVec S256x256 32 := iota .tc S256x256 32 [1] iota_S256x256_d1_w32
def k0_pay53 (i : grid0.Coords) (X : Ins F) : FVec F S512x1024 .f32 := k0_pay23 (k0_pay51 i X) (View.ld X.x16 r0_0)
def k0_pay54 (i : grid0.Coords) (X : Ins F) : IVec S256x256 32 := k0_pay24
def k0_pay55 (i : grid0.Coords) (X : Ins F) : IVec S256x256 1 := k0_pay25
def k0_pay56 (i : grid0.Coords) (X : Ins F) : IVec S256x256 32 := k0_pay26
def k0_pay57 (i : grid0.Coords) (X : Ins F) : FVec F S1x1024 .f32 := k0_pay32 (View.ld X.x17 r0_0)
def out0_18 (i : grid0.Coords) (X : Ins F) : Vec F S512x1024 .bf16 := View.canon [⟨r0_1, k0_pay18 (k0_pay42 i X) (k0_pay46 i X) (View.ld X.x4 r0_10) (View.ld X.x5 r0_9)⟩]
def out0_19 (i : grid0.Coords) (X : Ins F) : Vec F S512x1024 .bf16 := View.canon [⟨r0_1, k0_pay20 (k0_pay19 (k0_pay42 i X) (k0_pay46 i X) (View.ld X.x4 r0_11)) (View.ld X.x7 r0_9)⟩]
def out0_20 (i : grid0.Coords) (X : Ins F) : Vec F S512x1024 .bf16 := View.canon [⟨r0_1, k0_pay21 (k0_pay10 (k0_pay42 i X) (k0_pay46 i X) (View.ld X.x4 r0_6) (View.ld X.x8 r0_4)) (View.ld X.x9 r0_7)⟩]
def out0_21 (i : grid0.Coords) (X : Ins F) : Vec F S512x1024 .bf16 := View.canon [⟨r0_1, k0_pay31 (k0_pay22 (k0_pay51 i X) (View.ld X.x16 r0_0)) (k0_pay53 i X) (k0_pay27 (F := F) (k0_pay52 i X) (k0_pay54 i X) (k0_pay55 i X) (k0_pay56 i X)) (k0_pay28 (k0_pay53 i X) (k0_pay52 i X) (k0_pay54 i X) (k0_pay55 i X) (k0_pay56 i X)) (k0_pay29 (k0_pay53 i X) (k0_pay52 i X) (k0_pay54 i X) (k0_pay55 i X) (k0_pay56 i X)) (k0_pay30 (k0_pay53 i X))⟩]
def out0_22 (i : grid0.Coords) (X : Ins F) : Vec F S512x1024 .bf16 := View.canon [⟨r0_1, k0_pay36 (k0_pay51 i X) (k0_pay57 i X) (k0_pay34 (k0_pay49 i X) (View.ld X.x15 r0_12))⟩]
def out0_23 (i : grid0.Coords) (X : Ins F) : Vec F S512x1024 .bf16 := View.canon [⟨r0_1, k0_pay40 (k0_pay50 i X) (k0_pay51 i X) (k0_pay57 i X) (View.ld X.x15 r0_13)⟩]
def out0_24 (i : grid0.Coords) (X : Ins F) : Vec F S512x1024 .bf16 := View.canon [⟨r0_1, k0_pay35 (k0_pay49 i X) (View.ld X.x15 r0_12)⟩]
def out0_25 (i : grid0.Coords) (X : Ins F) : Vec F S512x1024 .bf16 := View.canon [⟨r0_1, k0_pay39 (k0_pay50 i X) (View.ld X.x15 r0_13)⟩]
def out0_26 (i : grid0.Coords) (X : Ins F) : Vec F S512x1024 .f32 := View.canon [⟨r0_1, k0_pay33 (k0_pay13 (k0_pay47 i X) (View.ld X.x10 r0_4) (View.ld X.x11 r0_7)) (View.ld X.x14 r0_12)⟩]
def out0_27 (i : grid0.Coords) (X : Ins F) : Vec F S512x1024 .f32 := View.canon [⟨r0_1, k0_pay37 (k0_pay14 (k0_pay47 i X) (View.ld X.x10 r0_4) (View.ld X.x11 r0_7)) (View.ld X.x14 r0_13)⟩]

/-- One whole store covers the block. -/
theorem cover {e : EltTy} (p0 : Vec F S512x1024 e) (y : S512x1024.Idx) :
    ∃ pc ∈ ([⟨r0_1, p0⟩] : List (View.Piece (Elt F) S512x1024 e)), y ∈ pc.1.set :=
  View.cover_of_tiled [⟨r0_1, p0⟩] S512x1024.size (by rfl) y

set_option maxHeartbeats 2000000 in
/-- The body on the blocks: the inputs stay, each output ends at what is stated above. -/
theorem sound_kernel (c : Dev nD) (E : Set ℕ) (i : grid0.Coords) (a1 : Memref sig .tc .vmem S512x1024 .f32) (w1 : a1.IsWhole) (a2 : Memref sig .tc .vmem S8x1024 .f32) (w2 : a2.IsWhole) (a3 : Memref sig .tc .vmem S8x1024 .f32) (w3 : a3.IsWhole) (a4 : Memref sig .tc .vmem S1x1024 .f32) (w4 : a4.IsWhole) (a5 : Memref sig .tc .vmem S6x1024 .f32) (w5 : a5.IsWhole) (a6 : Memref sig .tc .vmem S1024x1024 .bf16) (w6 : a6.IsWhole) (a7 : Memref sig .tc .vmem S1024x1024 .bf16) (w7 : a7.IsWhole) (a8 : Memref sig .tc .vmem S1024x1024 .bf16) (w8 : a8.IsWhole) (a9 : Memref sig .tc .vmem S1024x128 .bf16) (w9 : a9.IsWhole) (a10 : Memref sig .tc .vmem S128x1024 .bf16) (w10 : a10.IsWhole) (a11 : Memref sig .tc .vmem S1024x128 .bf16) (w11 : a11.IsWhole) (a12 : Memref sig .tc .vmem S128x1024 .bf16) (w12 : a12.IsWhole) (a13 : Memref sig .tc .vmem S1024x128 .bf16) (w13 : a13.IsWhole) (a14 : Memref sig .tc .vmem S128x1024 .bf16) (w14 : a14.IsWhole) (a15 : Memref sig .tc .vmem S2x1024 .f32) (w15 : a15.IsWhole) (a16 : Memref sig .tc .vmem S2x1024 .f32) (w16 : a16.IsWhole) (a17 : Memref sig .tc .vmem S1x1024 .f32) (w17 : a17.IsWhole) (a18 : Memref sig .tc .vmem S1x1024 .f32) (w18 : a18.IsWhole) (a19 : Memref sig .tc .vmem S512x1024 .bf16) (w19 : a19.IsWhole) (a20 : Memref sig .tc .vmem S512x1024 .bf16) (w20 : a20.IsWhole) (a21 : Memref sig .tc .vmem S512x1024 .bf16) (w21 : a21.IsWhole) (a22 : Memref sig .tc .vmem S512x1024 .bf16) (w22 : a22.IsWhole) (a23 : Memref sig .tc .vmem S512x1024 .bf16) (w23 : a23.IsWhole) (a24 : Memref sig .tc .vmem S512x1024 .bf16) (w24 : a24.IsWhole) (a25 : Memref sig .tc .vmem S512x1024 .bf16) (w25 : a25.IsWhole) (a26 : Memref sig .tc .vmem S512x1024 .bf16) (w26 : a26.IsWhole) (a27 : Memref sig .tc .vmem S512x1024 .f32) (w27 : a27.IsWhole) (a28 : Memref sig .tc .vmem S512x1024 .f32) (w28 : a28.IsWhole)
    (X : Ins F) (K : PUnit → sProp 𝕄) :
    iprop(owns c.tc a1 fullShare X.x0 ∗ owns c.tc a2 fullShare X.x1 ∗ owns c.tc a3 fullShare X.x2 ∗ owns c.tc a4 fullShare X.x3 ∗ owns c.tc a5 fullShare X.x4 ∗ owns c.tc a6 fullShare X.x5 ∗ owns c.tc a7 fullShare X.x6 ∗ owns c.tc a8 fullShare X.x7 ∗ owns c.tc a9 fullShare X.x8 ∗ owns c.tc a10 fullShare X.x9 ∗ owns c.tc a11 fullShare X.x10 ∗ owns c.tc a12 fullShare X.x11 ∗ owns c.tc a13 fullShare X.x12 ∗ owns c.tc a14 fullShare X.x13 ∗ owns c.tc a15 fullShare X.x14 ∗ owns c.tc a16 fullShare X.x15 ∗ owns c.tc a17 fullShare X.x16 ∗ owns c.tc a18 fullShare X.x17 ∗ (∃ d, owns c.tc a19 fullShare d) ∗ (∃ d, owns c.tc a20 fullShare d) ∗ (∃ d, owns c.tc a21 fullShare d) ∗ (∃ d, owns c.tc a22 fullShare d) ∗ (∃ d, owns c.tc a23 fullShare d) ∗ (∃ d, owns c.tc a24 fullShare d) ∗ (∃ d, owns c.tc a25 fullShare d) ∗ (∃ d, owns c.tc a26 fullShare d) ∗ (∃ d, owns c.tc a27 fullShare d) ∗ (∃ d, owns c.tc a28 fullShare d)
        ∗ (iprop(owns c.tc a1 fullShare X.x0 ∗ owns c.tc a2 fullShare X.x1 ∗ owns c.tc a3 fullShare X.x2 ∗ owns c.tc a4 fullShare X.x3 ∗ owns c.tc a5 fullShare X.x4 ∗ owns c.tc a6 fullShare X.x5 ∗ owns c.tc a7 fullShare X.x6 ∗ owns c.tc a8 fullShare X.x7 ∗ owns c.tc a9 fullShare X.x8 ∗ owns c.tc a10 fullShare X.x9 ∗ owns c.tc a11 fullShare X.x10 ∗ owns c.tc a12 fullShare X.x11 ∗ owns c.tc a13 fullShare X.x12 ∗ owns c.tc a14 fullShare X.x13 ∗ owns c.tc a15 fullShare X.x14 ∗ owns c.tc a16 fullShare X.x15 ∗ owns c.tc a17 fullShare X.x16 ∗ owns c.tc a18 fullShare X.x17 ∗ owns c.tc a19 fullShare (out0_18 i X) ∗ owns c.tc a20 fullShare (out0_19 i X) ∗ owns c.tc a21 fullShare (out0_20 i X) ∗ owns c.tc a22 fullShare (out0_21 i X) ∗ owns c.tc a23 fullShare (out0_22 i X) ∗ owns c.tc a24 fullShare (out0_23 i X) ∗ owns c.tc a25 fullShare (out0_24 i X) ∗ owns c.tc a26 fullShare (out0_25 i X) ∗ owns c.tc a27 fullShare (out0_26 i X) ∗ owns c.tc a28 fullShare (out0_27 i X)) -∗ K ⟨⟩))
      ⊢ wp frame (wpE (defs₀ (F := F)) Variants.none c none) E (cc0_rwkv_pre i a1 w1 a2 w2 a3 w3 a4 w4 a5 w5 a6 w6 a7 w7 a8 w8 a9 w9 a10 w10 a11 w11 a12 w12 a13 w13 a14 w14 a15 w15 a16 w16 a17 w17 a18 w18 a19 w19 a20 w20 a21 w21 a22 w22 a23 w23 a24 w24 a25 w25 a26 w26 a27 w27 a28 w28) K := by
  simp only [cc0_rwkv_pre_eq_skeleton]; unfold cc0_rwkv_pre_skel
  simp only [k0_part8_eq_skeleton, k0_part1_eq_skeleton, k0_part2_eq_skeleton, k0_part3_eq_skeleton, k0_part4_eq_skeleton, k0_part5_eq_skeleton, k0_part6_eq_skeleton, k0_part7_eq_skeleton]
  obtain ⟨x0, x1, x2, x3, x4, x5, x6, x7, x8, x9, x10, x11, x12, x13, x14, x15, x16, x17⟩ := X
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover _)).trans ?_
    rfl
  isplitl [H19]
  · iexists _; isplitr
    swap; · iexact H19
    ipureintro
    refine (View.read_writes_eq_canon _ _ _ (cover _)).trans ?_
    rfl
  isplitl [H20]
  · iexists _; isplitr
    swap; · iexact H20
    ipureintro
    refine (View.read_writes_eq_canon _ _ _ (cover _)).trans ?_
    rfl
  isplitl [H21]
  · iexists _; isplitr
    swap; · iexact H21
    ipureintro
    refine (View.read_writes_eq_canon _ _ _ (cover _)).trans ?_
    rfl
  isplitl [H22]
  · iexists _; isplitr
    swap; · iexact H22
    ipureintro
    refine (View.read_writes_eq_canon _ _ _ (cover _)).trans ?_
    rfl
  isplitl [H23]
  · iexists _; isplitr
    swap; · iexact H23
    ipureintro
    refine (View.read_writes_eq_canon _ _ _ (cover _)).trans ?_
    rfl
  isplitl [H24]
  · iexists _; isplitr
    swap; · iexact H24
    ipureintro
    refine (View.read_writes_eq_canon _ _ _ (cover _)).trans ?_
    rfl
  isplitl [H25]
  · iexists _; isplitr
    swap; · iexact H25
    ipureintro
    refine (View.read_writes_eq_canon _ _ _ (cover _)).trans ?_
    rfl
  isplitl [H26]
  · iexists _; isplitr
    swap; · iexact H26
    ipureintro
    refine (View.read_writes_eq_canon _ _ _ (cover _)).trans ?_
    rfl
  iexists _; isplitr
  swap; · iexact H27
  ipureintro
  refine (View.read_writes_eq_canon _ _ _ (cover _)).trans ?_
  rfl

/-- The input blocks at a point. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The pipeline's data: the arrays when it starts, and what the body leaves at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (grid0.coords t) (ins m c t)
    | ⟨19, _⟩ => out0_19 (grid0.coords t) (ins m c t)
    | ⟨20, _⟩ => out0_20 (grid0.coords t) (ins m c t)
    | ⟨21, _⟩ => out0_21 (grid0.coords t) (ins m c t)
    | ⟨22, _⟩ => out0_22 (grid0.coords t) (ins m c t)
    | ⟨23, _⟩ => out0_23 (grid0.coords t) (ins m c t)
    | ⟨24, _⟩ => out0_24 (grid0.coords t) (ins m c t)
    | ⟨25, _⟩ => out0_25 (grid0.coords t) (ins m c t)
    | ⟨26, _⟩ => out0_26 (grid0.coords t) (ins m c t)
    | ⟨27, _⟩ => out0_27 (grid0.coords t) (ins m c t)
    | ⟨_ + 28, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (grid0.coords t) (ins m c t) := by dsimp only [dats]
theorem after0_19 (c : Dev nD) (t : Fin cfg0.N) : (dats m 0 c).after 19 t = out0_19 (grid0.coords t) (ins m c t) := by dsimp only [dats]
theorem after0_20 (c : Dev nD) (t : Fin cfg0.N) : (dats m 0 c).after 20 t = out0_20 (grid0.coords t) (ins m c t) := by dsimp only [dats]
theorem after0_21 (c : Dev nD) (t : Fin cfg0.N) : (dats m 0 c).after 21 t = out0_21 (grid0.coords t) (ins m c t) := by dsimp only [dats]
theorem after0_22 (c : Dev nD) (t : Fin cfg0.N) : (dats m 0 c).after 22 t = out0_22 (grid0.coords t) (ins m c t) := by dsimp only [dats]
theorem after0_23 (c : Dev nD) (t : Fin cfg0.N) : (dats m 0 c).after 23 t = out0_23 (grid0.coords t) (ins m c t) := by dsimp only [dats]
theorem after0_24 (c : Dev nD) (t : Fin cfg0.N) : (dats m 0 c).after 24 t = out0_24 (grid0.coords t) (ins m c t) := by dsimp only [dats]
theorem after0_25 (c : Dev nD) (t : Fin cfg0.N) : (dats m 0 c).after 25 t = out0_25 (grid0.coords t) (ins m c t) := by dsimp only [dats]
theorem after0_26 (c : Dev nD) (t : Fin cfg0.N) : (dats m 0 c).after 26 t = out0_26 (grid0.coords t) (ins m c t) := by dsimp only [dats]
theorem after0_27 (c : Dev nD) (t : Fin cfg0.N) : (dats m 0 c).after 27 t = out0_27 (grid0.coords t) (ins m c t) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d))
    ∗ (∃ d, owns c.tc (st0_8 t) fullShare ((dats m 0 c).before 8 t d))
    ∗ (∃ d, owns c.tc (st0_9 t) fullShare ((dats m 0 c).before 9 t d))
    ∗ (∃ d, owns c.tc (st0_10 t) fullShare ((dats m 0 c).before 10 t d))
    ∗ (∃ d, owns c.tc (st0_11 t) fullShare ((dats m 0 c).before 11 t d))
    ∗ (∃ d, owns c.tc (st0_12 t) fullShare ((dats m 0 c).before 12 t d))
    ∗ (∃ d, owns c.tc (st0_13 t) fullShare ((dats m 0 c).before 13 t d))
    ∗ (∃ d, owns c.tc (st0_14 t) fullShare ((dats m 0 c).before 14 t d))
    ∗ (∃ d, owns c.tc (st0_15 t) fullShare ((dats m 0 c).before 15 t d))
    ∗ (∃ d, owns c.tc (st0_16 t) fullShare ((dats m 0 c).before 16 t d))
    ∗ (∃ d, owns c.tc (st0_17 t) fullShare ((dats m 0 c).before 17 t d))
    ∗ (∃ d, owns c.tc (st0_18 t) fullShare ((dats m 0 c).before 18 t d))
    ∗ (∃ d, owns c.tc (st0_19 t) fullShare ((dats m 0 c).before 19 t d))
    ∗ (∃ d, owns c.tc (st0_20 t) fullShare ((dats m 0 c).before 20 t d))
    ∗ (∃ d, owns c.tc (st0_21 t) fullShare ((dats m 0 c).before 21 t d))
    ∗ (∃ d, owns c.tc (st0_22 t) fullShare ((dats m 0 c).before 22 t d))
    ∗ (∃ d, owns c.tc (st0_23 t) fullShare ((dats m 0 c).before 23 t d))
    ∗ (∃ d, owns c.tc (st0_24 t) fullShare ((dats m 0 c).before 24 t d))
    ∗ (∃ d, owns c.tc (st0_25 t) fullShare ((dats m 0 c).before 25 t d))
    ∗ (∃ d, owns c.tc (st0_26 t) fullShare ((dats m 0 c).before 26 t d))
    ∗ (∃ d, owns c.tc (st0_27 t) fullShare ((dats m 0 c).before 27 t d)))

def bodyPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ owns c.tc (st0_6 t) fullShare ((dats m 0 c).after 6 t)
    ∗ owns c.tc (st0_7 t) fullShare ((dats m 0 c).after 7 t)
    ∗ owns c.tc (st0_8 t) fullShare ((dats m 0 c).after 8 t)
    ∗ owns c.tc (st0_9 t) fullShare ((dats m 0 c).after 9 t)
    ∗ owns c.tc (st0_10 t) fullShare ((dats m 0 c).after 10 t)
    ∗ owns c.tc (st0_11 t) fullShare ((dats m 0 c).after 11 t)
    ∗ owns c.tc (st0_12 t) fullShare ((dats m 0 c).after 12 t)
    ∗ owns c.tc (st0_13 t) fullShare ((dats m 0 c).after 13 t)
    ∗ owns c.tc (st0_14 t) fullShare ((dats m 0 c).after 14 t)
    ∗ owns c.tc (st0_15 t) fullShare ((dats m 0 c).after 15 t)
    ∗ owns c.tc (st0_16 t) fullShare ((dats m 0 c).after 16 t)
    ∗ owns c.tc (st0_17 t) fullShare ((dats m 0 c).after 17 t)
    ∗ owns c.tc (st0_18 t) fullShare ((dats m 0 c).after 18 t)
    ∗ owns c.tc (st0_19 t) fullShare ((dats m 0 c).after 19 t)
    ∗ owns c.tc (st0_20 t) fullShare ((dats m 0 c).after 20 t)
    ∗ owns c.tc (st0_21 t) fullShare ((dats m 0 c).after 21 t)
    ∗ owns c.tc (st0_22 t) fullShare ((dats m 0 c).after 22 t)
    ∗ owns c.tc (st0_23 t) fullShare ((dats m 0 c).after 23 t)
    ∗ owns c.tc (st0_24 t) fullShare ((dats m 0 c).after 24 t)
    ∗ owns c.tc (st0_25 t) fullShare ((dats m 0 c).after 25 t)
    ∗ owns c.tc (st0_26 t) fullShare ((dats m 0 c).after 26 t)
    ∗ owns c.tc (st0_27 t) fullShare ((dats m 0 c).after 27 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (ins m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The run ends with every counter at zero and the argument arrays as launched. -/
theorem frame : θ_run defs (onTc (τ := τ) (main (F := F))) ⟨m, fun _ => 0, ρ⟩ (fun r => (∀ c : Dev nD, Same m r c) ∧ r.2.sem = fun _ => 0) :=
  (θ_run defs _ _).mono (fun r h => ⟨fun c => same_of m (dats m) (A_eq m) r h.1 c, h.2⟩) (run_main_quiescent m ρ)

/-- The run ends with each result's array at what the points wrote, and the argument arrays as launched. -/
theorem run_blocks : θ_run defs (onTc (τ := τ) (main (F := F))) ⟨m, fun _ => 0, ρ⟩ (fun r => ∀ c : Dev nD,
    r.2.mem (c.tc.loc main_v25_0) = (dats m 0 c).arrAt 18 cfg0.N
    ∧ r.2.mem (c.tc.loc main_v25_1) = (dats m 0 c).arrAt 19 cfg0.N
    ∧ r.2.mem (c.tc.loc main_v25_2) = (dats m 0 c).arrAt 20 cfg0.N
    ∧ r.2.mem (c.tc.loc main_v25_3) = (dats m 0 c).arrAt 21 cfg0.N
    ∧ r.2.mem (c.tc.loc main_v25_4) = (dats m 0 c).arrAt 22 cfg0.N
    ∧ r.2.mem (c.tc.loc main_v25_5) = (dats m 0 c).arrAt 23 cfg0.N
    ∧ r.2.mem (c.tc.loc main_v25_6) = (dats m 0 c).arrAt 24 cfg0.N
    ∧ r.2.mem (c.tc.loc main_v25_7) = (dats m 0 c).arrAt 25 cfg0.N
    ∧ r.2.mem (c.tc.loc main_v25_8) = (dats m 0 c).arrAt 26 cfg0.N
    ∧ r.2.mem (c.tc.loc main_v25_9) = (dats m 0 c).arrAt 27 cfg0.N
    ∧ Same m r c) :=
  (θ_run defs _ _).mono (fun r h c => ⟨(h c).1 18, (h c).1 19, (h c).1 20, (h c).1 21, (h c).1 22, (h c).1 23, (h c).1 24, (h c).1 25, (h c).1 26, (h c).1 27, same_of m (dats m) (A_eq m) r h c⟩) (run_main m ρ)

end Cert.PreRun

end
-- ==== Proof.PreTile.lean ====
/- One block of the mixer's first kernel read at an index: the norms, the shift along the tokens, the projections, the
   rates and the log decays. -/
module

public import proofs.«01_k».proof.Proof.PreMath
public import proofs.«01_k».proof.Proof.FfnTile
public import proofs.«01_k».proof.Proof.PostTile
public import proofs.«01_k».proof.Proof.PreRun
public import Idealize.ShloMosaic.Lib.Pipeline.ValueKit
public import Idealize.ShloMosaic.Lib.KernelVsHost

@[expose] public section

noncomputable section

namespace Cert.PreTile

open Cert.Kernel10Ideal Cert.Kernel10Ideal.Gen Cert.Pre Cert.PreRun
open Cert.Post (Real' chan headOf placeOf chan_of)
open Cert.FfnTile (halo halo_left halo_right pos bit_first bit_last prevRow nextRow)
open Cert.Ffn (row)
open Idealize.ShloMosaic hiding ix1 ix2 ix3 ix4 ix5 truncf_apply
open Idealize.ShloMosaic.ValueIdx

/-- Rows of 1024 numbers against 1024 columns. -/
theorem dot_wide (l : FVec Ideal S512x1024 .bf16) (r : FVec Ideal S1024x1024 .bf16) (q : Fin 512) (e : Fin 1024) :
    matmul dot_S512x1024_S1024x1024_S512x1024_1_0_0_1_n_n none l r (constant S512x1024 .f32 0x00000000#32) (ix2 q e) = ∑ k : Fin 1024, l (ix2 q k) * r (ix2 k e) := by
  simp only [matmul]
  rw [Ideal.matmul_constant_zero_apply, ← Equiv.sum_comp (contrEquiv1 dot_S512x1024_S1024x1024_S512x1024_1_0_0_1_n_n 1024 rfl rfl).symm]
  refine Finset.sum_congr rfl fun d _ => ?_
  have hd := contrEquiv1_symm_val dot_S512x1024_S1024x1024_S512x1024_1_0_0_1_n_n 1024 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- Rows of 1024 numbers against 128 columns. -/
theorem dot_in (l : FVec Ideal S512x1024 .bf16) (r : FVec Ideal S1024x128 .bf16) (q : Fin 512) (e : Fin 128) :
    matmul dot_S512x1024_S1024x128_S512x128_1_0_0_1_n_n none l r (constant S512x128 .f32 0x00000000#32) (ix2 q e) = ∑ k : Fin 1024, l (ix2 q k) * r (ix2 k e) := by
  simp only [matmul]
  rw [Ideal.matmul_constant_zero_apply, ← Equiv.sum_comp (contrEquiv1 dot_S512x1024_S1024x128_S512x128_1_0_0_1_n_n 1024 rfl rfl).symm]
  refine Finset.sum_congr rfl fun d _ => ?_
  have hd := contrEquiv1_symm_val dot_S512x1024_S1024x128_S512x128_1_0_0_1_n_n 1024 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- Rows of 128 numbers against 1024 columns. -/
theorem dot_out (l : FVec Ideal S512x128 .bf16) (r : FVec Ideal S128x1024 .bf16) (q : Fin 512) (e : Fin 1024) :
    matmul dot_S512x128_S128x1024_S512x1024_1_0_0_1_n_n none l r (constant S512x1024 .f32 0x00000000#32) (ix2 q e) = ∑ k : Fin 128, l (ix2 q k) * r (ix2 k e) := by
  simp only [matmul]
  rw [Ideal.matmul_constant_zero_apply, ← Equiv.sum_comp (contrEquiv1 dot_S512x128_S128x1024_S512x1024_1_0_0_1_n_n 128 rfl rfl).symm]
  refine Finset.sum_congr rfl fun d _ => ?_
  have hd := contrEquiv1_symm_val dot_S512x128_S128x1024_S512x1024_1_0_0_1_n_n 128 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- A row vector read at a row. -/
theorem vec_apply (g : Vec Ideal S1x1024 .f32) (q : Fin 512) (k : Fin 1024) :
    broadcastTo S512x1024 g broadcasts_S1x1024_S512x1024 (ix2 q k) = g (ix2 0 k) :=
  broadcastTo_apply (s := S1x1024) (t := S512x1024) _ _ (ix2 q k) (ix2 0 k) (fun | ⟨0, _⟩ => rfl | ⟨1, _⟩ => rfl)

/-- The block's rows normed. -/
theorem rows_apply (g : Vec Ideal S1x1024 .f32) (v : Vec Ideal S512x1024 .f32) (q : Fin 512) (k : Fin 1024) :
    k0_pay2 g v (ix2 q k) = row (fun k => g (ix2 0 k)) (fun k => v (ix2 q k)) k := by
  unfold k0_pay2 k0_pay1
  dsimp only
  rw [shapeCast_self v, shapeCast_self g]
  have hs : shapeCast S512x1 (multiReduction .add [1] S512 (mulf v v : FVec Ideal S512x1024 .f32) 0x00000000#32 reduces_S512x1024_S512 (.inl rfl) rfl) shapeCasts_S512_S512x1 (ix2 q 0)
      = ∑ i : Fin 1024, v (ix2 q i) * v (ix2 q i) := by
    refine (shapeCast_apply (s := S512) (t := S512x1) _ _ (ix2 q 0) (ix1 q) (by rw [Shape.rowMajor_val_one, Shape.rowMajor_val_two]; show q.val = q.val * 1 + 0; omega)).trans ?_
    refine (Ideal.multiReduction_add_single (mulf v v) _ _ (.inl rfl) rfl (ix1 q)).trans ?_
    exact Finset.sum_congr rfl fun i _ => congrArg (mulf v v : FVec Ideal S512x1024 .f32) (funext fun | ⟨0, _⟩ => rfl | ⟨1, _⟩ => rfl)
  have hr : ∀ w : FVec Ideal S512x1 .f32, broadcastTo S512x1024 w broadcasts_S512x1_S512x1024 (ix2 q k) = w (ix2 q 0) := fun w =>
    broadcastTo_apply (s := S512x1) (t := S512x1024) _ _ (ix2 q k) (ix2 q 0) (fun | ⟨0, _⟩ => rfl | ⟨1, _⟩ => rfl)
  unfold row
  rw [← hs]
  refine Eq.trans ?_ (congrArg (_ * ·) (vec_apply g q k))
  exact congrArg (v (ix2 q k) * · * broadcastTo S512x1024 g broadcasts_S1x1024_S512x1024 (ix2 q k)) (hr _)

/-- The sixteen rows next to the block normed. -/
def edge (g : FVec Ideal S1x1024 .f32) (v : FVec Ideal S16x1024 .f32) : FVec Ideal S16x1024 .f32 :=
  mulf (mulf v (broadcastTo S16x1024 (rsqrt (addf (divf (shapeCast S16x1 (multiReduction .add [1] S16 (mulf v v) 0x00000000#32 reduces_S16x1024_S16 (.inl rfl) rfl) shapeCasts_S16_S16x1)
      (broadcast S16x1 (Scalar.ofBits .f32 0x44800000#32))) (broadcast S16x1 (Scalar.ofBits .f32 0x358637BD#32)))) broadcasts_S16x1_S16x1024))
    (broadcastTo S16x1024 g broadcasts_S1x1024_S16x1024)

theorem edge_apply (g : FVec Ideal S1x1024 .f32) (v : FVec Ideal S16x1024 .f32) (q : Fin 16) (k : Fin 1024) :
    edge g v (ix2 q k) = row (fun k => g (ix2 0 k)) (fun k => v (ix2 q k)) k := by
  have hs : shapeCast S16x1 (multiReduction .add [1] S16 (mulf v v : FVec Ideal S16x1024 .f32) 0x00000000#32 reduces_S16x1024_S16 (.inl rfl) rfl) shapeCasts_S16_S16x1 (ix2 q 0)
      = ∑ i : Fin 1024, v (ix2 q i) * v (ix2 q i) := by
    refine (shapeCast_apply (s := S16) (t := S16x1) _ _ (ix2 q 0) (ix1 q) (by rw [Shape.rowMajor_val_one, Shape.rowMajor_val_two]; show q.val = q.val * 1 + 0; omega)).trans ?_
    refine (Ideal.multiReduction_add_single (mulf v v) _ _ (.inl rfl) rfl (ix1 q)).trans ?_
    exact Finset.sum_congr rfl fun i _ => congrArg (mulf v v : FVec Ideal S16x1024 .f32) (funext fun | ⟨0, _⟩ => rfl | ⟨1, _⟩ => rfl)
  have hr : ∀ w : FVec Ideal S16x1 .f32, broadcastTo S16x1024 w broadcasts_S16x1_S16x1024 (ix2 q k) = w (ix2 q 0) := fun w =>
    broadcastTo_apply (s := S16x1) (t := S16x1024) _ _ (ix2 q k) (ix2 q 0) (fun | ⟨0, _⟩ => rfl | ⟨1, _⟩ => rfl)
  have hg : broadcastTo S16x1024 g broadcasts_S1x1024_S16x1024 (ix2 q k) = g (ix2 0 k) :=
    broadcastTo_apply (s := S1x1024) (t := S16x1024) _ _ (ix2 q k) (ix2 0 k) (fun | ⟨0, _⟩ => rfl | ⟨1, _⟩ => rfl)
  unfold row edge
  rw [← hs]
  refine Eq.trans ?_ (congrArg (_ * ·) hg)
  exact congrArg (v (ix2 q k) * · * broadcastTo S16x1024 g broadcasts_S1x1024_S16x1024 (ix2 q k)) (hr _)

/-- Whether an eighth row is row `n` of the eight. -/
theorem eighth (b : BitVec 32) (n : Fin 8) (hb : b = BitVec.ofNat 32 n.val) (r : Fin 8) (l : Fin 1024) :
    cmpi .eq (iota .tc S8x1024 32 [0] iota_S8x1024_d0_w32) (broadcast S8x1024 b) (ix2 r l) = if r = n then 1#1 else 0#1 := by
  show IntOp.cmpi .eq (iota .tc S8x1024 32 [0] iota_S8x1024_d0_w32 (ix2 r l)) b = _
  rw [iota_single_apply]
  show IntOp.cmpi .eq (BitVec.ofNat 32 r.val) b = _
  subst hb
  revert n r; decide

/-- The rows moved down by one, the first from outside. -/
def down (v : FVec Ideal S512x1024 .f32) (e : FVec Ideal S1x1024 .f32) : FVec Ideal S512x1024 .f32 :=
  concatenate S512x1024 0 [⟨S8x1024, select (cmpi .eq (iota .tc S8x1024 32 [0] iota_S8x1024_d0_w32) (broadcast S8x1024 0#32))
      (broadcastTo S8x1024 (shapeCast S1x1024 e shapeCasts_S1x1024_S1x1024) broadcasts_S1x1024_S8x1024)
      (extractStridedSlice S8x1024 ![0, 0] (dynamicRotate 0 1#32 none v rotates_S512x1024_d0) slices_S512x1024_o0_0_S8x1024)⟩,
    ⟨S504x1024, extractStridedSlice S504x1024 ![8, 0] (dynamicRotate 0 1#32 none v rotates_S512x1024_d0) slices_S512x1024_o8_0_S504x1024⟩] concatenates_S8x1024_S504x1024_S512x1024_d0

/-- The rows moved up by one, the last from outside. -/
def up (v : FVec Ideal S512x1024 .f32) (e : FVec Ideal S1x1024 .f32) : FVec Ideal S512x1024 .f32 :=
  concatenate S512x1024 0 [⟨S504x1024, extractStridedSlice S504x1024 ![0, 0] (dynamicRotate 0 511#32 none v rotates_S512x1024_d0) slices_S512x1024_o0_0_S504x1024⟩,
    ⟨S8x1024, select (cmpi .eq (iota .tc S8x1024 32 [0] iota_S8x1024_d0_w32) (broadcast S8x1024 7#32))
      (broadcastTo S8x1024 (shapeCast S1x1024 e shapeCasts_S1x1024_S1x1024) broadcasts_S1x1024_S8x1024)
      (extractStridedSlice S8x1024 ![504, 0] (dynamicRotate 0 511#32 none v rotates_S512x1024_d0) slices_S512x1024_o504_0_S8x1024)⟩] concatenates_S504x1024_S8x1024_S512x1024_d0

/-- A rotation of the 512 rows by `n`, read at an index. -/
theorem rotate_apply (x : FVec Ideal S512x1024 .f32) (n : BitVec 32) (r k : Fin 512) (l : Fin 1024)
    (hk : k.val = (r.val + 512 - n.toNat % 512) % 512) :
    dynamicRotate 0 n none x rotates_S512x1024_d0 (ix2 r l) = x (ix2 k l) :=
  dynamicRotate_apply (s := S512x1024) 0 n x _ _ (ix2 k l) (fun
    | ⟨0, _⟩ => hk | ⟨1, _⟩ => rfl)

theorem repeat_apply (e : FVec Ideal S1x1024 .f32) (r : Fin 8) (l : Fin 1024) :
    broadcastTo S8x1024 (shapeCast S1x1024 e shapeCasts_S1x1024_S1x1024) broadcasts_S1x1024_S8x1024 (ix2 r l) = e (ix2 0 l) := by
  rw [shapeCast_self]
  exact broadcastTo_apply (s := S1x1024) (t := S8x1024) _ _ (ix2 r l) (ix2 0 l) (fun | ⟨0, _⟩ => rfl | ⟨1, _⟩ => rfl)

theorem down_apply (v : FVec Ideal S512x1024 .f32) (e : FVec Ideal S1x1024 .f32) (r : Fin 512) (l : Fin 1024) :
    down v e (ix2 r l) = if r.val = 0 then e (ix2 0 l) else v (ix2 ⟨r.val - 1, by omega⟩ l) := by
  unfold down
  by_cases h8 : r.val < 8
  · refine (concatenate_pair_apply_left (t := S512x1024) (s₁ := S8x1024) (s₂ := S504x1024) 0 _ _ _ _ rfl (ix2 (⟨r.val, h8⟩ : Fin 8) l) (fun | ⟨0, _⟩ => rfl | ⟨1, _⟩ => rfl)).trans ?_
    rw [select_apply, eighth 0#32 0 rfl]
    by_cases h0 : r.val = 0
    · rw [if_pos (Fin.ext h0), select_one, repeat_apply, if_pos h0]
    · rw [if_neg (fun h => h0 (congrArg Fin.val h)), select_zero, if_neg h0]
      refine (extractStridedSlice_apply (s := S512x1024) (t := S8x1024) ![0, 0] _ _ _ (ix2 r l) (fun
        | ⟨0, _⟩ => (Nat.zero_add _).symm | ⟨1, _⟩ => (Nat.zero_add _).symm)).trans ?_
      exact rotate_apply _ 1#32 r ⟨r.val - 1, by omega⟩ l (by show r.val - 1 = (r.val + 512 - 1) % 512; omega)
  · refine (concatenate_pair_apply_right (t := S512x1024) (s₁ := S8x1024) (s₂ := S504x1024) 0 _ _ _ _ rfl rfl (ix2 (⟨r.val - 8, by omega⟩ : Fin 504) l) (fun b hb => match b with | ⟨0, _⟩ => absurd rfl hb | ⟨1, _⟩ => rfl) (by show r.val - 8 + 8 = r.val; omega)).trans ?_
    refine (extractStridedSlice_apply (s := S512x1024) (t := S504x1024) ![8, 0] _ _ _ (ix2 r l) (fun
      | ⟨0, _⟩ => by show r.val = 8 + (r.val - 8); omega
      | ⟨1, _⟩ => (Nat.zero_add _).symm)).trans ?_
    rw [rotate_apply _ 1#32 r ⟨r.val - 1, by omega⟩ l (by show r.val - 1 = (r.val + 512 - 1) % 512; omega), if_neg (by omega)]

theorem up_apply (v : FVec Ideal S512x1024 .f32) (e : FVec Ideal S1x1024 .f32) (r : Fin 512) (l : Fin 1024) :
    up v e (ix2 r l) = if h : r.val = 511 then e (ix2 0 l) else v (ix2 ⟨r.val + 1, by omega⟩ l) := by
  unfold up
  by_cases h8 : r.val < 504
  · refine (concatenate_pair_apply_left (t := S512x1024) (s₁ := S504x1024) (s₂ := S8x1024) 0 _ _ _ _ rfl (ix2 (⟨r.val, h8⟩ : Fin 504) l) (fun | ⟨0, _⟩ => rfl | ⟨1, _⟩ => rfl)).trans ?_
    refine (extractStridedSlice_apply (s := S512x1024) (t := S504x1024) ![0, 0] _ _ _ (ix2 r l) (fun
      | ⟨0, _⟩ => (Nat.zero_add _).symm | ⟨1, _⟩ => (Nat.zero_add _).symm)).trans ?_
    rw [rotate_apply _ 511#32 r ⟨r.val + 1, by omega⟩ l (by show r.val + 1 = (r.val + 512 - 511) % 512; omega), dif_neg (by omega)]
  · refine (concatenate_pair_apply_right (t := S512x1024) (s₁ := S504x1024) (s₂ := S8x1024) 0 _ _ _ _ rfl rfl (ix2 (⟨r.val - 504, by omega⟩ : Fin 8) l) (fun b hb => match b with | ⟨0, _⟩ => absurd rfl hb | ⟨1, _⟩ => rfl) (by show r.val - 504 + 504 = r.val; omega)).trans ?_
    rw [select_apply, eighth 7#32 7 rfl]
    by_cases h0 : r.val = 511
    · rw [if_pos (Fin.ext (by show r.val - 504 = 7; omega)), select_one, repeat_apply, dif_pos h0]
    · rw [if_neg (fun h => h0 (by have := congrArg Fin.val h; change r.val - 504 = 7 at this; omega)), select_zero, dif_neg h0]
      refine (extractStridedSlice_apply (s := S512x1024) (t := S8x1024) ![504, 0] _ _ _ (ix2 r l) (fun
        | ⟨0, _⟩ => by show r.val = 504 + (r.val - 504); omega
        | ⟨1, _⟩ => (Nat.zero_add _).symm)).trans ?_
      exact rotate_apply _ 511#32 r ⟨r.val + 1, by omega⟩ l (by show r.val + 1 = (r.val + 512 - 511) % 512; omega)

/-- A row of the sixteen, taken out. -/
theorem pick_apply (o : Nat) (ho : o < 16) (v : FVec Ideal S16x1024 .f32) (h : S16x1024.Slices ![o, 0] S1x1024) (l : Fin 1024) :
    extractStridedSlice S1x1024 ![o, 0] v h (ix2 0 l) = v (ix2 ⟨o, ho⟩ l) :=
  extractStridedSlice_apply (s := S16x1024) (t := S1x1024) ![o, 0] _ _ _ (ix2 ⟨o, ho⟩ l) (fun
    | ⟨0, _⟩ => rfl | ⟨1, _⟩ => (Nat.zero_add _).symm)

/-- The shift of a row of block `n`, of the normed rows around it. -/
theorem shift_apply (i : grid0.Coords) (n : Fin 128) (hn : n = i 0) (g : Vec Ideal S1x1024 .f32) (x : Vec Ideal S512x1024 .f32) (y z : Vec Ideal S8x1024 .f32) (r : Fin 512) (k : Fin 1024) :
    k0_pay6 (k0_pay1 g) (k0_pay2 g x) (k0_pay3 y z) (Scalar.extui (Scalar.cmpi .ne (pos n.val) 3#32)) k0_pay4 (k0_pay5 i) (ix2 r k)
      = shift (row (fun k => g (ix2 0 k)) (prevRow n x y r)) (row (fun k => g (ix2 0 k)) (fun k => x (ix2 r k))) (row (fun k => g (ix2 0 k)) (nextRow n x z r)) k := by
  subst hn
  have hg : k0_pay1 g = g := shapeCast_self g _
  have hy : shapeCast S8x1024 y shapeCasts_S8x1024_S8x1024 = y := shapeCast_self y _
  have hz : shapeCast S8x1024 z shapeCasts_S8x1024_S8x1024 = z := shapeCast_self z _
  have hp : k0_pay6 (k0_pay1 g) (k0_pay2 g x) (k0_pay3 y z) (Scalar.extui (Scalar.cmpi .ne (pos (i 0).val) 3#32)) k0_pay4 (k0_pay5 i) (ix2 r k)
      = Ideal.ofBits .f32 0x3F000000#32 * (down (k0_pay2 g x) (extractStridedSlice S1x1024 ![7, 0] (edge (k0_pay1 g)
            (halo (Scalar.extui (Scalar.cmpi .ne (pos (i 0).val) 0#32)) (Scalar.extui (Scalar.cmpi .ne (pos (i 0).val) 3#32)) (shapeCast S8x1024 y shapeCasts_S8x1024_S8x1024) (shapeCast S8x1024 z shapeCasts_S8x1024_S8x1024))) slices_S16x1024_o7_0_S1x1024) (ix2 r k)
          + up (k0_pay2 g x) (extractStridedSlice S1x1024 ![8, 0] (edge (k0_pay1 g)
            (halo (Scalar.extui (Scalar.cmpi .ne (pos (i 0).val) 0#32)) (Scalar.extui (Scalar.cmpi .ne (pos (i 0).val) 3#32)) (shapeCast S8x1024 y shapeCasts_S8x1024_S8x1024) (shapeCast S8x1024 z shapeCasts_S8x1024_S8x1024))) slices_S16x1024_o8_0_S1x1024) (ix2 r k))
        - k0_pay2 g x (ix2 r k) := rfl
  have b0 := bit_first (i 0)
  have b1 := bit_last (i 0)
  rw [hp, hg, hy, hz, down_apply, up_apply, pick_apply 7 (by decide), pick_apply 8 (by decide), edge_apply, edge_apply, b0, b1]
  have h0 : (if r.val = 0 then row (fun k => g (ix2 0 k)) (fun k => halo (if (i 0).val % 4 = 0 then 0#32 else 1#32) (if (i 0).val % 4 = 3 then 0#32 else 1#32) y z (ix2 ⟨7, by decide⟩ k)) k
      else k0_pay2 g x (ix2 ⟨r.val - 1, by omega⟩ k)) = row (fun k => g (ix2 0 k)) (prevRow (i 0) x y r) k := by
    by_cases h : r.val = 0
    · rw [if_pos h]
      refine congrArg (fun v => row _ v k) (funext fun k => ?_)
      refine (halo_left _ _ y z 7 k).trans ?_
      unfold prevRow
      rw [if_pos h]
      by_cases h4 : (i 0).val % 4 = 0
      · rw [if_pos h4, if_pos rfl, if_pos h4]
      · rw [if_neg h4, if_neg (by decide), if_neg h4]
    · rw [if_neg h, rows_apply]
      refine congrArg (fun v => row _ v k) (funext fun k => ?_)
      unfold prevRow
      rw [if_neg h]
  have h1 : (if h : r.val = 511 then row (fun k => g (ix2 0 k)) (fun k => halo (if (i 0).val % 4 = 0 then 0#32 else 1#32) (if (i 0).val % 4 = 3 then 0#32 else 1#32) y z (ix2 ⟨8, by decide⟩ k)) k
      else k0_pay2 g x (ix2 ⟨r.val + 1, by omega⟩ k)) = row (fun k => g (ix2 0 k)) (nextRow (i 0) x z r) k := by
    by_cases h : r.val = 511
    · rw [dif_pos h]
      refine congrArg (fun v => row _ v k) (funext fun k => ?_)
      refine (halo_right _ _ y z 0 k).trans ?_
      unfold nextRow
      rw [dif_pos h]
      by_cases h4 : (i 0).val % 4 = 3
      · rw [if_pos h4, if_pos rfl, if_pos h4]
      · rw [if_neg h4, if_neg (by decide), if_neg h4]
    · rw [dif_neg h, rows_apply]
      refine congrArg (fun v => row _ v k) (funext fun k => ?_)
      unfold nextRow
      rw [dif_neg h]
  rw [h0, h1, rows_apply]
  rfl

/-- The rows mixed by a vector, in the narrower format. -/
def mixed (h d : FVec Ideal S512x1024 .f32) (m : Vec Ideal S1x1024 .f32) : FVec Ideal S512x1024 .bf16 :=
  truncf .bf16 (addf h (mulf d (broadcastTo S512x1024 m broadcasts_S1x1024_S512x1024))) bitsLt_bf16_f32

theorem mixed_apply (h d : FVec Ideal S512x1024 .f32) (m : Vec Ideal S1x1024 .f32) (r : Fin 512) (k : Fin 1024) :
    mixed h d m (ix2 r k) = h (ix2 r k) + d (ix2 r k) * m (ix2 0 k) := by
  show h (ix2 r k) + d (ix2 r k) * broadcastTo S512x1024 m broadcasts_S1x1024_S512x1024 (ix2 r k) = _
  rw [vec_apply]

/-- Whether a lane is one of the first 64. -/
theorem first_apply (r : Fin 512) (l : Fin 128) : k0_pay11 (ix2 r l) = if l.val < 64 then 1#1 else 0#1 := by
  show IntOp.cmpi .slt (iota .tc S512x128 32 [1] iota_S512x128_d1_w32 (ix2 r l)) 64#32 = _
  rw [iota_single_apply]
  show IntOp.cmpi .slt (BitVec.ofNat 32 l.val) 64#32 = _
  revert l; decide

theorem last_apply (r : Fin 512) (l : Fin 128) : k0_pay12 (ix2 r l) = if l.val < 64 then 0#1 else 1#1 := by
  show k0_pay11 (ix2 r l) ^^^ 1#1 = _
  rw [first_apply]
  by_cases h : l.val < 64
  · rw [if_pos h, if_pos h]; rfl
  · rw [if_neg h, if_neg h]; rfl

/-- The second product of the first direction: only its 64 lanes count. -/
theorem out_first (T : FVec Ideal S512x128 .f32) (w : Vec Ideal S128x1024 .bf16) (r : Fin 512) (f : Fin 1024) :
    k0_pay15 T k0_pay11 w (ix2 r f) = ∑ l : Fin 64, T (ix2 r ⟨l.val, by omega⟩) * w (ix2 ⟨l.val, by omega⟩ f) := by
  unfold k0_pay15
  rw [shapeCast_self w, dot_out]
  refine Eq.trans (Finset.sum_congr rfl fun l _ => ?_) (sum_first (fun l => T (ix2 r l)) (fun l => w (ix2 l f)))
  show Scalar.select (k0_pay11 (ix2 r l)) (T (ix2 r l)) (Ideal.ofBits .f32 0x00000000#32) * _ = _
  rw [first_apply]
  by_cases h : l.val < 64
  · rw [if_pos h, select_one, if_pos h]
  · rw [if_neg h, select_zero, if_neg h, Ideal.ofBits_zero_f32]

/-- The second product of the second direction: only its 64 lanes count. -/
theorem out_last (T : FVec Ideal S512x128 .f32) (w : Vec Ideal S128x1024 .bf16) (r : Fin 512) (f : Fin 1024) :
    k0_pay16 T k0_pay12 w (ix2 r f) = ∑ l : Fin 64, T (ix2 r ⟨64 + l.val, by omega⟩) * w (ix2 ⟨64 + l.val, by omega⟩ f) := by
  unfold k0_pay16
  rw [shapeCast_self w, dot_out]
  refine Eq.trans (Finset.sum_congr rfl fun l _ => ?_) (sum_last (fun l => T (ix2 r l)) (fun l => w (ix2 l f)))
  show Scalar.select (k0_pay12 (ix2 r l)) (T (ix2 r l)) (Ideal.ofBits .f32 0x00000000#32) * _ = _
  rw [last_apply]
  by_cases h : l.val < 64
  · rw [if_pos h, select_zero, if_pos h, Ideal.ofBits_zero_f32]
  · rw [if_neg h, select_one, if_neg h]

/-- The matrix that is one where two columns belong to one head. -/
def ones : FVec Ideal S256x256 .bf16 := k0_pay27 (F := Ideal) (iota .tc S256x256 32 [1] iota_S256x256_d1_w32) k0_pay24 k0_pay25 k0_pay26

theorem ones_apply (r l : Fin 256) : ones (ix2 r l) = if r.val / 64 = l.val / 64 then 1 else 0 :=
  (ProjTile.ones_apply r l : _)

/-- The least length squared, at the ideal values. -/
theorem least_named : (Named.named κ "tiny" 0x179ABE15#32 : Ideal .f32) = ((5316911940649 / 5316911983139663491615228241121378304 : ℝ) : EReal) :=
  IdealRules.named_const.ideal_named_scalar _ _ _ _ rfl

/-- The keys over their heads' lengths. -/
theorem unit_apply (u : FVec Ideal S512x1024 .f32) (r : Fin 512) (hu : ∀ f : Fin 1024, Real' (u (ix2 r f))) (f : Fin 1024) :
    k0_pay31 u (mulf u u) ones
        (k0_pay28 (mulf u u) (iota .tc S256x256 32 [1] iota_S256x256_d1_w32) k0_pay24 k0_pay25 k0_pay26)
        (k0_pay29 (mulf u u) (iota .tc S256x256 32 [1] iota_S256x256_d1_w32) k0_pay24 k0_pay25 k0_pay26) (k0_pay30 (mulf u u)) (ix2 r f)
      = unitKey (fun f => u (ix2 r f)) f := by
  show u (ix2 r f) * Ideal.rsqrt (max (PostTile.heads ones (mulf u u) (ix2 r f)) (Named.named κ "tiny" 0x179ABE15#32 : Ideal .f32)) = _
  have h := PostTile.heads_apply ones ones_apply (mulf u u) r (fun f => (hu f).mul (hu f)) (headOf f) (placeOf f)
  rw [chan_of] at h
  rw [h, least_named]
  exact unitKey_eq (fun f => u (ix2 r f)) hu f

variable (i : grid0.Coords) (X : Ins Ideal)

theorem ld0 (z : Vec Ideal S1x1024 .f32) : View.ld z r0_0 = z := View.ld_unit_zero (funext fun | ⟨0, _⟩ => rfl | ⟨1, _⟩ => rfl) _ z
theorem ld1 (z : Vec Ideal S512x1024 .f32) : View.ld z r0_1 = z := View.ld_unit_zero (funext fun | ⟨0, _⟩ => rfl | ⟨1, _⟩ => rfl) _ z
theorem ld2 (z : Vec Ideal S8x1024 .f32) : View.ld z r0_2 = z := View.ld_unit_zero (funext fun | ⟨0, _⟩ => rfl | ⟨1, _⟩ => rfl) _ z
theorem ld4 (z : Vec Ideal S1024x128 .bf16) : View.ld z r0_4 = z := View.ld_unit_zero (funext fun | ⟨0, _⟩ => rfl | ⟨1, _⟩ => rfl) _ z
theorem ld7 (z : Vec Ideal S128x1024 .bf16) : View.ld z r0_7 = z := View.ld_unit_zero (funext fun | ⟨0, _⟩ => rfl | ⟨1, _⟩ => rfl) _ z
theorem ld9 (z : Vec Ideal S1024x1024 .bf16) : View.ld z r0_9 = z := View.ld_unit_zero (funext fun | ⟨0, _⟩ => rfl | ⟨1, _⟩ => rfl) _ z

theorem mu0 (z : Vec Ideal S6x1024 .f32) (k : Fin 1024) : View.ld z r0_10 (ix2 0 k) = z (ix2 0 k) :=
  View.ld_unit_apply_of z _ _ _ _ _ fun | ⟨0, _⟩ => rfl | ⟨1, _⟩ => (Nat.zero_add _).symm
theorem mu1 (z : Vec Ideal S6x1024 .f32) (k : Fin 1024) : View.ld z r0_3 (ix2 0 k) = z (ix2 1 k) :=
  View.ld_unit_apply_of z _ _ _ _ _ fun | ⟨0, _⟩ => rfl | ⟨1, _⟩ => (Nat.zero_add _).symm
theorem mu2 (z : Vec Ideal S6x1024 .f32) (k : Fin 1024) : View.ld z r0_8 (ix2 0 k) = z (ix2 2 k) :=
  View.ld_unit_apply_of z _ _ _ _ _ fun | ⟨0, _⟩ => rfl | ⟨1, _⟩ => (Nat.zero_add _).symm
theorem mu3 (z : Vec Ideal S6x1024 .f32) (k : Fin 1024) : View.ld z r0_11 (ix2 0 k) = z (ix2 3 k) :=
  View.ld_unit_apply_of z _ _ _ _ _ fun | ⟨0, _⟩ => rfl | ⟨1, _⟩ => (Nat.zero_add _).symm
theorem mu4 (z : Vec Ideal S6x1024 .f32) (k : Fin 1024) : View.ld z r0_5 (ix2 0 k) = z (ix2 4 k) :=
  View.ld_unit_apply_of z _ _ _ _ _ fun | ⟨0, _⟩ => rfl | ⟨1, _⟩ => (Nat.zero_add _).symm
theorem mu5 (z : Vec Ideal S6x1024 .f32) (k : Fin 1024) : View.ld z r0_6 (ix2 0 k) = z (ix2 5 k) :=
  View.ld_unit_apply_of z _ _ _ _ _ fun | ⟨0, _⟩ => rfl | ⟨1, _⟩ => (Nat.zero_add _).symm
theorem bias0 (z : Vec Ideal S2x1024 .f32) (k : Fin 1024) : View.ld z r0_12 (ix2 0 k) = z (ix2 0 k) :=
  View.ld_unit_apply_of z _ _ _ _ _ fun | ⟨0, _⟩ => rfl | ⟨1, _⟩ => (Nat.zero_add _).symm
theorem bias1 (z : Vec Ideal S2x1024 .f32) (k : Fin 1024) : View.ld z r0_13 (ix2 0 k) = z (ix2 1 k) :=
  View.ld_unit_apply_of z _ _ _ _ _ fun | ⟨0, _⟩ => rfl | ⟨1, _⟩ => (Nat.zero_add _).symm

/-- Row `r` of the block mixed by vector `j`, of the normed rows around it. -/
def mixRow (j : Fin 6) (r : Fin 512) : Fin 1024 → EReal :=
  mix (fun k => X.x4 (ix2 j k)) (row (fun k => X.x3 (ix2 0 k)) (prevRow (i 0) X.x0 X.x1 r)) (row (fun k => X.x3 (ix2 0 k)) (fun k => X.x0 (ix2 r k)))
    (row (fun k => X.x3 (ix2 0 k)) (nextRow (i 0) X.x0 X.x2 r))

theorem at42 (r : Fin 512) (k : Fin 1024) : k0_pay42 (F := Ideal) i X (ix2 r k) = row (fun k => X.x3 (ix2 0 k)) (fun k => X.x0 (ix2 r k)) k := by
  unfold k0_pay42
  rw [ld0, ld1, rows_apply]

theorem at46 (r : Fin 512) (k : Fin 1024) : k0_pay46 (F := Ideal) i X (ix2 r k)
    = shift (row (fun k => X.x3 (ix2 0 k)) (prevRow (i 0) X.x0 X.x1 r)) (row (fun k => X.x3 (ix2 0 k)) (fun k => X.x0 (ix2 r k)))
    (row (fun k => X.x3 (ix2 0 k)) (nextRow (i 0) X.x0 X.x2 r)) k := by
  unfold k0_pay46 k0_pay41 k0_pay42 k0_pay43 k0_pay44 k0_pay45
  rw [ld0, ld1, ld2, ld2]
  exact shift_apply i (i 0) rfl X.x3 X.x0 X.x1 X.x2 r k

theorem mixed0 (r : Fin 512) (k : Fin 1024) : mixed (k0_pay42 (F := Ideal) i X) (k0_pay46 (F := Ideal) i X) (View.ld X.x4 r0_10) (ix2 r k)
    = mixRow i X 0 r k := by
  rw [mixed_apply, at42, at46, mu0]
  rfl

theorem mixed1 (r : Fin 512) (k : Fin 1024) : mixed (k0_pay42 (F := Ideal) i X) (k0_pay46 (F := Ideal) i X) (View.ld X.x4 r0_3) (ix2 r k)
    = mixRow i X 1 r k := by
  rw [mixed_apply, at42, at46, mu1]
  rfl

theorem mixed2 (r : Fin 512) (k : Fin 1024) : mixed (k0_pay42 (F := Ideal) i X) (k0_pay46 (F := Ideal) i X) (View.ld X.x4 r0_8) (ix2 r k)
    = mixRow i X 2 r k := by
  rw [mixed_apply, at42, at46, mu2]
  rfl

theorem mixed3 (r : Fin 512) (k : Fin 1024) : mixed (k0_pay42 (F := Ideal) i X) (k0_pay46 (F := Ideal) i X) (View.ld X.x4 r0_11) (ix2 r k)
    = mixRow i X 3 r k := by
  rw [mixed_apply, at42, at46, mu3]
  rfl

theorem mixed4 (r : Fin 512) (k : Fin 1024) : mixed (k0_pay42 (F := Ideal) i X) (k0_pay46 (F := Ideal) i X) (View.ld X.x4 r0_5) (ix2 r k)
    = mixRow i X 4 r k := by
  rw [mixed_apply, at42, at46, mu4]
  rfl

theorem mixed5 (r : Fin 512) (k : Fin 1024) : mixed (k0_pay42 (F := Ideal) i X) (k0_pay46 (F := Ideal) i X) (View.ld X.x4 r0_6) (ix2 r k)
    = mixRow i X 5 r k := by
  rw [mixed_apply, at42, at46, mu5]
  rfl

/-- The row's keys. -/
theorem at51 (r : Fin 512) (f : Fin 1024) : k0_pay51 (F := Ideal) i X (ix2 r f) = prod (mixRow i X 2 r) (fun k f => X.x6 (ix2 k f)) f := by
  unfold k0_pay51 k0_pay17
  rw [ld9, shapeCast_self X.x6]
  refine (dot_wide _ X.x6 r f).trans (Finset.sum_congr rfl fun k _ => ?_)
  exact congrArg (· * X.x6 (ix2 k f)) (mixed2 i X r k)

/-- The narrow product for the rates. -/
theorem at48 (r : Fin 512) (l : Fin 128) : k0_pay48 (F := Ideal) i X (ix2 r l) = prod (mixRow i X 4 r) (fun k l => X.x12 (ix2 k l)) l := by
  unfold k0_pay48 k0_pay9
  rw [ld4, shapeCast_self X.x12]
  refine (dot_in _ X.x12 r l).trans (Finset.sum_congr rfl fun k _ => ?_)
  exact congrArg (· * X.x12 (ix2 k l)) (mixed4 i X r k)

/-- The narrow product for the decays. -/
theorem tanh_apply (r : Fin 512) (l : Fin 128) : k0_pay8 (F := Ideal) (k0_pay47 i X) (View.ld X.x10 r0_4) (ix2 r l)
    = Ideal.tanh (prod (mixRow i X 1 r) (fun k l => X.x10 (ix2 k l)) l) := by
  unfold k0_pay8
  rw [ld4, shapeCast_self X.x10]
  refine congrArg Ideal.tanh ((dot_in _ X.x10 r l).trans (Finset.sum_congr rfl fun k _ => ?_))
  exact congrArg (· * X.x10 (ix2 k l)) (mixed1 i X r k)

theorem at49 (r : Fin 512) (f : Fin 1024) : k0_pay49 (F := Ideal) i X (ix2 r f)
    = ∑ l : Fin 64, prod (mixRow i X 4 r) (fun k l => X.x12 (ix2 k l)) ⟨l.val, by omega⟩ * X.x13 (ix2 ⟨l.val, by omega⟩ f) := by
  unfold k0_pay49
  rw [ld7, out_first]
  exact Finset.sum_congr rfl fun l _ => by rw [at48]

theorem at50 (r : Fin 512) (f : Fin 1024) : k0_pay50 (F := Ideal) i X (ix2 r f)
    = ∑ l : Fin 64, prod (mixRow i X 4 r) (fun k l => X.x12 (ix2 k l)) ⟨64 + l.val, by omega⟩ * X.x13 (ix2 ⟨64 + l.val, by omega⟩ f) := by
  unfold k0_pay50
  rw [ld7, out_last]
  exact Finset.sum_congr rfl fun l _ => by rw [at48]

theorem decay0 (r : Fin 512) (f : Fin 1024) : k0_pay13 (F := Ideal) (k0_pay47 i X) (View.ld X.x10 r0_4) (View.ld X.x11 r0_7) (ix2 r f)
    = ∑ l : Fin 64, Ideal.tanh (prod (mixRow i X 1 r) (fun k l => X.x10 (ix2 k l)) ⟨l.val, by omega⟩) * X.x11 (ix2 ⟨l.val, by omega⟩ f) := by
  rw [ld7]
  refine (out_first (k0_pay8 (F := Ideal) (k0_pay47 i X) (View.ld X.x10 r0_4)) X.x11 r f).trans ?_
  exact Finset.sum_congr rfl fun l _ => by rw [tanh_apply]

theorem decay1 (r : Fin 512) (f : Fin 1024) : k0_pay14 (F := Ideal) (k0_pay47 i X) (View.ld X.x10 r0_4) (View.ld X.x11 r0_7) (ix2 r f)
    = ∑ l : Fin 64, Ideal.tanh (prod (mixRow i X 1 r) (fun k l => X.x10 (ix2 k l)) ⟨64 + l.val, by omega⟩) * X.x11 (ix2 ⟨64 + l.val, by omega⟩ f) := by
  rw [ld7]
  refine (out_last (k0_pay8 (F := Ideal) (k0_pay47 i X) (View.ld X.x10 r0_4)) X.x11 r f).trans ?_
  exact Finset.sum_congr rfl fun l _ => by rw [tanh_apply]

/-- The rate of the first direction. -/
def rate0 (r : Fin 512) (f : Fin 1024) : EReal :=
  Ideal.logistic (X.x15 (ix2 0 f) + ∑ l : Fin 64, prod (mixRow i X 4 r) (fun k l => X.x12 (ix2 k l)) ⟨l.val, by omega⟩ * X.x13 (ix2 ⟨l.val, by omega⟩ f))

/-- The rate of the second direction. -/
def rate1 (r : Fin 512) (f : Fin 1024) : EReal :=
  Ideal.logistic (X.x15 (ix2 1 f) + ∑ l : Fin 64, prod (mixRow i X 4 r) (fun k l => X.x12 (ix2 k l)) ⟨64 + l.val, by omega⟩ * X.x13 (ix2 ⟨64 + l.val, by omega⟩ f))

theorem at_rate0 (r : Fin 512) (f : Fin 1024) : k0_pay34 (F := Ideal) (k0_pay49 i X) (View.ld X.x15 r0_12) (ix2 r f) = rate0 i X r f := by
  show Ideal.logistic (broadcastTo S512x1024 (View.ld X.x15 r0_12) broadcasts_S1x1024_S512x1024 (ix2 r f) + k0_pay49 (F := Ideal) i X (ix2 r f)) = _
  rw [vec_apply, bias0, at49]
  rfl

theorem at_rate1 (r : Fin 512) (f : Fin 1024) : k0_pay38 (F := Ideal) (k0_pay50 i X) (View.ld X.x15 r0_13) (ix2 r f) = rate1 i X r f := by
  show Ideal.logistic (broadcastTo S512x1024 (View.ld X.x15 r0_13) broadcasts_S1x1024_S512x1024 (ix2 r f) + k0_pay50 (F := Ideal) i X (ix2 r f)) = _
  rw [vec_apply, bias1, at50]
  rfl

/-- The first result: the receptances. -/
theorem out18_apply (r : Fin 512) (f : Fin 1024) : out0_18 (F := Ideal) i X (ix2 r f) = prod (mixRow i X 0 r) (fun k f => X.x5 (ix2 k f)) f := by
  unfold out0_18
  rw [View.canon_unit_zero (funext fun | ⟨0, _⟩ => rfl | ⟨1, _⟩ => rfl)]
  unfold k0_pay18
  rw [ld9, shapeCast_self X.x5]
  refine (dot_wide _ X.x5 r f).trans (Finset.sum_congr rfl fun k _ => ?_)
  exact congrArg (· * X.x5 (ix2 k f)) (mixed0 i X r k)

/-- The second: the values. -/
theorem out19_apply (r : Fin 512) (f : Fin 1024) : out0_19 (F := Ideal) i X (ix2 r f) = prod (mixRow i X 3 r) (fun k f => X.x7 (ix2 k f)) f := by
  unfold out0_19
  rw [View.canon_unit_zero (funext fun | ⟨0, _⟩ => rfl | ⟨1, _⟩ => rfl)]
  unfold k0_pay20 k0_pay19
  dsimp only
  rw [ld9, shapeCast_self X.x7]
  refine (dot_wide _ X.x7 r f).trans (Finset.sum_congr rfl fun k _ => ?_)
  exact congrArg (· * X.x7 (ix2 k f)) (mixed3 i X r k)

/-- The third: the gate. -/
theorem out20_apply (r : Fin 512) (f : Fin 1024) : out0_20 (F := Ideal) i X (ix2 r f)
    = prod (fun l => Ideal.logistic (prod (mixRow i X 5 r) (fun k l => X.x8 (ix2 k l)) l)) (fun l f => X.x9 (ix2 l f)) f := by
  unfold out0_20
  rw [View.canon_unit_zero (funext fun | ⟨0, _⟩ => rfl | ⟨1, _⟩ => rfl)]
  unfold k0_pay21 k0_pay10
  dsimp only
  rw [ld4, ld7, shapeCast_self X.x8, shapeCast_self X.x9]
  refine (dot_out _ X.x9 r f).trans (Finset.sum_congr rfl fun l _ => congrArg (· * X.x9 (ix2 l f)) ?_)
  refine congrArg Ideal.logistic ((dot_in _ X.x8 r l).trans (Finset.sum_congr rfl fun k _ => ?_))
  exact congrArg (· * X.x8 (ix2 k l)) (mixed5 i X r k)

/-- The fourth: the keys over their heads' lengths. -/
theorem out21_apply (r : Fin 512) (hu : ∀ f, Real' (prod (mixRow i X 2 r) (fun k f => X.x6 (ix2 k f)) f * X.x16 (ix2 0 f))) (f : Fin 1024) : out0_21 (F := Ideal) i X (ix2 r f)
    = unitKey (fun f => prod (mixRow i X 2 r) (fun k f => X.x6 (ix2 k f)) f * X.x16 (ix2 0 f)) f := by
  have h : ∀ f, k0_pay22 (F := Ideal) (k0_pay51 i X) (View.ld X.x16 r0_0) (ix2 r f) = prod (mixRow i X 2 r) (fun k f => X.x6 (ix2 k f)) f * X.x16 (ix2 0 f) := fun f => by
    unfold k0_pay22
    rw [ld0, shapeCast_self X.x16]
    show k0_pay51 (F := Ideal) i X (ix2 r f) * broadcastTo S512x1024 X.x16 broadcasts_S1x1024_S512x1024 (ix2 r f) = _
    rw [vec_apply, at51]
  unfold out0_21
  rw [View.canon_unit_zero (funext fun | ⟨0, _⟩ => rfl | ⟨1, _⟩ => rfl)]
  refine (unit_apply (k0_pay22 (F := Ideal) (k0_pay51 i X) (View.ld X.x16 r0_0)) r (fun f => by rw [h]; exact hu f) f).trans ?_
  exact congrArg (fun u => unitKey u f) (funext h)

/-- The fifth: the keys of the first direction. -/
theorem out22_apply (r : Fin 512) (f : Fin 1024) : out0_22 (F := Ideal) i X (ix2 r f)
    = rated (Ideal.ofBits .f32 0x3F800000#32) (prod (mixRow i X 2 r) (fun k f => X.x6 (ix2 k f)) f) (rate0 i X r f) (X.x17 (ix2 0 f)) := by
  unfold out0_22
  rw [View.canon_unit_zero (funext fun | ⟨0, _⟩ => rfl | ⟨1, _⟩ => rfl)]
  unfold k0_pay57 k0_pay32
  dsimp only
  rw [ld0, shapeCast_self X.x17]
  show k0_pay51 (F := Ideal) i X (ix2 r f) * (Ideal.ofBits .f32 0x3F800000#32 + (k0_pay34 (F := Ideal) (k0_pay49 i X) (View.ld X.x15 r0_12) (ix2 r f) - Ideal.ofBits .f32 0x3F800000#32) * broadcastTo S512x1024 X.x17 broadcasts_S1x1024_S512x1024 (ix2 r f)) = _
  rw [vec_apply, at51, at_rate0]
  rfl

/-- The sixth: the keys of the second direction. -/
theorem out23_apply (r : Fin 512) (f : Fin 1024) : out0_23 (F := Ideal) i X (ix2 r f)
    = rated (Ideal.ofBits .f32 0x3F800000#32) (prod (mixRow i X 2 r) (fun k f => X.x6 (ix2 k f)) f) (rate1 i X r f) (X.x17 (ix2 0 f)) := by
  unfold out0_23
  rw [View.canon_unit_zero (funext fun | ⟨0, _⟩ => rfl | ⟨1, _⟩ => rfl)]
  unfold k0_pay57 k0_pay32
  dsimp only
  rw [ld0, shapeCast_self X.x17]
  show k0_pay51 (F := Ideal) i X (ix2 r f) * (Ideal.ofBits .f32 0x3F800000#32 + (k0_pay38 (F := Ideal) (k0_pay50 i X) (View.ld X.x15 r0_13) (ix2 r f) - Ideal.ofBits .f32 0x3F800000#32) * broadcastTo S512x1024 X.x17 broadcasts_S1x1024_S512x1024 (ix2 r f)) = _
  rw [vec_apply, at51, at_rate1]
  rfl

/-- The seventh: the rates of the first direction. -/
theorem out24_apply (r : Fin 512) (f : Fin 1024) : out0_24 (F := Ideal) i X (ix2 r f) = rate0 i X r f := by
  unfold out0_24
  rw [View.canon_unit_zero (funext fun | ⟨0, _⟩ => rfl | ⟨1, _⟩ => rfl)]
  exact at_rate0 i X r f

/-- The eighth: the rates of the second direction. -/
theorem out25_apply (r : Fin 512) (f : Fin 1024) : out0_25 (F := Ideal) i X (ix2 r f) = rate1 i X r f := by
  unfold out0_25
  rw [View.canon_unit_zero (funext fun | ⟨0, _⟩ => rfl | ⟨1, _⟩ => rfl)]
  exact at_rate1 i X r f

/-- The ninth: the log decays of the first direction. -/
theorem out26_apply (r : Fin 512) (f : Fin 1024) : out0_26 (F := Ideal) i X (ix2 r f)
    = decay (X.x14 (ix2 0 f) + ∑ l : Fin 64, Ideal.tanh (prod (mixRow i X 1 r) (fun k l => X.x10 (ix2 k l)) ⟨l.val, by omega⟩) * X.x11 (ix2 ⟨l.val, by omega⟩ f)) := by
  unfold out0_26
  rw [View.canon_unit_zero (funext fun | ⟨0, _⟩ => rfl | ⟨1, _⟩ => rfl)]
  show (Ideal.ofBits .f32 0x00000000#32 - Ideal.exp (Ideal.ofBits .f32 0xBF000000#32)) * Ideal.logistic (broadcastTo S512x1024 (View.ld X.x14 r0_12) broadcasts_S1x1024_S512x1024 (ix2 r f)
    + k0_pay13 (F := Ideal) (k0_pay47 i X) (View.ld X.x10 r0_4) (View.ld X.x11 r0_7) (ix2 r f)) = _
  rw [vec_apply, bias0, decay0, decay_eq]

/-- The tenth: the log decays of the second direction. -/
theorem out27_apply (r : Fin 512) (f : Fin 1024) : out0_27 (F := Ideal) i X (ix2 r f)
    = decay (X.x14 (ix2 1 f) + ∑ l : Fin 64, Ideal.tanh (prod (mixRow i X 1 r) (fun k l => X.x10 (ix2 k l)) ⟨64 + l.val, by omega⟩) * X.x11 (ix2 ⟨64 + l.val, by omega⟩ f)) := by
  unfold out0_27
  rw [View.canon_unit_zero (funext fun | ⟨0, _⟩ => rfl | ⟨1, _⟩ => rfl)]
  show (Ideal.ofBits .f32 0x00000000#32 - Ideal.exp (Ideal.ofBits .f32 0xBF000000#32)) * Ideal.logistic (broadcastTo S512x1024 (View.ld X.x14 r0_13) broadcasts_S1x1024_S512x1024 (ix2 r f)
    + k0_pay14 (F := Ideal) (k0_pay47 i X) (View.ld X.x10 r0_4) (View.ld X.x11 r0_7) (ix2 r f)) = _
  rw [vec_apply, bias1, decay1, decay_eq]

end Cert.PreTile

end
-- ==== Proof.FfnRef.lean ====
/- The reference of the convolution-gated MLP read at an index. -/
module

public import proofs.«01_k».proof.Proof.FfnMath
public import proofs.«01_k».proof.Proof.Gen.Reference2Ideal.Read
public import Idealize.ShloMosaic.Lib.KernelVsHost

@[expose] public section

noncomputable section

namespace Cert.FfnRef

open Cert.Reference2Ideal Cert.Reference2Ideal.Gen Cert.Reference2Ideal.Read Cert.Ffn Idealize.ShloMosaic Idealize.ShloMosaic.ValueIdx

variable (x : Vec Ideal S32x2048x1024 .f32) (g : Vec Ideal S1024 .f32) (w : Vec Ideal S1024x5632 .f32) (cw : Vec Ideal S3x5632 .f32)
  (cb : Vec Ideal S5632 .f32) (wo : Vec Ideal S2816x1024 .f32)

/-- Token `s` of sequence `b`. -/
def tok (b : Fin 32) (s : Fin 2048) (k : Fin 1024) : EReal := x (ix3 b s k)

/-- The token before: zero at the beginning. -/
def tokPrev (b : Fin 32) (s : Fin 2048) : Fin 1024 → EReal := if s.val = 0 then fun _ => 0 else tok x b ⟨s.val - 1, by omega⟩

/-- The token after: zero at the end. -/
def tokNext (b : Fin 32) (s : Fin 2048) : Fin 1024 → EReal := if h : s.val = 2047 then fun _ => 0 else tok x b ⟨s.val + 1, by omega⟩

/-- The mean square's sum. -/
theorem v1_at (i : S32x2048.Idx) (b : Fin 32) (s : Fin 2048) (hb : (i 0).val = b.val) (hs : (i 1).val = s.val) :
    val_main_v1 (F := Ideal) x i = ∑ k, tok x b s k * tok x b s k := by
  rw [val_main_v1_apply, val_main_cst_apply]
  show Ideal.ofBits .f32 0x00000000#32 + _ = _
  rw [Ideal.ofBits_zero_f32, zero_add]
  refine Finset.sum_congr rfl fun k _ => ?_
  rw [val_main_v0_apply]
  have e : idx_main_v1 i k = ix3 b s k := funext fun a => Fin.ext (match a with | ⟨0, _⟩ => hb | ⟨1, _⟩ => hs | ⟨2, _⟩ => rfl)
  rw [e]
  rfl

/-- The normed token. -/
theorem v12_at (b : Fin 32) (s : Fin 2048) (k : Fin 1024) :
    val_main_v12 (F := Ideal) x g (ix3 b s k) = row (fun k => g (ix1 k)) (tok x b s) k := by
  rw [val_main_v12_apply, val_main_v9_apply, val_main_v8_apply, val_main_v7_apply, val_main_v6_apply, val_main_v4_apply, val_main_v2_apply,
    v1_at x _ b s rfl rfl, val_main_v3_apply, val_main_cst_0_apply, val_main_v5_apply, val_main_cst_1_apply, val_main_v11_apply, val_main_v10_apply]
  have e : idx_main_v10 (idx_main_v11 (ix3 b s k)) = ix1 k := funext fun | ⟨0, _⟩ => rfl
  rw [e]
  rfl

/-- The first product. -/
theorem v13_at (b : Fin 32) (s : Fin 2048) (f : Fin 5632) :
    val_main_v13 (F := Ideal) x g w (ix3 b s f) = lin (fun k => g (ix1 k)) (fun k f => w (ix2 k f)) (tok x b s) f := by
  rw [val_main_v13_apply]
  refine Finset.sum_congr rfl fun k _ => ?_
  have e : lidx_main_v13 (ix3 b s f) k = ix3 b s k := funext fun | ⟨0, _⟩ => rfl | ⟨1, _⟩ => rfl | ⟨2, _⟩ => rfl
  have e' : ridx_main_v13 (ix3 b s f) k = ix2 k f := funext fun | ⟨0, _⟩ => rfl | ⟨1, _⟩ => rfl
  rw [e, e', v12_at]

/-- The padded product inside. -/
theorem v14_in (b : Fin 32) (s : Fin 2048) (p : Fin 2050) (f : Fin 5632) (hp : p.val = 1 + s.val) :
    val_main_v14 (F := Ideal) x g w (ix3 b p f) = lin (fun k => g (ix1 k)) (fun k f => w (ix2 k f)) (tok x b s) f := by
  unfold val_main_v14
  refine (pad_apply_of_inside (s := S32x2048x5632) (t := S32x2050x5632) _ _ _ _ _ _ _ (ix3 b p f) (ix3 b s f) (fun a => ?_)).trans (v13_at x g w b s f)
  match a with
  | ⟨0, _⟩ => show b.val = 0 + b.val * (0 + 1); omega
  | ⟨1, _⟩ => show p.val = 1 + s.val * (0 + 1); omega
  | ⟨2, _⟩ => show f.val = 0 + f.val * (0 + 1); omega

/-- The padded product at the row before the first and the row after the last. -/
theorem v14_out (b : Fin 32) (p : Fin 2050) (f : Fin 5632) (hp : p.val = 0 ∨ p.val = 2049) :
    val_main_v14 (F := Ideal) x g w (ix3 b p f) = 0 := by
  unfold val_main_v14
  refine (pad_apply_of_not_inside (s := S32x2048x5632) (t := S32x2050x5632) _ _ _ _ _ _ _ (ix3 b p f) (1 : Fin 3) (fun h => ?_)).trans ?_
  · have h1 : 1 ≤ p.val := h.1
    have h2 : (p.val - 1) / (0 + 1) < 2048 := h.2.2
    omega
  · show ((((0#32 : BitVec 32).toInt : ℝ)) : EReal) = 0
    simp

/-- The padded product at the row before token `s`. -/
theorem v14_prev (b : Fin 32) (s : Fin 2048) (p : Fin 2050) (f : Fin 5632) (hp : p.val = s.val) :
    val_main_v14 (F := Ideal) x g w (ix3 b p f) = lin (fun k => g (ix1 k)) (fun k f => w (ix2 k f)) (tokPrev x b s) f := by
  unfold tokPrev
  by_cases h : s.val = 0
  · rw [if_pos h, lin_zero, v14_out x g w b p f (.inl (by omega))]
  · rw [if_neg h, v14_in x g w b ⟨s.val - 1, by omega⟩ p f (by show p.val = 1 + (s.val - 1); omega)]

/-- The padded product at the row after token `s`. -/
theorem v14_next (b : Fin 32) (s : Fin 2048) (p : Fin 2050) (f : Fin 5632) (hp : p.val = 2 + s.val) :
    val_main_v14 (F := Ideal) x g w (ix3 b p f) = lin (fun k => g (ix1 k)) (fun k f => w (ix2 k f)) (tokNext x b s) f := by
  unfold tokNext
  by_cases h : s.val = 2047
  · rw [dif_pos h, lin_zero, v14_out x g w b p f (.inr (by omega))]
  · rw [dif_neg h, v14_in x g w b ⟨s.val + 1, by omega⟩ p f (by show p.val = 1 + (s.val + 1); omega)]

/-- The convolved channels of token `s`. -/
def chanAt (b : Fin 32) (s : Fin 2048) : Fin 5632 → EReal :=
  tap (fun a f => cw (ix2 a f)) (fun f => cb (ix1 f))
    (lin (fun k => g (ix1 k)) (fun k f => w (ix2 k f)) (tokPrev x b s))
    (lin (fun k => g (ix1 k)) (fun k f => w (ix2 k f)) (tok x b s))
    (lin (fun k => g (ix1 k)) (fun k f => w (ix2 k f)) (tokNext x b s))

theorem v37_at (b : Fin 32) (s : Fin 2048) (f : Fin 5632) : val_main_v37 (F := Ideal) x g w cw cb (ix3 b s f) = chanAt x g w cw cb b s f := by
  rw [val_main_v37_apply, val_main_v34_apply, val_main_v27_apply, val_main_v20_apply, val_main_v26_apply, val_main_v33_apply,
    val_main_v15_apply, val_main_v21_apply, val_main_v28_apply,
    val_main_v19_apply, val_main_v18_apply, val_main_v17_apply, val_main_v16_apply,
    val_main_v25_apply, val_main_v24_apply, val_main_v23_apply, val_main_v22_apply,
    val_main_v32_apply, val_main_v31_apply, val_main_v30_apply, val_main_v29_apply, val_main_v36_apply, val_main_v35_apply]
  have hf := f.isLt
  have p0 : idx_main_v15 (ix3 b s f) = ix3 b ⟨s.val, by omega⟩ f := funext fun | ⟨0, _⟩ => rfl | ⟨1, _⟩ => rfl | ⟨2, _⟩ => rfl
  have p1 : idx_main_v21 (ix3 b s f) = ix3 b ⟨1 + s.val, by omega⟩ f := funext fun | ⟨0, _⟩ => rfl | ⟨1, _⟩ => rfl | ⟨2, _⟩ => rfl
  have p2 : idx_main_v28 (ix3 b s f) = ix3 b ⟨2 + s.val, by omega⟩ f := funext fun | ⟨0, _⟩ => rfl | ⟨1, _⟩ => rfl | ⟨2, _⟩ => rfl
  have c0 : idx_main_v16 (idx_main_v17 (idx_main_v18 (idx_main_v19 (ix3 b s f)))) = ix2 0 f := funext fun a => Fin.ext (match a with
    | ⟨0, _⟩ => rfl | ⟨1, _⟩ => by show f.val % 5632 = f.val; omega)
  have c1 : idx_main_v22 (idx_main_v23 (idx_main_v24 (idx_main_v25 (ix3 b s f)))) = ix2 1 f := funext fun a => Fin.ext (match a with
    | ⟨0, _⟩ => rfl | ⟨1, _⟩ => by show f.val % 5632 = f.val; omega)
  have c2 : idx_main_v29 (idx_main_v30 (idx_main_v31 (idx_main_v32 (ix3 b s f)))) = ix2 2 f := funext fun a => Fin.ext (match a with
    | ⟨0, _⟩ => rfl | ⟨1, _⟩ => by show f.val % 5632 = f.val; omega)
  have cbe : idx_main_v35 (idx_main_v36 (ix3 b s f)) = ix1 f := funext fun | ⟨0, _⟩ => rfl
  rw [p0, p1, p2, c0, c1, c2, cbe, v14_prev x g w b s _ f rfl, v14_in x g w b s _ f rfl, v14_next x g w b s _ f rfl]
  rfl

/-- The gated product. -/
theorem v41_at (b : Fin 32) (s : Fin 2048) (j : Fin 2816) : val_main_v41 (F := Ideal) x g w cw cb (ix3 b s j) = hid (chanAt x g w cw cb b s) j := by
  have e0 : idx_main_v38 (ix3 b s j) = ix3 b s ⟨j.val, by omega⟩ := funext fun | ⟨0, _⟩ => rfl | ⟨1, _⟩ => rfl | ⟨2, _⟩ => rfl
  have e1 : idx_main_v39 (ix3 b s j) = ix3 b s ⟨2816 + j.val, by omega⟩ := funext fun | ⟨0, _⟩ => rfl | ⟨1, _⟩ => rfl | ⟨2, _⟩ => rfl
  have hone : Ideal.ofBits .f32 0x3F800000#32 = 1 := Ideal.ofBits_one_f32
  unfold hid Ideal.logistic
  rw [← hone, ← v37_at, ← v37_at, ← e0, ← e1, ← val_main_v38_apply, ← val_main_v39_apply]
  rfl

/-- The result of token `s`. -/
theorem v43_at (b : Fin 32) (s : Fin 2048) (e : Fin 1024) : val_main_v43 (F := Ideal) x g w cw cb wo (ix3 b s e)
    = out (fun j e => wo (ix2 j e)) (chanAt x g w cw cb b s) (tok x b s) e := by
  rw [val_main_v43_apply, val_main_v42_apply]
  refine congrArg (x (ix3 b s e) + ·) (Finset.sum_congr rfl fun j _ => ?_)
  have el : lidx_main_v42 (ix3 b s e) j = ix3 b s j := funext fun | ⟨0, _⟩ => rfl | ⟨1, _⟩ => rfl | ⟨2, _⟩ => rfl
  have er : ridx_main_v42 (ix3 b s e) j = ix2 j e := funext fun | ⟨0, _⟩ => rfl | ⟨1, _⟩ => rfl
  rw [el, er, v41_at]

/-- The result at row `r` of all the tokens together. -/
theorem apply (r : Fin 65536) (e : Fin 1024) : val_main_v44 (F := Ideal) x g w cw cb wo (ix2 r e)
    = out (fun j e => wo (ix2 j e)) (chanAt x g w cw cb ⟨r.val / 2048, by omega⟩ ⟨r.val % 2048, by omega⟩) (tok x ⟨r.val / 2048, by omega⟩ ⟨r.val % 2048, by omega⟩) e := by
  rw [val_main_v44_apply, ← v43_at]
  refine congrArg _ (funext fun a => Fin.ext ?_)
  have := e.isLt
  match a with
  | ⟨0, _⟩ => show (r.val * 1024 + e.val) / 2097152 = r.val / 2048; omega
  | ⟨1, _⟩ => show (r.val * 1024 + e.val) / 1024 % 2048 = r.val % 2048; omega
  | ⟨2, _⟩ => show (r.val * 1024 + e.val) % 1024 = e.val; omega

end Cert.FfnRef

end
-- ==== Proof.PreRef.lean ====
/- The reference of the mixer's start read at an index. -/
module

public import proofs.«01_k».proof.Proof.PreMath
public import proofs.«01_k».proof.Proof.FfnRef
public import proofs.«01_k».proof.Proof.Gen.Reference10Ideal.Read
public import Idealize.ShloMosaic.Lib.KernelVsHost

@[expose] public section

noncomputable section

namespace Cert.PreRef

open Cert.Reference10Ideal Cert.Reference10Ideal.Gen Cert.Reference10Ideal.Read Cert.Pre Idealize.ShloMosaic Idealize.ShloMosaic.ValueIdx
open Cert.Post (chan headOf placeOf chan_of)
open Cert.Ffn (row)
open Cert.FfnRef (tok tokPrev tokNext)

variable (x0 : Vec Ideal S32x2048x1024 .f32) (x1 : Vec Ideal S1024 .f32) (x2 : Vec Ideal S6x1024 .f32) (x3 x4 x5 : Vec Ideal S1024x1024 .f32)
  (x6 : Vec Ideal S1024x128 .f32) (x7 : Vec Ideal S128x1024 .f32) (x8 x9 : Vec Ideal S1024 .f32) (x10 : Vec Ideal S2x1024 .f32)
  (x11 : Vec Ideal S2x1024x64 .f32) (x12 : Vec Ideal S2x64x1024 .f32) (x13 : Vec Ideal S2x1024 .f32) (x14 : Vec Ideal S2x1024x64 .f32) (x15 : Vec Ideal S2x64x1024 .f32)

/-- The normed token. -/
theorem v12_at (b : Fin 32) (s : Fin 2048) (k : Fin 1024) :
    val_main_v12 (F := Ideal) x0 x1 (ix3 b s k) = row (fun k => x1 (ix1 k)) (tok x0 b s) k := FfnRef.v12_at x0 x1 b s k

/-- The padded tokens inside. -/
theorem v13_in (b : Fin 32) (s : Fin 2048) (p : Fin 2050) (f : Fin 1024) (hp : p.val = 1 + s.val) :
    val_main_v13 (F := Ideal) x0 x1 (ix3 b p f) = row (fun k => x1 (ix1 k)) (tok x0 b s) f := by
  unfold val_main_v13
  refine (pad_apply_of_inside (s := S32x2048x1024) (t := S32x2050x1024) _ _ _ _ _ _ _ (ix3 b p f) (ix3 b s f) (fun a => ?_)).trans (v12_at x0 x1 b s f)
  match a with
  | ⟨0, _⟩ => show b.val = 0 + b.val * (0 + 1); omega
  | ⟨1, _⟩ => show p.val = 1 + s.val * (0 + 1); omega
  | ⟨2, _⟩ => show f.val = 0 + f.val * (0 + 1); omega

/-- The padding before the first token and after the last. -/
theorem v13_out (b : Fin 32) (p : Fin 2050) (f : Fin 1024) (hp : p.val = 0 ∨ p.val = 2049) :
    val_main_v13 (F := Ideal) x0 x1 (ix3 b p f) = 0 := by
  unfold val_main_v13
  refine (pad_apply_of_not_inside (s := S32x2048x1024) (t := S32x2050x1024) _ _ _ _ _ _ _ (ix3 b p f) (1 : Fin 3) (fun h => ?_)).trans ?_
  · have h1 : 1 ≤ p.val := h.1
    have h2 : (p.val - 1) / (0 + 1) < 2048 := h.2.2
    omega
  · show ((((0#32 : BitVec 32).toInt : ℝ)) : EReal) = 0
    simp

/-- The padded tokens at the row before token `s`. -/
theorem v13_prev (b : Fin 32) (s : Fin 2048) (p : Fin 2050) (f : Fin 1024) (hp : p.val = s.val) :
    val_main_v13 (F := Ideal) x0 x1 (ix3 b p f) = row (fun k => x1 (ix1 k)) (tokPrev x0 b s) f := by
  unfold tokPrev
  by_cases h : s.val = 0
  · rw [if_pos h, row_zero, v13_out x0 x1 b p f (.inl (by omega))]
  · rw [if_neg h, v13_in x0 x1 b ⟨s.val - 1, by omega⟩ p f (by show p.val = 1 + (s.val - 1); omega)]

/-- The padded tokens at the row after token `s`. -/
theorem v13_next (b : Fin 32) (s : Fin 2048) (p : Fin 2050) (f : Fin 1024) (hp : p.val = 2 + s.val) :
    val_main_v13 (F := Ideal) x0 x1 (ix3 b p f) = row (fun k => x1 (ix1 k)) (tokNext x0 b s) f := by
  unfold tokNext
  by_cases h : s.val = 2047
  · rw [dif_pos h, row_zero, v13_out x0 x1 b p f (.inr (by omega))]
  · rw [dif_neg h, v13_in x0 x1 b ⟨s.val + 1, by omega⟩ p f (by show p.val = 1 + (s.val + 1); omega)]

/-- The shift of token `s`. -/
theorem v19_at (b : Fin 32) (s : Fin 2048) (k : Fin 1024) : val_main_v19 (F := Ideal) x0 x1 (ix3 b s k)
    = shift (row (fun k => x1 (ix1 k)) (tokPrev x0 b s)) (row (fun k => x1 (ix1 k)) (tok x0 b s)) (row (fun k => x1 (ix1 k)) (tokNext x0 b s)) k := by
  rw [val_main_v19_apply, val_main_v18_apply, val_main_v16_apply, val_main_v14_apply, val_main_v15_apply, v12_at]
  have e0 : idx_main_v14 (ix3 b s k) = ix3 b ⟨s.val, by omega⟩ k := funext fun | ⟨0, _⟩ => rfl | ⟨1, _⟩ => rfl | ⟨2, _⟩ => rfl
  have e1 : idx_main_v15 (ix3 b s k) = ix3 b ⟨2 + s.val, by omega⟩ k := funext fun | ⟨0, _⟩ => rfl | ⟨1, _⟩ => rfl | ⟨2, _⟩ => rfl
  rw [e0, e1, v13_prev x0 x1 b s _ k rfl, v13_next x0 x1 b s _ k rfl]
  rfl

/-- Token `s` mixed by vector `j`. -/
def mixAt (j : Fin 6) (b : Fin 32) (s : Fin 2048) : Fin 1024 → EReal :=
  mix (fun k => x2 (ix2 j k)) (row (fun k => x1 (ix1 k)) (tokPrev x0 b s)) (row (fun k => x1 (ix1 k)) (tok x0 b s)) (row (fun k => x1 (ix1 k)) (tokNext x0 b s))

theorem v25_at (b : Fin 32) (s : Fin 2048) (k : Fin 1024) : val_main_v25 (F := Ideal) x0 x1 x2 (ix3 b s k) = mixAt x0 x1 x2 0 b s k := by
  rw [val_main_v25_apply, val_main_v24_apply, val_main_v23_apply, val_main_v22_apply, val_main_v21_apply, val_main_v20_apply, v12_at, v19_at]
  have e : idx_main_v20 (idx_main_v21 (idx_main_v22 (idx_main_v23 (ix3 b s k)))) = ix2 0 k := funext fun a => Fin.ext (match a with
    | ⟨0, _⟩ => rfl | ⟨1, _⟩ => by have := k.isLt; show k.val % 1024 = k.val; omega)
  rw [e]
  rfl

theorem v31_at (b : Fin 32) (s : Fin 2048) (k : Fin 1024) : val_main_v31 (F := Ideal) x0 x1 x2 (ix3 b s k) = mixAt x0 x1 x2 1 b s k := by
  rw [val_main_v31_apply, val_main_v30_apply, val_main_v29_apply, val_main_v28_apply, val_main_v27_apply, val_main_v26_apply, v12_at, v19_at]
  have e : idx_main_v26 (idx_main_v27 (idx_main_v28 (idx_main_v29 (ix3 b s k)))) = ix2 1 k := funext fun a => Fin.ext (match a with
    | ⟨0, _⟩ => rfl | ⟨1, _⟩ => by have := k.isLt; show k.val % 1024 = k.val; omega)
  rw [e]
  rfl

theorem v37_at (b : Fin 32) (s : Fin 2048) (k : Fin 1024) : val_main_v37 (F := Ideal) x0 x1 x2 (ix3 b s k) = mixAt x0 x1 x2 2 b s k := by
  rw [val_main_v37_apply, val_main_v36_apply, val_main_v35_apply, val_main_v34_apply, val_main_v33_apply, val_main_v32_apply, v12_at, v19_at]
  have e : idx_main_v32 (idx_main_v33 (idx_main_v34 (idx_main_v35 (ix3 b s k)))) = ix2 2 k := funext fun a => Fin.ext (match a with
    | ⟨0, _⟩ => rfl | ⟨1, _⟩ => by have := k.isLt; show k.val % 1024 = k.val; omega)
  rw [e]
  rfl

theorem v43_at (b : Fin 32) (s : Fin 2048) (k : Fin 1024) : val_main_v43 (F := Ideal) x0 x1 x2 (ix3 b s k) = mixAt x0 x1 x2 3 b s k := by
  rw [val_main_v43_apply, val_main_v42_apply, val_main_v41_apply, val_main_v40_apply, val_main_v39_apply, val_main_v38_apply, v12_at, v19_at]
  have e : idx_main_v38 (idx_main_v39 (idx_main_v40 (idx_main_v41 (ix3 b s k)))) = ix2 3 k := funext fun a => Fin.ext (match a with
    | ⟨0, _⟩ => rfl | ⟨1, _⟩ => by have := k.isLt; show k.val % 1024 = k.val; omega)
  rw [e]
  rfl

theorem v49_at (b : Fin 32) (s : Fin 2048) (k : Fin 1024) : val_main_v49 (F := Ideal) x0 x1 x2 (ix3 b s k) = mixAt x0 x1 x2 4 b s k := by
  rw [val_main_v49_apply, val_main_v48_apply, val_main_v47_apply, val_main_v46_apply, val_main_v45_apply, val_main_v44_apply, v12_at, v19_at]
  have e : idx_main_v44 (idx_main_v45 (idx_main_v46 (idx_main_v47 (ix3 b s k)))) = ix2 4 k := funext fun a => Fin.ext (match a with
    | ⟨0, _⟩ => rfl | ⟨1, _⟩ => by have := k.isLt; show k.val % 1024 = k.val; omega)
  rw [e]
  rfl

theorem v55_at (b : Fin 32) (s : Fin 2048) (k : Fin 1024) : val_main_v55 (F := Ideal) x0 x1 x2 (ix3 b s k) = mixAt x0 x1 x2 5 b s k := by
  rw [val_main_v55_apply, val_main_v54_apply, val_main_v53_apply, val_main_v52_apply, val_main_v51_apply, val_main_v50_apply, v12_at, v19_at]
  have e : idx_main_v50 (idx_main_v51 (idx_main_v52 (idx_main_v53 (ix3 b s k)))) = ix2 5 k := funext fun a => Fin.ext (match a with
    | ⟨0, _⟩ => rfl | ⟨1, _⟩ => by have := k.isLt; show k.val % 1024 = k.val; omega)
  rw [e]
  rfl

/-- The receptances. -/
theorem v56_at (b : Fin 32) (s : Fin 2048) (f : Fin 1024) : val_main_v56 (F := Ideal) x0 x1 x2 x3 (ix3 b s f) = prod (mixAt x0 x1 x2 0 b s) (fun k f => x3 (ix2 k f)) f := by
  rw [val_main_v56_apply]
  refine Finset.sum_congr rfl fun k _ => ?_
  have e : lidx_main_v56 (ix3 b s f) k = ix3 b s k := funext fun | ⟨0, _⟩ => rfl | ⟨1, _⟩ => rfl | ⟨2, _⟩ => rfl
  have e' : ridx_main_v56 (ix3 b s f) k = ix2 k f := funext fun | ⟨0, _⟩ => rfl | ⟨1, _⟩ => rfl
  rw [e, e', v25_at]

/-- The keys. -/
theorem v57_at (b : Fin 32) (s : Fin 2048) (f : Fin 1024) : val_main_v57 (F := Ideal) x0 x1 x2 x4 (ix3 b s f) = prod (mixAt x0 x1 x2 2 b s) (fun k f => x4 (ix2 k f)) f := by
  rw [val_main_v57_apply]
  refine Finset.sum_congr rfl fun k _ => ?_
  have e : lidx_main_v57 (ix3 b s f) k = ix3 b s k := funext fun | ⟨0, _⟩ => rfl | ⟨1, _⟩ => rfl | ⟨2, _⟩ => rfl
  have e' : ridx_main_v57 (ix3 b s f) k = ix2 k f := funext fun | ⟨0, _⟩ => rfl | ⟨1, _⟩ => rfl
  rw [e, e', v37_at]

/-- The values. -/
theorem v58_at (b : Fin 32) (s : Fin 2048) (f : Fin 1024) : val_main_v58 (F := Ideal) x0 x1 x2 x5 (ix3 b s f) = prod (mixAt x0 x1 x2 3 b s) (fun k f => x5 (ix2 k f)) f := by
  rw [val_main_v58_apply]
  refine Finset.sum_congr rfl fun k _ => ?_
  have e : lidx_main_v58 (ix3 b s f) k = ix3 b s k := funext fun | ⟨0, _⟩ => rfl | ⟨1, _⟩ => rfl | ⟨2, _⟩ => rfl
  have e' : ridx_main_v58 (ix3 b s f) k = ix2 k f := funext fun | ⟨0, _⟩ => rfl | ⟨1, _⟩ => rfl
  rw [e, e', v43_at]

/-- The gate's narrow product. -/
theorem v59_at (b : Fin 32) (s : Fin 2048) (f : Fin 128) : val_main_v59 (F := Ideal) x0 x1 x2 x6 (ix3 b s f) = prod (mixAt x0 x1 x2 5 b s) (fun k f => x6 (ix2 k f)) f := by
  rw [val_main_v59_apply]
  refine Finset.sum_congr rfl fun k _ => ?_
  have e : lidx_main_v59 (ix3 b s f) k = ix3 b s k := funext fun | ⟨0, _⟩ => rfl | ⟨1, _⟩ => rfl | ⟨2, _⟩ => rfl
  have e' : ridx_main_v59 (ix3 b s f) k = ix2 k f := funext fun | ⟨0, _⟩ => rfl | ⟨1, _⟩ => rfl
  rw [e, e', v55_at]

/-- The gate. -/
theorem v66_at (b : Fin 32) (s : Fin 2048) (f : Fin 1024) : val_main_v66 (F := Ideal) x0 x1 x2 x6 x7 (ix3 b s f)
    = prod (fun l => Ideal.logistic (prod (mixAt x0 x1 x2 5 b s) (fun k l => x6 (ix2 k l)) l)) (fun l f => x7 (ix2 l f)) f := by
  rw [val_main_v66_apply]
  refine Finset.sum_congr rfl fun l _ => ?_
  have e : lidx_main_v66 (ix3 b s f) l = ix3 b s l := funext fun | ⟨0, _⟩ => rfl | ⟨1, _⟩ => rfl | ⟨2, _⟩ => rfl
  have e' : ridx_main_v66 (ix3 b s f) l = ix2 l f := funext fun | ⟨0, _⟩ => rfl | ⟨1, _⟩ => rfl
  have hone : Ideal.ofBits .f32 0x3F800000#32 = 1 := Ideal.ofBits_one_f32
  rw [e, e']
  beta_reduce
  rw [← v59_at]
  unfold Ideal.logistic
  rw [← hone]
  rfl

/-- The keys times their vector, head by head. -/
theorem v70_at (b : Fin 32) (s : Fin 2048) (h : Fin 16) (d : Fin 64) : val_main_v70 (F := Ideal) x0 x1 x2 x4 x8 (ix4 b s h d)
    = prod (mixAt x0 x1 x2 2 b s) (fun k f => x4 (ix2 k f)) (chan h d) * x8 (ix1 (chan h d)) := by
  have e : idx_main_v70 (ix4 b s h d) = ix3 b s (chan h d) := funext fun a => Fin.ext (match a with
    | ⟨0, _⟩ => by have := b.isLt; have := s.isLt; have := h.isLt; have := d.isLt; show (((b.val * 2048 + s.val) * 16 + h.val) * 64 + d.val) / 2097152 = b.val; omega
    | ⟨1, _⟩ => by have := b.isLt; have := s.isLt; have := h.isLt; have := d.isLt; show (((b.val * 2048 + s.val) * 16 + h.val) * 64 + d.val) / 1024 % 2048 = s.val; omega
    | ⟨2, _⟩ => by have := b.isLt; have := s.isLt; have := h.isLt; have := d.isLt; show (((b.val * 2048 + s.val) * 16 + h.val) * 64 + d.val) % 1024 = 64 * h.val + d.val; omega)
  rw [val_main_v70_apply, e, val_main_v69_apply, v57_at, val_main_v68_apply, val_main_v67_apply]
  have e' : idx_main_v67 (idx_main_v68 (ix3 b s (chan h d))) = ix1 (chan h d) := funext fun | ⟨0, _⟩ => rfl
  rw [e']
  rfl

/-- The keys over their heads' lengths. -/
theorem v78_at (b : Fin 32) (s : Fin 2048) (f : Fin 1024) : val_main_v78 (F := Ideal) x0 x1 x2 x4 x8 (ix4 b s (headOf f) (placeOf f))
    = unitKey (fun f => prod (mixAt x0 x1 x2 2 b s) (fun k f => x4 (ix2 k f)) f * x8 (ix1 f)) f := by
  have e : idx_main_v73 (idx_main_v77 (ix4 b s (headOf f) (placeOf f))) = ix3 b s (headOf f) := funext fun | ⟨0, _⟩ => rfl | ⟨1, _⟩ => rfl | ⟨2, _⟩ => rfl
  have ek : ∀ k, idx_main_v72 (ix3 b s (headOf f)) k = ix4 b s (headOf f) k := fun k =>
    funext fun | ⟨0, _⟩ => rfl | ⟨1, _⟩ => rfl | ⟨2, _⟩ => rfl | ⟨3, _⟩ => rfl
  have hs : val_main_v72 (F := Ideal) x0 x1 x2 x4 x8 (ix3 b s (headOf f)) = energy (fun f => prod (mixAt x0 x1 x2 2 b s) (fun k f => x4 (ix2 k f)) f * x8 (ix1 f)) f := by
    rw [val_main_v72_apply, val_main_cst_5_apply]
    show Ideal.ofBits .f32 0x00000000#32 + _ = _
    rw [Ideal.ofBits_zero_f32, zero_add]
    refine Finset.sum_congr rfl fun k _ => ?_
    rw [ek, val_main_v71_apply, v70_at]
    rfl
  rw [val_main_v78_apply, v70_at, chan_of, val_main_v77_apply, val_main_v76_apply, val_main_v74_apply, val_main_v73_apply, e, hs]
  rfl

theorem v83_at (b : Fin 32) (s : Fin 2048) (l : Fin 64) : val_main_v83 (F := Ideal) x0 x1 x2 x11 (ix3 b s l) = prod (mixAt x0 x1 x2 1 b s) (fun k l => x11 (ix3 0 k l)) l := by
  rw [val_main_v83_apply]
  refine Finset.sum_congr rfl fun k _ => ?_
  have e : lidx_main_v83 (ix3 b s l) k = ix3 b s k := funext fun | ⟨0, _⟩ => rfl | ⟨1, _⟩ => rfl | ⟨2, _⟩ => rfl
  have e' : ridx_main_v83 (ix3 b s l) k = ix2 k l := funext fun | ⟨0, _⟩ => rfl | ⟨1, _⟩ => rfl
  have e'' : idx_main_v81 (idx_main_v82 (ix2 k l)) = ix3 0 k l := funext fun a => Fin.ext (match a with
    | ⟨0, _⟩ => rfl
    | ⟨1, _⟩ => by have := k.isLt; have := l.isLt; show (k.val * 64 + l.val) / 64 % 1024 = k.val; omega
    | ⟨2, _⟩ => by have := k.isLt; have := l.isLt; show (k.val * 64 + l.val) % 64 = l.val; omega)
  rw [e, e', v31_at, val_main_v82_apply, val_main_v81_apply, e'']

/-- What the log decay is made of. -/
theorem v90_at (b : Fin 32) (s : Fin 2048) (f : Fin 1024) : val_main_v90 (F := Ideal) x0 x1 x2 x10 x11 x12 (ix3 b s f)
    = x10 (ix2 0 f) + ∑ l : Fin 64, Ideal.tanh (prod (mixAt x0 x1 x2 1 b s) (fun k l => x11 (ix3 0 k l)) l) * x12 (ix3 0 l f) := by
  have hd : val_main_v87 (F := Ideal) x0 x1 x2 x11 x12 (ix3 b s f) = ∑ l : Fin 64, Ideal.tanh (prod (mixAt x0 x1 x2 1 b s) (fun k l => x11 (ix3 0 k l)) l) * x12 (ix3 0 l f) := by
    rw [val_main_v87_apply]
    refine Finset.sum_congr rfl fun l _ => ?_
    have e : lidx_main_v87 (ix3 b s f) l = ix3 b s l := funext fun | ⟨0, _⟩ => rfl | ⟨1, _⟩ => rfl | ⟨2, _⟩ => rfl
    have e' : ridx_main_v87 (ix3 b s f) l = ix2 l f := funext fun | ⟨0, _⟩ => rfl | ⟨1, _⟩ => rfl
    have e'' : idx_main_v85 (idx_main_v86 (ix2 l f)) = ix3 0 l f := funext fun a => Fin.ext (match a with
      | ⟨0, _⟩ => rfl
      | ⟨1, _⟩ => by have := l.isLt; have := f.isLt; show (l.val * 1024 + f.val) / 1024 % 64 = l.val; omega
      | ⟨2, _⟩ => by have := l.isLt; have := f.isLt; show (l.val * 1024 + f.val) % 1024 = f.val; omega)
    rw [e, e', val_main_v84_apply, v83_at, val_main_v86_apply, val_main_v85_apply, e'']
    rfl
  have e : idx_main_v79 (idx_main_v80 (idx_main_v88 (idx_main_v89 (ix3 b s f)))) = ix2 0 f := funext fun a => Fin.ext (match a with
    | ⟨0, _⟩ => rfl | ⟨1, _⟩ => by have := f.isLt; show f.val % 1024 = f.val; omega)
  rw [val_main_v90_apply, hd, val_main_v89_apply, val_main_v88_apply, val_main_v80_apply, val_main_v79_apply, e]
  rfl

theorem v100_at (b : Fin 32) (s : Fin 2048) (l : Fin 64) : val_main_v100 (F := Ideal) x0 x1 x2 x14 (ix3 b s l) = prod (mixAt x0 x1 x2 4 b s) (fun k l => x14 (ix3 0 k l)) l := by
  rw [val_main_v100_apply]
  refine Finset.sum_congr rfl fun k _ => ?_
  have e : lidx_main_v100 (ix3 b s l) k = ix3 b s k := funext fun | ⟨0, _⟩ => rfl | ⟨1, _⟩ => rfl | ⟨2, _⟩ => rfl
  have e' : ridx_main_v100 (ix3 b s l) k = ix2 k l := funext fun | ⟨0, _⟩ => rfl | ⟨1, _⟩ => rfl
  have e'' : idx_main_v98 (idx_main_v99 (ix2 k l)) = ix3 0 k l := funext fun a => Fin.ext (match a with
    | ⟨0, _⟩ => rfl
    | ⟨1, _⟩ => by have := k.isLt; have := l.isLt; show (k.val * 64 + l.val) / 64 % 1024 = k.val; omega
    | ⟨2, _⟩ => by have := k.isLt; have := l.isLt; show (k.val * 64 + l.val) % 64 = l.val; omega)
  rw [e, e', v49_at, val_main_v99_apply, val_main_v98_apply, e'']

/-- What the rate is made of. -/
theorem v106_at (b : Fin 32) (s : Fin 2048) (f : Fin 1024) : val_main_v106 (F := Ideal) x0 x1 x2 x13 x14 x15 (ix3 b s f)
    = x13 (ix2 0 f) + ∑ l : Fin 64, prod (mixAt x0 x1 x2 4 b s) (fun k l => x14 (ix3 0 k l)) l * x15 (ix3 0 l f) := by
  have hd : val_main_v103 (F := Ideal) x0 x1 x2 x14 x15 (ix3 b s f) = ∑ l : Fin 64, prod (mixAt x0 x1 x2 4 b s) (fun k l => x14 (ix3 0 k l)) l * x15 (ix3 0 l f) := by
    rw [val_main_v103_apply]
    refine Finset.sum_congr rfl fun l _ => ?_
    have e : lidx_main_v103 (ix3 b s f) l = ix3 b s l := funext fun | ⟨0, _⟩ => rfl | ⟨1, _⟩ => rfl | ⟨2, _⟩ => rfl
    have e' : ridx_main_v103 (ix3 b s f) l = ix2 l f := funext fun | ⟨0, _⟩ => rfl | ⟨1, _⟩ => rfl
    have e'' : idx_main_v101 (idx_main_v102 (ix2 l f)) = ix3 0 l f := funext fun a => Fin.ext (match a with
      | ⟨0, _⟩ => rfl
      | ⟨1, _⟩ => by have := l.isLt; have := f.isLt; show (l.val * 1024 + f.val) / 1024 % 64 = l.val; omega
      | ⟨2, _⟩ => by have := l.isLt; have := f.isLt; show (l.val * 1024 + f.val) % 1024 = f.val; omega)
    rw [e, e', v100_at, val_main_v102_apply, val_main_v101_apply, e'']
  have e : idx_main_v96 (idx_main_v97 (idx_main_v104 (idx_main_v105 (ix3 b s f)))) = ix2 0 f := funext fun a => Fin.ext (match a with
    | ⟨0, _⟩ => rfl | ⟨1, _⟩ => by have := f.isLt; show f.val % 1024 = f.val; omega)
  rw [val_main_v106_apply, hd, val_main_v105_apply, val_main_v104_apply, val_main_v97_apply, val_main_v96_apply, e]
  rfl

/-- The log decay. -/
theorem v122_at (b : Fin 32) (s : Fin 2048) (f : Fin 1024) : val_main_v122 (F := Ideal) x0 x1 x2 x10 x11 x12 (ix3 b s f)
    = decay (x10 (ix2 0 f) + ∑ l : Fin 64, Ideal.tanh (prod (mixAt x0 x1 x2 1 b s) (fun k l => x11 (ix3 0 k l)) l) * x12 (ix3 0 l f)) := by
  rw [← v90_at]
  rfl

/-- The rate. -/
def rate0 (b : Fin 32) (s : Fin 2048) (f : Fin 1024) : EReal :=
  Ideal.logistic (x13 (ix2 0 f) + ∑ l : Fin 64, prod (mixAt x0 x1 x2 4 b s) (fun k l => x14 (ix3 0 k l)) l * x15 (ix3 0 l f))

theorem v112_at (b : Fin 32) (s : Fin 2048) (f : Fin 1024) : val_main_v112 (F := Ideal) x0 x1 x2 x13 x14 x15 (ix3 b s f) = rate0 x0 x1 x2 x13 x14 x15 b s f := by
  have hone : Ideal.ofBits .f32 0x3F800000#32 = 1 := Ideal.ofBits_one_f32
  unfold rate0
  rw [← v106_at]
  unfold Ideal.logistic
  rw [← hone]
  rfl

/-- The keys moved towards their rates. -/
theorem v120_at (b : Fin 32) (s : Fin 2048) (f : Fin 1024) : val_main_v120 (F := Ideal) x0 x1 x2 x4 x9 x13 x14 x15 (ix3 b s f)
    = rated (Ideal.ofBits .f32 0x3F800000#32) (prod (mixAt x0 x1 x2 2 b s) (fun k f => x4 (ix2 k f)) f) (rate0 x0 x1 x2 x13 x14 x15 b s f) (x9 (ix1 f)) := by
  have e : idx_main_v115 (idx_main_v116 (ix3 b s f)) = ix1 f := funext fun | ⟨0, _⟩ => rfl
  rw [val_main_v120_apply, val_main_v119_apply, val_main_v117_apply, val_main_v114_apply, val_main_v116_apply, val_main_v115_apply, e, v57_at, v112_at]
  rfl

theorem v127_at (b : Fin 32) (s : Fin 2048) (l : Fin 64) : val_main_v127 (F := Ideal) x0 x1 x2 x11 (ix3 b s l) = prod (mixAt x0 x1 x2 1 b s) (fun k l => x11 (ix3 1 k l)) l := by
  rw [val_main_v127_apply]
  refine Finset.sum_congr rfl fun k _ => ?_
  have e : lidx_main_v127 (ix3 b s l) k = ix3 b s k := funext fun | ⟨0, _⟩ => rfl | ⟨1, _⟩ => rfl | ⟨2, _⟩ => rfl
  have e' : ridx_main_v127 (ix3 b s l) k = ix2 k l := funext fun | ⟨0, _⟩ => rfl | ⟨1, _⟩ => rfl
  have e'' : idx_main_v125 (idx_main_v126 (ix2 k l)) = ix3 1 k l := funext fun a => Fin.ext (match a with
    | ⟨0, _⟩ => rfl
    | ⟨1, _⟩ => by have := k.isLt; have := l.isLt; show (k.val * 64 + l.val) / 64 % 1024 = k.val; omega
    | ⟨2, _⟩ => by have := k.isLt; have := l.isLt; show (k.val * 64 + l.val) % 64 = l.val; omega)
  rw [e, e', v31_at, val_main_v126_apply, val_main_v125_apply, e'']

/-- What the log decay is made of. -/
theorem v134_at (b : Fin 32) (s : Fin 2048) (f : Fin 1024) : val_main_v134 (F := Ideal) x0 x1 x2 x10 x11 x12 (ix3 b s f)
    = x10 (ix2 1 f) + ∑ l : Fin 64, Ideal.tanh (prod (mixAt x0 x1 x2 1 b s) (fun k l => x11 (ix3 1 k l)) l) * x12 (ix3 1 l f) := by
  have hd : val_main_v131 (F := Ideal) x0 x1 x2 x11 x12 (ix3 b s f) = ∑ l : Fin 64, Ideal.tanh (prod (mixAt x0 x1 x2 1 b s) (fun k l => x11 (ix3 1 k l)) l) * x12 (ix3 1 l f) := by
    rw [val_main_v131_apply]
    refine Finset.sum_congr rfl fun l _ => ?_
    have e : lidx_main_v131 (ix3 b s f) l = ix3 b s l := funext fun | ⟨0, _⟩ => rfl | ⟨1, _⟩ => rfl | ⟨2, _⟩ => rfl
    have e' : ridx_main_v131 (ix3 b s f) l = ix2 l f := funext fun | ⟨0, _⟩ => rfl | ⟨1, _⟩ => rfl
    have e'' : idx_main_v129 (idx_main_v130 (ix2 l f)) = ix3 1 l f := funext fun a => Fin.ext (match a with
      | ⟨0, _⟩ => rfl
      | ⟨1, _⟩ => by have := l.isLt; have := f.isLt; show (l.val * 1024 + f.val) / 1024 % 64 = l.val; omega
      | ⟨2, _⟩ => by have := l.isLt; have := f.isLt; show (l.val * 1024 + f.val) % 1024 = f.val; omega)
    rw [e, e', val_main_v128_apply, v127_at, val_main_v130_apply, val_main_v129_apply, e'']
    rfl
  have e : idx_main_v123 (idx_main_v124 (idx_main_v132 (idx_main_v133 (ix3 b s f)))) = ix2 1 f := funext fun a => Fin.ext (match a with
    | ⟨0, _⟩ => rfl | ⟨1, _⟩ => by have := f.isLt; show f.val % 1024 = f.val; omega)
  rw [val_main_v134_apply, hd, val_main_v133_apply, val_main_v132_apply, val_main_v124_apply, val_main_v123_apply, e]
  rfl

theorem v144_at (b : Fin 32) (s : Fin 2048) (l : Fin 64) : val_main_v144 (F := Ideal) x0 x1 x2 x14 (ix3 b s l) = prod (mixAt x0 x1 x2 4 b s) (fun k l => x14 (ix3 1 k l)) l := by
  rw [val_main_v144_apply]
  refine Finset.sum_congr rfl fun k _ => ?_
  have e : lidx_main_v144 (ix3 b s l) k = ix3 b s k := funext fun | ⟨0, _⟩ => rfl | ⟨1, _⟩ => rfl | ⟨2, _⟩ => rfl
  have e' : ridx_main_v144 (ix3 b s l) k = ix2 k l := funext fun | ⟨0, _⟩ => rfl | ⟨1, _⟩ => rfl
  have e'' : idx_main_v142 (idx_main_v143 (ix2 k l)) = ix3 1 k l := funext fun a => Fin.ext (match a with
    | ⟨0, _⟩ => rfl
    | ⟨1, _⟩ => by have := k.isLt; have := l.isLt; show (k.val * 64 + l.val) / 64 % 1024 = k.val; omega
    | ⟨2, _⟩ => by have := k.isLt; have := l.isLt; show (k.val * 64 + l.val) % 64 = l.val; omega)
  rw [e, e', v49_at, val_main_v143_apply, val_main_v142_apply, e'']

/-- What the rate is made of. -/
theorem v150_at (b : Fin 32) (s : Fin 2048) (f : Fin 1024) : val_main_v150 (F := Ideal) x0 x1 x2 x13 x14 x15 (ix3 b s f)
    = x13 (ix2 1 f) + ∑ l : Fin 64, prod (mixAt x0 x1 x2 4 b s) (fun k l => x14 (ix3 1 k l)) l * x15 (ix3 1 l f) := by
  have hd : val_main_v147 (F := Ideal) x0 x1 x2 x14 x15 (ix3 b s f) = ∑ l : Fin 64, prod (mixAt x0 x1 x2 4 b s) (fun k l => x14 (ix3 1 k l)) l * x15 (ix3 1 l f) := by
    rw [val_main_v147_apply]
    refine Finset.sum_congr rfl fun l _ => ?_
    have e : lidx_main_v147 (ix3 b s f) l = ix3 b s l := funext fun | ⟨0, _⟩ => rfl | ⟨1, _⟩ => rfl | ⟨2, _⟩ => rfl
    have e' : ridx_main_v147 (ix3 b s f) l = ix2 l f := funext fun | ⟨0, _⟩ => rfl | ⟨1, _⟩ => rfl
    have e'' : idx_main_v145 (idx_main_v146 (ix2 l f)) = ix3 1 l f := funext fun a => Fin.ext (match a with
      | ⟨0, _⟩ => rfl
      | ⟨1, _⟩ => by have := l.isLt; have := f.isLt; show (l.val * 1024 + f.val) / 1024 % 64 = l.val; omega
      | ⟨2, _⟩ => by have := l.isLt; have := f.isLt; show (l.val * 1024 + f.val) % 1024 = f.val; omega)
    rw [e, e', v144_at, val_main_v146_apply, val_main_v145_apply, e'']
  have e : idx_main_v140 (idx_main_v141 (idx_main_v148 (idx_main_v149 (ix3 b s f)))) = ix2 1 f := funext fun a => Fin.ext (match a with
    | ⟨0, _⟩ => rfl | ⟨1, _⟩ => by have := f.isLt; show f.val % 1024 = f.val; omega)
  rw [val_main_v150_apply, hd, val_main_v149_apply, val_main_v148_apply, val_main_v141_apply, val_main_v140_apply, e]
  rfl

/-- The log decay. -/
theorem v166_at (b : Fin 32) (s : Fin 2048) (f : Fin 1024) : val_main_v166 (F := Ideal) x0 x1 x2 x10 x11 x12 (ix3 b s f)
    = decay (x10 (ix2 1 f) + ∑ l : Fin 64, Ideal.tanh (prod (mixAt x0 x1 x2 1 b s) (fun k l => x11 (ix3 1 k l)) l) * x12 (ix3 1 l f)) := by
  rw [← v134_at]
  rfl

/-- The rate. -/
def rate1 (b : Fin 32) (s : Fin 2048) (f : Fin 1024) : EReal :=
  Ideal.logistic (x13 (ix2 1 f) + ∑ l : Fin 64, prod (mixAt x0 x1 x2 4 b s) (fun k l => x14 (ix3 1 k l)) l * x15 (ix3 1 l f))

theorem v156_at (b : Fin 32) (s : Fin 2048) (f : Fin 1024) : val_main_v156 (F := Ideal) x0 x1 x2 x13 x14 x15 (ix3 b s f) = rate1 x0 x1 x2 x13 x14 x15 b s f := by
  have hone : Ideal.ofBits .f32 0x3F800000#32 = 1 := Ideal.ofBits_one_f32
  unfold rate1
  rw [← v150_at]
  unfold Ideal.logistic
  rw [← hone]
  rfl

/-- The keys moved towards their rates. -/
theorem v164_at (b : Fin 32) (s : Fin 2048) (f : Fin 1024) : val_main_v164 (F := Ideal) x0 x1 x2 x4 x9 x13 x14 x15 (ix3 b s f)
    = rated (Ideal.ofBits .f32 0x3F800000#32) (prod (mixAt x0 x1 x2 2 b s) (fun k f => x4 (ix2 k f)) f) (rate1 x0 x1 x2 x13 x14 x15 b s f) (x9 (ix1 f)) := by
  have e : idx_main_v159 (idx_main_v160 (ix3 b s f)) = ix1 f := funext fun | ⟨0, _⟩ => rfl
  rw [val_main_v164_apply, val_main_v163_apply, val_main_v161_apply, val_main_v158_apply, val_main_v160_apply, val_main_v159_apply, e, v57_at, v156_at]
  rfl

/-- Which sequence a row of all the tokens belongs to, and where. -/
def bOf (r : Fin 65536) : Fin 32 := ⟨r.val / 2048, by omega⟩
def sOf (r : Fin 65536) : Fin 2048 := ⟨r.val % 2048, by omega⟩

/-- The index of a row of all the tokens within its sequence. -/
theorem flat (r : Fin 65536) (f : Fin 1024) : idx_main_v167 (ix2 r f) = ix3 (bOf r) (sOf r) f := funext fun a => Fin.ext (match a with
    | ⟨0, _⟩ => by have := f.isLt; show (r.val * 1024 + f.val) / 2097152 = r.val / 2048; omega
    | ⟨1, _⟩ => by have := f.isLt; show (r.val * 1024 + f.val) / 1024 % 2048 = r.val % 2048; omega
    | ⟨2, _⟩ => by have := f.isLt; show (r.val * 1024 + f.val) % 1024 = f.val; omega)

theorem at168 (r : Fin 65536) (f : Fin 1024) : val_main_v168 (F := Ideal) x0 x1 x2 x3 (ix2 r f) = val_main_v56 (F := Ideal) x0 x1 x2 x3 (ix3 (bOf r) (sOf r) f) := by
  have e : idx_main_v167 (ix2 r f) = (ix3 (bOf r) (sOf r) f) := flat r f
  rw [val_main_v168_apply, val_main_v167_apply, e]
  rfl

theorem at170 (r : Fin 65536) (f : Fin 1024) : val_main_v170 (F := Ideal) x0 x1 x2 x5 (ix2 r f) = val_main_v58 (F := Ideal) x0 x1 x2 x5 (ix3 (bOf r) (sOf r) f) := by
  have e : idx_main_v169 (ix2 r f) = (ix3 (bOf r) (sOf r) f) := flat r f
  rw [val_main_v170_apply, val_main_v169_apply, e]
  rfl

theorem at172 (r : Fin 65536) (f : Fin 1024) : val_main_v172 (F := Ideal) x0 x1 x2 x6 x7 (ix2 r f) = val_main_v66 (F := Ideal) x0 x1 x2 x6 x7 (ix3 (bOf r) (sOf r) f) := by
  have e : idx_main_v171 (ix2 r f) = (ix3 (bOf r) (sOf r) f) := flat r f
  rw [val_main_v172_apply, val_main_v171_apply, e]
  rfl

theorem at174 (r : Fin 65536) (f : Fin 1024) : val_main_v174 (F := Ideal) x0 x1 x2 x4 x8 (ix2 r f) = val_main_v78 (F := Ideal) x0 x1 x2 x4 x8 (ix4 (bOf r) (sOf r) (headOf f) (placeOf f)) := by
  have e : idx_main_v173 (ix2 r f) = (ix4 (bOf r) (sOf r) (headOf f) (placeOf f)) := funext fun a => Fin.ext (match a with
    | ⟨0, _⟩ => by have := f.isLt; show (r.val * 1024 + f.val) / 2097152 = r.val / 2048; omega
    | ⟨1, _⟩ => by have := f.isLt; show (r.val * 1024 + f.val) / 1024 % 2048 = r.val % 2048; omega
    | ⟨2, _⟩ => by have := f.isLt; show (r.val * 1024 + f.val) / 64 % 16 = f.val / 64; omega
    | ⟨3, _⟩ => by have := f.isLt; show (r.val * 1024 + f.val) % 64 = f.val % 64; omega)
  rw [val_main_v174_apply, val_main_v173_apply, e]
  rfl

theorem at176 (r : Fin 65536) (f : Fin 1024) : val_main_v176 (F := Ideal) x0 x1 x2 x4 x9 x13 x14 x15 (ix2 r f) = val_main_v120 (F := Ideal) x0 x1 x2 x4 x9 x13 x14 x15 (ix3 (bOf r) (sOf r) f) := by
  have e : idx_main_v175 (ix2 r f) = (ix3 (bOf r) (sOf r) f) := flat r f
  rw [val_main_v176_apply, val_main_v175_apply, e]
  rfl

theorem at178 (r : Fin 65536) (f : Fin 1024) : val_main_v178 (F := Ideal) x0 x1 x2 x4 x9 x13 x14 x15 (ix2 r f) = val_main_v164 (F := Ideal) x0 x1 x2 x4 x9 x13 x14 x15 (ix3 (bOf r) (sOf r) f) := by
  have e : idx_main_v177 (ix2 r f) = (ix3 (bOf r) (sOf r) f) := flat r f
  rw [val_main_v178_apply, val_main_v177_apply, e]
  rfl

theorem at180 (r : Fin 65536) (f : Fin 1024) : val_main_v180 (F := Ideal) x0 x1 x2 x13 x14 x15 (ix2 r f) = val_main_v112 (F := Ideal) x0 x1 x2 x13 x14 x15 (ix3 (bOf r) (sOf r) f) := by
  have e : idx_main_v179 (ix2 r f) = (ix3 (bOf r) (sOf r) f) := flat r f
  rw [val_main_v180_apply, val_main_v179_apply, e]
  rfl

theorem at182 (r : Fin 65536) (f : Fin 1024) : val_main_v182 (F := Ideal) x0 x1 x2 x13 x14 x15 (ix2 r f) = val_main_v156 (F := Ideal) x0 x1 x2 x13 x14 x15 (ix3 (bOf r) (sOf r) f) := by
  have e : idx_main_v181 (ix2 r f) = (ix3 (bOf r) (sOf r) f) := flat r f
  rw [val_main_v182_apply, val_main_v181_apply, e]
  rfl

theorem at183 (r : Fin 65536) (f : Fin 1024) : val_main_v183 (F := Ideal) x0 x1 x2 x10 x11 x12 (ix2 r f) = val_main_v122 (F := Ideal) x0 x1 x2 x10 x11 x12 (ix3 (bOf r) (sOf r) f) := by
  have e : idx_main_v183 (ix2 r f) = (ix3 (bOf r) (sOf r) f) := flat r f
  rw [val_main_v183_apply, e]

theorem at184 (r : Fin 65536) (f : Fin 1024) : val_main_v184 (F := Ideal) x0 x1 x2 x10 x11 x12 (ix2 r f) = val_main_v166 (F := Ideal) x0 x1 x2 x10 x11 x12 (ix3 (bOf r) (sOf r) f) := by
  have e : idx_main_v184 (ix2 r f) = (ix3 (bOf r) (sOf r) f) := flat r f
  rw [val_main_v184_apply, e]

end Cert.PreRef

end
-- ==== Proof.PreBlock.lean ====
/- The blocks of the mixer's first kernel read off its arrays. -/
module

public import proofs.«01_k».proof.Proof.PreTile
public import proofs.«01_k».proof.Proof.PreRef
public import Idealize.ShloMosaic.Lib.Pipeline.ValueKit

@[expose] public section

noncomputable section

namespace Cert.PreArray

open Cert.Kernel10Ideal Cert.Kernel10Ideal.Gen Cert.Pre Cert.PreRun
open Cert.PreTile (mixRow)
open Cert.PreRef (bOf sOf mixAt)
open Cert.FfnTile (prevRow nextRow)
open Cert.Ffn (row)
open Cert.Post (Real')
open Idealize.ShloMosaic hiding ix1 ix2 ix3 ix4 ix5 truncf_apply
open Idealize.ShloMosaic.TcCoe Idealize.ShloMosaic.ValueIdx

variable (m : (ℓ : Loc nD τ sig) → Buf (Elt Ideal) ℓ) (c : Dev nD)

abbrev A0 : Vec Ideal S32x2048x1024 .f32 := m (c.tc.loc main_arg0)
abbrev A1 : Vec Ideal S1024 .f32 := m (c.tc.loc main_arg1)
abbrev A2 : Vec Ideal S6x1024 .f32 := m (c.tc.loc main_arg2)
abbrev A3 : Vec Ideal S1024x1024 .f32 := m (c.tc.loc main_arg3)
abbrev A4 : Vec Ideal S1024x1024 .f32 := m (c.tc.loc main_arg4)
abbrev A5 : Vec Ideal S1024x1024 .f32 := m (c.tc.loc main_arg5)
abbrev A6 : Vec Ideal S1024x128 .f32 := m (c.tc.loc main_arg6)
abbrev A7 : Vec Ideal S128x1024 .f32 := m (c.tc.loc main_arg7)
abbrev A8 : Vec Ideal S1024 .f32 := m (c.tc.loc main_arg8)
abbrev A9 : Vec Ideal S1024 .f32 := m (c.tc.loc main_arg9)
abbrev A10 : Vec Ideal S2x1024 .f32 := m (c.tc.loc main_arg10)
abbrev A11 : Vec Ideal S2x1024x64 .f32 := m (c.tc.loc main_arg11)
abbrev A12 : Vec Ideal S2x64x1024 .f32 := m (c.tc.loc main_arg12)
abbrev A13 : Vec Ideal S2x1024 .f32 := m (c.tc.loc main_arg13)
abbrev A14 : Vec Ideal S2x1024x64 .f32 := m (c.tc.loc main_arg14)
abbrev A15 : Vec Ideal S2x64x1024 .f32 := m (c.tc.loc main_arg15)

/-- The tokens as the kernel takes them: one row each. -/
abbrev toks (z : Vec Ideal S32x2048x1024 .f32) : Vec Ideal S65536x1024 .f32 := shapeCast S65536x1024 z shapeCasts_S32x2048x1024_S65536x1024

theorem toks_apply (z : Vec Ideal S32x2048x1024 .f32) (r : Fin 65536) (b : Fin 32) (s : Fin 2048) (h : r.val = b.val * 2048 + s.val) (k : Fin 1024) :
    toks z (ix2 r k) = FfnRef.tok z b s k :=
  shapeCast_apply (s := S32x2048x1024) (t := S65536x1024) z _ (ix2 r k) (ix3 b s k) (by
    rw [Shape.rowMajor_val_three, Shape.rowMajor_val_two]; show (b.val * 2048 + s.val) * 1024 + k.val = r.val * 1024 + k.val; omega)

theorem vec_row (z : Vec Ideal S1024 .f32) (k : Fin 1024) : shapeCast S1x1024 z shapeCasts_S1024_S1x1024 (ix2 0 k) = z (ix1 k) :=
  shapeCast_apply (s := S1024) (t := S1x1024) z _ (ix2 0 k) (ix1 k) (by
    rw [Shape.rowMajor_val_one, Shape.rowMajor_val_two]; show k.val = 0 * 1024 + k.val; omega)

/-- The first matrices of both directions beside each other. -/
abbrev beside (z : Vec Ideal S2x1024x64 .f32) : Vec Ideal S1024x128 .f32 :=
  concatenate S1024x128 1 [⟨S1024x64, shapeCast S1024x64 (extractStridedSlice S1x1024x64 ![0, 0, 0] z slices_S2x1024x64_S1x1024x64_0_0_0) shapeCasts_S1x1024x64_S1024x64⟩,
    ⟨S1024x64, shapeCast S1024x64 (extractStridedSlice S1x1024x64 ![1, 0, 0] z slices_S2x1024x64_S1x1024x64_1_0_0) shapeCasts_S1x1024x64_S1024x64⟩] concatenates_S1024x64_S1024x64_S1024x128_d1

theorem drop_first (z : Vec Ideal S1x1024x64 .f32) (k : Fin 1024) (l : Fin 64) : shapeCast S1024x64 z shapeCasts_S1x1024x64_S1024x64 (ix2 k l) = z (ix3 0 k l) :=
  shapeCast_apply (s := S1x1024x64) (t := S1024x64) z _ (ix2 k l) (ix3 0 k l) (by
    rw [Shape.rowMajor_val_three, Shape.rowMajor_val_two]; show (0 * 1024 + k.val) * 64 + l.val = k.val * 64 + l.val; omega)

theorem beside0 (z : Vec Ideal S2x1024x64 .f32) (k : Fin 1024) (l : Fin 64) : beside z (ix2 k ⟨l.val, by omega⟩) = z (ix3 0 k l) :=
  (concatenate_pair_apply_left (t := S1024x128) (s₁ := S1024x64) (s₂ := S1024x64) 1 _ _ _ _ rfl (ix2 k l) (fun | ⟨0, _⟩ => rfl | ⟨1, _⟩ => rfl)).trans
    ((drop_first _ k l).trans (extractStridedSlice_apply (s := S2x1024x64) (t := S1x1024x64) ![0, 0, 0] _ _ (ix3 0 k l) (ix3 0 k l) (fun
      | ⟨0, _⟩ => rfl | ⟨1, _⟩ => (Nat.zero_add _).symm | ⟨2, _⟩ => (Nat.zero_add _).symm)))

theorem beside1 (z : Vec Ideal S2x1024x64 .f32) (k : Fin 1024) (l : Fin 64) : beside z (ix2 k ⟨64 + l.val, by omega⟩) = z (ix3 1 k l) :=
  (concatenate_pair_apply_right (t := S1024x128) (s₁ := S1024x64) (s₂ := S1024x64) 1 _ _ _ _ rfl rfl (ix2 k l) (fun b hb => match b with
      | ⟨0, _⟩ => rfl | ⟨1, _⟩ => absurd rfl hb) (by show l.val + 64 = 64 + l.val; omega)).trans
    ((drop_first _ k l).trans (extractStridedSlice_apply (s := S2x1024x64) (t := S1x1024x64) ![1, 0, 0] _ _ (ix3 0 k l) (ix3 1 k l) (fun
      | ⟨0, _⟩ => rfl | ⟨1, _⟩ => (Nat.zero_add _).symm | ⟨2, _⟩ => (Nat.zero_add _).symm)))

/-- The second matrices of both directions below each other. -/
theorem below (z : Vec Ideal S2x64x1024 .f32) (q : Fin 128) (d : Fin 2) (l : Fin 64) (h : q.val = 64 * d.val + l.val) (f : Fin 1024) :
    shapeCast S128x1024 z shapeCasts_S2x64x1024_S128x1024 (ix2 q f) = z (ix3 d l f) :=
  shapeCast_apply (s := S2x64x1024) (t := S128x1024) z _ (ix2 q f) (ix3 d l f) (by
    rw [Shape.rowMajor_val_three, Shape.rowMajor_val_two]; show (d.val * 64 + l.val) * 1024 + f.val = q.val * 1024 + f.val; omega)

/-- The block of 512 tokens a point works on. -/
def at' (t : Fin cfg0.N) : Fin 128 := grid0.coords t 0

/-- A row of the block among all rows. -/
def at512 (t : Fin cfg0.N) (r : Fin 512) : Fin 65536 := ⟨(at' t).val * 512 + r.val, by omega⟩

theorem V_toks : V m c main_v0 = toks (A0 m c) := by
  show StableHlo.after hostOps0 _ (Proc.devRef .tc main_v0) = _
  after_results
  rfl

theorem x0_at (t : Fin cfg0.N) (k : Fin 512) (e : Fin 1024) : (ins m c t).x0 (ix2 k e) = toks (A0 m c) (ix2 (at512 t k) e) := by
  have hi := (by decide +kernel : ∀ t : Fin grid0.N, win0_0.index t = ![(grid0.coords t 0).val, 0])
  show iblk m c 0 t (ix2 k e) = _
  blk_simp [iblk]
  refine (congrArg (V m c main_v0) (a₂ := ix2 (at512 t k) e) (funext fun a => Fin.ext (match a with
    | ⟨0, _⟩ => by blk_simp [hi] ; rfl
    | ⟨1, _⟩ => by blk_simp [hi]))).trans ?_
  exact congrFun (V_toks m c) _

theorem x1_at (t : Fin cfg0.N) (k : Fin 8) (e : Fin 1024) : (ins m c t).x1 (ix2 k e) = toks (A0 m c) (ix2 ⟨(64 * (at' t).val - 1) * 8 + k.val, by omega⟩ e) := by
  have hi := (by decide +kernel : ∀ t : Fin grid0.N, win0_1.index t = ![64 * (grid0.coords t 0).val - 1, 0])
  show iblk m c 1 t (ix2 k e) = _
  blk_simp [iblk]
  refine (congrArg (V m c main_v0) (a₂ := ix2 ⟨(64 * (at' t).val - 1) * 8 + k.val, by omega⟩ e) (funext fun a => Fin.ext (match a with
    | ⟨0, _⟩ => by blk_simp [hi] ; rfl
    | ⟨1, _⟩ => by blk_simp [hi]))).trans ?_
  exact congrFun (V_toks m c) _

theorem x2_at (t : Fin cfg0.N) (k : Fin 8) (e : Fin 1024) : (ins m c t).x2 (ix2 k e) = toks (A0 m c) (ix2 ⟨min (64 * ((at' t).val + 1)) 8191 * 8 + k.val, by omega⟩ e) := by
  have hi := (by decide +kernel : ∀ t : Fin grid0.N, win0_2.index t = ![min (64 * ((grid0.coords t 0).val + 1)) 8191, 0])
  show iblk m c 2 t (ix2 k e) = _
  blk_simp [iblk]
  refine (congrArg (V m c main_v0) (a₂ := ix2 ⟨min (64 * ((at' t).val + 1)) 8191 * 8 + k.val, by omega⟩ e) (funext fun a => Fin.ext (match a with
    | ⟨0, _⟩ => by blk_simp [hi] ; rfl
    | ⟨1, _⟩ => by blk_simp [hi]))).trans ?_
  exact congrFun (V_toks m c) _

theorem x3_at (t : Fin cfg0.N) (k : Fin 1) (e : Fin 1024) : (ins m c t).x3 (ix2 k e) = shapeCast S1x1024 (A1 m c) shapeCasts_S1024_S1x1024 (ix2 k e) := by
  have hi := (by decide +kernel : ∀ t : Fin grid0.N, win0_3.index t = ![0, 0])
  show iblk m c 3 t (ix2 k e) = _
  blk_simp [iblk]
  refine (congrArg (V m c main_v17) (a₂ := ix2 k e) (funext fun a => Fin.ext (match a with
    | ⟨0, _⟩ => by blk_simp [hi]
    | ⟨1, _⟩ => by blk_simp [hi]))).trans ?_
  exact congrFun (show V m c main_v17 = shapeCast S1x1024 (A1 m c) shapeCasts_S1024_S1x1024 by
    show StableHlo.after hostOps0 _ (Proc.devRef .tc main_v17) = _
    after_results
    rfl) _

theorem x4_at (t : Fin cfg0.N) (k : Fin 6) (e : Fin 1024) : (ins m c t).x4 (ix2 k e) = A2 m c (ix2 k e) := by
  have hi := (by decide +kernel : ∀ t : Fin grid0.N, win0_4.index t = ![0, 0])
  show iblk m c 4 t (ix2 k e) = _
  blk_simp [iblk]
  refine (congrArg (V m c main_arg2) (a₂ := ix2 k e) (funext fun a => Fin.ext (match a with
    | ⟨0, _⟩ => by blk_simp [hi]
    | ⟨1, _⟩ => by blk_simp [hi]))).trans ?_
  exact congrFun (V_args m c).2.2.1 _

theorem x5_at (t : Fin cfg0.N) (k : Fin 1024) (e : Fin 1024) : (ins m c t).x5 (ix2 k e) = A3 m c (ix2 k e) := by
  have hi := (by decide +kernel : ∀ t : Fin grid0.N, win0_5.index t = ![0, 0])
  show iblk m c 5 t (ix2 k e) = _
  blk_simp [iblk]
  refine (congrArg (V m c main_v18) (a₂ := ix2 k e) (funext fun a => Fin.ext (match a with
    | ⟨0, _⟩ => by blk_simp [hi]
    | ⟨1, _⟩ => by blk_simp [hi]))).trans ?_
  exact congrFun (show V m c main_v18 = (truncf .bf16 (A3 m c) bitsLt_bf16_f32 : FVec Ideal S1024x1024 .bf16) by
    show StableHlo.after hostOps0 _ (Proc.devRef .tc main_v18) = _
    after_results) _

theorem x6_at (t : Fin cfg0.N) (k : Fin 1024) (e : Fin 1024) : (ins m c t).x6 (ix2 k e) = A4 m c (ix2 k e) := by
  have hi := (by decide +kernel : ∀ t : Fin grid0.N, win0_6.index t = ![0, 0])
  show iblk m c 6 t (ix2 k e) = _
  blk_simp [iblk]
  refine (congrArg (V m c main_v19) (a₂ := ix2 k e) (funext fun a => Fin.ext (match a with
    | ⟨0, _⟩ => by blk_simp [hi]
    | ⟨1, _⟩ => by blk_simp [hi]))).trans ?_
  exact congrFun (show V m c main_v19 = (truncf .bf16 (A4 m c) bitsLt_bf16_f32 : FVec Ideal S1024x1024 .bf16) by
    show StableHlo.after hostOps0 _ (Proc.devRef .tc main_v19) = _
    after_results) _

theorem x7_at (t : Fin cfg0.N) (k : Fin 1024) (e : Fin 1024) : (ins m c t).x7 (ix2 k e) = A5 m c (ix2 k e) := by
  have hi := (by decide +kernel : ∀ t : Fin grid0.N, win0_7.index t = ![0, 0])
  show iblk m c 7 t (ix2 k e) = _
  blk_simp [iblk]
  refine (congrArg (V m c main_v20) (a₂ := ix2 k e) (funext fun a => Fin.ext (match a with
    | ⟨0, _⟩ => by blk_simp [hi]
    | ⟨1, _⟩ => by blk_simp [hi]))).trans ?_
  exact congrFun (show V m c main_v20 = (truncf .bf16 (A5 m c) bitsLt_bf16_f32 : FVec Ideal S1024x1024 .bf16) by
    show StableHlo.after hostOps0 _ (Proc.devRef .tc main_v20) = _
    after_results) _

theorem x8_at (t : Fin cfg0.N) (k : Fin 1024) (e : Fin 128) : (ins m c t).x8 (ix2 k e) = A6 m c (ix2 k e) := by
  have hi := (by decide +kernel : ∀ t : Fin grid0.N, win0_8.index t = ![0, 0])
  show iblk m c 8 t (ix2 k e) = _
  blk_simp [iblk]
  refine (congrArg (V m c main_v21) (a₂ := ix2 k e) (funext fun a => Fin.ext (match a with
    | ⟨0, _⟩ => by blk_simp [hi]
    | ⟨1, _⟩ => by blk_simp [hi]))).trans ?_
  exact congrFun (show V m c main_v21 = (truncf .bf16 (A6 m c) bitsLt_bf16_f32 : FVec Ideal S1024x128 .bf16) by
    show StableHlo.after hostOps0 _ (Proc.devRef .tc main_v21) = _
    after_results) _

theorem x9_at (t : Fin cfg0.N) (k : Fin 128) (e : Fin 1024) : (ins m c t).x9 (ix2 k e) = A7 m c (ix2 k e) := by
  have hi := (by decide +kernel : ∀ t : Fin grid0.N, win0_9.index t = ![0, 0])
  show iblk m c 9 t (ix2 k e) = _
  blk_simp [iblk]
  refine (congrArg (V m c main_v22) (a₂ := ix2 k e) (funext fun a => Fin.ext (match a with
    | ⟨0, _⟩ => by blk_simp [hi]
    | ⟨1, _⟩ => by blk_simp [hi]))).trans ?_
  exact congrFun (show V m c main_v22 = (truncf .bf16 (A7 m c) bitsLt_bf16_f32 : FVec Ideal S128x1024 .bf16) by
    show StableHlo.after hostOps0 _ (Proc.devRef .tc main_v22) = _
    after_results) _

theorem x10_at (t : Fin cfg0.N) (k : Fin 1024) (e : Fin 128) : (ins m c t).x10 (ix2 k e) = beside (A11 m c) (ix2 k e) := by
  have hi := (by decide +kernel : ∀ t : Fin grid0.N, win0_10.index t = ![0, 0])
  show iblk m c 10 t (ix2 k e) = _
  blk_simp [iblk]
  refine (congrArg (V m c main_v6) (a₂ := ix2 k e) (funext fun a => Fin.ext (match a with
    | ⟨0, _⟩ => by blk_simp [hi]
    | ⟨1, _⟩ => by blk_simp [hi]))).trans ?_
  exact congrFun (show V m c main_v6 = (truncf .bf16 (beside (A11 m c)) bitsLt_bf16_f32 : FVec Ideal S1024x128 .bf16) by
    show StableHlo.after hostOps0 _ (Proc.devRef .tc main_v6) = _
    after_results
    rfl) _

theorem x11_at (t : Fin cfg0.N) (k : Fin 128) (e : Fin 1024) : (ins m c t).x11 (ix2 k e) = shapeCast S128x1024 (A12 m c) shapeCasts_S2x64x1024_S128x1024 (ix2 k e) := by
  have hi := (by decide +kernel : ∀ t : Fin grid0.N, win0_11.index t = ![0, 0])
  show iblk m c 11 t (ix2 k e) = _
  blk_simp [iblk]
  refine (congrArg (V m c main_v14) (a₂ := ix2 k e) (funext fun a => Fin.ext (match a with
    | ⟨0, _⟩ => by blk_simp [hi]
    | ⟨1, _⟩ => by blk_simp [hi]))).trans ?_
  exact congrFun (show V m c main_v14 = (truncf .bf16 (shapeCast S128x1024 (A12 m c) shapeCasts_S2x64x1024_S128x1024) bitsLt_bf16_f32 : FVec Ideal S128x1024 .bf16) by
    show StableHlo.after hostOps0 _ (Proc.devRef .tc main_v14) = _
    after_results
    rfl) _

theorem x12_at (t : Fin cfg0.N) (k : Fin 1024) (e : Fin 128) : (ins m c t).x12 (ix2 k e) = beside (A14 m c) (ix2 k e) := by
  have hi := (by decide +kernel : ∀ t : Fin grid0.N, win0_12.index t = ![0, 0])
  show iblk m c 12 t (ix2 k e) = _
  blk_simp [iblk]
  refine (congrArg (V m c main_v12) (a₂ := ix2 k e) (funext fun a => Fin.ext (match a with
    | ⟨0, _⟩ => by blk_simp [hi]
    | ⟨1, _⟩ => by blk_simp [hi]))).trans ?_
  exact congrFun (show V m c main_v12 = (truncf .bf16 (beside (A14 m c)) bitsLt_bf16_f32 : FVec Ideal S1024x128 .bf16) by
    show StableHlo.after hostOps0 _ (Proc.devRef .tc main_v12) = _
    after_results
    rfl) _

theorem x13_at (t : Fin cfg0.N) (k : Fin 128) (e : Fin 1024) : (ins m c t).x13 (ix2 k e) = shapeCast S128x1024 (A15 m c) shapeCasts_S2x64x1024_S128x1024 (ix2 k e) := by
  have hi := (by decide +kernel : ∀ t : Fin grid0.N, win0_13.index t = ![0, 0])
  show iblk m c 13 t (ix2 k e) = _
  blk_simp [iblk]
  refine (congrArg (V m c main_v16) (a₂ := ix2 k e) (funext fun a => Fin.ext (match a with
    | ⟨0, _⟩ => by blk_simp [hi]
    | ⟨1, _⟩ => by blk_simp [hi]))).trans ?_
  exact congrFun (show V m c main_v16 = (truncf .bf16 (shapeCast S128x1024 (A15 m c) shapeCasts_S2x64x1024_S128x1024) bitsLt_bf16_f32 : FVec Ideal S128x1024 .bf16) by
    show StableHlo.after hostOps0 _ (Proc.devRef .tc main_v16) = _
    after_results
    rfl) _

theorem x14_at (t : Fin cfg0.N) (k : Fin 2) (e : Fin 1024) : (ins m c t).x14 (ix2 k e) = A10 m c (ix2 k e) := by
  have hi := (by decide +kernel : ∀ t : Fin grid0.N, win0_14.index t = ![0, 0])
  show iblk m c 14 t (ix2 k e) = _
  blk_simp [iblk]
  refine (congrArg (V m c main_arg10) (a₂ := ix2 k e) (funext fun a => Fin.ext (match a with
    | ⟨0, _⟩ => by blk_simp [hi]
    | ⟨1, _⟩ => by blk_simp [hi]))).trans ?_
  exact congrFun (V_args m c).2.2.2.2.2.2.2.2.2.2.1 _

theorem x15_at (t : Fin cfg0.N) (k : Fin 2) (e : Fin 1024) : (ins m c t).x15 (ix2 k e) = A13 m c (ix2 k e) := by
  have hi := (by decide +kernel : ∀ t : Fin grid0.N, win0_15.index t = ![0, 0])
  show iblk m c 15 t (ix2 k e) = _
  blk_simp [iblk]
  refine (congrArg (V m c main_arg13) (a₂ := ix2 k e) (funext fun a => Fin.ext (match a with
    | ⟨0, _⟩ => by blk_simp [hi]
    | ⟨1, _⟩ => by blk_simp [hi]))).trans ?_
  exact congrFun (V_args m c).2.2.2.2.2.2.2.2.2.2.2.2.2.1 _

theorem x16_at (t : Fin cfg0.N) (k : Fin 1) (e : Fin 1024) : (ins m c t).x16 (ix2 k e) = shapeCast S1x1024 (A8 m c) shapeCasts_S1024_S1x1024 (ix2 k e) := by
  have hi := (by decide +kernel : ∀ t : Fin grid0.N, win0_16.index t = ![0, 0])
  show iblk m c 16 t (ix2 k e) = _
  blk_simp [iblk]
  refine (congrArg (V m c main_v23) (a₂ := ix2 k e) (funext fun a => Fin.ext (match a with
    | ⟨0, _⟩ => by blk_simp [hi]
    | ⟨1, _⟩ => by blk_simp [hi]))).trans ?_
  exact congrFun (show V m c main_v23 = shapeCast S1x1024 (A8 m c) shapeCasts_S1024_S1x1024 by
    show StableHlo.after hostOps0 _ (Proc.devRef .tc main_v23) = _
    after_results
    rfl) _

theorem x17_at (t : Fin cfg0.N) (k : Fin 1) (e : Fin 1024) : (ins m c t).x17 (ix2 k e) = shapeCast S1x1024 (A9 m c) shapeCasts_S1024_S1x1024 (ix2 k e) := by
  have hi := (by decide +kernel : ∀ t : Fin grid0.N, win0_17.index t = ![0, 0])
  show iblk m c 17 t (ix2 k e) = _
  blk_simp [iblk]
  refine (congrArg (V m c main_v24) (a₂ := ix2 k e) (funext fun a => Fin.ext (match a with
    | ⟨0, _⟩ => by blk_simp [hi]
    | ⟨1, _⟩ => by blk_simp [hi]))).trans ?_
  exact congrFun (show V m c main_v24 = shapeCast S1x1024 (A9 m c) shapeCasts_S1024_S1x1024 by
    show StableHlo.after hostOps0 _ (Proc.devRef .tc main_v24) = _
    after_results
    rfl) _

theorem prod_congr {q n : Nat} (a a' : Fin q → EReal) (w w' : Fin q → Fin n → EReal) (f : Fin n) (ha : ∀ k, a k = a' k) (hw : ∀ k, w k f = w' k f) :
    prod a w f = prod a' w' f := Finset.sum_congr rfl fun k _ => by rw [ha, hw]

/-- A mixed row of the block is the reference's mixed token. -/
theorem mixRow_eq (t : Fin cfg0.N) (j : Fin 6) (r : Fin 512) :
    mixRow (grid0.coords t) (ins m c t) j r = mixAt (A0 m c) (A1 m c) (A2 m c) j (bOf (at512 t r)) (sOf (at512 t r)) := by
  generalize hb : bOf (at512 t r) = b
  generalize hs : sOf (at512 t r) = s
  have hb : ((at' t).val * 512 + r.val) / 2048 = b.val := congrArg Fin.val hb
  have hs : ((at' t).val * 512 + r.val) % 2048 = s.val := congrArg Fin.val hs
  have eg : (fun k => (ins m c t).x3 (ix2 0 k)) = fun k => A1 m c (ix1 k) := funext fun k => (x3_at m c t 0 k).trans (vec_row _ k)
  have em : (fun k => (ins m c t).x4 (ix2 j k)) = fun k => A2 m c (ix2 j k) := funext fun k => x4_at m c t j k
  have ex : (fun k => (ins m c t).x0 (ix2 r k)) = FfnRef.tok (A0 m c) b s := funext fun k => (x0_at m c t r k).trans
    (toks_apply _ _ b s (by show (at' t).val * 512 + r.val = _; omega) k)
  have ep : prevRow (at' t) (ins m c t).x0 (ins m c t).x1 r = FfnRef.tokPrev (A0 m c) b s := by
    funext k
    unfold prevRow FfnRef.tokPrev
    by_cases hr : r.val = 0
    · rw [if_pos hr]
      by_cases h4 : (at' t).val % 4 = 0
      · rw [if_pos h4, if_pos (by omega)]
      · rw [if_neg h4, if_neg (by omega)]
        exact (x1_at m c t 7 k).trans (toks_apply _ _ b _ (by show (64 * (at' t).val - 1) * 8 + 7 = b.val * 2048 + (s.val - 1); omega) k)
    · rw [if_neg hr, if_neg (by omega)]
      exact (x0_at m c t _ k).trans (toks_apply _ _ b _ (by show (at' t).val * 512 + (r.val - 1) = b.val * 2048 + (s.val - 1); omega) k)
  have en : nextRow (at' t) (ins m c t).x0 (ins m c t).x2 r = FfnRef.tokNext (A0 m c) b s := by
    funext k
    unfold nextRow FfnRef.tokNext
    by_cases hr : r.val = 511
    · rw [dif_pos hr]
      by_cases h4 : (at' t).val % 4 = 3
      · rw [if_pos h4, dif_pos (by omega)]
      · rw [if_neg h4, dif_neg (by omega)]
        exact (x2_at m c t 0 k).trans (toks_apply _ _ b _ (by show min (64 * ((at' t).val + 1)) 8191 * 8 + 0 = b.val * 2048 + (s.val + 1); omega) k)
    · rw [dif_neg hr, dif_neg (by omega)]
      exact (x0_at m c t _ k).trans (toks_apply _ _ b _ (by show (at' t).val * 512 + (r.val + 1) = b.val * 2048 + (s.val + 1); omega) k)
  show mix _ (row _ (prevRow (at' t) _ _ r)) _ (row _ (nextRow (at' t) _ _ r)) = _
  unfold mixAt
  rw [eg, em, ex, ep, en]

theorem key_eq (t : Fin cfg0.N) (r : Fin 512) (f : Fin 1024) : prod (mixRow (grid0.coords t) (ins m c t) 2 r) (fun k f => (ins m c t).x6 (ix2 k f)) f
    = prod (mixAt (A0 m c) (A1 m c) (A2 m c) 2 (bOf (at512 t r)) (sOf (at512 t r))) (fun k f => A4 m c (ix2 k f)) f := by
  rw [mixRow_eq]
  exact Finset.sum_congr rfl fun k _ => congrArg _ (x6_at m c t k f)

theorem rate0_eq (t : Fin cfg0.N) (r : Fin 512) (f : Fin 1024) : PreTile.rate0 (grid0.coords t) (ins m c t) r f
    = PreRef.rate0 (A0 m c) (A1 m c) (A2 m c) (A13 m c) (A14 m c) (A15 m c) (bOf (at512 t r)) (sOf (at512 t r)) f := by
  unfold PreTile.rate0 PreRef.rate0
  rw [mixRow_eq, x15_at]
  refine congrArg (fun z : EReal => Ideal.logistic (_ + z)) (Finset.sum_congr rfl fun l _ => congrArg₂ (fun x y : EReal => x * y)
    (Finset.sum_congr rfl fun k _ => congrArg _ ((x12_at m c t k _).trans (beside0 _ k l))) ((x13_at m c t _ f).trans (below _ _ 0 l (by show l.val = 64 * 0 + l.val; omega) f)))

theorem decay0_eq (t : Fin cfg0.N) (r : Fin 512) (f : Fin 1024) : out0_26 (grid0.coords t) (ins m c t) (ix2 r f)
    = Reference10Ideal.Read.val_main_v122 (F := Ideal) (A0 m c) (A1 m c) (A2 m c) (A10 m c) (A11 m c) (A12 m c) (ix3 (bOf (at512 t r)) (sOf (at512 t r)) f) := by
  rw [PreTile.out26_apply, PreRef.v122_at, mixRow_eq, x14_at]
  refine congrArg (fun z : EReal => decay (_ + z)) (Finset.sum_congr rfl fun l _ => congrArg₂ (fun x y : EReal => Ideal.tanh x * y)
    (Finset.sum_congr rfl fun k _ => congrArg _ ((x10_at m c t k _).trans (beside0 _ k l))) ((x11_at m c t _ f).trans (below _ _ 0 l (by show l.val = 64 * 0 + l.val; omega) f)))

theorem rate1_eq (t : Fin cfg0.N) (r : Fin 512) (f : Fin 1024) : PreTile.rate1 (grid0.coords t) (ins m c t) r f
    = PreRef.rate1 (A0 m c) (A1 m c) (A2 m c) (A13 m c) (A14 m c) (A15 m c) (bOf (at512 t r)) (sOf (at512 t r)) f := by
  unfold PreTile.rate1 PreRef.rate1
  rw [mixRow_eq, x15_at]
  refine congrArg (fun z : EReal => Ideal.logistic (_ + z)) (Finset.sum_congr rfl fun l _ => congrArg₂ (fun x y : EReal => x * y)
    (Finset.sum_congr rfl fun k _ => congrArg _ ((x12_at m c t k _).trans (beside1 _ k l))) ((x13_at m c t _ f).trans (below _ _ 1 l (by show 64 + l.val = 64 * 1 + l.val; omega) f)))

theorem decay1_eq (t : Fin cfg0.N) (r : Fin 512) (f : Fin 1024) : out0_27 (grid0.coords t) (ins m c t) (ix2 r f)
    = Reference10Ideal.Read.val_main_v166 (F := Ideal) (A0 m c) (A1 m c) (A2 m c) (A10 m c) (A11 m c) (A12 m c) (ix3 (bOf (at512 t r)) (sOf (at512 t r)) f) := by
  rw [PreTile.out27_apply, PreRef.v166_at, mixRow_eq, x14_at]
  refine congrArg (fun z : EReal => decay (_ + z)) (Finset.sum_congr rfl fun l _ => congrArg₂ (fun x y : EReal => Ideal.tanh x * y)
    (Finset.sum_congr rfl fun k _ => congrArg _ ((x10_at m c t k _).trans (beside1 _ k l))) ((x11_at m c t _ f).trans (below _ _ 1 l (by show 64 + l.val = 64 * 1 + l.val; omega) f)))

end Cert.PreArray

end
-- ==== Proof.Pre.lean ====
/- The result arrays of the mixer's first kernel, block by block, as the reference computes them. -/
module

public import proofs.«01_k».proof.Defs
public import proofs.«01_k».proof.Proof.Gqa
public import proofs.«01_k».proof.Proof.PreBlock
public import proofs.«01_k».proof.Proof.Gen.Reference10Ideal.Run
public import Idealize.ShloMosaic.Lib.Pipeline.ValueKit
public import Idealize.ShloMosaic.Lib.StableHlo.RunHlo

@[expose] public section

noncomputable section

namespace Cert.PreArray

open Cert.Kernel10Ideal Cert.Kernel10Ideal.Gen Cert.Pre Cert.PreRun
open Cert.PreTile (mixRow)
open Cert.PreRef (bOf sOf mixAt)
open Cert.Post (Real')
open Idealize.ShloMosaic hiding ix1 ix2 ix3 ix4 ix5 truncf_apply
open Idealize.ShloMosaic.TcCoe Idealize.ShloMosaic.ValueIdx Idealize.SL.Sem
open Cert.Gqa (real_of_cmp)

variable (m : (ℓ : Loc nD τ sig) → Buf (Elt Ideal) ℓ) (c : Dev nD)

theorem split (y : S512x1024.Idx) : ∃ (r : Fin 512) (l : Fin 1024), y = ix2 r l := ⟨y 0, y 1, funext fun | ⟨0, _⟩ => rfl | ⟨1, _⟩ => rfl⟩

/-- The first result is the reference's. -/
theorem final18 : (dats m 0 c).arrAt 18 cfg0.N = Reference10Ideal.Read.val_main_v168 (F := Ideal) (A0 m c) (A1 m c) (A2 m c) (A3 m c) := by
  have hi := (by decide +kernel : ∀ t : Fin grid0.N, win0_18.index t = ![(grid0.coords t 0).val, 0])
  refine (dats m 0 c).arrAt_eq_of_covers 18 _ (by decide +kernel) fun t hf y => ?_
  blk_simp
  rw [after0_18]
  obtain ⟨r, l, rfl⟩ := split y
  rw [show (win0_18.blk t).view.emb (ix2 r l) = ix2 (at512 t r) l from funext fun a => Fin.ext (match a with
    | ⟨0, _⟩ => by blk_simp [hi]; rfl
    | ⟨1, _⟩ => by blk_simp [hi]), PreRef.at168]
  rw [PreTile.out18_apply, PreRef.v56_at, mixRow_eq]
  exact prod_congr _ _ _ _ _ (fun _ => rfl) fun k => x5_at m c t k l

/-- The second result is the reference's. -/
theorem final19 : (dats m 0 c).arrAt 19 cfg0.N = Reference10Ideal.Read.val_main_v170 (F := Ideal) (A0 m c) (A1 m c) (A2 m c) (A5 m c) := by
  have hi := (by decide +kernel : ∀ t : Fin grid0.N, win0_19.index t = ![(grid0.coords t 0).val, 0])
  refine (dats m 0 c).arrAt_eq_of_covers 19 _ (by decide +kernel) fun t hf y => ?_
  blk_simp
  rw [after0_19]
  obtain ⟨r, l, rfl⟩ := split y
  rw [show (win0_19.blk t).view.emb (ix2 r l) = ix2 (at512 t r) l from funext fun a => Fin.ext (match a with
    | ⟨0, _⟩ => by blk_simp [hi]; rfl
    | ⟨1, _⟩ => by blk_simp [hi]), PreRef.at170]
  rw [PreTile.out19_apply, PreRef.v58_at, mixRow_eq]
  exact prod_congr _ _ _ _ _ (fun _ => rfl) fun k => x7_at m c t k l

/-- The third result is the reference's. -/
theorem final20 : (dats m 0 c).arrAt 20 cfg0.N = Reference10Ideal.Read.val_main_v172 (F := Ideal) (A0 m c) (A1 m c) (A2 m c) (A6 m c) (A7 m c) := by
  have hi := (by decide +kernel : ∀ t : Fin grid0.N, win0_20.index t = ![(grid0.coords t 0).val, 0])
  refine (dats m 0 c).arrAt_eq_of_covers 20 _ (by decide +kernel) fun t hf y => ?_
  blk_simp
  rw [after0_20]
  obtain ⟨r, l, rfl⟩ := split y
  rw [show (win0_20.blk t).view.emb (ix2 r l) = ix2 (at512 t r) l from funext fun a => Fin.ext (match a with
    | ⟨0, _⟩ => by blk_simp [hi]; rfl
    | ⟨1, _⟩ => by blk_simp [hi]), PreRef.at172]
  rw [PreTile.out20_apply, PreRef.v66_at, mixRow_eq]
  exact prod_congr _ _ _ _ _ (fun k => congrArg Ideal.logistic (prod_congr _ _ _ _ _ (fun _ => rfl) fun q => x8_at m c t q k)) fun k => x9_at m c t k l

/-- The fourth result is the reference's. -/
theorem final21 (hg : ∀ i, Real' (A1 m c i)) (hm : ∀ i, Real' (A2 m c i)) (hw : ∀ i, Real' (A4 m c i)) (hs : ∀ i, Real' (A8 m c i)) : (dats m 0 c).arrAt 21 cfg0.N = Reference10Ideal.Read.val_main_v174 (F := Ideal) (A0 m c) (A1 m c) (A2 m c) (A4 m c) (A8 m c) := by
  have hi := (by decide +kernel : ∀ t : Fin grid0.N, win0_21.index t = ![(grid0.coords t 0).val, 0])
  refine (dats m 0 c).arrAt_eq_of_covers 21 _ (by decide +kernel) fun t hf y => ?_
  blk_simp
  rw [after0_21]
  obtain ⟨r, l, rfl⟩ := split y
  rw [show (win0_21.blk t).view.emb (ix2 r l) = ix2 (at512 t r) l from funext fun a => Fin.ext (match a with
    | ⟨0, _⟩ => by blk_simp [hi]; rfl
    | ⟨1, _⟩ => by blk_simp [hi]), PreRef.at174]
  have hk : ∀ f, prod (mixRow (grid0.coords t) (ins m c t) 2 r) (fun k f => (ins m c t).x6 (ix2 k f)) f * (ins m c t).x16 (ix2 0 f)
      = prod (mixAt (A0 m c) (A1 m c) (A2 m c) 2 (bOf (at512 t r)) (sOf (at512 t r))) (fun k f => A4 m c (ix2 k f)) f * A8 m c (ix1 f) := fun f => by
    rw [key_eq, x16_at, vec_row]
  rw [PreTile.out21_apply _ _ r (fun f => by
      rw [hk]
      exact (Real'.sum _ _ fun k => (mix_real _ _ _ _ (fun k => hm _) (row_real _ _ fun k => hg _) (row_real _ _ fun k => hg _) (row_real _ _ fun k => hg _) k).mul (hw _)).mul (hs _)) l,
    PreRef.v78_at, funext hk]

/-- The fifth result is the reference's. -/
theorem final22 : (dats m 0 c).arrAt 22 cfg0.N = Reference10Ideal.Read.val_main_v176 (F := Ideal) (A0 m c) (A1 m c) (A2 m c) (A4 m c) (A9 m c) (A13 m c) (A14 m c) (A15 m c) := by
  have hi := (by decide +kernel : ∀ t : Fin grid0.N, win0_22.index t = ![(grid0.coords t 0).val, 0])
  refine (dats m 0 c).arrAt_eq_of_covers 22 _ (by decide +kernel) fun t hf y => ?_
  blk_simp
  rw [after0_22]
  obtain ⟨r, l, rfl⟩ := split y
  rw [show (win0_22.blk t).view.emb (ix2 r l) = ix2 (at512 t r) l from funext fun a => Fin.ext (match a with
    | ⟨0, _⟩ => by blk_simp [hi]; rfl
    | ⟨1, _⟩ => by blk_simp [hi]), PreRef.at176]
  rw [PreTile.out22_apply, PreRef.v120_at, key_eq, rate0_eq, x17_at, vec_row]

/-- The sixth result is the reference's. -/
theorem final23 : (dats m 0 c).arrAt 23 cfg0.N = Reference10Ideal.Read.val_main_v178 (F := Ideal) (A0 m c) (A1 m c) (A2 m c) (A4 m c) (A9 m c) (A13 m c) (A14 m c) (A15 m c) := by
  have hi := (by decide +kernel : ∀ t : Fin grid0.N, win0_23.index t = ![(grid0.coords t 0).val, 0])
  refine (dats m 0 c).arrAt_eq_of_covers 23 _ (by decide +kernel) fun t hf y => ?_
  blk_simp
  rw [after0_23]
  obtain ⟨r, l, rfl⟩ := split y
  rw [show (win0_23.blk t).view.emb (ix2 r l) = ix2 (at512 t r) l from funext fun a => Fin.ext (match a with
    | ⟨0, _⟩ => by blk_simp [hi]; rfl
    | ⟨1, _⟩ => by blk_simp [hi]), PreRef.at178]
  rw [PreTile.out23_apply, PreRef.v164_at, key_eq, rate1_eq, x17_at, vec_row]

/-- The seventh result is the reference's. -/
theorem final24 : (dats m 0 c).arrAt 24 cfg0.N = Reference10Ideal.Read.val_main_v180 (F := Ideal) (A0 m c) (A1 m c) (A2 m c) (A13 m c) (A14 m c) (A15 m c) := by
  have hi := (by decide +kernel : ∀ t : Fin grid0.N, win0_24.index t = ![(grid0.coords t 0).val, 0])
  refine (dats m 0 c).arrAt_eq_of_covers 24 _ (by decide +kernel) fun t hf y => ?_
  blk_simp
  rw [after0_24]
  obtain ⟨r, l, rfl⟩ := split y
  rw [show (win0_24.blk t).view.emb (ix2 r l) = ix2 (at512 t r) l from funext fun a => Fin.ext (match a with
    | ⟨0, _⟩ => by blk_simp [hi]; rfl
    | ⟨1, _⟩ => by blk_simp [hi]), PreRef.at180]
  rw [PreTile.out24_apply, PreRef.v112_at, rate0_eq]

/-- The eighth result is the reference's. -/
theorem final25 : (dats m 0 c).arrAt 25 cfg0.N = Reference10Ideal.Read.val_main_v182 (F := Ideal) (A0 m c) (A1 m c) (A2 m c) (A13 m c) (A14 m c) (A15 m c) := by
  have hi := (by decide +kernel : ∀ t : Fin grid0.N, win0_25.index t = ![(grid0.coords t 0).val, 0])
  refine (dats m 0 c).arrAt_eq_of_covers 25 _ (by decide +kernel) fun t hf y => ?_
  blk_simp
  rw [after0_25]
  obtain ⟨r, l, rfl⟩ := split y
  rw [show (win0_25.blk t).view.emb (ix2 r l) = ix2 (at512 t r) l from funext fun a => Fin.ext (match a with
    | ⟨0, _⟩ => by blk_simp [hi]; rfl
    | ⟨1, _⟩ => by blk_simp [hi]), PreRef.at182]
  rw [PreTile.out25_apply, PreRef.v156_at, rate1_eq]

/-- The ninth result is the reference's. -/
theorem final26 : (dats m 0 c).arrAt 26 cfg0.N = Reference10Ideal.Read.val_main_v183 (F := Ideal) (A0 m c) (A1 m c) (A2 m c) (A10 m c) (A11 m c) (A12 m c) := by
  have hi := (by decide +kernel : ∀ t : Fin grid0.N, win0_26.index t = ![(grid0.coords t 0).val, 0])
  refine (dats m 0 c).arrAt_eq_of_covers 26 _ (by decide +kernel) fun t hf y => ?_
  blk_simp
  rw [after0_26]
  obtain ⟨r, l, rfl⟩ := split y
  rw [show (win0_26.blk t).view.emb (ix2 r l) = ix2 (at512 t r) l from funext fun a => Fin.ext (match a with
    | ⟨0, _⟩ => by blk_simp [hi]; rfl
    | ⟨1, _⟩ => by blk_simp [hi]), PreRef.at183]
  exact decay0_eq m c t r l

/-- The tenth result is the reference's. -/
theorem final27 : (dats m 0 c).arrAt 27 cfg0.N = Reference10Ideal.Read.val_main_v184 (F := Ideal) (A0 m c) (A1 m c) (A2 m c) (A10 m c) (A11 m c) (A12 m c) := by
  have hi := (by decide +kernel : ∀ t : Fin grid0.N, win0_27.index t = ![(grid0.coords t 0).val, 0])
  refine (dats m 0 c).arrAt_eq_of_covers 27 _ (by decide +kernel) fun t hf y => ?_
  blk_simp
  rw [after0_27]
  obtain ⟨r, l, rfl⟩ := split y
  rw [show (win0_27.blk t).view.emb (ix2 r l) = ix2 (at512 t r) l from funext fun a => Fin.ext (match a with
    | ⟨0, _⟩ => by blk_simp [hi]; rfl
    | ⟨1, _⟩ => by blk_simp [hi]), PreRef.at184]
  exact decay1_eq m c t r l

/-- The side conditions of the precondition's broadcasts. -/
theorem finite_facts : Cert.Pre_finite_keys.Facts := ⟨by decide, by decide, by decide⟩

/-- The reference's run under the precondition leaves its arguments as they were and every counter at zero. -/
theorem frame_reference_finite [Cert.Pre_finite_keys.Facts] : Cert.quiescent_Reference10Ideal_pre_finite_keys := by
  intro m g _
  exact (θ_run _ _ _).mono (fun r h => ⟨fun c => (h c).2.2.2.2.2.2.2.2.2.2, sem_eq_zero_of_no_sems (by decide) r.2⟩)
    (Cert.Reference10Ideal.Value.run (F := Ideal) m g)

/-- At every index the idealized kernel's ten results are the reference's, where the key's parts are finite. -/
theorem algebraic [Cert.Pre_finite_keys.Facts] : Cert.algebraic_Kernel10Ideal_Reference10Ideal_pre_finite_keys := by
  intro m ρ m' ρ' hpre hag
  refine ⟨fun c => Cert.Reference10Ideal.Read.val_main_v168 (F := Ideal) (A0 m c) (A1 m c) (A2 m c) (A3 m c),
    fun c => Cert.Reference10Ideal.Read.val_main_v170 (F := Ideal) (A0 m c) (A1 m c) (A2 m c) (A5 m c),
    fun c => Cert.Reference10Ideal.Read.val_main_v172 (F := Ideal) (A0 m c) (A1 m c) (A2 m c) (A6 m c) (A7 m c),
    fun c => Cert.Reference10Ideal.Read.val_main_v174 (F := Ideal) (A0 m c) (A1 m c) (A2 m c) (A4 m c) (A8 m c),
    fun c => Cert.Reference10Ideal.Read.val_main_v176 (F := Ideal) (A0 m c) (A1 m c) (A2 m c) (A4 m c) (A9 m c) (A13 m c) (A14 m c) (A15 m c),
    fun c => Cert.Reference10Ideal.Read.val_main_v178 (F := Ideal) (A0 m c) (A1 m c) (A2 m c) (A4 m c) (A9 m c) (A13 m c) (A14 m c) (A15 m c),
    fun c => Cert.Reference10Ideal.Read.val_main_v180 (F := Ideal) (A0 m c) (A1 m c) (A2 m c) (A13 m c) (A14 m c) (A15 m c),
    fun c => Cert.Reference10Ideal.Read.val_main_v182 (F := Ideal) (A0 m c) (A1 m c) (A2 m c) (A13 m c) (A14 m c) (A15 m c),
    fun c => Cert.Reference10Ideal.Read.val_main_v183 (F := Ideal) (A0 m c) (A1 m c) (A2 m c) (A10 m c) (A11 m c) (A12 m c),
    fun c => Cert.Reference10Ideal.Read.val_main_v184 (F := Ideal) (A0 m c) (A1 m c) (A2 m c) (A10 m c) (A11 m c) (A12 m c),
    (θ_run _ _ _).mono (fun _ h c => by
      obtain ⟨h0, h1, h2, h3, h4, h5, h6, h7, h8, h9, hr⟩ := h c
      exact ⟨h0.trans (final18 m c), h1.trans (final19 m c), h2.trans (final20 m c), h3.trans (final21 m c (fun i => real_of_cmp _ (congrFun (hpre c).1 i)) (fun i => real_of_cmp _ (congrFun (hpre c).2.1 i)) (fun i => real_of_cmp _ (congrFun (hpre c).2.2.1 i)) (fun i => real_of_cmp _ (congrFun (hpre c).2.2.2 i))), h4.trans (final22 m c), h5.trans (final23 m c), h6.trans (final24 m c), h7.trans (final25 m c), h8.trans (final26 m c), h9.trans (final27 m c), hr⟩) (PreRun.run_blocks m ρ),
    (θ_run _ _ _).mono (fun _ h c => by
      obtain ⟨h0, h1, h2, h3, h4, h5, h6, h7, h8, h9, hr⟩ := h c
      have a0 : StableHlo.launchContents m' c (Proc.devRef .tc Cert.Reference10Ideal.main_arg0) = A0 m c := (hag c).1
      have a1 : StableHlo.launchContents m' c (Proc.devRef .tc Cert.Reference10Ideal.main_arg1) = A1 m c := (hag c).2.1
      have a2 : StableHlo.launchContents m' c (Proc.devRef .tc Cert.Reference10Ideal.main_arg2) = A2 m c := (hag c).2.2.1
      have a3 : StableHlo.launchContents m' c (Proc.devRef .tc Cert.Reference10Ideal.main_arg3) = A3 m c := (hag c).2.2.2.1
      have a4 : StableHlo.launchContents m' c (Proc.devRef .tc Cert.Reference10Ideal.main_arg4) = A4 m c := (hag c).2.2.2.2.1
      have a5 : StableHlo.launchContents m' c (Proc.devRef .tc Cert.Reference10Ideal.main_arg5) = A5 m c := (hag c).2.2.2.2.2.1
      have a6 : StableHlo.launchContents m' c (Proc.devRef .tc Cert.Reference10Ideal.main_arg6) = A6 m c := (hag c).2.2.2.2.2.2.1
      have a7 : StableHlo.launchContents m' c (Proc.devRef .tc Cert.Reference10Ideal.main_arg7) = A7 m c := (hag c).2.2.2.2.2.2.2.1
      have a8 : StableHlo.launchContents m' c (Proc.devRef .tc Cert.Reference10Ideal.main_arg8) = A8 m c := (hag c).2.2.2.2.2.2.2.2.1
      have a9 : StableHlo.launchContents m' c (Proc.devRef .tc Cert.Reference10Ideal.main_arg9) = A9 m c := (hag c).2.2.2.2.2.2.2.2.2.1
      have a10 : StableHlo.launchContents m' c (Proc.devRef .tc Cert.Reference10Ideal.main_arg10) = A10 m c := (hag c).2.2.2.2.2.2.2.2.2.2.1
      have a11 : StableHlo.launchContents m' c (Proc.devRef .tc Cert.Reference10Ideal.main_arg11) = A11 m c := (hag c).2.2.2.2.2.2.2.2.2.2.2.1
      have a12 : StableHlo.launchContents m' c (Proc.devRef .tc Cert.Reference10Ideal.main_arg12) = A12 m c := (hag c).2.2.2.2.2.2.2.2.2.2.2.2.1
      have a13 : StableHlo.launchContents m' c (Proc.devRef .tc Cert.Reference10Ideal.main_arg13) = A13 m c := (hag c).2.2.2.2.2.2.2.2.2.2.2.2.2.1
      have a14 : StableHlo.launchContents m' c (Proc.devRef .tc Cert.Reference10Ideal.main_arg14) = A14 m c := (hag c).2.2.2.2.2.2.2.2.2.2.2.2.2.2.1
      have a15 : StableHlo.launchContents m' c (Proc.devRef .tc Cert.Reference10Ideal.main_arg15) = A15 m c := (hag c).2.2.2.2.2.2.2.2.2.2.2.2.2.2.2
      refine ⟨h0.trans ((Cert.Reference10Ideal.Read.val_main_v168_eq ..).trans ?_), h1.trans ((Cert.Reference10Ideal.Read.val_main_v170_eq ..).trans ?_), h2.trans ((Cert.Reference10Ideal.Read.val_main_v172_eq ..).trans ?_), h3.trans ((Cert.Reference10Ideal.Read.val_main_v174_eq ..).trans ?_), h4.trans ((Cert.Reference10Ideal.Read.val_main_v176_eq ..).trans ?_), h5.trans ((Cert.Reference10Ideal.Read.val_main_v178_eq ..).trans ?_), h6.trans ((Cert.Reference10Ideal.Read.val_main_v180_eq ..).trans ?_), h7.trans ((Cert.Reference10Ideal.Read.val_main_v182_eq ..).trans ?_), h8.trans ((Cert.Reference10Ideal.Read.val_main_v183_eq ..).trans ?_), h9.trans ((Cert.Reference10Ideal.Read.val_main_v184_eq ..).trans ?_), hr⟩
 <;> simp only [a0, a1, a2, a3, a4, a5, a6, a7, a8, a9, a10, a11, a12, a13, a14, a15]
    ) (Cert.Reference10Ideal.Value.run m' ρ')⟩

end Cert.PreArray

end
-- ==== Proof.FfnBlock.lean ====
/- One block of the convolution-gated MLP kernel: the eleven stores into its scratch and the store of its result read as
   one function of the block's index. -/
module

public import proofs.«01_k».proof.Proof.FfnTile
public import proofs.«01_k».proof.Proof.Gen.Kernel2Ideal.Frame
public import Idealize.ShloMosaic.Lib.Pipeline.ValueKit.Tiles
public import Idealize.ShloMosaic.Lib.WholeRead

@[expose] public section

noncomputable section

namespace Cert.FfnBlock

open Cert.Kernel2Ideal Cert.Kernel2Ideal.Gen Cert.Ffn Cert.FfnTile Idealize.ShloMosaic Idealize.ShloMosaic.ValueIdx

variable (n : Fin 128) (x0 : Vec Ideal S512x1024 .f32) (x1 x2 : Vec Ideal S8x1024 .f32) (x3 : Vec Ideal S1x1024 .f32)
  (x4 : Vec Ideal S1024x5632 .bf16) (x5 : Vec Ideal S3x5632 .f32) (x6 : Vec Ideal S1x5632 .f32) (x7 : Vec Ideal S2816x1024 .bf16)

/-- The convolved channels of row `r` of the block. -/
def chan (r : Fin 512) : Fin 5632 → EReal :=
  tap (fun a f => x5 (ix2 a f)) (fun f => x6 (ix2 0 f))
    (lin (fun k => x3 (ix2 0 k)) (fun k f => x4 (ix2 k f)) (prevRow n x0 x1 r))
    (lin (fun k => x3 (ix2 0 k)) (fun k f => x4 (ix2 k f)) (fun k => x0 (ix2 r k)))
    (lin (fun k => x3 (ix2 0 k)) (fun k f => x4 (ix2 k f)) (nextRow n x0 x2 r))

/-- What the scratch holds once the eleven stores are made: the gated products. -/
def hidVal : Vec Ideal S512x2816 .bf16 := fun y => hid (chan n x0 x1 x2 x3 x4 x5 x6 (y 0)) (y 1)

/-- What the block's result holds. -/
def blockVal : Vec Ideal S512x1024 .f32 := fun y =>
  out (fun j e => x7 (ix2 j e)) (chan n x0 x1 x2 x3 x4 x5 x6 (y 0)) (fun e => x0 (ix2 (y 0) e)) (y 1)

/-- The convolution of 256 columns of the first product, the columns standing at `o` among the channels. -/
theorem conv_chan (o : Nat) (ho : o + 256 ≤ 5632) (w : Vec Ideal S1024x256 .bf16) (cw : Vec Ideal S3x256 .f32) (cb : Vec Ideal S1x256 .f32)
    (hw : ∀ k (l : Fin 256), w (ix2 k l) = x4 (ix2 k ⟨o + l.val, by omega⟩)) (hc : ∀ a (l : Fin 256), cw (ix2 a l) = x5 (ix2 a ⟨o + l.val, by omega⟩))
    (hb : ∀ l : Fin 256, cb (ix2 0 l) = x6 (ix2 0 ⟨o + l.val, by omega⟩)) (r : Fin 512) (l : Fin 256) :
    k0_pay25 (k0_pay19 (normed (ext n.val x0 x1 x2) x3) w) cw cb (ix2 r l) = chan n x0 x1 x2 x3 x4 x5 x6 r ⟨o + l.val, by omega⟩ := by
  have hl : ∀ q : Fin 528, k0_pay19 (normed (ext n.val x0 x1 x2) x3) w (ix2 q l)
      = lin (fun k => x3 (ix2 0 k)) (fun k f => x4 (ix2 k f)) (fun k => ext n.val x0 x1 x2 (ix2 q k)) ⟨o + l.val, by omega⟩ := fun q => by
    rw [proj_apply]
    unfold lin
    exact Finset.sum_congr rfl fun k _ => by rw [normed_apply, hw]
  rw [conv_apply, hl, hl, hl, ext_before, ext_self, ext_after, hc, hc, hc, hb]
  rfl

/-- A store into the scratch is the gated product on the rectangle it is stored at. -/
theorem piece (o : Nat) (ho : o + 256 ≤ 2816) (wg wv : Vec Ideal S1024x256 .bf16) (cg cv : Vec Ideal S3x256 .f32) (bg bv : Vec Ideal S1x256 .f32)
    (hwg : ∀ k (l : Fin 256), wg (ix2 k l) = x4 (ix2 k ⟨o + l.val, by omega⟩)) (hwv : ∀ k (l : Fin 256), wv (ix2 k l) = x4 (ix2 k ⟨2816 + o + l.val, by omega⟩))
    (hcg : ∀ a (l : Fin 256), cg (ix2 a l) = x5 (ix2 a ⟨o + l.val, by omega⟩)) (hcv : ∀ a (l : Fin 256), cv (ix2 a l) = x5 (ix2 a ⟨2816 + o + l.val, by omega⟩))
    (hbg : ∀ l : Fin 256, bg (ix2 0 l) = x6 (ix2 0 ⟨o + l.val, by omega⟩)) (hbv : ∀ l : Fin 256, bv (ix2 0 l) = x6 (ix2 0 ⟨2816 + o + l.val, by omega⟩))
    (inb : ∀ a, (![0, o] : Fin 2 → Nat) a + S512x256.size a ≤ S512x2816.size a) (x : S512x256.Idx) :
    chunk (normed (ext n.val x0 x1 x2) x3) wg wv cg cv bg bv x
      = hidVal n x0 x1 x2 x3 x4 x5 x6 ((Rect.unit (s := S512x2816) ![0, o] S512x256.size inb).emb x) := by
  obtain ⟨r, l, rfl⟩ : ∃ (r : Fin 512) (l : Fin 256), x = ix2 r l := ⟨x 0, x 1, funext fun | ⟨0, _⟩ => rfl | ⟨1, _⟩ => rfl⟩
  have hy : (Rect.unit (s := S512x2816) ![0, o] S512x256.size inb).emb (ix2 r l) = ix2 r ⟨o + l.val, by omega⟩ := funext fun a => Fin.ext (match a with
    | ⟨0, _⟩ => by show 0 + 1 * r.val = r.val; omega
    | ⟨1, _⟩ => by show o + 1 * l.val = o + l.val; omega)
  rw [hy]
  unfold chunk
  rw [gated_apply, conv_chan n x0 x1 x2 x3 x4 x5 x6 o (by omega) wg cg bg hwg hcg hbg, conv_chan n x0 x1 x2 x3 x4 x5 x6 (2816 + o) (by omega) wv cv bv hwv hcv hbv]
  unfold hidVal hid
  have e : (⟨2816 + o + l.val, by omega⟩ : Fin 5632) = ⟨2816 + (o + l.val), by omega⟩ := Fin.ext (by show 2816 + o + l.val = 2816 + (o + l.val); omega)
  rw [e]

/-- Eleven stores side by side that agree with `H` leave `H`. -/
theorem scratch (P : Fin 11 → Vec Ideal S512x256 .bf16) (H : Vec Ideal S512x2816 .bf16)
    (hP : ∀ (k : Fin 11) (x : S512x256.Idx), P k x = H (ix2 (x 0) ⟨256 * k.val + (x 1).val, by have := (x 1).isLt; change (x 1).val < 256 at this; omega⟩)) :
    View.canon ([⟨Rect.unit (s := S512x2816) ![0, 2560] S512x256.size inb_S512x2816_S512x256_0_2560, P 10⟩,
      ⟨Rect.unit (s := S512x2816) ![0, 2304] S512x256.size inb_S512x2816_S512x256_0_2304, P 9⟩,
      ⟨Rect.unit (s := S512x2816) ![0, 2048] S512x256.size inb_S512x2816_S512x256_0_2048, P 8⟩,
      ⟨Rect.unit (s := S512x2816) ![0, 1792] S512x256.size inb_S512x2816_S512x256_0_1792, P 7⟩,
      ⟨Rect.unit (s := S512x2816) ![0, 1536] S512x256.size inb_S512x2816_S512x256_0_1536, P 6⟩,
      ⟨Rect.unit (s := S512x2816) ![0, 1280] S512x256.size inb_S512x2816_S512x256_0_1280, P 5⟩,
      ⟨Rect.unit (s := S512x2816) ![0, 1024] S512x256.size inb_S512x2816_S512x256_0_1024, P 4⟩,
      ⟨Rect.unit (s := S512x2816) ![0, 768] S512x256.size inb_S512x2816_S512x256_0_768, P 3⟩,
      ⟨Rect.unit (s := S512x2816) ![0, 512] S512x256.size inb_S512x2816_S512x256_0_512, P 2⟩,
      ⟨Rect.unit (s := S512x2816) ![0, 256] S512x256.size inb_S512x2816_S512x256_0_256, P 1⟩,
      ⟨Rect.unit (s := S512x2816) ![0, 0] S512x256.size inb_S512x2816_S512x256_0_0, P 0⟩] : List (View.Piece (Elt Ideal) S512x2816 .bf16)) = H := by
  funext y
  refine View.canon_apply_of_pieces H _ ?_ y (View.cover_of_tiledL (s := S512x2816) _ S512x256.size (by sl_kernel_rfl) y)
  intro p hp x
  simp only [List.mem_cons, List.not_mem_nil, or_false] at hp
  have he : ∀ (o : Nat) (inb : ∀ a, (![0, o] : Fin 2 → Nat) a + S512x256.size a ≤ S512x2816.size a) (k : Fin 11), o = 256 * k.val → ∀ x : S512x256.Idx,
      P k x = H ((Rect.unit (s := S512x2816) ![0, o] S512x256.size inb).emb x) := fun o inb k ho x =>  (hP k x).trans (congrArg H (funext fun a => Fin.ext (match a with
        | ⟨0, _⟩ => by show (x 0).val = 0 + 1 * (x 0).val; omega
        | ⟨1, _⟩ => by show 256 * k.val + (x 1).val = o + 1 * (x 1).val; omega)))
  rcases hp with rfl | rfl | rfl | rfl | rfl | rfl | rfl | rfl | rfl | rfl | rfl
  · exact he 2560 inb_S512x2816_S512x256_0_2560 10 rfl x
  · exact he 2304 inb_S512x2816_S512x256_0_2304 9 rfl x
  · exact he 2048 inb_S512x2816_S512x256_0_2048 8 rfl x
  · exact he 1792 inb_S512x2816_S512x256_0_1792 7 rfl x
  · exact he 1536 inb_S512x2816_S512x256_0_1536 6 rfl x
  · exact he 1280 inb_S512x2816_S512x256_0_1280 5 rfl x
  · exact he 1024 inb_S512x2816_S512x256_0_1024 4 rfl x
  · exact he 768 inb_S512x2816_S512x256_0_768 3 rfl x
  · exact he 512 inb_S512x2816_S512x256_0_512 2 rfl x
  · exact he 256 inb_S512x2816_S512x256_0_256 1 rfl x
  · exact he 0 inb_S512x2816_S512x256_0_0 0 rfl x

variable {sg : RefSig}

/-- The normed rows of the block, from the kernel's own loads. -/
def rows (n : Nat) (a1 : Memref sg .tc .vmem S512x1024 .f32) (w1 : a1.IsWhole) (a2 : Memref sg .tc .vmem S8x1024 .f32) (w2 : a2.IsWhole) (a3 : Memref sg .tc .vmem S8x1024 .f32) (w3 : a3.IsWhole) (a4 : Memref sg .tc .vmem S1x1024 .f32) (w4 : a4.IsWhole) : FVec Ideal S528x1024 .bf16 :=
  normed (ext n (View.readAt (Elt Ideal) a1.view (Rect.unit (s := S512x1024) ![0, 0] S512x1024.size inb_S512x1024_S512x1024_0_0).toLoadRect (w1.unread x0))
      (View.readAt (Elt Ideal) a2.view (Rect.unit (s := S8x1024) ![0, 0] S8x1024.size inb_S8x1024_S8x1024_0_0).toLoadRect (w2.unread x1))
      (View.readAt (Elt Ideal) a3.view (Rect.unit (s := S8x1024) ![0, 0] S8x1024.size inb_S8x1024_S8x1024_0_0).toLoadRect (w3.unread x2)))
    (View.readAt (Elt Ideal) a4.view (Rect.unit (s := S1x1024) ![0, 0] S1x1024.size inb_S1x1024_S1x1024_0_0).toLoadRect (w4.unread x3))

/-- A load of a whole memref at its origin is what it holds. -/
theorem ldAll {a b : Nat} {e : EltTy} (arg : Memref sg .tc .vmem (⟨2, ![a, b]⟩ : Shape) e) (harg : arg.IsWhole) (X : Vec Ideal (⟨2, ![a, b]⟩ : Shape) e)
    (inb : ∀ x, (![0, 0] : Fin 2 → Nat) x + (⟨2, ![a, b]⟩ : Shape).size x ≤ (⟨2, ![a, b]⟩ : Shape).size x) :
    View.readAt (Elt Ideal) arg.view (Rect.unit (s := (⟨2, ![a, b]⟩ : Shape)) ![0, 0] (⟨2, ![a, b]⟩ : Shape).size inb).toLoadRect (harg.unread X) = X :=
  funext fun y => (Memref.IsWhole.readAt_unread harg X _ y).trans (congrArg X (funext fun x => Fin.ext (match x with
    | ⟨0, _⟩ => by show 0 + 1 * (y 0).val = (y 0).val; omega
    | ⟨1, _⟩ => by show 0 + 1 * (y 1).val = (y 1).val; omega)))

/-- A load of 256 columns of a whole memref at an index. -/
theorem ld {a b : Nat} {e : EltTy} (arg : Memref sg .tc .vmem (⟨2, ![a, b]⟩ : Shape) e) (harg : arg.IsWhole) (X : Vec Ideal (⟨2, ![a, b]⟩ : Shape) e) (o : Nat)
    (inb : ∀ x, (![0, o] : Fin 2 → Nat) x + (⟨2, ![a, 256]⟩ : Shape).size x ≤ (⟨2, ![a, b]⟩ : Shape).size x) (k : Fin a) (l : Fin 256) :
    View.readAt (Elt Ideal) arg.view (Rect.unit (s := (⟨2, ![a, b]⟩ : Shape)) ![0, o] (⟨2, ![a, 256]⟩ : Shape).size inb).toLoadRect (harg.unread X) (ix2 k l)
      = X (ix2 k ⟨o + l.val, by have := inb 1; change o + 256 ≤ b at this; omega⟩) :=
  (Memref.IsWhole.readAt_unread harg X _ _).trans (congrArg X (funext fun x => Fin.ext (match x with
    | ⟨0, _⟩ => by show 0 + 1 * k.val = k.val; omega
    | ⟨1, _⟩ => by show o + 1 * l.val = o + l.val; omega)))

/-- What the kernel stores into its scratch, chunk by chunk, of the normed rows. -/
def chunks (X : FVec Ideal S528x1024 .bf16) (a5 : Memref sg .tc .vmem S1024x5632 .bf16) (w5 : a5.IsWhole) (a6 : Memref sg .tc .vmem S3x5632 .f32) (w6 : a6.IsWhole) (a7 : Memref sg .tc .vmem S1x5632 .f32) (w7 : a7.IsWhole)
    (k : Fin 11) : Vec Ideal S512x256 .bf16 :=
  match k with
    | ⟨0, _⟩ => chunk X
        (View.readAt (Elt Ideal) a5.view (Rect.unit (s := S1024x5632) ![0, 0] S1024x256.size inb_S1024x5632_S1024x256_0_0).toLoadRect (w5.unread x4))
        (View.readAt (Elt Ideal) a5.view (Rect.unit (s := S1024x5632) ![0, 2816] S1024x256.size inb_S1024x5632_S1024x256_0_2816).toLoadRect (w5.unread x4))
        (View.readAt (Elt Ideal) a6.view (Rect.unit (s := S3x5632) ![0, 0] S3x256.size inb_S3x5632_S3x256_0_0).toLoadRect (w6.unread x5))
        (View.readAt (Elt Ideal) a6.view (Rect.unit (s := S3x5632) ![0, 2816] S3x256.size inb_S3x5632_S3x256_0_2816).toLoadRect (w6.unread x5))
        (View.readAt (Elt Ideal) a7.view (Rect.unit (s := S1x5632) ![0, 0] S1x256.size inb_S1x5632_S1x256_0_0).toLoadRect (w7.unread x6))
        (View.readAt (Elt Ideal) a7.view (Rect.unit (s := S1x5632) ![0, 2816] S1x256.size inb_S1x5632_S1x256_0_2816).toLoadRect (w7.unread x6))
    | ⟨1, _⟩ => chunk X
        (View.readAt (Elt Ideal) a5.view (Rect.unit (s := S1024x5632) ![0, 256] S1024x256.size inb_S1024x5632_S1024x256_0_256).toLoadRect (w5.unread x4))
        (View.readAt (Elt Ideal) a5.view (Rect.unit (s := S1024x5632) ![0, 3072] S1024x256.size inb_S1024x5632_S1024x256_0_3072).toLoadRect (w5.unread x4))
        (View.readAt (Elt Ideal) a6.view (Rect.unit (s := S3x5632) ![0, 256] S3x256.size inb_S3x5632_S3x256_0_256).toLoadRect (w6.unread x5))
        (View.readAt (Elt Ideal) a6.view (Rect.unit (s := S3x5632) ![0, 3072] S3x256.size inb_S3x5632_S3x256_0_3072).toLoadRect (w6.unread x5))
        (View.readAt (Elt Ideal) a7.view (Rect.unit (s := S1x5632) ![0, 256] S1x256.size inb_S1x5632_S1x256_0_256).toLoadRect (w7.unread x6))
        (View.readAt (Elt Ideal) a7.view (Rect.unit (s := S1x5632) ![0, 3072] S1x256.size inb_S1x5632_S1x256_0_3072).toLoadRect (w7.unread x6))
    | ⟨2, _⟩ => chunk X
        (View.readAt (Elt Ideal) a5.view (Rect.unit (s := S1024x5632) ![0, 512] S1024x256.size inb_S1024x5632_S1024x256_0_512).toLoadRect (w5.unread x4))
        (View.readAt (Elt Ideal) a5.view (Rect.unit (s := S1024x5632) ![0, 3328] S1024x256.size inb_S1024x5632_S1024x256_0_3328).toLoadRect (w5.unread x4))
        (View.readAt (Elt Ideal) a6.view (Rect.unit (s := S3x5632) ![0, 512] S3x256.size inb_S3x5632_S3x256_0_512).toLoadRect (w6.unread x5))
        (View.readAt (Elt Ideal) a6.view (Rect.unit (s := S3x5632) ![0, 3328] S3x256.size inb_S3x5632_S3x256_0_3328).toLoadRect (w6.unread x5))
        (View.readAt (Elt Ideal) a7.view (Rect.unit (s := S1x5632) ![0, 512] S1x256.size inb_S1x5632_S1x256_0_512).toLoadRect (w7.unread x6))
        (View.readAt (Elt Ideal) a7.view (Rect.unit (s := S1x5632) ![0, 3328] S1x256.size inb_S1x5632_S1x256_0_3328).toLoadRect (w7.unread x6))
    | ⟨3, _⟩ => chunk X
        (View.readAt (Elt Ideal) a5.view (Rect.unit (s := S1024x5632) ![0, 768] S1024x256.size inb_S1024x5632_S1024x256_0_768).toLoadRect (w5.unread x4))
        (View.readAt (Elt Ideal) a5.view (Rect.unit (s := S1024x5632) ![0, 3584] S1024x256.size inb_S1024x5632_S1024x256_0_3584).toLoadRect (w5.unread x4))
        (View.readAt (Elt Ideal) a6.view (Rect.unit (s := S3x5632) ![0, 768] S3x256.size inb_S3x5632_S3x256_0_768).toLoadRect (w6.unread x5))
        (View.readAt (Elt Ideal) a6.view (Rect.unit (s := S3x5632) ![0, 3584] S3x256.size inb_S3x5632_S3x256_0_3584).toLoadRect (w6.unread x5))
        (View.readAt (Elt Ideal) a7.view (Rect.unit (s := S1x5632) ![0, 768] S1x256.size inb_S1x5632_S1x256_0_768).toLoadRect (w7.unread x6))
        (View.readAt (Elt Ideal) a7.view (Rect.unit (s := S1x5632) ![0, 3584] S1x256.size inb_S1x5632_S1x256_0_3584).toLoadRect (w7.unread x6))
    | ⟨4, _⟩ => chunk X
        (View.readAt (Elt Ideal) a5.view (Rect.unit (s := S1024x5632) ![0, 1024] S1024x256.size inb_S1024x5632_S1024x256_0_1024).toLoadRect (w5.unread x4))
        (View.readAt (Elt Ideal) a5.view (Rect.unit (s := S1024x5632) ![0, 3840] S1024x256.size inb_S1024x5632_S1024x256_0_3840).toLoadRect (w5.unread x4))
        (View.readAt (Elt Ideal) a6.view (Rect.unit (s := S3x5632) ![0, 1024] S3x256.size inb_S3x5632_S3x256_0_1024).toLoadRect (w6.unread x5))
        (View.readAt (Elt Ideal) a6.view (Rect.unit (s := S3x5632) ![0, 3840] S3x256.size inb_S3x5632_S3x256_0_3840).toLoadRect (w6.unread x5))
        (View.readAt (Elt Ideal) a7.view (Rect.unit (s := S1x5632) ![0, 1024] S1x256.size inb_S1x5632_S1x256_0_1024).toLoadRect (w7.unread x6))
        (View.readAt (Elt Ideal) a7.view (Rect.unit (s := S1x5632) ![0, 3840] S1x256.size inb_S1x5632_S1x256_0_3840).toLoadRect (w7.unread x6))
    | ⟨5, _⟩ => chunk X
        (View.readAt (Elt Ideal) a5.view (Rect.unit (s := S1024x5632) ![0, 1280] S1024x256.size inb_S1024x5632_S1024x256_0_1280).toLoadRect (w5.unread x4))
        (View.readAt (Elt Ideal) a5.view (Rect.unit (s := S1024x5632) ![0, 4096] S1024x256.size inb_S1024x5632_S1024x256_0_4096).toLoadRect (w5.unread x4))
        (View.readAt (Elt Ideal) a6.view (Rect.unit (s := S3x5632) ![0, 1280] S3x256.size inb_S3x5632_S3x256_0_1280).toLoadRect (w6.unread x5))
        (View.readAt (Elt Ideal) a6.view (Rect.unit (s := S3x5632) ![0, 4096] S3x256.size inb_S3x5632_S3x256_0_4096).toLoadRect (w6.unread x5))
        (View.readAt (Elt Ideal) a7.view (Rect.unit (s := S1x5632) ![0, 1280] S1x256.size inb_S1x5632_S1x256_0_1280).toLoadRect (w7.unread x6))
        (View.readAt (Elt Ideal) a7.view (Rect.unit (s := S1x5632) ![0, 4096] S1x256.size inb_S1x5632_S1x256_0_4096).toLoadRect (w7.unread x6))
    | ⟨6, _⟩ => chunk X
        (View.readAt (Elt Ideal) a5.view (Rect.unit (s := S1024x5632) ![0, 1536] S1024x256.size inb_S1024x5632_S1024x256_0_1536).toLoadRect (w5.unread x4))
        (View.readAt (Elt Ideal) a5.view (Rect.unit (s := S1024x5632) ![0, 4352] S1024x256.size inb_S1024x5632_S1024x256_0_4352).toLoadRect (w5.unread x4))
        (View.readAt (Elt Ideal) a6.view (Rect.unit (s := S3x5632) ![0, 1536] S3x256.size inb_S3x5632_S3x256_0_1536).toLoadRect (w6.unread x5))
        (View.readAt (Elt Ideal) a6.view (Rect.unit (s := S3x5632) ![0, 4352] S3x256.size inb_S3x5632_S3x256_0_4352).toLoadRect (w6.unread x5))
        (View.readAt (Elt Ideal) a7.view (Rect.unit (s := S1x5632) ![0, 1536] S1x256.size inb_S1x5632_S1x256_0_1536).toLoadRect (w7.unread x6))
        (View.readAt (Elt Ideal) a7.view (Rect.unit (s := S1x5632) ![0, 4352] S1x256.size inb_S1x5632_S1x256_0_4352).toLoadRect (w7.unread x6))
    | ⟨7, _⟩ => chunk X
        (View.readAt (Elt Ideal) a5.view (Rect.unit (s := S1024x5632) ![0, 1792] S1024x256.size inb_S1024x5632_S1024x256_0_1792).toLoadRect (w5.unread x4))
        (View.readAt (Elt Ideal) a5.view (Rect.unit (s := S1024x5632) ![0, 4608] S1024x256.size inb_S1024x5632_S1024x256_0_4608).toLoadRect (w5.unread x4))
        (View.readAt (Elt Ideal) a6.view (Rect.unit (s := S3x5632) ![0, 1792] S3x256.size inb_S3x5632_S3x256_0_1792).toLoadRect (w6.unread x5))
        (View.readAt (Elt Ideal) a6.view (Rect.unit (s := S3x5632) ![0, 4608] S3x256.size inb_S3x5632_S3x256_0_4608).toLoadRect (w6.unread x5))
        (View.readAt (Elt Ideal) a7.view (Rect.unit (s := S1x5632) ![0, 1792] S1x256.size inb_S1x5632_S1x256_0_1792).toLoadRect (w7.unread x6))
        (View.readAt (Elt Ideal) a7.view (Rect.unit (s := S1x5632) ![0, 4608] S1x256.size inb_S1x5632_S1x256_0_4608).toLoadRect (w7.unread x6))
    | ⟨8, _⟩ => chunk X
        (View.readAt (Elt Ideal) a5.view (Rect.unit (s := S1024x5632) ![0, 2048] S1024x256.size inb_S1024x5632_S1024x256_0_2048).toLoadRect (w5.unread x4))
        (View.readAt (Elt Ideal) a5.view (Rect.unit (s := S1024x5632) ![0, 4864] S1024x256.size inb_S1024x5632_S1024x256_0_4864).toLoadRect (w5.unread x4))
        (View.readAt (Elt Ideal) a6.view (Rect.unit (s := S3x5632) ![0, 2048] S3x256.size inb_S3x5632_S3x256_0_2048).toLoadRect (w6.unread x5))
        (View.readAt (Elt Ideal) a6.view (Rect.unit (s := S3x5632) ![0, 4864] S3x256.size inb_S3x5632_S3x256_0_4864).toLoadRect (w6.unread x5))
        (View.readAt (Elt Ideal) a7.view (Rect.unit (s := S1x5632) ![0, 2048] S1x256.size inb_S1x5632_S1x256_0_2048).toLoadRect (w7.unread x6))
        (View.readAt (Elt Ideal) a7.view (Rect.unit (s := S1x5632) ![0, 4864] S1x256.size inb_S1x5632_S1x256_0_4864).toLoadRect (w7.unread x6))
    | ⟨9, _⟩ => chunk X
        (View.readAt (Elt Ideal) a5.view (Rect.unit (s := S1024x5632) ![0, 2304] S1024x256.size inb_S1024x5632_S1024x256_0_2304).toLoadRect (w5.unread x4))
        (View.readAt (Elt Ideal) a5.view (Rect.unit (s := S1024x5632) ![0, 5120] S1024x256.size inb_S1024x5632_S1024x256_0_5120).toLoadRect (w5.unread x4))
        (View.readAt (Elt Ideal) a6.view (Rect.unit (s := S3x5632) ![0, 2304] S3x256.size inb_S3x5632_S3x256_0_2304).toLoadRect (w6.unread x5))
        (View.readAt (Elt Ideal) a6.view (Rect.unit (s := S3x5632) ![0, 5120] S3x256.size inb_S3x5632_S3x256_0_5120).toLoadRect (w6.unread x5))
        (View.readAt (Elt Ideal) a7.view (Rect.unit (s := S1x5632) ![0, 2304] S1x256.size inb_S1x5632_S1x256_0_2304).toLoadRect (w7.unread x6))
        (View.readAt (Elt Ideal) a7.view (Rect.unit (s := S1x5632) ![0, 5120] S1x256.size inb_S1x5632_S1x256_0_5120).toLoadRect (w7.unread x6))
    | ⟨10, _⟩ => chunk X
        (View.readAt (Elt Ideal) a5.view (Rect.unit (s := S1024x5632) ![0, 2560] S1024x256.size inb_S1024x5632_S1024x256_0_2560).toLoadRect (w5.unread x4))
        (View.readAt (Elt Ideal) a5.view (Rect.unit (s := S1024x5632) ![0, 5376] S1024x256.size inb_S1024x5632_S1024x256_0_5376).toLoadRect (w5.unread x4))
        (View.readAt (Elt Ideal) a6.view (Rect.unit (s := S3x5632) ![0, 2560] S3x256.size inb_S3x5632_S3x256_0_2560).toLoadRect (w6.unread x5))
        (View.readAt (Elt Ideal) a6.view (Rect.unit (s := S3x5632) ![0, 5376] S3x256.size inb_S3x5632_S3x256_0_5376).toLoadRect (w6.unread x5))
        (View.readAt (Elt Ideal) a7.view (Rect.unit (s := S1x5632) ![0, 2560] S1x256.size inb_S1x5632_S1x256_0_2560).toLoadRect (w7.unread x6))
        (View.readAt (Elt Ideal) a7.view (Rect.unit (s := S1x5632) ![0, 5376] S1x256.size inb_S1x5632_S1x256_0_5376).toLoadRect (w7.unread x6))

/-- The chunks are the gated products. -/
theorem chunks_eq (a5 : Memref sg .tc .vmem S1024x5632 .bf16) (w5 : a5.IsWhole) (a6 : Memref sg .tc .vmem S3x5632 .f32) (w6 : a6.IsWhole) (a7 : Memref sg .tc .vmem S1x5632 .f32) (w7 : a7.IsWhole)
    (k : Fin 11) (x : S512x256.Idx) : chunks x4 x5 x6 (normed (ext n.val x0 x1 x2) x3) a5 w5 a6 w6 a7 w7 k x
      = hidVal n x0 x1 x2 x3 x4 x5 x6 (ix2 (x 0) ⟨256 * k.val + (x 1).val, by have := (x 1).isLt; change (x 1).val < 256 at this; omega⟩) := by
  match k with
    | ⟨0, _⟩ => exact (piece n x0 x1 x2 x3 x4 x5 x6 0 (by decide) _ _ _ _ _ _ (ld a5 w5 x4 0 _) (ld a5 w5 x4 2816 _) (ld a6 w6 x5 0 _) (ld a6 w6 x5 2816 _) (ld a7 w7 x6 0 _ 0) (ld a7 w7 x6 2816 _ 0) inb_S512x2816_S512x256_0_0 x).trans (congrArg (hidVal n x0 x1 x2 x3 x4 x5 x6) (funext fun a => Fin.ext (match a with | ⟨0, _⟩ => by show 0 + 1 * (x 0).val = (x 0).val; omega | ⟨1, _⟩ => by show 0 + 1 * (x 1).val = 256 * 0 + (x 1).val; omega)))
    | ⟨1, _⟩ => exact (piece n x0 x1 x2 x3 x4 x5 x6 256 (by decide) _ _ _ _ _ _ (ld a5 w5 x4 256 _) (ld a5 w5 x4 3072 _) (ld a6 w6 x5 256 _) (ld a6 w6 x5 3072 _) (ld a7 w7 x6 256 _ 0) (ld a7 w7 x6 3072 _ 0) inb_S512x2816_S512x256_0_256 x).trans (congrArg (hidVal n x0 x1 x2 x3 x4 x5 x6) (funext fun a => Fin.ext (match a with | ⟨0, _⟩ => by show 0 + 1 * (x 0).val = (x 0).val; omega | ⟨1, _⟩ => by show 256 + 1 * (x 1).val = 256 * 1 + (x 1).val; omega)))
    | ⟨2, _⟩ => exact (piece n x0 x1 x2 x3 x4 x5 x6 512 (by decide) _ _ _ _ _ _ (ld a5 w5 x4 512 _) (ld a5 w5 x4 3328 _) (ld a6 w6 x5 512 _) (ld a6 w6 x5 3328 _) (ld a7 w7 x6 512 _ 0) (ld a7 w7 x6 3328 _ 0) inb_S512x2816_S512x256_0_512 x).trans (congrArg (hidVal n x0 x1 x2 x3 x4 x5 x6) (funext fun a => Fin.ext (match a with | ⟨0, _⟩ => by show 0 + 1 * (x 0).val = (x 0).val; omega | ⟨1, _⟩ => by show 512 + 1 * (x 1).val = 256 * 2 + (x 1).val; omega)))
    | ⟨3, _⟩ => exact (piece n x0 x1 x2 x3 x4 x5 x6 768 (by decide) _ _ _ _ _ _ (ld a5 w5 x4 768 _) (ld a5 w5 x4 3584 _) (ld a6 w6 x5 768 _) (ld a6 w6 x5 3584 _) (ld a7 w7 x6 768 _ 0) (ld a7 w7 x6 3584 _ 0) inb_S512x2816_S512x256_0_768 x).trans (congrArg (hidVal n x0 x1 x2 x3 x4 x5 x6) (funext fun a => Fin.ext (match a with | ⟨0, _⟩ => by show 0 + 1 * (x 0).val = (x 0).val; omega | ⟨1, _⟩ => by show 768 + 1 * (x 1).val = 256 * 3 + (x 1).val; omega)))
    | ⟨4, _⟩ => exact (piece n x0 x1 x2 x3 x4 x5 x6 1024 (by decide) _ _ _ _ _ _ (ld a5 w5 x4 1024 _) (ld a5 w5 x4 3840 _) (ld a6 w6 x5 1024 _) (ld a6 w6 x5 3840 _) (ld a7 w7 x6 1024 _ 0) (ld a7 w7 x6 3840 _ 0) inb_S512x2816_S512x256_0_1024 x).trans (congrArg (hidVal n x0 x1 x2 x3 x4 x5 x6) (funext fun a => Fin.ext (match a with | ⟨0, _⟩ => by show 0 + 1 * (x 0).val = (x 0).val; omega | ⟨1, _⟩ => by show 1024 + 1 * (x 1).val = 256 * 4 + (x 1).val; omega)))
    | ⟨5, _⟩ => exact (piece n x0 x1 x2 x3 x4 x5 x6 1280 (by decide) _ _ _ _ _ _ (ld a5 w5 x4 1280 _) (ld a5 w5 x4 4096 _) (ld a6 w6 x5 1280 _) (ld a6 w6 x5 4096 _) (ld a7 w7 x6 1280 _ 0) (ld a7 w7 x6 4096 _ 0) inb_S512x2816_S512x256_0_1280 x).trans (congrArg (hidVal n x0 x1 x2 x3 x4 x5 x6) (funext fun a => Fin.ext (match a with | ⟨0, _⟩ => by show 0 + 1 * (x 0).val = (x 0).val; omega | ⟨1, _⟩ => by show 1280 + 1 * (x 1).val = 256 * 5 + (x 1).val; omega)))
    | ⟨6, _⟩ => exact (piece n x0 x1 x2 x3 x4 x5 x6 1536 (by decide) _ _ _ _ _ _ (ld a5 w5 x4 1536 _) (ld a5 w5 x4 4352 _) (ld a6 w6 x5 1536 _) (ld a6 w6 x5 4352 _) (ld a7 w7 x6 1536 _ 0) (ld a7 w7 x6 4352 _ 0) inb_S512x2816_S512x256_0_1536 x).trans (congrArg (hidVal n x0 x1 x2 x3 x4 x5 x6) (funext fun a => Fin.ext (match a with | ⟨0, _⟩ => by show 0 + 1 * (x 0).val = (x 0).val; omega | ⟨1, _⟩ => by show 1536 + 1 * (x 1).val = 256 * 6 + (x 1).val; omega)))
    | ⟨7, _⟩ => exact (piece n x0 x1 x2 x3 x4 x5 x6 1792 (by decide) _ _ _ _ _ _ (ld a5 w5 x4 1792 _) (ld a5 w5 x4 4608 _) (ld a6 w6 x5 1792 _) (ld a6 w6 x5 4608 _) (ld a7 w7 x6 1792 _ 0) (ld a7 w7 x6 4608 _ 0) inb_S512x2816_S512x256_0_1792 x).trans (congrArg (hidVal n x0 x1 x2 x3 x4 x5 x6) (funext fun a => Fin.ext (match a with | ⟨0, _⟩ => by show 0 + 1 * (x 0).val = (x 0).val; omega | ⟨1, _⟩ => by show 1792 + 1 * (x 1).val = 256 * 7 + (x 1).val; omega)))
    | ⟨8, _⟩ => exact (piece n x0 x1 x2 x3 x4 x5 x6 2048 (by decide) _ _ _ _ _ _ (ld a5 w5 x4 2048 _) (ld a5 w5 x4 4864 _) (ld a6 w6 x5 2048 _) (ld a6 w6 x5 4864 _) (ld a7 w7 x6 2048 _ 0) (ld a7 w7 x6 4864 _ 0) inb_S512x2816_S512x256_0_2048 x).trans (congrArg (hidVal n x0 x1 x2 x3 x4 x5 x6) (funext fun a => Fin.ext (match a with | ⟨0, _⟩ => by show 0 + 1 * (x 0).val = (x 0).val; omega | ⟨1, _⟩ => by show 2048 + 1 * (x 1).val = 256 * 8 + (x 1).val; omega)))
    | ⟨9, _⟩ => exact (piece n x0 x1 x2 x3 x4 x5 x6 2304 (by decide) _ _ _ _ _ _ (ld a5 w5 x4 2304 _) (ld a5 w5 x4 5120 _) (ld a6 w6 x5 2304 _) (ld a6 w6 x5 5120 _) (ld a7 w7 x6 2304 _ 0) (ld a7 w7 x6 5120 _ 0) inb_S512x2816_S512x256_0_2304 x).trans (congrArg (hidVal n x0 x1 x2 x3 x4 x5 x6) (funext fun a => Fin.ext (match a with | ⟨0, _⟩ => by show 0 + 1 * (x 0).val = (x 0).val; omega | ⟨1, _⟩ => by show 2304 + 1 * (x 1).val = 256 * 9 + (x 1).val; omega)))
    | ⟨10, _⟩ => exact (piece n x0 x1 x2 x3 x4 x5 x6 2560 (by decide) _ _ _ _ _ _ (ld a5 w5 x4 2560 _) (ld a5 w5 x4 5376 _) (ld a6 w6 x5 2560 _) (ld a6 w6 x5 5376 _) (ld a7 w7 x6 2560 _ 0) (ld a7 w7 x6 5376 _ 0) inb_S512x2816_S512x256_0_2560 x).trans (congrArg (hidVal n x0 x1 x2 x3 x4 x5 x6) (funext fun a => Fin.ext (match a with | ⟨0, _⟩ => by show 0 + 1 * (x 0).val = (x 0).val; omega | ⟨1, _⟩ => by show 2560 + 1 * (x 1).val = 256 * 10 + (x 1).val; omega)))

/-- What the body leaves in the result's buffer is the block's function. -/
theorem out_eq (c : Dev nD) (i : grid0.Coords) (a1 : Memref sig .tc .vmem S512x1024 .f32) (w1 : a1.IsWhole) (a2 : Memref sig .tc .vmem S8x1024 .f32) (w2 : a2.IsWhole) (a3 : Memref sig .tc .vmem S8x1024 .f32) (w3 : a3.IsWhole) (a4 : Memref sig .tc .vmem S1x1024 .f32) (w4 : a4.IsWhole) (a5 : Memref sig .tc .vmem S1024x5632 .bf16) (w5 : a5.IsWhole) (a6 : Memref sig .tc .vmem S3x5632 .f32) (w6 : a6.IsWhole) (a7 : Memref sig .tc .vmem S1x5632 .f32) (w7 : a7.IsWhole) (a8 : Memref sig .tc .vmem S2816x1024 .bf16) (w8 : a8.IsWhole) (a9 : Memref sig .tc .vmem S512x1024 .f32) (w9 : a9.IsWhole) (a10 : Memref sig .tc .vmem S512x2816 .bf16) (w10 : a10.IsWhole) :
    out0_A_8 (F := Ideal) c i a1 w1 a2 w2 a3 w3 a4 w4 a5 w5 a6 w6 a7 w7 a8 w8 a9 w9 a10 w10 x0 x1 x2 x3 x4 x5 x6 x7 = blockVal (i 0) x0 x1 x2 x3 x4 x5 x6 x7 := by
  unfold out0_A_8
  rw [View.read_writes_junk_eq_canon]
  unfold kernelRun0_A
  dsimp only
  unfold kernelRun0_A.sl.v1026 kernelRun0_A.sl.r kernelRun0_A.sl.HS0_11
  rw [View.canon_unit_zero (funext fun | ⟨0, _⟩ => rfl | ⟨1, _⟩ => rfl)]
  have hX : rows x0 x1 x2 x3 (i 0).val a1 w1 a2 w2 a3 w3 a4 w4 = normed (ext (i 0).val x0 x1 x2) x3 := by
    unfold rows
    rw [ldAll a1 w1 x0, ldAll a2 w2 x1, ldAll a3 w3 x2, ldAll a4 w4 x3]
  have hS := fun P => scratch P (hidVal (i 0) x0 x1 x2 x3 x4 x5 x6)
  have hS := hS (chunks x4 x5 x6 (rows x0 x1 x2 x3 (i 0).val a1 w1 a2 w2 a3 w3 a4 w4) a5 w5 a6 w6 a7 w7)
    (fun k x => by rw [hX]; exact chunks_eq (i 0) x0 x1 x2 x3 x4 x5 x6 a5 w5 a6 w6 a7 w7 k x)
  funext y
  obtain ⟨r, e, rfl⟩ : ∃ (r : Fin 512) (e : Fin 1024), y = ix2 r e := ⟨y 0, y 1, funext fun | ⟨0, _⟩ => rfl | ⟨1, _⟩ => rfl⟩
  refine (down_apply _ _ _ r e).trans ?_
  refine congrArg₂ (· + ·) ?_ (Finset.sum_congr rfl fun j _ => congrArg₂ (· * ·) ?_ ?_)
  · unfold k0_pay3
    dsimp only
    rw [shapeCast_self, ldAll a1 w1 x0]
  · refine (congrFun (View.readCov_eq_canon' a10.view _ (Rect.unit (s := S512x2816) ![0, 0] S512x2816.size inb_S512x2816_S512x2816_0_0).toLoadRect) (ix2 r j)).trans ?_
    refine (congrFun hS _).trans ?_
    refine Eq.trans (b := hidVal (i 0) x0 x1 x2 x3 x4 x5 x6 (ix2 r j)) ?_ rfl
    refine congrArg (hidVal (i 0) x0 x1 x2 x3 x4 x5 x6) (funext fun x => Fin.ext ?_)
    match x with
    | ⟨0, _⟩ => show 0 + 1 * r.val = r.val; omega
    | ⟨1, _⟩ => show 0 + 1 * j.val = j.val; omega
  · exact congrFun (ldAll a8 w8 x7 _) (ix2 j e)

end Cert.FfnBlock

end
-- ==== Proof.FfnArray.lean ====
/- The convolution-gated MLP kernel's result array, block by block, as the reference computes it. -/
module

public import proofs.«01_k».proof.Proof.FfnBlock
public import proofs.«01_k».proof.Proof.FfnRef
public import proofs.«01_k».proof.Proof.Gen.Kernel2Ideal.Value
public import Idealize.ShloMosaic.Lib.Pipeline.ValueKit

@[expose] public section

noncomputable section

namespace Cert.FfnArray

open Cert.Kernel2Ideal Cert.Kernel2Ideal.Gen Cert.Ffn Cert.FfnTile Cert.FfnBlock
open Idealize.ShloMosaic hiding ix1 ix2 ix3 ix4 ix5 truncf_apply
open Idealize.ShloMosaic.TcCoe Idealize.ShloMosaic.ValueIdx

variable (m : (ℓ : Loc nD τ sig) → Buf (Elt Ideal) ℓ)

/-- The tokens as the kernel takes them: one row each. -/
theorem V_x (c : Dev nD) : V m c main_v0 = shapeCast S65536x1024 (m (c.tc.loc main_arg0)) shapeCasts_S32x2048x1024_S65536x1024 := by
  show StableHlo.after hostOps0 _ (Proc.devRef .tc main_v0) = _
  after_results
  rfl

theorem V_g (c : Dev nD) : V m c main_v1 = shapeCast S1x1024 (m (c.tc.loc main_arg1)) shapeCasts_S1024_S1x1024 := by
  show StableHlo.after hostOps0 _ (Proc.devRef .tc main_v1) = _
  after_results
  rfl

theorem V_w (c : Dev nD) : V m c main_v2 = (truncf .bf16 (m (c.tc.loc main_arg2) : FVec Ideal S1024x5632 .f32) bitsLt_bf16_f32 : FVec Ideal S1024x5632 .bf16) := by
  show StableHlo.after hostOps0 _ (Proc.devRef .tc main_v2) = _
  after_results

theorem V_cw (c : Dev nD) : V m c main_arg3 = m (c.tc.loc main_arg3) := by
  show StableHlo.after hostOps0 _ (Proc.devRef .tc main_arg3) = _
  after_results

theorem V_cb (c : Dev nD) : V m c main_v3 = shapeCast S1x5632 (m (c.tc.loc main_arg4)) shapeCasts_S5632_S1x5632 := by
  show StableHlo.after hostOps0 _ (Proc.devRef .tc main_v3) = _
  after_results
  rfl

theorem V_wo (c : Dev nD) : V m c main_v4 = (truncf .bf16 (m (c.tc.loc main_arg5) : FVec Ideal S2816x1024 .f32) bitsLt_bf16_f32 : FVec Ideal S2816x1024 .bf16) := by
  show StableHlo.after hostOps0 _ (Proc.devRef .tc main_v4) = _
  after_results

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![64 * (grid0.coords t 0).val - 1, 0] :=
  (by decide +kernel : ∀ t : Fin grid0.N, win0_1.index t = ![64 * (grid0.coords t 0).val - 1, 0])
theorem index2 : ∀ t : Fin cfg0.N, win0_2.index t = ![min (64 * ((grid0.coords t 0).val + 1)) 8191, 0] :=
  (by decide +kernel : ∀ t : Fin grid0.N, win0_2.index t = ![min (64 * ((grid0.coords t 0).val + 1)) 8191, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![(grid0.coords t 0).val, 0] :=
  (by decide +kernel : ∀ t : Fin grid0.N, win0_8.index t = ![(grid0.coords t 0).val, 0])

/-- The block of 512 tokens a point works on. -/
def at' (t : Fin cfg0.N) : Fin 128 := grid0.coords t 0

theorem x_block (c : Dev nD) (t : Fin cfg0.N) (r : Fin 512) (e : Fin 1024) :
    iblk m c 0 t (ix2 r e) = V m c main_v0 (ix2 ⟨(at' t).val * 512 + r.val, by omega⟩ e) := by
  blk_simp [iblk]
  refine congrArg (V m c main_v0) (funext fun a => Fin.ext ?_)
  match a with
  | ⟨0, _⟩ => blk_simp [index0]; rfl
  | ⟨1, _⟩ => blk_simp [index0]

theorem y_block (c : Dev nD) (t : Fin cfg0.N) (r : Fin 8) (e : Fin 1024) :
    iblk m c 1 t (ix2 r e) = V m c main_v0 (ix2 ⟨(64 * (at' t).val - 1) * 8 + r.val, by omega⟩ e) := by
  blk_simp [iblk]
  refine congrArg (V m c main_v0) (funext fun a => Fin.ext ?_)
  match a with
  | ⟨0, _⟩ => blk_simp [index1]; rfl
  | ⟨1, _⟩ => blk_simp [index1]

theorem z_block (c : Dev nD) (t : Fin cfg0.N) (r : Fin 8) (e : Fin 1024) :
    iblk m c 2 t (ix2 r e) = V m c main_v0 (ix2 ⟨min (64 * ((at' t).val + 1)) 8191 * 8 + r.val, by omega⟩ e) := by
  blk_simp [iblk]
  refine congrArg (V m c main_v0) (funext fun a => Fin.ext ?_)
  match a with
  | ⟨0, _⟩ => blk_simp [index2]; rfl
  | ⟨1, _⟩ => blk_simp [index2]

theorem g_block (c : Dev nD) (t : Fin cfg0.N) (r : Fin 1) (e : Fin 1024) : iblk m c 3 t (ix2 r e) = V m c main_v1 (ix2 r e) := by
  blk_simp [iblk]
  refine congrArg (V m c main_v1) (funext fun a => Fin.ext ?_)
  match a with
  | ⟨0, _⟩ => blk_simp [index3]
  | ⟨1, _⟩ => blk_simp [index3]

theorem w_block (c : Dev nD) (t : Fin cfg0.N) (r : Fin 1024) (e : Fin 5632) : iblk m c 4 t (ix2 r e) = V m c main_v2 (ix2 r e) := by
  blk_simp [iblk]
  refine congrArg (V m c main_v2) (funext fun a => Fin.ext ?_)
  match a with
  | ⟨0, _⟩ => blk_simp [index4]
  | ⟨1, _⟩ => blk_simp [index4]

theorem cw_block (c : Dev nD) (t : Fin cfg0.N) (r : Fin 3) (e : Fin 5632) : iblk m c 5 t (ix2 r e) = V m c main_arg3 (ix2 r e) := by
  blk_simp [iblk]
  refine congrArg (V m c main_arg3) (funext fun a => Fin.ext ?_)
  match a with
  | ⟨0, _⟩ => blk_simp [index5]
  | ⟨1, _⟩ => blk_simp [index5]

theorem cb_block (c : Dev nD) (t : Fin cfg0.N) (r : Fin 1) (e : Fin 5632) : iblk m c 6 t (ix2 r e) = V m c main_v3 (ix2 r e) := by
  blk_simp [iblk]
  refine congrArg (V m c main_v3) (funext fun a => Fin.ext ?_)
  match a with
  | ⟨0, _⟩ => blk_simp [index6]
  | ⟨1, _⟩ => blk_simp [index6]

theorem wo_block (c : Dev nD) (t : Fin cfg0.N) (r : Fin 2816) (e : Fin 1024) : iblk m c 7 t (ix2 r e) = V m c main_v4 (ix2 r e) := by
  blk_simp [iblk]
  refine congrArg (V m c main_v4) (funext fun a => Fin.ext ?_)
  match a with
  | ⟨0, _⟩ => blk_simp [index7]
  | ⟨1, _⟩ => blk_simp [index7]

/-- A row of the tokens is a token of a sequence. -/
theorem rows_apply (A0 : Vec Ideal S32x2048x1024 .f32) (r : Fin 65536) (b : Fin 32) (s : Fin 2048) (h : r.val = b.val * 2048 + s.val) (k : Fin 1024) :
    shapeCast S65536x1024 A0 shapeCasts_S32x2048x1024_S65536x1024 (ix2 r k) = FfnRef.tok A0 b s k :=
  shapeCast_apply (s := S32x2048x1024) (t := S65536x1024) A0 _ (ix2 r k) (ix3 b s k) (by
    rw [Shape.rowMajor_val_three, Shape.rowMajor_val_two]; show (b.val * 2048 + s.val) * 1024 + k.val = r.val * 1024 + k.val; omega)

/-- A block's function of its blocks of the arrays is the reference's result there. -/
theorem block_value (A0 : Vec Ideal S32x2048x1024 .f32) (A1 : Vec Ideal S1024 .f32) (A2 : Vec Ideal S1024x5632 .f32) (A3 : Vec Ideal S3x5632 .f32)
    (A4 : Vec Ideal S5632 .f32) (A5 : Vec Ideal S2816x1024 .f32) (n : Fin 128)
    (x0 : Vec Ideal S512x1024 .f32) (x1 x2 : Vec Ideal S8x1024 .f32) (x3 : Vec Ideal S1x1024 .f32)
    (x4 : Vec Ideal S1024x5632 .bf16) (x5 : Vec Ideal S3x5632 .f32) (x6 : Vec Ideal S1x5632 .f32) (x7 : Vec Ideal S2816x1024 .bf16)
    (h0 : ∀ (r : Fin 512) (e : Fin 1024), x0 (ix2 r e) = shapeCast S65536x1024 A0 shapeCasts_S32x2048x1024_S65536x1024 (ix2 ⟨n.val * 512 + r.val, by omega⟩ e))
    (h1 : ∀ (r : Fin 8) (e : Fin 1024), x1 (ix2 r e) = shapeCast S65536x1024 A0 shapeCasts_S32x2048x1024_S65536x1024 (ix2 ⟨(64 * n.val - 1) * 8 + r.val, by omega⟩ e))
    (h2 : ∀ (r : Fin 8) (e : Fin 1024), x2 (ix2 r e) = shapeCast S65536x1024 A0 shapeCasts_S32x2048x1024_S65536x1024 (ix2 ⟨min (64 * (n.val + 1)) 8191 * 8 + r.val, by omega⟩ e))
    (h3 : ∀ (r : Fin 1) (e : Fin 1024), x3 (ix2 r e) = shapeCast S1x1024 A1 shapeCasts_S1024_S1x1024 (ix2 r e))
    (h4 : ∀ (r : Fin 1024) (e : Fin 5632), x4 (ix2 r e) = A2 (ix2 r e)) (h5 : ∀ (r : Fin 3) (e : Fin 5632), x5 (ix2 r e) = A3 (ix2 r e))
    (h6 : ∀ (r : Fin 1) (e : Fin 5632), x6 (ix2 r e) = shapeCast S1x5632 A4 shapeCasts_S5632_S1x5632 (ix2 r e))
    (h7 : ∀ (r : Fin 2816) (e : Fin 1024), x7 (ix2 r e) = A5 (ix2 r e)) (r : Fin 512) (e : Fin 1024) :
    blockVal n x0 x1 x2 x3 x4 x5 x6 x7 (ix2 r e)
      = Reference2Ideal.Read.val_main_v44 (F := Ideal) A0 A1 A2 A3 A4 A5 (ix2 ⟨n.val * 512 + r.val, by omega⟩ e) := by
  rw [FfnRef.apply]
  generalize hb : (⟨(n.val * 512 + r.val) / 2048, by omega⟩ : Fin 32) = b
  generalize hs : (⟨(n.val * 512 + r.val) % 2048, by omega⟩ : Fin 2048) = s
  have hb : (n.val * 512 + r.val) / 2048 = b.val := congrArg Fin.val hb
  have hs : (n.val * 512 + r.val) % 2048 = s.val := congrArg Fin.val hs
  have eg : (fun k => x3 (ix2 0 k)) = fun k => A1 (ix1 k) := funext fun k => (h3 0 k).trans
    (shapeCast_apply (s := S1024) (t := S1x1024) A1 _ (ix2 0 k) (ix1 k) (by
      rw [Shape.rowMajor_val_one, Shape.rowMajor_val_two]; show k.val = 0 * 1024 + k.val; omega))
  have eb : (fun f => x6 (ix2 0 f)) = fun f => A4 (ix1 f) := funext fun f => (h6 0 f).trans
    (shapeCast_apply (s := S5632) (t := S1x5632) A4 _ (ix2 0 f) (ix1 f) (by
      rw [Shape.rowMajor_val_one, Shape.rowMajor_val_two]; show f.val = 0 * 5632 + f.val; omega))
  have ew : (fun k f => x4 (ix2 k f)) = fun k f => A2 (ix2 k f) := funext fun k => funext fun f => h4 k f
  have ec : (fun a f => x5 (ix2 a f)) = fun a f => A3 (ix2 a f) := funext fun k => funext fun f => h5 k f
  have eo : (fun j e => x7 (ix2 j e)) = fun j e => A5 (ix2 j e) := funext fun k => funext fun f => h7 k f
  have ex : (fun k => x0 (ix2 r k)) = FfnRef.tok A0 b s := funext fun k => (h0 r k).trans (rows_apply A0 _ b s (by show n.val * 512 + r.val = _; omega) k)
  have ep : prevRow n x0 x1 r = FfnRef.tokPrev A0 b s := by
    funext k
    unfold prevRow FfnRef.tokPrev
    by_cases hr : r.val = 0
    · rw [if_pos hr]
      by_cases h4 : n.val % 4 = 0
      · rw [if_pos h4, if_pos (by omega)]
      · rw [if_neg h4, if_neg (by omega)]
        exact (h1 7 k).trans (rows_apply A0 _ b _ (by show (64 * n.val - 1) * 8 + 7 = b.val * 2048 + (s.val - 1); omega) k)
    · rw [if_neg hr, if_neg (by omega)]
      exact (h0 _ k).trans (rows_apply A0 _ b _ (by show n.val * 512 + (r.val - 1) = b.val * 2048 + (s.val - 1); omega) k)
  have en : nextRow n x0 x2 r = FfnRef.tokNext A0 b s := by
    funext k
    unfold nextRow FfnRef.tokNext
    by_cases hr : r.val = 511
    · rw [dif_pos hr]
      by_cases h4 : n.val % 4 = 3
      · rw [if_pos h4, dif_pos (by omega)]
      · rw [if_neg h4, dif_neg (by omega)]
        exact (h2 0 k).trans (rows_apply A0 _ b _ (by show min (64 * (n.val + 1)) 8191 * 8 + 0 = b.val * 2048 + (s.val + 1); omega) k)
    · rw [dif_neg hr, dif_neg (by omega)]
      exact (h0 _ k).trans (rows_apply A0 _ b _ (by show n.val * 512 + (r.val + 1) = b.val * 2048 + (s.val + 1); omega) k)
  show out (fun j e => x7 (ix2 j e)) (chan n x0 x1 x2 x3 x4 x5 x6 r) (fun k => x0 (ix2 r k)) e = _
  unfold chan FfnRef.chanAt
  rw [eg, eb, ew, ec, eo, ex, ep, en]

/-- What the kernel leaves is the reference's result. -/
theorem final (c : Dev nD) :
    (dats m 0 c).arrAt 8 cfg0.N
      = Reference2Ideal.Read.val_main_v44 (F := Ideal) (m (c.tc.loc main_arg0)) (m (c.tc.loc main_arg1)) (m (c.tc.loc main_arg2))
        (m (c.tc.loc main_arg3)) (m (c.tc.loc main_arg4)) (m (c.tc.loc main_arg5)) := by
  refine (dats m 0 c).arrAt_eq_of_covers 8 _ (by decide +kernel) fun t hf y => ?_
  blk_simp
  rw [after0_8]
  unfold outsAt0
  rw [out_eq]
  obtain ⟨r, l, rfl⟩ : ∃ (r : Fin 512) (l : Fin 1024), y = ix2 r l := ⟨y 0, y 1, funext fun
    | ⟨0, _⟩ => rfl | ⟨1, _⟩ => rfl⟩
  have e : (win0_8.blk t).view.emb (ix2 r l) = ix2 ⟨(at' t).val * 512 + r.val, by omega⟩ l := funext fun a => Fin.ext (by
    match a with
    | ⟨0, _⟩ => blk_simp [index8]; rfl
    | ⟨1, _⟩ => blk_simp [index8])
  rw [e]
  exact block_value _ _ _ _ _ _ (at' t) _ _ _ _ _ _ _ _
    (fun r e => (x_block m c t r e).trans (congrFun (V_x m c) _)) (fun r e => (y_block m c t r e).trans (congrFun (V_x m c) _))
    (fun r e => (z_block m c t r e).trans (congrFun (V_x m c) _)) (fun r e => (g_block m c t r e).trans (congrFun (V_g m c) _))
    (fun r e => (w_block m c t r e).trans (congrFun (V_w m c) _)) (fun r e => (cw_block m c t r e).trans (congrFun (V_cw m c) _))
    (fun r e => (cb_block m c t r e).trans (congrFun (V_cb m c) _)) (fun r e => (wo_block m c t r e).trans (congrFun (V_wo m c) _)) r l

end Cert.FfnArray

end
-- ==== Proof.Ffn.lean ====
/- The claim of equal values about the convolution-gated MLP. -/
module

public import proofs.«01_k».proof.Proof.FfnArray
public import proofs.«01_k».proof.Proof.Gen.Reference2Ideal.Run
public import proofs.«01_k».proof.Defs

@[expose] public section

noncomputable section

namespace Cert.Ffn

open Idealize.ShloMosaic

/-- At every index the idealized kernel's result is the reference's. -/
theorem algebraic : Cert.algebraic_Kernel2Ideal_Reference2Ideal := by
  intro m ρ m' ρ' _ hag
  refine ⟨fun c => Cert.Reference2Ideal.Read.val_main_v44 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)),
    (θ_run _ _ _).mono (fun _ h c => ⟨(h c).1.trans (FfnArray.final m c), (h c).2⟩)
      (Cert.Kernel2Ideal.Value.run_blocks m ρ),
    (θ_run _ _ _).mono (fun _ h c => ⟨(h c).1.trans (by
        refine (Cert.Reference2Ideal.Read.val_main_v44_eq m' c).trans ?_
        rw [(hag c).1, (hag c).2.1, (hag c).2.2.1, (hag c).2.2.2.1, (hag c).2.2.2.2.1, (hag c).2.2.2.2.2]), (h c).2⟩)
      (Cert.Reference2Ideal.Value.run m' ρ')⟩

end Cert.Ffn

end
-- ==== Proof.SampleBlock.lean ====
/- One block of the convolution-gated MLP kernel on the sample batch: the same function of the block as on the prompt batch. -/
module

public import proofs.«01_k».proof.Proof.FfnBlock
public import proofs.«01_k».proof.Proof.Gen.Kernel3Ideal.Frame

@[expose] public section

noncomputable section

namespace Cert.SampleBlock

open Cert.Kernel3Ideal Cert.Kernel3Ideal.Gen Cert.Ffn Cert.FfnBlock Idealize.ShloMosaic Idealize.ShloMosaic.ValueIdx
open Cert.FfnTile

variable (x0 : Vec Ideal S512x1024 .f32) (x1 x2 : Vec Ideal S8x1024 .f32) (x3 : Vec Ideal S1x1024 .f32)
  (x4 : Vec Ideal S1024x5632 .bf16) (x5 : Vec Ideal S3x5632 .f32) (x6 : Vec Ideal S1x5632 .f32) (x7 : Vec Ideal S2816x1024 .bf16)

/-- The point's block of 512 tokens, among the 128 of the larger batch: the same place in its sequence. -/
def cell (i : grid0.Coords) : Fin 128 := ⟨(i 0).val, by have := (i 0).isLt; change (i 0).val < 32 at this; omega⟩

/-- What the body leaves in the result's buffer is the block's function. -/
theorem out_eq (c : Dev nD) (i : grid0.Coords) (a1 : Memref sig .tc .vmem S512x1024 .f32) (w1 : a1.IsWhole) (a2 : Memref sig .tc .vmem S8x1024 .f32) (w2 : a2.IsWhole) (a3 : Memref sig .tc .vmem S8x1024 .f32) (w3 : a3.IsWhole) (a4 : Memref sig .tc .vmem S1x1024 .f32) (w4 : a4.IsWhole) (a5 : Memref sig .tc .vmem S1024x5632 .bf16) (w5 : a5.IsWhole) (a6 : Memref sig .tc .vmem S3x5632 .f32) (w6 : a6.IsWhole) (a7 : Memref sig .tc .vmem S1x5632 .f32) (w7 : a7.IsWhole) (a8 : Memref sig .tc .vmem S2816x1024 .bf16) (w8 : a8.IsWhole) (a9 : Memref sig .tc .vmem S512x1024 .f32) (w9 : a9.IsWhole) (a10 : Memref sig .tc .vmem S512x2816 .bf16) (w10 : a10.IsWhole) :
    out0_A_8 (F := Ideal) c i a1 w1 a2 w2 a3 w3 a4 w4 a5 w5 a6 w6 a7 w7 a8 w8 a9 w9 a10 w10 x0 x1 x2 x3 x4 x5 x6 x7 = blockVal (cell i) x0 x1 x2 x3 x4 x5 x6 x7 := by
  unfold out0_A_8
  rw [View.read_writes_junk_eq_canon]
  unfold kernelRun0_A
  dsimp only
  unfold kernelRun0_A.sl.v1026 kernelRun0_A.sl.r kernelRun0_A.sl.HS0_11
  rw [View.canon_unit_zero (funext fun | ⟨0, _⟩ => rfl | ⟨1, _⟩ => rfl)]
  have hX : rows x0 x1 x2 x3 (cell i).val a1 w1 a2 w2 a3 w3 a4 w4 = normed (ext (cell i).val x0 x1 x2) x3 := by
    unfold rows
    rw [ldAll a1 w1 x0, ldAll a2 w2 x1, ldAll a3 w3 x2, ldAll a4 w4 x3]
  have hS := fun P => scratch P (hidVal (cell i) x0 x1 x2 x3 x4 x5 x6)
  have hS := hS (chunks x4 x5 x6 (rows x0 x1 x2 x3 (cell i).val a1 w1 a2 w2 a3 w3 a4 w4) a5 w5 a6 w6 a7 w7)
    (fun k x => by rw [hX]; exact chunks_eq (cell i) x0 x1 x2 x3 x4 x5 x6 a5 w5 a6 w6 a7 w7 k x)
  funext y
  obtain ⟨r, e, rfl⟩ : ∃ (r : Fin 512) (e : Fin 1024), y = ix2 r e := ⟨y 0, y 1, funext fun | ⟨0, _⟩ => rfl | ⟨1, _⟩ => rfl⟩
  refine (down_apply _ _ _ r e).trans ?_
  refine congrArg₂ (· + ·) ?_ (Finset.sum_congr rfl fun j _ => congrArg₂ (· * ·) ?_ ?_)
  · unfold k0_pay3
    dsimp only
    rw [shapeCast_self, ldAll a1 w1 x0]
  · refine (congrFun (View.readCov_eq_canon' a10.view _ (Rect.unit (s := S512x2816) ![0, 0] S512x2816.size inb_S512x2816_S512x2816_0_0).toLoadRect) (ix2 r j)).trans ?_
    refine (congrFun hS _).trans ?_
    refine Eq.trans (b := hidVal (cell i) x0 x1 x2 x3 x4 x5 x6 (ix2 r j)) ?_ rfl
    refine congrArg (hidVal (cell i) x0 x1 x2 x3 x4 x5 x6) (funext fun x => Fin.ext ?_)
    match x with
    | ⟨0, _⟩ => show 0 + 1 * r.val = r.val; omega
    | ⟨1, _⟩ => show 0 + 1 * j.val = j.val; omega
  · exact congrFun (ldAll a8 w8 x7 _) (ix2 j e)

end Cert.SampleBlock

end
-- ==== Proof.SampleRef.lean ====
/- The reference of the convolution-gated MLP on the sample batch read at an index. -/
module

public import proofs.«01_k».proof.Proof.FfnMath
public import proofs.«01_k».proof.Proof.Gen.Reference3Ideal.Read
public import Idealize.ShloMosaic.Lib.KernelVsHost

@[expose] public section

noncomputable section

namespace Cert.SampleRef

open Cert.Reference3Ideal Cert.Reference3Ideal.Gen Cert.Reference3Ideal.Read Cert.Ffn Idealize.ShloMosaic Idealize.ShloMosaic.ValueIdx

variable (x : Vec Ideal S8x2048x1024 .f32) (g : Vec Ideal S1024 .f32) (w : Vec Ideal S1024x5632 .f32) (cw : Vec Ideal S3x5632 .f32)
  (cb : Vec Ideal S5632 .f32) (wo : Vec Ideal S2816x1024 .f32)

/-- Token `s` of sequence `b`. -/
def tok (b : Fin 8) (s : Fin 2048) (k : Fin 1024) : EReal := x (ix3 b s k)

/-- The token before: zero at the beginning. -/
def tokPrev (b : Fin 8) (s : Fin 2048) : Fin 1024 → EReal := if s.val = 0 then fun _ => 0 else tok x b ⟨s.val - 1, by omega⟩

/-- The token after: zero at the end. -/
def tokNext (b : Fin 8) (s : Fin 2048) : Fin 1024 → EReal := if h : s.val = 2047 then fun _ => 0 else tok x b ⟨s.val + 1, by omega⟩

/-- The mean square's sum. -/
theorem v1_at (i : S8x2048.Idx) (b : Fin 8) (s : Fin 2048) (hb : (i 0).val = b.val) (hs : (i 1).val = s.val) :
    val_main_v1 (F := Ideal) x i = ∑ k, tok x b s k * tok x b s k := by
  rw [val_main_v1_apply, val_main_cst_apply]
  show Ideal.ofBits .f32 0x00000000#32 + _ = _
  rw [Ideal.ofBits_zero_f32, zero_add]
  refine Finset.sum_congr rfl fun k _ => ?_
  rw [val_main_v0_apply]
  have e : idx_main_v1 i k = ix3 b s k := funext fun a => Fin.ext (match a with | ⟨0, _⟩ => hb | ⟨1, _⟩ => hs | ⟨2, _⟩ => rfl)
  rw [e]
  rfl

/-- The normed token. -/
theorem v12_at (b : Fin 8) (s : Fin 2048) (k : Fin 1024) :
    val_main_v12 (F := Ideal) x g (ix3 b s k) = row (fun k => g (ix1 k)) (tok x b s) k := by
  rw [val_main_v12_apply, val_main_v9_apply, val_main_v8_apply, val_main_v7_apply, val_main_v6_apply, val_main_v4_apply, val_main_v2_apply,
    v1_at x _ b s rfl rfl, val_main_v3_apply, val_main_cst_0_apply, val_main_v5_apply, val_main_cst_1_apply, val_main_v11_apply, val_main_v10_apply]
  have e : idx_main_v10 (idx_main_v11 (ix3 b s k)) = ix1 k := funext fun | ⟨0, _⟩ => rfl
  rw [e]
  rfl

/-- The first product. -/
theorem v13_at (b : Fin 8) (s : Fin 2048) (f : Fin 5632) :
    val_main_v13 (F := Ideal) x g w (ix3 b s f) = lin (fun k => g (ix1 k)) (fun k f => w (ix2 k f)) (tok x b s) f := by
  rw [val_main_v13_apply]
  refine Finset.sum_congr rfl fun k _ => ?_
  have e : lidx_main_v13 (ix3 b s f) k = ix3 b s k := funext fun | ⟨0, _⟩ => rfl | ⟨1, _⟩ => rfl | ⟨2, _⟩ => rfl
  have e' : ridx_main_v13 (ix3 b s f) k = ix2 k f := funext fun | ⟨0, _⟩ => rfl | ⟨1, _⟩ => rfl
  rw [e, e', v12_at]

/-- The padded product inside. -/
theorem v14_in (b : Fin 8) (s : Fin 2048) (p : Fin 2050) (f : Fin 5632) (hp : p.val = 1 + s.val) :
    val_main_v14 (F := Ideal) x g w (ix3 b p f) = lin (fun k => g (ix1 k)) (fun k f => w (ix2 k f)) (tok x b s) f := by
  unfold val_main_v14
  refine (pad_apply_of_inside (s := S8x2048x5632) (t := S8x2050x5632) _ _ _ _ _ _ _ (ix3 b p f) (ix3 b s f) (fun a => ?_)).trans (v13_at x g w b s f)
  match a with
  | ⟨0, _⟩ => show b.val = 0 + b.val * (0 + 1); omega
  | ⟨1, _⟩ => show p.val = 1 + s.val * (0 + 1); omega
  | ⟨2, _⟩ => show f.val = 0 + f.val * (0 + 1); omega

/-- The padded product at the row before the first and the row after the last. -/
theorem v14_out (b : Fin 8) (p : Fin 2050) (f : Fin 5632) (hp : p.val = 0 ∨ p.val = 2049) :
    val_main_v14 (F := Ideal) x g w (ix3 b p f) = 0 := by
  unfold val_main_v14
  refine (pad_apply_of_not_inside (s := S8x2048x5632) (t := S8x2050x5632) _ _ _ _ _ _ _ (ix3 b p f) (1 : Fin 3) (fun h => ?_)).trans ?_
  · have h1 : 1 ≤ p.val := h.1
    have h2 : (p.val - 1) / (0 + 1) < 2048 := h.2.2
    omega
  · show ((((0#32 : BitVec 32).toInt : ℝ)) : EReal) = 0
    simp

/-- The padded product at the row before token `s`. -/
theorem v14_prev (b : Fin 8) (s : Fin 2048) (p : Fin 2050) (f : Fin 5632) (hp : p.val = s.val) :
    val_main_v14 (F := Ideal) x g w (ix3 b p f) = lin (fun k => g (ix1 k)) (fun k f => w (ix2 k f)) (tokPrev x b s) f := by
  unfold tokPrev
  by_cases h : s.val = 0
  · rw [if_pos h, lin_zero, v14_out x g w b p f (.inl (by omega))]
  · rw [if_neg h, v14_in x g w b ⟨s.val - 1, by omega⟩ p f (by show p.val = 1 + (s.val - 1); omega)]

/-- The padded product at the row after token `s`. -/
theorem v14_next (b : Fin 8) (s : Fin 2048) (p : Fin 2050) (f : Fin 5632) (hp : p.val = 2 + s.val) :
    val_main_v14 (F := Ideal) x g w (ix3 b p f) = lin (fun k => g (ix1 k)) (fun k f => w (ix2 k f)) (tokNext x b s) f := by
  unfold tokNext
  by_cases h : s.val = 2047
  · rw [dif_pos h, lin_zero, v14_out x g w b p f (.inr (by omega))]
  · rw [dif_neg h, v14_in x g w b ⟨s.val + 1, by omega⟩ p f (by show p.val = 1 + (s.val + 1); omega)]

/-- The convolved channels of token `s`. -/
def chanAt (b : Fin 8) (s : Fin 2048) : Fin 5632 → EReal :=
  tap (fun a f => cw (ix2 a f)) (fun f => cb (ix1 f))
    (lin (fun k => g (ix1 k)) (fun k f => w (ix2 k f)) (tokPrev x b s))
    (lin (fun k => g (ix1 k)) (fun k f => w (ix2 k f)) (tok x b s))
    (lin (fun k => g (ix1 k)) (fun k f => w (ix2 k f)) (tokNext x b s))

theorem v37_at (b : Fin 8) (s : Fin 2048) (f : Fin 5632) : val_main_v37 (F := Ideal) x g w cw cb (ix3 b s f) = chanAt x g w cw cb b s f := by
  rw [val_main_v37_apply, val_main_v34_apply, val_main_v27_apply, val_main_v20_apply, val_main_v26_apply, val_main_v33_apply,
    val_main_v15_apply, val_main_v21_apply, val_main_v28_apply,
    val_main_v19_apply, val_main_v18_apply, val_main_v17_apply, val_main_v16_apply,
    val_main_v25_apply, val_main_v24_apply, val_main_v23_apply, val_main_v22_apply,
    val_main_v32_apply, val_main_v31_apply, val_main_v30_apply, val_main_v29_apply, val_main_v36_apply, val_main_v35_apply]
  have hf := f.isLt
  have p0 : idx_main_v15 (ix3 b s f) = ix3 b ⟨s.val, by omega⟩ f := funext fun | ⟨0, _⟩ => rfl | ⟨1, _⟩ => rfl | ⟨2, _⟩ => rfl
  have p1 : idx_main_v21 (ix3 b s f) = ix3 b ⟨1 + s.val, by omega⟩ f := funext fun | ⟨0, _⟩ => rfl | ⟨1, _⟩ => rfl | ⟨2, _⟩ => rfl
  have p2 : idx_main_v28 (ix3 b s f) = ix3 b ⟨2 + s.val, by omega⟩ f := funext fun | ⟨0, _⟩ => rfl | ⟨1, _⟩ => rfl | ⟨2, _⟩ => rfl
  have c0 : idx_main_v16 (idx_main_v17 (idx_main_v18 (idx_main_v19 (ix3 b s f)))) = ix2 0 f := funext fun a => Fin.ext (match a with
    | ⟨0, _⟩ => rfl | ⟨1, _⟩ => by show f.val % 5632 = f.val; omega)
  have c1 : idx_main_v22 (idx_main_v23 (idx_main_v24 (idx_main_v25 (ix3 b s f)))) = ix2 1 f := funext fun a => Fin.ext (match a with
    | ⟨0, _⟩ => rfl | ⟨1, _⟩ => by show f.val % 5632 = f.val; omega)
  have c2 : idx_main_v29 (idx_main_v30 (idx_main_v31 (idx_main_v32 (ix3 b s f)))) = ix2 2 f := funext fun a => Fin.ext (match a with
    | ⟨0, _⟩ => rfl | ⟨1, _⟩ => by show f.val % 5632 = f.val; omega)
  have cbe : idx_main_v35 (idx_main_v36 (ix3 b s f)) = ix1 f := funext fun | ⟨0, _⟩ => rfl
  rw [p0, p1, p2, c0, c1, c2, cbe, v14_prev x g w b s _ f rfl, v14_in x g w b s _ f rfl, v14_next x g w b s _ f rfl]
  rfl

/-- The gated product. -/
theorem v41_at (b : Fin 8) (s : Fin 2048) (j : Fin 2816) : val_main_v41 (F := Ideal) x g w cw cb (ix3 b s j) = hid (chanAt x g w cw cb b s) j := by
  have e0 : idx_main_v38 (ix3 b s j) = ix3 b s ⟨j.val, by omega⟩ := funext fun | ⟨0, _⟩ => rfl | ⟨1, _⟩ => rfl | ⟨2, _⟩ => rfl
  have e1 : idx_main_v39 (ix3 b s j) = ix3 b s ⟨2816 + j.val, by omega⟩ := funext fun | ⟨0, _⟩ => rfl | ⟨1, _⟩ => rfl | ⟨2, _⟩ => rfl
  have hone : Ideal.ofBits .f32 0x3F800000#32 = 1 := Ideal.ofBits_one_f32
  unfold hid Ideal.logistic
  rw [← hone, ← v37_at, ← v37_at, ← e0, ← e1, ← val_main_v38_apply, ← val_main_v39_apply]
  rfl

/-- The result of token `s`. -/
theorem v43_at (b : Fin 8) (s : Fin 2048) (e : Fin 1024) : val_main_v43 (F := Ideal) x g w cw cb wo (ix3 b s e)
    = out (fun j e => wo (ix2 j e)) (chanAt x g w cw cb b s) (tok x b s) e := by
  rw [val_main_v43_apply, val_main_v42_apply]
  refine congrArg (x (ix3 b s e) + ·) (Finset.sum_congr rfl fun j _ => ?_)
  have el : lidx_main_v42 (ix3 b s e) j = ix3 b s j := funext fun | ⟨0, _⟩ => rfl | ⟨1, _⟩ => rfl | ⟨2, _⟩ => rfl
  have er : ridx_main_v42 (ix3 b s e) j = ix2 j e := funext fun | ⟨0, _⟩ => rfl | ⟨1, _⟩ => rfl
  rw [el, er, v41_at]

/-- The result at row `r` of all the tokens together. -/
theorem apply (r : Fin 16384) (e : Fin 1024) : val_main_v44 (F := Ideal) x g w cw cb wo (ix2 r e)
    = out (fun j e => wo (ix2 j e)) (chanAt x g w cw cb ⟨r.val / 2048, by omega⟩ ⟨r.val % 2048, by omega⟩) (tok x ⟨r.val / 2048, by omega⟩ ⟨r.val % 2048, by omega⟩) e := by
  rw [val_main_v44_apply, ← v43_at]
  refine congrArg _ (funext fun a => Fin.ext ?_)
  have := e.isLt
  match a with
  | ⟨0, _⟩ => show (r.val * 1024 + e.val) / 2097152 = r.val / 2048; omega
  | ⟨1, _⟩ => show (r.val * 1024 + e.val) / 1024 % 2048 = r.val % 2048; omega
  | ⟨2, _⟩ => show (r.val * 1024 + e.val) % 1024 = e.val; omega

end Cert.SampleRef

end
-- ==== Proof.SampleArray.lean ====
/- The convolution-gated MLP kernel's result array on the sample batch, block by block, as the reference computes it. -/
module

public import proofs.«01_k».proof.Proof.SampleBlock
public import proofs.«01_k».proof.Proof.SampleRef
public import proofs.«01_k».proof.Proof.Gen.Kernel3Ideal.Value
public import Idealize.ShloMosaic.Lib.Pipeline.ValueKit

@[expose] public section

noncomputable section

namespace Cert.SampleArray

open Cert.SampleBlock Cert.Kernel3Ideal Cert.Kernel3Ideal.Gen Cert.Ffn Cert.FfnTile
open Cert.FfnBlock hiding out_eq
open Idealize.ShloMosaic hiding ix1 ix2 ix3 ix4 ix5 truncf_apply
open Idealize.ShloMosaic.TcCoe Idealize.ShloMosaic.ValueIdx

variable (m : (ℓ : Loc nD τ sig) → Buf (Elt Ideal) ℓ)

/-- The tokens as the kernel takes them: one row each. -/
theorem V_x (c : Dev nD) : V m c main_v0 = shapeCast S16384x1024 (m (c.tc.loc main_arg0)) shapeCasts_S8x2048x1024_S16384x1024 := by
  show StableHlo.after hostOps0 _ (Proc.devRef .tc main_v0) = _
  after_results
  rfl

theorem V_g (c : Dev nD) : V m c main_v1 = shapeCast S1x1024 (m (c.tc.loc main_arg1)) shapeCasts_S1024_S1x1024 := by
  show StableHlo.after hostOps0 _ (Proc.devRef .tc main_v1) = _
  after_results
  rfl

theorem V_w (c : Dev nD) : V m c main_v2 = (truncf .bf16 (m (c.tc.loc main_arg2) : FVec Ideal S1024x5632 .f32) bitsLt_bf16_f32 : FVec Ideal S1024x5632 .bf16) := by
  show StableHlo.after hostOps0 _ (Proc.devRef .tc main_v2) = _
  after_results

theorem V_cw (c : Dev nD) : V m c main_arg3 = m (c.tc.loc main_arg3) := by
  show StableHlo.after hostOps0 _ (Proc.devRef .tc main_arg3) = _
  after_results

theorem V_cb (c : Dev nD) : V m c main_v3 = shapeCast S1x5632 (m (c.tc.loc main_arg4)) shapeCasts_S5632_S1x5632 := by
  show StableHlo.after hostOps0 _ (Proc.devRef .tc main_v3) = _
  after_results
  rfl

theorem V_wo (c : Dev nD) : V m c main_v4 = (truncf .bf16 (m (c.tc.loc main_arg5) : FVec Ideal S2816x1024 .f32) bitsLt_bf16_f32 : FVec Ideal S2816x1024 .bf16) := by
  show StableHlo.after hostOps0 _ (Proc.devRef .tc main_v4) = _
  after_results

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![64 * (grid0.coords t 0).val - 1, 0] :=
  (by decide +kernel : ∀ t : Fin grid0.N, win0_1.index t = ![64 * (grid0.coords t 0).val - 1, 0])
theorem index2 : ∀ t : Fin cfg0.N, win0_2.index t = ![min (64 * ((grid0.coords t 0).val + 1)) 2047, 0] :=
  (by decide +kernel : ∀ t : Fin grid0.N, win0_2.index t = ![min (64 * ((grid0.coords t 0).val + 1)) 2047, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![(grid0.coords t 0).val, 0] :=
  (by decide +kernel : ∀ t : Fin grid0.N, win0_8.index t = ![(grid0.coords t 0).val, 0])

/-- The block of 512 tokens a point works on. -/
def at' (t : Fin cfg0.N) : Fin 32 := grid0.coords t 0

theorem x_block (c : Dev nD) (t : Fin cfg0.N) (r : Fin 512) (e : Fin 1024) :
    iblk m c 0 t (ix2 r e) = V m c main_v0 (ix2 ⟨(at' t).val * 512 + r.val, by omega⟩ e) := by
  blk_simp [iblk]
  refine congrArg (V m c main_v0) (funext fun a => Fin.ext ?_)
  match a with
  | ⟨0, _⟩ => blk_simp [index0]; rfl
  | ⟨1, _⟩ => blk_simp [index0]

theorem y_block (c : Dev nD) (t : Fin cfg0.N) (r : Fin 8) (e : Fin 1024) :
    iblk m c 1 t (ix2 r e) = V m c main_v0 (ix2 ⟨(64 * (at' t).val - 1) * 8 + r.val, by omega⟩ e) := by
  blk_simp [iblk]
  refine congrArg (V m c main_v0) (funext fun a => Fin.ext ?_)
  match a with
  | ⟨0, _⟩ => blk_simp [index1]; rfl
  | ⟨1, _⟩ => blk_simp [index1]

theorem z_block (c : Dev nD) (t : Fin cfg0.N) (r : Fin 8) (e : Fin 1024) :
    iblk m c 2 t (ix2 r e) = V m c main_v0 (ix2 ⟨min (64 * ((at' t).val + 1)) 2047 * 8 + r.val, by omega⟩ e) := by
  blk_simp [iblk]
  refine congrArg (V m c main_v0) (funext fun a => Fin.ext ?_)
  match a with
  | ⟨0, _⟩ => blk_simp [index2]; rfl
  | ⟨1, _⟩ => blk_simp [index2]

theorem g_block (c : Dev nD) (t : Fin cfg0.N) (r : Fin 1) (e : Fin 1024) : iblk m c 3 t (ix2 r e) = V m c main_v1 (ix2 r e) := by
  blk_simp [iblk]
  refine congrArg (V m c main_v1) (funext fun a => Fin.ext ?_)
  match a with
  | ⟨0, _⟩ => blk_simp [index3]
  | ⟨1, _⟩ => blk_simp [index3]

theorem w_block (c : Dev nD) (t : Fin cfg0.N) (r : Fin 1024) (e : Fin 5632) : iblk m c 4 t (ix2 r e) = V m c main_v2 (ix2 r e) := by
  blk_simp [iblk]
  refine congrArg (V m c main_v2) (funext fun a => Fin.ext ?_)
  match a with
  | ⟨0, _⟩ => blk_simp [index4]
  | ⟨1, _⟩ => blk_simp [index4]

theorem cw_block (c : Dev nD) (t : Fin cfg0.N) (r : Fin 3) (e : Fin 5632) : iblk m c 5 t (ix2 r e) = V m c main_arg3 (ix2 r e) := by
  blk_simp [iblk]
  refine congrArg (V m c main_arg3) (funext fun a => Fin.ext ?_)
  match a with
  | ⟨0, _⟩ => blk_simp [index5]
  | ⟨1, _⟩ => blk_simp [index5]

theorem cb_block (c : Dev nD) (t : Fin cfg0.N) (r : Fin 1) (e : Fin 5632) : iblk m c 6 t (ix2 r e) = V m c main_v3 (ix2 r e) := by
  blk_simp [iblk]
  refine congrArg (V m c main_v3) (funext fun a => Fin.ext ?_)
  match a with
  | ⟨0, _⟩ => blk_simp [index6]
  | ⟨1, _⟩ => blk_simp [index6]

theorem wo_block (c : Dev nD) (t : Fin cfg0.N) (r : Fin 2816) (e : Fin 1024) : iblk m c 7 t (ix2 r e) = V m c main_v4 (ix2 r e) := by
  blk_simp [iblk]
  refine congrArg (V m c main_v4) (funext fun a => Fin.ext ?_)
  match a with
  | ⟨0, _⟩ => blk_simp [index7]
  | ⟨1, _⟩ => blk_simp [index7]

/-- A row of the tokens is a token of a sequence. -/
theorem rows_apply (A0 : Vec Ideal S8x2048x1024 .f32) (r : Fin 16384) (b : Fin 8) (s : Fin 2048) (h : r.val = b.val * 2048 + s.val) (k : Fin 1024) :
    shapeCast S16384x1024 A0 shapeCasts_S8x2048x1024_S16384x1024 (ix2 r k) = SampleRef.tok A0 b s k :=
  shapeCast_apply (s := S8x2048x1024) (t := S16384x1024) A0 _ (ix2 r k) (ix3 b s k) (by
    rw [Shape.rowMajor_val_three, Shape.rowMajor_val_two]; show (b.val * 2048 + s.val) * 1024 + k.val = r.val * 1024 + k.val; omega)

/-- A block of tokens among the 128 of the larger batch. -/
def big (n : Fin 32) : Fin 128 := ⟨n.val, by omega⟩

/-- A block's function of its blocks of the arrays is the reference's result there. -/
theorem block_value (A0 : Vec Ideal S8x2048x1024 .f32) (A1 : Vec Ideal S1024 .f32) (A2 : Vec Ideal S1024x5632 .f32) (A3 : Vec Ideal S3x5632 .f32)
    (A4 : Vec Ideal S5632 .f32) (A5 : Vec Ideal S2816x1024 .f32) (n : Fin 32)
    (x0 : Vec Ideal S512x1024 .f32) (x1 x2 : Vec Ideal S8x1024 .f32) (x3 : Vec Ideal S1x1024 .f32)
    (x4 : Vec Ideal S1024x5632 .bf16) (x5 : Vec Ideal S3x5632 .f32) (x6 : Vec Ideal S1x5632 .f32) (x7 : Vec Ideal S2816x1024 .bf16)
    (h0 : ∀ (r : Fin 512) (e : Fin 1024), x0 (ix2 r e) = shapeCast S16384x1024 A0 shapeCasts_S8x2048x1024_S16384x1024 (ix2 ⟨n.val * 512 + r.val, by omega⟩ e))
    (h1 : ∀ (r : Fin 8) (e : Fin 1024), x1 (ix2 r e) = shapeCast S16384x1024 A0 shapeCasts_S8x2048x1024_S16384x1024 (ix2 ⟨(64 * n.val - 1) * 8 + r.val, by omega⟩ e))
    (h2 : ∀ (r : Fin 8) (e : Fin 1024), x2 (ix2 r e) = shapeCast S16384x1024 A0 shapeCasts_S8x2048x1024_S16384x1024 (ix2 ⟨min (64 * (n.val + 1)) 2047 * 8 + r.val, by omega⟩ e))
    (h3 : ∀ (r : Fin 1) (e : Fin 1024), x3 (ix2 r e) = shapeCast S1x1024 A1 shapeCasts_S1024_S1x1024 (ix2 r e))
    (h4 : ∀ (r : Fin 1024) (e : Fin 5632), x4 (ix2 r e) = A2 (ix2 r e)) (h5 : ∀ (r : Fin 3) (e : Fin 5632), x5 (ix2 r e) = A3 (ix2 r e))
    (h6 : ∀ (r : Fin 1) (e : Fin 5632), x6 (ix2 r e) = shapeCast S1x5632 A4 shapeCasts_S5632_S1x5632 (ix2 r e))
    (h7 : ∀ (r : Fin 2816) (e : Fin 1024), x7 (ix2 r e) = A5 (ix2 r e)) (r : Fin 512) (e : Fin 1024) :
    blockVal (big n) x0 x1 x2 x3 x4 x5 x6 x7 (ix2 r e)
      = Reference3Ideal.Read.val_main_v44 (F := Ideal) A0 A1 A2 A3 A4 A5 (ix2 ⟨n.val * 512 + r.val, by omega⟩ e) := by
  rw [SampleRef.apply]
  generalize hb : (⟨(n.val * 512 + r.val) / 2048, by omega⟩ : Fin 8) = b
  generalize hs : (⟨(n.val * 512 + r.val) % 2048, by omega⟩ : Fin 2048) = s
  have hb : (n.val * 512 + r.val) / 2048 = b.val := congrArg Fin.val hb
  have hs : (n.val * 512 + r.val) % 2048 = s.val := congrArg Fin.val hs
  have eg : (fun k => x3 (ix2 0 k)) = fun k => A1 (ix1 k) := funext fun k => (h3 0 k).trans
    (shapeCast_apply (s := S1024) (t := S1x1024) A1 _ (ix2 0 k) (ix1 k) (by
      rw [Shape.rowMajor_val_one, Shape.rowMajor_val_two]; show k.val = 0 * 1024 + k.val; omega))
  have eb : (fun f => x6 (ix2 0 f)) = fun f => A4 (ix1 f) := funext fun f => (h6 0 f).trans
    (shapeCast_apply (s := S5632) (t := S1x5632) A4 _ (ix2 0 f) (ix1 f) (by
      rw [Shape.rowMajor_val_one, Shape.rowMajor_val_two]; show f.val = 0 * 5632 + f.val; omega))
  have ew : (fun k f => x4 (ix2 k f)) = fun k f => A2 (ix2 k f) := funext fun k => funext fun f => h4 k f
  have ec : (fun a f => x5 (ix2 a f)) = fun a f => A3 (ix2 a f) := funext fun k => funext fun f => h5 k f
  have eo : (fun j e => x7 (ix2 j e)) = fun j e => A5 (ix2 j e) := funext fun k => funext fun f => h7 k f
  have hv : (big n).val = n.val := rfl
  have ex : (fun k => x0 (ix2 r k)) = SampleRef.tok A0 b s := funext fun k => (h0 r k).trans (rows_apply A0 _ b s (by show n.val * 512 + r.val = _; omega) k)
  have ep : prevRow (big n) x0 x1 r = SampleRef.tokPrev A0 b s := by
    funext k
    unfold prevRow SampleRef.tokPrev
    by_cases hr : r.val = 0
    · rw [if_pos hr]
      by_cases h4 : (big n).val % 4 = 0
      · rw [if_pos h4, if_pos (by omega)]
      · rw [if_neg h4, if_neg (by omega)]
        exact (h1 7 k).trans (rows_apply A0 _ b _ (by show (64 * n.val - 1) * 8 + 7 = b.val * 2048 + (s.val - 1); omega) k)
    · rw [if_neg hr, if_neg (by omega)]
      exact (h0 _ k).trans (rows_apply A0 _ b _ (by show n.val * 512 + (r.val - 1) = b.val * 2048 + (s.val - 1); omega) k)
  have en : nextRow (big n) x0 x2 r = SampleRef.tokNext A0 b s := by
    funext k
    unfold nextRow SampleRef.tokNext
    by_cases hr : r.val = 511
    · rw [dif_pos hr]
      by_cases h4 : (big n).val % 4 = 3
      · rw [if_pos h4, dif_pos (by omega)]
      · rw [if_neg h4, dif_neg (by omega)]
        exact (h2 0 k).trans (rows_apply A0 _ b _ (by show min (64 * (n.val + 1)) 2047 * 8 + 0 = b.val * 2048 + (s.val + 1); omega) k)
    · rw [dif_neg hr, dif_neg (by omega)]
      exact (h0 _ k).trans (rows_apply A0 _ b _ (by show n.val * 512 + (r.val + 1) = b.val * 2048 + (s.val + 1); omega) k)
  show out (fun j e => x7 (ix2 j e)) (chan (big n) x0 x1 x2 x3 x4 x5 x6 r) (fun k => x0 (ix2 r k)) e = _
  unfold chan SampleRef.chanAt
  rw [eg, eb, ew, ec, eo, ex, ep, en]

/-- What the kernel leaves is the reference's result. -/
theorem final (c : Dev nD) :
    (dats m 0 c).arrAt 8 cfg0.N
      = Reference3Ideal.Read.val_main_v44 (F := Ideal) (m (c.tc.loc main_arg0)) (m (c.tc.loc main_arg1)) (m (c.tc.loc main_arg2))
        (m (c.tc.loc main_arg3)) (m (c.tc.loc main_arg4)) (m (c.tc.loc main_arg5)) := by
  refine (dats m 0 c).arrAt_eq_of_covers 8 _ (by decide +kernel) fun t hf y => ?_
  blk_simp
  rw [after0_8]
  unfold outsAt0
  rw [out_eq]
  obtain ⟨r, l, rfl⟩ : ∃ (r : Fin 512) (l : Fin 1024), y = ix2 r l := ⟨y 0, y 1, funext fun
    | ⟨0, _⟩ => rfl | ⟨1, _⟩ => rfl⟩
  have e : (win0_8.blk t).view.emb (ix2 r l) = ix2 ⟨(at' t).val * 512 + r.val, by omega⟩ l := funext fun a => Fin.ext (by
    match a with
    | ⟨0, _⟩ => blk_simp [index8]; rfl
    | ⟨1, _⟩ => blk_simp [index8])
  rw [e]
  exact block_value _ _ _ _ _ _ (at' t) _ _ _ _ _ _ _ _
    (fun r e => (x_block m c t r e).trans (congrFun (V_x m c) _)) (fun r e => (y_block m c t r e).trans (congrFun (V_x m c) _))
    (fun r e => (z_block m c t r e).trans (congrFun (V_x m c) _)) (fun r e => (g_block m c t r e).trans (congrFun (V_g m c) _))
    (fun r e => (w_block m c t r e).trans (congrFun (V_w m c) _)) (fun r e => (cw_block m c t r e).trans (congrFun (V_cw m c) _))
    (fun r e => (cb_block m c t r e).trans (congrFun (V_cb m c) _)) (fun r e => (wo_block m c t r e).trans (congrFun (V_wo m c) _)) r l

end Cert.SampleArray

end
-- ==== Proof.Sample.lean ====
/- The claim of equal values about the convolution-gated MLP on the sample batch. -/
module

public import proofs.«01_k».proof.Proof.SampleArray
public import proofs.«01_k».proof.Proof.Gen.Reference3Ideal.Run
public import proofs.«01_k».proof.Defs

@[expose] public section

noncomputable section

namespace Cert.Sample

open Idealize.ShloMosaic

/-- At every index the idealized kernel's result is the reference's. -/
theorem algebraic : Cert.algebraic_Kernel3Ideal_Reference3Ideal := by
  intro m ρ m' ρ' _ hag
  refine ⟨fun c => Cert.Reference3Ideal.Read.val_main_v44 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)),
    (θ_run _ _ _).mono (fun _ h c => ⟨(h c).1.trans (SampleArray.final m c), (h c).2⟩)
      (Cert.Kernel3Ideal.Value.run_blocks m ρ),
    (θ_run _ _ _).mono (fun _ h c => ⟨(h c).1.trans (by
        refine (Cert.Reference3Ideal.Read.val_main_v44_eq m' c).trans ?_
        rw [(hag c).1, (hag c).2.1, (hag c).2.2.1, (hag c).2.2.2.1, (hag c).2.2.2.2.1, (hag c).2.2.2.2.2]), (h c).2⟩)
      (Cert.Reference3Ideal.Value.run m' ρ')⟩

end Cert.Sample

end
-- ==== Proof.Out.lean ====
/- The output projection with its residual: the kernel's result array, row block by row block, as the reference computes it. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.IdealHost

@[expose] public section

noncomputable section

namespace Cert.Out

open Cert.Kernel4Ideal Cert.Kernel4Ideal.Gen
open Idealize.ShloMosaic hiding ix1 ix2 ix3 ix4 ix5 truncf_apply
open Idealize.ShloMosaic.TcCoe Idealize.ShloMosaic.ValueIdx

/-- Rows of 1024 numbers against columns of 1024 numbers. -/
theorem dot_apply (l r : FVec Ideal S1024x1024 .bf16) (a e : Fin 1024) :
    matmul dot_S1024x1024_S1024x1024_S1024x1024_1_0_0_1_n_n none l r (constant S1024x1024 .f32 0x00000000#32) (ix2 a e)
      = ∑ k : Fin 1024, l (ix2 a k) * r (ix2 k e) := by
  simp only [matmul]
  rw [Ideal.matmul_constant_zero_apply, ← Equiv.sum_comp (contrEquiv1 dot_S1024x1024_S1024x1024_S1024x1024_1_0_0_1_n_n 1024 rfl rfl).symm]
  refine Finset.sum_congr rfl fun d _ => ?_
  have hd := contrEquiv1_symm_val dot_S1024x1024_S1024x1024_S1024x1024_1_0_0_1_n_n 1024 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- What a block's result holds: the residual and the row's product. -/
theorem out_apply (a w : Vec Ideal S1024x1024 .bf16) (x : Vec Ideal S1024x1024 .f32) (r e : Fin 1024) :
    out0_3 (F := Ideal) a w x (ix2 r e) = x (ix2 r e) + ∑ k : Fin 1024, a (ix2 r k) * w (ix2 k e) := by
  unfold out0_3
  rw [View.canon_unit_zero (funext fun | ⟨0, _⟩ => rfl | ⟨1, _⟩ => rfl)]
  have hk : ∀ {e} (z : Vec Ideal S1024x1024 e), View.ld z (Rect.unit (s := S1024x1024) ![0, 0] S1024x1024.size inb_S1024x1024_S1024x1024_0_0) = z := fun z =>
    View.ld_unit_zero (funext fun | ⟨0, _⟩ => rfl | ⟨1, _⟩ => rfl) _ z
  rw [hk, hk, hk]
  unfold k0_pay1
  rw [addf_apply, shapeCast_self, shapeCast_self, shapeCast_self, dot_apply]

variable (m : (ℓ : Loc nD τ sig) → Buf (Elt Ideal) ℓ)

/-- The rows the kernel projects. -/
theorem V_a (c : Dev nD) : V m c main_v1 = (truncf .bf16 (shapeCast S65536x1024 (m (c.tc.loc main_arg0)) shapeCasts_S32x2048x1024_S65536x1024 : FVec Ideal S65536x1024 .f32) bitsLt_bf16_f32 : FVec Ideal S65536x1024 .bf16) := by
  show StableHlo.after hostOps0 _ (Proc.devRef .tc main_v1) = _
  after_results
  rfl

theorem V_w (c : Dev nD) : V m c main_v2 = (truncf .bf16 (m (c.tc.loc main_arg1) : FVec Ideal S1024x1024 .f32) bitsLt_bf16_f32 : FVec Ideal S1024x1024 .bf16) := by
  show StableHlo.after hostOps0 _ (Proc.devRef .tc main_v2) = _
  after_results

theorem V_x (c : Dev nD) : V m c main_v3 = shapeCast S65536x1024 (m (c.tc.loc main_arg2)) shapeCasts_S32x2048x1024_S65536x1024 := by
  show StableHlo.after hostOps0 _ (Proc.devRef .tc main_v3) = _
  after_results
  rfl

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] := (by decide +kernel : ∀ t : Fin grid0.N, win0_1.index t = ![0, 0])
theorem index2 : ∀ t : Fin cfg0.N, win0_2.index t = ![(grid0.coords t 0).val, 0] :=
  (by decide +kernel : ∀ t : Fin grid0.N, win0_2.index t = ![(grid0.coords t 0).val, 0])
theorem index3 : ∀ t : Fin cfg0.N, win0_3.index t = ![(grid0.coords t 0).val, 0] :=
  (by decide +kernel : ∀ t : Fin grid0.N, win0_3.index t = ![(grid0.coords t 0).val, 0])

/-- The block of 1024 tokens a point works on. -/
def at' (t : Fin cfg0.N) : Fin 64 := grid0.coords t 0

theorem a_block (c : Dev nD) (t : Fin cfg0.N) (r e : Fin 1024) :
    iblk m c 0 t (ix2 r e) = V m c main_v1 (ix2 ⟨(at' t).val * 1024 + r.val, by omega⟩ e) := by
  blk_simp [iblk]
  refine congrArg (V m c main_v1) (funext fun a => Fin.ext ?_)
  match a with
  | ⟨0, _⟩ => blk_simp [index0]; rfl
  | ⟨1, _⟩ => blk_simp [index0]

theorem w_block (c : Dev nD) (t : Fin cfg0.N) (r e : Fin 1024) : iblk m c 1 t (ix2 r e) = V m c main_v2 (ix2 r e) := by
  blk_simp [iblk]
  refine congrArg (V m c main_v2) (funext fun a => Fin.ext ?_)
  match a with
  | ⟨0, _⟩ => blk_simp [index1]
  | ⟨1, _⟩ => blk_simp [index1]

theorem x_block (c : Dev nD) (t : Fin cfg0.N) (r e : Fin 1024) :
    iblk m c 2 t (ix2 r e) = V m c main_v3 (ix2 ⟨(at' t).val * 1024 + r.val, by omega⟩ e) := by
  blk_simp [iblk]
  refine congrArg (V m c main_v3) (funext fun a => Fin.ext ?_)
  match a with
  | ⟨0, _⟩ => blk_simp [index2]; rfl
  | ⟨1, _⟩ => blk_simp [index2]

/-- A row of the flattened tokens is a token of a sequence. -/
theorem rows_apply (A : Vec Ideal S32x2048x1024 .f32) (r : Fin 65536) (k : Fin 1024) :
    shapeCast S65536x1024 A shapeCasts_S32x2048x1024_S65536x1024 (ix2 r k) = A (ix3 ⟨r.val / 2048, by omega⟩ ⟨r.val % 2048, by omega⟩ k) :=
  shapeCast_apply (s := S32x2048x1024) (t := S65536x1024) A _ (ix2 r k) (ix3 ⟨r.val / 2048, by omega⟩ ⟨r.val % 2048, by omega⟩ k) (by
    rw [Shape.rowMajor_val_three, Shape.rowMajor_val_two]; show (r.val / 2048 * 2048 + r.val % 2048) * 1024 + k.val = r.val * 1024 + k.val; omega)

/-- The reference's result at an index. -/
theorem ref_apply (A : Vec Ideal S32x2048x1024 .f32) (W : Vec Ideal S1024x1024 .f32) (X : Vec Ideal S32x2048x1024 .f32) (r : Fin 65536) (e : Fin 1024) :
    Reference4Ideal.Read.val_main_v2 (F := Ideal) A W X (ix2 r e)
      = X (ix3 ⟨r.val / 2048, by omega⟩ ⟨r.val % 2048, by omega⟩ e)
        + ∑ k : Fin 1024, A (ix3 ⟨r.val / 2048, by omega⟩ ⟨r.val % 2048, by omega⟩ k) * W (ix2 k e) := by
  rw [Reference4Ideal.Read.val_main_v2_apply, Reference4Ideal.Read.val_main_v1_apply, Reference4Ideal.Read.val_main_v0_apply]
  have hi : Reference4Ideal.Read.idx_main_v2 (ix2 r e) = ix3 ⟨r.val / 2048, by omega⟩ ⟨r.val % 2048, by omega⟩ e := funext fun a => Fin.ext (match a with
    | ⟨0, _⟩ => by show (r.val * 1024 + e.val) / 2097152 = r.val / 2048; omega
    | ⟨1, _⟩ => by show (r.val * 1024 + e.val) / 1024 % 2048 = r.val % 2048; omega
    | ⟨2, _⟩ => by show (r.val * 1024 + e.val) % 1024 = e.val; omega)
  rw [hi]
  refine congrArg (X _ + ·) (Finset.sum_congr rfl fun k _ => congrArg₂ (fun x y => A x * W y) (funext fun a => ?_) (funext fun a => ?_))
  · match a with | ⟨0, _⟩ => rfl | ⟨1, _⟩ => rfl | ⟨2, _⟩ => rfl
  · match a with | ⟨0, _⟩ => rfl | ⟨1, _⟩ => rfl

/-- What the kernel leaves is the reference's result. -/
theorem final (c : Dev nD) :
    (dats m 0 c).arrAt 3 cfg0.N
      = Reference4Ideal.Read.val_main_v2 (F := Ideal) (m (c.tc.loc main_arg0)) (m (c.tc.loc main_arg1)) (m (c.tc.loc main_arg2)) := by
  refine (dats m 0 c).arrAt_eq_of_covers 3 _ (by decide +kernel) fun t hf y => ?_
  blk_simp
  rw [after0_3]
  obtain ⟨r, l, rfl⟩ : ∃ r l : Fin 1024, y = ix2 r l := ⟨y 0, y 1, funext fun
    | ⟨0, _⟩ => rfl | ⟨1, _⟩ => rfl⟩
  have e : (win0_3.blk t).view.emb (ix2 r l) = ix2 ⟨(at' t).val * 1024 + r.val, by omega⟩ l := funext fun a => Fin.ext (by
    match a with
    | ⟨0, _⟩ => blk_simp [index3]; rfl
    | ⟨1, _⟩ => blk_simp [index3])
  rw [e, ref_apply, out_apply, x_block, V_x, rows_apply]
  refine congrArg₂ (fun x y : EReal => x + y) rfl (Finset.sum_congr rfl fun k _ => ?_)
  rw [a_block, w_block, V_a, V_w, truncf_apply, truncf_apply, rows_apply]

/-- At every index the idealized kernel's result is the reference's. -/
theorem algebraic : Cert.algebraic_Kernel4Ideal_Reference4Ideal := by
  intro m ρ m' ρ' _ hag
  refine ⟨fun c => Cert.Reference4Ideal.Read.val_main_v2 (F := Ideal)
      (m (c.tc.loc main_arg0)) (m (c.tc.loc main_arg1)) (m (c.tc.loc main_arg2)),
    (θ_run _ _ _).mono (fun _ h c => ⟨(h c).1.trans (final m c), (h c).2⟩) (Cert.Kernel4Ideal.Value.run_blocks m ρ),
    (θ_run _ _ _).mono (fun _ h c => ⟨(h c).1.trans (by
        refine (Cert.Reference4Ideal.Read.val_main_v2_eq _ _ _).trans ?_
        rw [(hag c).1, (hag c).2.1, (hag c).2.2]), (h c).2⟩)
      (Cert.Reference4Ideal.Value.run m' ρ')⟩

end Cert.Out

end
-- ==== Proof.ProjBlock.lean ====
/- One block of the projection kernel: its twelve stores side by side are one function of the block's rows. -/
module

public import proofs.«01_k».proof.Proof.ProjTile
public import proofs.«01_k».proof.Proof.Gen.Kernel5Ideal.Frame
public import Idealize.ShloMosaic.Lib.Pipeline.ValueKit

@[expose] public section

noncomputable section

namespace Cert.ProjBlock

open Cert.Kernel5Ideal Cert.Kernel5Ideal.Gen Cert.Ffn Cert.Proj Cert.ProjTile
open Idealize.ShloMosaic hiding ix1 ix2 ix3 ix4 ix5 truncf_apply
open Idealize.ShloMosaic.ValueIdx

variable (x0 : Vec Ideal S512x1024 .f32) (x1 : Vec Ideal S1x1024 .f32) (x2 : Vec Ideal S1024x3072 .bf16) (x3 : Vec Ideal S1x3072 .f32)

/-- A column of the block's product. -/
def at2 (r : Fin 512) (f : Fin 3072) : EReal :=
  if f.val < 2048 then Proj.normed (fun k => x1 (ix2 0 k)) (fun k => x0 (ix2 r k)) (fun k f => x2 (ix2 k f)) f (x3 (ix2 0 f))
  else col (fun k => x1 (ix2 0 k)) (fun k => x0 (ix2 r k)) (fun k f => x2 (ix2 k f)) f

/-- What the block's result holds. -/
def blockVal : Vec Ideal S512x3072 .bf16 := fun y => at2 x0 x1 x2 x3 (y 0) (y 1)

/-- A slab of the product, its columns standing at `o`. -/
theorem slab_col (o : Nat) (ho : o + 256 ≤ 3072) (inb : ∀ a, (![0, o] : Fin 2 → Nat) a + S1024x256.size a ≤ S1024x3072.size a) (r : Fin 512) (l : Fin 256) :
    k0_pay7 (F := Ideal) (k0_pay3 x0 x1) (View.ld x2 (Rect.unit (s := S1024x3072) ![0, o] S1024x256.size inb)) (ix2 r l)
      = col (fun k => x1 (ix2 0 k)) (fun k => x0 (ix2 r k)) (fun k f => x2 (ix2 k f)) ⟨o + l.val, by omega⟩ := by
  rw [slab_apply]
  unfold col
  refine Finset.sum_congr rfl fun k _ => ?_
  rw [rows_apply]
  refine congrArg (_ * ·) (View.ld_unit_apply_of x2 _ _ _ _ _ fun a => ?_)
  match a with
  | ⟨0, _⟩ => exact (Nat.zero_add _).symm
  | ⟨1, _⟩ => rfl

theorem emb_eq (o : Nat) (ho : o + 256 ≤ 3072) (inb : ∀ a, (![0, o] : Fin 2 → Nat) a + S512x256.size a ≤ S512x3072.size a) (r : Fin 512) (l : Fin 256) :
    (Rect.unit (s := S512x3072) ![0, o] S512x256.size inb).emb (ix2 r l) = ix2 r ⟨o + l.val, by omega⟩ := funext fun a => Fin.ext (match a with
    | ⟨0, _⟩ => by show 0 + 1 * r.val = r.val; omega
    | ⟨1, _⟩ => by show o + 1 * l.val = o + l.val; omega)

/-- A store of a slab of queries or keys. -/
theorem head_piece (n : Nat) (hn : n < 8) (o : Nat) (ho : o = 256 * n) (E : FVec Ideal S256x256 .bf16)
    (hE : ∀ r l : Fin 256, E (ix2 r l) = if r.val / 64 = l.val / 64 then 1 else 0)
    (inw : ∀ a, (![0, o] : Fin 2 → Nat) a + S1024x256.size a ≤ S1024x3072.size a)
    (inh : ∀ a, (![0, o] : Fin 2 → Nat) a + S1x256.size a ≤ S1x3072.size a)
    (inb : ∀ a, (![0, o] : Fin 2 → Nat) a + S512x256.size a ≤ S512x3072.size a) (x : S512x256.Idx) :
    k0_pay10 E (k0_pay7 (F := Ideal) (k0_pay3 x0 x1) (View.ld x2 (Rect.unit (s := S1024x3072) ![0, o] S1024x256.size inw)))
        (View.ld x3 (Rect.unit (s := S1x3072) ![0, o] S1x256.size inh)) x
      = blockVal x0 x1 x2 x3 ((Rect.unit (s := S512x3072) ![0, o] S512x256.size inb).emb x) := by
  obtain ⟨r, l, rfl⟩ : ∃ (r : Fin 512) (l : Fin 256), x = ix2 r l := ⟨x 0, x 1, funext fun | ⟨0, _⟩ => rfl | ⟨1, _⟩ => rfl⟩
  rw [emb_eq o (by omega), heads_apply E hE, slab_col x0 x1 x2 o (by omega)]
  unfold blockVal at2
  rw [if_pos (by show o + l.val < 2048; omega)]
  have hh : View.ld x3 (Rect.unit (s := S1x3072) ![0, o] S1x256.size inh) (ix2 0 l) = x3 (ix2 0 ⟨o + l.val, by omega⟩) :=
    View.ld_unit_apply_of x3 _ _ _ _ _ fun | ⟨0, _⟩ => rfl | ⟨1, _⟩ => rfl
  have hy : ∀ d : Fin 64, k0_pay7 (F := Ideal) (k0_pay3 x0 x1) (View.ld x2 (Rect.unit (s := S1024x3072) ![0, o] S1024x256.size inw)) (ix2 r (headLane l d))
      = col (fun k => x1 (ix2 0 k)) (fun k => x0 (ix2 r k)) (fun k f => x2 (ix2 k f)) (headCol ⟨o + l.val, by omega⟩ d) := fun d => by
    rw [slab_col x0 x1 x2 o (by omega)]
    refine congrArg (col _ _ _) (Fin.ext ?_)
    show o + (64 * (l.val / 64) + d.val) = 64 * ((o + l.val) / 64) + d.val
    omega
  rw [hh, funext hy]
  rfl

/-- A store of a slab of values. -/
theorem value_piece (o : Nat) (h1 : 2048 ≤ o) (h2 : o + 256 ≤ 3072)
    (inw : ∀ a, (![0, o] : Fin 2 → Nat) a + S1024x256.size a ≤ S1024x3072.size a)
    (inb : ∀ a, (![0, o] : Fin 2 → Nat) a + S512x256.size a ≤ S512x3072.size a) (x : S512x256.Idx) :
    k0_pay7 (F := Ideal) (k0_pay3 x0 x1) (View.ld x2 (Rect.unit (s := S1024x3072) ![0, o] S1024x256.size inw)) x
      = blockVal x0 x1 x2 x3 ((Rect.unit (s := S512x3072) ![0, o] S512x256.size inb).emb x) := by
  obtain ⟨r, l, rfl⟩ : ∃ (r : Fin 512) (l : Fin 256), x = ix2 r l := ⟨x 0, x 1, funext fun | ⟨0, _⟩ => rfl | ⟨1, _⟩ => rfl⟩
  rw [emb_eq o (by omega), slab_col x0 x1 x2 o (by omega)]
  unfold blockVal at2
  rw [if_neg (by show ¬ o + l.val < 2048; omega)]

/-- What the body leaves in the result's buffer is the block's function. -/
theorem out_eq : out0_4 (F := Ideal) x0 x1 x2 x3 = blockVal x0 x1 x2 x3 := by
  have hX : k0_pay29 (F := Ideal) x0 x1 x2 x3 = k0_pay3 x0 x1 := by
    unfold k0_pay29
    rw [View.ld_unit_zero (funext fun | ⟨0, _⟩ => rfl | ⟨1, _⟩ => rfl), View.ld_unit_zero (funext fun | ⟨0, _⟩ => rfl | ⟨1, _⟩ => rfl)]
  funext y
  unfold out0_4
  rw [hX]
  refine View.canon_apply_of_pieces (blockVal x0 x1 x2 x3) _ ?_ y (cover0_4 _ _ _ _ _ _ _ _ _ _ _ _ y)
  intro p hp x
  simp only [List.mem_cons, List.not_mem_nil, or_false] at hp
  rcases hp with rfl | rfl | rfl | rfl | rfl | rfl | rfl | rfl | rfl | rfl | rfl | rfl
  · exact value_piece x0 x1 x2 x3 2816 (by decide) (by decide) inb_S1024x3072_S1024x256_0_2816 inb_S512x3072_S512x256_0_2816 x
  · exact value_piece x0 x1 x2 x3 2560 (by decide) (by decide) inb_S1024x3072_S1024x256_0_2560 inb_S512x3072_S512x256_0_2560 x
  · exact value_piece x0 x1 x2 x3 2304 (by decide) (by decide) inb_S1024x3072_S1024x256_0_2304 inb_S512x3072_S512x256_0_2304 x
  · exact value_piece x0 x1 x2 x3 2048 (by decide) (by decide) inb_S1024x3072_S1024x256_0_2048 inb_S512x3072_S512x256_0_2048 x
  · exact head_piece x0 x1 x2 x3 7 (by decide) 1792 rfl _ ones_apply inb_S1024x3072_S1024x256_0_1792 inb_S1x3072_S1x256_0_1792 inb_S512x3072_S512x256_0_1792 x
  · exact head_piece x0 x1 x2 x3 6 (by decide) 1536 rfl _ ones_apply inb_S1024x3072_S1024x256_0_1536 inb_S1x3072_S1x256_0_1536 inb_S512x3072_S512x256_0_1536 x
  · exact head_piece x0 x1 x2 x3 5 (by decide) 1280 rfl _ ones_apply inb_S1024x3072_S1024x256_0_1280 inb_S1x3072_S1x256_0_1280 inb_S512x3072_S512x256_0_1280 x
  · exact head_piece x0 x1 x2 x3 4 (by decide) 1024 rfl _ ones_apply inb_S1024x3072_S1024x256_0_1024 inb_S1x3072_S1x256_0_1024 inb_S512x3072_S512x256_0_1024 x
  · exact head_piece x0 x1 x2 x3 3 (by decide) 768 rfl _ ones_apply inb_S1024x3072_S1024x256_0_768 inb_S1x3072_S1x256_0_768 inb_S512x3072_S512x256_0_768 x
  · exact head_piece x0 x1 x2 x3 2 (by decide) 512 rfl _ ones_apply inb_S1024x3072_S1024x256_0_512 inb_S1x3072_S1x256_0_512 inb_S512x3072_S512x256_0_512 x
  · exact head_piece x0 x1 x2 x3 1 (by decide) 256 rfl _ ones_apply inb_S1024x3072_S1024x256_0_256 inb_S1x3072_S1x256_0_256 inb_S512x3072_S512x256_0_256 x
  · exact head_piece x0 x1 x2 x3 0 (by decide) 0 rfl _ ones_apply inb_S1024x3072_S1024x256_0_0 inb_S1x3072_S1x256_0_0 inb_S512x3072_S512x256_0_0 x

end Cert.ProjBlock

end
-- ==== Proof.ProjRef.lean ====
/- The reference of the projections with their norms read at an index. -/
module

public import proofs.«01_k».proof.Proof.ProjMath
public import proofs.«01_k».proof.Proof.Gen.Reference5Ideal.Read
public import Idealize.ShloMosaic.Lib.KernelVsHost

@[expose] public section

noncomputable section

namespace Cert.ProjRef

open Cert.Reference5Ideal Cert.Reference5Ideal.Gen Cert.Reference5Ideal.Read Cert.Ffn Cert.Proj Idealize.ShloMosaic Idealize.ShloMosaic.ValueIdx

variable (x : Vec Ideal S32x2048x1024 .f32) (g : Vec Ideal S1024 .f32) (w : Vec Ideal S1024x3072 .f32) (aq ak : Vec Ideal S64 .f32)

/-- Token `s` of sequence `b`. -/
def tok (b : Fin 32) (s : Fin 2048) (k : Fin 1024) : EReal := x (ix3 b s k)

/-- The sum of a token's squares. -/
theorem v1_at (i : S32x2048.Idx) (b : Fin 32) (s : Fin 2048) (hb : (i 0).val = b.val) (hs : (i 1).val = s.val) :
    val_main_v1 (F := Ideal) x i = ∑ k, tok x b s k * tok x b s k := by
  rw [val_main_v1_apply, val_main_cst_apply]
  show Ideal.ofBits .f32 0x00000000#32 + _ = _
  rw [Ideal.ofBits_zero_f32, zero_add]
  refine Finset.sum_congr rfl fun k _ => ?_
  rw [val_main_v0_apply]
  have e : idx_main_v1 i k = ix3 b s k := funext fun a => Fin.ext (match a with | ⟨0, _⟩ => hb | ⟨1, _⟩ => hs | ⟨2, _⟩ => rfl)
  rw [e]
  rfl

/-- The normed token. -/
theorem v12_at (b : Fin 32) (s : Fin 2048) (k : Fin 1024) :
    val_main_v12 (F := Ideal) x g (ix3 b s k) = row (fun k => g (ix1 k)) (tok x b s) k := by
  rw [val_main_v12_apply, val_main_v9_apply, val_main_v8_apply, val_main_v7_apply, val_main_v6_apply, val_main_v4_apply, val_main_v2_apply,
    v1_at x _ b s rfl rfl, val_main_v3_apply, val_main_cst_0_apply, val_main_v5_apply, val_main_cst_1_apply, val_main_v11_apply, val_main_v10_apply]
  have e : idx_main_v10 (idx_main_v11 (ix3 b s k)) = ix1 k := funext fun | ⟨0, _⟩ => rfl
  rw [e]
  rfl

/-- The product of token `s`, its column `f`. -/
def colAt (b : Fin 32) (s : Fin 2048) (f : Fin 3072) : EReal := col (fun k => g (ix1 k)) (tok x b s) (fun k f => w (ix2 k f)) f

theorem v13_at (b : Fin 32) (s : Fin 2048) (f : Fin 3072) : val_main_v13 (F := Ideal) x g w (ix3 b s f) = colAt x g w b s f := by
  rw [val_main_v13_apply]
  unfold colAt col
  refine Finset.sum_congr rfl fun k _ => ?_
  have e : lidx_main_v13 (ix3 b s f) k = ix3 b s k := funext fun | ⟨0, _⟩ => rfl | ⟨1, _⟩ => rfl | ⟨2, _⟩ => rfl
  have e' : ridx_main_v13 (ix3 b s f) k = ix2 k f := funext fun | ⟨0, _⟩ => rfl | ⟨1, _⟩ => rfl
  rw [e, e', v12_at]

/-- A head's query. -/
theorem v17_at (i : S32x2048x16x64.Idx) (b : Fin 32) (s : Fin 2048) (h : Fin 16) (d : Fin 64) (hi : i = ix4 b s h d) :
    val_main_v17 (F := Ideal) x g w i = colAt x g w b s ⟨64 * h.val + d.val, by omega⟩ := by
  subst hi
  rw [val_main_v17_apply, val_main_v14_apply, ← v13_at]
  refine congrArg (val_main_v13 (F := Ideal) x g w) (funext fun a => Fin.ext (match a with
    | ⟨0, _⟩ => ?_ | ⟨1, _⟩ => ?_ | ⟨2, _⟩ => ?_))
  · show (((b.val * 2048 + s.val) * 16 + h.val) * 64 + d.val) / 2097152 = b.val; omega
  · show (((b.val * 2048 + s.val) * 16 + h.val) * 64 + d.val) / 1024 % 2048 = s.val; omega
  · show (((b.val * 2048 + s.val) * 16 + h.val) * 64 + d.val) % 1024 = 64 * h.val + d.val; omega

/-- A head's key. -/
theorem v32_at (i : S32x2048x16x64.Idx) (b : Fin 32) (s : Fin 2048) (h : Fin 16) (d : Fin 64) (hi : i = ix4 b s h d) :
    val_main_v32 (F := Ideal) x g w i = colAt x g w b s ⟨1024 + (64 * h.val + d.val), by omega⟩ := by
  subst hi
  rw [val_main_v32_apply, val_main_v15_apply, ← v13_at]
  refine congrArg (val_main_v13 (F := Ideal) x g w) (funext fun a => Fin.ext (match a with
    | ⟨0, _⟩ => ?_ | ⟨1, _⟩ => ?_ | ⟨2, _⟩ => ?_))
  · show (((b.val * 2048 + s.val) * 16 + h.val) * 64 + d.val) / 2097152 = b.val; omega
  · show (((b.val * 2048 + s.val) * 16 + h.val) * 64 + d.val) / 1024 % 2048 = s.val; omega
  · show 1024 + (((b.val * 2048 + s.val) * 16 + h.val) * 64 + d.val) % 1024 = 1024 + (64 * h.val + d.val); omega

/-- The sum of a head's squares. -/
theorem v19_at (i : S32x2048x16.Idx) (b : Fin 32) (s : Fin 2048) (h : Fin 16) (h0 : (i 0).val = b.val) (h1 : (i 1).val = s.val) (h2 : (i 2).val = h.val) :
    val_main_v19 (F := Ideal) x g w i
      = ∑ d : Fin 64, colAt x g w b s ⟨64 * h.val + d.val, by omega⟩ * colAt x g w b s ⟨64 * h.val + d.val, by omega⟩ := by
  rw [val_main_v19_apply, val_main_cst_2_apply]
  show Ideal.ofBits .f32 0x00000000#32 + _ = _
  rw [Ideal.ofBits_zero_f32, zero_add]
  refine Finset.sum_congr rfl fun d _ => ?_
  rw [val_main_v18_apply, v17_at x g w (idx_main_v19 i d) b s h d (funext fun a => Fin.ext (match a with | ⟨0, _⟩ => h0 | ⟨1, _⟩ => h1 | ⟨2, _⟩ => h2 | ⟨3, _⟩ => rfl))]
  rfl

theorem v34_at (i : S32x2048x16.Idx) (b : Fin 32) (s : Fin 2048) (h : Fin 16) (h0 : (i 0).val = b.val) (h1 : (i 1).val = s.val) (h2 : (i 2).val = h.val) :
    val_main_v34 (F := Ideal) x g w i
      = ∑ d : Fin 64, colAt x g w b s ⟨1024 + (64 * h.val + d.val), by omega⟩ * colAt x g w b s ⟨1024 + (64 * h.val + d.val), by omega⟩ := by
  rw [val_main_v34_apply, val_main_cst_5_apply]
  show Ideal.ofBits .f32 0x00000000#32 + _ = _
  rw [Ideal.ofBits_zero_f32, zero_add]
  refine Finset.sum_congr rfl fun d _ => ?_
  rw [val_main_v33_apply, v32_at x g w (idx_main_v34 i d) b s h d (funext fun a => Fin.ext (match a with | ⟨0, _⟩ => h0 | ⟨1, _⟩ => h1 | ⟨2, _⟩ => h2 | ⟨3, _⟩ => rfl))]
  rfl

/-- A normed query. -/
theorem v30_at (b : Fin 32) (s : Fin 2048) (h : Fin 16) (d : Fin 64) :
    val_main_v30 (F := Ideal) x g w aq (ix4 b s h d)
      = colAt x g w b s ⟨64 * h.val + d.val, by omega⟩ * inv (fun d => colAt x g w b s ⟨64 * h.val + d.val, by omega⟩) * aq (ix1 d) := by
  rw [val_main_v30_apply, val_main_v27_apply, v17_at x g w _ b s h d rfl, val_main_v26_apply, val_main_v25_apply, val_main_v24_apply,
    val_main_v22_apply, val_main_v20_apply, v19_at x g w _ b s h rfl rfl rfl, val_main_v21_apply, val_main_cst_3_apply, val_main_v23_apply,
    val_main_cst_4_apply, val_main_v29_apply, val_main_v28_apply]
  have e : idx_main_v28 (idx_main_v29 (ix4 b s h d)) = ix1 d := funext fun | ⟨0, _⟩ => rfl
  rw [e]
  rfl

/-- A normed key. -/
theorem v45_at (b : Fin 32) (s : Fin 2048) (h : Fin 16) (d : Fin 64) :
    val_main_v45 (F := Ideal) x g w ak (ix4 b s h d)
      = colAt x g w b s ⟨1024 + (64 * h.val + d.val), by omega⟩ * inv (fun d => colAt x g w b s ⟨1024 + (64 * h.val + d.val), by omega⟩) * ak (ix1 d) := by
  rw [val_main_v45_apply, val_main_v42_apply, v32_at x g w _ b s h d rfl, val_main_v41_apply, val_main_v40_apply, val_main_v39_apply,
    val_main_v37_apply, val_main_v35_apply, v34_at x g w _ b s h rfl rfl rfl, val_main_v36_apply, val_main_cst_6_apply, val_main_v38_apply,
    val_main_cst_7_apply, val_main_v44_apply, val_main_v43_apply]
  have e : idx_main_v43 (idx_main_v44 (ix4 b s h d)) = ix1 d := funext fun | ⟨0, _⟩ => rfl
  rw [e]
  rfl

/-- The gain of column `f`, where it is a query's or a key's. -/
def gain (f : Fin 3072) : EReal := if f.val < 1024 then aq (ix1 ⟨f.val % 64, by omega⟩) else ak (ix1 ⟨f.val % 64, by omega⟩)

/-- The result of token `s`, column `f`: queries and keys normed, values as they are. -/
def resAt (b : Fin 32) (s : Fin 2048) (f : Fin 3072) : EReal :=
  if f.val < 2048 then Proj.normed (fun k => g (ix1 k)) (tok x b s) (fun k f => w (ix2 k f)) f (gain aq ak f) else colAt x g w b s f

theorem v47_at (b : Fin 32) (s : Fin 2048) (f : Fin 3072) : val_main_v47 (F := Ideal) x g w aq ak (ix3 b s f) = resAt x g w aq ak b s f := by
  unfold val_main_v47 resAt
  by_cases h1 : f.val < 1024
  · refine (concatenate_apply_piece (t := S32x2048x3072) 2 _ _ _ 0 (by simp) S32x2048x1024 _ rfl rfl 0 rfl (ix3 b s ⟨f.val, h1⟩) (fun x hx => match x with | ⟨0, _⟩ => rfl | ⟨1, _⟩ => rfl | ⟨2, _⟩ => absurd rfl hx) (Nat.zero_add _)).trans ?_
    rw [if_pos (by omega), val_main_v31_apply]
    have e : idx_main_v31 (ix3 b s ⟨f.val, h1⟩) = ix4 b s ⟨f.val / 64, by omega⟩ ⟨f.val % 64, by omega⟩ := funext fun a => Fin.ext (match a with
      | ⟨0, _⟩ => by show ((b.val * 2048 + s.val) * 1024 + f.val) / 2097152 = b.val; omega
      | ⟨1, _⟩ => by show ((b.val * 2048 + s.val) * 1024 + f.val) / 1024 % 2048 = s.val; omega
      | ⟨2, _⟩ => by show ((b.val * 2048 + s.val) * 1024 + f.val) / 64 % 16 = f.val / 64; omega
      | ⟨3, _⟩ => by show ((b.val * 2048 + s.val) * 1024 + f.val) % 64 = f.val % 64; omega)
    rw [e, v30_at]
    unfold Proj.normed gain
    rw [if_pos h1]
    have ef : (⟨64 * (f.val / 64) + f.val % 64, by omega⟩ : Fin 3072) = f := Fin.ext (by show 64 * (f.val / 64) + f.val % 64 = f.val; omega)
    rw [ef]
    rfl
  · by_cases h2 : f.val < 2048
    · refine (concatenate_apply_piece (t := S32x2048x3072) 2 _ _ _ 1 (by simp) S32x2048x1024 _ rfl rfl 1024 rfl (ix3 b s ⟨f.val - 1024, by omega⟩) (fun x hx => match x with | ⟨0, _⟩ => rfl | ⟨1, _⟩ => rfl | ⟨2, _⟩ => absurd rfl hx) (by show 1024 + (f.val - 1024) = f.val; omega)).trans ?_
      rw [if_pos h2, val_main_v46_apply]
      have e : idx_main_v46 (ix3 b s ⟨f.val - 1024, by omega⟩) = ix4 b s ⟨(f.val - 1024) / 64, by omega⟩ ⟨f.val % 64, by omega⟩ := funext fun a => Fin.ext (match a with
        | ⟨0, _⟩ => by show ((b.val * 2048 + s.val) * 1024 + (f.val - 1024)) / 2097152 = b.val; omega
        | ⟨1, _⟩ => by show ((b.val * 2048 + s.val) * 1024 + (f.val - 1024)) / 1024 % 2048 = s.val; omega
        | ⟨2, _⟩ => by show ((b.val * 2048 + s.val) * 1024 + (f.val - 1024)) / 64 % 16 = (f.val - 1024) / 64; omega
        | ⟨3, _⟩ => by show ((b.val * 2048 + s.val) * 1024 + (f.val - 1024)) % 64 = f.val % 64; omega)
      rw [e, v45_at]
      unfold Proj.normed gain
      rw [if_neg h1]
      have ef : (⟨1024 + (64 * ((f.val - 1024) / 64) + f.val % 64), by omega⟩ : Fin 3072) = f := Fin.ext (by show 1024 + (64 * ((f.val - 1024) / 64) + f.val % 64) = f.val; omega)
      have eh : (fun d : Fin 64 => colAt x g w b s ⟨1024 + (64 * ((f.val - 1024) / 64) + d.val), by omega⟩) = fun d => colAt x g w b s (headCol f d) :=
        funext fun d => congrArg (colAt x g w b s) (Fin.ext (by show 1024 + (64 * ((f.val - 1024) / 64) + d.val) = 64 * (f.val / 64) + d.val; omega))
      rw [ef, eh]
      rfl
    · refine (concatenate_apply_piece (t := S32x2048x3072) 2 _ _ _ 2 (by simp) S32x2048x1024 _ rfl rfl 2048 rfl (ix3 b s ⟨f.val - 2048, by omega⟩) (fun x hx => match x with | ⟨0, _⟩ => rfl | ⟨1, _⟩ => rfl | ⟨2, _⟩ => absurd rfl hx) (by show 2048 + (f.val - 2048) = f.val; omega)).trans ?_
      rw [if_neg h2, val_main_v16_apply, ← v13_at]
      refine congrArg (val_main_v13 (F := Ideal) x g w) (funext fun a => Fin.ext (match a with | ⟨0, _⟩ => rfl | ⟨1, _⟩ => rfl | ⟨2, _⟩ => ?_))
      show 2048 + (f.val - 2048) = f.val
      omega

/-- The reference's result at an index. -/
theorem ref_apply (r : Fin 65536) (f : Fin 3072) : val_main_v49 (F := Ideal) x g w aq ak (ix2 r f)
    = resAt x g w aq ak ⟨r.val / 2048, by omega⟩ ⟨r.val % 2048, by omega⟩ f := by
  rw [val_main_v49_apply, val_main_v48_apply]
  have e : idx_main_v48 (ix2 r f) = ix3 ⟨r.val / 2048, by omega⟩ ⟨r.val % 2048, by omega⟩ f := funext fun a => Fin.ext (match a with
    | ⟨0, _⟩ => by show (r.val * 3072 + f.val) / 6291456 = r.val / 2048; omega
    | ⟨1, _⟩ => by show (r.val * 3072 + f.val) / 3072 % 2048 = r.val % 2048; omega
    | ⟨2, _⟩ => by show (r.val * 3072 + f.val) % 3072 = f.val; omega)
  rw [e, v47_at]
  rfl

end Cert.ProjRef

end
-- ==== Proof.Proj.lean ====
/- The projections with their norms: the kernel's result array, row block by row block, as the reference computes it. -/
module

public import proofs.«01_k».proof.Defs
public import proofs.«01_k».proof.Proof.ProjBlock
public import proofs.«01_k».proof.Proof.ProjRef
public import proofs.«01_k».proof.Proof.Gen.Kernel5Ideal.Value
public import proofs.«01_k».proof.Proof.Gen.Reference5Ideal.Run
public import Idealize.ShloMosaic.Lib.IdealHost

@[expose] public section

noncomputable section

namespace Cert.Proj

open Cert.Kernel5Ideal Cert.Kernel5Ideal.Gen Cert.Ffn Cert.ProjBlock
open Idealize.ShloMosaic hiding ix1 ix2 ix3 ix4 ix5 truncf_apply
open Idealize.ShloMosaic.TcCoe Idealize.ShloMosaic.ValueIdx

variable (m : (ℓ : Loc nD τ sig) → Buf (Elt Ideal) ℓ)

/-- A gain repeated for the sixteen heads. -/
def tiled (a : FVec Ideal S64 .f32) : FVec Ideal S1024 .f32 :=
  shapeCast S1024 (broadcastInDim S16x64 ![0, 1] bcast_S1x64_S16x64_0_1 (shapeCast S1x64 a shapeCasts_S64_S1x64)) shapeCasts_S16x64_S1024

/-- The gains of all the columns: the queries', the keys', ones. -/
def gains (a b : FVec Ideal S64 .f32) : FVec Ideal S1x3072 .f32 :=
  shapeCast S1x3072 (concatenate S3072 0 [⟨S1024, tiled a⟩, ⟨S1024, tiled b⟩,
    ⟨S1024, broadcastInDim S1024 ![] bcast_S_S1024 (constant S_ .f32 0x3F800000#32)⟩] concatenates_S1024_S1024_S1024_S3072_d0) shapeCasts_S3072_S1x3072

theorem tiled_apply (a : FVec Ideal S64 .f32) (f : Fin 1024) : tiled a (ix1 f) = a (ix1 ⟨f.val % 64, by omega⟩) := by
  unfold tiled
  refine (shapeCast_apply (s := S16x64) (t := S1024) _ _ (ix1 f) (ix2 ⟨f.val / 64, by omega⟩ ⟨f.val % 64, by omega⟩) (by
    rw [Shape.rowMajor_val_two, Shape.rowMajor_val_one]; show f.val / 64 * 64 + f.val % 64 = f.val; omega)).trans ?_
  refine (broadcastInDim_apply (s := S1x64) (t := S16x64) ![0, 1] _ _ _ (ix2 0 ⟨f.val % 64, by omega⟩) (fun | ⟨0, _⟩ => rfl | ⟨1, _⟩ => rfl)).trans ?_
  exact shapeCast_apply (s := S64) (t := S1x64) a _ _ (ix1 ⟨f.val % 64, by omega⟩) (by
    rw [Shape.rowMajor_val_two, Shape.rowMajor_val_one]; show f.val % 64 = 0 * 64 + f.val % 64; omega)

/-- The gain of a query's or a key's column. -/
theorem gains_apply (a b : FVec Ideal S64 .f32) (f : Fin 3072) (hf : f.val < 2048) : gains a b (ix2 0 f) = ProjRef.gain a b f := by
  unfold gains ProjRef.gain
  refine (shapeCast_apply (s := S3072) (t := S1x3072) _ _ (ix2 0 f) (ix1 f) (by
    rw [Shape.rowMajor_val_two, Shape.rowMajor_val_one]; show f.val = 0 * 3072 + f.val; omega)).trans ?_
  by_cases h1 : f.val < 1024
  · rw [if_pos h1]
    exact (concatenate_apply_piece (t := S3072) 0 _ _ _ 0 (by simp) S1024 _ rfl rfl 0 rfl (ix1 ⟨f.val, h1⟩) (fun x hx => match x with | ⟨0, _⟩ => absurd rfl hx) (Nat.zero_add _)).trans (tiled_apply a _)
  · rw [if_neg h1]
    refine (concatenate_apply_piece (t := S3072) 0 _ _ _ 1 (by simp) S1024 _ rfl rfl 1024 rfl (ix1 ⟨f.val - 1024, by omega⟩) (fun x hx => match x with | ⟨0, _⟩ => absurd rfl hx) (by show 1024 + (f.val - 1024) = f.val; omega)).trans ((tiled_apply b _).trans ?_)
    refine congrArg b (funext fun a => Fin.ext (match a with | ⟨0, _⟩ => ?_))
    show (f.val - 1024) % 64 = f.val % 64
    omega

/-- The rows the kernel projects. -/
theorem V_x (c : Dev nD) : V m c main_v8 = shapeCast S65536x1024 (m (c.tc.loc main_arg0)) shapeCasts_S32x2048x1024_S65536x1024 := by
  show StableHlo.after hostOps0 _ (Proc.devRef .tc main_v8) = _
  after_results
  rfl

theorem V_g (c : Dev nD) : V m c main_v10 = shapeCast S1x1024 (m (c.tc.loc main_arg1)) shapeCasts_S1024_S1x1024 := by
  show StableHlo.after hostOps0 _ (Proc.devRef .tc main_v10) = _
  after_results
  rfl

theorem V_w (c : Dev nD) : V m c main_v9 = (truncf .bf16 (m (c.tc.loc main_arg2) : FVec Ideal S1024x3072 .f32) bitsLt_bf16_f32 : FVec Ideal S1024x3072 .bf16) := by
  show StableHlo.after hostOps0 _ (Proc.devRef .tc main_v9) = _
  after_results

theorem V_h (c : Dev nD) : V m c main_v11 = gains (m (c.tc.loc main_arg3)) (m (c.tc.loc main_arg4)) := by
  show StableHlo.after hostOps0 _ (Proc.devRef .tc main_v11) = _
  after_results
  rfl

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![(grid0.coords t 0).val, 0] :=
  (by decide +kernel : ∀ t : Fin grid0.N, win0_4.index t = ![(grid0.coords t 0).val, 0])

/-- The block of 512 tokens a point works on. -/
def at' (t : Fin cfg0.N) : Fin 128 := grid0.coords t 0

theorem x_block (c : Dev nD) (t : Fin cfg0.N) (r : Fin 512) (e : Fin 1024) :
    iblk m c 0 t (ix2 r e) = V m c main_v8 (ix2 ⟨(at' t).val * 512 + r.val, by omega⟩ e) := by
  blk_simp [iblk]
  refine congrArg (V m c main_v8) (funext fun a => Fin.ext ?_)
  match a with
  | ⟨0, _⟩ => blk_simp [index0]; rfl
  | ⟨1, _⟩ => blk_simp [index0]

theorem g_block (c : Dev nD) (t : Fin cfg0.N) (e : Fin 1024) : iblk m c 1 t (ix2 0 e) = V m c main_v10 (ix2 0 e) := by
  blk_simp [iblk]
  refine congrArg (V m c main_v10) (funext fun a => Fin.ext ?_)
  match a with
  | ⟨0, _⟩ => blk_simp [index1]
  | ⟨1, _⟩ => blk_simp [index1]

theorem w_block (c : Dev nD) (t : Fin cfg0.N) (k : Fin 1024) (f : Fin 3072) : iblk m c 2 t (ix2 k f) = V m c main_v9 (ix2 k f) := by
  blk_simp [iblk]
  refine congrArg (V m c main_v9) (funext fun a => Fin.ext ?_)
  match a with
  | ⟨0, _⟩ => blk_simp [index2]
  | ⟨1, _⟩ => blk_simp [index2]

theorem h_block (c : Dev nD) (t : Fin cfg0.N) (f : Fin 3072) : iblk m c 3 t (ix2 0 f) = V m c main_v11 (ix2 0 f) := by
  blk_simp [iblk]
  refine congrArg (V m c main_v11) (funext fun a => Fin.ext ?_)
  match a with
  | ⟨0, _⟩ => blk_simp [index3]
  | ⟨1, _⟩ => blk_simp [index3]

/-- A row of the flattened tokens is a token of a sequence. -/
theorem flat_apply (A : Vec Ideal S32x2048x1024 .f32) (r : Fin 65536) (k : Fin 1024) :
    shapeCast S65536x1024 A shapeCasts_S32x2048x1024_S65536x1024 (ix2 r k) = A (ix3 ⟨r.val / 2048, by omega⟩ ⟨r.val % 2048, by omega⟩ k) :=
  shapeCast_apply (s := S32x2048x1024) (t := S65536x1024) A _ (ix2 r k) (ix3 ⟨r.val / 2048, by omega⟩ ⟨r.val % 2048, by omega⟩ k) (by
    rw [Shape.rowMajor_val_three, Shape.rowMajor_val_two]; show (r.val / 2048 * 2048 + r.val % 2048) * 1024 + k.val = r.val * 1024 + k.val; omega)

/-- A block of the result, in terms of the tokens. -/
theorem block_apply (c : Dev nD) (t : Fin cfg0.N) (r : Fin 512) (f : Fin 3072) :
    at2 (iblk m c 0 t) (iblk m c 1 t) (iblk m c 2 t) (iblk m c 3 t) r f
      = ProjRef.resAt (m (c.tc.loc main_arg0)) (m (c.tc.loc main_arg1)) (m (c.tc.loc main_arg2))
          (m (c.tc.loc main_arg3)) (m (c.tc.loc main_arg4))
          ⟨((at' t).val * 512 + r.val) / 2048, by omega⟩ ⟨((at' t).val * 512 + r.val) % 2048, by omega⟩ f := by
  have hg : (fun k : Fin 1024 => iblk m c 1 t (ix2 0 k)) = fun k => m (c.tc.loc main_arg1) (ix1 k) := funext fun k => by
    rw [g_block, V_g]
    exact shapeCast_apply (s := S1024) (t := S1x1024) _ _ _ (ix1 k) (by rw [Shape.rowMajor_val_two, Shape.rowMajor_val_one]; show k.val = 0 * 1024 + k.val; omega)
  have hx : (fun k : Fin 1024 => iblk m c 0 t (ix2 r k)) = ProjRef.tok (m (c.tc.loc main_arg0)) ⟨((at' t).val * 512 + r.val) / 2048, by omega⟩ ⟨((at' t).val * 512 + r.val) % 2048, by omega⟩ :=
    funext fun k => by rw [x_block, V_x, flat_apply]; rfl
  have hw : (fun (k : Fin 1024) (f : Fin 3072) => iblk m c 2 t (ix2 k f)) = fun k f => m (c.tc.loc main_arg2) (ix2 k f) :=
    funext fun k => funext fun f => by rw [w_block, V_w, truncf_apply]
  unfold at2 ProjRef.resAt
  rw [hg, hx, hw]
  by_cases h : f.val < 2048
  · rw [if_pos h, if_pos h, h_block, V_h, gains_apply _ _ f h]
  · rw [if_neg h, if_neg h]
    rfl

/-- What the kernel leaves is the reference's result. -/
theorem final (c : Dev nD) :
    (dats m 0 c).arrAt 4 cfg0.N
      = Reference5Ideal.Read.val_main_v49 (F := Ideal) (m (c.tc.loc main_arg0)) (m (c.tc.loc main_arg1)) (m (c.tc.loc main_arg2))
          (m (c.tc.loc main_arg3)) (m (c.tc.loc main_arg4)) := by
  refine (dats m 0 c).arrAt_eq_of_covers 4 _ (by decide +kernel) fun t hf y => ?_
  blk_simp
  rw [after0_4]
  obtain ⟨r, l, rfl⟩ : ∃ (r : Fin 512) (l : Fin 3072), y = ix2 r l := ⟨y 0, y 1, funext fun
    | ⟨0, _⟩ => rfl | ⟨1, _⟩ => rfl⟩
  have e : (win0_4.blk t).view.emb (ix2 r l) = ix2 ⟨(at' t).val * 512 + r.val, by omega⟩ l := funext fun a => Fin.ext (by
    match a with
    | ⟨0, _⟩ => blk_simp [index4]; rfl
    | ⟨1, _⟩ => blk_simp [index4])
  rw [e, out_eq, ProjRef.ref_apply]
  exact block_apply m c t r l

/-- At every index the idealized kernel's result is the reference's. -/
theorem algebraic : Cert.algebraic_Kernel5Ideal_Reference5Ideal := by
  intro m ρ m' ρ' _ hag
  refine ⟨fun c => Cert.Reference5Ideal.Read.val_main_v49 (F := Ideal)
      (m (c.tc.loc main_arg0)) (m (c.tc.loc main_arg1)) (m (c.tc.loc main_arg2))
      (m (c.tc.loc main_arg3)) (m (c.tc.loc main_arg4)),
    (θ_run _ _ _).mono (fun _ h c => ⟨(h c).1.trans (final m c), (h c).2⟩) (Cert.Kernel5Ideal.Value.run_blocks m ρ),
    (θ_run _ _ _).mono (fun _ h c => ⟨(h c).1.trans (by
        refine (Cert.Reference5Ideal.Read.val_main_v49_eq _ _).trans ?_
        rw [(hag c).1, (hag c).2.1, (hag c).2.2.1, (hag c).2.2.2.1, (hag c).2.2.2.2]), (h c).2⟩)
      (Cert.Reference5Ideal.Value.run m' ρ')⟩

end Cert.Proj

end
-- ==== Proof.RopeTile.lean ====
/- One block of the projection kernel with rotary embeddings read at an index: what the plain projection's block is, and
   the lanes of the slab's four heads turned. -/
module

public import proofs.«01_k».proof.Proof.ProjMath
public import proofs.«01_k».proof.Proof.Gen.Kernel7Ideal.Skeleton
public import Idealize.ShloMosaic.Lib.Pipeline.Value
public import Idealize.ShloMosaic.Lib.KernelVsHost

@[expose] public section

noncomputable section

namespace Cert.RopeTile

open Cert.Kernel7Ideal Cert.Kernel7Ideal.Gen Cert.Ffn Cert.Proj Idealize.ShloMosaic Idealize.ShloMosaic.ValueIdx

/-- The product of the 512 rows with a slab of 256 columns of the weights. -/
theorem slab_apply (x : FVec Ideal S512x1024 .bf16) (w : Vec Ideal S1024x256 .bf16) (r : Fin 512) (l : Fin 256) :
    k0_pay7 x w (ix2 r l) = ∑ k : Fin 1024, x (ix2 r k) * w (ix2 k l) := by
  show matmul dot_S512x1024_S1024x256_S512x256_1_0_0_1_n_n none x (shapeCast S1024x256 w shapeCasts_S1024x256_S1024x256) (constant S512x256 .f32 0x00000000#32) (ix2 r l) = _
  rw [shapeCast_self]
  simp only [matmul]
  rw [Ideal.matmul_constant_zero_apply, ← Equiv.sum_comp (contrEquiv1 dot_S512x1024_S1024x256_S512x256_1_0_0_1_n_n 1024 rfl rfl).symm]
  refine Finset.sum_congr rfl fun d _ => ?_
  have hd := contrEquiv1_symm_val dot_S512x1024_S1024x256_S512x256_1_0_0_1_n_n 1024 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- The product of a slab with a square matrix. -/
theorem square_apply (x : FVec Ideal S512x256 .bf16) (w : FVec Ideal S256x256 .bf16) (r : Fin 512) (l : Fin 256) :
    matmul dot_S512x256_S256x256_S512x256_1_0_0_1_n_n none x w (constant S512x256 .f32 0x00000000#32) (ix2 r l)
      = ∑ k : Fin 256, x (ix2 r k) * w (ix2 k l) := by
  simp only [matmul]
  rw [Ideal.matmul_constant_zero_apply, ← Equiv.sum_comp (contrEquiv1 dot_S512x256_S256x256_S512x256_1_0_0_1_n_n 256 rfl rfl).symm]
  refine Finset.sum_congr rfl fun d _ => ?_
  have hd := contrEquiv1_symm_val dot_S512x256_S256x256_S512x256_1_0_0_1_n_n 256 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- The normed rows of the block. -/
theorem rows_apply (v : FVec Ideal S512x1024 .f32) (g : Vec Ideal S1x1024 .f32) (q : Fin 512) (k : Fin 1024) :
    k0_pay1 v g (ix2 q k) = row (fun k => g (ix2 0 k)) (fun k => v (ix2 q k)) k := by
  unfold k0_pay1
  dsimp only
  rw [shapeCast_self v, shapeCast_self g]
  have hs : shapeCast S512x1 (multiReduction .add [1] S512 (mulf v v) 0x00000000#32 reduces_S512x1024_S512 (.inl rfl) rfl) shapeCasts_S512_S512x1 (ix2 q 0)
      = ∑ i : Fin 1024, v (ix2 q i) * v (ix2 q i) := by
    refine (shapeCast_apply (s := S512) (t := S512x1) _ _ (ix2 q 0) (ix1 q) (by rw [Shape.rowMajor_val_one, Shape.rowMajor_val_two]; show q.val = q.val * 1 + 0; omega)).trans ?_
    refine (Ideal.multiReduction_add_single (mulf v v) _ _ (.inl rfl) rfl (ix1 q)).trans ?_
    exact Finset.sum_congr rfl fun i _ => congrArg (mulf v v) (funext fun | ⟨0, _⟩ => rfl | ⟨1, _⟩ => rfl)
  have hr : ∀ w : FVec Ideal S512x1 .f32, broadcastTo S512x1024 w broadcasts_S512x1_S512x1024 (ix2 q k) = w (ix2 q 0) := fun w =>
    broadcastTo_apply (s := S512x1) (t := S512x1024) _ _ (ix2 q k) (ix2 q 0) (fun | ⟨0, _⟩ => rfl | ⟨1, _⟩ => rfl)
  have hg : broadcastTo S512x1024 g broadcasts_S1x1024_S512x1024 (ix2 q k) = g (ix2 0 k) :=
    broadcastTo_apply (s := S1x1024) (t := S512x1024) _ _ (ix2 q k) (ix2 0 k) (fun | ⟨0, _⟩ => rfl | ⟨1, _⟩ => rfl)
  unfold row
  rw [← hs]
  refine Eq.trans ?_ (congrArg (_ * ·) hg)
  exact congrArg (v (ix2 q k) * · * broadcastTo S512x1024 g broadcasts_S1x1024_S512x1024 (ix2 q k)) (hr _)

/-- Integers divided by 64, rounded down, the way the kernel divides them. -/
def quot (v : IVec S256x256 32) : IVec S256x256 32 :=
  select
    (andi
      (cmpi .ne
        (subi (extui 32 (cmpi .sgt v (broadcast S256x256 0#32)) natLt_1_32) (extui 32 (cmpi .slt v (broadcast S256x256 0#32)) natLt_1_32))
        (broadcast S256x256 (Scalar.subi (Scalar.extui (Scalar.cmpi .sgt 64#32 0#32)) (Scalar.extui (Scalar.cmpi .slt 64#32 0#32)))))
      (cmpi .ne (remsi v (broadcast S256x256 64#32)) (broadcast S256x256 0#32)))
    (subi (divsi v (broadcast S256x256 64#32)) (broadcast S256x256 1#32)) (divsi v (broadcast S256x256 64#32))

theorem quot_const : ∀ n : Fin 256, quot (fun _ => BitVec.ofNat 32 n.val) (ix2 0 0) = BitVec.ofNat 32 (n.val / 64) := by
  decide +kernel

/-- The group of 64 that a lane's number belongs to. -/
theorem quot_apply (v : IVec S256x256 32) (i : S256x256.Idx) (n : Fin 256) (h : v i = BitVec.ofNat 32 n.val) :
    quot v i = BitVec.ofNat 32 (n.val / 64) := by
  rw [← quot_const n, ← h]
  rfl

theorem group_eq : ∀ a b : Fin 4, IntOp.cmpi .eq (BitVec.ofNat 32 a.val) (BitVec.ofNat 32 b.val) = if a.val = b.val then 1#1 else 0#1 := by
  decide +kernel

/-- The matrix that is one where two columns belong to one head, zero elsewhere. -/
theorem ones_apply (r l : Fin 256) :
    k0_pay4 (F := Ideal) (iota .tc S256x256 32 [1] iota_S256x256_d1_w32) k0_pay2 64#32 k0_pay3 (ix2 r l)
      = if r.val / 64 = l.val / 64 then 1 else 0 := by
  show (select (cmpi .eq (quot (iota .tc S256x256 32 [0] iota_S256x256_d0_w32)) (quot (iota .tc S256x256 32 [1] iota_S256x256_d1_w32)))
    (broadcast S256x256 (Ideal.ofBits .f32 0x3F800000#32)) (broadcast S256x256 (Ideal.ofBits .f32 0x00000000#32)) : FVec Ideal S256x256 .f32) (ix2 r l) = _
  rw [select_apply]
  have hc : cmpi .eq (quot (iota .tc S256x256 32 [0] iota_S256x256_d0_w32)) (quot (iota .tc S256x256 32 [1] iota_S256x256_d1_w32)) (ix2 r l)
      = if r.val / 64 = l.val / 64 then 1#1 else 0#1 := by
    show IntOp.cmpi .eq (quot _ (ix2 r l)) (quot _ (ix2 r l)) = _
    rw [quot_apply _ _ r (by rw [iota_single_apply]), quot_apply _ _ l (by rw [iota_single_apply])]
    exact group_eq ⟨r.val / 64, by omega⟩ ⟨l.val / 64, by omega⟩
  rw [hc]
  by_cases h : r.val / 64 = l.val / 64
  · rw [if_pos h, if_pos h, select_one]
    exact Ideal.ofBits_one_f32
  · rw [if_neg h, if_neg h, select_zero]
    exact Ideal.ofBits_zero_f32

/-- Lane `d` of the head that lane `l` of a slab belongs to. -/
def headLane (l : Fin 256) (d : Fin 64) : Fin 256 := ⟨64 * (l.val / 64) + d.val, by omega⟩

/-- The lane that lane `l` turns with: the one 32 further in the first half of a head, 32 back in the second. -/
def pairLane (l : Fin 256) : Fin 256 := if h : l.val % 64 < 32 then ⟨l.val + 32, by omega⟩ else ⟨l.val - 32, by omega⟩

theorem pairLane_val (l : Fin 256) : (pairLane l).val = if l.val % 64 < 32 then l.val + 32 else l.val - 32 := by
  unfold pairLane
  split <;> rfl

/-- A slab over its heads' root mean squares, times the gains. -/
def normedSlab (E : FVec Ideal S256x256 .bf16) (y : FVec Ideal S512x256 .f32) (a : Vec Ideal S1x256 .f32) : FVec Ideal S512x256 .f32 :=
  mulf (mulf y (rsqrt (addf (mulf (matmul dot_S512x256_S256x256_S512x256_1_0_0_1_n_n none (truncf .bf16 (mulf y y) bitsLt_bf16_f32) E (constant S512x256 .f32 0x00000000#32))
    (broadcast S512x256 (Scalar.ofBits .f32 0x3C800000#32))) (broadcast S512x256 (Scalar.ofBits .f32 0x358637BD#32)))))
    (broadcastTo S512x256 (shapeCast S1x256 a shapeCasts_S1x256_S1x256) broadcasts_S1x256_S512x256)

theorem normedSlab_apply (E : FVec Ideal S256x256 .bf16) (hE : ∀ r l : Fin 256, E (ix2 r l) = if r.val / 64 = l.val / 64 then 1 else 0)
    (y : FVec Ideal S512x256 .f32) (a : Vec Ideal S1x256 .f32) (r : Fin 512) (l : Fin 256) :
    normedSlab E y a (ix2 r l) = y (ix2 r l) * inv (fun d => y (ix2 r (headLane l d))) * a (ix2 0 l) := by
  have hs : matmul dot_S512x256_S256x256_S512x256_1_0_0_1_n_n none (truncf .bf16 (mulf y y) bitsLt_bf16_f32) E (constant S512x256 .f32 0x00000000#32) (ix2 r l)
      = ∑ d : Fin 64, y (ix2 r (headLane l d)) * y (ix2 r (headLane l d)) := by
    rw [square_apply]
    refine Eq.trans (Finset.sum_congr rfl fun k _ => ?_) (sum_group (fun k => y (ix2 r k) * y (ix2 r k)) l)
    rw [hE]
    rfl
  have ha : broadcastTo S512x256 (shapeCast S1x256 a shapeCasts_S1x256_S1x256) broadcasts_S1x256_S512x256 (ix2 r l) = a (ix2 0 l) := by
    rw [shapeCast_self]
    exact broadcastTo_apply (s := S1x256) (t := S512x256) _ _ (ix2 r l) (ix2 0 l) (fun | ⟨0, _⟩ => rfl | ⟨1, _⟩ => rfl)
  show y (ix2 r l) * Ideal.rsqrt (matmul dot_S512x256_S256x256_S512x256_1_0_0_1_n_n none (truncf .bf16 (mulf y y) bitsLt_bf16_f32) E (constant S512x256 .f32 0x00000000#32) (ix2 r l) * Ideal.ofBits .f32 0x3C800000#32 + Ideal.ofBits .f32 0x358637BD#32)
    * broadcastTo S512x256 (shapeCast S1x256 a shapeCasts_S1x256_S1x256) broadcasts_S1x256_S512x256 (ix2 r l) = _
  rw [hs, ha, mul_sixtyfourth]
  rfl

/-- The lanes of the first halves of the heads, in a row of 256 numbers that are lane numbers. -/
theorem mask_const : ∀ l : Fin 256, k0_pay6 k0_pay5 32#32 (ix2 0 l) = if l.val % 64 < 32 then 1#1 else 0#1 := by
  decide +kernel

/-- Rotating the lanes by `n` reads lane `k` where `k + n` is `l` up to 256. -/
theorem rotate_apply (n : BitVec 32) (x : FVec Ideal S512x256 .f32) (r : Fin 512) (l k : Fin 256) (h : k.val = (l.val + 256 - n.toNat % 256) % 256) :
    dynamicRotate 1 n none x rotates_S512x256_d1 (ix2 r l) = x (ix2 r k) :=
  dynamicRotate_apply (s := S512x256) 1 n x _ _ (ix2 r k) (fun
    | ⟨0, _⟩ => rfl
    | ⟨1, _⟩ => h)

/-- The turned slab. -/
theorem turned_apply (E : FVec Ideal S256x256 .bf16) (y : FVec Ideal S512x256 .f32) (a : Vec Ideal S1x256 .f32) (cs sn : Vec Ideal S512x256 .f32) (r : Fin 512) (l : Fin 256) :
    k0_pay10 E (k0_pay6 k0_pay5 32#32) y a cs sn (ix2 r l)
      = normedSlab E y a (ix2 r l) * cs (ix2 r l) + normedSlab E y a (ix2 r (pairLane l)) * sn (ix2 r l) := by
  show normedSlab E y a (ix2 r l) * shapeCast S512x256 cs shapeCasts_S512x256_S512x256 (ix2 r l)
    + select (broadcastTo S512x256 (shapeCast S1x256 (k0_pay6 k0_pay5 32#32) shapeCasts_S1x256_S1x256) broadcasts_S1x256_S512x256)
        (dynamicRotate 1 224#32 none (normedSlab E y a) rotates_S512x256_d1) (dynamicRotate 1 32#32 none (normedSlab E y a) rotates_S512x256_d1) (ix2 r l)
      * shapeCast S512x256 sn shapeCasts_S512x256_S512x256 (ix2 r l) = _
  have hm : broadcastTo S512x256 (shapeCast S1x256 (k0_pay6 k0_pay5 32#32) shapeCasts_S1x256_S1x256) broadcasts_S1x256_S512x256 (ix2 r l)
      = if l.val % 64 < 32 then 1#1 else 0#1 := by
    rw [shapeCast_self, ← mask_const]
    exact broadcastTo_apply (s := S1x256) (t := S512x256) _ _ (ix2 r l) (ix2 0 l) (fun | ⟨0, _⟩ => rfl | ⟨1, _⟩ => rfl)
  rw [shapeCast_self cs, shapeCast_self sn, select_apply, hm]
  unfold pairLane
  by_cases h : l.val % 64 < 32
  · rw [if_pos h, dif_pos h, select_one, rotate_apply 224#32 _ r l ⟨l.val + 32, by omega⟩ (by show l.val + 32 = (l.val + 256 - 224 % 256) % 256; omega)]
  · rw [if_neg h, dif_neg h, select_zero, rotate_apply 32#32 _ r l ⟨l.val - 32, by omega⟩ (by show l.val - 32 = (l.val + 256 - 32 % 256) % 256; omega)]

end Cert.RopeTile

end
-- ==== Proof.RopeMath.lean ====
/- Rotary embeddings as a function of a row's normed numbers. -/
module

public import proofs.«01_k».proof.Proof.ProjMath

@[expose] public section

noncomputable section

namespace Cert.Rope

open Cert.Proj Idealize.ShloMosaic

/-- The column that column `f` turns with: 32 further in the first half of a head, 32 back in the second. -/
def pairCol (f : Fin 3072) : Fin 3072 := if h : f.val % 64 < 32 then ⟨f.val + 32, by omega⟩ else ⟨f.val - 32, by omega⟩

theorem pairCol_val (f : Fin 3072) : (pairCol f).val = if f.val % 64 < 32 then f.val + 32 else f.val - 32 := by
  unfold pairCol
  split <;> rfl

/-- The turned number of column `f`, from all the numbers `N` of the row. -/
def turned (N : Fin 3072 → EReal) (f : Fin 3072) (cs sn : EReal) : EReal := N f * cs + N (pairCol f) * sn

/-- In the first half of a head the sine is subtracted. -/
theorem turned_first (N : Fin 3072 → EReal) (f : Fin 3072) (h : f.val % 64 < 32) (cs sn : EReal) :
    turned N f cs (-sn) = N f * cs - N ⟨f.val + 32, by omega⟩ * sn := by
  unfold turned pairCol
  rw [dif_pos h, mul_neg, sub_eq_add_neg]

/-- In the second it is added. -/
theorem turned_second (N : Fin 3072 → EReal) (f : Fin 3072) (h : ¬ f.val % 64 < 32) (cs sn : EReal) :
    turned N f cs sn = N f * cs + N ⟨f.val - 32, by omega⟩ * sn := by
  unfold turned pairCol
  rw [dif_neg h]

end Cert.Rope

end
-- ==== Proof.RopeBlock.lean ====
/- One block of the projection kernel with rotary embeddings: its stores side by side are one function of the block's rows. -/
module

public import proofs.«01_k».proof.Proof.RopeTile
public import proofs.«01_k».proof.Proof.RopeMath
public import proofs.«01_k».proof.Proof.Gen.Kernel7Ideal.Frame
public import Idealize.ShloMosaic.Lib.Pipeline.ValueKit

@[expose] public section

noncomputable section

namespace Cert.RopeBlock

open Cert.Kernel7Ideal Cert.Kernel7Ideal.Gen Cert.Ffn Cert.Proj Cert.Rope Cert.RopeTile
open Idealize.ShloMosaic hiding ix1 ix2 ix3 ix4 ix5 truncf_apply
open Idealize.ShloMosaic.ValueIdx

variable (x0 : Vec Ideal S512x1024 .f32) (x1 : Vec Ideal S1x1024 .f32) (x2 : Vec Ideal S1024x3072 .bf16) (x3 : Vec Ideal S1x3072 .f32) (x4 x5 : Vec Ideal S512x256 .f32)

/-- A normed column of the block's product. -/
def normAt (r : Fin 512) (f : Fin 3072) : EReal :=
  Proj.normed (fun k => x1 (ix2 0 k)) (fun k => x0 (ix2 r k)) (fun k f => x2 (ix2 k f)) f (x3 (ix2 0 f))

/-- A column of the block's result: queries and keys normed and turned, values as the product leaves them. -/
def at2 (r : Fin 512) (f : Fin 3072) : EReal :=
  if f.val < 2048 then turned (normAt x0 x1 x2 x3 r) f (x4 (ix2 r ⟨f.val % 256, by omega⟩)) (x5 (ix2 r ⟨f.val % 256, by omega⟩))
  else col (fun k => x1 (ix2 0 k)) (fun k => x0 (ix2 r k)) (fun k f => x2 (ix2 k f)) f

/-- What the block's result holds. -/
def blockVal : Vec Ideal S512x3072 .bf16 := fun y => at2 x0 x1 x2 x3 x4 x5 (y 0) (y 1)

/-- A slab of the product, its columns standing at `o`. -/
theorem slab_col (o : Nat) (ho : o + 256 ≤ 3072) (inb : ∀ a, (![0, o] : Fin 2 → Nat) a + S1024x256.size a ≤ S1024x3072.size a) (r : Fin 512) (l : Fin 256) :
    k0_pay7 (F := Ideal) (k0_pay1 x0 x1) (View.ld x2 (Rect.unit (s := S1024x3072) ![0, o] S1024x256.size inb)) (ix2 r l)
      = col (fun k => x1 (ix2 0 k)) (fun k => x0 (ix2 r k)) (fun k f => x2 (ix2 k f)) ⟨o + l.val, by omega⟩ := by
  rw [slab_apply]
  unfold col
  refine Finset.sum_congr rfl fun k _ => ?_
  rw [rows_apply]
  refine congrArg (_ * ·) (View.ld_unit_apply_of x2 _ _ _ _ _ fun a => ?_)
  match a with
  | ⟨0, _⟩ => exact (Nat.zero_add _).symm
  | ⟨1, _⟩ => rfl

theorem emb_eq (o : Nat) (ho : o + 256 ≤ 3072) (inb : ∀ a, (![0, o] : Fin 2 → Nat) a + S512x256.size a ≤ S512x3072.size a) (r : Fin 512) (l : Fin 256) :
    (Rect.unit (s := S512x3072) ![0, o] S512x256.size inb).emb (ix2 r l) = ix2 r ⟨o + l.val, by omega⟩ := funext fun a => Fin.ext (match a with
    | ⟨0, _⟩ => by show 0 + 1 * r.val = r.val; omega
    | ⟨1, _⟩ => by show o + 1 * l.val = o + l.val; omega)

/-- A normed slab of queries or keys, its columns standing at `o`. -/
theorem norm_piece (n : Nat) (hn : n < 8) (o : Nat) (ho : o = 256 * n) (E : FVec Ideal S256x256 .bf16)
    (hE : ∀ r l : Fin 256, E (ix2 r l) = if r.val / 64 = l.val / 64 then 1 else 0)
    (inw : ∀ a, (![0, o] : Fin 2 → Nat) a + S1024x256.size a ≤ S1024x3072.size a)
    (inh : ∀ a, (![0, o] : Fin 2 → Nat) a + S1x256.size a ≤ S1x3072.size a) (r : Fin 512) (l : Fin 256) :
    normedSlab E (k0_pay7 (F := Ideal) (k0_pay1 x0 x1) (View.ld x2 (Rect.unit (s := S1024x3072) ![0, o] S1024x256.size inw)))
        (View.ld x3 (Rect.unit (s := S1x3072) ![0, o] S1x256.size inh)) (ix2 r l)
      = normAt x0 x1 x2 x3 r ⟨o + l.val, by omega⟩ := by
  rw [normedSlab_apply E hE, slab_col x0 x1 x2 o (by omega)]
  have hh : View.ld x3 (Rect.unit (s := S1x3072) ![0, o] S1x256.size inh) (ix2 0 l) = x3 (ix2 0 ⟨o + l.val, by omega⟩) :=
    View.ld_unit_apply_of x3 _ _ _ _ _ fun | ⟨0, _⟩ => rfl | ⟨1, _⟩ => rfl
  have hy : ∀ d : Fin 64, k0_pay7 (F := Ideal) (k0_pay1 x0 x1) (View.ld x2 (Rect.unit (s := S1024x3072) ![0, o] S1024x256.size inw)) (ix2 r (headLane l d))
      = col (fun k => x1 (ix2 0 k)) (fun k => x0 (ix2 r k)) (fun k f => x2 (ix2 k f)) (headCol ⟨o + l.val, by omega⟩ d) := fun d => by
    rw [slab_col x0 x1 x2 o (by omega)]
    refine congrArg (col _ _ _) (Fin.ext ?_)
    show o + (64 * (l.val / 64) + d.val) = 64 * ((o + l.val) / 64) + d.val
    omega
  rw [hh, funext hy]
  rfl

/-- A store of a slab of queries or keys. -/
theorem head_piece (n : Nat) (hn : n < 8) (o : Nat) (ho : o = 256 * n) (E : FVec Ideal S256x256 .bf16)
    (hE : ∀ r l : Fin 256, E (ix2 r l) = if r.val / 64 = l.val / 64 then 1 else 0)
    (inw : ∀ a, (![0, o] : Fin 2 → Nat) a + S1024x256.size a ≤ S1024x3072.size a)
    (inh : ∀ a, (![0, o] : Fin 2 → Nat) a + S1x256.size a ≤ S1x3072.size a)
    (inb : ∀ a, (![0, o] : Fin 2 → Nat) a + S512x256.size a ≤ S512x3072.size a) (x : S512x256.Idx) :
    k0_pay10 E (k0_pay6 k0_pay5 32#32) (k0_pay7 (F := Ideal) (k0_pay1 x0 x1) (View.ld x2 (Rect.unit (s := S1024x3072) ![0, o] S1024x256.size inw)))
        (View.ld x3 (Rect.unit (s := S1x3072) ![0, o] S1x256.size inh)) x4 x5 x
      = blockVal x0 x1 x2 x3 x4 x5 ((Rect.unit (s := S512x3072) ![0, o] S512x256.size inb).emb x) := by
  obtain ⟨r, l, rfl⟩ : ∃ (r : Fin 512) (l : Fin 256), x = ix2 r l := ⟨x 0, x 1, funext fun | ⟨0, _⟩ => rfl | ⟨1, _⟩ => rfl⟩
  rw [emb_eq o (by omega), turned_apply, norm_piece x0 x1 x2 x3 n hn o ho E hE, norm_piece x0 x1 x2 x3 n hn o ho E hE]
  show _ = at2 x0 x1 x2 x3 x4 x5 r ⟨o + l.val, by omega⟩
  unfold at2 turned
  rw [if_pos (by show o + l.val < 2048; omega)]
  have e1 : (⟨(o + l.val) % 256, by omega⟩ : Fin 256) = l := Fin.ext (by show (o + l.val) % 256 = l.val; omega)
  have e2 : pairCol ⟨o + l.val, by omega⟩ = ⟨o + (pairLane l).val, by omega⟩ := Fin.ext (by
    rw [pairCol_val]
    show (if (o + l.val) % 64 < 32 then o + l.val + 32 else o + l.val - 32) = o + (pairLane l).val
    rw [pairLane_val]
    split <;> split <;> omega)
  rw [e1, e2]

/-- A store of a slab of values. -/
theorem value_piece (o : Nat) (h1 : 2048 ≤ o) (h2 : o + 256 ≤ 3072)
    (inw : ∀ a, (![0, o] : Fin 2 → Nat) a + S1024x256.size a ≤ S1024x3072.size a)
    (inb : ∀ a, (![0, o] : Fin 2 → Nat) a + S512x256.size a ≤ S512x3072.size a) (x : S512x256.Idx) :
    k0_pay7 (F := Ideal) (k0_pay1 x0 x1) (View.ld x2 (Rect.unit (s := S1024x3072) ![0, o] S1024x256.size inw)) x
      = blockVal x0 x1 x2 x3 x4 x5 ((Rect.unit (s := S512x3072) ![0, o] S512x256.size inb).emb x) := by
  obtain ⟨r, l, rfl⟩ : ∃ (r : Fin 512) (l : Fin 256), x = ix2 r l := ⟨x 0, x 1, funext fun | ⟨0, _⟩ => rfl | ⟨1, _⟩ => rfl⟩
  rw [emb_eq o (by omega), slab_col x0 x1 x2 o (by omega)]
  unfold blockVal at2
  rw [if_neg (by show ¬ o + l.val < 2048; omega)]

/-- What the body leaves in the result's buffer is the block's function. -/
theorem out_eq : out0_6 (F := Ideal) x0 x1 x2 x3 x4 x5 = blockVal x0 x1 x2 x3 x4 x5 := by
  have hX : k0_pay33 (F := Ideal) x0 x1 x2 x3 x4 x5 = k0_pay1 x0 x1 := by
    unfold k0_pay33
    rw [View.ld_unit_zero (funext fun | ⟨0, _⟩ => rfl | ⟨1, _⟩ => rfl), View.ld_unit_zero (funext fun | ⟨0, _⟩ => rfl | ⟨1, _⟩ => rfl)]
  have h4 : View.ld x4 r0_5 = x4 := View.ld_unit_zero (funext fun | ⟨0, _⟩ => rfl | ⟨1, _⟩ => rfl) _ _
  have h5 : View.ld x5 r0_5 = x5 := View.ld_unit_zero (funext fun | ⟨0, _⟩ => rfl | ⟨1, _⟩ => rfl) _ _
  funext y
  unfold out0_6 k0_pay37
  rw [hX, h4, h5]
  refine View.canon_apply_of_pieces (blockVal x0 x1 x2 x3 x4 x5) _ ?_ y (cover0_6 _ _ _ _ _ _ _ _ _ _ _ _ y)
  intro p hp x
  simp only [List.mem_cons, List.not_mem_nil, or_false] at hp
  rcases hp with rfl | rfl | rfl | rfl | rfl | rfl | rfl | rfl | rfl | rfl | rfl | rfl
  · exact value_piece x0 x1 x2 x3 x4 x5 2816 (by decide) (by decide) inb_S1024x3072_S1024x256_0_2816 inb_S512x3072_S512x256_0_2816 x
  · exact value_piece x0 x1 x2 x3 x4 x5 2560 (by decide) (by decide) inb_S1024x3072_S1024x256_0_2560 inb_S512x3072_S512x256_0_2560 x
  · exact value_piece x0 x1 x2 x3 x4 x5 2304 (by decide) (by decide) inb_S1024x3072_S1024x256_0_2304 inb_S512x3072_S512x256_0_2304 x
  · exact value_piece x0 x1 x2 x3 x4 x5 2048 (by decide) (by decide) inb_S1024x3072_S1024x256_0_2048 inb_S512x3072_S512x256_0_2048 x
  · exact head_piece x0 x1 x2 x3 x4 x5 7 (by decide) 1792 rfl _ ones_apply inb_S1024x3072_S1024x256_0_1792 inb_S1x3072_S1x256_0_1792 inb_S512x3072_S512x256_0_1792 x
  · exact head_piece x0 x1 x2 x3 x4 x5 6 (by decide) 1536 rfl _ ones_apply inb_S1024x3072_S1024x256_0_1536 inb_S1x3072_S1x256_0_1536 inb_S512x3072_S512x256_0_1536 x
  · exact head_piece x0 x1 x2 x3 x4 x5 5 (by decide) 1280 rfl _ ones_apply inb_S1024x3072_S1024x256_0_1280 inb_S1x3072_S1x256_0_1280 inb_S512x3072_S512x256_0_1280 x
  · exact head_piece x0 x1 x2 x3 x4 x5 4 (by decide) 1024 rfl _ ones_apply inb_S1024x3072_S1024x256_0_1024 inb_S1x3072_S1x256_0_1024 inb_S512x3072_S512x256_0_1024 x
  · exact head_piece x0 x1 x2 x3 x4 x5 3 (by decide) 768 rfl _ ones_apply inb_S1024x3072_S1024x256_0_768 inb_S1x3072_S1x256_0_768 inb_S512x3072_S512x256_0_768 x
  · exact head_piece x0 x1 x2 x3 x4 x5 2 (by decide) 512 rfl _ ones_apply inb_S1024x3072_S1024x256_0_512 inb_S1x3072_S1x256_0_512 inb_S512x3072_S512x256_0_512 x
  · exact head_piece x0 x1 x2 x3 x4 x5 1 (by decide) 256 rfl _ ones_apply inb_S1024x3072_S1024x256_0_256 inb_S1x3072_S1x256_0_256 inb_S512x3072_S512x256_0_256 x
  · exact head_piece x0 x1 x2 x3 x4 x5 0 (by decide) 0 rfl _ ones_apply inb_S1024x3072_S1024x256_0_0 inb_S1x3072_S1x256_0_0 inb_S512x3072_S512x256_0_0 x

end Cert.RopeBlock

end
-- ==== Proof.RopeRef.lean ====
/- The reference of the projections with norms and rotary embeddings read at an index. -/
module

public import proofs.«01_k».proof.Proof.RopeMath
public import proofs.«01_k».proof.Proof.Gen.Reference7Ideal.Read
public import Idealize.ShloMosaic.Lib.KernelVsHost

@[expose] public section

noncomputable section

namespace Cert.RopeRef

open Cert.Reference7Ideal Cert.Reference7Ideal.Gen Cert.Reference7Ideal.Read Cert.Ffn Cert.Proj Cert.Rope Idealize.ShloMosaic Idealize.ShloMosaic.ValueIdx

variable (x : Vec Ideal S32x2048x1024 .f32) (g : Vec Ideal S1024 .f32) (w : Vec Ideal S1024x3072 .f32) (aq ak : Vec Ideal S64 .f32)

/-- Token `s` of sequence `b`. -/
def tok (b : Fin 32) (s : Fin 2048) (k : Fin 1024) : EReal := x (ix3 b s k)

/-- The sum of a token's squares. -/
theorem v2_at (i : S32x2048.Idx) (b : Fin 32) (s : Fin 2048) (hb : (i 0).val = b.val) (hs : (i 1).val = s.val) :
    val_main_v2 (F := Ideal) x i = ∑ k, tok x b s k * tok x b s k := by
  rw [val_main_v2_apply, val_main_cst_apply]
  show Ideal.ofBits .f32 0x00000000#32 + _ = _
  rw [Ideal.ofBits_zero_f32, zero_add]
  refine Finset.sum_congr rfl fun k _ => ?_
  rw [val_main_v1_apply]
  have e : idx_main_v2 i k = ix3 b s k := funext fun a => Fin.ext (match a with | ⟨0, _⟩ => hb | ⟨1, _⟩ => hs | ⟨2, _⟩ => rfl)
  rw [e]
  rfl

/-- The normed token. -/
theorem v13_at (b : Fin 32) (s : Fin 2048) (k : Fin 1024) :
    val_main_v13 (F := Ideal) x g (ix3 b s k) = row (fun k => g (ix1 k)) (tok x b s) k := by
  rw [val_main_v13_apply, val_main_v10_apply, val_main_v9_apply, val_main_v8_apply, val_main_v7_apply, val_main_v5_apply, val_main_v3_apply,
    v2_at x _ b s rfl rfl, val_main_v4_apply, val_main_cst_0_apply, val_main_v6_apply, val_main_cst_1_apply, val_main_v12_apply, val_main_v11_apply]
  have e : idx_main_v11 (idx_main_v12 (ix3 b s k)) = ix1 k := funext fun | ⟨0, _⟩ => rfl
  rw [e]
  rfl

/-- The product of token `s`, its column `f`. -/
def colAt (b : Fin 32) (s : Fin 2048) (f : Fin 3072) : EReal := col (fun k => g (ix1 k)) (tok x b s) (fun k f => w (ix2 k f)) f

theorem v14_at (b : Fin 32) (s : Fin 2048) (f : Fin 3072) : val_main_v14 (F := Ideal) x g w (ix3 b s f) = colAt x g w b s f := by
  rw [val_main_v14_apply]
  unfold colAt col
  refine Finset.sum_congr rfl fun k _ => ?_
  have e : lidx_main_v14 (ix3 b s f) k = ix3 b s k := funext fun | ⟨0, _⟩ => rfl | ⟨1, _⟩ => rfl | ⟨2, _⟩ => rfl
  have e' : ridx_main_v14 (ix3 b s f) k = ix2 k f := funext fun | ⟨0, _⟩ => rfl | ⟨1, _⟩ => rfl
  rw [e, e', v13_at]

/-- A head's query. -/
theorem v18_at (i : S32x2048x16x64.Idx) (b : Fin 32) (s : Fin 2048) (h : Fin 16) (d : Fin 64) (hi : i = ix4 b s h d) :
    val_main_v18 (F := Ideal) x g w i = colAt x g w b s ⟨64 * h.val + d.val, by omega⟩ := by
  subst hi
  rw [val_main_v18_apply, val_main_v15_apply, ← v14_at]
  refine congrArg (val_main_v14 (F := Ideal) x g w) (funext fun a => Fin.ext (match a with
    | ⟨0, _⟩ => ?_ | ⟨1, _⟩ => ?_ | ⟨2, _⟩ => ?_))
  · show (((b.val * 2048 + s.val) * 16 + h.val) * 64 + d.val) / 2097152 = b.val; omega
  · show (((b.val * 2048 + s.val) * 16 + h.val) * 64 + d.val) / 1024 % 2048 = s.val; omega
  · show (((b.val * 2048 + s.val) * 16 + h.val) * 64 + d.val) % 1024 = 64 * h.val + d.val; omega

/-- A head's key. -/
theorem v61_at (i : S32x2048x16x64.Idx) (b : Fin 32) (s : Fin 2048) (h : Fin 16) (d : Fin 64) (hi : i = ix4 b s h d) :
    val_main_v61 (F := Ideal) x g w i = colAt x g w b s ⟨1024 + (64 * h.val + d.val), by omega⟩ := by
  subst hi
  rw [val_main_v61_apply, val_main_v16_apply, ← v14_at]
  refine congrArg (val_main_v14 (F := Ideal) x g w) (funext fun a => Fin.ext (match a with
    | ⟨0, _⟩ => ?_ | ⟨1, _⟩ => ?_ | ⟨2, _⟩ => ?_))
  · show (((b.val * 2048 + s.val) * 16 + h.val) * 64 + d.val) / 2097152 = b.val; omega
  · show (((b.val * 2048 + s.val) * 16 + h.val) * 64 + d.val) / 1024 % 2048 = s.val; omega
  · show 1024 + (((b.val * 2048 + s.val) * 16 + h.val) * 64 + d.val) % 1024 = 1024 + (64 * h.val + d.val); omega

/-- The sum of a head's squares. -/
theorem v20_at (i : S32x2048x16.Idx) (b : Fin 32) (s : Fin 2048) (h : Fin 16) (h0 : (i 0).val = b.val) (h1 : (i 1).val = s.val) (h2 : (i 2).val = h.val) :
    val_main_v20 (F := Ideal) x g w i
      = ∑ d : Fin 64, colAt x g w b s ⟨64 * h.val + d.val, by omega⟩ * colAt x g w b s ⟨64 * h.val + d.val, by omega⟩ := by
  rw [val_main_v20_apply, val_main_cst_2_apply]
  show Ideal.ofBits .f32 0x00000000#32 + _ = _
  rw [Ideal.ofBits_zero_f32, zero_add]
  refine Finset.sum_congr rfl fun d _ => ?_
  rw [val_main_v19_apply, v18_at x g w (idx_main_v20 i d) b s h d (funext fun a => Fin.ext (match a with | ⟨0, _⟩ => h0 | ⟨1, _⟩ => h1 | ⟨2, _⟩ => h2 | ⟨3, _⟩ => rfl))]
  rfl

theorem v63_at (i : S32x2048x16.Idx) (b : Fin 32) (s : Fin 2048) (h : Fin 16) (h0 : (i 0).val = b.val) (h1 : (i 1).val = s.val) (h2 : (i 2).val = h.val) :
    val_main_v63 (F := Ideal) x g w i
      = ∑ d : Fin 64, colAt x g w b s ⟨1024 + (64 * h.val + d.val), by omega⟩ * colAt x g w b s ⟨1024 + (64 * h.val + d.val), by omega⟩ := by
  rw [val_main_v63_apply, val_main_cst_7_apply]
  show Ideal.ofBits .f32 0x00000000#32 + _ = _
  rw [Ideal.ofBits_zero_f32, zero_add]
  refine Finset.sum_congr rfl fun d _ => ?_
  rw [val_main_v62_apply, v61_at x g w (idx_main_v63 i d) b s h d (funext fun a => Fin.ext (match a with | ⟨0, _⟩ => h0 | ⟨1, _⟩ => h1 | ⟨2, _⟩ => h2 | ⟨3, _⟩ => rfl))]
  rfl

/-- A normed query. -/
theorem v31_at (b : Fin 32) (s : Fin 2048) (h : Fin 16) (d : Fin 64) :
    val_main_v31 (F := Ideal) x g w aq (ix4 b s h d)
      = colAt x g w b s ⟨64 * h.val + d.val, by omega⟩ * inv (fun d => colAt x g w b s ⟨64 * h.val + d.val, by omega⟩) * aq (ix1 d) := by
  rw [val_main_v31_apply, val_main_v28_apply, v18_at x g w _ b s h d rfl, val_main_v27_apply, val_main_v26_apply, val_main_v25_apply,
    val_main_v23_apply, val_main_v21_apply, v20_at x g w _ b s h rfl rfl rfl, val_main_v22_apply, val_main_cst_3_apply, val_main_v24_apply,
    val_main_cst_4_apply, val_main_v30_apply, val_main_v29_apply]
  have e : idx_main_v29 (idx_main_v30 (ix4 b s h d)) = ix1 d := funext fun | ⟨0, _⟩ => rfl
  rw [e]
  rfl

/-- A normed key. -/
theorem v74_at (b : Fin 32) (s : Fin 2048) (h : Fin 16) (d : Fin 64) :
    val_main_v74 (F := Ideal) x g w ak (ix4 b s h d)
      = colAt x g w b s ⟨1024 + (64 * h.val + d.val), by omega⟩ * inv (fun d => colAt x g w b s ⟨1024 + (64 * h.val + d.val), by omega⟩) * ak (ix1 d) := by
  rw [val_main_v74_apply, val_main_v71_apply, v61_at x g w _ b s h d rfl, val_main_v70_apply, val_main_v69_apply, val_main_v68_apply,
    val_main_v66_apply, val_main_v64_apply, v63_at x g w _ b s h rfl rfl rfl, val_main_v65_apply, val_main_cst_8_apply, val_main_v67_apply,
    val_main_cst_9_apply, val_main_v73_apply, val_main_v72_apply]
  have e : idx_main_v72 (idx_main_v73 (ix4 b s h d)) = ix1 d := funext fun | ⟨0, _⟩ => rfl
  rw [e]
  rfl

/-- The cosine of token `s`'s angle in column `f`. -/
def cosAt (s : Fin 2048) (f : Fin 3072) : EReal := val_main_v43 (F := Ideal) (ix2 s ⟨f.val % 32, by omega⟩)

/-- The sine, and with a minus in the first half of a head. -/
def sinAt (s : Fin 2048) (f : Fin 3072) : EReal := val_main_v45 (F := Ideal) (ix2 s ⟨f.val % 32, by omega⟩)
def signedSin (s : Fin 2048) (f : Fin 3072) : EReal := if f.val % 64 < 32 then -sinAt s f else sinAt s f

/-- The gain of column `f`, where it is a query's or a key's. -/
def gain (f : Fin 3072) : EReal := if f.val < 1024 then aq (ix1 ⟨f.val % 64, by omega⟩) else ak (ix1 ⟨f.val % 64, by omega⟩)

/-- The normed number of column `f`. -/
def normAt (b : Fin 32) (s : Fin 2048) (f : Fin 3072) : EReal := Proj.normed (fun k => g (ix1 k)) (tok x b s) (fun k f => w (ix2 k f)) f (gain aq ak f)

/-- The result of token `s`, column `f`: queries and keys normed and turned, values as they are. -/
def resAt (b : Fin 32) (s : Fin 2048) (f : Fin 3072) : EReal :=
  if f.val < 2048 then turned (normAt x g w aq ak b s) f (cosAt s f) (signedSin s f) else colAt x g w b s f

/-- A normed query is the normed number of its column. -/
theorem q_normAt (b : Fin 32) (s : Fin 2048) (h : Fin 16) (d : Fin 64) :
    val_main_v31 (F := Ideal) x g w aq (ix4 b s h d) = normAt x g w aq ak b s ⟨64 * h.val + d.val, by omega⟩ := by
  rw [v31_at]
  unfold normAt Proj.normed gain
  rw [if_pos (by show 64 * h.val + d.val < 1024; omega)]
  have e : (⟨(64 * h.val + d.val) % 64, by omega⟩ : Fin 64) = d := Fin.ext (by show (64 * h.val + d.val) % 64 = d.val; omega)
  have eh : (fun d' : Fin 64 => colAt x g w b s ⟨64 * h.val + d'.val, by omega⟩) = fun d' => colAt x g w b s (headCol ⟨64 * h.val + d.val, by omega⟩ d') :=
    funext fun d' => congrArg (colAt x g w b s) (Fin.ext (by show 64 * h.val + d'.val = 64 * ((64 * h.val + d.val) / 64) + d'.val; omega))
  rw [e, eh]
  rfl

/-- A normed key is the normed number of its column. -/
theorem k_normAt (b : Fin 32) (s : Fin 2048) (h : Fin 16) (d : Fin 64) :
    val_main_v74 (F := Ideal) x g w ak (ix4 b s h d) = normAt x g w aq ak b s ⟨1024 + (64 * h.val + d.val), by omega⟩ := by
  rw [v74_at]
  unfold normAt Proj.normed gain
  rw [if_neg (by show ¬ 1024 + (64 * h.val + d.val) < 1024; omega)]
  have e : (⟨(1024 + (64 * h.val + d.val)) % 64, by omega⟩ : Fin 64) = d := Fin.ext (by show (1024 + (64 * h.val + d.val)) % 64 = d.val; omega)
  have eh : (fun d' : Fin 64 => colAt x g w b s ⟨1024 + (64 * h.val + d'.val), by omega⟩) = fun d' => colAt x g w b s (headCol ⟨1024 + (64 * h.val + d.val), by omega⟩ d') :=
    funext fun d' => congrArg (colAt x g w b s) (Fin.ext (by show 1024 + (64 * h.val + d'.val) = 64 * ((1024 + (64 * h.val + d.val)) / 64) + d'.val; omega))
  rw [e, eh]
  rfl

/-- A turned q. -/
theorem q_turned (b : Fin 32) (s : Fin 2048) (h : Fin 16) (d : Fin 64) :
    val_main_v59 (F := Ideal) x g w aq (ix4 b s h d)
      = turned (normAt x g w aq ak b s) ⟨(64 * h.val + d.val), by omega⟩ (cosAt s ⟨(64 * h.val + d.val), by omega⟩) (signedSin s ⟨(64 * h.val + d.val), by omega⟩) := by
  have hh := h.isLt
  have lo : ∀ d' : Fin 32, val_main_v47 (F := Ideal) x g w aq (ix4 b s h d') = normAt x g w aq ak b s ⟨(64 * h.val + d'.val), by omega⟩ := fun d' => by
    rw [val_main_v47_apply]
    have e : idx_main_v47 (ix4 b s h d') = ix4 b s h ⟨d'.val, by omega⟩ := funext fun a => Fin.ext (match a with
      | ⟨0, _⟩ => rfl | ⟨1, _⟩ => rfl | ⟨2, _⟩ => rfl | ⟨3, _⟩ => rfl)
    rw [e, q_normAt x g w aq ak b s h ⟨d'.val, by omega⟩]
  have hi : ∀ d' : Fin 32, val_main_v48 (F := Ideal) x g w aq (ix4 b s h d') = normAt x g w aq ak b s ⟨(64 * h.val + (32 + d'.val)), by omega⟩ := fun d' => by
    rw [val_main_v48_apply]
    have e : idx_main_v48 (ix4 b s h d') = ix4 b s h ⟨32 + d'.val, by omega⟩ := funext fun a => Fin.ext (match a with
      | ⟨0, _⟩ => rfl | ⟨1, _⟩ => rfl | ⟨2, _⟩ => rfl | ⟨3, _⟩ => rfl)
    rw [e, q_normAt x g w aq ak b s h ⟨32 + d'.val, by omega⟩]
  unfold val_main_v59 signedSin
  by_cases h1 : d.val < 32
  · refine (concatenate_apply_piece (t := S32x2048x16x64) 3 _ _ _ 0 (by simp) S32x2048x16x32 _ rfl rfl 0 rfl (ix4 b s h ⟨d.val, h1⟩) (fun x hx => match x with | ⟨0, _⟩ => rfl | ⟨1, _⟩ => rfl | ⟨2, _⟩ => rfl | ⟨3, _⟩ => absurd rfl hx) (Nat.zero_add _)).trans ?_
    have hf : ((64 * h.val + d.val)) % 64 < 32 := by omega
    rw [if_pos hf, turned_first _ _ hf, val_main_v53_apply, val_main_v50_apply, val_main_v52_apply, lo, hi,
      val_main_v49_apply, val_main_v44_apply, val_main_v51_apply, val_main_v46_apply]
    have ej : (⟨d.val, h1⟩ : Fin 32) = ⟨((64 * h.val + d.val)) % 32, by omega⟩ := Fin.ext (by show d.val = ((64 * h.val + d.val)) % 32; omega)
    have ec : (idx_main_v44 (idx_main_v49 (ix4 b s h ⟨d.val, h1⟩))) = ix2 s ⟨((64 * h.val + d.val)) % 32, by omega⟩ := by
      rw [← ej]; exact funext fun | ⟨0, _⟩ => rfl | ⟨1, _⟩ => rfl
    have es : (idx_main_v46 (idx_main_v51 (ix4 b s h ⟨d.val, h1⟩))) = ix2 s ⟨((64 * h.val + d.val)) % 32, by omega⟩ := by
      rw [← ej]; exact funext fun | ⟨0, _⟩ => rfl | ⟨1, _⟩ => rfl
    have en : (⟨(64 * h.val + (32 + d.val)), by omega⟩ : Fin 3072) = ⟨(64 * h.val + d.val) + 32, by omega⟩ := Fin.ext (by show (64 * h.val + (32 + d.val)) = (64 * h.val + d.val) + 32; omega)
    rw [ec, es, en]
    rfl
  · refine (concatenate_apply_piece (t := S32x2048x16x64) 3 _ _ _ 1 (by simp) S32x2048x16x32 _ rfl rfl 32 rfl (ix4 b s h ⟨d.val - 32, by omega⟩) (fun x hx => match x with | ⟨0, _⟩ => rfl | ⟨1, _⟩ => rfl | ⟨2, _⟩ => rfl | ⟨3, _⟩ => absurd rfl hx) (by show 32 + (d.val - 32) = d.val; omega)).trans ?_
    have hf : ¬ ((64 * h.val + d.val)) % 64 < 32 := by omega
    rw [if_neg hf, turned_second _ _ hf, val_main_v58_apply, val_main_v55_apply, val_main_v57_apply, lo, hi,
      val_main_v54_apply, val_main_v44_apply, val_main_v56_apply, val_main_v46_apply]
    have ej : (⟨d.val - 32, by omega⟩ : Fin 32) = ⟨((64 * h.val + d.val)) % 32, by omega⟩ := Fin.ext (by show d.val - 32 = ((64 * h.val + d.val)) % 32; omega)
    have ec : (idx_main_v44 (idx_main_v54 (ix4 b s h ⟨d.val - 32, by omega⟩))) = ix2 s ⟨((64 * h.val + d.val)) % 32, by omega⟩ := by
      rw [← ej]; exact funext fun | ⟨0, _⟩ => rfl | ⟨1, _⟩ => rfl
    have es : (idx_main_v46 (idx_main_v56 (ix4 b s h ⟨d.val - 32, by omega⟩))) = ix2 s ⟨((64 * h.val + d.val)) % 32, by omega⟩ := by
      rw [← ej]; exact funext fun | ⟨0, _⟩ => rfl | ⟨1, _⟩ => rfl
    have en : (⟨(64 * h.val + (32 + (d.val - 32))), by omega⟩ : Fin 3072) = ⟨(64 * h.val + d.val), by omega⟩ := Fin.ext (by show (64 * h.val + (32 + (d.val - 32))) = (64 * h.val + d.val); omega)
    have ep : (⟨(64 * h.val + (d.val - 32)), by omega⟩ : Fin 3072) = ⟨(64 * h.val + d.val) - 32, by omega⟩ := Fin.ext (by show (64 * h.val + (d.val - 32)) = (64 * h.val + d.val) - 32; omega)
    rw [ec, es, en, ep]
    rfl

/-- A turned k. -/
theorem k_turned (b : Fin 32) (s : Fin 2048) (h : Fin 16) (d : Fin 64) :
    val_main_v102 (F := Ideal) x g w ak (ix4 b s h d)
      = turned (normAt x g w aq ak b s) ⟨1024 + (64 * h.val + d.val), by omega⟩ (cosAt s ⟨1024 + (64 * h.val + d.val), by omega⟩) (signedSin s ⟨1024 + (64 * h.val + d.val), by omega⟩) := by
  have hh := h.isLt
  have lo : ∀ d' : Fin 32, val_main_v90 (F := Ideal) x g w ak (ix4 b s h d') = normAt x g w aq ak b s ⟨1024 + (64 * h.val + d'.val), by omega⟩ := fun d' => by
    rw [val_main_v90_apply]
    have e : idx_main_v90 (ix4 b s h d') = ix4 b s h ⟨d'.val, by omega⟩ := funext fun a => Fin.ext (match a with
      | ⟨0, _⟩ => rfl | ⟨1, _⟩ => rfl | ⟨2, _⟩ => rfl | ⟨3, _⟩ => rfl)
    rw [e, k_normAt x g w aq ak b s h ⟨d'.val, by omega⟩]
  have hi : ∀ d' : Fin 32, val_main_v91 (F := Ideal) x g w ak (ix4 b s h d') = normAt x g w aq ak b s ⟨1024 + (64 * h.val + (32 + d'.val)), by omega⟩ := fun d' => by
    rw [val_main_v91_apply]
    have e : idx_main_v91 (ix4 b s h d') = ix4 b s h ⟨32 + d'.val, by omega⟩ := funext fun a => Fin.ext (match a with
      | ⟨0, _⟩ => rfl | ⟨1, _⟩ => rfl | ⟨2, _⟩ => rfl | ⟨3, _⟩ => rfl)
    rw [e, k_normAt x g w aq ak b s h ⟨32 + d'.val, by omega⟩]
  unfold val_main_v102 signedSin
  by_cases h1 : d.val < 32
  · refine (concatenate_apply_piece (t := S32x2048x16x64) 3 _ _ _ 0 (by simp) S32x2048x16x32 _ rfl rfl 0 rfl (ix4 b s h ⟨d.val, h1⟩) (fun x hx => match x with | ⟨0, _⟩ => rfl | ⟨1, _⟩ => rfl | ⟨2, _⟩ => rfl | ⟨3, _⟩ => absurd rfl hx) (Nat.zero_add _)).trans ?_
    have hf : (1024 + (64 * h.val + d.val)) % 64 < 32 := by omega
    rw [if_pos hf, turned_first _ _ hf, val_main_v96_apply, val_main_v93_apply, val_main_v95_apply, lo, hi,
      val_main_v92_apply, val_main_v87_apply, val_main_v94_apply, val_main_v89_apply]
    have ej : (⟨d.val, h1⟩ : Fin 32) = ⟨(1024 + (64 * h.val + d.val)) % 32, by omega⟩ := Fin.ext (by show d.val = (1024 + (64 * h.val + d.val)) % 32; omega)
    have ec : (idx_main_v87 (idx_main_v92 (ix4 b s h ⟨d.val, h1⟩))) = ix2 s ⟨(1024 + (64 * h.val + d.val)) % 32, by omega⟩ := by
      rw [← ej]; exact funext fun | ⟨0, _⟩ => rfl | ⟨1, _⟩ => rfl
    have es : (idx_main_v89 (idx_main_v94 (ix4 b s h ⟨d.val, h1⟩))) = ix2 s ⟨(1024 + (64 * h.val + d.val)) % 32, by omega⟩ := by
      rw [← ej]; exact funext fun | ⟨0, _⟩ => rfl | ⟨1, _⟩ => rfl
    have en : (⟨1024 + (64 * h.val + (32 + d.val)), by omega⟩ : Fin 3072) = ⟨1024 + (64 * h.val + d.val) + 32, by omega⟩ := Fin.ext (by show 1024 + (64 * h.val + (32 + d.val)) = 1024 + (64 * h.val + d.val) + 32; omega)
    rw [ec, es, en]
    rfl
  · refine (concatenate_apply_piece (t := S32x2048x16x64) 3 _ _ _ 1 (by simp) S32x2048x16x32 _ rfl rfl 32 rfl (ix4 b s h ⟨d.val - 32, by omega⟩) (fun x hx => match x with | ⟨0, _⟩ => rfl | ⟨1, _⟩ => rfl | ⟨2, _⟩ => rfl | ⟨3, _⟩ => absurd rfl hx) (by show 32 + (d.val - 32) = d.val; omega)).trans ?_
    have hf : ¬ (1024 + (64 * h.val + d.val)) % 64 < 32 := by omega
    rw [if_neg hf, turned_second _ _ hf, val_main_v101_apply, val_main_v98_apply, val_main_v100_apply, lo, hi,
      val_main_v97_apply, val_main_v87_apply, val_main_v99_apply, val_main_v89_apply]
    have ej : (⟨d.val - 32, by omega⟩ : Fin 32) = ⟨(1024 + (64 * h.val + d.val)) % 32, by omega⟩ := Fin.ext (by show d.val - 32 = (1024 + (64 * h.val + d.val)) % 32; omega)
    have ec : (idx_main_v87 (idx_main_v97 (ix4 b s h ⟨d.val - 32, by omega⟩))) = ix2 s ⟨(1024 + (64 * h.val + d.val)) % 32, by omega⟩ := by
      rw [← ej]; exact funext fun | ⟨0, _⟩ => rfl | ⟨1, _⟩ => rfl
    have es : (idx_main_v89 (idx_main_v99 (ix4 b s h ⟨d.val - 32, by omega⟩))) = ix2 s ⟨(1024 + (64 * h.val + d.val)) % 32, by omega⟩ := by
      rw [← ej]; exact funext fun | ⟨0, _⟩ => rfl | ⟨1, _⟩ => rfl
    have en : (⟨1024 + (64 * h.val + (32 + (d.val - 32))), by omega⟩ : Fin 3072) = ⟨1024 + (64 * h.val + d.val), by omega⟩ := Fin.ext (by show 1024 + (64 * h.val + (32 + (d.val - 32))) = 1024 + (64 * h.val + d.val); omega)
    have ep : (⟨1024 + (64 * h.val + (d.val - 32)), by omega⟩ : Fin 3072) = ⟨1024 + (64 * h.val + d.val) - 32, by omega⟩ := Fin.ext (by show 1024 + (64 * h.val + (d.val - 32)) = 1024 + (64 * h.val + d.val) - 32; omega)
    rw [ec, es, en, ep]
    rfl

theorem v104_at (b : Fin 32) (s : Fin 2048) (f : Fin 3072) : val_main_v104 (F := Ideal) x g w aq ak (ix3 b s f) = resAt x g w aq ak b s f := by
  unfold val_main_v104 resAt
  by_cases h1 : f.val < 1024
  · refine (concatenate_apply_piece (t := S32x2048x3072) 2 _ _ _ 0 (by simp) S32x2048x1024 _ rfl rfl 0 rfl (ix3 b s ⟨f.val, h1⟩) (fun x hx => match x with | ⟨0, _⟩ => rfl | ⟨1, _⟩ => rfl | ⟨2, _⟩ => absurd rfl hx) (Nat.zero_add _)).trans ?_
    rw [if_pos (by omega), val_main_v60_apply]
    have e : idx_main_v60 (ix3 b s ⟨f.val, h1⟩) = ix4 b s ⟨f.val / 64, by omega⟩ ⟨f.val % 64, by omega⟩ := funext fun a => Fin.ext (match a with
      | ⟨0, _⟩ => by show ((b.val * 2048 + s.val) * 1024 + f.val) / 2097152 = b.val; omega
      | ⟨1, _⟩ => by show ((b.val * 2048 + s.val) * 1024 + f.val) / 1024 % 2048 = s.val; omega
      | ⟨2, _⟩ => by show ((b.val * 2048 + s.val) * 1024 + f.val) / 64 % 16 = f.val / 64; omega
      | ⟨3, _⟩ => by show ((b.val * 2048 + s.val) * 1024 + f.val) % 64 = f.val % 64; omega)
    rw [e, q_turned x g w aq ak]
    have ef : (⟨64 * (f.val / 64) + f.val % 64, by omega⟩ : Fin 3072) = f := Fin.ext (by show 64 * (f.val / 64) + f.val % 64 = f.val; omega)
    rw [ef]
  · by_cases h2 : f.val < 2048
    · refine (concatenate_apply_piece (t := S32x2048x3072) 2 _ _ _ 1 (by simp) S32x2048x1024 _ rfl rfl 1024 rfl (ix3 b s ⟨f.val - 1024, by omega⟩) (fun x hx => match x with | ⟨0, _⟩ => rfl | ⟨1, _⟩ => rfl | ⟨2, _⟩ => absurd rfl hx) (by show 1024 + (f.val - 1024) = f.val; omega)).trans ?_
      rw [if_pos h2, val_main_v103_apply]
      have e : idx_main_v103 (ix3 b s ⟨f.val - 1024, by omega⟩) = ix4 b s ⟨(f.val - 1024) / 64, by omega⟩ ⟨f.val % 64, by omega⟩ := funext fun a => Fin.ext (match a with
        | ⟨0, _⟩ => by show ((b.val * 2048 + s.val) * 1024 + (f.val - 1024)) / 2097152 = b.val; omega
        | ⟨1, _⟩ => by show ((b.val * 2048 + s.val) * 1024 + (f.val - 1024)) / 1024 % 2048 = s.val; omega
        | ⟨2, _⟩ => by show ((b.val * 2048 + s.val) * 1024 + (f.val - 1024)) / 64 % 16 = (f.val - 1024) / 64; omega
        | ⟨3, _⟩ => by show ((b.val * 2048 + s.val) * 1024 + (f.val - 1024)) % 64 = f.val % 64; omega)
      rw [e, k_turned x g w aq ak]
      have ef : (⟨1024 + (64 * ((f.val - 1024) / 64) + f.val % 64), by omega⟩ : Fin 3072) = f := Fin.ext (by show 1024 + (64 * ((f.val - 1024) / 64) + f.val % 64) = f.val; omega)
      rw [ef]
    · refine (concatenate_apply_piece (t := S32x2048x3072) 2 _ _ _ 2 (by simp) S32x2048x1024 _ rfl rfl 2048 rfl (ix3 b s ⟨f.val - 2048, by omega⟩) (fun x hx => match x with | ⟨0, _⟩ => rfl | ⟨1, _⟩ => rfl | ⟨2, _⟩ => absurd rfl hx) (by show 2048 + (f.val - 2048) = f.val; omega)).trans ?_
      rw [if_neg h2, val_main_v17_apply, ← v14_at]
      refine congrArg (val_main_v14 (F := Ideal) x g w) (funext fun a => Fin.ext (match a with | ⟨0, _⟩ => rfl | ⟨1, _⟩ => rfl | ⟨2, _⟩ => ?_))
      show 2048 + (f.val - 2048) = f.val
      omega

/-- The reference's result at an index. -/
theorem ref_apply (r : Fin 65536) (f : Fin 3072) : val_main_v106 (F := Ideal) x g w aq ak (ix2 r f)
    = resAt x g w aq ak ⟨r.val / 2048, by omega⟩ ⟨r.val % 2048, by omega⟩ f := by
  rw [val_main_v106_apply, val_main_v105_apply]
  have e : idx_main_v105 (ix2 r f) = ix3 ⟨r.val / 2048, by omega⟩ ⟨r.val % 2048, by omega⟩ f := funext fun a => Fin.ext (match a with
    | ⟨0, _⟩ => by show (r.val * 3072 + f.val) / 6291456 = r.val / 2048; omega
    | ⟨1, _⟩ => by show (r.val * 3072 + f.val) / 3072 % 2048 = r.val % 2048; omega
    | ⟨2, _⟩ => by show (r.val * 3072 + f.val) % 3072 = f.val; omega)
  rw [e, v104_at]
  rfl

end Cert.RopeRef

end
-- ==== Proof.Rope.lean ====
/- The projections with norms and rotary embeddings: the kernel's result array, row block by row block, as the reference computes it. -/
module

public import proofs.«01_k».proof.Defs
public import proofs.«01_k».proof.Proof.RopeBlock
public import proofs.«01_k».proof.Proof.RopeRef
public import proofs.«01_k».proof.Proof.Proj
public import proofs.«01_k».proof.Proof.Gen.Kernel7Ideal.Value
public import proofs.«01_k».proof.Proof.Gen.Reference7Ideal.Run
public import Idealize.ShloMosaic.Lib.IdealHost

@[expose] public section

noncomputable section

namespace Cert.Rope

open Cert.Kernel7Ideal Cert.Kernel7Ideal.Gen Cert.Ffn Cert.RopeBlock
open Idealize.ShloMosaic hiding ix1 ix2 ix3 ix4 ix5 truncf_apply
open Idealize.ShloMosaic.TcCoe Idealize.ShloMosaic.ValueIdx

variable (m : (ℓ : Loc nD τ sig) → Buf (Elt Ideal) ℓ)

/-- A table of 64 columns repeated for the four heads of a slab. -/
def wide (a : FVec Ideal S2048x64 .f32) : FVec Ideal S2048x256 .f32 :=
  shapeCast S2048x256 (broadcastInDim S1x2048x4x64 ![0, 1, 2, 3] bcast_S1x2048x1x64_S1x2048x4x64_0_1_2_3 (shapeCast S1x2048x1x64 a shapeCasts_S2048x64_S1x2048x1x64)) shapeCasts_S1x2048x4x64_S2048x256

/-- Two tables of 32 columns side by side. -/
def beside (a b : FVec Ideal S2048x32 .f32) : FVec Ideal S2048x64 .f32 :=
  concatenate S2048x64 1 [⟨S2048x32, a⟩, ⟨S2048x32, b⟩] concatenates_S2048x32_S2048x32_S2048x64_d1

theorem wide_apply (a : FVec Ideal S2048x64 .f32) (s : Fin 2048) (l : Fin 256) : wide a (ix2 s l) = a (ix2 s ⟨l.val % 64, by omega⟩) := by
  unfold wide
  refine (shapeCast_apply (s := S1x2048x4x64) (t := S2048x256) _ _ (ix2 s l) (ix4 0 s ⟨l.val / 64, by omega⟩ ⟨l.val % 64, by omega⟩) (by
    rw [Shape.rowMajor_val_four, Shape.rowMajor_val_two]; show ((0 * 2048 + s.val) * 4 + l.val / 64) * 64 + l.val % 64 = s.val * 256 + l.val; omega)).trans ?_
  refine (broadcastInDim_apply (s := S1x2048x1x64) (t := S1x2048x4x64) ![0, 1, 2, 3] _ _ _ (ix4 0 s 0 ⟨l.val % 64, by omega⟩) (fun
    | ⟨0, _⟩ => rfl | ⟨1, _⟩ => rfl | ⟨2, _⟩ => rfl | ⟨3, _⟩ => rfl)).trans ?_
  exact shapeCast_apply (s := S2048x64) (t := S1x2048x1x64) a _ _ (ix2 s ⟨l.val % 64, by omega⟩) (by
    rw [Shape.rowMajor_val_four, Shape.rowMajor_val_two]; show s.val * 64 + l.val % 64 = ((0 * 2048 + s.val) * 1 + 0) * 64 + l.val % 64; omega)

theorem beside_first (a b : FVec Ideal S2048x32 .f32) (s : Fin 2048) (l : Fin 64) (h : l.val < 32) : beside a b (ix2 s l) = a (ix2 s ⟨l.val, h⟩) := by
  unfold beside
  exact concatenate_apply_piece (t := S2048x64) 1 _ _ _ 0 (by simp) S2048x32 _ rfl rfl 0 rfl (ix2 s ⟨l.val, h⟩) (fun x hx => match x with | ⟨0, _⟩ => rfl | ⟨1, _⟩ => absurd rfl hx) (Nat.zero_add _)

theorem beside_second (a b : FVec Ideal S2048x32 .f32) (s : Fin 2048) (l : Fin 64) (h : ¬ l.val < 32) : beside a b (ix2 s l) = b (ix2 s ⟨l.val - 32, by omega⟩) := by
  unfold beside
  exact concatenate_apply_piece (t := S2048x64) 1 _ _ _ 1 (by simp) S2048x32 _ rfl rfl 32 rfl (ix2 s ⟨l.val - 32, by omega⟩) (fun x hx => match x with | ⟨0, _⟩ => rfl | ⟨1, _⟩ => absurd rfl hx) (by show 32 + (l.val - 32) = l.val; omega)

/-- The cosines of the angles, and the sines, as the reference has them. -/
def cosines : FVec Ideal S2048x32 .f32 := Reference7Ideal.Read.val_main_v43 (F := Ideal)
def sines : FVec Ideal S2048x32 .f32 := Reference7Ideal.Read.val_main_v45 (F := Ideal)

/-- The kernel's table of cosines at an index. -/
theorem cos_table (s : Fin 2048) (l : Fin 256) (f : Fin 3072) (h : f.val % 64 = l.val % 64) : wide (beside cosines cosines) (ix2 s l) = RopeRef.cosAt s f := by
  rw [wide_apply]
  by_cases h1 : l.val % 64 < 32
  · rw [beside_first _ _ _ _ h1]
    exact congrArg cosines (congrArg (ix2 s) (Fin.ext (by show l.val % 64 = f.val % 32; omega)))
  · rw [beside_second _ _ _ _ h1]
    exact congrArg cosines (congrArg (ix2 s) (Fin.ext (by show l.val % 64 - 32 = f.val % 32; omega)))

/-- The kernel's table of sines at an index: with a minus in the first half of a head. -/
theorem sin_table (s : Fin 2048) (l : Fin 256) (f : Fin 3072) (h : f.val % 64 = l.val % 64) : wide (beside (Host.negf sines) sines) (ix2 s l) = RopeRef.signedSin s f := by
  rw [wide_apply]
  unfold RopeRef.signedSin
  by_cases h1 : l.val % 64 < 32
  · rw [beside_first _ _ _ _ h1, if_pos (by omega)]
    show -sines _ = _
    exact congrArg (fun z => -z) (congrArg sines (congrArg (ix2 s) (Fin.ext (by show l.val % 64 = f.val % 32; omega))))
  · rw [beside_second _ _ _ _ h1, if_neg (by omega)]
    exact congrArg sines (congrArg (ix2 s) (Fin.ext (by show l.val % 64 - 32 = f.val % 32; omega)))

/-- The rows the kernel projects. -/
theorem V_x (c : Dev nD) : V m c main_v9 = shapeCast S65536x1024 (m (c.tc.loc main_arg0)) shapeCasts_S32x2048x1024_S65536x1024 := by
  show StableHlo.after hostOps0 _ (Proc.devRef .tc main_v9) = _
  after_results
  rfl

theorem V_g (c : Dev nD) : V m c main_v35 = shapeCast S1x1024 (m (c.tc.loc main_arg1)) shapeCasts_S1024_S1x1024 := by
  show StableHlo.after hostOps0 _ (Proc.devRef .tc main_v35) = _
  after_results
  rfl

theorem V_w (c : Dev nD) : V m c main_v10 = (truncf .bf16 (m (c.tc.loc main_arg2) : FVec Ideal S1024x3072 .f32) bitsLt_bf16_f32 : FVec Ideal S1024x3072 .bf16) := by
  show StableHlo.after hostOps0 _ (Proc.devRef .tc main_v10) = _
  after_results

theorem V_h (c : Dev nD) : V m c main_v36 = Proj.gains (m (c.tc.loc main_arg3)) (m (c.tc.loc main_arg4)) := by
  show StableHlo.after hostOps0 _ (Proc.devRef .tc main_v36) = _
  after_results
  rfl

theorem V_cos (c : Dev nD) : V m c main_v31 = wide (beside cosines cosines) := by
  show StableHlo.after hostOps0 _ (Proc.devRef .tc main_v31) = _
  after_results
  rfl

theorem V_sin (c : Dev nD) : V m c main_v34 = wide (beside (Host.negf sines) sines) := by
  show StableHlo.after hostOps0 _ (Proc.devRef .tc main_v34) = _
  after_results
  rfl

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![(grid0.coords t 0).val % 4, 0] :=
  (by decide +kernel : ∀ t : Fin grid0.N, win0_4.index t = ![(grid0.coords t 0).val % 4, 0])
theorem index5 : ∀ t : Fin cfg0.N, win0_5.index t = ![(grid0.coords t 0).val % 4, 0] :=
  (by decide +kernel : ∀ t : Fin grid0.N, win0_5.index t = ![(grid0.coords t 0).val % 4, 0])
theorem index6 : ∀ t : Fin cfg0.N, win0_6.index t = ![(grid0.coords t 0).val, 0] :=
  (by decide +kernel : ∀ t : Fin grid0.N, win0_6.index t = ![(grid0.coords t 0).val, 0])

/-- The block of 512 tokens a point works on. -/
def pt (t : Fin cfg0.N) : Fin 128 := grid0.coords t 0

theorem x_block (c : Dev nD) (t : Fin cfg0.N) (r : Fin 512) (e : Fin 1024) :
    iblk m c 0 t (ix2 r e) = V m c main_v9 (ix2 ⟨(pt t).val * 512 + r.val, by omega⟩ e) := by
  blk_simp [iblk]
  refine congrArg (V m c main_v9) (funext fun a => Fin.ext ?_)
  match a with
  | ⟨0, _⟩ => blk_simp [index0]; rfl
  | ⟨1, _⟩ => blk_simp [index0]

theorem g_block (c : Dev nD) (t : Fin cfg0.N) (e : Fin 1024) : iblk m c 1 t (ix2 0 e) = V m c main_v35 (ix2 0 e) := by
  blk_simp [iblk]
  refine congrArg (V m c main_v35) (funext fun a => Fin.ext ?_)
  match a with
  | ⟨0, _⟩ => blk_simp [index1]
  | ⟨1, _⟩ => blk_simp [index1]

theorem w_block (c : Dev nD) (t : Fin cfg0.N) (k : Fin 1024) (f : Fin 3072) : iblk m c 2 t (ix2 k f) = V m c main_v10 (ix2 k f) := by
  blk_simp [iblk]
  refine congrArg (V m c main_v10) (funext fun a => Fin.ext ?_)
  match a with
  | ⟨0, _⟩ => blk_simp [index2]
  | ⟨1, _⟩ => blk_simp [index2]

theorem h_block (c : Dev nD) (t : Fin cfg0.N) (f : Fin 3072) : iblk m c 3 t (ix2 0 f) = V m c main_v36 (ix2 0 f) := by
  blk_simp [iblk]
  refine congrArg (V m c main_v36) (funext fun a => Fin.ext ?_)
  match a with
  | ⟨0, _⟩ => blk_simp [index3]
  | ⟨1, _⟩ => blk_simp [index3]

theorem cos_block (c : Dev nD) (t : Fin cfg0.N) (r : Fin 512) (l : Fin 256) :
    iblk m c 4 t (ix2 r l) = V m c main_v31 (ix2 ⟨(pt t).val % 4 * 512 + r.val, by omega⟩ l) := by
  blk_simp [iblk]
  refine congrArg (V m c main_v31) (funext fun a => Fin.ext ?_)
  match a with
  | ⟨0, _⟩ => blk_simp [index4]; rfl
  | ⟨1, _⟩ => blk_simp [index4]

theorem sin_block (c : Dev nD) (t : Fin cfg0.N) (r : Fin 512) (l : Fin 256) :
    iblk m c 5 t (ix2 r l) = V m c main_v34 (ix2 ⟨(pt t).val % 4 * 512 + r.val, by omega⟩ l) := by
  blk_simp [iblk]
  refine congrArg (V m c main_v34) (funext fun a => Fin.ext ?_)
  match a with
  | ⟨0, _⟩ => blk_simp [index5]; rfl
  | ⟨1, _⟩ => blk_simp [index5]

/-- A row of the flattened tokens is a token of a sequence. -/
theorem flat_apply (A : Vec Ideal S32x2048x1024 .f32) (r : Fin 65536) (k : Fin 1024) :
    shapeCast S65536x1024 A shapeCasts_S32x2048x1024_S65536x1024 (ix2 r k) = A (ix3 ⟨r.val / 2048, by omega⟩ ⟨r.val % 2048, by omega⟩ k) :=
  shapeCast_apply (s := S32x2048x1024) (t := S65536x1024) A _ (ix2 r k) (ix3 ⟨r.val / 2048, by omega⟩ ⟨r.val % 2048, by omega⟩ k) (by
    rw [Shape.rowMajor_val_three, Shape.rowMajor_val_two]; show (r.val / 2048 * 2048 + r.val % 2048) * 1024 + k.val = r.val * 1024 + k.val; omega)

/-- A block of the result, in terms of the tokens. -/
theorem block_apply (c : Dev nD) (t : Fin cfg0.N) (r : Fin 512) (f : Fin 3072) :
    at2 (iblk m c 0 t) (iblk m c 1 t) (iblk m c 2 t) (iblk m c 3 t) (iblk m c 4 t) (iblk m c 5 t) r f
      = RopeRef.resAt (m (c.tc.loc main_arg0)) (m (c.tc.loc main_arg1)) (m (c.tc.loc main_arg2))
          (m (c.tc.loc main_arg3)) (m (c.tc.loc main_arg4))
          ⟨((pt t).val * 512 + r.val) / 2048, by omega⟩ ⟨((pt t).val * 512 + r.val) % 2048, by omega⟩ f := by
  have hg : (fun k : Fin 1024 => iblk m c 1 t (ix2 0 k)) = fun k => m (c.tc.loc main_arg1) (ix1 k) := funext fun k => by
    rw [g_block, V_g]
    exact shapeCast_apply (s := S1024) (t := S1x1024) _ _ _ (ix1 k) (by rw [Shape.rowMajor_val_two, Shape.rowMajor_val_one]; show k.val = 0 * 1024 + k.val; omega)
  have hx : (fun k : Fin 1024 => iblk m c 0 t (ix2 r k)) = RopeRef.tok (m (c.tc.loc main_arg0)) ⟨((pt t).val * 512 + r.val) / 2048, by omega⟩ ⟨((pt t).val * 512 + r.val) % 2048, by omega⟩ :=
    funext fun k => by rw [x_block, V_x, flat_apply]; rfl
  have hw : (fun (k : Fin 1024) (f : Fin 3072) => iblk m c 2 t (ix2 k f)) = fun k f => m (c.tc.loc main_arg2) (ix2 k f) :=
    funext fun k => funext fun f => by rw [w_block, V_w, truncf_apply]
  have hn : ∀ f' : Fin 3072, f'.val < 2048 → normAt (iblk m c 0 t) (iblk m c 1 t) (iblk m c 2 t) (iblk m c 3 t) r f'
      = RopeRef.normAt (m (c.tc.loc main_arg0)) (m (c.tc.loc main_arg1)) (m (c.tc.loc main_arg2))
          (m (c.tc.loc main_arg3)) (m (c.tc.loc main_arg4))
          ⟨((pt t).val * 512 + r.val) / 2048, by omega⟩ ⟨((pt t).val * 512 + r.val) % 2048, by omega⟩ f' := fun f' hf' => by
    unfold normAt RopeRef.normAt
    rw [hg, hx, hw, h_block, V_h, Proj.gains_apply _ _ f' hf']
    rfl
  unfold at2 RopeRef.resAt
  by_cases h : f.val < 2048
  · have hp : (pairCol f).val < 2048 := by rw [pairCol_val]; split <;> omega
    have es : (⟨(pt t).val % 4 * 512 + r.val, by omega⟩ : Fin 2048) = ⟨((pt t).val * 512 + r.val) % 2048, by omega⟩ := Fin.ext (by
      show (pt t).val % 4 * 512 + r.val = ((pt t).val * 512 + r.val) % 2048; omega)
    have hl : f.val % 64 = f.val % 256 % 64 := by omega
    rw [if_pos h, if_pos h]
    unfold turned
    rw [hn f h, hn (pairCol f) hp, cos_block, sin_block, V_cos, V_sin, es, cos_table _ _ f hl, sin_table _ _ f hl]
  · rw [if_neg h, if_neg h, hg, hx, hw]
    rfl

/-- What the kernel leaves is the reference's result. -/
theorem final (c : Dev nD) :
    (dats m 0 c).arrAt 6 cfg0.N
      = Reference7Ideal.Read.val_main_v106 (F := Ideal) (m (c.tc.loc main_arg0)) (m (c.tc.loc main_arg1)) (m (c.tc.loc main_arg2))
          (m (c.tc.loc main_arg3)) (m (c.tc.loc main_arg4)) := by
  refine (dats m 0 c).arrAt_eq_of_covers 6 _ (by decide +kernel) fun t hf y => ?_
  blk_simp
  rw [after0_6]
  obtain ⟨r, l, rfl⟩ : ∃ (r : Fin 512) (l : Fin 3072), y = ix2 r l := ⟨y 0, y 1, funext fun
    | ⟨0, _⟩ => rfl | ⟨1, _⟩ => rfl⟩
  have e : (win0_6.blk t).view.emb (ix2 r l) = ix2 ⟨(pt t).val * 512 + r.val, by omega⟩ l := funext fun a => Fin.ext (by
    match a with
    | ⟨0, _⟩ => blk_simp [index6]; rfl
    | ⟨1, _⟩ => blk_simp [index6])
  rw [e, out_eq, RopeRef.ref_apply]
  exact block_apply m c t r l

/-- At every index the idealized kernel's result is the reference's. -/
theorem algebraic : Cert.algebraic_Kernel7Ideal_Reference7Ideal := by
  intro m ρ m' ρ' _ hag
  refine ⟨fun c => Cert.Reference7Ideal.Read.val_main_v106 (F := Ideal)
      (m (c.tc.loc main_arg0)) (m (c.tc.loc main_arg1)) (m (c.tc.loc main_arg2))
      (m (c.tc.loc main_arg3)) (m (c.tc.loc main_arg4)),
    (θ_run _ _ _).mono (fun _ h c => ⟨(h c).1.trans (final m c), (h c).2⟩) (Cert.Kernel7Ideal.Value.run_blocks m ρ),
    (θ_run _ _ _).mono (fun _ h c => ⟨(h c).1.trans (by
        refine (Cert.Reference7Ideal.Read.val_main_v106_eq _ _).trans ?_
        rw [(hag c).1, (hag c).2.1, (hag c).2.2.1, (hag c).2.2.2.1, (hag c).2.2.2.2]), (h c).2⟩)
      (Cert.Reference7Ideal.Value.run m' ρ')⟩

end Cert.Rope

end
-- ==== Proof.AxialTile.lean ====
/- One block of the projection kernel with axial rotary embeddings read at an index: what the plain projection's block is, and
   the lanes of the slab's four heads turned. -/
module

public import proofs.«01_k».proof.Proof.ProjMath
public import proofs.«01_k».proof.Proof.Gen.Kernel8Ideal.Skeleton
public import Idealize.ShloMosaic.Lib.Pipeline.Value
public import Idealize.ShloMosaic.Lib.KernelVsHost

@[expose] public section

noncomputable section

namespace Cert.AxialTile

open Cert.Kernel8Ideal Cert.Kernel8Ideal.Gen Cert.Ffn Cert.Proj Idealize.ShloMosaic Idealize.ShloMosaic.ValueIdx

/-- The product of the 512 rows with a slab of 256 columns of the weights. -/
theorem slab_apply (x : FVec Ideal S512x1024 .bf16) (w : Vec Ideal S1024x256 .bf16) (r : Fin 512) (l : Fin 256) :
    k0_pay8 x w (ix2 r l) = ∑ k : Fin 1024, x (ix2 r k) * w (ix2 k l) := by
  show matmul dot_S512x1024_S1024x256_S512x256_1_0_0_1_n_n none x (shapeCast S1024x256 w shapeCasts_S1024x256_S1024x256) (constant S512x256 .f32 0x00000000#32) (ix2 r l) = _
  rw [shapeCast_self]
  simp only [matmul]
  rw [Ideal.matmul_constant_zero_apply, ← Equiv.sum_comp (contrEquiv1 dot_S512x1024_S1024x256_S512x256_1_0_0_1_n_n 1024 rfl rfl).symm]
  refine Finset.sum_congr rfl fun d _ => ?_
  have hd := contrEquiv1_symm_val dot_S512x1024_S1024x256_S512x256_1_0_0_1_n_n 1024 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- The product of a slab with a square matrix. -/
theorem square_apply (x : FVec Ideal S512x256 .bf16) (w : FVec Ideal S256x256 .bf16) (r : Fin 512) (l : Fin 256) :
    matmul dot_S512x256_S256x256_S512x256_1_0_0_1_n_n none x w (constant S512x256 .f32 0x00000000#32) (ix2 r l)
      = ∑ k : Fin 256, x (ix2 r k) * w (ix2 k l) := by
  simp only [matmul]
  rw [Ideal.matmul_constant_zero_apply, ← Equiv.sum_comp (contrEquiv1 dot_S512x256_S256x256_S512x256_1_0_0_1_n_n 256 rfl rfl).symm]
  refine Finset.sum_congr rfl fun d _ => ?_
  have hd := contrEquiv1_symm_val dot_S512x256_S256x256_S512x256_1_0_0_1_n_n 256 rfl rfl d
  congr 1 <;> refine congrArg _ (funext fun x => Fin.ext ?_)
  · match x with
    | ⟨0, _⟩ => rfl
    | ⟨1, _⟩ => exact hd
  · match x with
    | ⟨0, _⟩ => exact hd
    | ⟨1, _⟩ => rfl

/-- The normed rows of the block. -/
theorem rows_apply (v : FVec Ideal S512x1024 .f32) (g : Vec Ideal S1x1024 .f32) (q : Fin 512) (k : Fin 1024) :
    k0_pay2 v g (ix2 q k) = row (fun k => g (ix2 0 k)) (fun k => v (ix2 q k)) k := by
  unfold k0_pay2
  dsimp only
  rw [shapeCast_self v, shapeCast_self g]
  have hs : shapeCast S512x1 (multiReduction .add [1] S512 (mulf v v) 0x00000000#32 reduces_S512x1024_S512 (.inl rfl) rfl) shapeCasts_S512_S512x1 (ix2 q 0)
      = ∑ i : Fin 1024, v (ix2 q i) * v (ix2 q i) := by
    refine (shapeCast_apply (s := S512) (t := S512x1) _ _ (ix2 q 0) (ix1 q) (by rw [Shape.rowMajor_val_one, Shape.rowMajor_val_two]; show q.val = q.val * 1 + 0; omega)).trans ?_
    refine (Ideal.multiReduction_add_single (mulf v v) _ _ (.inl rfl) rfl (ix1 q)).trans ?_
    exact Finset.sum_congr rfl fun i _ => congrArg (mulf v v) (funext fun | ⟨0, _⟩ => rfl | ⟨1, _⟩ => rfl)
  have hr : ∀ w : FVec Ideal S512x1 .f32, broadcastTo S512x1024 w broadcasts_S512x1_S512x1024 (ix2 q k) = w (ix2 q 0) := fun w =>
    broadcastTo_apply (s := S512x1) (t := S512x1024) _ _ (ix2 q k) (ix2 q 0) (fun | ⟨0, _⟩ => rfl | ⟨1, _⟩ => rfl)
  have hg : broadcastTo S512x1024 g broadcasts_S1x1024_S512x1024 (ix2 q k) = g (ix2 0 k) :=
    broadcastTo_apply (s := S1x1024) (t := S512x1024) _ _ (ix2 q k) (ix2 0 k) (fun | ⟨0, _⟩ => rfl | ⟨1, _⟩ => rfl)
  unfold row
  rw [← hs]
  refine Eq.trans ?_ (congrArg (_ * ·) hg)
  exact congrArg (v (ix2 q k) * · * broadcastTo S512x1024 g broadcasts_S1x1024_S512x1024 (ix2 q k)) (hr _)

/-- Integers divided by 64, rounded down, the way the kernel divides them. -/
def quot (v : IVec S256x256 32) : IVec S256x256 32 :=
  select
    (andi
      (cmpi .ne
        (subi (extui 32 (cmpi .sgt v (broadcast S256x256 0#32)) natLt_1_32) (extui 32 (cmpi .slt v (broadcast S256x256 0#32)) natLt_1_32))
        (broadcast S256x256 (Scalar.subi (Scalar.extui (Scalar.cmpi .sgt 64#32 0#32)) (Scalar.extui (Scalar.cmpi .slt 64#32 0#32)))))
      (cmpi .ne (remsi v (broadcast S256x256 64#32)) (broadcast S256x256 0#32)))
    (subi (divsi v (broadcast S256x256 64#32)) (broadcast S256x256 1#32)) (divsi v (broadcast S256x256 64#32))

theorem quot_const : ∀ n : Fin 256, quot (fun _ => BitVec.ofNat 32 n.val) (ix2 0 0) = BitVec.ofNat 32 (n.val / 64) := by
  decide +kernel

/-- The group of 64 that a lane's number belongs to. -/
theorem quot_apply (v : IVec S256x256 32) (i : S256x256.Idx) (n : Fin 256) (h : v i = BitVec.ofNat 32 n.val) :
    quot v i = BitVec.ofNat 32 (n.val / 64) := by
  rw [← quot_const n, ← h]
  rfl

theorem group_eq : ∀ a b : Fin 4, IntOp.cmpi .eq (BitVec.ofNat 32 a.val) (BitVec.ofNat 32 b.val) = if a.val = b.val then 1#1 else 0#1 := by
  decide +kernel

/-- The matrix that is one where two columns belong to one head, zero elsewhere. -/
theorem ones_apply (r l : Fin 256) :
    k0_pay5 (F := Ideal) (iota .tc S256x256 32 [1] iota_S256x256_d1_w32) k0_pay3 64#32 k0_pay4 (ix2 r l)
      = if r.val / 64 = l.val / 64 then 1 else 0 := by
  show (select (cmpi .eq (quot (iota .tc S256x256 32 [0] iota_S256x256_d0_w32)) (quot (iota .tc S256x256 32 [1] iota_S256x256_d1_w32)))
    (broadcast S256x256 (Ideal.ofBits .f32 0x3F800000#32)) (broadcast S256x256 (Ideal.ofBits .f32 0x00000000#32)) : FVec Ideal S256x256 .f32) (ix2 r l) = _
  rw [select_apply]
  have hc : cmpi .eq (quot (iota .tc S256x256 32 [0] iota_S256x256_d0_w32)) (quot (iota .tc S256x256 32 [1] iota_S256x256_d1_w32)) (ix2 r l)
      = if r.val / 64 = l.val / 64 then 1#1 else 0#1 := by
    show IntOp.cmpi .eq (quot _ (ix2 r l)) (quot _ (ix2 r l)) = _
    rw [quot_apply _ _ r (by rw [iota_single_apply]), quot_apply _ _ l (by rw [iota_single_apply])]
    exact group_eq ⟨r.val / 64, by omega⟩ ⟨l.val / 64, by omega⟩
  rw [hc]
  by_cases h : r.val / 64 = l.val / 64
  · rw [if_pos h, if_pos h, select_one]
    exact Ideal.ofBits_one_f32
  · rw [if_neg h, if_neg h, select_zero]
    exact Ideal.ofBits_zero_f32

/-- Lane `d` of the head that lane `l` of a slab belongs to. -/
def headLane (l : Fin 256) (d : Fin 64) : Fin 256 := ⟨64 * (l.val / 64) + d.val, by omega⟩

/-- The lane that lane `l` turns with: the one 16 further in the first half of a half head, 16 back in the second. -/
def pairLane (l : Fin 256) : Fin 256 := if h : l.val % 32 < 16 then ⟨l.val + 16, by omega⟩ else ⟨l.val - 16, by omega⟩

theorem pairLane_val (l : Fin 256) : (pairLane l).val = if l.val % 32 < 16 then l.val + 16 else l.val - 16 := by
  unfold pairLane
  split <;> rfl

/-- A slab over its heads' root mean squares, times the gains. -/
def normedSlab (E : FVec Ideal S256x256 .bf16) (y : FVec Ideal S512x256 .f32) (a : Vec Ideal S1x256 .f32) : FVec Ideal S512x256 .f32 :=
  mulf (mulf y (rsqrt (addf (mulf (matmul dot_S512x256_S256x256_S512x256_1_0_0_1_n_n none (truncf .bf16 (mulf y y) bitsLt_bf16_f32) E (constant S512x256 .f32 0x00000000#32))
    (broadcast S512x256 (Scalar.ofBits .f32 0x3C800000#32))) (broadcast S512x256 (Scalar.ofBits .f32 0x358637BD#32)))))
    (broadcastTo S512x256 (shapeCast S1x256 a shapeCasts_S1x256_S1x256) broadcasts_S1x256_S512x256)

theorem normedSlab_apply (E : FVec Ideal S256x256 .bf16) (hE : ∀ r l : Fin 256, E (ix2 r l) = if r.val / 64 = l.val / 64 then 1 else 0)
    (y : FVec Ideal S512x256 .f32) (a : Vec Ideal S1x256 .f32) (r : Fin 512) (l : Fin 256) :
    normedSlab E y a (ix2 r l) = y (ix2 r l) * inv (fun d => y (ix2 r (headLane l d))) * a (ix2 0 l) := by
  have hs : matmul dot_S512x256_S256x256_S512x256_1_0_0_1_n_n none (truncf .bf16 (mulf y y) bitsLt_bf16_f32) E (constant S512x256 .f32 0x00000000#32) (ix2 r l)
      = ∑ d : Fin 64, y (ix2 r (headLane l d)) * y (ix2 r (headLane l d)) := by
    rw [square_apply]
    refine Eq.trans (Finset.sum_congr rfl fun k _ => ?_) (sum_group (fun k => y (ix2 r k) * y (ix2 r k)) l)
    rw [hE]
    rfl
  have ha : broadcastTo S512x256 (shapeCast S1x256 a shapeCasts_S1x256_S1x256) broadcasts_S1x256_S512x256 (ix2 r l) = a (ix2 0 l) := by
    rw [shapeCast_self]
    exact broadcastTo_apply (s := S1x256) (t := S512x256) _ _ (ix2 r l) (ix2 0 l) (fun | ⟨0, _⟩ => rfl | ⟨1, _⟩ => rfl)
  show y (ix2 r l) * Ideal.rsqrt (matmul dot_S512x256_S256x256_S512x256_1_0_0_1_n_n none (truncf .bf16 (mulf y y) bitsLt_bf16_f32) E (constant S512x256 .f32 0x00000000#32) (ix2 r l) * Ideal.ofBits .f32 0x3C800000#32 + Ideal.ofBits .f32 0x358637BD#32)
    * broadcastTo S512x256 (shapeCast S1x256 a shapeCasts_S1x256_S1x256) broadcasts_S1x256_S512x256 (ix2 r l) = _
  rw [hs, ha, mul_sixtyfourth]
  rfl

/-- The lanes of the first halves of the heads, in a row of 256 numbers that are lane numbers. -/
theorem mask_const : ∀ l : Fin 256, k0_pay7 k0_pay6 16#32 (ix2 0 l) = if l.val % 32 < 16 then 1#1 else 0#1 := by
  decide +kernel

/-- Rotating the lanes by `n` reads lane `k` where `k + n` is `l` up to 256. -/
theorem rotate_apply (n : BitVec 32) (x : FVec Ideal S512x256 .f32) (r : Fin 512) (l k : Fin 256) (h : k.val = (l.val + 256 - n.toNat % 256) % 256) :
    dynamicRotate 1 n none x rotates_S512x256_d1 (ix2 r l) = x (ix2 r k) :=
  dynamicRotate_apply (s := S512x256) 1 n x _ _ (ix2 r k) (fun
    | ⟨0, _⟩ => rfl
    | ⟨1, _⟩ => h)

/-- The turned slab. -/
theorem turned_apply (E : FVec Ideal S256x256 .bf16) (y : FVec Ideal S512x256 .f32) (a : Vec Ideal S1x256 .f32) (cs sn : Vec Ideal S512x256 .f32) (r : Fin 512) (l : Fin 256) :
    k0_pay11 E (k0_pay7 k0_pay6 16#32) y a cs sn (ix2 r l)
      = normedSlab E y a (ix2 r l) * cs (ix2 r l) + normedSlab E y a (ix2 r (pairLane l)) * sn (ix2 r l) := by
  show normedSlab E y a (ix2 r l) * shapeCast S512x256 cs shapeCasts_S512x256_S512x256 (ix2 r l)
    + select (broadcastTo S512x256 (shapeCast S1x256 (k0_pay7 k0_pay6 16#32) shapeCasts_S1x256_S1x256) broadcasts_S1x256_S512x256)
        (dynamicRotate 1 240#32 none (normedSlab E y a) rotates_S512x256_d1) (dynamicRotate 1 16#32 none (normedSlab E y a) rotates_S512x256_d1) (ix2 r l)
      * shapeCast S512x256 sn shapeCasts_S512x256_S512x256 (ix2 r l) = _
  have hm : broadcastTo S512x256 (shapeCast S1x256 (k0_pay7 k0_pay6 16#32) shapeCasts_S1x256_S1x256) broadcasts_S1x256_S512x256 (ix2 r l)
      = if l.val % 32 < 16 then 1#1 else 0#1 := by
    rw [shapeCast_self, ← mask_const]
    exact broadcastTo_apply (s := S1x256) (t := S512x256) _ _ (ix2 r l) (ix2 0 l) (fun | ⟨0, _⟩ => rfl | ⟨1, _⟩ => rfl)
  rw [shapeCast_self cs, shapeCast_self sn, select_apply, hm]
  unfold pairLane
  by_cases h : l.val % 32 < 16
  · rw [if_pos h, dif_pos h, select_one, rotate_apply 240#32 _ r l ⟨l.val + 16, by omega⟩ (by show l.val + 16 = (l.val + 256 - 240 % 256) % 256; omega)]
  · rw [if_neg h, dif_neg h, select_zero, rotate_apply 16#32 _ r l ⟨l.val - 16, by omega⟩ (by show l.val - 16 = (l.val + 256 - 16 % 256) % 256; omega)]

end Cert.AxialTile

end
-- ==== Proof.AxialMath.lean ====
/- The projections of grouped queries, keys and values with axial rotary embeddings, as functions of a token's row. -/
module

public import proofs.«01_k».proof.Proof.ProjMath

@[expose] public section

noncomputable section

namespace Cert.Axial

open Cert.Ffn Cert.Proj Idealize.ShloMosaic

/-- The normed row of a token against a column of the weights. -/
def colOf {n : Nat} (g x : Fin 1024 → EReal) (w : Fin 1024 → Fin n → EReal) (f : Fin n) : EReal := ∑ k, row g x k * w k f

/-- Column `d` of the head that column `f` belongs to. -/
def headOf (f : Fin 2048) (d : Fin 64) : Fin 2048 := ⟨64 * (f.val / 64) + d.val, by omega⟩

/-- A query's or a key's number: the column over its head's root mean square, times the gain. -/
def normedOf (g x : Fin 1024 → EReal) (w : Fin 1024 → Fin 2048 → EReal) (f : Fin 2048) (a : EReal) : EReal :=
  colOf g x w f * inv (fun d => colOf g x w (headOf f d)) * a

/-- The column of the weights that column `f` of the result comes from: a key's or a value's head stands there twice. -/
def source (f : Fin 2048) : Fin 1536 :=
  if h : f.val < 1024 then ⟨f.val, by omega⟩
  else if f.val < 1536 then ⟨1024 + (64 * ((f.val - 1024) / 128 % 4) + f.val % 64), by omega⟩
  else ⟨1280 + (64 * ((f.val - 1536) / 128) + f.val % 64), by omega⟩

theorem source_val (f : Fin 2048) : (source f).val = if f.val < 1024 then f.val
    else if f.val < 1536 then 1024 + (64 * ((f.val - 1024) / 128) + f.val % 64) else 1280 + (64 * ((f.val - 1536) / 128) + f.val % 64) := by
  unfold source
  split
  · rfl
  · split
    · show 1024 + (64 * ((f.val - 1024) / 128 % 4) + f.val % 64) = _; omega
    · rfl

/-- The column that column `f` turns with: 16 further in the first half of a half head, 16 back in the second. -/
def pairCol (f : Fin 2048) : Fin 2048 := if h : f.val % 32 < 16 then ⟨f.val + 16, by omega⟩ else ⟨f.val - 16, by omega⟩

theorem pairCol_val (f : Fin 2048) : (pairCol f).val = if f.val % 32 < 16 then f.val + 16 else f.val - 16 := by
  unfold pairCol
  split <;> rfl

/-- The turned number of column `f`, from all the numbers `N` of the row. -/
def turned (N : Fin 2048 → EReal) (f : Fin 2048) (cs sn : EReal) : EReal := N f * cs + N (pairCol f) * sn

/-- In the first half of a half head the sine is subtracted. -/
theorem turned_first (N : Fin 2048 → EReal) (f f' : Fin 2048) (h : f.val % 32 < 16) (h' : f'.val = f.val + 16) (cs sn : EReal) :
    turned N f cs (-sn) = N f * cs - N f' * sn := by
  have e : pairCol f = f' := Fin.ext (by rw [pairCol_val, if_pos h, h'])
  unfold turned
  rw [e, mul_neg, sub_eq_add_neg]

/-- In the second it is added. -/
theorem turned_second (N : Fin 2048 → EReal) (f f' : Fin 2048) (h : ¬ f.val % 32 < 16) (h' : f'.val = f.val - 16) (cs sn : EReal) :
    turned N f cs sn = N f * cs + N f' * sn := by
  have e : pairCol f = f' := Fin.ext (by rw [pairCol_val, if_neg h, h'])
  unfold turned
  rw [e]

end Cert.Axial

end
-- ==== Proof.AxialBlock.lean ====
/- One block of the projection kernel with axial rotary embeddings: its stores side by side are one function of the block's rows. -/
module

public import proofs.«01_k».proof.Proof.AxialTile
public import proofs.«01_k».proof.Proof.AxialMath
public import proofs.«01_k».proof.Proof.Gen.Kernel8Ideal.Frame
public import Idealize.ShloMosaic.Lib.Pipeline.ValueKit

@[expose] public section

noncomputable section

namespace Cert.AxialBlock

open Cert.Kernel8Ideal Cert.Kernel8Ideal.Gen Cert.Ffn Cert.Proj Cert.Axial Cert.AxialTile
open Idealize.ShloMosaic hiding ix1 ix2 ix3 ix4 ix5 truncf_apply
open Idealize.ShloMosaic.ValueIdx

variable (x0 : Vec Ideal S512x1024 .f32) (x1 : Vec Ideal S1x1024 .f32) (x2 : Vec Ideal S1024x2048 .bf16) (x3 : Vec Ideal S1x2048 .f32) (x4 x5 : Vec Ideal S512x256 .f32)

/-- A normed column of the block's product. -/
def normAt (r : Fin 512) (f : Fin 2048) : EReal :=
  normedOf (fun k => x1 (ix2 0 k)) (fun k => x0 (ix2 r k)) (fun k f => x2 (ix2 k f)) f (x3 (ix2 0 f))

/-- A column of the block's result: queries and keys normed and turned, values as the product leaves them. -/
def at2 (r : Fin 512) (f : Fin 2048) : EReal :=
  if f.val < 1536 then turned (normAt x0 x1 x2 x3 r) f (x4 (ix2 r ⟨f.val % 256, by omega⟩)) (x5 (ix2 r ⟨f.val % 256, by omega⟩))
  else colOf (fun k => x1 (ix2 0 k)) (fun k => x0 (ix2 r k)) (fun k f => x2 (ix2 k f)) f

/-- What the block's result holds. -/
def blockVal : Vec Ideal S512x2048 .bf16 := fun y => at2 x0 x1 x2 x3 x4 x5 (y 0) (y 1)

/-- A slab of the product, its columns standing at `o`. -/
theorem slab_col (o : Nat) (ho : o + 256 ≤ 2048) (inb : ∀ a, (![0, o] : Fin 2 → Nat) a + S1024x256.size a ≤ S1024x2048.size a) (r : Fin 512) (l : Fin 256) :
    k0_pay8 (F := Ideal) (k0_pay2 x0 x1) (View.ld x2 (Rect.unit (s := S1024x2048) ![0, o] S1024x256.size inb)) (ix2 r l)
      = colOf (fun k => x1 (ix2 0 k)) (fun k => x0 (ix2 r k)) (fun k f => x2 (ix2 k f)) ⟨o + l.val, by omega⟩ := by
  rw [slab_apply]
  unfold colOf
  refine Finset.sum_congr rfl fun k _ => ?_
  rw [rows_apply]
  refine congrArg (_ * ·) (View.ld_unit_apply_of x2 _ _ _ _ _ fun a => ?_)
  match a with
  | ⟨0, _⟩ => exact (Nat.zero_add _).symm
  | ⟨1, _⟩ => rfl

theorem emb_eq (o : Nat) (ho : o + 256 ≤ 2048) (inb : ∀ a, (![0, o] : Fin 2 → Nat) a + S512x256.size a ≤ S512x2048.size a) (r : Fin 512) (l : Fin 256) :
    (Rect.unit (s := S512x2048) ![0, o] S512x256.size inb).emb (ix2 r l) = ix2 r ⟨o + l.val, by omega⟩ := funext fun a => Fin.ext (match a with
    | ⟨0, _⟩ => by show 0 + 1 * r.val = r.val; omega
    | ⟨1, _⟩ => by show o + 1 * l.val = o + l.val; omega)

/-- A normed slab of queries or keys, its columns standing at `o`. -/
theorem norm_piece (n : Nat) (hn : n < 6) (o : Nat) (ho : o = 256 * n) (E : FVec Ideal S256x256 .bf16)
    (hE : ∀ r l : Fin 256, E (ix2 r l) = if r.val / 64 = l.val / 64 then 1 else 0)
    (inw : ∀ a, (![0, o] : Fin 2 → Nat) a + S1024x256.size a ≤ S1024x2048.size a)
    (inh : ∀ a, (![0, o] : Fin 2 → Nat) a + S1x256.size a ≤ S1x2048.size a) (r : Fin 512) (l : Fin 256) :
    normedSlab E (k0_pay8 (F := Ideal) (k0_pay2 x0 x1) (View.ld x2 (Rect.unit (s := S1024x2048) ![0, o] S1024x256.size inw)))
        (View.ld x3 (Rect.unit (s := S1x2048) ![0, o] S1x256.size inh)) (ix2 r l)
      = normAt x0 x1 x2 x3 r ⟨o + l.val, by omega⟩ := by
  rw [normedSlab_apply E hE, slab_col x0 x1 x2 o (by omega)]
  have hh : View.ld x3 (Rect.unit (s := S1x2048) ![0, o] S1x256.size inh) (ix2 0 l) = x3 (ix2 0 ⟨o + l.val, by omega⟩) :=
    View.ld_unit_apply_of x3 _ _ _ _ _ fun | ⟨0, _⟩ => rfl | ⟨1, _⟩ => rfl
  have hy : ∀ d : Fin 64, k0_pay8 (F := Ideal) (k0_pay2 x0 x1) (View.ld x2 (Rect.unit (s := S1024x2048) ![0, o] S1024x256.size inw)) (ix2 r (headLane l d))
      = colOf (fun k => x1 (ix2 0 k)) (fun k => x0 (ix2 r k)) (fun k f => x2 (ix2 k f)) (headOf ⟨o + l.val, by omega⟩ d) := fun d => by
    rw [slab_col x0 x1 x2 o (by omega)]
    refine congrArg (colOf _ _ _) (Fin.ext ?_)
    show o + (64 * (l.val / 64) + d.val) = 64 * ((o + l.val) / 64) + d.val
    omega
  rw [hh, funext hy]
  rfl

/-- A store of a slab of queries or keys. -/
theorem head_piece (n : Nat) (hn : n < 6) (o : Nat) (ho : o = 256 * n) (E : FVec Ideal S256x256 .bf16)
    (hE : ∀ r l : Fin 256, E (ix2 r l) = if r.val / 64 = l.val / 64 then 1 else 0)
    (inw : ∀ a, (![0, o] : Fin 2 → Nat) a + S1024x256.size a ≤ S1024x2048.size a)
    (inh : ∀ a, (![0, o] : Fin 2 → Nat) a + S1x256.size a ≤ S1x2048.size a)
    (inb : ∀ a, (![0, o] : Fin 2 → Nat) a + S512x256.size a ≤ S512x2048.size a) (x : S512x256.Idx) :
    k0_pay11 E (k0_pay7 k0_pay6 16#32) (k0_pay8 (F := Ideal) (k0_pay2 x0 x1) (View.ld x2 (Rect.unit (s := S1024x2048) ![0, o] S1024x256.size inw)))
        (View.ld x3 (Rect.unit (s := S1x2048) ![0, o] S1x256.size inh)) x4 x5 x
      = blockVal x0 x1 x2 x3 x4 x5 ((Rect.unit (s := S512x2048) ![0, o] S512x256.size inb).emb x) := by
  obtain ⟨r, l, rfl⟩ : ∃ (r : Fin 512) (l : Fin 256), x = ix2 r l := ⟨x 0, x 1, funext fun | ⟨0, _⟩ => rfl | ⟨1, _⟩ => rfl⟩
  rw [emb_eq o (by omega), turned_apply, norm_piece x0 x1 x2 x3 n hn o ho E hE, norm_piece x0 x1 x2 x3 n hn o ho E hE]
  show _ = at2 x0 x1 x2 x3 x4 x5 r ⟨o + l.val, by omega⟩
  unfold at2 turned
  rw [if_pos (by show o + l.val < 1536; omega)]
  have e1 : (⟨(o + l.val) % 256, by omega⟩ : Fin 256) = l := Fin.ext (by show (o + l.val) % 256 = l.val; omega)
  have e2 : pairCol ⟨o + l.val, by omega⟩ = ⟨o + (pairLane l).val, by omega⟩ := Fin.ext (by
    rw [pairCol_val]
    show (if (o + l.val) % 32 < 16 then o + l.val + 16 else o + l.val - 16) = o + (pairLane l).val
    rw [pairLane_val]
    split <;> split <;> omega)
  rw [e1, e2]

/-- A store of a slab of values. -/
theorem value_piece (o : Nat) (h1 : 1536 ≤ o) (h2 : o + 256 ≤ 2048)
    (inw : ∀ a, (![0, o] : Fin 2 → Nat) a + S1024x256.size a ≤ S1024x2048.size a)
    (inb : ∀ a, (![0, o] : Fin 2 → Nat) a + S512x256.size a ≤ S512x2048.size a) (x : S512x256.Idx) :
    k0_pay8 (F := Ideal) (k0_pay2 x0 x1) (View.ld x2 (Rect.unit (s := S1024x2048) ![0, o] S1024x256.size inw)) x
      = blockVal x0 x1 x2 x3 x4 x5 ((Rect.unit (s := S512x2048) ![0, o] S512x256.size inb).emb x) := by
  obtain ⟨r, l, rfl⟩ : ∃ (r : Fin 512) (l : Fin 256), x = ix2 r l := ⟨x 0, x 1, funext fun | ⟨0, _⟩ => rfl | ⟨1, _⟩ => rfl⟩
  rw [emb_eq o (by omega), slab_col x0 x1 x2 o (by omega)]
  unfold blockVal at2
  rw [if_neg (by show ¬ o + l.val < 1536; omega)]

/-- What the body leaves in the result's buffer is the block's function. -/
theorem out_eq : out0_6 (F := Ideal) x0 x1 x2 x3 x4 x5 = blockVal x0 x1 x2 x3 x4 x5 := by
  have hX : k0_pay24 (F := Ideal) x0 x1 x2 x3 x4 x5 = k0_pay2 x0 x1 := by
    unfold k0_pay24
    rw [View.ld_unit_zero (funext fun | ⟨0, _⟩ => rfl | ⟨1, _⟩ => rfl), View.ld_unit_zero (funext fun | ⟨0, _⟩ => rfl | ⟨1, _⟩ => rfl)]
  have h4 : View.ld x4 r0_5 = x4 := View.ld_unit_zero (funext fun | ⟨0, _⟩ => rfl | ⟨1, _⟩ => rfl) _ _
  have h5 : View.ld x5 r0_5 = x5 := View.ld_unit_zero (funext fun | ⟨0, _⟩ => rfl | ⟨1, _⟩ => rfl) _ _
  funext y
  unfold out0_6 k0_pay28
  rw [hX, h4, h5]
  refine View.canon_apply_of_pieces (blockVal x0 x1 x2 x3 x4 x5) _ ?_ y (cover0_6 _ _ _ _ _ _ _ _ y)
  intro p hp x
  simp only [List.mem_cons, List.not_mem_nil, or_false] at hp
  rcases hp with rfl | rfl | rfl | rfl | rfl | rfl | rfl | rfl
  · exact value_piece x0 x1 x2 x3 x4 x5 1792 (by decide) (by decide) inb_S1024x2048_S1024x256_0_1792 inb_S512x2048_S512x256_0_1792 x
  · exact value_piece x0 x1 x2 x3 x4 x5 1536 (by decide) (by decide) inb_S1024x2048_S1024x256_0_1536 inb_S512x2048_S512x256_0_1536 x
  · exact head_piece x0 x1 x2 x3 x4 x5 5 (by decide) 1280 rfl _ ones_apply inb_S1024x2048_S1024x256_0_1280 inb_S1x2048_S1x256_0_1280 inb_S512x2048_S512x256_0_1280 x
  · exact head_piece x0 x1 x2 x3 x4 x5 4 (by decide) 1024 rfl _ ones_apply inb_S1024x2048_S1024x256_0_1024 inb_S1x2048_S1x256_0_1024 inb_S512x2048_S512x256_0_1024 x
  · exact head_piece x0 x1 x2 x3 x4 x5 3 (by decide) 768 rfl _ ones_apply inb_S1024x2048_S1024x256_0_768 inb_S1x2048_S1x256_0_768 inb_S512x2048_S512x256_0_768 x
  · exact head_piece x0 x1 x2 x3 x4 x5 2 (by decide) 512 rfl _ ones_apply inb_S1024x2048_S1024x256_0_512 inb_S1x2048_S1x256_0_512 inb_S512x2048_S512x256_0_512 x
  · exact head_piece x0 x1 x2 x3 x4 x5 1 (by decide) 256 rfl _ ones_apply inb_S1024x2048_S1024x256_0_256 inb_S1x2048_S1x256_0_256 inb_S512x2048_S512x256_0_256 x
  · exact head_piece x0 x1 x2 x3 x4 x5 0 (by decide) 0 rfl _ ones_apply inb_S1024x2048_S1024x256_0_0 inb_S1x2048_S1x256_0_0 inb_S512x2048_S512x256_0_0 x

end Cert.AxialBlock

end
-- ==== Proof.AxialRef.lean ====
/- The reference of the projections with norms and axial rotary embeddings read at an index. -/
module

public import proofs.«01_k».proof.Proof.AxialMath
public import proofs.«01_k».proof.Proof.Gen.Reference8Ideal.Read
public import Idealize.ShloMosaic.Lib.KernelVsHost

@[expose] public section

noncomputable section

namespace Cert.AxialRef

open Cert.Reference8Ideal Cert.Reference8Ideal.Gen Cert.Reference8Ideal.Read Cert.Ffn Cert.Proj Cert.Axial Idealize.ShloMosaic Idealize.ShloMosaic.ValueIdx

variable (x : Vec Ideal S32x2048x1024 .f32) (g : Vec Ideal S1024 .f32) (w : Vec Ideal S1024x1536 .f32) (aq ak : Vec Ideal S64 .f32)

/-- Token `s` of sequence `b`. -/
def tok (b : Fin 32) (s : Fin 2048) (k : Fin 1024) : EReal := x (ix3 b s k)

/-- The sum of a token's squares. -/
theorem v1_at (i : S32x2048.Idx) (b : Fin 32) (s : Fin 2048) (hb : (i 0).val = b.val) (hs : (i 1).val = s.val) :
    val_main_v1 (F := Ideal) x i = ∑ k, tok x b s k * tok x b s k := by
  rw [val_main_v1_apply, val_main_cst_apply]
  show Ideal.ofBits .f32 0x00000000#32 + _ = _
  rw [Ideal.ofBits_zero_f32, zero_add]
  refine Finset.sum_congr rfl fun k _ => ?_
  rw [val_main_v0_apply]
  have e : idx_main_v1 i k = ix3 b s k := funext fun a => Fin.ext (match a with | ⟨0, _⟩ => hb | ⟨1, _⟩ => hs | ⟨2, _⟩ => rfl)
  rw [e]
  rfl

/-- The normed token. -/
theorem v12_at (b : Fin 32) (s : Fin 2048) (k : Fin 1024) :
    val_main_v12 (F := Ideal) x g (ix3 b s k) = row (fun k => g (ix1 k)) (tok x b s) k := by
  rw [val_main_v12_apply, val_main_v9_apply, val_main_v8_apply, val_main_v7_apply, val_main_v6_apply, val_main_v4_apply, val_main_v2_apply,
    v1_at x _ b s rfl rfl, val_main_v3_apply, val_main_cst_0_apply, val_main_v5_apply, val_main_cst_1_apply, val_main_v11_apply, val_main_v10_apply]
  have e : idx_main_v10 (idx_main_v11 (ix3 b s k)) = ix1 k := funext fun | ⟨0, _⟩ => rfl
  rw [e]
  rfl

/-- The product of token `s`, its column `f`. -/
def srcAt (b : Fin 32) (s : Fin 2048) (f : Fin 1536) : EReal := colOf (fun k => g (ix1 k)) (tok x b s) (fun k f => w (ix2 k f)) f

theorem v13_at (b : Fin 32) (s : Fin 2048) (f : Fin 1536) : val_main_v13 (F := Ideal) x g w (ix3 b s f) = srcAt x g w b s f := by
  rw [val_main_v13_apply]
  unfold srcAt colOf
  refine Finset.sum_congr rfl fun k _ => ?_
  have e : lidx_main_v13 (ix3 b s f) k = ix3 b s k := funext fun | ⟨0, _⟩ => rfl | ⟨1, _⟩ => rfl | ⟨2, _⟩ => rfl
  have e' : ridx_main_v13 (ix3 b s f) k = ix2 k f := funext fun | ⟨0, _⟩ => rfl | ⟨1, _⟩ => rfl
  rw [e, e', v12_at]

/-- A head's query. -/
theorem v15_at (i : S32x2048x16x64.Idx) (b : Fin 32) (s : Fin 2048) (h : Fin 16) (d : Fin 64) (hi : i = ix4 b s h d) :
    val_main_v15 (F := Ideal) x g w i = srcAt x g w b s ⟨(64 * h.val + d.val), by omega⟩ := by
  subst hi
  rw [val_main_v15_apply, val_main_v14_apply, ← v13_at]
  refine congrArg (val_main_v13 (F := Ideal) x g w) (funext fun a => Fin.ext (match a with
    | ⟨0, _⟩ => ?_ | ⟨1, _⟩ => ?_ | ⟨2, _⟩ => ?_))
  · show (((b.val * 2048 + s.val) * 16 + h.val) * 64 + d.val) / 2097152 = b.val; omega
  · show (((b.val * 2048 + s.val) * 16 + h.val) * 64 + d.val) / 1024 % 2048 = s.val; omega
  · show (((b.val * 2048 + s.val) * 16 + h.val) * 64 + d.val) % 1024 = (64 * h.val + d.val); omega

/-- The sum of the squares of a head's query. -/
theorem v21_at (i : S32x2048x16.Idx) (b : Fin 32) (s : Fin 2048) (h : Fin 16) (h0 : (i 0).val = b.val) (h1 : (i 1).val = s.val) (h2 : (i 2).val = h.val) :
    val_main_v21 (F := Ideal) x g w i = ∑ d : Fin 64, srcAt x g w b s ⟨(64 * h.val + d.val), by omega⟩ * srcAt x g w b s ⟨(64 * h.val + d.val), by omega⟩ := by
  rw [val_main_v21_apply, val_main_cst_2_apply]
  show Ideal.ofBits .f32 0x00000000#32 + _ = _
  rw [Ideal.ofBits_zero_f32, zero_add]
  refine Finset.sum_congr rfl fun d _ => ?_
  rw [val_main_v20_apply, v15_at x g w (idx_main_v21 i d) b s h d (funext fun a => Fin.ext (match a with | ⟨0, _⟩ => h0 | ⟨1, _⟩ => h1 | ⟨2, _⟩ => h2 | ⟨3, _⟩ => rfl))]
  rfl

/-- A normed query. -/
theorem v32_at (b : Fin 32) (s : Fin 2048) (h : Fin 16) (d : Fin 64) :
    val_main_v32 (F := Ideal) x g w aq (ix4 b s h d)
      = srcAt x g w b s ⟨(64 * h.val + d.val), by omega⟩ * inv (fun d => srcAt x g w b s ⟨(64 * h.val + d.val), by omega⟩) * aq (ix1 d) := by
  rw [val_main_v32_apply, val_main_v29_apply, v15_at x g w _ b s h d rfl, val_main_v28_apply, val_main_v27_apply, val_main_v26_apply,
    val_main_v24_apply, val_main_v22_apply, v21_at x g w _ b s h rfl rfl rfl, val_main_v23_apply, val_main_cst_3_apply, val_main_v25_apply,
    val_main_cst_4_apply, val_main_v31_apply, val_main_v30_apply]
  have e : idx_main_v30 (idx_main_v31 (ix4 b s h d)) = ix1 d := funext fun | ⟨0, _⟩ => rfl
  rw [e]
  rfl

/-- A head's key. -/
theorem v17_at (i : S32x2048x4x64.Idx) (b : Fin 32) (s : Fin 2048) (h : Fin 4) (d : Fin 64) (hi : i = ix4 b s h d) :
    val_main_v17 (F := Ideal) x g w i = srcAt x g w b s ⟨1024 + (64 * h.val + d.val), by omega⟩ := by
  subst hi
  rw [val_main_v17_apply, val_main_v16_apply, ← v13_at]
  refine congrArg (val_main_v13 (F := Ideal) x g w) (funext fun a => Fin.ext (match a with
    | ⟨0, _⟩ => ?_ | ⟨1, _⟩ => ?_ | ⟨2, _⟩ => ?_))
  · show (((b.val * 2048 + s.val) * 4 + h.val) * 64 + d.val) / 524288 = b.val; omega
  · show (((b.val * 2048 + s.val) * 4 + h.val) * 64 + d.val) / 256 % 2048 = s.val; omega
  · show 1024 + (((b.val * 2048 + s.val) * 4 + h.val) * 64 + d.val) % 256 = 1024 + (64 * h.val + d.val); omega

/-- The sum of the squares of a head's key. -/
theorem v98_at (i : S32x2048x4.Idx) (b : Fin 32) (s : Fin 2048) (h : Fin 4) (h0 : (i 0).val = b.val) (h1 : (i 1).val = s.val) (h2 : (i 2).val = h.val) :
    val_main_v98 (F := Ideal) x g w i = ∑ d : Fin 64, srcAt x g w b s ⟨1024 + (64 * h.val + d.val), by omega⟩ * srcAt x g w b s ⟨1024 + (64 * h.val + d.val), by omega⟩ := by
  rw [val_main_v98_apply, val_main_cst_10_apply]
  show Ideal.ofBits .f32 0x00000000#32 + _ = _
  rw [Ideal.ofBits_zero_f32, zero_add]
  refine Finset.sum_congr rfl fun d _ => ?_
  rw [val_main_v97_apply, v17_at x g w (idx_main_v98 i d) b s h d (funext fun a => Fin.ext (match a with | ⟨0, _⟩ => h0 | ⟨1, _⟩ => h1 | ⟨2, _⟩ => h2 | ⟨3, _⟩ => rfl))]
  rfl

/-- A normed key. -/
theorem v109_at (b : Fin 32) (s : Fin 2048) (h : Fin 4) (d : Fin 64) :
    val_main_v109 (F := Ideal) x g w ak (ix4 b s h d)
      = srcAt x g w b s ⟨1024 + (64 * h.val + d.val), by omega⟩ * inv (fun d => srcAt x g w b s ⟨1024 + (64 * h.val + d.val), by omega⟩) * ak (ix1 d) := by
  rw [val_main_v109_apply, val_main_v106_apply, v17_at x g w _ b s h d rfl, val_main_v105_apply, val_main_v104_apply, val_main_v103_apply,
    val_main_v101_apply, val_main_v99_apply, v98_at x g w _ b s h rfl rfl rfl, val_main_v100_apply, val_main_cst_11_apply, val_main_v102_apply,
    val_main_cst_12_apply, val_main_v108_apply, val_main_v107_apply]
  have e : idx_main_v107 (idx_main_v108 (ix4 b s h d)) = ix1 d := funext fun | ⟨0, _⟩ => rfl
  rw [e]
  rfl

/-- A head's value. -/
theorem v19_at (i : S32x2048x4x64.Idx) (b : Fin 32) (s : Fin 2048) (h : Fin 4) (d : Fin 64) (hi : i = ix4 b s h d) :
    val_main_v19 (F := Ideal) x g w i = srcAt x g w b s ⟨1280 + (64 * h.val + d.val), by omega⟩ := by
  subst hi
  rw [val_main_v19_apply, val_main_v18_apply, ← v13_at]
  refine congrArg (val_main_v13 (F := Ideal) x g w) (funext fun a => Fin.ext (match a with
    | ⟨0, _⟩ => ?_ | ⟨1, _⟩ => ?_ | ⟨2, _⟩ => ?_))
  · show (((b.val * 2048 + s.val) * 4 + h.val) * 64 + d.val) / 524288 = b.val; omega
  · show (((b.val * 2048 + s.val) * 4 + h.val) * 64 + d.val) / 256 % 2048 = s.val; omega
  · show 1280 + (((b.val * 2048 + s.val) * 4 + h.val) * 64 + d.val) % 256 = 1280 + (64 * h.val + d.val); omega

/-- The column of the product that stands at column `f` of the result. -/
def colAt (b : Fin 32) (s : Fin 2048) (f : Fin 2048) : EReal := colOf (fun k => g (ix1 k)) (tok x b s) (fun k f => w (ix2 k (source f))) f

theorem colAt_eq (b : Fin 32) (s : Fin 2048) (f : Fin 2048) (f' : Fin 1536) (h : (source f).val = f'.val) : srcAt x g w b s f' = colAt x g w b s f := by
  have e : source f = f' := Fin.ext h
  subst e
  rfl

/-- The cosine of token `s`'s angle in column `f`: of its row's angle in the first half of a head, of its column's in the second. -/
def cosAt (s : Fin 2048) (f : Fin 2048) : EReal :=
  if f.val % 64 < 32 then val_main_v50 (F := Ideal) (ix2 s ⟨f.val % 16, by omega⟩) else val_main_v79 (F := Ideal) (ix2 s ⟨f.val % 16, by omega⟩)

/-- The sine, and with a minus in the first half of a half head. -/
def sinAt (s : Fin 2048) (f : Fin 2048) : EReal :=
  if f.val % 64 < 32 then val_main_v52 (F := Ideal) (ix2 s ⟨f.val % 16, by omega⟩) else val_main_v81 (F := Ideal) (ix2 s ⟨f.val % 16, by omega⟩)
def signedSin (s : Fin 2048) (f : Fin 2048) : EReal := if f.val % 32 < 16 then -sinAt s f else sinAt s f

/-- The gain of column `f`, where it is a query's or a key's. -/
def gain (f : Fin 2048) : EReal := if f.val < 1024 then aq (ix1 ⟨f.val % 64, by omega⟩) else ak (ix1 ⟨f.val % 64, by omega⟩)

/-- The normed number of column `f`. -/
def normAt (b : Fin 32) (s : Fin 2048) (f : Fin 2048) : EReal := normedOf (fun k => g (ix1 k)) (tok x b s) (fun k f => w (ix2 k (source f))) f (gain aq ak f)

/-- The result of token `s`, column `f`: queries and keys normed and turned, values as they are. -/
def resAt (b : Fin 32) (s : Fin 2048) (f : Fin 2048) : EReal :=
  if f.val < 1536 then turned (normAt x g w aq ak b s) f (cosAt s f) (signedSin s f) else colAt x g w b s f

theorem normAt_eq (b : Fin 32) (s : Fin 2048) (f : Fin 2048) : normAt x g w aq ak b s f
    = colAt x g w b s f * inv (fun d => colAt x g w b s (headOf f d)) * gain aq ak f := rfl

/-- A normed query is the normed number of its column. -/
theorem q_normAt (b : Fin 32) (s : Fin 2048) (h : Fin 16) (d : Fin 64) (f : Fin 2048) (f0 : f.val < 1024) (f1 : f.val / 64 = h.val) (f2 : f.val % 64 = d.val) :
    val_main_v32 (F := Ideal) x g w aq (ix4 b s h d) = normAt x g w aq ak b s f := by
  have hv : ∀ (d' : Fin 64) (f' : Fin 2048) (_ : f'.val < 1024) (_ : f'.val / 64 = h.val) (_ : f'.val % 64 = d'.val),
      srcAt x g w b s ⟨(64 * h.val + d'.val), by omega⟩ = colAt x g w b s f' := fun d' f' g0 g1 g2 =>
    colAt_eq x g w b s f' _ (by
      rw [source_val]
      show _ = (64 * h.val + d'.val)
      split
      · omega
      · first | omega | (split <;> omega))
  rw [v32_at, normAt_eq, hv d f f0 f1 f2]
  have e : (⟨f.val % 64, by omega⟩ : Fin 64) = d := Fin.ext f2
  have eh : (fun d' : Fin 64 => srcAt x g w b s ⟨(64 * h.val + d'.val), by omega⟩) = fun d' => colAt x g w b s (headOf f d') :=
    funext fun d' => hv d' (headOf f d') (by show 64 * (f.val / 64) + d'.val < 1024; omega) (by show (64 * (f.val / 64) + d'.val) / 64 = h.val; omega) (by show (64 * (f.val / 64) + d'.val) % 64 = d'.val; omega)
  unfold gain
  rw [if_pos f0, e, eh]

/-- A normed key is the normed number of its column. -/
theorem k_normAt (b : Fin 32) (s : Fin 2048) (h : Fin 4) (d : Fin 64) (f : Fin 2048) (f0 : 1024 ≤ f.val ∧ f.val < 1536) (f1 : (f.val - 1024) / 128 = h.val) (f2 : f.val % 64 = d.val) :
    val_main_v109 (F := Ideal) x g w ak (ix4 b s h d) = normAt x g w aq ak b s f := by
  have hv : ∀ (d' : Fin 64) (f' : Fin 2048) (_ : 1024 ≤ f'.val ∧ f'.val < 1536) (_ : (f'.val - 1024) / 128 = h.val) (_ : f'.val % 64 = d'.val),
      srcAt x g w b s ⟨1024 + (64 * h.val + d'.val), by omega⟩ = colAt x g w b s f' := fun d' f' g0 g1 g2 =>
    colAt_eq x g w b s f' _ (by
      rw [source_val]
      show _ = 1024 + (64 * h.val + d'.val)
      split
      · omega
      · first | omega | (split <;> omega))
  rw [v109_at, normAt_eq, hv d f f0 f1 f2]
  have e : (⟨f.val % 64, by omega⟩ : Fin 64) = d := Fin.ext f2
  have eh : (fun d' : Fin 64 => srcAt x g w b s ⟨1024 + (64 * h.val + d'.val), by omega⟩) = fun d' => colAt x g w b s (headOf f d') :=
    funext fun d' => hv d' (headOf f d') (by show 1024 ≤ 64 * (f.val / 64) + d'.val ∧ 64 * (f.val / 64) + d'.val < 1536; omega) (by show (64 * (f.val / 64) + d'.val - 1024) / 128 = h.val; omega) (by show (64 * (f.val / 64) + d'.val) % 64 = d'.val; omega)
  unfold gain
  rw [if_neg (by omega), e, eh]

/-- The first half of a turned query. -/
theorem v66_at (b : Fin 32) (s : Fin 2048) (h : Fin 16) (e : Fin 32) (f : Fin 2048) (f0 : f.val < 1024) (f1 : f.val / 64 = h.val) (f2 : f.val % 64 = 0 + e.val) :
    val_main_v66 (F := Ideal) x g w aq (ix4 b s h e) = turned (normAt x g w aq ak b s) f (cosAt s f) (signedSin s f) := by
  have hh := h.isLt
  have lo : ∀ (e' : Fin 16) (f' : Fin 2048) (_ : f'.val < 1024) (_ : f'.val / 64 = h.val) (_ : f'.val % 64 = 0 + e'.val),
      val_main_v54 (F := Ideal) x g w aq (ix4 b s h e') = normAt x g w aq ak b s f' := fun e' f' g0 g1 g2 => by
    rw [val_main_v54_apply, val_main_v38_apply]
    have e : idx_main_v38 (idx_main_v54 (ix4 b s h e')) = ix4 b s h ⟨0 + e'.val, by omega⟩ := funext fun a => Fin.ext (match a with
      | ⟨0, _⟩ => rfl | ⟨1, _⟩ => rfl | ⟨2, _⟩ => rfl | ⟨3, _⟩ => (Nat.zero_add _).symm)
    rw [e, q_normAt x g w aq ak b s h ⟨0 + e'.val, by omega⟩ f' g0 g1 g2]
  have hi : ∀ (e' : Fin 16) (f' : Fin 2048) (_ : f'.val < 1024) (_ : f'.val / 64 = h.val) (_ : f'.val % 64 = 0 + (16 + e'.val)),
      val_main_v55 (F := Ideal) x g w aq (ix4 b s h e') = normAt x g w aq ak b s f' := fun e' f' g0 g1 g2 => by
    rw [val_main_v55_apply, val_main_v38_apply]
    have e : idx_main_v38 (idx_main_v55 (ix4 b s h e')) = ix4 b s h ⟨0 + (16 + e'.val), by omega⟩ := funext fun a => Fin.ext (match a with
      | ⟨0, _⟩ => rfl | ⟨1, _⟩ => rfl | ⟨2, _⟩ => rfl | ⟨3, _⟩ => (Nat.zero_add _).symm)
    rw [e, q_normAt x g w aq ak b s h ⟨0 + (16 + e'.val), by omega⟩ f' g0 g1 g2]
  unfold val_main_v66 signedSin cosAt sinAt
  rw [if_pos (show f.val % 64 < 32 by omega), if_pos (show f.val % 64 < 32 by omega)]
  by_cases h1 : e.val < 16
  · refine (concatenate_apply_piece (t := S32x2048x16x32) 3 _ _ _ 0 (by simp) S32x2048x16x16 _ rfl rfl 0 rfl (ix4 b s h ⟨e.val, h1⟩) (fun x hx => match x with | ⟨0, _⟩ => rfl | ⟨1, _⟩ => rfl | ⟨2, _⟩ => rfl | ⟨3, _⟩ => absurd rfl hx) (Nat.zero_add _)).trans ?_
    have hf : f.val % 32 < 16 := by omega
    rw [if_pos hf, turned_first _ _ ⟨f.val + 16, by omega⟩ hf rfl, val_main_v60_apply, val_main_v57_apply, val_main_v59_apply, lo ⟨e.val, h1⟩ f f0 f1 (by show f.val % 64 = 0 + e.val; omega),
      hi ⟨e.val, h1⟩ ⟨f.val + 16, by omega⟩ (by show f.val + 16 < 1024; omega) (by show (f.val + 16) / 64 = h.val; omega) (by show (f.val + 16) % 64 = 0 + (16 + e.val); omega),
      val_main_v56_apply, val_main_v51_apply, val_main_v58_apply, val_main_v53_apply]
    have ej : (⟨e.val, h1⟩ : Fin 16) = ⟨f.val % 16, by omega⟩ := Fin.ext (by show e.val = f.val % 16; omega)
    have ec : (idx_main_v51 (idx_main_v56 (ix4 b s h ⟨e.val, h1⟩))) = ix2 s ⟨f.val % 16, by omega⟩ := by
      rw [← ej]; exact funext fun | ⟨0, _⟩ => rfl | ⟨1, _⟩ => rfl
    have es : (idx_main_v53 (idx_main_v58 (ix4 b s h ⟨e.val, h1⟩))) = ix2 s ⟨f.val % 16, by omega⟩ := by
      rw [← ej]; exact funext fun | ⟨0, _⟩ => rfl | ⟨1, _⟩ => rfl
    rw [ec, es]
    rfl
  · refine (concatenate_apply_piece (t := S32x2048x16x32) 3 _ _ _ 1 (by simp) S32x2048x16x16 _ rfl rfl 16 rfl (ix4 b s h ⟨e.val - 16, by omega⟩) (fun x hx => match x with | ⟨0, _⟩ => rfl | ⟨1, _⟩ => rfl | ⟨2, _⟩ => rfl | ⟨3, _⟩ => absurd rfl hx) (by show 16 + (e.val - 16) = e.val; omega)).trans ?_
    have hf : ¬ f.val % 32 < 16 := by omega
    rw [if_neg hf, turned_second _ _ ⟨f.val - 16, by omega⟩ hf rfl, val_main_v65_apply, val_main_v62_apply, val_main_v64_apply, hi ⟨e.val - 16, by omega⟩ f f0 f1 (by show f.val % 64 = 0 + (16 + (e.val - 16)); omega),
      lo ⟨e.val - 16, by omega⟩ ⟨f.val - 16, by omega⟩ (by show f.val - 16 < 1024; omega) (by show (f.val - 16) / 64 = h.val; omega) (by show (f.val - 16) % 64 = 0 + (e.val - 16); omega),
      val_main_v61_apply, val_main_v51_apply, val_main_v63_apply, val_main_v53_apply]
    have ej : (⟨e.val - 16, by omega⟩ : Fin 16) = ⟨f.val % 16, by omega⟩ := Fin.ext (by show (e.val - 16) = f.val % 16; omega)
    have ec : (idx_main_v51 (idx_main_v61 (ix4 b s h ⟨e.val - 16, by omega⟩))) = ix2 s ⟨f.val % 16, by omega⟩ := by
      rw [← ej]; exact funext fun | ⟨0, _⟩ => rfl | ⟨1, _⟩ => rfl
    have es : (idx_main_v53 (idx_main_v63 (ix4 b s h ⟨e.val - 16, by omega⟩))) = ix2 s ⟨f.val % 16, by omega⟩ := by
      rw [← ej]; exact funext fun | ⟨0, _⟩ => rfl | ⟨1, _⟩ => rfl
    rw [ec, es]
    rfl

/-- The second half of a turned query. -/
theorem v95_at (b : Fin 32) (s : Fin 2048) (h : Fin 16) (e : Fin 32) (f : Fin 2048) (f0 : f.val < 1024) (f1 : f.val / 64 = h.val) (f2 : f.val % 64 = 32 + e.val) :
    val_main_v95 (F := Ideal) x g w aq (ix4 b s h e) = turned (normAt x g w aq ak b s) f (cosAt s f) (signedSin s f) := by
  have hh := h.isLt
  have lo : ∀ (e' : Fin 16) (f' : Fin 2048) (_ : f'.val < 1024) (_ : f'.val / 64 = h.val) (_ : f'.val % 64 = 32 + e'.val),
      val_main_v83 (F := Ideal) x g w aq (ix4 b s h e') = normAt x g w aq ak b s f' := fun e' f' g0 g1 g2 => by
    rw [val_main_v83_apply, val_main_v67_apply]
    have e : idx_main_v67 (idx_main_v83 (ix4 b s h e')) = ix4 b s h ⟨32 + e'.val, by omega⟩ := funext fun a => Fin.ext (match a with
      | ⟨0, _⟩ => rfl | ⟨1, _⟩ => rfl | ⟨2, _⟩ => rfl | ⟨3, _⟩ => rfl)
    rw [e, q_normAt x g w aq ak b s h ⟨32 + e'.val, by omega⟩ f' g0 g1 g2]
  have hi : ∀ (e' : Fin 16) (f' : Fin 2048) (_ : f'.val < 1024) (_ : f'.val / 64 = h.val) (_ : f'.val % 64 = 32 + (16 + e'.val)),
      val_main_v84 (F := Ideal) x g w aq (ix4 b s h e') = normAt x g w aq ak b s f' := fun e' f' g0 g1 g2 => by
    rw [val_main_v84_apply, val_main_v67_apply]
    have e : idx_main_v67 (idx_main_v84 (ix4 b s h e')) = ix4 b s h ⟨32 + (16 + e'.val), by omega⟩ := funext fun a => Fin.ext (match a with
      | ⟨0, _⟩ => rfl | ⟨1, _⟩ => rfl | ⟨2, _⟩ => rfl | ⟨3, _⟩ => rfl)
    rw [e, q_normAt x g w aq ak b s h ⟨32 + (16 + e'.val), by omega⟩ f' g0 g1 g2]
  unfold val_main_v95 signedSin cosAt sinAt
  rw [if_neg (show ¬ f.val % 64 < 32 by omega), if_neg (show ¬ f.val % 64 < 32 by omega)]
  by_cases h1 : e.val < 16
  · refine (concatenate_apply_piece (t := S32x2048x16x32) 3 _ _ _ 0 (by simp) S32x2048x16x16 _ rfl rfl 0 rfl (ix4 b s h ⟨e.val, h1⟩) (fun x hx => match x with | ⟨0, _⟩ => rfl | ⟨1, _⟩ => rfl | ⟨2, _⟩ => rfl | ⟨3, _⟩ => absurd rfl hx) (Nat.zero_add _)).trans ?_
    have hf : f.val % 32 < 16 := by omega
    rw [if_pos hf, turned_first _ _ ⟨f.val + 16, by omega⟩ hf rfl, val_main_v89_apply, val_main_v86_apply, val_main_v88_apply, lo ⟨e.val, h1⟩ f f0 f1 (by show f.val % 64 = 32 + e.val; omega),
      hi ⟨e.val, h1⟩ ⟨f.val + 16, by omega⟩ (by show f.val + 16 < 1024; omega) (by show (f.val + 16) / 64 = h.val; omega) (by show (f.val + 16) % 64 = 32 + (16 + e.val); omega),
      val_main_v85_apply, val_main_v80_apply, val_main_v87_apply, val_main_v82_apply]
    have ej : (⟨e.val, h1⟩ : Fin 16) = ⟨f.val % 16, by omega⟩ := Fin.ext (by show e.val = f.val % 16; omega)
    have ec : (idx_main_v80 (idx_main_v85 (ix4 b s h ⟨e.val, h1⟩))) = ix2 s ⟨f.val % 16, by omega⟩ := by
      rw [← ej]; exact funext fun | ⟨0, _⟩ => rfl | ⟨1, _⟩ => rfl
    have es : (idx_main_v82 (idx_main_v87 (ix4 b s h ⟨e.val, h1⟩))) = ix2 s ⟨f.val % 16, by omega⟩ := by
      rw [← ej]; exact funext fun | ⟨0, _⟩ => rfl | ⟨1, _⟩ => rfl
    rw [ec, es]
    rfl
  · refine (concatenate_apply_piece (t := S32x2048x16x32) 3 _ _ _ 1 (by simp) S32x2048x16x16 _ rfl rfl 16 rfl (ix4 b s h ⟨e.val - 16, by omega⟩) (fun x hx => match x with | ⟨0, _⟩ => rfl | ⟨1, _⟩ => rfl | ⟨2, _⟩ => rfl | ⟨3, _⟩ => absurd rfl hx) (by show 16 + (e.val - 16) = e.val; omega)).trans ?_
    have hf : ¬ f.val % 32 < 16 := by omega
    rw [if_neg hf, turned_second _ _ ⟨f.val - 16, by omega⟩ hf rfl, val_main_v94_apply, val_main_v91_apply, val_main_v93_apply, hi ⟨e.val - 16, by omega⟩ f f0 f1 (by show f.val % 64 = 32 + (16 + (e.val - 16)); omega),
      lo ⟨e.val - 16, by omega⟩ ⟨f.val - 16, by omega⟩ (by show f.val - 16 < 1024; omega) (by show (f.val - 16) / 64 = h.val; omega) (by show (f.val - 16) % 64 = 32 + (e.val - 16); omega),
      val_main_v90_apply, val_main_v80_apply, val_main_v92_apply, val_main_v82_apply]
    have ej : (⟨e.val - 16, by omega⟩ : Fin 16) = ⟨f.val % 16, by omega⟩ := Fin.ext (by show (e.val - 16) = f.val % 16; omega)
    have ec : (idx_main_v80 (idx_main_v90 (ix4 b s h ⟨e.val - 16, by omega⟩))) = ix2 s ⟨f.val % 16, by omega⟩ := by
      rw [← ej]; exact funext fun | ⟨0, _⟩ => rfl | ⟨1, _⟩ => rfl
    have es : (idx_main_v82 (idx_main_v92 (ix4 b s h ⟨e.val - 16, by omega⟩))) = ix2 s ⟨f.val % 16, by omega⟩ := by
      rw [← ej]; exact funext fun | ⟨0, _⟩ => rfl | ⟨1, _⟩ => rfl
    rw [ec, es]
    rfl

/-- The first half of a turned key. -/
theorem v143_at (b : Fin 32) (s : Fin 2048) (h : Fin 4) (e : Fin 32) (f : Fin 2048) (f0 : 1024 ≤ f.val ∧ f.val < 1536) (f1 : (f.val - 1024) / 128 = h.val) (f2 : f.val % 64 = 0 + e.val) :
    val_main_v143 (F := Ideal) x g w ak (ix4 b s h e) = turned (normAt x g w aq ak b s) f (cosAt s f) (signedSin s f) := by
  have hh := h.isLt
  have lo : ∀ (e' : Fin 16) (f' : Fin 2048) (_ : 1024 ≤ f'.val ∧ f'.val < 1536) (_ : (f'.val - 1024) / 128 = h.val) (_ : f'.val % 64 = 0 + e'.val),
      val_main_v131 (F := Ideal) x g w ak (ix4 b s h e') = normAt x g w aq ak b s f' := fun e' f' g0 g1 g2 => by
    rw [val_main_v131_apply, val_main_v115_apply]
    have e : idx_main_v115 (idx_main_v131 (ix4 b s h e')) = ix4 b s h ⟨0 + e'.val, by omega⟩ := funext fun a => Fin.ext (match a with
      | ⟨0, _⟩ => rfl | ⟨1, _⟩ => rfl | ⟨2, _⟩ => rfl | ⟨3, _⟩ => (Nat.zero_add _).symm)
    rw [e, k_normAt x g w aq ak b s h ⟨0 + e'.val, by omega⟩ f' g0 g1 g2]
  have hi : ∀ (e' : Fin 16) (f' : Fin 2048) (_ : 1024 ≤ f'.val ∧ f'.val < 1536) (_ : (f'.val - 1024) / 128 = h.val) (_ : f'.val % 64 = 0 + (16 + e'.val)),
      val_main_v132 (F := Ideal) x g w ak (ix4 b s h e') = normAt x g w aq ak b s f' := fun e' f' g0 g1 g2 => by
    rw [val_main_v132_apply, val_main_v115_apply]
    have e : idx_main_v115 (idx_main_v132 (ix4 b s h e')) = ix4 b s h ⟨0 + (16 + e'.val), by omega⟩ := funext fun a => Fin.ext (match a with
      | ⟨0, _⟩ => rfl | ⟨1, _⟩ => rfl | ⟨2, _⟩ => rfl | ⟨3, _⟩ => (Nat.zero_add _).symm)
    rw [e, k_normAt x g w aq ak b s h ⟨0 + (16 + e'.val), by omega⟩ f' g0 g1 g2]
  unfold val_main_v143 signedSin cosAt sinAt
  rw [if_pos (show f.val % 64 < 32 by omega), if_pos (show f.val % 64 < 32 by omega)]
  by_cases h1 : e.val < 16
  · refine (concatenate_apply_piece (t := S32x2048x4x32) 3 _ _ _ 0 (by simp) S32x2048x4x16 _ rfl rfl 0 rfl (ix4 b s h ⟨e.val, h1⟩) (fun x hx => match x with | ⟨0, _⟩ => rfl | ⟨1, _⟩ => rfl | ⟨2, _⟩ => rfl | ⟨3, _⟩ => absurd rfl hx) (Nat.zero_add _)).trans ?_
    have hf : f.val % 32 < 16 := by omega
    rw [if_pos hf, turned_first _ _ ⟨f.val + 16, by omega⟩ hf rfl, val_main_v137_apply, val_main_v134_apply, val_main_v136_apply, lo ⟨e.val, h1⟩ f f0 f1 (by show f.val % 64 = 0 + e.val; omega),
      hi ⟨e.val, h1⟩ ⟨f.val + 16, by omega⟩ (by show 1024 ≤ f.val + 16 ∧ f.val + 16 < 1536; omega) (by show (f.val + 16 - 1024) / 128 = h.val; omega) (by show (f.val + 16) % 64 = 0 + (16 + e.val); omega),
      val_main_v133_apply, val_main_v128_apply, val_main_v135_apply, val_main_v130_apply]
    have ej : (⟨e.val, h1⟩ : Fin 16) = ⟨f.val % 16, by omega⟩ := Fin.ext (by show e.val = f.val % 16; omega)
    have ec : (idx_main_v128 (idx_main_v133 (ix4 b s h ⟨e.val, h1⟩))) = ix2 s ⟨f.val % 16, by omega⟩ := by
      rw [← ej]; exact funext fun | ⟨0, _⟩ => rfl | ⟨1, _⟩ => rfl
    have es : (idx_main_v130 (idx_main_v135 (ix4 b s h ⟨e.val, h1⟩))) = ix2 s ⟨f.val % 16, by omega⟩ := by
      rw [← ej]; exact funext fun | ⟨0, _⟩ => rfl | ⟨1, _⟩ => rfl
    rw [ec, es]
    rfl
  · refine (concatenate_apply_piece (t := S32x2048x4x32) 3 _ _ _ 1 (by simp) S32x2048x4x16 _ rfl rfl 16 rfl (ix4 b s h ⟨e.val - 16, by omega⟩) (fun x hx => match x with | ⟨0, _⟩ => rfl | ⟨1, _⟩ => rfl | ⟨2, _⟩ => rfl | ⟨3, _⟩ => absurd rfl hx) (by show 16 + (e.val - 16) = e.val; omega)).trans ?_
    have hf : ¬ f.val % 32 < 16 := by omega
    rw [if_neg hf, turned_second _ _ ⟨f.val - 16, by omega⟩ hf rfl, val_main_v142_apply, val_main_v139_apply, val_main_v141_apply, hi ⟨e.val - 16, by omega⟩ f f0 f1 (by show f.val % 64 = 0 + (16 + (e.val - 16)); omega),
      lo ⟨e.val - 16, by omega⟩ ⟨f.val - 16, by omega⟩ (by show 1024 ≤ f.val - 16 ∧ f.val - 16 < 1536; omega) (by show (f.val - 16 - 1024) / 128 = h.val; omega) (by show (f.val - 16) % 64 = 0 + (e.val - 16); omega),
      val_main_v138_apply, val_main_v128_apply, val_main_v140_apply, val_main_v130_apply]
    have ej : (⟨e.val - 16, by omega⟩ : Fin 16) = ⟨f.val % 16, by omega⟩ := Fin.ext (by show (e.val - 16) = f.val % 16; omega)
    have ec : (idx_main_v128 (idx_main_v138 (ix4 b s h ⟨e.val - 16, by omega⟩))) = ix2 s ⟨f.val % 16, by omega⟩ := by
      rw [← ej]; exact funext fun | ⟨0, _⟩ => rfl | ⟨1, _⟩ => rfl
    have es : (idx_main_v130 (idx_main_v140 (ix4 b s h ⟨e.val - 16, by omega⟩))) = ix2 s ⟨f.val % 16, by omega⟩ := by
      rw [← ej]; exact funext fun | ⟨0, _⟩ => rfl | ⟨1, _⟩ => rfl
    rw [ec, es]
    rfl

/-- The second half of a turned key. -/
theorem v172_at (b : Fin 32) (s : Fin 2048) (h : Fin 4) (e : Fin 32) (f : Fin 2048) (f0 : 1024 ≤ f.val ∧ f.val < 1536) (f1 : (f.val - 1024) / 128 = h.val) (f2 : f.val % 64 = 32 + e.val) :
    val_main_v172 (F := Ideal) x g w ak (ix4 b s h e) = turned (normAt x g w aq ak b s) f (cosAt s f) (signedSin s f) := by
  have hh := h.isLt
  have lo : ∀ (e' : Fin 16) (f' : Fin 2048) (_ : 1024 ≤ f'.val ∧ f'.val < 1536) (_ : (f'.val - 1024) / 128 = h.val) (_ : f'.val % 64 = 32 + e'.val),
      val_main_v160 (F := Ideal) x g w ak (ix4 b s h e') = normAt x g w aq ak b s f' := fun e' f' g0 g1 g2 => by
    rw [val_main_v160_apply, val_main_v144_apply]
    have e : idx_main_v144 (idx_main_v160 (ix4 b s h e')) = ix4 b s h ⟨32 + e'.val, by omega⟩ := funext fun a => Fin.ext (match a with
      | ⟨0, _⟩ => rfl | ⟨1, _⟩ => rfl | ⟨2, _⟩ => rfl | ⟨3, _⟩ => rfl)
    rw [e, k_normAt x g w aq ak b s h ⟨32 + e'.val, by omega⟩ f' g0 g1 g2]
  have hi : ∀ (e' : Fin 16) (f' : Fin 2048) (_ : 1024 ≤ f'.val ∧ f'.val < 1536) (_ : (f'.val - 1024) / 128 = h.val) (_ : f'.val % 64 = 32 + (16 + e'.val)),
      val_main_v161 (F := Ideal) x g w ak (ix4 b s h e') = normAt x g w aq ak b s f' := fun e' f' g0 g1 g2 => by
    rw [val_main_v161_apply, val_main_v144_apply]
    have e : idx_main_v144 (idx_main_v161 (ix4 b s h e')) = ix4 b s h ⟨32 + (16 + e'.val), by omega⟩ := funext fun a => Fin.ext (match a with
      | ⟨0, _⟩ => rfl | ⟨1, _⟩ => rfl | ⟨2, _⟩ => rfl | ⟨3, _⟩ => rfl)
    rw [e, k_normAt x g w aq ak b s h ⟨32 + (16 + e'.val), by omega⟩ f' g0 g1 g2]
  unfold val_main_v172 signedSin cosAt sinAt
  rw [if_neg (show ¬ f.val % 64 < 32 by omega), if_neg (show ¬ f.val % 64 < 32 by omega)]
  by_cases h1 : e.val < 16
  · refine (concatenate_apply_piece (t := S32x2048x4x32) 3 _ _ _ 0 (by simp) S32x2048x4x16 _ rfl rfl 0 rfl (ix4 b s h ⟨e.val, h1⟩) (fun x hx => match x with | ⟨0, _⟩ => rfl | ⟨1, _⟩ => rfl | ⟨2, _⟩ => rfl | ⟨3, _⟩ => absurd rfl hx) (Nat.zero_add _)).trans ?_
    have hf : f.val % 32 < 16 := by omega
    rw [if_pos hf, turned_first _ _ ⟨f.val + 16, by omega⟩ hf rfl, val_main_v166_apply, val_main_v163_apply, val_main_v165_apply, lo ⟨e.val, h1⟩ f f0 f1 (by show f.val % 64 = 32 + e.val; omega),
      hi ⟨e.val, h1⟩ ⟨f.val + 16, by omega⟩ (by show 1024 ≤ f.val + 16 ∧ f.val + 16 < 1536; omega) (by show (f.val + 16 - 1024) / 128 = h.val; omega) (by show (f.val + 16) % 64 = 32 + (16 + e.val); omega),
      val_main_v162_apply, val_main_v157_apply, val_main_v164_apply, val_main_v159_apply]
    have ej : (⟨e.val, h1⟩ : Fin 16) = ⟨f.val % 16, by omega⟩ := Fin.ext (by show e.val = f.val % 16; omega)
    have ec : (idx_main_v157 (idx_main_v162 (ix4 b s h ⟨e.val, h1⟩))) = ix2 s ⟨f.val % 16, by omega⟩ := by
      rw [← ej]; exact funext fun | ⟨0, _⟩ => rfl | ⟨1, _⟩ => rfl
    have es : (idx_main_v159 (idx_main_v164 (ix4 b s h ⟨e.val, h1⟩))) = ix2 s ⟨f.val % 16, by omega⟩ := by
      rw [← ej]; exact funext fun | ⟨0, _⟩ => rfl | ⟨1, _⟩ => rfl
    rw [ec, es]
    rfl
  · refine (concatenate_apply_piece (t := S32x2048x4x32) 3 _ _ _ 1 (by simp) S32x2048x4x16 _ rfl rfl 16 rfl (ix4 b s h ⟨e.val - 16, by omega⟩) (fun x hx => match x with | ⟨0, _⟩ => rfl | ⟨1, _⟩ => rfl | ⟨2, _⟩ => rfl | ⟨3, _⟩ => absurd rfl hx) (by show 16 + (e.val - 16) = e.val; omega)).trans ?_
    have hf : ¬ f.val % 32 < 16 := by omega
    rw [if_neg hf, turned_second _ _ ⟨f.val - 16, by omega⟩ hf rfl, val_main_v171_apply, val_main_v168_apply, val_main_v170_apply, hi ⟨e.val - 16, by omega⟩ f f0 f1 (by show f.val % 64 = 32 + (16 + (e.val - 16)); omega),
      lo ⟨e.val - 16, by omega⟩ ⟨f.val - 16, by omega⟩ (by show 1024 ≤ f.val - 16 ∧ f.val - 16 < 1536; omega) (by show (f.val - 16 - 1024) / 128 = h.val; omega) (by show (f.val - 16) % 64 = 32 + (e.val - 16); omega),
      val_main_v167_apply, val_main_v157_apply, val_main_v169_apply, val_main_v159_apply]
    have ej : (⟨e.val - 16, by omega⟩ : Fin 16) = ⟨f.val % 16, by omega⟩ := Fin.ext (by show (e.val - 16) = f.val % 16; omega)
    have ec : (idx_main_v157 (idx_main_v167 (ix4 b s h ⟨e.val - 16, by omega⟩))) = ix2 s ⟨f.val % 16, by omega⟩ := by
      rw [← ej]; exact funext fun | ⟨0, _⟩ => rfl | ⟨1, _⟩ => rfl
    have es : (idx_main_v159 (idx_main_v169 (ix4 b s h ⟨e.val - 16, by omega⟩))) = ix2 s ⟨f.val % 16, by omega⟩ := by
      rw [← ej]; exact funext fun | ⟨0, _⟩ => rfl | ⟨1, _⟩ => rfl
    rw [ec, es]
    rfl

/-- A turned query. -/
theorem v96_at (b : Fin 32) (s : Fin 2048) (h : Fin 16) (d : Fin 64) (f : Fin 2048) (f0 : f.val < 1024) (f1 : f.val / 64 = h.val) (f2 : f.val % 64 = d.val) :
    val_main_v96 (F := Ideal) x g w aq (ix4 b s h d) = turned (normAt x g w aq ak b s) f (cosAt s f) (signedSin s f) := by
  unfold val_main_v96
  by_cases h1 : d.val < 32
  · refine (concatenate_apply_piece (t := S32x2048x16x64) 3 _ _ _ 0 (by simp) S32x2048x16x32 _ rfl rfl 0 rfl (ix4 b s h ⟨d.val, h1⟩) (fun x hx => match x with | ⟨0, _⟩ => rfl | ⟨1, _⟩ => rfl | ⟨2, _⟩ => rfl | ⟨3, _⟩ => absurd rfl hx) (Nat.zero_add _)).trans ?_
    exact v66_at x g w aq ak b s h ⟨d.val, h1⟩ f f0 f1 (by show f.val % 64 = 0 + d.val; omega)
  · refine (concatenate_apply_piece (t := S32x2048x16x64) 3 _ _ _ 1 (by simp) S32x2048x16x32 _ rfl rfl 32 rfl (ix4 b s h ⟨d.val - 32, by omega⟩) (fun x hx => match x with | ⟨0, _⟩ => rfl | ⟨1, _⟩ => rfl | ⟨2, _⟩ => rfl | ⟨3, _⟩ => absurd rfl hx) (by show 32 + (d.val - 32) = d.val; omega)).trans ?_
    exact v95_at x g w aq ak b s h ⟨d.val - 32, by omega⟩ f f0 f1 (by show f.val % 64 = 32 + (d.val - 32); omega)

/-- A turned key. -/
theorem v173_at (b : Fin 32) (s : Fin 2048) (h : Fin 4) (d : Fin 64) (f : Fin 2048) (f0 : 1024 ≤ f.val ∧ f.val < 1536) (f1 : (f.val - 1024) / 128 = h.val) (f2 : f.val % 64 = d.val) :
    val_main_v173 (F := Ideal) x g w ak (ix4 b s h d) = turned (normAt x g w aq ak b s) f (cosAt s f) (signedSin s f) := by
  unfold val_main_v173
  by_cases h1 : d.val < 32
  · refine (concatenate_apply_piece (t := S32x2048x4x64) 3 _ _ _ 0 (by simp) S32x2048x4x32 _ rfl rfl 0 rfl (ix4 b s h ⟨d.val, h1⟩) (fun x hx => match x with | ⟨0, _⟩ => rfl | ⟨1, _⟩ => rfl | ⟨2, _⟩ => rfl | ⟨3, _⟩ => absurd rfl hx) (Nat.zero_add _)).trans ?_
    exact v143_at x g w aq ak b s h ⟨d.val, h1⟩ f f0 f1 (by show f.val % 64 = 0 + d.val; omega)
  · refine (concatenate_apply_piece (t := S32x2048x4x64) 3 _ _ _ 1 (by simp) S32x2048x4x32 _ rfl rfl 32 rfl (ix4 b s h ⟨d.val - 32, by omega⟩) (fun x hx => match x with | ⟨0, _⟩ => rfl | ⟨1, _⟩ => rfl | ⟨2, _⟩ => rfl | ⟨3, _⟩ => absurd rfl hx) (by show 32 + (d.val - 32) = d.val; omega)).trans ?_
    exact v172_at x g w aq ak b s h ⟨d.val - 32, by omega⟩ f f0 f1 (by show f.val % 64 = 32 + (d.val - 32); omega)

theorem v178_at (b : Fin 32) (s : Fin 2048) (f : Fin 2048) : val_main_v178 (F := Ideal) x g w aq ak (ix4 b s ⟨f.val / 64, by omega⟩ ⟨f.val % 64, by omega⟩) = resAt x g w aq ak b s f := by
  unfold val_main_v178 resAt
  by_cases h1 : f.val < 1024
  · refine (concatenate_apply_piece (t := S32x2048x32x64) 2 _ _ _ 0 (by simp) S32x2048x16x64 _ rfl rfl 0 rfl (ix4 b s ⟨f.val / 64, by omega⟩ ⟨f.val % 64, by omega⟩) (fun x hx => match x with | ⟨0, _⟩ => rfl | ⟨1, _⟩ => rfl | ⟨2, _⟩ => absurd rfl hx | ⟨3, _⟩ => rfl) (Nat.zero_add _)).trans ?_
    rw [if_pos (by omega)]
    exact v96_at x g w aq ak b s _ _ f h1 rfl rfl
  · by_cases h2 : f.val < 1536
    · refine (concatenate_apply_piece (t := S32x2048x32x64) 2 _ _ _ 1 (by simp) S32x2048x8x64 _ rfl rfl 16 rfl (ix4 b s ⟨f.val / 64 - 16, by omega⟩ ⟨f.val % 64, by omega⟩) (fun x hx => match x with | ⟨0, _⟩ => rfl | ⟨1, _⟩ => rfl | ⟨2, _⟩ => absurd rfl hx | ⟨3, _⟩ => rfl) (by show 16 + (f.val / 64 - 16) = f.val / 64; omega)).trans ?_
      rw [if_pos h2, val_main_v175_apply, val_main_v174_apply]
      have e : idx_main_v174 (idx_main_v175 (ix4 b s ⟨f.val / 64 - 16, by omega⟩ ⟨f.val % 64, by omega⟩)) = ix4 b s ⟨(f.val / 64 - 16) / 2, by omega⟩ ⟨f.val % 64, by omega⟩ := funext fun a => Fin.ext (match a with
        | ⟨0, _⟩ => by show (((b.val * 2048 + s.val) * 8 + (f.val / 64 - 16)) * 64 + f.val % 64) / 1048576 = b.val; omega
        | ⟨1, _⟩ => by show (((b.val * 2048 + s.val) * 8 + (f.val / 64 - 16)) * 64 + f.val % 64) / 512 % 2048 = s.val; omega
        | ⟨2, _⟩ => by show (((b.val * 2048 + s.val) * 8 + (f.val / 64 - 16)) * 64 + f.val % 64) / 128 % 4 = (f.val / 64 - 16) / 2; omega
        | ⟨3, _⟩ => by show (((b.val * 2048 + s.val) * 8 + (f.val / 64 - 16)) * 64 + f.val % 64) % 64 = f.val % 64; omega)
      rw [e]
      exact v173_at x g w aq ak b s _ _ f (by omega) (by show (f.val - 1024) / 128 = (f.val / 64 - 16) / 2; omega) rfl
    · refine (concatenate_apply_piece (t := S32x2048x32x64) 2 _ _ _ 2 (by simp) S32x2048x8x64 _ rfl rfl 24 rfl (ix4 b s ⟨f.val / 64 - 24, by omega⟩ ⟨f.val % 64, by omega⟩) (fun x hx => match x with | ⟨0, _⟩ => rfl | ⟨1, _⟩ => rfl | ⟨2, _⟩ => absurd rfl hx | ⟨3, _⟩ => rfl) (by show 24 + (f.val / 64 - 24) = f.val / 64; omega)).trans ?_
      rw [if_neg h2, val_main_v177_apply, val_main_v176_apply]
      have e : idx_main_v176 (idx_main_v177 (ix4 b s ⟨f.val / 64 - 24, by omega⟩ ⟨f.val % 64, by omega⟩)) = ix4 b s ⟨(f.val / 64 - 24) / 2, by omega⟩ ⟨f.val % 64, by omega⟩ := funext fun a => Fin.ext (match a with
        | ⟨0, _⟩ => by show (((b.val * 2048 + s.val) * 8 + (f.val / 64 - 24)) * 64 + f.val % 64) / 1048576 = b.val; omega
        | ⟨1, _⟩ => by show (((b.val * 2048 + s.val) * 8 + (f.val / 64 - 24)) * 64 + f.val % 64) / 512 % 2048 = s.val; omega
        | ⟨2, _⟩ => by show (((b.val * 2048 + s.val) * 8 + (f.val / 64 - 24)) * 64 + f.val % 64) / 128 % 4 = (f.val / 64 - 24) / 2; omega
        | ⟨3, _⟩ => by show (((b.val * 2048 + s.val) * 8 + (f.val / 64 - 24)) * 64 + f.val % 64) % 64 = f.val % 64; omega)
      rw [e, v19_at x g w _ b s _ _ rfl]
      refine colAt_eq x g w b s f _ ?_
      rw [source_val, if_neg h1, if_neg h2]
      show 1280 + (64 * ((f.val - 1536) / 128) + f.val % 64) = 1280 + (64 * ((f.val / 64 - 24) / 2) + f.val % 64)
      omega

/-- The reference's result at an index. -/
theorem ref_apply (r : Fin 65536) (f : Fin 2048) : val_main_v180 (F := Ideal) x g w aq ak (ix2 r f)
    = resAt x g w aq ak ⟨r.val / 2048, by omega⟩ ⟨r.val % 2048, by omega⟩ f := by
  rw [val_main_v180_apply, val_main_v179_apply]
  have e : idx_main_v179 (ix2 r f) = ix4 ⟨r.val / 2048, by omega⟩ ⟨r.val % 2048, by omega⟩ ⟨f.val / 64, by omega⟩ ⟨f.val % 64, by omega⟩ := funext fun a => Fin.ext (match a with
    | ⟨0, _⟩ => by show (r.val * 2048 + f.val) / 4194304 = r.val / 2048; omega
    | ⟨1, _⟩ => by show (r.val * 2048 + f.val) / 2048 % 2048 = r.val % 2048; omega
    | ⟨2, _⟩ => by show (r.val * 2048 + f.val) / 64 % 32 = f.val / 64; omega
    | ⟨3, _⟩ => by show (r.val * 2048 + f.val) % 64 = f.val % 64; omega)
  rw [e, v178_at]
  rfl

end Cert.AxialRef

end
-- ==== Proof.Axial.lean ====
/- The projections with norms and axial rotary embeddings: the kernel's result array, row block by row block, as the reference computes it. -/
module

public import proofs.«01_k».proof.Defs
public import proofs.«01_k».proof.Proof.AxialBlock
public import proofs.«01_k».proof.Proof.AxialRef
public import proofs.«01_k».proof.Proof.Gen.Kernel8Ideal.Value
public import proofs.«01_k».proof.Proof.Gen.Reference8Ideal.Run
public import Idealize.ShloMosaic.Lib.IdealHost

@[expose] public section

noncomputable section

namespace Cert.Axial

open Cert.Kernel8Ideal Cert.Kernel8Ideal.Gen Cert.Ffn Cert.AxialBlock
open Idealize.ShloMosaic hiding ix1 ix2 ix3 ix4 ix5 truncf_apply
open Idealize.ShloMosaic.TcCoe Idealize.ShloMosaic.ValueIdx

variable (m : (ℓ : Loc nD τ sig) → Buf (Elt Ideal) ℓ)

/-- A gain repeated for the sixteen heads of the queries. -/
def tiledQ (a : FVec Ideal S64 .f32) : FVec Ideal S1024 .f32 :=
  shapeCast S1024 (broadcastInDim S16x64 ![0, 1] bcast_S1x64_S16x64_0_1 (shapeCast S1x64 a shapeCasts_S64_S1x64)) shapeCasts_S16x64_S1024

/-- A gain repeated for the eight heads of the keys. -/
def tiledK (a : FVec Ideal S64 .f32) : FVec Ideal S512 .f32 :=
  shapeCast S512 (broadcastInDim S8x64 ![0, 1] bcast_S1x64_S8x64_0_1 (shapeCast S1x64 a shapeCasts_S64_S1x64)) shapeCasts_S8x64_S512

/-- The gains of all the columns: the queries', the keys', ones. -/
def gains (a b : FVec Ideal S64 .f32) : FVec Ideal S1x2048 .f32 :=
  shapeCast S1x2048 (concatenate S2048 0 [⟨S1024, tiledQ a⟩, ⟨S512, tiledK b⟩,
    ⟨S512, broadcastInDim S512 ![] bcast_S_S512 (constant S_ .f32 0x3F800000#32)⟩] concatenates_S1024_S512_S512_S2048_d0) shapeCasts_S2048_S1x2048

theorem tiledQ_apply (a : FVec Ideal S64 .f32) (f : Fin 1024) : tiledQ a (ix1 f) = a (ix1 ⟨f.val % 64, by omega⟩) := by
  unfold tiledQ
  refine (shapeCast_apply (s := S16x64) (t := S1024) _ _ (ix1 f) (ix2 ⟨f.val / 64, by omega⟩ ⟨f.val % 64, by omega⟩) (by
    rw [Shape.rowMajor_val_two, Shape.rowMajor_val_one]; show f.val / 64 * 64 + f.val % 64 = f.val; omega)).trans ?_
  refine (broadcastInDim_apply (s := S1x64) (t := S16x64) ![0, 1] _ _ _ (ix2 0 ⟨f.val % 64, by omega⟩) (fun | ⟨0, _⟩ => rfl | ⟨1, _⟩ => rfl)).trans ?_
  exact shapeCast_apply (s := S64) (t := S1x64) a _ _ (ix1 ⟨f.val % 64, by omega⟩) (by
    rw [Shape.rowMajor_val_two, Shape.rowMajor_val_one]; show f.val % 64 = 0 * 64 + f.val % 64; omega)

theorem tiledK_apply (a : FVec Ideal S64 .f32) (f : Fin 512) : tiledK a (ix1 f) = a (ix1 ⟨f.val % 64, by omega⟩) := by
  unfold tiledK
  refine (shapeCast_apply (s := S8x64) (t := S512) _ _ (ix1 f) (ix2 ⟨f.val / 64, by omega⟩ ⟨f.val % 64, by omega⟩) (by
    rw [Shape.rowMajor_val_two, Shape.rowMajor_val_one]; show f.val / 64 * 64 + f.val % 64 = f.val; omega)).trans ?_
  refine (broadcastInDim_apply (s := S1x64) (t := S8x64) ![0, 1] _ _ _ (ix2 0 ⟨f.val % 64, by omega⟩) (fun | ⟨0, _⟩ => rfl | ⟨1, _⟩ => rfl)).trans ?_
  exact shapeCast_apply (s := S64) (t := S1x64) a _ _ (ix1 ⟨f.val % 64, by omega⟩) (by
    rw [Shape.rowMajor_val_two, Shape.rowMajor_val_one]; show f.val % 64 = 0 * 64 + f.val % 64; omega)

/-- The gain of a query's or a key's column. -/
theorem gains_apply (a b : FVec Ideal S64 .f32) (f : Fin 2048) (hf : f.val < 1536) : gains a b (ix2 0 f) = AxialRef.gain a b f := by
  unfold gains AxialRef.gain
  refine (shapeCast_apply (s := S2048) (t := S1x2048) _ _ (ix2 0 f) (ix1 f) (by
    rw [Shape.rowMajor_val_two, Shape.rowMajor_val_one]; show f.val = 0 * 2048 + f.val; omega)).trans ?_
  by_cases h1 : f.val < 1024
  · rw [if_pos h1]
    exact (concatenate_apply_piece (t := S2048) 0 _ _ _ 0 (by simp) S1024 _ rfl rfl 0 rfl (ix1 ⟨f.val, h1⟩) (fun x hx => match x with | ⟨0, _⟩ => absurd rfl hx) (Nat.zero_add _)).trans (tiledQ_apply a _)
  · rw [if_neg h1]
    refine (concatenate_apply_piece (t := S2048) 0 _ _ _ 1 (by simp) S512 _ rfl rfl 1024 rfl (ix1 ⟨f.val - 1024, by omega⟩) (fun x hx => match x with | ⟨0, _⟩ => absurd rfl hx) (by show 1024 + (f.val - 1024) = f.val; omega)).trans ((tiledK_apply b _).trans ?_)
    refine congrArg b (funext fun a => Fin.ext (match a with | ⟨0, _⟩ => ?_))
    show (f.val - 1024) % 64 = f.val % 64
    omega

/-- The weights of the keys or of the values, each head's columns twice. -/
def twice (a : FVec Ideal S1024x256 .f32) : FVec Ideal S1024x512 .f32 :=
  shapeCast S1024x512 (broadcastInDim S1024x4x2x64 ![0, 1, 2, 3] bcast_S1024x4x1x64_S1024x4x2x64_0_1_2_3 (shapeCast S1024x4x1x64 a shapeCasts_S1024x256_S1024x4x1x64)) shapeCasts_S1024x4x2x64_S1024x512

/-- The weights as the kernel takes them. -/
def doubled (w : FVec Ideal S1024x1536 .f32) : FVec Ideal S1024x2048 .f32 :=
  concatenate S1024x2048 1 [⟨S1024x1024, extractStridedSlice S1024x1024 ![0, 0] w slices_S1024x1536_S1024x1024_0_0⟩, ⟨S1024x512, twice (extractStridedSlice S1024x256 ![0, 1024] w slices_S1024x1536_S1024x256_0_1024)⟩, ⟨S1024x512, twice (extractStridedSlice S1024x256 ![0, 1280] w slices_S1024x1536_S1024x256_0_1280)⟩] concatenates_S1024x1024_S1024x512_S1024x512_S1024x2048_d1

theorem twice_apply (a : FVec Ideal S1024x256 .f32) (k : Fin 1024) (f : Fin 512) : twice a (ix2 k f) = a (ix2 k ⟨64 * (f.val / 128) + f.val % 64, by omega⟩) := by
  unfold twice
  refine (shapeCast_apply (s := S1024x4x2x64) (t := S1024x512) _ _ (ix2 k f) (ix4 k ⟨f.val / 128, by omega⟩ ⟨f.val / 64 % 2, by omega⟩ ⟨f.val % 64, by omega⟩) (by
    rw [Shape.rowMajor_val_four, Shape.rowMajor_val_two]; show ((k.val * 4 + f.val / 128) * 2 + f.val / 64 % 2) * 64 + f.val % 64 = k.val * 512 + f.val; omega)).trans ?_
  refine (broadcastInDim_apply (s := S1024x4x1x64) (t := S1024x4x2x64) ![0, 1, 2, 3] _ _ _ (ix4 k ⟨f.val / 128, by omega⟩ 0 ⟨f.val % 64, by omega⟩) (fun
    | ⟨0, _⟩ => rfl | ⟨1, _⟩ => rfl | ⟨2, _⟩ => rfl | ⟨3, _⟩ => rfl)).trans ?_
  exact shapeCast_apply (s := S1024x256) (t := S1024x4x1x64) a _ _ (ix2 k ⟨64 * (f.val / 128) + f.val % 64, by omega⟩) (by
    rw [Shape.rowMajor_val_four, Shape.rowMajor_val_two]; show k.val * 256 + (64 * (f.val / 128) + f.val % 64) = ((k.val * 4 + f.val / 128) * 1 + 0) * 64 + f.val % 64; omega)

/-- A column of them is a column of the weights. -/
theorem doubled_apply (w : FVec Ideal S1024x1536 .f32) (k : Fin 1024) (f : Fin 2048) : doubled w (ix2 k f) = w (ix2 k (source f)) := by
  unfold doubled
  by_cases h1 : f.val < 1024
  · refine (concatenate_apply_piece (t := S1024x2048) 1 _ _ _ 0 (by simp) S1024x1024 _ rfl rfl 0 rfl (ix2 k ⟨f.val, h1⟩) (fun x hx => match x with | ⟨0, _⟩ => rfl | ⟨1, _⟩ => absurd rfl hx) (Nat.zero_add _)).trans ?_
    refine congrArg w (funext fun a => Fin.ext ?_)
    match a with
    | ⟨0, _⟩ => exact Nat.zero_add _
    | ⟨1, _⟩ => rw [show (ix2 k (source f) (1 : Fin 2)).val = (source f).val from rfl, source_val, if_pos h1]; exact Nat.zero_add _
  · by_cases h2 : f.val < 1536
    · refine (concatenate_apply_piece (t := S1024x2048) 1 _ _ _ 1 (by simp) S1024x512 _ rfl rfl 1024 rfl (ix2 k ⟨f.val - 1024, by omega⟩) (fun x hx => match x with | ⟨0, _⟩ => rfl | ⟨1, _⟩ => absurd rfl hx) (by show 1024 + (f.val - 1024) = f.val; omega)).trans ((twice_apply _ _ _).trans ?_)
      refine congrArg w (funext fun a => Fin.ext ?_)
      match a with
      | ⟨0, _⟩ => exact Nat.zero_add _
      | ⟨1, _⟩ => rw [show (ix2 k (source f) (1 : Fin 2)).val = (source f).val from rfl, source_val, if_neg h1, if_pos h2]; show 1024 + (64 * ((f.val - 1024) / 128) + (f.val - 1024) % 64) = 1024 + (64 * ((f.val - 1024) / 128) + f.val % 64); omega
    · refine (concatenate_apply_piece (t := S1024x2048) 1 _ _ _ 2 (by simp) S1024x512 _ rfl rfl 1536 rfl (ix2 k ⟨f.val - 1536, by omega⟩) (fun x hx => match x with | ⟨0, _⟩ => rfl | ⟨1, _⟩ => absurd rfl hx) (by show 1536 + (f.val - 1536) = f.val; omega)).trans ((twice_apply _ _ _).trans ?_)
      refine congrArg w (funext fun a => Fin.ext ?_)
      match a with
      | ⟨0, _⟩ => exact Nat.zero_add _
      | ⟨1, _⟩ => rw [show (ix2 k (source f) (1 : Fin 2)).val = (source f).val from rfl, source_val, if_neg h1, if_neg h2]; show 1280 + (64 * ((f.val - 1536) / 128) + (f.val - 1536) % 64) = 1280 + (64 * ((f.val - 1536) / 128) + f.val % 64); omega

/-- A table of 64 columns repeated for the four heads of a slab. -/
def wide (a : FVec Ideal S2048x64 .f32) : FVec Ideal S2048x256 .f32 :=
  shapeCast S2048x256 (broadcastInDim S1x2048x4x64 ![0, 1, 2, 3] bcast_S1x2048x1x64_S1x2048x4x64_0_1_2_3 (shapeCast S1x2048x1x64 a shapeCasts_S2048x64_S1x2048x1x64)) shapeCasts_S1x2048x4x64_S2048x256

/-- Two tables of 16 columns side by side. -/
def beside (a b : FVec Ideal S2048x16 .f32) : FVec Ideal S2048x32 .f32 :=
  concatenate S2048x32 1 [⟨S2048x16, a⟩, ⟨S2048x16, b⟩] concatenates_S2048x16_S2048x16_S2048x32_d1

/-- Two tables of 32 columns side by side. -/
def besides (a b : FVec Ideal S2048x32 .f32) : FVec Ideal S2048x64 .f32 :=
  concatenate S2048x64 1 [⟨S2048x32, a⟩, ⟨S2048x32, b⟩] concatenates_S2048x32_S2048x32_S2048x64_d1

theorem wide_apply (a : FVec Ideal S2048x64 .f32) (s : Fin 2048) (l : Fin 256) : wide a (ix2 s l) = a (ix2 s ⟨l.val % 64, by omega⟩) := by
  unfold wide
  refine (shapeCast_apply (s := S1x2048x4x64) (t := S2048x256) _ _ (ix2 s l) (ix4 0 s ⟨l.val / 64, by omega⟩ ⟨l.val % 64, by omega⟩) (by
    rw [Shape.rowMajor_val_four, Shape.rowMajor_val_two]; show ((0 * 2048 + s.val) * 4 + l.val / 64) * 64 + l.val % 64 = s.val * 256 + l.val; omega)).trans ?_
  refine (broadcastInDim_apply (s := S1x2048x1x64) (t := S1x2048x4x64) ![0, 1, 2, 3] _ _ _ (ix4 0 s 0 ⟨l.val % 64, by omega⟩) (fun
    | ⟨0, _⟩ => rfl | ⟨1, _⟩ => rfl | ⟨2, _⟩ => rfl | ⟨3, _⟩ => rfl)).trans ?_
  exact shapeCast_apply (s := S2048x64) (t := S1x2048x1x64) a _ _ (ix2 s ⟨l.val % 64, by omega⟩) (by
    rw [Shape.rowMajor_val_four, Shape.rowMajor_val_two]; show s.val * 64 + l.val % 64 = ((0 * 2048 + s.val) * 1 + 0) * 64 + l.val % 64; omega)

theorem beside_first (a b : FVec Ideal S2048x16 .f32) (s : Fin 2048) (l : Fin 32) (h : l.val < 16) : beside a b (ix2 s l) = a (ix2 s ⟨l.val, h⟩) := by
  unfold beside
  exact concatenate_apply_piece (t := S2048x32) 1 _ _ _ 0 (by simp) S2048x16 _ rfl rfl 0 rfl (ix2 s ⟨l.val, h⟩) (fun x hx => match x with | ⟨0, _⟩ => rfl | ⟨1, _⟩ => absurd rfl hx) (Nat.zero_add _)

theorem beside_second (a b : FVec Ideal S2048x16 .f32) (s : Fin 2048) (l : Fin 32) (h : ¬ l.val < 16) : beside a b (ix2 s l) = b (ix2 s ⟨l.val - 16, by omega⟩) := by
  unfold beside
  exact concatenate_apply_piece (t := S2048x32) 1 _ _ _ 1 (by simp) S2048x16 _ rfl rfl 16 rfl (ix2 s ⟨l.val - 16, by omega⟩) (fun x hx => match x with | ⟨0, _⟩ => rfl | ⟨1, _⟩ => absurd rfl hx) (by show 16 + (l.val - 16) = l.val; omega)

theorem besides_first (a b : FVec Ideal S2048x32 .f32) (s : Fin 2048) (l : Fin 64) (h : l.val < 32) : besides a b (ix2 s l) = a (ix2 s ⟨l.val, h⟩) := by
  unfold besides
  exact concatenate_apply_piece (t := S2048x64) 1 _ _ _ 0 (by simp) S2048x32 _ rfl rfl 0 rfl (ix2 s ⟨l.val, h⟩) (fun x hx => match x with | ⟨0, _⟩ => rfl | ⟨1, _⟩ => absurd rfl hx) (Nat.zero_add _)

theorem besides_second (a b : FVec Ideal S2048x32 .f32) (s : Fin 2048) (l : Fin 64) (h : ¬ l.val < 32) : besides a b (ix2 s l) = b (ix2 s ⟨l.val - 32, by omega⟩) := by
  unfold besides
  exact concatenate_apply_piece (t := S2048x64) 1 _ _ _ 1 (by simp) S2048x32 _ rfl rfl 32 rfl (ix2 s ⟨l.val - 32, by omega⟩) (fun x hx => match x with | ⟨0, _⟩ => rfl | ⟨1, _⟩ => absurd rfl hx) (by show 32 + (l.val - 32) = l.val; omega)

/-- The cosines of the rows' angles and of the columns', and the sines, as the reference has them. -/
def rowCos : FVec Ideal S2048x16 .f32 := Reference8Ideal.Read.val_main_v50 (F := Ideal)
def colCos : FVec Ideal S2048x16 .f32 := Reference8Ideal.Read.val_main_v79 (F := Ideal)
def rowSin : FVec Ideal S2048x16 .f32 := Reference8Ideal.Read.val_main_v52 (F := Ideal)
def colSin : FVec Ideal S2048x16 .f32 := Reference8Ideal.Read.val_main_v81 (F := Ideal)

/-- The kernel's tables of cosines and of sines, for one head's columns. -/
def cosTable : FVec Ideal S2048x64 .f32 := besides (beside rowCos rowCos) (beside colCos colCos)
def sinTable : FVec Ideal S2048x64 .f32 := besides (beside (Host.negf rowSin) rowSin) (beside (Host.negf colSin) colSin)

/-- A table at an index, from its four parts. -/
theorem table_apply (a b c d : FVec Ideal S2048x16 .f32) (s : Fin 2048) (l : Fin 256) (f : Fin 2048) (h : f.val % 64 = l.val % 64) :
    wide (besides (beside a b) (beside c d)) (ix2 s l)
      = if f.val % 64 < 32 then (if f.val % 32 < 16 then a (ix2 s ⟨f.val % 16, by omega⟩) else b (ix2 s ⟨f.val % 16, by omega⟩))
        else (if f.val % 32 < 16 then c (ix2 s ⟨f.val % 16, by omega⟩) else d (ix2 s ⟨f.val % 16, by omega⟩)) := by
  rw [wide_apply]
  by_cases h1 : f.val % 64 < 32
  · rw [besides_first _ _ _ _ (by show l.val % 64 < 32; omega), if_pos h1]
    by_cases h2 : f.val % 32 < 16
    · rw [beside_first _ _ _ _ (by show l.val % 64 < 16; omega), if_pos h2]
      exact congrArg a (congrArg (ix2 s) (Fin.ext (by show l.val % 64 = f.val % 16; omega)))
    · rw [beside_second _ _ _ _ (by show ¬ l.val % 64 < 16; omega), if_neg h2]
      exact congrArg b (congrArg (ix2 s) (Fin.ext (by show l.val % 64 - 16 = f.val % 16; omega)))
  · rw [besides_second _ _ _ _ (by show ¬ l.val % 64 < 32; omega), if_neg h1]
    by_cases h2 : f.val % 32 < 16
    · rw [beside_first _ _ _ _ (by show l.val % 64 - 32 < 16; omega), if_pos h2]
      exact congrArg c (congrArg (ix2 s) (Fin.ext (by show l.val % 64 - 32 = f.val % 16; omega)))
    · rw [beside_second _ _ _ _ (by show ¬ l.val % 64 - 32 < 16; omega), if_neg h2]
      exact congrArg d (congrArg (ix2 s) (Fin.ext (by show l.val % 64 - 32 - 16 = f.val % 16; omega)))

/-- The kernel's table of cosines at an index. -/
theorem cos_table (s : Fin 2048) (l : Fin 256) (f : Fin 2048) (h : f.val % 64 = l.val % 64) : wide cosTable (ix2 s l) = AxialRef.cosAt s f := by
  unfold cosTable
  rw [table_apply _ _ _ _ s l f h, ite_self, ite_self]
  rfl

/-- The kernel's table of sines at an index: with a minus in the first half of a half head. -/
theorem sin_table (s : Fin 2048) (l : Fin 256) (f : Fin 2048) (h : f.val % 64 = l.val % 64) : wide sinTable (ix2 s l) = AxialRef.signedSin s f := by
  unfold sinTable AxialRef.signedSin AxialRef.sinAt
  rw [table_apply _ _ _ _ s l f h]
  by_cases h1 : f.val % 64 < 32 <;> by_cases h2 : f.val % 32 < 16 <;> simp only [h1, h2, if_true, if_false] <;> rfl

/-- The rows the kernel projects. -/
theorem V_x (c : Dev nD) : V m c main_v61 = shapeCast S65536x1024 (m (c.tc.loc main_arg0)) shapeCasts_S32x2048x1024_S65536x1024 := by
  show StableHlo.after (List.flatten [hostOps0, hostOps0_1, hostOps0_2, hostOps0_3, hostOps0_4]) _ (Proc.devRef .tc main_v61) = _
  simp only [hostOps0, hostOps0_1, hostOps0_2, hostOps0_3, hostOps0_4, List.flatten_cons, List.flatten_nil, List.append_nil, List.cons_append, List.nil_append]
  after_results
  rfl

theorem V_g (c : Dev nD) : V m c main_v63 = shapeCast S1x1024 (m (c.tc.loc main_arg1)) shapeCasts_S1024_S1x1024 := by
  show StableHlo.after (List.flatten [hostOps0, hostOps0_1, hostOps0_2, hostOps0_3, hostOps0_4]) _ (Proc.devRef .tc main_v63) = _
  simp only [hostOps0, hostOps0_1, hostOps0_2, hostOps0_3, hostOps0_4, List.flatten_cons, List.flatten_nil, List.append_nil, List.cons_append, List.nil_append]
  after_results
  rfl

theorem V_w (c : Dev nD) : V m c main_v62 = (truncf .bf16 (doubled (m (c.tc.loc main_arg2))) bitsLt_bf16_f32 : FVec Ideal S1024x2048 .bf16) := by
  show StableHlo.after (List.flatten [hostOps0, hostOps0_1, hostOps0_2, hostOps0_3, hostOps0_4]) _ (Proc.devRef .tc main_v62) = _
  simp only [hostOps0, hostOps0_1, hostOps0_2, hostOps0_3, hostOps0_4, List.flatten_cons, List.flatten_nil, List.append_nil, List.cons_append, List.nil_append]
  after_results
  rfl

theorem V_h (c : Dev nD) : V m c main_v64 = gains (m (c.tc.loc main_arg3)) (m (c.tc.loc main_arg4)) := by
  show StableHlo.after (List.flatten [hostOps0, hostOps0_1, hostOps0_2, hostOps0_3, hostOps0_4]) _ (Proc.devRef .tc main_v64) = _
  simp only [hostOps0, hostOps0_1, hostOps0_2, hostOps0_3, hostOps0_4, List.flatten_cons, List.flatten_nil, List.append_nil, List.cons_append, List.nil_append]
  after_results
  rfl

theorem V_cos (c : Dev nD) : V m c main_v57 = wide cosTable := by
  show StableHlo.after (List.flatten [hostOps0, hostOps0_1, hostOps0_2, hostOps0_3, hostOps0_4]) _ (Proc.devRef .tc main_v57) = _
  simp only [hostOps0, hostOps0_1, hostOps0_2, hostOps0_3, hostOps0_4, List.flatten_cons, List.flatten_nil, List.append_nil, List.cons_append, List.nil_append]
  after_results
  rfl

theorem V_sin (c : Dev nD) : V m c main_v60 = wide sinTable := by
  show StableHlo.after (List.flatten [hostOps0, hostOps0_1, hostOps0_2, hostOps0_3, hostOps0_4]) _ (Proc.devRef .tc main_v60) = _
  simp only [hostOps0, hostOps0_1, hostOps0_2, hostOps0_3, hostOps0_4, List.flatten_cons, List.flatten_nil, List.append_nil, List.cons_append, List.nil_append]
  after_results
  rfl

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![(grid0.coords t 0).val % 4, 0] :=
  (by decide +kernel : ∀ t : Fin grid0.N, win0_4.index t = ![(grid0.coords t 0).val % 4, 0])
theorem index5 : ∀ t : Fin cfg0.N, win0_5.index t = ![(grid0.coords t 0).val % 4, 0] :=
  (by decide +kernel : ∀ t : Fin grid0.N, win0_5.index t = ![(grid0.coords t 0).val % 4, 0])
theorem index6 : ∀ t : Fin cfg0.N, win0_6.index t = ![(grid0.coords t 0).val, 0] :=
  (by decide +kernel : ∀ t : Fin grid0.N, win0_6.index t = ![(grid0.coords t 0).val, 0])

/-- The block of 512 tokens a point works on. -/
def pt (t : Fin cfg0.N) : Fin 128 := grid0.coords t 0

theorem x_block (c : Dev nD) (t : Fin cfg0.N) (r : Fin 512) (e : Fin 1024) :
    iblk m c 0 t (ix2 r e) = V m c main_v61 (ix2 ⟨(pt t).val * 512 + r.val, by omega⟩ e) := by
  blk_simp [iblk]
  refine congrArg (V m c main_v61) (funext fun a => Fin.ext ?_)
  match a with
  | ⟨0, _⟩ => blk_simp [index0]; rfl
  | ⟨1, _⟩ => blk_simp [index0]

theorem g_block (c : Dev nD) (t : Fin cfg0.N) (e : Fin 1024) : iblk m c 1 t (ix2 0 e) = V m c main_v63 (ix2 0 e) := by
  blk_simp [iblk]
  refine congrArg (V m c main_v63) (funext fun a => Fin.ext ?_)
  match a with
  | ⟨0, _⟩ => blk_simp [index1]
  | ⟨1, _⟩ => blk_simp [index1]

theorem w_block (c : Dev nD) (t : Fin cfg0.N) (k : Fin 1024) (f : Fin 2048) : iblk m c 2 t (ix2 k f) = V m c main_v62 (ix2 k f) := by
  blk_simp [iblk]
  refine congrArg (V m c main_v62) (funext fun a => Fin.ext ?_)
  match a with
  | ⟨0, _⟩ => blk_simp [index2]
  | ⟨1, _⟩ => blk_simp [index2]

theorem h_block (c : Dev nD) (t : Fin cfg0.N) (f : Fin 2048) : iblk m c 3 t (ix2 0 f) = V m c main_v64 (ix2 0 f) := by
  blk_simp [iblk]
  refine congrArg (V m c main_v64) (funext fun a => Fin.ext ?_)
  match a with
  | ⟨0, _⟩ => blk_simp [index3]
  | ⟨1, _⟩ => blk_simp [index3]

theorem cos_block (c : Dev nD) (t : Fin cfg0.N) (r : Fin 512) (l : Fin 256) :
    iblk m c 4 t (ix2 r l) = V m c main_v57 (ix2 ⟨(pt t).val % 4 * 512 + r.val, by omega⟩ l) := by
  blk_simp [iblk]
  refine congrArg (V m c main_v57) (funext fun a => Fin.ext ?_)
  match a with
  | ⟨0, _⟩ => blk_simp [index4]; rfl
  | ⟨1, _⟩ => blk_simp [index4]

theorem sin_block (c : Dev nD) (t : Fin cfg0.N) (r : Fin 512) (l : Fin 256) :
    iblk m c 5 t (ix2 r l) = V m c main_v60 (ix2 ⟨(pt t).val % 4 * 512 + r.val, by omega⟩ l) := by
  blk_simp [iblk]
  refine congrArg (V m c main_v60) (funext fun a => Fin.ext ?_)
  match a with
  | ⟨0, _⟩ => blk_simp [index5]; rfl
  | ⟨1, _⟩ => blk_simp [index5]

/-- A row of the flattened tokens is a token of a sequence. -/
theorem flat_apply (A : Vec Ideal S32x2048x1024 .f32) (r : Fin 65536) (k : Fin 1024) :
    shapeCast S65536x1024 A shapeCasts_S32x2048x1024_S65536x1024 (ix2 r k) = A (ix3 ⟨r.val / 2048, by omega⟩ ⟨r.val % 2048, by omega⟩ k) :=
  shapeCast_apply (s := S32x2048x1024) (t := S65536x1024) A _ (ix2 r k) (ix3 ⟨r.val / 2048, by omega⟩ ⟨r.val % 2048, by omega⟩ k) (by
    rw [Shape.rowMajor_val_three, Shape.rowMajor_val_two]; show (r.val / 2048 * 2048 + r.val % 2048) * 1024 + k.val = r.val * 1024 + k.val; omega)

/-- A block of the result, in terms of the tokens. -/
theorem block_apply (c : Dev nD) (t : Fin cfg0.N) (r : Fin 512) (f : Fin 2048) :
    at2 (iblk m c 0 t) (iblk m c 1 t) (iblk m c 2 t) (iblk m c 3 t) (iblk m c 4 t) (iblk m c 5 t) r f
      = AxialRef.resAt (m (c.tc.loc main_arg0)) (m (c.tc.loc main_arg1)) (m (c.tc.loc main_arg2))
          (m (c.tc.loc main_arg3)) (m (c.tc.loc main_arg4))
          ⟨((pt t).val * 512 + r.val) / 2048, by omega⟩ ⟨((pt t).val * 512 + r.val) % 2048, by omega⟩ f := by
  have hg : (fun k : Fin 1024 => iblk m c 1 t (ix2 0 k)) = fun k => m (c.tc.loc main_arg1) (ix1 k) := funext fun k => by
    rw [g_block, V_g]
    exact shapeCast_apply (s := S1024) (t := S1x1024) _ _ _ (ix1 k) (by rw [Shape.rowMajor_val_two, Shape.rowMajor_val_one]; show k.val = 0 * 1024 + k.val; omega)
  have hx : (fun k : Fin 1024 => iblk m c 0 t (ix2 r k)) = AxialRef.tok (m (c.tc.loc main_arg0)) ⟨((pt t).val * 512 + r.val) / 2048, by omega⟩ ⟨((pt t).val * 512 + r.val) % 2048, by omega⟩ :=
    funext fun k => by rw [x_block, V_x, flat_apply]; rfl
  have hw : (fun (k : Fin 1024) (f : Fin 2048) => iblk m c 2 t (ix2 k f)) = fun k f => m (c.tc.loc main_arg2) (ix2 k (source f)) :=
    funext fun k => funext fun f => by rw [w_block, V_w, truncf_apply, doubled_apply]
  have hn : ∀ f' : Fin 2048, f'.val < 1536 → normAt (iblk m c 0 t) (iblk m c 1 t) (iblk m c 2 t) (iblk m c 3 t) r f'
      = AxialRef.normAt (m (c.tc.loc main_arg0)) (m (c.tc.loc main_arg1)) (m (c.tc.loc main_arg2))
          (m (c.tc.loc main_arg3)) (m (c.tc.loc main_arg4))
          ⟨((pt t).val * 512 + r.val) / 2048, by omega⟩ ⟨((pt t).val * 512 + r.val) % 2048, by omega⟩ f' := fun f' hf' => by
    unfold normAt AxialRef.normAt
    rw [hg, hx, hw, h_block, V_h, gains_apply _ _ f' hf']
  unfold at2 AxialRef.resAt
  by_cases h : f.val < 1536
  · have hp : (pairCol f).val < 1536 := by rw [pairCol_val]; split <;> omega
    have es : (⟨(pt t).val % 4 * 512 + r.val, by omega⟩ : Fin 2048) = ⟨((pt t).val * 512 + r.val) % 2048, by omega⟩ := Fin.ext (by
      show (pt t).val % 4 * 512 + r.val = ((pt t).val * 512 + r.val) % 2048; omega)
    have hl : f.val % 64 = f.val % 256 % 64 := by omega
    rw [if_pos h, if_pos h]
    unfold turned
    rw [hn f h, hn (pairCol f) hp, cos_block, sin_block, V_cos, V_sin, es, cos_table _ _ f hl, sin_table _ _ f hl]
  · rw [if_neg h, if_neg h, hg, hx, hw]
    rfl

/-- What the kernel leaves is the reference's result. -/
theorem final (c : Dev nD) :
    (dats m 0 c).arrAt 6 cfg0.N
      = Reference8Ideal.Read.val_main_v180 (F := Ideal) (m (c.tc.loc main_arg0)) (m (c.tc.loc main_arg1)) (m (c.tc.loc main_arg2))
          (m (c.tc.loc main_arg3)) (m (c.tc.loc main_arg4)) := by
  refine (dats m 0 c).arrAt_eq_of_covers 6 _ (by decide +kernel) fun t hf y => ?_
  blk_simp
  rw [after0_6]
  obtain ⟨r, l, rfl⟩ : ∃ (r : Fin 512) (l : Fin 2048), y = ix2 r l := ⟨y 0, y 1, funext fun
    | ⟨0, _⟩ => rfl | ⟨1, _⟩ => rfl⟩
  have e : (win0_6.blk t).view.emb (ix2 r l) = ix2 ⟨(pt t).val * 512 + r.val, by omega⟩ l := funext fun a => Fin.ext (by
    match a with
    | ⟨0, _⟩ => blk_simp [index6]; rfl
    | ⟨1, _⟩ => blk_simp [index6])
  rw [e, out_eq, AxialRef.ref_apply]
  exact block_apply m c t r l

/-- At every index the idealized kernel's result is the reference's. -/
theorem algebraic : Cert.algebraic_Kernel8Ideal_Reference8Ideal := by
  intro m ρ m' ρ' _ hag
  refine ⟨fun c => Cert.Reference8Ideal.Read.val_main_v180 (F := Ideal)
      (m (c.tc.loc main_arg0)) (m (c.tc.loc main_arg1)) (m (c.tc.loc main_arg2))
      (m (c.tc.loc main_arg3)) (m (c.tc.loc main_arg4)),
    (θ_run _ _ _).mono (fun _ h c => ⟨(h c).1.trans (final m c), (h c).2⟩) (Cert.Kernel8Ideal.Value.run_blocks m ρ),
    (θ_run _ _ _).mono (fun _ h c => ⟨(h c).1.trans (by
        refine (Cert.Reference8Ideal.Read.val_main_v180_eq (StableHlo.launchContents m' c)).trans ?_
        show Cert.Reference8Ideal.Read.val_main_v180 (F := Ideal)
          (m' (c.tc.loc Reference8Ideal.main_arg0)) (m' (c.tc.loc Reference8Ideal.main_arg1)) (m' (c.tc.loc Reference8Ideal.main_arg2))
          (m' (c.tc.loc Reference8Ideal.main_arg3)) (m' (c.tc.loc Reference8Ideal.main_arg4)) = _
        rw [(hag c).1, (hag c).2.1, (hag c).2.2.1, (hag c).2.2.2.1, (hag c).2.2.2.2]), (h c).2⟩)
      (Cert.Reference8Ideal.Value.run m' ρ')⟩

end Cert.Axial

end
-- ==== Proof.PostRef.lean ====
/- The reference of the mixer's end read at an index. -/
module

public import proofs.«01_k».proof.Proof.PostMath
public import proofs.«01_k».proof.Proof.Gen.Reference9Ideal.Read
public import Idealize.ShloMosaic.Lib.KernelVsHost

@[expose] public section

noncomputable section

namespace Cert.PostRef

open Cert.Reference9Ideal Cert.Reference9Ideal.Gen Cert.Reference9Ideal.Read Cert.Post Idealize.ShloMosaic Idealize.ShloMosaic.ValueIdx

variable (y q a b' v : Vec Ideal S32x2048x16x64 .f32) (g x : Vec Ideal S32x2048x1024 .f32) (lg lb : Vec Ideal S1024 .f32) (w : Vec Ideal S16x64 .f32)
  (wo : Vec Ideal S1024x1024 .f32)

/-- Token `s` of sequence `b`, head by head. -/
def tok (z : Vec Ideal S32x2048x16x64 .f32) (b : Fin 32) (s : Fin 2048) (h : Fin 16) (d : Fin 64) : EReal := z (ix4 b s h d)

/-- The mean of a head. -/
theorem v3_at (i : S32x2048x16x1.Idx) (b : Fin 32) (s : Fin 2048) (h : Fin 16) (h0 : (i 0).val = b.val) (h1 : (i 1).val = s.val) (h2 : (i 2).val = h.val) :
    val_main_v3 (F := Ideal) y i = Ideal.div (∑ d, tok y b s h d) (Ideal.ofBits .f32 0x42800000#32) := by
  rw [val_main_v3_apply, val_main_v1_apply, val_main_v2_apply, val_main_cst_0_apply, val_main_v0_apply, val_main_cst_apply]
  refine congrArg (fun z => Ideal.div z (Ideal.ofBits .f32 0x42800000#32)) ?_
  show Ideal.ofBits .f32 0x00000000#32 + _ = _
  rw [Ideal.ofBits_zero_f32, zero_add]
  refine Finset.sum_congr rfl fun d _ => congrArg y (funext fun a => Fin.ext (match a with
    | ⟨0, _⟩ => h0 | ⟨1, _⟩ => h1 | ⟨2, _⟩ => h2 | ⟨3, _⟩ => rfl))

theorem v5_at (i : S32x2048x16x64.Idx) (b : Fin 32) (s : Fin 2048) (h : Fin 16) (d : Fin 64) (hi : i = ix4 b s h d) :
    val_main_v5 (F := Ideal) y i = dev (tok y b s) h d := by
  subst hi
  rw [val_main_v5_apply, val_main_v4_apply, v3_at y _ b s h rfl rfl rfl]
  rfl

theorem v12_at (i : S32x2048x16x64.Idx) (b : Fin 32) (s : Fin 2048) (h : Fin 16) (d : Fin 64) (hi : i = ix4 b s h d) :
    val_main_v12 (F := Ideal) y i = dev (tok y b s) h d := by
  subst hi
  rw [val_main_v12_apply, val_main_v11_apply, v3_at y _ b s h rfl rfl rfl]
  rfl

/-- The mean of a head's squared deviations. -/
theorem v10_at (i : S32x2048x16x1.Idx) (b : Fin 32) (s : Fin 2048) (h : Fin 16) (h0 : (i 0).val = b.val) (h1 : (i 1).val = s.val) (h2 : (i 2).val = h.val) :
    val_main_v10 (F := Ideal) y i = Ideal.div (∑ d, dev (tok y b s) h d * dev (tok y b s) h d) (Ideal.ofBits .f32 0x42800000#32) := by
  rw [val_main_v10_apply, val_main_v8_apply, val_main_v9_apply, val_main_cst_2_apply, val_main_v7_apply, val_main_cst_1_apply]
  refine congrArg (fun z => Ideal.div z (Ideal.ofBits .f32 0x42800000#32)) ?_
  show Ideal.ofBits .f32 0x00000000#32 + _ = _
  rw [Ideal.ofBits_zero_f32, zero_add]
  refine Finset.sum_congr rfl fun d _ => ?_
  have e : idx_main_v7 (idx_main_v8 i) d = ix4 b s h d := funext fun a => Fin.ext (match a with
    | ⟨0, _⟩ => h0 | ⟨1, _⟩ => h1 | ⟨2, _⟩ => h2 | ⟨3, _⟩ => rfl)
  rw [e, val_main_v6_apply, v5_at y _ b s h d rfl]
  rfl

/-- The normed numbers. -/
theorem v17_at (i : S32x2048x16x64.Idx) (b : Fin 32) (s : Fin 2048) (h : Fin 16) (d : Fin 64) (hi : i = ix4 b s h d) :
    val_main_v17 (F := Ideal) y i = unit (tok y b s) h d := by
  subst hi
  rw [val_main_v17_apply, v12_at y _ b s h d rfl, val_main_v16_apply, val_main_v15_apply, val_main_v14_apply, v10_at y _ b s h rfl rfl rfl, val_main_v13_apply, val_main_cst_3_apply]
  rfl

/-- The normed numbers with gain and offset, as channels. -/
theorem v24_at (b : Fin 32) (s : Fin 2048) (f : Fin 1024) :
    val_main_v24 (F := Ideal) y lg lb (ix3 b s f) = unit (tok y b s) (headOf f) (placeOf f) * lg (ix1 f) + lb (ix1 f) := by
  rw [val_main_v24_apply, val_main_v21_apply, val_main_v18_apply, val_main_v20_apply, val_main_v19_apply, val_main_v23_apply, val_main_v22_apply,
    v17_at y _ b s (headOf f) (placeOf f) (funext fun a => Fin.ext (match a with
      | ⟨0, _⟩ => by show ((b.val * 2048 + s.val) * 1024 + f.val) / 2097152 = b.val; omega
      | ⟨1, _⟩ => by show ((b.val * 2048 + s.val) * 1024 + f.val) / 1024 % 2048 = s.val; omega
      | ⟨2, _⟩ => by show ((b.val * 2048 + s.val) * 1024 + f.val) / 64 % 16 = f.val / 64; omega
      | ⟨3, _⟩ => by show ((b.val * 2048 + s.val) * 1024 + f.val) % 64 = f.val % 64; omega))]
  refine congrArg₂ (fun p q : EReal => unit (tok y b s) (headOf f) (placeOf f) * p + q)
    (congrArg lg (funext fun | ⟨0, _⟩ => rfl)) (congrArg lb (funext fun | ⟨0, _⟩ => rfl))

/-- A term of a head's bonus. -/
theorem v31_at (i : S32x2048x16x64.Idx) (b : Fin 32) (s : Fin 2048) (h : Fin 16) (d : Fin 64) (hi : i = ix4 b s h d) :
    val_main_v31 (F := Ideal) q a b' w i = term (tok q b s) (tok a b s) (tok b' b s) (fun h d => w (ix2 h d)) h d := by
  subst hi
  rw [val_main_v31_apply, val_main_v28_apply, val_main_v27_apply, val_main_v26_apply, val_main_cst_4_apply, val_main_v25_apply, val_main_v30_apply, val_main_v29_apply]
  have e : idx_main_v29 (idx_main_v30 (ix4 b s h d)) = ix2 h d := funext fun | ⟨0, _⟩ => rfl | ⟨1, _⟩ => rfl
  rw [e]
  rfl

/-- A head's bonus. -/
theorem v32_at (i : S32x2048x16.Idx) (b : Fin 32) (s : Fin 2048) (h : Fin 16) (h0 : (i 0).val = b.val) (h1 : (i 1).val = s.val) (h2 : (i 2).val = h.val) :
    val_main_v32 (F := Ideal) q a b' w i = ∑ d, term (tok q b s) (tok a b s) (tok b' b s) (fun h d => w (ix2 h d)) h d := by
  rw [val_main_v32_apply, val_main_cst_5_apply]
  show Ideal.ofBits .f32 0x00000000#32 + _ = _
  rw [Ideal.ofBits_zero_f32, zero_add]
  exact Finset.sum_congr rfl fun d _ => v31_at q a b' w _ b s h d (funext fun a => Fin.ext (match a with
    | ⟨0, _⟩ => h0 | ⟨1, _⟩ => h1 | ⟨2, _⟩ => h2 | ⟨3, _⟩ => rfl))

theorem v35_at (i : S32x2048x16x64.Idx) (b : Fin 32) (s : Fin 2048) (h : Fin 16) (d : Fin 64) (hi : i = ix4 b s h d) :
    val_main_v35 (F := Ideal) q a b' v w i = (∑ d, term (tok q b s) (tok a b s) (tok b' b s) (fun h d => w (ix2 h d)) h d) * tok v b s h d := by
  subst hi
  rw [val_main_v35_apply, val_main_v34_apply, val_main_v33_apply, v32_at q a b' w _ b s h rfl rfl rfl]
  rfl

/-- A channel before the output projection. -/
def rowAt (b : Fin 32) (s : Fin 2048) (f : Fin 1024) : EReal :=
  gated (tok y b s) (tok q b s) (tok a b s) (tok b' b s) (tok v b s) (fun h d => w (ix2 h d)) (fun f => g (ix3 b s f)) (fun f => lg (ix1 f)) (fun f => lb (ix1 f)) f

theorem v38_at (b : Fin 32) (s : Fin 2048) (f : Fin 1024) :
    val_main_v38 (F := Ideal) y q a b' v g lg lb w (ix3 b s f) = rowAt y q a b' v g lg lb w b s f := by
  rw [val_main_v38_apply, val_main_v37_apply, v24_at, val_main_v36_apply,
    v35_at q a b' v w _ b s (headOf f) (placeOf f) (funext fun a => Fin.ext (match a with
      | ⟨0, _⟩ => by show ((b.val * 2048 + s.val) * 1024 + f.val) / 2097152 = b.val; omega
      | ⟨1, _⟩ => by show ((b.val * 2048 + s.val) * 1024 + f.val) / 1024 % 2048 = s.val; omega
      | ⟨2, _⟩ => by show ((b.val * 2048 + s.val) * 1024 + f.val) / 64 % 16 = f.val / 64; omega
      | ⟨3, _⟩ => by show ((b.val * 2048 + s.val) * 1024 + f.val) % 64 = f.val % 64; omega))]
  rfl

/-- The reference's result at an index. -/
theorem ref_apply (r : Fin 65536) (e : Fin 1024) :
    val_main_v41 (F := Ideal) y q a b' v g x lg lb w wo (ix2 r e)
      = x (ix3 ⟨r.val / 2048, by omega⟩ ⟨r.val % 2048, by omega⟩ e)
        + ∑ k : Fin 1024, rowAt y q a b' v g lg lb w ⟨r.val / 2048, by omega⟩ ⟨r.val % 2048, by omega⟩ k * wo (ix2 k e) := by
  rw [val_main_v41_apply, val_main_v40_apply, val_main_v39_apply]
  have hi : idx_main_v41 (ix2 r e) = ix3 ⟨r.val / 2048, by omega⟩ ⟨r.val % 2048, by omega⟩ e := funext fun a => Fin.ext (match a with
    | ⟨0, _⟩ => by show (r.val * 1024 + e.val) / 2097152 = r.val / 2048; omega
    | ⟨1, _⟩ => by show (r.val * 1024 + e.val) / 1024 % 2048 = r.val % 2048; omega
    | ⟨2, _⟩ => by show (r.val * 1024 + e.val) % 1024 = e.val; omega)
  rw [hi]
  refine congrArg (fun z : EReal => x _ + z) (Finset.sum_congr rfl fun k _ => ?_)
  rw [← v38_at]
  refine congrArg₂ (fun i j => val_main_v38 (F := Ideal) y q a b' v g lg lb w i * wo j) (funext fun a => ?_) (funext fun a => ?_)
  · match a with | ⟨0, _⟩ => rfl | ⟨1, _⟩ => rfl | ⟨2, _⟩ => rfl
  · match a with | ⟨0, _⟩ => rfl | ⟨1, _⟩ => rfl

end Cert.PostRef

end
-- ==== Proof.Post.lean ====
/- The end of the mixer: the kernel's result array, row block by row block, as the reference computes it, and its claims. -/
module

public import proofs.«01_k».proof.Defs
public import proofs.«01_k».proof.Proof.Gqa
public import proofs.«01_k».proof.Proof.PostTile
public import proofs.«01_k».proof.Proof.PostRef
public import proofs.«01_k».proof.Proof.Gen.Kernel9Ideal.Value
public import proofs.«01_k».proof.Proof.Gen.Reference9Ideal.Run
public import Idealize.ShloMosaic.Lib.Pipeline.ValueKit
public import Idealize.ShloMosaic.Lib.StableHlo.RunHlo

@[expose] public section

noncomputable section

namespace Cert.Post

open Cert.Kernel9Ideal Cert.Kernel9Ideal.Gen Cert.PostTile
open Idealize.ShloMosaic hiding ix1 ix2 ix3 ix4 ix5 truncf_apply
open Idealize.ShloMosaic.TcCoe Idealize.ShloMosaic.ValueIdx Idealize.SL.Sem
open Cert.Gqa (real_of_cmp)

variable (m : (ℓ : Loc nD τ sig) → Buf (Elt Ideal) ℓ)

/-- The heads of all tokens as rows. -/
def flat (z : Vec Ideal S32x2048x16x64 .f32) : FVec Ideal S65536x1024 .f32 := shapeCast S65536x1024 z shapeCasts_S32x2048x16x64_S65536x1024

/-- The channels of all tokens as rows. -/
def flat3 (z : Vec Ideal S32x2048x1024 .f32) : FVec Ideal S65536x1024 .f32 := shapeCast S65536x1024 z shapeCasts_S32x2048x1024_S65536x1024

/-- The recurrence's result as the kernel takes it. -/
theorem V_y (c : Dev nD) : V m c main_v0 = flat (m (c.tc.loc main_arg0)) := by
  show StableHlo.after hostOps0 _ (Proc.devRef .tc main_v0) = _
  after_results
  rfl

theorem V_q (c : Dev nD) : V m c main_v2 = (truncf .bf16 (flat (m (c.tc.loc main_arg1))) bitsLt_bf16_f32 : FVec Ideal S65536x1024 .bf16) := by
  show StableHlo.after hostOps0 _ (Proc.devRef .tc main_v2) = _
  after_results
  rfl

theorem V_a (c : Dev nD) : V m c main_v4 = (truncf .bf16 (flat (m (c.tc.loc main_arg2))) bitsLt_bf16_f32 : FVec Ideal S65536x1024 .bf16) := by
  show StableHlo.after hostOps0 _ (Proc.devRef .tc main_v4) = _
  after_results
  rfl

theorem V_b (c : Dev nD) : V m c main_v6 = (truncf .bf16 (flat (m (c.tc.loc main_arg3))) bitsLt_bf16_f32 : FVec Ideal S65536x1024 .bf16) := by
  show StableHlo.after hostOps0 _ (Proc.devRef .tc main_v6) = _
  after_results
  rfl

theorem V_v (c : Dev nD) : V m c main_v8 = (truncf .bf16 (flat (m (c.tc.loc main_arg4))) bitsLt_bf16_f32 : FVec Ideal S65536x1024 .bf16) := by
  show StableHlo.after hostOps0 _ (Proc.devRef .tc main_v8) = _
  after_results
  rfl

theorem V_g (c : Dev nD) : V m c main_v10 = (truncf .bf16 (flat3 (m (c.tc.loc main_arg5))) bitsLt_bf16_f32 : FVec Ideal S65536x1024 .bf16) := by
  show StableHlo.after hostOps0 _ (Proc.devRef .tc main_v10) = _
  after_results
  rfl

theorem V_x (c : Dev nD) : V m c main_v11 = flat3 (m (c.tc.loc main_arg6)) := by
  show StableHlo.after hostOps0 _ (Proc.devRef .tc main_v11) = _
  after_results
  rfl

theorem V_lg (c : Dev nD) : V m c main_v12 = shapeCast S1x1024 (m (c.tc.loc main_arg7)) shapeCasts_S1024_S1x1024 := by
  show StableHlo.after hostOps0 _ (Proc.devRef .tc main_v12) = _
  after_results
  rfl

theorem V_lb (c : Dev nD) : V m c main_v13 = shapeCast S1x1024 (m (c.tc.loc main_arg8)) shapeCasts_S1024_S1x1024 := by
  show StableHlo.after hostOps0 _ (Proc.devRef .tc main_v13) = _
  after_results
  rfl

theorem V_w (c : Dev nD) : V m c main_v14 = shapeCast S1x1024 (m (c.tc.loc main_arg9)) shapeCasts_S16x64_S1x1024 := by
  show StableHlo.after hostOps0 _ (Proc.devRef .tc main_v14) = _
  after_results
  rfl

theorem V_wo (c : Dev nD) : V m c main_v15 = (truncf .bf16 (m (c.tc.loc main_arg10) : FVec Ideal S1024x1024 .f32) bitsLt_bf16_f32 : FVec Ideal S1024x1024 .bf16) := by
  show StableHlo.after hostOps0 _ (Proc.devRef .tc main_v15) = _
  after_results

theorem index0 : ∀ t : Fin cfg0.N, win0_0.index t = ![(grid0.coords t 0).val, 0] :=
  (by decide +kernel : ∀ t : Fin grid0.N, win0_0.index t = ![(grid0.coords t 0).val, 0])
theorem index1 : ∀ t : Fin cfg0.N, win0_1.index t = ![(grid0.coords t 0).val, 0] :=
  (by decide +kernel : ∀ t : Fin grid0.N, win0_1.index t = ![(grid0.coords t 0).val, 0])
theorem index2 : ∀ t : Fin cfg0.N, win0_2.index t = ![(grid0.coords t 0).val, 0] :=
  (by decide +kernel : ∀ t : Fin grid0.N, win0_2.index t = ![(grid0.coords t 0).val, 0])
theorem index3 : ∀ t : Fin cfg0.N, win0_3.index t = ![(grid0.coords t 0).val, 0] :=
  (by decide +kernel : ∀ t : Fin grid0.N, win0_3.index t = ![(grid0.coords t 0).val, 0])
theorem index4 : ∀ t : Fin cfg0.N, win0_4.index t = ![(grid0.coords t 0).val, 0] :=
  (by decide +kernel : ∀ t : Fin grid0.N, win0_4.index t = ![(grid0.coords t 0).val, 0])
theorem index5 : ∀ t : Fin cfg0.N, win0_5.index t = ![(grid0.coords t 0).val, 0] :=
  (by decide +kernel : ∀ t : Fin grid0.N, win0_5.index t = ![(grid0.coords t 0).val, 0])
theorem index6 : ∀ t : Fin cfg0.N, win0_6.index t = ![(grid0.coords t 0).val, 0] :=
  (by decide +kernel : ∀ t : Fin grid0.N, win0_6.index t = ![(grid0.coords t 0).val, 0])
theorem index11 : ∀ t : Fin cfg0.N, win0_11.index t = ![(grid0.coords t 0).val, 0] :=
  (by decide +kernel : ∀ t : Fin grid0.N, win0_11.index t = ![(grid0.coords t 0).val, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])

/-- The block of 512 tokens a point works on. -/
def at' (t : Fin cfg0.N) : Fin 128 := grid0.coords t 0

/-- A row of a point's block in the whole array. -/
def at512 (t : Fin cfg0.N) (r : Fin 512) : Fin 65536 := ⟨(at' t).val * 512 + r.val, by omega⟩

theorem block0 (c : Dev nD) (t : Fin cfg0.N) (r : Fin 512) (e : Fin 1024) : iblk m c 0 t (ix2 r e) = V m c main_v0 (ix2 (at512 t r) e) := by
  blk_simp [iblk]
  refine congrArg (V m c main_v0) (funext fun a => Fin.ext ?_)
  match a with
  | ⟨0, _⟩ => blk_simp [index0]; rfl
  | ⟨1, _⟩ => blk_simp [index0]

theorem block1 (c : Dev nD) (t : Fin cfg0.N) (r : Fin 512) (e : Fin 1024) : iblk m c 1 t (ix2 r e) = V m c main_v2 (ix2 (at512 t r) e) := by
  blk_simp [iblk]
  refine congrArg (V m c main_v2) (funext fun a => Fin.ext ?_)
  match a with
  | ⟨0, _⟩ => blk_simp [index1]; rfl
  | ⟨1, _⟩ => blk_simp [index1]

theorem block2 (c : Dev nD) (t : Fin cfg0.N) (r : Fin 512) (e : Fin 1024) : iblk m c 2 t (ix2 r e) = V m c main_v4 (ix2 (at512 t r) e) := by
  blk_simp [iblk]
  refine congrArg (V m c main_v4) (funext fun a => Fin.ext ?_)
  match a with
  | ⟨0, _⟩ => blk_simp [index2]; rfl
  | ⟨1, _⟩ => blk_simp [index2]

theorem block3 (c : Dev nD) (t : Fin cfg0.N) (r : Fin 512) (e : Fin 1024) : iblk m c 3 t (ix2 r e) = V m c main_v6 (ix2 (at512 t r) e) := by
  blk_simp [iblk]
  refine congrArg (V m c main_v6) (funext fun a => Fin.ext ?_)
  match a with
  | ⟨0, _⟩ => blk_simp [index3]; rfl
  | ⟨1, _⟩ => blk_simp [index3]

theorem block4 (c : Dev nD) (t : Fin cfg0.N) (r : Fin 512) (e : Fin 1024) : iblk m c 4 t (ix2 r e) = V m c main_v8 (ix2 (at512 t r) e) := by
  blk_simp [iblk]
  refine congrArg (V m c main_v8) (funext fun a => Fin.ext ?_)
  match a with
  | ⟨0, _⟩ => blk_simp [index4]; rfl
  | ⟨1, _⟩ => blk_simp [index4]

theorem block5 (c : Dev nD) (t : Fin cfg0.N) (r : Fin 512) (e : Fin 1024) : iblk m c 5 t (ix2 r e) = V m c main_v10 (ix2 (at512 t r) e) := by
  blk_simp [iblk]
  refine congrArg (V m c main_v10) (funext fun a => Fin.ext ?_)
  match a with
  | ⟨0, _⟩ => blk_simp [index5]; rfl
  | ⟨1, _⟩ => blk_simp [index5]

theorem block6 (c : Dev nD) (t : Fin cfg0.N) (r : Fin 512) (e : Fin 1024) : iblk m c 6 t (ix2 r e) = V m c main_v11 (ix2 (at512 t r) e) := by
  blk_simp [iblk]
  refine congrArg (V m c main_v11) (funext fun a => Fin.ext ?_)
  match a with
  | ⟨0, _⟩ => blk_simp [index6]; rfl
  | ⟨1, _⟩ => blk_simp [index6]

theorem block7 (c : Dev nD) (t : Fin cfg0.N) (r : Fin 1) (e : Fin 1024) : iblk m c 7 t (ix2 r e) = V m c main_v12 (ix2 r e) := by
  blk_simp [iblk]
  refine congrArg (V m c main_v12) (funext fun a => Fin.ext ?_)
  match a with
  | ⟨0, _⟩ => blk_simp [index7]
  | ⟨1, _⟩ => blk_simp [index7]

theorem block8 (c : Dev nD) (t : Fin cfg0.N) (r : Fin 1) (e : Fin 1024) : iblk m c 8 t (ix2 r e) = V m c main_v13 (ix2 r e) := by
  blk_simp [iblk]
  refine congrArg (V m c main_v13) (funext fun a => Fin.ext ?_)
  match a with
  | ⟨0, _⟩ => blk_simp [index8]
  | ⟨1, _⟩ => blk_simp [index8]

theorem block9 (c : Dev nD) (t : Fin cfg0.N) (r : Fin 1) (e : Fin 1024) : iblk m c 9 t (ix2 r e) = V m c main_v14 (ix2 r e) := by
  blk_simp [iblk]
  refine congrArg (V m c main_v14) (funext fun a => Fin.ext ?_)
  match a with
  | ⟨0, _⟩ => blk_simp [index9]
  | ⟨1, _⟩ => blk_simp [index9]

theorem block10 (c : Dev nD) (t : Fin cfg0.N) (r : Fin 1024) (e : Fin 1024) : iblk m c 10 t (ix2 r e) = V m c main_v15 (ix2 r e) := by
  blk_simp [iblk]
  refine congrArg (V m c main_v15) (funext fun a => Fin.ext ?_)
  match a with
  | ⟨0, _⟩ => blk_simp [index10]
  | ⟨1, _⟩ => blk_simp [index10]

/-- The sequence of a row. -/
def seqOf (r : Fin 65536) : Fin 32 := ⟨r.val / 2048, by omega⟩

/-- The place of a row in its sequence. -/
def posOf (r : Fin 65536) : Fin 2048 := ⟨r.val % 2048, by omega⟩

theorem flat_apply (z : Vec Ideal S32x2048x16x64 .f32) (r : Fin 65536) (h : Fin 16) (d : Fin 64) :
    flat z (ix2 r (chan h d)) = PostRef.tok z (seqOf r) (posOf r) h d :=
  shapeCast_apply (s := S32x2048x16x64) (t := S65536x1024) z _ (ix2 r (chan h d)) (ix4 (seqOf r) (posOf r) h d) (by
    rw [Shape.rowMajor_val_four, Shape.rowMajor_val_two]
    show ((r.val / 2048 * 2048 + r.val % 2048) * 16 + h.val) * 64 + d.val = r.val * 1024 + (64 * h.val + d.val)
    omega)

theorem flat3_apply (z : Vec Ideal S32x2048x1024 .f32) (r : Fin 65536) (k : Fin 1024) : flat3 z (ix2 r k) = z (ix3 (seqOf r) (posOf r) k) :=
  shapeCast_apply (s := S32x2048x1024) (t := S65536x1024) z _ (ix2 r k) (ix3 (seqOf r) (posOf r) k) (by
    rw [Shape.rowMajor_val_three, Shape.rowMajor_val_two]
    show (r.val / 2048 * 2048 + r.val % 2048) * 1024 + k.val = r.val * 1024 + k.val
    omega)

theorem vec_flat (z : Vec Ideal S1024 .f32) (k : Fin 1024) : shapeCast S1x1024 z shapeCasts_S1024_S1x1024 (ix2 0 k) = z (ix1 k) :=
  shapeCast_apply (s := S1024) (t := S1x1024) z _ (ix2 0 k) (ix1 k) (by
    rw [Shape.rowMajor_val_one, Shape.rowMajor_val_two]
    show k.val = 0 * 1024 + k.val
    omega)

theorem heads_flat (z : Vec Ideal S16x64 .f32) (h : Fin 16) (d : Fin 64) : shapeCast S1x1024 z shapeCasts_S16x64_S1x1024 (ix2 0 (chan h d)) = z (ix2 h d) :=
  shapeCast_apply (s := S16x64) (t := S1x1024) z _ (ix2 0 (chan h d)) (ix2 h d) (by
    rw [Shape.rowMajor_val_two, Shape.rowMajor_val_two]
    show h.val * 64 + d.val = 0 * 1024 + (64 * h.val + d.val)
    omega)

/-- Of finite heads the rows are finite. -/
theorem flat_real (z : Vec Ideal S32x2048x16x64 .f32) (hz : ∀ i, ∃ r : ℝ, z i = (r : EReal)) (r : Fin 65536) (f : Fin 1024) : Real' (flat z (ix2 r f)) := by
  rw [← chan_of f, flat_apply]
  exact hz _

/-- What the kernel leaves is the reference's result, where the recurrence's result and the bonus's parts are finite. -/
theorem final (c : Dev nD) (hy : ∀ i, ∃ r : ℝ, (m (c.tc.loc main_arg0)) i = (r : EReal)) (hq : ∀ i, ∃ r : ℝ, (m (c.tc.loc main_arg1)) i = (r : EReal))
    (ha : ∀ i, ∃ r : ℝ, (m (c.tc.loc main_arg2)) i = (r : EReal)) (hb : ∀ i, ∃ r : ℝ, (m (c.tc.loc main_arg3)) i = (r : EReal)) (hw : ∀ i, ∃ r : ℝ, (m (c.tc.loc main_arg9)) i = (r : EReal)) :
    (dats m 0 c).arrAt 11 cfg0.N
      = Reference9Ideal.Read.val_main_v41 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  refine (dats m 0 c).arrAt_eq_of_covers 11 _ (by decide +kernel) fun t hf y => ?_
  blk_simp
  rw [after0_11]
  obtain ⟨r, l, rfl⟩ : ∃ (r : Fin 512) (l : Fin 1024), y = ix2 r l := ⟨y 0, y 1, funext fun
    | ⟨0, _⟩ => rfl | ⟨1, _⟩ => rfl⟩
  have e : (win0_11.blk t).view.emb (ix2 r l) = ix2 (at512 t r) l := funext fun a => Fin.ext (by
    match a with
    | ⟨0, _⟩ => blk_simp [index11]; rfl
    | ⟨1, _⟩ => blk_simp [index11])
  have fy : ∀ f, iblk m c 0 t (ix2 r f) = flat (m (c.tc.loc main_arg0)) (ix2 (at512 t r) f) := fun f => by rw [block0, V_y]
  have fq : ∀ f, iblk m c 1 t (ix2 r f) = flat (m (c.tc.loc main_arg1)) (ix2 (at512 t r) f) := fun f => by rw [block1, V_q]; rfl
  have fa : ∀ f, iblk m c 2 t (ix2 r f) = flat (m (c.tc.loc main_arg2)) (ix2 (at512 t r) f) := fun f => by rw [block2, V_a]; rfl
  have fb : ∀ f, iblk m c 3 t (ix2 r f) = flat (m (c.tc.loc main_arg3)) (ix2 (at512 t r) f) := fun f => by rw [block3, V_b]; rfl
  have fv : ∀ f, iblk m c 4 t (ix2 r f) = flat (m (c.tc.loc main_arg4)) (ix2 (at512 t r) f) := fun f => by rw [block4, V_v]; rfl
  have fg : ∀ f, iblk m c 5 t (ix2 r f) = (m (c.tc.loc main_arg5)) (ix3 (seqOf (at512 t r)) (posOf (at512 t r)) f) := fun f => by
    rw [block5, V_g]
    exact flat3_apply _ _ _
  have fw : ∀ h d, iblk m c 9 t (ix2 0 (chan h d)) = (m (c.tc.loc main_arg9)) (ix2 h d) := fun h d => by rw [block9, V_w, heads_flat]
  rw [e, PostRef.ref_apply, out_apply _ _ _ _ _ _ _ _ _ _ _ r l (fun f => by rw [fy]; exact flat_real _ hy _ _) (fun f => by rw [fq]; exact flat_real _ hq _ _)
    (fun f => by rw [fa]; exact flat_real _ ha _ _) (fun f => by rw [fb]; exact flat_real _ hb _ _)
    (fun f => by rw [← chan_of f, fw]; exact hw _)]
  refine congrArg₂ (fun x y : EReal => x + y) (by rw [block6, V_x, flat3_apply]; rfl) (Finset.sum_congr rfl fun k _ => congrArg₂ (fun x y : EReal => x * y) ?_ ?_)
  · have s0 : (fun h d => iblk m c 0 t (ix2 r (chan h d))) = PostRef.tok (m (c.tc.loc main_arg0)) (seqOf (at512 t r)) (posOf (at512 t r)) := funext fun h => funext fun d => by rw [fy, flat_apply]
    have s1 : (fun h d => iblk m c 1 t (ix2 r (chan h d))) = PostRef.tok (m (c.tc.loc main_arg1)) (seqOf (at512 t r)) (posOf (at512 t r)) := funext fun h => funext fun d => by rw [fq, flat_apply]
    have s2 : (fun h d => iblk m c 2 t (ix2 r (chan h d))) = PostRef.tok (m (c.tc.loc main_arg2)) (seqOf (at512 t r)) (posOf (at512 t r)) := funext fun h => funext fun d => by rw [fa, flat_apply]
    have s3 : (fun h d => iblk m c 3 t (ix2 r (chan h d))) = PostRef.tok (m (c.tc.loc main_arg3)) (seqOf (at512 t r)) (posOf (at512 t r)) := funext fun h => funext fun d => by rw [fb, flat_apply]
    have s4 : (fun h d => iblk m c 4 t (ix2 r (chan h d))) = PostRef.tok (m (c.tc.loc main_arg4)) (seqOf (at512 t r)) (posOf (at512 t r)) := funext fun h => funext fun d => by rw [fv, flat_apply]
    have s5 := funext fg
    have s7 : (fun f => iblk m c 7 t (ix2 0 f)) = fun f => (m (c.tc.loc main_arg7)) (ix1 f) := funext fun f => by rw [block7, V_lg, vec_flat]
    have s8 : (fun f => iblk m c 8 t (ix2 0 f)) = fun f => (m (c.tc.loc main_arg8)) (ix1 f) := funext fun f => by rw [block8, V_lb, vec_flat]
    have s9 : (fun h d => iblk m c 9 t (ix2 0 (chan h d))) = fun h d => (m (c.tc.loc main_arg9)) (ix2 h d) := funext fun h => funext fun d => fw h d
    rw [s0, s1, s2, s3, s4, s5, s7, s8, s9]
    rfl
  · rw [block10, V_wo]
    rfl

/-- The side conditions of the precondition's broadcasts. -/
theorem finite_facts : Cert.Pre_finite_heads.Facts := ⟨by decide, by decide⟩

/-- The reference's run under the precondition leaves its arguments as they were and every counter at zero. -/
theorem frame_reference_finite [Cert.Pre_finite_heads.Facts] : Cert.quiescent_Reference9Ideal_pre_finite_heads := by
  intro m g _
  exact (θ_run _ _ _).mono (fun r h => ⟨fun c => (h c).2, sem_eq_zero_of_no_sems (by decide) r.2⟩)
    (Cert.Reference9Ideal.Value.run (F := Ideal) m g)

/-- At every index the idealized kernel's result is the reference's, where the recurrence's result and the bonus's parts are finite. -/
theorem algebraic [Cert.Pre_finite_heads.Facts] : Cert.algebraic_Kernel9Ideal_Reference9Ideal_pre_finite_heads := by
  intro m ρ m' ρ' hpre hag
  refine ⟨fun c => Cert.Reference9Ideal.Read.val_main_v41 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)),
    (θ_run _ _ _).mono (fun _ h c => ⟨(h c).1.trans (final m c
        (fun i => real_of_cmp _ (congrFun (hpre c).1 i)) (fun i => real_of_cmp _ (congrFun (hpre c).2.1 i)) (fun i => real_of_cmp _ (congrFun (hpre c).2.2.1 i))
        (fun i => real_of_cmp _ (congrFun (hpre c).2.2.2.1 i)) (fun i => real_of_cmp _ (congrFun (hpre c).2.2.2.2 i))), (h c).2⟩)
      (Cert.Kernel9Ideal.Value.run_blocks m ρ),
    (θ_run _ _ _).mono (fun _ h c => ⟨(h c).1.trans (by
        refine (Cert.Reference9Ideal.Read.val_main_v41_eq ..).trans ?_
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]), (h c).2⟩)
      (Cert.Reference9Ideal.Value.run m' ρ')⟩

end Cert.Post

end
-- ==== Proof.DiffTile.lean ====
/- One tile of the differential attention kernel read at an index. -/
module

public import proofs.«01_k».proof.Proof.GqaTile
public import proofs.«01_k».proof.Proof.Gen.Kernel6Ideal.Skeleton

@[expose] public section

noncomputable section

namespace Cert.DiffTile

open Cert.Kernel6Ideal Cert.Kernel6Ideal.Gen Cert.Softmax Idealize.ShloMosaic Idealize.ShloMosaic.ValueIdx
open Cert.GqaTile (normed normed_apply weights_apply score_apply lane kv_apply o_apply)

/-- The rows of the second of two heads taken from those of the first, `lam` times. -/
def mixed (s : FVec Ideal S256x2048 .f32) (v : FVec Ideal S2048x128 .bf16) (lam : Elt Ideal .f32) : FVec Ideal S128x128 .f32 :=
  subf (extractStridedSlice S128x128 ![0, 0] (normed s v) slices_S256x128_o0_0_S128x128)
    (mulf (broadcast S128x128 lam) (extractStridedSlice S128x128 ![128, 0] (normed s v) slices_S256x128_o128_0_S128x128))

theorem mixed_apply (s : FVec Ideal S256x2048 .f32) (v : FVec Ideal S2048x128 .bf16) (lam : Elt Ideal .f32) (r c : Fin 128) :
    mixed s v lam (ix2 r c) = normed s v (ix2 ⟨r.val, by omega⟩ c) - (lam : EReal) * normed s v (ix2 ⟨r.val + 128, by omega⟩ c) := by
  unfold mixed
  rw [subf_apply, mulf_apply, broadcast_apply,
    extractStridedSlice_apply (s := S256x128) (t := S128x128) ![0, 0] _ _ (ix2 r c) (ix2 ⟨r.val, by omega⟩ c) (fun | ⟨0, _⟩ => (Nat.zero_add _).symm | ⟨1, _⟩ => (Nat.zero_add _).symm),
    extractStridedSlice_apply (s := S256x128) (t := S128x128) ![128, 0] _ _ (ix2 r c) (ix2 ⟨r.val + 128, by omega⟩ c) (fun | ⟨0, _⟩ => Nat.add_comm _ _ | ⟨1, _⟩ => (Nat.zero_add _).symm)]

/-- The factor of a normed row: the reciprocal root of its mean square, kept from zero. -/
def factor (o : Fin 128 → EReal) : EReal :=
  Ideal.rsqrt (Ideal.div (∑ c, o c * o c) (Ideal.ofBits .f32 0x43000000#32) + Ideal.ofBits .f32 0x3727C5AC#32)

/-- Rows of 128 numbers normed and multiplied by a gain. -/
theorem norm_apply (o : FVec Ideal S128x128 .f32) (g : FVec Ideal S1x128 .f32) (r e : Fin 128) :
    k0_pay1 o g (ix3 0 r e) = o (ix2 r e) * factor (fun c => o (ix2 r c)) * g (ix2 0 e) := by
  have hsum : multiReduction .add [1] S128 (mulf o o) 0x00000000#32 reduces_S128x128_S128 (.inl rfl) rfl (ix1 r)
      = ∑ c : Fin 128, o (ix2 r c) * o (ix2 r c) := by
    refine (Ideal.multiReduction_add_single _ _ _ (.inl rfl) rfl (ix1 r)).trans ?_
    refine Finset.sum_congr rfl fun i _ => ?_
    have e : ∀ y : S128x128.Idx, y = ix2 r i → mulf o o y = o (ix2 r i) * o (ix2 r i) := fun y h => by rw [h]; rfl
    exact e _ (funext fun | ⟨0, _⟩ => rfl | ⟨1, _⟩ => rfl)
  unfold k0_pay1
  dsimp only
  rw [o_apply, truncf_apply, mulf_apply, mulf_apply,
    broadcastTo_apply _ broadcasts_S128x1_S128x128 (ix2 r e) (ix2 r 0) (fun | ⟨0, _⟩ => rfl | ⟨1, _⟩ => rfl),
    broadcastTo_apply _ broadcasts_S1x128_S128x128 (ix2 r e) (ix2 0 e) (fun | ⟨0, _⟩ => rfl | ⟨1, _⟩ => rfl),
    shapeCast_self]
  refine congrArg (fun x : EReal => o (ix2 r e) * x * g (ix2 0 e)) ?_
  unfold factor
  refine congrArg (fun x : EReal => Ideal.rsqrt (Ideal.div x (Ideal.ofBits .f32 0x43000000#32) + Ideal.ofBits .f32 0x3727C5AC#32)) ?_
  refine (shapeCast_apply _ shapeCasts_S128_S128x1 (ix2 r 0) (ix1 r) (by rw [Shape.rowMajor_val_two, Shape.rowMajor_val_one]; show r.val = r.val * 1 + 0; omega)).trans ?_
  exact hsum

/-- One tile of the kernel: 128 query rows against the keys and the values of the block. -/
def tile (q : Vec Ideal S1x128x128 .bf16) (k v : Vec Ideal S1x2048x128 .bf16) (lam : Elt Ideal .f32) (g : FVec Ideal S1x128 .f32) : FVec Ideal S1x128x128 .bf16 :=
  k0_pay1 (mixed (k0_pay4 k q) (k0_pay3 v) lam) g

/-- The scores of a tile are those of the grouped-query attention's. -/
theorem pay4_eq (k : Vec Ideal S1x2048x128 .bf16) (q : Vec Ideal S1x128x128 .bf16) : k0_pay4 k q = Cert.KernelIdeal.Gen.k0_pay5 k q := rfl

/-- Rows as the kernel mixes them, before the norm. -/
def mixRow (q : Fin 128 → EReal) (k v : Fin 2048 → Fin 128 → EReal) (lam : EReal) (c : Fin 128) : EReal :=
  kernelRow (fun s : Fin 2048 => ∑ d : Fin 64, q ⟨d.val, by omega⟩ * k s ⟨d.val, by omega⟩) (fun s => v s c)
    - lam * kernelRow (fun s : Fin 2048 => ∑ d : Fin 64, q ⟨64 + d.val, by omega⟩ * k s ⟨64 + d.val, by omega⟩) (fun s => v s c)

/-- One row of the scores of a tile summed with the values is a row of attention. -/
theorem normed_row (q : Vec Ideal S1x128x128 .bf16) (k v : Vec Ideal S1x2048x128 .bf16) (r l c : Fin 128) :
    normed (k0_pay4 k q) (k0_pay3 v) (ix2 (GqaTile.row r l) c)
      = kernelRow (fun s : Fin 2048 => ∑ d : Fin 64, q (ix3 0 r (lane l d)) * k (ix3 0 s (lane l d))) (fun s => v (ix3 0 s c)) := by
  rw [normed_apply, pay4_eq]
  have hv : ∀ s, k0_pay3 v (ix2 s c) = v (ix3 0 s c) := fun s => kv_apply v _ s c
  simp only [weights_apply, score_apply, hv]
  rfl

theorem mixed_row (q : Vec Ideal S1x128x128 .bf16) (k v : Vec Ideal S1x2048x128 .bf16) (lam : Elt Ideal .f32) (r c : Fin 128) :
    mixed (k0_pay4 k q) (k0_pay3 v) lam (ix2 r c)
      = mixRow (fun l => q (ix3 0 r l)) (fun s l => k (ix3 0 s l)) (fun s l => v (ix3 0 s l)) lam c := by
  rw [mixed_apply]
  have h0 := normed_row q k v r ⟨0, by omega⟩ c
  have h1 := normed_row q k v r ⟨64, by omega⟩ c
  have e0 : ∀ d, lane ⟨0, by omega⟩ d = ⟨d.val, by omega⟩ := fun d => Fin.ext (by show 64 * (0 / 64) + d.val = d.val; omega)
  have e1 : ∀ d, lane ⟨64, by omega⟩ d = ⟨64 + d.val, by omega⟩ := fun d => Fin.ext (by show 64 * (64 / 64) + d.val = 64 + d.val; omega)
  simp only [e0] at h0
  simp only [e1] at h1
  have r0 : GqaTile.row r ⟨0, by omega⟩ = ⟨r.val, by omega⟩ := rfl
  have r1 : GqaTile.row r ⟨64, by omega⟩ = ⟨r.val + 128, by omega⟩ := rfl
  rw [r0] at h0
  rw [r1] at h1
  rw [h0, h1]
  rfl

/-- A tile at an index: the mixed row, normed, times the gain. -/
theorem tile_apply (q : Vec Ideal S1x128x128 .bf16) (k v : Vec Ideal S1x2048x128 .bf16) (lam : Elt Ideal .f32) (g : FVec Ideal S1x128 .f32) (r e : Fin 128) :
    tile q k v lam g (ix3 0 r e)
      = mixRow (fun l => q (ix3 0 r l)) (fun s l => k (ix3 0 s l)) (fun s l => v (ix3 0 s l)) lam e
        * factor (mixRow (fun l => q (ix3 0 r l)) (fun s l => k (ix3 0 s l)) (fun s l => v (ix3 0 s l)) lam) * g (ix2 0 e) := by
  unfold tile
  rw [norm_apply, mixed_row]
  simp only [mixed_row]

end Cert.DiffTile

end
-- ==== Proof.DiffBlock.lean ====
/- One block of the differential attention kernel: its sixteen tiles read as one function of the block's index. -/
module

public import proofs.«01_k».proof.Proof.DiffTile
public import proofs.«01_k».proof.Proof.Gen.Kernel6Ideal.Frame
public import Idealize.ShloMosaic.Lib.Pipeline.ValueKit.Tiles
public import Idealize.ShloMosaic.Lib.WholeRead

@[expose] public section

noncomputable section

namespace Cert.DiffBlock

open Cert.Kernel6Ideal Cert.Kernel6Ideal.Gen Cert.Softmax Cert.DiffTile Idealize.ShloMosaic Idealize.ShloMosaic.ValueIdx
open Idealize.ShloMosaic.TcCoe

variable (x0 : Vec Ideal S1 .f32) (x1 x2 x3 : Vec Ideal S1x2048x128 .bf16) (x4 : Vec Ideal S1x128 .f32)

/-- Row `r` of a block before the norm: the two heads' rows of attention, mixed. -/
def rowAt (r : Fin 2048) : Fin 128 → EReal :=
  mixRow (fun l => x1 (ix3 0 r l)) (fun s l => x2 (ix3 0 s l)) (fun s l => x3 (ix3 0 s l)) (x0 (ix1 0))

/-- What the block's result holds: the mixed rows, normed, times the gain. -/
def blockVal : Vec Ideal S1x2048x128 .bf16 := fun y =>
  rowAt x0 x1 x2 x3 (y 1) (y 2) * factor (rowAt x0 x1 x2 x3 (y 1)) * x4 (ix2 0 (y 2))

/-- A load of a whole block of 2048 rows is its contents. -/
theorem ldAll (arg : Memref sig .tc .vmem S1x2048x128 .bf16) (harg : arg.IsWhole) (X : Vec Ideal S1x2048x128 .bf16) :
    View.readAt (Elt Ideal) arg.view (Rect.unit (s := S1x2048x128) ![0, 0, 0] S1x2048x128.size inb_S1x2048x128_S1x2048x128_0_0_0).toLoadRect (harg.unread X) = X :=
  funext fun y => (Memref.IsWhole.readAt_unread harg X _ y).trans (congrArg X (funext fun x => Fin.ext (match x with
    | ⟨0, _⟩ => by show 0 + 1 * (y 0).val = (y 0).val; omega
    | ⟨1, _⟩ => by show 0 + 1 * (y 1).val = (y 1).val; omega
    | ⟨2, _⟩ => by show 0 + 1 * (y 2).val = (y 2).val; omega)))

/-- The same of the gain. -/
theorem ldGain (arg : Memref sig .tc .vmem S1x128 .f32) (harg : arg.IsWhole) (X : Vec Ideal S1x128 .f32) :
    View.readAt (Elt Ideal) arg.view (Rect.unit (s := S1x128) ![0, 0] S1x128.size inb_S1x128_S1x128_0_0).toLoadRect (harg.unread X) = X :=
  funext fun y => (Memref.IsWhole.readAt_unread harg X _ y).trans (congrArg X (funext fun x => Fin.ext (match x with
    | ⟨0, _⟩ => by show 0 + 1 * (y 0).val = (y 0).val; omega
    | ⟨1, _⟩ => by show 0 + 1 * (y 1).val = (y 1).val; omega)))

/-- The factor of the second head, as the kernel loads it, is the one number of its array. -/
theorem lam_eq (c : Dev nD) (a3 : Memref sig .tc .smem S1 .f32) (w3 : a3.IsWhole) :
    kernelRun0_A.sl.r_4 (F := Ideal) c a3 w3 x0 = x0 (ix1 0) := by
  unfold kernelRun0_A.sl.r_4
  exact (Memref.IsWhole.readAt_unread w3 x0 _ _).trans (congrArg x0 (funext fun | ⟨0, _⟩ => Subsingleton.elim (α := Fin 1) _ _))

/-- A tile of a load of 128 query rows is the block's function on the rectangle it is stored at. -/
theorem piece (c : Dev nD) (a3 : Memref sig .tc .smem S1 .f32) (w3 : a3.IsWhole) (a4 : Memref sig .tc .vmem S1x2048x128 .bf16) (w4 : a4.IsWhole) (a5 : Memref sig .tc .vmem S1x2048x128 .bf16) (w5 : a5.IsWhole) (a6 : Memref sig .tc .vmem S1x2048x128 .bf16) (w6 : a6.IsWhole) (a7 : Memref sig .tc .vmem S1x128 .f32) (w7 : a7.IsWhole)
    (o : Nat) (inb : ∀ a, (![0, o, 0] : Fin 3 → Nat) a + S1x128x128.size a ≤ S1x2048x128.size a) (x : S1x128x128.Idx) :
    tile (View.readAt (Elt Ideal) a4.view (Rect.unit (s := S1x2048x128) ![0, o, 0] S1x128x128.size inb).toLoadRect (w4.unread x1))
        (View.readAt (Elt Ideal) a5.view (Rect.unit (s := S1x2048x128) ![0, 0, 0] S1x2048x128.size inb_S1x2048x128_S1x2048x128_0_0_0).toLoadRect (w5.unread x2))
        (View.readAt (Elt Ideal) a6.view (Rect.unit (s := S1x2048x128) ![0, 0, 0] S1x2048x128.size inb_S1x2048x128_S1x2048x128_0_0_0).toLoadRect (w6.unread x3))
        (kernelRun0_A.sl.r_4 (F := Ideal) c a3 w3 x0)
        (View.readAt (Elt Ideal) a7.view (Rect.unit (s := S1x128) ![0, 0] S1x128.size inb_S1x128_S1x128_0_0).toLoadRect (w7.unread x4)) x
      = blockVal x0 x1 x2 x3 x4 ((Rect.unit (s := S1x2048x128) ![0, o, 0] S1x128x128.size inb).emb x) := by
  rw [ldAll a5 w5 x2, ldAll a6 w6 x3, ldGain a7 w7 x4, lam_eq]
  obtain ⟨r, l, rfl⟩ : ∃ r l : Fin 128, x = ix3 0 r l := ⟨x 1, x 2, funext fun
    | ⟨0, _⟩ => Subsingleton.elim (α := Fin 1) _ _ | ⟨1, _⟩ => rfl | ⟨2, _⟩ => rfl⟩
  have e1 : ((Rect.unit (s := S1x2048x128) ![0, o, 0] S1x128x128.size inb).emb (ix3 0 r l) 1).val = o + r.val :=
    congrArg (o + ·) (Nat.one_mul _)
  have e2 : ((Rect.unit (s := S1x2048x128) ![0, o, 0] S1x128x128.size inb).emb (ix3 0 r l) 2).val = 0 + l.val :=
    congrArg (0 + ·) (Nat.one_mul _)
  rw [tile_apply]
  unfold blockVal rowAt
  generalize (Rect.unit (s := S1x2048x128) ![0, o, 0] S1x128x128.size inb).emb (ix3 0 r l) = y at e1 e2 ⊢
  have hl : y 2 = l := Fin.ext (by omega)
  have hq : (fun l : Fin 128 => View.readAt (Elt Ideal) a4.view (Rect.unit (s := S1x2048x128) ![0, o, 0] S1x128x128.size inb).toLoadRect (w4.unread x1) (ix3 0 r l))
      = fun l => x1 (ix3 0 (y 1) l) := funext fun d =>
    (Memref.IsWhole.readAt_unread w4 x1 _ _).trans (congrArg x1 (funext fun a => Fin.ext (match a with
      | ⟨0, _⟩ => rfl
      | ⟨1, _⟩ => by show o + 1 * r.val = (y 1).val; omega
      | ⟨2, _⟩ => by show 0 + 1 * d.val = d.val; omega)))
  rw [hl, hq]

/-- What the body leaves in the result's buffer is the block's function. -/
theorem out_eq (c : Dev nD) (i : grid0.Coords) (a3 : Memref sig .tc .smem S1 .f32) (w3 : a3.IsWhole) (a4 : Memref sig .tc .vmem S1x2048x128 .bf16) (w4 : a4.IsWhole) (a5 : Memref sig .tc .vmem S1x2048x128 .bf16) (w5 : a5.IsWhole) (a6 : Memref sig .tc .vmem S1x2048x128 .bf16) (w6 : a6.IsWhole) (a7 : Memref sig .tc .vmem S1x128 .f32) (w7 : a7.IsWhole) (a8 : Memref sig .tc .vmem S1x2048x128 .bf16) (w8 : a8.IsWhole) :
    out0_A_5 (F := Ideal) c i a3 w3 a4 w4 a5 w5 a6 w6 a7 w7 a8 w8 x0 x1 x2 x3 x4 = blockVal x0 x1 x2 x3 x4 := by
  unfold out0_A_5
  rw [View.read_writes_junk_eq_canon]
  funext y
  refine View.canon_apply_of_pieces (blockVal x0 x1 x2 x3 x4) _ ?_ y (cover0_A_5 c i a3 w3 a4 w4 a5 w5 a6 w6 a7 w7 a8 w8 x0 x1 x2 x3 x4 y)
  intro p hp x
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  · exact piece x0 x1 x2 x3 x4 c a3 w3 a4 w4 a5 w5 a6 w6 a7 w7 1920 inb_S1x2048x128_S1x128x128_0_1920_0 x
  · exact piece x0 x1 x2 x3 x4 c a3 w3 a4 w4 a5 w5 a6 w6 a7 w7 1792 inb_S1x2048x128_S1x128x128_0_1792_0 x
  · exact piece x0 x1 x2 x3 x4 c a3 w3 a4 w4 a5 w5 a6 w6 a7 w7 1664 inb_S1x2048x128_S1x128x128_0_1664_0 x
  · exact piece x0 x1 x2 x3 x4 c a3 w3 a4 w4 a5 w5 a6 w6 a7 w7 1536 inb_S1x2048x128_S1x128x128_0_1536_0 x
  · exact piece x0 x1 x2 x3 x4 c a3 w3 a4 w4 a5 w5 a6 w6 a7 w7 1408 inb_S1x2048x128_S1x128x128_0_1408_0 x
  · exact piece x0 x1 x2 x3 x4 c a3 w3 a4 w4 a5 w5 a6 w6 a7 w7 1280 inb_S1x2048x128_S1x128x128_0_1280_0 x
  · exact piece x0 x1 x2 x3 x4 c a3 w3 a4 w4 a5 w5 a6 w6 a7 w7 1152 inb_S1x2048x128_S1x128x128_0_1152_0 x
  · exact piece x0 x1 x2 x3 x4 c a3 w3 a4 w4 a5 w5 a6 w6 a7 w7 1024 inb_S1x2048x128_S1x128x128_0_1024_0 x
  · exact piece x0 x1 x2 x3 x4 c a3 w3 a4 w4 a5 w5 a6 w6 a7 w7 896 inb_S1x2048x128_S1x128x128_0_896_0 x
  · exact piece x0 x1 x2 x3 x4 c a3 w3 a4 w4 a5 w5 a6 w6 a7 w7 768 inb_S1x2048x128_S1x128x128_0_768_0 x
  · exact piece x0 x1 x2 x3 x4 c a3 w3 a4 w4 a5 w5 a6 w6 a7 w7 640 inb_S1x2048x128_S1x128x128_0_640_0 x
  · exact piece x0 x1 x2 x3 x4 c a3 w3 a4 w4 a5 w5 a6 w6 a7 w7 512 inb_S1x2048x128_S1x128x128_0_512_0 x
  · exact piece x0 x1 x2 x3 x4 c a3 w3 a4 w4 a5 w5 a6 w6 a7 w7 384 inb_S1x2048x128_S1x128x128_0_384_0 x
  · exact piece x0 x1 x2 x3 x4 c a3 w3 a4 w4 a5 w5 a6 w6 a7 w7 256 inb_S1x2048x128_S1x128x128_0_256_0 x
  · exact piece x0 x1 x2 x3 x4 c a3 w3 a4 w4 a5 w5 a6 w6 a7 w7 128 inb_S1x2048x128_S1x128x128_0_128_0 x
  · exact piece x0 x1 x2 x3 x4 c a3 w3 a4 w4 a5 w5 a6 w6 a7 w7 0 inb_S1x2048x128_S1x128x128_0_0_0 x

end Cert.DiffBlock

end
-- ==== Proof.DiffMath.lean ====
/- The difference of two rows of attention over the same values, as the kernel and as its reference write it. -/
module

public import proofs.«01_k».proof.Proof.Softmax

@[expose] public section

noncomputable section

namespace Cert.DiffMath

open Cert.Softmax Idealize.ShloMosaic

/-- The softmax of an eighth of the scores. -/
def soft {ι : Type} [Fintype ι] (t : ι → EReal) (i : ι) : EReal :=
  let m := (Finset.univ : Finset ι).fold max (⊥ : EReal) (fun i => t i * ((1 / 8 : ℝ) : EReal))
  Ideal.div (Ideal.exp (t i * ((1 / 8 : ℝ) : EReal) - m)) (∑ j, Ideal.exp (t j * ((1 / 8 : ℝ) : EReal) - m))

/-- For scores that are real numbers it is a real number. -/
theorem soft_real {ι : Type} [Fintype ι] [Nonempty ι] (t : ι → ℝ) (i : ι) : ∃ p : ℝ, soft (fun i => (t i : EReal)) i = (p : EReal) := by
  obtain ⟨M, hM⟩ := exists_fold_max t
  unfold soft
  simp only [fold_max_mul _ _ _ (show (0 : ℝ) < 1 / 8 by norm_num), hM]
  have he : ∀ i, Ideal.exp ((t i : EReal) * ((1 / 8 : ℝ) : EReal) - (M : EReal) * ((1 / 8 : ℝ) : EReal))
      = ((Real.exp (t i * (1 / 8) - M * (1 / 8)) : ℝ) : EReal) := fun i => by
    rw [← EReal.coe_mul, ← EReal.coe_mul, ← EReal.coe_sub, Ideal.exp_coe]
  simp only [he, sum_coe]
  generalize hL : (∑ i, Real.exp (t i * (1 / 8) - M * (1 / 8))) = L
  have hLpos : 0 < L := hL ▸ Finset.sum_pos (fun i _ => Real.exp_pos _) Finset.univ_nonempty
  have hL0 : ((L : ℝ) : EReal) ≠ 0 := EReal.coe_ne_zero.mpr hLpos.ne'
  simp only [Ideal.div, if_neg hL0]
  rw [← EReal.coe_inv, ← EReal.coe_mul]
  exact ⟨_, rfl⟩

/-- Subtracting a multiple of one row of attention from another is attention with the difference of the two softmaxes,
    where the scores, the values and the factor are real numbers. -/
theorem diff_row {ι : Type} [Fintype ι] [Nonempty ι] (t u v : ι → ℝ) (c : ℝ) :
    kernelRow (fun i => (t i : EReal)) (fun i => (v i : EReal)) - (c : EReal) * kernelRow (fun i => (u i : EReal)) (fun i => (v i : EReal))
      = ∑ i, (v i : EReal) * (soft (fun i => (t i : EReal)) i - (c : EReal) * soft (fun i => (u i : EReal)) i) := by
  rw [kernelRow_eq, kernelRow_eq]
  show (∑ i, (v i : EReal) * soft (fun i => (t i : EReal)) i) - (c : EReal) * (∑ i, (v i : EReal) * soft (fun i => (u i : EReal)) i) = _
  choose p hp using soft_real t
  choose w hw using soft_real u
  simp only [hp, hw, ← EReal.coe_mul, ← EReal.coe_sub, sum_coe]
  congr 1
  rw [Finset.mul_sum, ← Finset.sum_sub_distrib]
  exact Finset.sum_congr rfl fun i _ => by ring

end Cert.DiffMath

end
-- ==== Proof.DiffRef.lean ====
/- The reference of the differential attention read at an index. -/
module

public import proofs.«01_k».proof.Proof.DiffMath
public import proofs.«01_k».proof.Proof.DiffTile
public import proofs.«01_k».proof.Proof.GqaRef
public import proofs.«01_k».proof.Proof.Gen.Reference6Ideal.Read
public import Idealize.ShloMosaic.Lib.ValueIdx
public import Idealize.ShloMosaic.Lib.IdealHost

@[expose] public section

noncomputable section

namespace Cert.DiffRef

open Cert.Reference6Ideal Cert.Reference6Ideal.Gen Cert.Reference6Ideal.Read Cert.Softmax Cert.DiffMath Idealize.ShloMosaic Idealize.ShloMosaic.ValueIdx

variable (q k : Vec Ideal S32x2048x16x64 .f32) (v : Vec Ideal S32x2048x8x128 .f32) (a1 a2 a3 a4 : Vec Ideal S64 .f32) (g : Vec Ideal S128 .f32)

/-- The score of query row `r` against key row `s`, in head `c` of the pair `h`. -/
def score (b : Fin 32) (h : Fin 8) (c : Fin 2) (r s : Fin 2048) : EReal :=
  ∑ d : Fin 64, q (ix4 b r ⟨2 * h.val + c.val, by omega⟩ d) * k (ix4 b s ⟨2 * h.val + c.val, by omega⟩ d)

theorem v0_apply (q : Vec Ideal S32x2048x16x64 .f32) (b : Fin 32) (r : Fin 2048) (h : Fin 8) (c : Fin 2) (d : Fin 64) :
    val_main_v0 (F := Ideal) q (ix5 b r h c d) = q (ix4 b r ⟨2 * h.val + c.val, by omega⟩ d) := by
  rw [val_main_v0_apply]
  refine congrArg q (funext fun a => Fin.ext ?_)
  have := b.isLt; have := h.isLt; have := c.isLt; have := r.isLt; have := d.isLt
  match a with
  | ⟨0, _⟩ => show ((((b.val * 2048 + r.val) * 8 + h.val) * 2 + c.val) * 64 + d.val) / 2097152 = b.val; omega
  | ⟨1, _⟩ => show ((((b.val * 2048 + r.val) * 8 + h.val) * 2 + c.val) * 64 + d.val) / 1024 % 2048 = r.val; omega
  | ⟨2, _⟩ => show ((((b.val * 2048 + r.val) * 8 + h.val) * 2 + c.val) * 64 + d.val) / 64 % 16 = 2 * h.val + c.val; omega
  | ⟨3, _⟩ => show ((((b.val * 2048 + r.val) * 8 + h.val) * 2 + c.val) * 64 + d.val) % 64 = d.val; omega

theorem v2_apply (b : Fin 32) (h : Fin 8) (c : Fin 2) (r s : Fin 2048) :
    val_main_v2 (F := Ideal) q k (ix5 b h c r s) = score q k b h c r s := by
  rw [val_main_v2_apply]
  refine Finset.sum_congr rfl fun d _ => congrArg₂ (fun x y : EReal => x * y) ?_ ?_
  · refine (congrArg (val_main_v0 (F := Ideal) q) (funext fun a => ?_)).trans (v0_apply q b r h c d)
    match a with
    | ⟨0, _⟩ => rfl
    | ⟨1, _⟩ => rfl
    | ⟨2, _⟩ => rfl
    | ⟨3, _⟩ => rfl
    | ⟨4, _⟩ => rfl
  · refine (congrArg (val_main_v0 (F := Ideal) k) (funext fun a => ?_)).trans (v0_apply k b s h c d)
    match a with
    | ⟨0, _⟩ => rfl
    | ⟨1, _⟩ => rfl
    | ⟨2, _⟩ => rfl
    | ⟨3, _⟩ => rfl
    | ⟨4, _⟩ => rfl

theorem v4_apply (b : Fin 32) (h : Fin 8) (c : Fin 2) (r s : Fin 2048) :
    val_main_v4 (F := Ideal) q k (ix5 b h c r s) = score q k b h c r s * ((1 / 8 : ℝ) : EReal) := by
  rw [val_main_v4_apply, v2_apply, val_main_v3_apply]
  exact congrArg (score q k b h c r s * ·) GqaRef.eighth

/-- The maximum of a row of scores. -/
theorem v5_apply (b : Fin 32) (h : Fin 8) (c : Fin 2) (r : Fin 2048) :
    val_main_v5 (F := Ideal) q k (ix4 b h c r)
      = (Finset.univ : Finset (Fin 2048)).fold max (⊥ : EReal) (fun s => score q k b h c r s * ((1 / 8 : ℝ) : EReal)) := by
  unfold val_main_v5
  have hr : S32x8x2x2048x2048.Reduces [4] S32x8x2x2048 := by decide
  refine (Host.reduce_eq_fold_single (max : EReal → EReal → EReal) (val_main_v4 (F := Ideal) q k) (val_main_cst_0 (F := Ideal)) reducesTo_S32x8x2x2048x2048_S32x8x2x2048_d4 hr _ (ix4 b h c r)).trans ?_
  have hb : val_main_cst_0 (F := Ideal) (Shape.Idx.first h_S_) = (⊥ : EReal) := by
    show Ideal.ofBits .f32 0xFF800000#32 = ⊥
    simp [Ideal.ofBits, Ideal.ieee]
  rw [hb]
  refine congrArg (fun f => (Finset.univ : Finset (Fin 2048)).fold max (⊥ : EReal) f) (funext fun s => ?_)
  refine (congrArg (val_main_v4 (F := Ideal) q k) (funext fun a => Fin.ext ?_)).trans (v4_apply q k b h c r s)
  match a with
  | ⟨0, _⟩ => rfl
  | ⟨1, _⟩ => rfl
  | ⟨2, _⟩ => rfl
  | ⟨3, _⟩ => rfl
  | ⟨4, _⟩ => rfl

/-- The exponential of a score less its row's maximum. -/
theorem v11_apply (b : Fin 32) (h : Fin 8) (c : Fin 2) (r s : Fin 2048) :
    val_main_v11 (F := Ideal) q k (ix5 b h c r s)
      = Ideal.exp (score q k b h c r s * ((1 / 8 : ℝ) : EReal) - (Finset.univ : Finset (Fin 2048)).fold max (⊥ : EReal) (fun s => score q k b h c r s * ((1 / 8 : ℝ) : EReal))) := by
  rw [val_main_v11_apply, val_main_v10_apply, v4_apply, val_main_v9_apply, val_main_v8_apply, val_main_v7_apply, val_main_v6_apply]
  have e : idx_main_v8 (idx_main_v9 (ix5 b h c r s)) = ix4 b h c r := funext fun
    | ⟨0, _⟩ => rfl | ⟨1, _⟩ => rfl | ⟨2, _⟩ => rfl | ⟨3, _⟩ => rfl
  rw [e, v5_apply]
  have hb : Ideal.ofBits .f32 0xFF800000#32 = (⊥ : EReal) := by simp [Ideal.ofBits, Ideal.ieee]
  show Ideal.exp (_ - max (Ideal.ofBits .f32 0xFF800000#32) _) = _
  rw [hb, max_eq_right bot_le]

/-- The softmax of a row of scores. -/
theorem v15_apply (b : Fin 32) (h : Fin 8) (c : Fin 2) (r s : Fin 2048) :
    val_main_v15 (F := Ideal) q k (ix5 b h c r s) = soft (fun s => score q k b h c r s) s := by
  rw [val_main_v15_apply, val_main_v14_apply, val_main_v13_apply, val_main_v12_apply]
  have e : ∀ i, idx_main_v12 (idx_main_v13 (idx_main_v14 (ix5 b h c r s))) i = ix5 b h c r i := fun i => funext fun
    | ⟨0, _⟩ => rfl | ⟨1, _⟩ => rfl | ⟨2, _⟩ => rfl | ⟨3, _⟩ => rfl | ⟨4, _⟩ => rfl
  have h0 : val_main_cst_2 (F := Ideal) (Shape.Idx.first h_S_) = (0 : EReal) := Ideal.ofBits_zero_f32
  simp only [e, h0, zero_add, v11_apply]
  rfl

/-- The softmax of the first head of a pair, and of the second. -/
theorem v17_apply (b : Fin 32) (h : Fin 8) (r s : Fin 2048) :
    val_main_v17 (F := Ideal) q k (ix4 b h r s) = soft (fun s => score q k b h 0 r s) s := by
  rw [val_main_v17_apply, val_main_v16_apply, ← v15_apply]
  refine congrArg (val_main_v15 (F := Ideal) q k) (funext fun a => Fin.ext ?_)
  have := b.isLt; have := h.isLt; have := r.isLt; have := s.isLt
  match a with
  | ⟨0, _⟩ => show (((b.val * 8 + h.val) * 2048 + r.val) * 2048 + s.val) / 33554432 = b.val; omega
  | ⟨1, _⟩ => show (((b.val * 8 + h.val) * 2048 + r.val) * 2048 + s.val) / 4194304 % 8 = h.val; omega
  | ⟨2, _⟩ => rfl
  | ⟨3, _⟩ => show (((b.val * 8 + h.val) * 2048 + r.val) * 2048 + s.val) / 2048 % 2048 = r.val; omega
  | ⟨4, _⟩ => show (((b.val * 8 + h.val) * 2048 + r.val) * 2048 + s.val) % 2048 = s.val; omega

theorem v27_apply (b : Fin 32) (h : Fin 8) (r s : Fin 2048) :
    val_main_v27 (F := Ideal) q k (ix4 b h r s) = soft (fun s => score q k b h 1 r s) s := by
  rw [val_main_v27_apply, val_main_v26_apply, ← v15_apply]
  refine congrArg (val_main_v15 (F := Ideal) q k) (funext fun a => Fin.ext ?_)
  have := b.isLt; have := h.isLt; have := r.isLt; have := s.isLt
  match a with
  | ⟨0, _⟩ => show (((b.val * 8 + h.val) * 2048 + r.val) * 2048 + s.val) / 33554432 = b.val; omega
  | ⟨1, _⟩ => show (((b.val * 8 + h.val) * 2048 + r.val) * 2048 + s.val) / 4194304 % 8 = h.val; omega
  | ⟨2, _⟩ => rfl
  | ⟨3, _⟩ => show (((b.val * 8 + h.val) * 2048 + r.val) * 2048 + s.val) / 2048 % 2048 = r.val; omega
  | ⟨4, _⟩ => show (((b.val * 8 + h.val) * 2048 + r.val) * 2048 + s.val) % 2048 = s.val; omega

/-- The factor of the second head. -/
def lam : EReal := val_main_v25 (F := Ideal) a1 a2 a3 a4 ix0

/-- Attention with the difference of the two softmaxes. -/
def mixRow (b : Fin 32) (h : Fin 8) (r : Fin 2048) (e : Fin 128) : EReal :=
  ∑ s : Fin 2048, v (ix4 b s h e) * (soft (fun s => score q k b h 0 r s) s - lam a1 a2 a3 a4 * soft (fun s => score q k b h 1 r s) s)

theorem v32_apply (b : Fin 32) (r : Fin 2048) (h : Fin 8) (e : Fin 128) :
    val_main_v32 (F := Ideal) q k v a1 a2 a3 a4 (ix4 b r h e) = mixRow q k v a1 a2 a3 a4 b h r e := by
  rw [val_main_v32_apply, val_main_v31_apply]
  unfold mixRow
  refine Finset.sum_congr rfl fun s _ => congrArg₂ (fun x y : EReal => x * y) (congrArg v (funext fun a => ?_)) ?_
  · match a with
    | ⟨0, _⟩ => rfl
    | ⟨1, _⟩ => rfl
    | ⟨2, _⟩ => rfl
    | ⟨3, _⟩ => rfl
  · have e : ridx_main_v31 (idx_main_v32 (ix4 b r h e)) s = ix4 b h r s := funext fun
      | ⟨0, _⟩ => rfl | ⟨1, _⟩ => rfl | ⟨2, _⟩ => rfl | ⟨3, _⟩ => rfl
    rw [e, val_main_v30_apply, v17_apply, val_main_v29_apply, v27_apply, val_main_v28_apply]
    have e0 : idx_main_v28 (ix4 b h r s) = ix0 := funext fun a => a.elim0
    rw [e0]
    rfl

/-- The reference's result at an index: the mixed row, normed, times the gain. -/
theorem apply (b : Fin 32) (r : Fin 2048) (h : Fin 8) (e : Fin 128) :
    val_main_v49 (F := Ideal) q k v a1 a2 a3 a4 g (ix3 b r ⟨h.val * 128 + e.val, by omega⟩)
      = mixRow q k v a1 a2 a3 a4 b h r e * DiffTile.factor (mixRow q k v a1 a2 a3 a4 b h r) * g (ix1 e) * Ideal.ofBits .f32 0x3F4CCCCD#32 := by
  rw [val_main_v49_apply]
  show val_main_v48 (F := Ideal) q k v a1 a2 a3 a4 g (ix3 b r ⟨h.val * 128 + e.val, by omega⟩) = _
  have hidx : idx_main_v48 (ix3 b r ⟨h.val * 128 + e.val, by omega⟩) = ix4 b r h e := funext fun a => Fin.ext (by
    have := b.isLt; have := h.isLt; have := r.isLt; have := e.isLt
    match a with
    | ⟨0, _⟩ => show ((b.val * 2048 + r.val) * 1024 + (h.val * 128 + e.val)) / 2097152 = b.val; omega
    | ⟨1, _⟩ => show ((b.val * 2048 + r.val) * 1024 + (h.val * 128 + e.val)) / 1024 % 2048 = r.val; omega
    | ⟨2, _⟩ => show ((b.val * 2048 + r.val) * 1024 + (h.val * 128 + e.val)) / 128 % 8 = h.val; omega
    | ⟨3, _⟩ => show ((b.val * 2048 + r.val) * 1024 + (h.val * 128 + e.val)) % 128 = e.val; omega)
  rw [val_main_v48_apply, hidx, val_main_v47_apply, val_main_v46_apply, val_main_v45_apply, val_main_v44_apply, val_main_v43_apply, val_main_v42_apply,
    v32_apply, val_main_v41_apply, val_main_v40_apply, val_main_v39_apply, val_main_v38_apply, val_main_v37_apply, val_main_v36_apply, val_main_v35_apply,
    val_main_v34_apply]
  have hg : idx_main_v43 (idx_main_v44 (ix4 b r h e)) = ix1 e := funext fun | ⟨0, _⟩ => rfl
  have hi : ∀ c, idx_main_v34 (idx_main_v35 (idx_main_v41 (ix4 b r h e))) c = ix4 b r h c := fun c => funext fun
    | ⟨0, _⟩ => rfl | ⟨1, _⟩ => rfl | ⟨2, _⟩ => rfl | ⟨3, _⟩ => rfl
  have h0 : val_main_cst_6 (F := Ideal) (Shape.Idx.first h_S_) = (0 : EReal) := Ideal.ofBits_zero_f32
  simp only [hg, hi, h0, zero_add, val_main_v33_apply, v32_apply]
  rfl

end Cert.DiffRef

end
-- ==== Proof.DiffArray.lean ====
/- The differential attention kernel's whole result: every block's function is the reference's result there. -/
module

public import proofs.«01_k».proof.Proof.DiffBlock
public import proofs.«01_k».proof.Proof.DiffRef
public import proofs.«01_k».proof.Proof.Gen.Kernel6Ideal.Value
public import Idealize.ShloMosaic.Lib.Pipeline.ValueKit

@[expose] public section

noncomputable section

namespace Cert.DiffArray

open Cert.Kernel6Ideal Cert.Kernel6Ideal.Gen Cert.Softmax Cert.DiffBlock
open Idealize.ShloMosaic hiding ix1 ix2 ix3 ix4 ix5 truncf_apply
open Idealize.ShloMosaic.ValueIdx
open Idealize.ShloMosaic.TcCoe

variable (q k : Vec Ideal S32x2048x16x64 .f32) (v : Vec Ideal S32x2048x8x128 .f32)

/-- The array the kernel reads: queries, keys and values side by side. -/
def packed : Vec Ideal S32x2048x3072 .bf16 :=
  truncf .bf16 (concatenate S32x2048x3072 2 [⟨S32x2048x1024, shapeCast S32x2048x1024 q shapeCasts_S32x2048x16x64_S32x2048x1024⟩, ⟨S32x2048x1024, shapeCast S32x2048x1024 k shapeCasts_S32x2048x16x64_S32x2048x1024⟩, ⟨S32x2048x1024, shapeCast S32x2048x1024 v shapeCasts_S32x2048x8x128_S32x2048x1024⟩] concatenates_S32x2048x1024_S32x2048x1024_S32x2048x1024_S32x2048x3072_d2 : FVec Ideal S32x2048x3072 .f32) bitsLt_bf16_f32

theorem packed_q (b : Fin 32) (s : Fin 2048) (e : Fin 1024) :
    packed q k v (ix3 b s ⟨0 + e.val, by omega⟩) = q (ix4 b s ⟨e.val / 64, by omega⟩ ⟨e.val % 64, by omega⟩) := by
  unfold packed
  rw [truncf_apply]
  refine (concatenate_apply_piece (t := S32x2048x3072) 2 _ _ _ 0 (by simp) S32x2048x1024 _ rfl rfl 0 rfl (ix3 b s e) (fun x hx => match x with | ⟨0, _⟩ => rfl | ⟨1, _⟩ => rfl | ⟨2, _⟩ => absurd rfl hx) rfl).trans ?_
  exact shapeCast_apply q _ _ _ (by rw [Shape.rowMajor_val_four, Shape.rowMajor_val_three]; show ((b.val * 2048 + s.val) * 16 + e.val / 64) * 64 + e.val % 64 = (b.val * 2048 + s.val) * 1024 + e.val; omega)

theorem packed_k (b : Fin 32) (s : Fin 2048) (e : Fin 1024) :
    packed q k v (ix3 b s ⟨1024 + e.val, by omega⟩) = k (ix4 b s ⟨e.val / 64, by omega⟩ ⟨e.val % 64, by omega⟩) := by
  unfold packed
  rw [truncf_apply]
  refine (concatenate_apply_piece (t := S32x2048x3072) 2 _ _ _ 1 (by simp) S32x2048x1024 _ rfl rfl 1024 rfl (ix3 b s e) (fun x hx => match x with | ⟨0, _⟩ => rfl | ⟨1, _⟩ => rfl | ⟨2, _⟩ => absurd rfl hx) rfl).trans ?_
  exact shapeCast_apply k _ _ _ (by rw [Shape.rowMajor_val_four, Shape.rowMajor_val_three]; show ((b.val * 2048 + s.val) * 16 + e.val / 64) * 64 + e.val % 64 = (b.val * 2048 + s.val) * 1024 + e.val; omega)

theorem packed_v (b : Fin 32) (s : Fin 2048) (e : Fin 1024) :
    packed q k v (ix3 b s ⟨2048 + e.val, by omega⟩) = v (ix4 b s ⟨e.val / 128, by omega⟩ ⟨e.val % 128, by omega⟩) := by
  unfold packed
  rw [truncf_apply]
  refine (concatenate_apply_piece (t := S32x2048x3072) 2 _ _ _ 2 (by simp) S32x2048x1024 _ rfl rfl 2048 rfl (ix3 b s e) (fun x hx => match x with | ⟨0, _⟩ => rfl | ⟨1, _⟩ => rfl | ⟨2, _⟩ => absurd rfl hx) rfl).trans ?_
  exact shapeCast_apply v _ _ _ (by rw [Shape.rowMajor_val_four, Shape.rowMajor_val_three]; show ((b.val * 2048 + s.val) * 8 + e.val / 128) * 128 + e.val % 128 = (b.val * 2048 + s.val) * 1024 + e.val; omega)

variable (m : (ℓ : Loc nD τ sig) → Buf (Elt Ideal) ℓ)

/-- The host prepares that array from the arguments. -/
theorem V_packed (c : Dev nD) :
    V m c main_v13 = packed (m (c.tc.loc main_arg0)) (m (c.tc.loc main_arg1)) (m (c.tc.loc main_arg2)) := by
  show StableHlo.after hostOps0 _ (Proc.devRef .tc main_v13) = _
  after_results
  rfl

/-- And the factor of the second heads, as the reference computes it. -/
theorem V_lam (c : Dev nD) :
    V m c main_v12 (ix1 0) = DiffRef.lam (m (c.tc.loc main_arg3)) (m (c.tc.loc main_arg4)) (m (c.tc.loc main_arg5)) (m (c.tc.loc main_arg6)) := by
  have h : V m c main_v12 = shapeCast S1 (Reference6Ideal.Read.val_main_v25 (F := Ideal) (m (c.tc.loc main_arg3)) (m (c.tc.loc main_arg4)) (m (c.tc.loc main_arg5)) (m (c.tc.loc main_arg6))) shapeCasts_S_S1 := by
    show StableHlo.after hostOps0 _ (Proc.devRef .tc main_v12) = _
    after_results
    rfl
  rw [h]
  exact shapeCast_apply _ _ _ _ rfl

/-- The gain of a channel, times the constant. -/
def gain (g : Vec Ideal S128 .f32) (e : Fin 128) : EReal := g (ix1 e) * Ideal.ofBits .f32 0x3F4CCCCD#32

/-- And the gain, times the constant. -/
theorem V_gain (c : Dev nD) (e : Fin 128) :
    V m c main_v16 (ix2 0 e) = gain (m (c.tc.loc main_arg7)) e := by
  have h : V m c main_v16 = shapeCast S1x128 (mulf (F := Ideal) (φ := .f32) (m (c.tc.loc main_arg7)) (broadcastInDim S128 ![] bcast_S_S128 (constant S_ .f32 0x3F4CCCCD#32)) : FVec Ideal S128 .f32) shapeCasts_S128_S1x128 := by
    show StableHlo.after hostOps0 _ (Proc.devRef .tc main_v16) = _
    after_results
    rfl
  rw [h, shapeCast_apply _ shapeCasts_S128_S1x128 (ix2 0 e) (ix1 e) (by rw [Shape.rowMajor_val_two, Shape.rowMajor_val_one]; show e.val = 0 * 128 + e.val; omega)]
  rfl

theorem index0 : ∀ t : Fin cfg0.N, win0_0.index t = ![0] :=
  (by decide +kernel : ∀ t : Fin grid0.N, win0_0.index t = ![0])
theorem index1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem index2 : ∀ t : Fin cfg0.N, win0_2.index t = ![(grid0.coords t 0).val, 0, 8 + (grid0.coords t 1).val] :=
  (by decide +kernel : ∀ t : Fin grid0.N, win0_2.index t = ![(grid0.coords t 0).val, 0, 8 + (grid0.coords t 1).val])
theorem index3 : ∀ t : Fin cfg0.N, win0_3.index t = ![(grid0.coords t 0).val, 0, 16 + (grid0.coords t 1).val] :=
  (by decide +kernel : ∀ t : Fin grid0.N, win0_3.index t = ![(grid0.coords t 0).val, 0, 16 + (grid0.coords t 1).val])
theorem index4 : ∀ t : Fin cfg0.N, win0_4.index t = ![0, 0] :=
  (by decide +kernel : ∀ t : Fin grid0.N, win0_4.index t = ![0, 0])
theorem index5 : ∀ t : Fin cfg0.N, win0_5.index t = ![(grid0.coords t 0).val, 0, (grid0.coords t 1).val] :=
  (by decide +kernel : ∀ t : Fin grid0.N, win0_5.index t = ![(grid0.coords t 0).val, 0, (grid0.coords t 1).val])

/-- The sequence a point works on, and its pair of heads. -/
def seqOf (t : Fin cfg0.N) : Fin 32 := grid0.coords t 0
def pairOf (t : Fin cfg0.N) : Fin 8 := grid0.coords t 1

theorem lam_block (c : Dev nD) (t : Fin cfg0.N) : iblk m c 0 t (ix1 0) = V m c main_v12 (ix1 0) := by
  blk_simp [iblk]
  refine congrArg (V m c main_v12) (funext fun a => Fin.ext ?_)
  match a with
  | ⟨0, _⟩ => blk_simp [index0]

theorem q_block (c : Dev nD) (t : Fin cfg0.N) (s : Fin 2048) (e : Fin 128) :
    iblk m c 1 t (ix3 0 s e) = V m c main_v13 (ix3 (seqOf t) s ⟨0 + ((pairOf t).val * 128 + e.val), by omega⟩) := by
  blk_simp [iblk]
  refine congrArg (V m c main_v13) (funext fun a => Fin.ext ?_)
  match a with
  | ⟨0, _⟩ => blk_simp [index1]; rfl
  | ⟨1, _⟩ => blk_simp [index1]
  | ⟨2, _⟩ => blk_simp [index1]; rfl

theorem k_block (c : Dev nD) (t : Fin cfg0.N) (s : Fin 2048) (e : Fin 128) :
    iblk m c 2 t (ix3 0 s e) = V m c main_v13 (ix3 (seqOf t) s ⟨1024 + ((pairOf t).val * 128 + e.val), by omega⟩) := by
  blk_simp [iblk]
  refine congrArg (V m c main_v13) (funext fun a => Fin.ext ?_)
  match a with
  | ⟨0, _⟩ => blk_simp [index2]; rfl
  | ⟨1, _⟩ => blk_simp [index2]
  | ⟨2, _⟩ => blk_simp [index2]; show (8 + (pairOf t).val) * 128 + e.val = 1024 + ((pairOf t).val * 128 + e.val); omega

theorem v_block (c : Dev nD) (t : Fin cfg0.N) (s : Fin 2048) (e : Fin 128) :
    iblk m c 3 t (ix3 0 s e) = V m c main_v13 (ix3 (seqOf t) s ⟨2048 + ((pairOf t).val * 128 + e.val), by omega⟩) := by
  blk_simp [iblk]
  refine congrArg (V m c main_v13) (funext fun a => Fin.ext ?_)
  match a with
  | ⟨0, _⟩ => blk_simp [index3]; rfl
  | ⟨1, _⟩ => blk_simp [index3]
  | ⟨2, _⟩ => blk_simp [index3]; show (16 + (pairOf t).val) * 128 + e.val = 2048 + ((pairOf t).val * 128 + e.val); omega

theorem gain_block (c : Dev nD) (t : Fin cfg0.N) (e : Fin 128) : iblk m c 4 t (ix2 0 e) = V m c main_v16 (ix2 0 e) := by
  blk_simp [iblk]
  refine congrArg (V m c main_v16) (funext fun a => Fin.ext ?_)
  match a with
  | ⟨0, _⟩ => blk_simp [index4]
  | ⟨1, _⟩ => blk_simp [index4]

/-- Every query and every key a real number: the scores are real numbers. -/
theorem score_real (hq : ∀ i, ∃ x : ℝ, q i = (x : EReal)) (hk : ∀ i, ∃ x : ℝ, k i = (x : EReal)) (b : Fin 32) (h : Fin 8) (c : Fin 2) (r s : Fin 2048) :
    ∃ x : ℝ, DiffRef.score q k b h c r s = (x : EReal) := by
  choose q' hq' using hq
  choose k' hk' using hk
  refine ⟨∑ d : Fin 64, q' (ix4 b r ⟨2 * h.val + c.val, by omega⟩ d) * k' (ix4 b s ⟨2 * h.val + c.val, by omega⟩ d), ?_⟩
  unfold DiffRef.score
  simp only [hq', hk', ← EReal.coe_mul, sum_coe]

/-- The exponential of a sum of products of real numbers is a real number. -/
theorem exp_dot_real (x y : Vec Ideal S64 .f32) (hx : ∀ i, ∃ a : ℝ, x i = (a : EReal)) (hy : ∀ i, ∃ a : ℝ, y i = (a : EReal)) :
    ∃ a : ℝ, Ideal.exp (0 + ∑ j : S64.Idx, x j * y j : EReal) = (a : EReal) := by
  choose x' hx' using hx
  choose y' hy' using hy
  refine ⟨Real.exp (∑ j : S64.Idx, x' j * y' j), ?_⟩
  simp only [hx', hy', ← EReal.coe_mul, sum_coe, zero_add, Ideal.exp_coe]

/-- The factor of the second heads is a real number. -/
theorem lam_real (a1 a2 a3 a4 : Vec Ideal S64 .f32) (h1 : ∀ i, ∃ a : ℝ, a1 i = (a : EReal)) (h2 : ∀ i, ∃ a : ℝ, a2 i = (a : EReal))
    (h3 : ∀ i, ∃ a : ℝ, a3 i = (a : EReal)) (h4 : ∀ i, ∃ a : ℝ, a4 i = (a : EReal)) : ∃ a : ℝ, DiffRef.lam a1 a2 a3 a4 = (a : EReal) := by
  obtain ⟨x, hx⟩ := exp_dot_real a1 a2 h1 h2
  obtain ⟨y, hy⟩ := exp_dot_real a3 a4 h3 h4
  have hc : ∃ z : ℝ, Ideal.ofBits .f32 0x3E4CCCCD#32 = (z : EReal) := by
    simp [Ideal.ofBits, Ideal.ieee]
    exact ⟨_, (EReal.coe_mul _ _).symm⟩
  obtain ⟨z, hz⟩ := hc
  refine ⟨x - y + z, ?_⟩
  have e : DiffRef.lam a1 a2 a3 a4 = Ideal.exp (Ideal.ofBits .f32 0x00000000#32 + ∑ j : S64.Idx, a1 j * a2 j) - Ideal.exp (Ideal.ofBits .f32 0x00000000#32 + ∑ j : S64.Idx, a3 j * a4 j) + Ideal.ofBits .f32 0x3E4CCCCD#32 := by
    unfold DiffRef.lam
    rw [Reference6Ideal.Read.val_main_v25_apply, Reference6Ideal.Read.val_main_v24_apply, Reference6Ideal.Read.val_main_v20_apply, Reference6Ideal.Read.val_main_v23_apply,
      Reference6Ideal.Read.val_main_v19_apply, Reference6Ideal.Read.val_main_v22_apply]
    rfl
  rw [e, Ideal.ofBits_zero_f32, hx, hy, hz, ← EReal.coe_sub, ← EReal.coe_add]

/-- A block's function of its blocks is the reference's result there, where all but the gain are real numbers. -/
theorem block_value (A0 A1 : Vec Ideal S32x2048x16x64 .f32) (A2 : Vec Ideal S32x2048x8x128 .f32) (A3 A4 A5 A6 : Vec Ideal S64 .f32) (A7 : Vec Ideal S128 .f32)
    (h0 : ∀ i, ∃ x : ℝ, A0 i = (x : EReal)) (h1 : ∀ i, ∃ x : ℝ, A1 i = (x : EReal)) (h2 : ∀ i, ∃ x : ℝ, A2 i = (x : EReal))
    (hl : ∃ x : ℝ, DiffRef.lam A3 A4 A5 A6 = (x : EReal))
    (L : Vec Ideal S1 .f32) (Q K W : Vec Ideal S1x2048x128 .bf16) (G : Vec Ideal S1x128 .f32) (b : Fin 32) (h : Fin 8)
    (hL : L (ix1 0) = DiffRef.lam A3 A4 A5 A6)
    (hQ : ∀ (s : Fin 2048) (e : Fin 128), Q (ix3 0 s e) = packed A0 A1 A2 (ix3 b s ⟨0 + (h.val * 128 + e.val), by omega⟩))
    (hK : ∀ (s : Fin 2048) (e : Fin 128), K (ix3 0 s e) = packed A0 A1 A2 (ix3 b s ⟨1024 + (h.val * 128 + e.val), by omega⟩))
    (hW : ∀ (s : Fin 2048) (e : Fin 128), W (ix3 0 s e) = packed A0 A1 A2 (ix3 b s ⟨2048 + (h.val * 128 + e.val), by omega⟩))
    (hG : ∀ e : Fin 128, G (ix2 0 e) = gain A7 e)
    (r : Fin 2048) (l : Fin 128) :
    blockVal L Q K W G (ix3 0 r l)
      = Reference6Ideal.Read.val_main_v49 (F := Ideal) A0 A1 A2 A3 A4 A5 A6 A7 (ix3 b r ⟨h.val * 128 + l.val, by omega⟩) := by
  have hh := h.isLt
  have hs0 : ∀ s : Fin 2048, (∑ d : Fin 64, Q (ix3 0 r ⟨d.val, by omega⟩) * K (ix3 0 s ⟨d.val, by omega⟩)) = DiffRef.score A0 A1 b h 0 r s := fun s => by
    unfold DiffRef.score
    refine Finset.sum_congr rfl fun d _ => ?_
    have hd := d.isLt
    rw [hQ, hK, packed_q A0 A1 A2 b r ⟨h.val * 128 + d.val, by omega⟩, packed_k A0 A1 A2 b s ⟨h.val * 128 + d.val, by omega⟩]
    refine congrArg₂ (fun x y => A0 x * A1 y) (funext fun a => Fin.ext ?_) (funext fun a => Fin.ext ?_)
    · match a with
      | ⟨0, _⟩ => rfl
      | ⟨1, _⟩ => rfl
      | ⟨2, _⟩ => show (h.val * 128 + d.val) / 64 = 2 * h.val + 0; omega
      | ⟨3, _⟩ => show (h.val * 128 + d.val) % 64 = d.val; omega
    · match a with
      | ⟨0, _⟩ => rfl
      | ⟨1, _⟩ => rfl
      | ⟨2, _⟩ => show (h.val * 128 + d.val) / 64 = 2 * h.val + 0; omega
      | ⟨3, _⟩ => show (h.val * 128 + d.val) % 64 = d.val; omega
  have hs1 : ∀ s : Fin 2048, (∑ d : Fin 64, Q (ix3 0 r ⟨64 + d.val, by omega⟩) * K (ix3 0 s ⟨64 + d.val, by omega⟩)) = DiffRef.score A0 A1 b h 1 r s := fun s => by
    unfold DiffRef.score
    refine Finset.sum_congr rfl fun d _ => ?_
    have hd := d.isLt
    rw [hQ, hK, packed_q A0 A1 A2 b r ⟨h.val * 128 + (64 + d.val), by omega⟩, packed_k A0 A1 A2 b s ⟨h.val * 128 + (64 + d.val), by omega⟩]
    refine congrArg₂ (fun x y => A0 x * A1 y) (funext fun a => Fin.ext ?_) (funext fun a => Fin.ext ?_)
    · match a with
      | ⟨0, _⟩ => rfl
      | ⟨1, _⟩ => rfl
      | ⟨2, _⟩ => show (h.val * 128 + (64 + d.val)) / 64 = 2 * h.val + 1; omega
      | ⟨3, _⟩ => show (h.val * 128 + (64 + d.val)) % 64 = d.val; omega
    · match a with
      | ⟨0, _⟩ => rfl
      | ⟨1, _⟩ => rfl
      | ⟨2, _⟩ => show (h.val * 128 + (64 + d.val)) / 64 = 2 * h.val + 1; omega
      | ⟨3, _⟩ => show (h.val * 128 + (64 + d.val)) % 64 = d.val; omega
  have hv : ∀ (s : Fin 2048) (e : Fin 128), W (ix3 0 s e) = A2 (ix4 b s h e) := fun s e => by
    have he := e.isLt
    rw [hW, packed_v A0 A1 A2 b s ⟨h.val * 128 + e.val, by omega⟩]
    refine congrArg A2 (funext fun a => Fin.ext ?_)
    match a with
    | ⟨0, _⟩ => rfl
    | ⟨1, _⟩ => rfl
    | ⟨2, _⟩ => show (h.val * 128 + e.val) / 128 = h.val; omega
    | ⟨3, _⟩ => show (h.val * 128 + e.val) % 128 = e.val; omega
  have hrow : rowAt L Q K W r = DiffRef.mixRow A0 A1 A2 A3 A4 A5 A6 b h r := by
    funext e
    unfold rowAt DiffTile.mixRow DiffRef.mixRow
    simp only [hs0, hs1, hv]
    rw [hL]
    obtain ⟨z, hz⟩ := hl
    choose x hx using fun s => score_real A0 A1 h0 h1 b h 0 r s
    choose y hy using fun s => score_real A0 A1 h0 h1 b h 1 r s
    choose w hw using h2
    simp only [hx, hy, hw, hz]
    exact DiffMath.diff_row x y (fun s => w (ix4 b s h e)) z
  rw [DiffRef.apply]
  show rowAt L Q K W r l * DiffTile.factor (rowAt L Q K W r) * G (ix2 0 l) = _
  rw [hrow, hG]
  exact (mul_assoc _ _ _).symm

/-- What the kernel leaves is the reference's result, where all but the gain are real numbers. -/
theorem final (c : Dev nD)
    (h0 : ∀ i, ∃ x : ℝ, m (c.tc.loc main_arg0) i = (x : EReal)) (h1 : ∀ i, ∃ x : ℝ, m (c.tc.loc main_arg1) i = (x : EReal))
    (h2 : ∀ i, ∃ x : ℝ, m (c.tc.loc main_arg2) i = (x : EReal)) (h3 : ∀ i, ∃ x : ℝ, m (c.tc.loc main_arg3) i = (x : EReal))
    (h4 : ∀ i, ∃ x : ℝ, m (c.tc.loc main_arg4) i = (x : EReal)) (h5 : ∀ i, ∃ x : ℝ, m (c.tc.loc main_arg5) i = (x : EReal))
    (h6 : ∀ i, ∃ x : ℝ, m (c.tc.loc main_arg6) i = (x : EReal)) :
    (dats m 0 c).arrAt 5 cfg0.N
      = Reference6Ideal.Read.val_main_v49 (F := Ideal) (m (c.tc.loc main_arg0)) (m (c.tc.loc main_arg1)) (m (c.tc.loc main_arg2))
          (m (c.tc.loc main_arg3)) (m (c.tc.loc main_arg4)) (m (c.tc.loc main_arg5)) (m (c.tc.loc main_arg6)) (m (c.tc.loc main_arg7)) := by
  refine (dats m 0 c).arrAt_eq_of_covers 5 _ (by decide +kernel) fun t hf y => ?_
  blk_simp
  rw [after0_5]
  unfold outsAt0
  rw [out_eq]
  obtain ⟨r, l, rfl⟩ : ∃ (r : Fin 2048) (l : Fin 128), y = ix3 0 r l := ⟨y 1, y 2, funext fun
    | ⟨0, _⟩ => Subsingleton.elim (α := Fin 1) _ _ | ⟨1, _⟩ => rfl | ⟨2, _⟩ => rfl⟩
  have e : (win0_5.blk t).view.emb (ix3 0 r l) = ix3 (seqOf t) r ⟨(pairOf t).val * 128 + l.val, by omega⟩ := funext fun a => Fin.ext (by
    match a with
    | ⟨0, _⟩ => blk_simp [index5]; rfl
    | ⟨1, _⟩ => blk_simp [index5]
    | ⟨2, _⟩ => blk_simp [index5]; rfl)
  rw [e]
  exact block_value _ _ _ _ _ _ _ _ h0 h1 h2 (lam_real _ _ _ _ h3 h4 h5 h6) _ _ _ _ _ (seqOf t) (pairOf t)
    ((lam_block m c t).trans (V_lam m c))
    (fun s e => (q_block m c t s e).trans (congrFun (V_packed m c) _)) (fun s e => (k_block m c t s e).trans (congrFun (V_packed m c) _))
    (fun s e => (v_block m c t s e).trans (congrFun (V_packed m c) _)) (fun e => (gain_block m c t e).trans (V_gain m c e)) r l

end Cert.DiffArray

end
-- ==== Proof.Diff.lean ====
/- The claims of the differential attention call, from its blocks' values. -/
module

public import proofs.«01_k».proof.Defs
public import proofs.«01_k».proof.Proof.Gqa
public import proofs.«01_k».proof.Proof.DiffArray
public import proofs.«01_k».proof.Proof.Gen.Reference6Ideal.Run
public import Idealize.ShloMosaic.Lib.StableHlo.RunHlo

@[expose] public section

noncomputable section

namespace Cert.Diff

open Idealize.ShloMosaic Idealize.SL.Sem
open Cert.Gqa (real_of_cmp)

/-- The side conditions of the precondition's broadcasts. -/
theorem finite_facts : Cert.Pre_finite_args.Facts := ⟨by decide, by decide, by decide⟩

/-- The reference's run under the precondition leaves its arguments as they were and every counter at zero. -/
theorem frame_reference_finite [Cert.Pre_finite_args.Facts] : Cert.quiescent_Reference6Ideal_pre_finite_args := by
  intro m g _
  exact (θ_run _ _ _).mono (fun r h => ⟨fun c => (h c).2, sem_eq_zero_of_no_sems (by decide) r.2⟩)
    (Cert.Reference6Ideal.Value.run (F := Ideal) m g)

/-- The kernel's result is the reference's, where all but the gain are finite. -/
theorem algebraic [Cert.Pre_finite_args.Facts] : Cert.algebraic_Kernel6Ideal_Reference6Ideal_pre_finite_args := by
  intro m ρ m' ρ' hpre hag
  refine ⟨fun c => Cert.Reference6Ideal.Read.val_main_v49 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5))
      (m ((c.tc : Thread Cert.Kernel6Ideal.nD Cert.Kernel6Ideal.τ).loc Cert.Kernel6Ideal.main_arg6))
      (m ((c.tc : Thread Cert.Kernel6Ideal.nD Cert.Kernel6Ideal.τ).loc Cert.Kernel6Ideal.main_arg7)),
    (θ_run _ _ _).mono (fun _ h c => ⟨(h c).1.trans (DiffArray.final m c
        (fun i => real_of_cmp _ (congrFun (hpre c).1 i))
        (fun i => real_of_cmp _ (congrFun (hpre c).2.1 i))
        (fun i => real_of_cmp _ (congrFun (hpre c).2.2.1 i))
        (fun i => real_of_cmp _ (congrFun (hpre c).2.2.2.1 i))
        (fun i => real_of_cmp _ (congrFun (hpre c).2.2.2.2.1 i))
        (fun i => real_of_cmp _ (congrFun (hpre c).2.2.2.2.2.1 i))
        (fun i => real_of_cmp _ (congrFun (hpre c).2.2.2.2.2.2 i))), (h c).2⟩)
      (Cert.Kernel6Ideal.Value.run_blocks m ρ),
    (θ_run _ _ _).mono (fun _ h c => ⟨(h c).1.trans (by
        refine (Cert.Reference6Ideal.Read.val_main_v49_eq ..).trans ?_
        rw [(hag c).1, (hag c).2.1, (hag c).2.2.1, (hag c).2.2.2.1, (hag c).2.2.2.2.1, (hag c).2.2.2.2.2.1, (hag c).2.2.2.2.2.2.1, (hag c).2.2.2.2.2.2.2]), (h c).2⟩)
      (Cert.Reference6Ideal.Value.run m' ρ')⟩

end Cert.Diff

end
-- ==== Proof.lean ====
module

public import proofs.«01_k».proof.Defs
public import proofs.«01_k».proof.Proof.Gen.Kernel
public import proofs.«01_k».proof.Proof.Gen.Kernel.Frame
public import proofs.«01_k».proof.Proof.Gen.Kernel2
public import proofs.«01_k».proof.Proof.Gen.Kernel3
public import proofs.«01_k».proof.Proof.Gen.Kernel2.Frame
public import proofs.«01_k».proof.Proof.Gen.Kernel3.Frame
public import proofs.«01_k».proof.Proof.Gen.Kernel2Ideal
public import proofs.«01_k».proof.Proof.Gen.Kernel3Ideal
public import proofs.«01_k».proof.Proof.Gen.Kernel2Ideal.Frame
public import proofs.«01_k».proof.Proof.Gen.Kernel3Ideal.Frame
public import proofs.«01_k».proof.Proof.Gen.Reference2Ideal
public import proofs.«01_k».proof.Proof.Gen.Reference3Ideal
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Gen.Kernel2Ideal.Value
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Pre
public import proofs.«01_k».proof.Proof.Gen.Kernel10Ideal
public import proofs.«01_k».proof.Proof.Gen.Reference10Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gqa
public import proofs.«01_k».proof.Proof.Ffn
public import proofs.«01_k».proof.Proof.Sample
public import proofs.«01_k».proof.Proof.Out
public import proofs.«01_k».proof.Proof.Proj
public import proofs.«01_k».proof.Proof.Rope
public import proofs.«01_k».proof.Proof.Axial
public import proofs.«01_k».proof.Proof.Post
public import proofs.«01_k».proof.Proof.Diff

@[expose] public section

noncomputable section

namespace Cert.Proof

open Idealize.ShloMosaic Idealize.SL.Sem

/-- The run of the feed-forward reference leaves its arguments as they were and every counter at zero. -/
theorem frame_reference2 : Cert.quiescent_Reference2Ideal := by
  intro m g _
  exact (θ_run _ _ _).mono (fun r h => ⟨fun c => (h c).2, sem_eq_zero_of_no_sems (by decide) r.2⟩)
    (Cert.Reference2Ideal.Value.run (F := Ideal) m g)

/-- The same of the reference on the sample batch. -/
theorem frame_reference3 : Cert.quiescent_Reference3Ideal := by
  intro m g _
  exact (θ_run _ _ _).mono (fun r h => ⟨fun c => (h c).2, sem_eq_zero_of_no_sems (by decide) r.2⟩)
    (Cert.Reference3Ideal.Value.run (F := Ideal) m g)

/-- The same of the output projection's reference. -/
theorem frame_reference4 : Cert.quiescent_Reference4Ideal := by
  intro m g _
  exact (θ_run _ _ _).mono (fun r h => ⟨fun c => (h c).2, sem_eq_zero_of_no_sems (by decide) r.2⟩)
    (Cert.Reference4Ideal.Value.run (F := Ideal) m g)

/-- The same of the input projections' reference. -/
theorem frame_reference5 : Cert.quiescent_Reference5Ideal := by
  intro m g _
  exact (θ_run _ _ _).mono (fun r h => ⟨fun c => (h c).2, sem_eq_zero_of_no_sems (by decide) r.2⟩)
    (Cert.Reference5Ideal.Value.run (F := Ideal) m g)

/-- The same of the differential attention's reference. -/
theorem frame_reference6 : Cert.quiescent_Reference6Ideal := by
  intro m g _
  exact (θ_run _ _ _).mono (fun r h => ⟨fun c => (h c).2, sem_eq_zero_of_no_sems (by decide) r.2⟩)
    (Cert.Reference6Ideal.Value.run (F := Ideal) m g)

/-- The same of the reference of the projections with rotary embeddings. -/
theorem frame_reference7 : Cert.quiescent_Reference7Ideal := by
  intro m g _
  exact (θ_run _ _ _).mono (fun r h => ⟨fun c => (h c).2, sem_eq_zero_of_no_sems (by decide) r.2⟩)
    (Cert.Reference7Ideal.Value.run (F := Ideal) m g)

/-- The same of the reference of the projections with axial rotary embeddings. -/
theorem frame_reference8 : Cert.quiescent_Reference8Ideal := by
  intro m g _
  exact (θ_run _ _ _).mono (fun r h => ⟨fun c => (h c).2, sem_eq_zero_of_no_sems (by decide) r.2⟩)
    (Cert.Reference8Ideal.Value.run (F := Ideal) m g)

/-- The same of the reference of the mixer's end. -/
theorem frame_reference9 : Cert.quiescent_Reference9Ideal := by
  intro m g _
  exact (θ_run _ _ _).mono (fun r h => ⟨fun c => (h c).2, sem_eq_zero_of_no_sems (by decide) r.2⟩)
    (Cert.Reference9Ideal.Value.run (F := Ideal) m g)

/-- The same of the reference of the mixer's start. -/
theorem frame_reference10 : Cert.quiescent_Reference10Ideal := by
  intro m g _
  exact (θ_run _ _ _).mono (fun r h => ⟨fun c => (h c).2.2.2.2.2.2.2.2.2.2, sem_eq_zero_of_no_sems (by decide) r.2⟩)
    (Cert.Reference10Ideal.Value.run (F := Ideal) m g)

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10Ideal.Gen.facts, Cert.Reference10Ideal.Gen.facts,
    Gqa.finite_facts, Diff.finite_facts, Post.finite_facts, PreArray.finite_facts,
    fun m ρ _ => Cert.Kernel.Gen.frame m ρ,
    fun m ρ _ => Cert.KernelIdeal.Gen.frame m ρ,
    fun m ρ _ => Cert.KernelIdeal.Gen.frame m ρ,
    Gqa.frame_reference,
    @Gqa.frame_reference_finite Gqa.finite_facts,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    fun m ρ _ => Cert.Kernel6Ideal.Gen.frame m ρ,
    frame_reference6,
    @Diff.frame_reference_finite Diff.finite_facts,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    fun m ρ _ => Cert.Kernel9Ideal.Gen.frame m ρ,
    frame_reference9,
    @Post.frame_reference_finite Post.finite_facts,
    fun m ρ _ => PreRun.frame m ρ,
    fun m ρ _ => PreRun.frame m ρ,
    frame_reference10,
    @PreArray.frame_reference_finite PreArray.finite_facts,
    IdealRules.named_const.statement _ _ _ _ _ rfl,
    @Gqa.algebraic Gqa.finite_facts,
    trivial,
    Ffn.algebraic,
    trivial,
    Sample.algebraic,
    trivial,
    Out.algebraic,
    trivial,
    Proj.algebraic,
    IdealRules.named_const.statement _ _ _ _ _ rfl,
    @Diff.algebraic Diff.finite_facts,
    trivial,
    Rope.algebraic,
    trivial,
    Axial.algebraic,
    trivial,
    @Post.algebraic Post.finite_facts,
    @PreArray.algebraic PreArray.finite_facts⟩

end Cert.Proof

end
